-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)
  ∧ IdealRules.named_const.Statement Cert.KernelIdeal.κ "mask" .f32 0xF149F2CA#32 ⊥
  ∧ IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v285) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "q_scale" .f32 0x3E38AA3B#32 (((8 * (Real.log 2))⁻¹ : ℝ) : EReal)
  ∧ IdealRules.named_const.Statement Cert.Kernel2Ideal.κ "mask" .f32 0xF149F2CA#32 ⊥
  ∧ IdealRules.named_const.Statement Cert.Kernel2Ideal.κ "log2_e" .f32 0x3FB8AA3B#32 (((Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v35)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v285) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16x2048x1024 : Shape := ⟨3, ![16, 2048, 1024]⟩
abbrev S1024 : Shape := ⟨1, ![1024]⟩
abbrev S1024x6656 : Shape := ⟨2, ![1024, 6656]⟩
abbrev S4x256x256 : Shape := ⟨3, ![4, 256, 256]⟩
abbrev S1024x1024 : Shape := ⟨2, ![1024, 1024]⟩
abbrev S16 : Shape := ⟨1, ![16]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S16x2048x2048 : Shape := ⟨3, ![16, 2048, 2048]⟩
abbrev S16x1024x2048 : Shape := ⟨3, ![16, 1024, 2048]⟩
abbrev S1x512x1024 : Shape := ⟨3, ![1, 512, 1024]⟩
abbrev S1x8x1024 : Shape := ⟨3, ![1, 8, 1024]⟩
abbrev S512x128 : Shape := ⟨2, ![512, 128]⟩
abbrev S1x512x2048 : Shape := ⟨3, ![1, 512, 2048]⟩
abbrev S1x1024x512 : Shape := ⟨3, ![1, 1024, 512]⟩
abbrev S552x1024 : Shape := ⟨2, ![552, 1024]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S8 : Shape := ⟨1, ![8]⟩
abbrev S8x1 : Shape := ⟨2, ![8, 1]⟩
abbrev S528x1024 : Shape := ⟨2, ![528, 1024]⟩
abbrev S1024x512 : Shape := ⟨2, ![1024, 512]⟩
abbrev S528x512 : Shape := ⟨2, ![528, 512]⟩
abbrev S8x512 : Shape := ⟨2, ![8, 512]⟩
abbrev S512x512 : Shape := ⟨2, ![512, 512]⟩
abbrev S24x512 : Shape := ⟨2, ![24, 512]⟩
abbrev S1x512x128 : Shape := ⟨3, ![1, 512, 128]⟩
abbrev S1024x256 : Shape := ⟨2, ![1024, 256]⟩
abbrev S512x256 : Shape := ⟨2, ![512, 256]⟩
abbrev S552x256 : Shape := ⟨2, ![552, 256]⟩
abbrev S536x256 : Shape := ⟨2, ![536, 256]⟩
abbrev S528x256 : Shape := ⟨2, ![528, 256]⟩
abbrev S520x256 : Shape := ⟨2, ![520, 256]⟩
abbrev S128x512 : Shape := ⟨2, ![128, 512]⟩
abbrev S1x128x512 : Shape := ⟨3, ![1, 128, 512]⟩
abbrev S1x256x256 : Shape := ⟨3, ![1, 256, 256]⟩
abbrev S256x256 : Shape := ⟨2, ![256, 256]⟩
abbrev S1x256 : Shape := ⟨2, ![1, 256]⟩
abbrev S1x512x256 : Shape := ⟨3, ![1, 512, 256]⟩
abbrev S1x512x512 : Shape := ⟨3, ![1, 512, 512]⟩
abbrev S16x1 : Shape := ⟨2, ![16, 1]⟩
abbrev S16x128 : Shape := ⟨2, ![16, 128]⟩
abbrev S1x1024x128 : Shape := ⟨3, ![1, 1024, 128]⟩
abbrev S1x128x1024 : Shape := ⟨3, ![1, 128, 1024]⟩
abbrev S1024x768 : Shape := ⟨2, ![1024, 768]⟩
abbrev S768x1152 : Shape := ⟨2, ![768, 1152]⟩
abbrev S512x1152 : Shape := ⟨2, ![512, 1152]⟩
abbrev S1024x128 : Shape := ⟨2, ![1024, 128]⟩
abbrev S128x1024 : Shape := ⟨2, ![128, 1024]⟩
abbrev S128x128 : Shape := ⟨2, ![128, 128]⟩
abbrev S1x128x128 : Shape := ⟨3, ![1, 128, 128]⟩
abbrev S256x128 : Shape := ⟨2, ![256, 128]⟩
abbrev S128x384 : Shape := ⟨2, ![128, 384]⟩
abbrev S128x768 : Shape := ⟨2, ![128, 768]⟩
abbrev S256x768 : Shape := ⟨2, ![256, 768]⟩
abbrev S1x128 : Shape := ⟨2, ![1, 128]⟩
abbrev S128 : Shape := ⟨1, ![128]⟩
abbrev S128x1 : Shape := ⟨2, ![128, 1]⟩
abbrev S384x256 : Shape := ⟨2, ![384, 256]⟩
abbrev S768x256 : Shape := ⟨2, ![768, 256]⟩

abbrev nBuf : Space → Nat
  | .hbm => 54
  | .vmem => 69
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x6656, .f32⟩
  | .hbm, ⟨3, _⟩ => ⟨S4x256x256, .f32⟩
  | .hbm, ⟨4, _⟩ => ⟨S1024, .f32⟩
  | .hbm, ⟨5, _⟩ => ⟨S1024x1024, .f32⟩
  | .hbm, ⟨6, _⟩ => ⟨S16, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .i32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x64, .f32⟩
  | .hbm, ⟨28, _⟩ => ⟨S1x2048x1x64, .f32⟩
  | .hbm, ⟨29, _⟩ => ⟨S1x2048x2x64, .f32⟩
  | .hbm, ⟨30, _⟩ => ⟨S2048x128, .f32⟩
  | .hbm, ⟨31, _⟩ => ⟨S2048x32, .f32⟩
  | .hbm, ⟨32, _⟩ => ⟨S2048x64, .f32⟩
  | .hbm, ⟨33, _⟩ => ⟨S1x2048x1x64, .f32⟩
  | .hbm, ⟨34, _⟩ => ⟨S1x2048x2x64, .f32⟩
  | .hbm, ⟨35, _⟩ => ⟨S2048x128, .f32⟩
  | .hbm, ⟨36, _⟩ => ⟨S1x1024, .f32⟩
  | .hbm, ⟨37, _⟩ => ⟨S1024x6656, .bf16⟩
  | .hbm, ⟨38, _⟩ => ⟨S4x256x256, .bf16⟩
  | .hbm, ⟨39, _⟩ => ⟨S1x1024, .f32⟩
  | .hbm, ⟨40, _⟩ => ⟨S16x2048x1024, .bf16⟩
  | .hbm, ⟨41, _⟩ => ⟨S16x2048x1024, .bf16⟩
  | .hbm, ⟨42, _⟩ => ⟨S16x2048x1024, .bf16⟩
  | .hbm, ⟨43, _⟩ => ⟨S16x2048x2048, .bf16⟩
  | .hbm, ⟨44, _⟩ => ⟨S16x1024x2048, .bf16⟩
  | .hbm, ⟨45, _⟩ => ⟨S16x2048x1024, .bf16⟩
  | .hbm, ⟨46, _⟩ => ⟨S16x2048x1024, .bf16⟩
  | .hbm, ⟨47, _⟩ => ⟨S16x1, .f32⟩
  | .hbm, ⟨48, _⟩ => ⟨S16x128, .f32⟩
  | .hbm, ⟨49, _⟩ => ⟨S1024x1024, .bf16⟩
  | .hbm, ⟨50, _⟩ => ⟨S1024x1024, .bf16⟩
  | .hbm, ⟨51, _⟩ => ⟨S1024x1024, .bf16⟩
  | .hbm, ⟨52, _⟩ => ⟨S1x1024, .f32⟩
  | .hbm, ⟨53, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x6656, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x256x256, .bf16⟩
  | .local _ .vmem, ⟨13, _⟩ => ⟨S1x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x2048, .bf16⟩
  | .local _ .vmem, ⟨21, _⟩ => ⟨S1x512x2048, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S552x1024, .f32⟩
  | .local _ .vmem, ⟨29, _⟩ => ⟨S1x512x1024, .f32⟩
  | .local _ .vmem, ⟨30, _⟩ => ⟨S1x512x1024, .f32⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x512x1024, .bf16⟩
  | .local _ .vmem, ⟨37, _⟩ => ⟨S1x512x2048, .bf16⟩
  | .local _ .vmem, ⟨38, _⟩ => ⟨S1x512x2048, .bf16⟩
  | .local _ .vmem, ⟨39, _⟩ => ⟨S1x1024x512, .bf16⟩
  | .local _ .vmem, ⟨40, _⟩ => ⟨S1x1024x512, .bf16⟩
  | .local _ .vmem, ⟨41, _⟩ => ⟨S1x1024x128, .bf16⟩
  | .local _ .vmem, ⟨42, _⟩ => ⟨S1x1024x128, .bf16⟩
  | .local _ .vmem, ⟨43, _⟩ => ⟨S1x1024x128, .bf16⟩
  | .local _ .vmem, ⟨44, _⟩ => ⟨S1x1024x128, .bf16⟩
  | .local _ .vmem, ⟨45, _⟩ => ⟨S1x512x1024, .bf16⟩
  | .local _ .vmem, ⟨46, _⟩ => ⟨S1x512x1024, .bf16⟩
  | .local _ .vmem, ⟨47, _⟩ => ⟨S1x128x1024, .bf16⟩
  | .local _ .vmem, ⟨48, _⟩ => ⟨S1x128x1024, .bf16⟩
  | .local _ .vmem, ⟨49, _⟩ => ⟨S1x128x1024, .bf16⟩
  | .local _ .vmem, ⟨50, _⟩ => ⟨S1x128x1024, .bf16⟩
  | .local _ .vmem, ⟨51, _⟩ => ⟨S1x512x1024, .bf16⟩
  | .local _ .vmem, ⟨52, _⟩ => ⟨S1x512x1024, .bf16⟩
  | .local _ .vmem, ⟨53, _⟩ => ⟨S1x128x1024, .bf16⟩
  | .local _ .vmem, ⟨54, _⟩ => ⟨S1x128x1024, .bf16⟩
  | .local _ .vmem, ⟨55, _⟩ => ⟨S1x128x1024, .bf16⟩
  | .local _ .vmem, ⟨56, _⟩ => ⟨S1x128x1024, .bf16⟩
  | .local _ .vmem, ⟨57, _⟩ => ⟨S1024x1024, .bf16⟩
  | .local _ .vmem, ⟨58, _⟩ => ⟨S16x128, .f32⟩
  | .local _ .vmem, ⟨59, _⟩ => ⟨S1024x1024, .bf16⟩
  | .local _ .vmem, ⟨60, _⟩ => ⟨S1024x1024, .bf16⟩
  | .local _ .vmem, ⟨61, _⟩ => ⟨S1x1024, .f32⟩
  | .local _ .vmem, ⟨62, _⟩ => ⟨S1x512x1024, .f32⟩
  | .local _ .vmem, ⟨63, _⟩ => ⟨S1x512x1024, .f32⟩
  | .local _ .vmem, ⟨64, _⟩ => ⟨S1024x768, .bf16⟩
  | .local _ .vmem, ⟨65, _⟩ => ⟨S768x1152, .bf16⟩
  | .local _ .vmem, ⟨66, _⟩ => ⟨S768x1152, .bf16⟩
  | .local _ .vmem, ⟨67, _⟩ => ⟨S512x1152, .bf16⟩
  | .local _ .vmem, ⟨68, _⟩ => ⟨S512x1152, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev main_v28_5 : Ref sig .tc := ⟨.hbm, 45, rfl⟩
abbrev main_v28_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg1_1 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg3_1 : Ref sig .tc := ⟨.vmem, 36, rfl⟩
abbrev cc1_stg4_0 : Ref sig .tc := ⟨.vmem, 37, rfl⟩
abbrev cc1_stg4_1 : Ref sig .tc := ⟨.vmem, 38, rfl⟩
abbrev cc1_stg5_0 : Ref sig .tc := ⟨.vmem, 39, rfl⟩
abbrev cc1_stg5_1 : Ref sig .tc := ⟨.vmem, 40, rfl⟩
abbrev cc1_stg6_0 : Ref sig .tc := ⟨.vmem, 41, rfl⟩
abbrev cc1_stg6_1 : Ref sig .tc := ⟨.vmem, 42, rfl⟩
abbrev cc1_stg7_0 : Ref sig .tc := ⟨.vmem, 43, rfl⟩
abbrev cc1_stg7_1 : Ref sig .tc := ⟨.vmem, 44, rfl⟩
abbrev cc1_stg8_0 : Ref sig .tc := ⟨.vmem, 45, rfl⟩
abbrev cc1_stg8_1 : Ref sig .tc := ⟨.vmem, 46, rfl⟩
abbrev cc1_stg9_0 : Ref sig .tc := ⟨.vmem, 47, rfl⟩
abbrev cc1_stg9_1 : Ref sig .tc := ⟨.vmem, 48, rfl⟩
abbrev cc1_stg10_0 : Ref sig .tc := ⟨.vmem, 49, rfl⟩
abbrev cc1_stg10_1 : Ref sig .tc := ⟨.vmem, 50, rfl⟩
abbrev cc1_stg11_0 : Ref sig .tc := ⟨.vmem, 51, rfl⟩
abbrev cc1_stg11_1 : Ref sig .tc := ⟨.vmem, 52, rfl⟩
abbrev cc1_stg12_0 : Ref sig .tc := ⟨.vmem, 53, rfl⟩
abbrev cc1_stg12_1 : Ref sig .tc := ⟨.vmem, 54, rfl⟩
abbrev cc1_stg13_0 : Ref sig .tc := ⟨.vmem, 55, rfl⟩
abbrev cc1_stg13_1 : Ref sig .tc := ⟨.vmem, 56, rfl⟩
abbrev cc1_stg14_0 : Ref sig .tc := ⟨.vmem, 57, rfl⟩
abbrev cc1_stg15_0 : Ref sig .tc := ⟨.vmem, 58, rfl⟩
abbrev cc1_stg16_0 : Ref sig .tc := ⟨.vmem, 59, rfl⟩
abbrev cc1_stg17_0 : Ref sig .tc := ⟨.vmem, 60, rfl⟩
abbrev cc1_stg18_0 : Ref sig .tc := ⟨.vmem, 61, rfl⟩
abbrev cc1_stg19_0 : Ref sig .tc := ⟨.vmem, 62, rfl⟩
abbrev cc1_stg19_1 : Ref sig .tc := ⟨.vmem, 63, rfl⟩
abbrev cc1_scratch0 : Ref sig .tc := ⟨.vmem, 64, rfl⟩
abbrev cc1_scratch1 : Ref sig .tc := ⟨.vmem, 65, rfl⟩
abbrev cc1_scratch2 : Ref sig .tc := ⟨.vmem, 66, rfl⟩
abbrev cc1_scratch3 : Ref sig .tc := ⟨.vmem, 67, rfl⟩
abbrev cc1_scratch4 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem7_1 : DmaSem sig := 43
abbrev cc1_sem8_0 : DmaSem sig := 44
abbrev cc1_sem8_1 : DmaSem sig := 45
abbrev cc1_sem9_0 : DmaSem sig := 46
abbrev cc1_sem9_1 : DmaSem sig := 47
abbrev cc1_sem10_0 : DmaSem sig := 48
abbrev cc1_sem10_1 : DmaSem sig := 49
abbrev cc1_sem11_0 : DmaSem sig := 50
abbrev cc1_sem11_1 : DmaSem sig := 51
abbrev cc1_sem12_0 : DmaSem sig := 52
abbrev cc1_sem12_1 : DmaSem sig := 53
abbrev cc1_sem13_0 : DmaSem sig := 54
abbrev cc1_sem13_1 : DmaSem sig := 55
abbrev cc1_sem14_0 : DmaSem sig := 56
abbrev cc1_sem15_0 : DmaSem sig := 57
abbrev cc1_sem16_0 : DmaSem sig := 58
abbrev cc1_sem17_0 : DmaSem sig := 59
abbrev cc1_sem18_0 : DmaSem sig := 60
abbrev cc1_sem19_0 : DmaSem sig := 61
abbrev cc1_sem19_1 : DmaSem sig := 62

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x6656 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc1_transform_7 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  let c0_i32_0 : BitVec 32 := 0#32
  ![arg0.toNat, c0_i32.toNat, v2.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  let c0_i32_0 : BitVec 32 := 0#32
  ![arg0.toNat, v2.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_13 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  let c0_i32_0 : BitVec 32 := 0#32
  ![arg0.toNat, v2.toNat, c0_i32.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x128x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x128x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x128x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x128x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 1 → Memref sig .tc .vmem S1024x1024 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S16x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S1024x1024 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1024x1024 .bf16 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 2 → Memref sig .tc .vmem S1x512x1024 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]
-- ==== KernelIdeal.lean ====
abbrev S16x2048x1024 : Shape := ⟨3, ![16, 2048, 1024]⟩
abbrev S1024 : Shape := ⟨1, ![1024]⟩
abbrev S1024x6656 : Shape := ⟨2, ![1024, 6656]⟩
abbrev S4x256x256 : Shape := ⟨3, ![4, 256, 256]⟩
abbrev S1024x1024 : Shape := ⟨2, ![1024, 1024]⟩
abbrev S16 : Shape := ⟨1, ![16]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S16x2048x2048 : Shape := ⟨3, ![16, 2048, 2048]⟩
abbrev S16x1024x2048 : Shape := ⟨3, ![16, 1024, 2048]⟩
abbrev S1x512x1024 : Shape := ⟨3, ![1, 512, 1024]⟩
abbrev S1x8x1024 : Shape := ⟨3, ![1, 8, 1024]⟩
abbrev S512x128 : Shape := ⟨2, ![512, 128]⟩
abbrev S1x512x2048 : Shape := ⟨3, ![1, 512, 2048]⟩
abbrev S1x1024x512 : Shape := ⟨3, ![1, 1024, 512]⟩
abbrev S552x1024 : Shape := ⟨2, ![552, 1024]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S8 : Shape := ⟨1, ![8]⟩
abbrev S8x1 : Shape := ⟨2, ![8, 1]⟩
abbrev S528x1024 : Shape := ⟨2, ![528, 1024]⟩
abbrev S1024x512 : Shape := ⟨2, ![1024, 512]⟩
abbrev S528x512 : Shape := ⟨2, ![528, 512]⟩
abbrev S8x512 : Shape := ⟨2, ![8, 512]⟩
abbrev S512x512 : Shape := ⟨2, ![512, 512]⟩
abbrev S24x512 : Shape := ⟨2, ![24, 512]⟩
abbrev S1x512x128 : Shape := ⟨3, ![1, 512, 128]⟩
abbrev S1024x256 : Shape := ⟨2, ![1024, 256]⟩
abbrev S512x256 : Shape := ⟨2, ![512, 256]⟩
abbrev S552x256 : Shape := ⟨2, ![552, 256]⟩
abbrev S536x256 : Shape := ⟨2, ![536, 256]⟩
abbrev S528x256 : Shape := ⟨2, ![528, 256]⟩
abbrev S520x256 : Shape := ⟨2, ![520, 256]⟩
abbrev S128x512 : Shape := ⟨2, ![128, 512]⟩
abbrev S1x128x512 : Shape := ⟨3, ![1, 128, 512]⟩
abbrev S1x256x256 : Shape := ⟨3, ![1, 256, 256]⟩
abbrev S256x256 : Shape := ⟨2, ![256, 256]⟩
abbrev S1x256 : Shape := ⟨2, ![1, 256]⟩
abbrev S1x512x256 : Shape := ⟨3, ![1, 512, 256]⟩
abbrev S1x512x512 : Shape := ⟨3, ![1, 512, 512]⟩
abbrev S16x1 : Shape := ⟨2, ![16, 1]⟩
abbrev S16x128 : Shape := ⟨2, ![16, 128]⟩
abbrev S1x1024x128 : Shape := ⟨3, ![1, 1024, 128]⟩
abbrev S1x128x1024 : Shape := ⟨3, ![1, 128, 1024]⟩
abbrev S1024x768 : Shape := ⟨2, ![1024, 768]⟩
abbrev S768x1152 : Shape := ⟨2, ![768, 1152]⟩
abbrev S512x1152 : Shape := ⟨2, ![512, 1152]⟩
abbrev S1024x128 : Shape := ⟨2, ![1024, 128]⟩
abbrev S128x1024 : Shape := ⟨2, ![128, 1024]⟩
abbrev S128x128 : Shape := ⟨2, ![128, 128]⟩
abbrev S1x128x128 : Shape := ⟨3, ![1, 128, 128]⟩
abbrev S256x128 : Shape := ⟨2, ![256, 128]⟩
abbrev S128x384 : Shape := ⟨2, ![128, 384]⟩
abbrev S128x768 : Shape := ⟨2, ![128, 768]⟩
abbrev S256x768 : Shape := ⟨2, ![256, 768]⟩
abbrev S1x128 : Shape := ⟨2, ![1, 128]⟩
abbrev S128 : Shape := ⟨1, ![128]⟩
abbrev S128x1 : Shape := ⟨2, ![128, 1]⟩
abbrev S384x256 : Shape := ⟨2, ![384, 256]⟩
abbrev S768x256 : Shape := ⟨2, ![768, 256]⟩

abbrev nBuf : Space → Nat
  | .hbm => 54
  | .vmem => 69
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x6656, .f32⟩
  | .hbm, ⟨3, _⟩ => ⟨S4x256x256, .f32⟩
  | .hbm, ⟨4, _⟩ => ⟨S1024, .f32⟩
  | .hbm, ⟨5, _⟩ => ⟨S1024x1024, .f32⟩
  | .hbm, ⟨6, _⟩ => ⟨S16, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .i32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x64, .f32⟩
  | .hbm, ⟨28, _⟩ => ⟨S1x2048x1x64, .f32⟩
  | .hbm, ⟨29, _⟩ => ⟨S1x2048x2x64, .f32⟩
  | .hbm, ⟨30, _⟩ => ⟨S2048x128, .f32⟩
  | .hbm, ⟨31, _⟩ => ⟨S2048x32, .f32⟩
  | .hbm, ⟨32, _⟩ => ⟨S2048x64, .f32⟩
  | .hbm, ⟨33, _⟩ => ⟨S1x2048x1x64, .f32⟩
  | .hbm, ⟨34, _⟩ => ⟨S1x2048x2x64, .f32⟩
  | .hbm, ⟨35, _⟩ => ⟨S2048x128, .f32⟩
  | .hbm, ⟨36, _⟩ => ⟨S1x1024, .f32⟩
  | .hbm, ⟨37, _⟩ => ⟨S1024x6656, .bf16⟩
  | .hbm, ⟨38, _⟩ => ⟨S4x256x256, .bf16⟩
  | .hbm, ⟨39, _⟩ => ⟨S1x1024, .f32⟩
  | .hbm, ⟨40, _⟩ => ⟨S16x2048x1024, .bf16⟩
  | .hbm, ⟨41, _⟩ => ⟨S16x2048x1024, .bf16⟩
  | .hbm, ⟨42, _⟩ => ⟨S16x2048x1024, .bf16⟩
  | .hbm, ⟨43, _⟩ => ⟨S16x2048x2048, .bf16⟩
  | .hbm, ⟨44, _⟩ => ⟨S16x1024x2048, .bf16⟩
  | .hbm, ⟨45, _⟩ => ⟨S16x2048x1024, .bf16⟩
  | .hbm, ⟨46, _⟩ => ⟨S16x2048x1024, .bf16⟩
  | .hbm, ⟨47, _⟩ => ⟨S16x1, .f32⟩
  | .hbm, ⟨48, _⟩ => ⟨S16x128, .f32⟩
  | .hbm, ⟨49, _⟩ => ⟨S1024x1024, .bf16⟩
  | .hbm, ⟨50, _⟩ => ⟨S1024x1024, .bf16⟩
  | .hbm, ⟨51, _⟩ => ⟨S1024x1024, .bf16⟩
  | .hbm, ⟨52, _⟩ => ⟨S1x1024, .f32⟩
  | .hbm, ⟨53, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x6656, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x256x256, .bf16⟩
  | .local _ .vmem, ⟨13, _⟩ => ⟨S1x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x2048, .bf16⟩
  | .local _ .vmem, ⟨21, _⟩ => ⟨S1x512x2048, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S552x1024, .f32⟩
  | .local _ .vmem, ⟨29, _⟩ => ⟨S1x512x1024, .f32⟩
  | .local _ .vmem, ⟨30, _⟩ => ⟨S1x512x1024, .f32⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x512x1024, .bf16⟩
  | .local _ .vmem, ⟨37, _⟩ => ⟨S1x512x2048, .bf16⟩
  | .local _ .vmem, ⟨38, _⟩ => ⟨S1x512x2048, .bf16⟩
  | .local _ .vmem, ⟨39, _⟩ => ⟨S1x1024x512, .bf16⟩
  | .local _ .vmem, ⟨40, _⟩ => ⟨S1x1024x512, .bf16⟩
  | .local _ .vmem, ⟨41, _⟩ => ⟨S1x1024x128, .bf16⟩
  | .local _ .vmem, ⟨42, _⟩ => ⟨S1x1024x128, .bf16⟩
  | .local _ .vmem, ⟨43, _⟩ => ⟨S1x1024x128, .bf16⟩
  | .local _ .vmem, ⟨44, _⟩ => ⟨S1x1024x128, .bf16⟩
  | .local _ .vmem, ⟨45, _⟩ => ⟨S1x512x1024, .bf16⟩
  | .local _ .vmem, ⟨46, _⟩ => ⟨S1x512x1024, .bf16⟩
  | .local _ .vmem, ⟨47, _⟩ => ⟨S1x128x1024, .bf16⟩
  | .local _ .vmem, ⟨48, _⟩ => ⟨S1x128x1024, .bf16⟩
  | .local _ .vmem, ⟨49, _⟩ => ⟨S1x128x1024, .bf16⟩
  | .local _ .vmem, ⟨50, _⟩ => ⟨S1x128x1024, .bf16⟩
  | .local _ .vmem, ⟨51, _⟩ => ⟨S1x512x1024, .bf16⟩
  | .local _ .vmem, ⟨52, _⟩ => ⟨S1x512x1024, .bf16⟩
  | .local _ .vmem, ⟨53, _⟩ => ⟨S1x128x1024, .bf16⟩
  | .local _ .vmem, ⟨54, _⟩ => ⟨S1x128x1024, .bf16⟩
  | .local _ .vmem, ⟨55, _⟩ => ⟨S1x128x1024, .bf16⟩
  | .local _ .vmem, ⟨56, _⟩ => ⟨S1x128x1024, .bf16⟩
  | .local _ .vmem, ⟨57, _⟩ => ⟨S1024x1024, .bf16⟩
  | .local _ .vmem, ⟨58, _⟩ => ⟨S16x128, .f32⟩
  | .local _ .vmem, ⟨59, _⟩ => ⟨S1024x1024, .bf16⟩
  | .local _ .vmem, ⟨60, _⟩ => ⟨S1024x1024, .bf16⟩
  | .local _ .vmem, ⟨61, _⟩ => ⟨S1x1024, .f32⟩
  | .local _ .vmem, ⟨62, _⟩ => ⟨S1x512x1024, .f32⟩
  | .local _ .vmem, ⟨63, _⟩ => ⟨S1x512x1024, .f32⟩
  | .local _ .vmem, ⟨64, _⟩ => ⟨S1024x768, .bf16⟩
  | .local _ .vmem, ⟨65, _⟩ => ⟨S768x1152, .bf16⟩
  | .local _ .vmem, ⟨66, _⟩ => ⟨S768x1152, .bf16⟩
  | .local _ .vmem, ⟨67, _⟩ => ⟨S512x1152, .bf16⟩
  | .local _ .vmem, ⟨68, _⟩ => ⟨S512x1152, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev main_v28_5 : Ref sig .tc := ⟨.hbm, 45, rfl⟩
abbrev main_v28_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg1_1 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg3_1 : Ref sig .tc := ⟨.vmem, 36, rfl⟩
abbrev cc1_stg4_0 : Ref sig .tc := ⟨.vmem, 37, rfl⟩
abbrev cc1_stg4_1 : Ref sig .tc := ⟨.vmem, 38, rfl⟩
abbrev cc1_stg5_0 : Ref sig .tc := ⟨.vmem, 39, rfl⟩
abbrev cc1_stg5_1 : Ref sig .tc := ⟨.vmem, 40, rfl⟩
abbrev cc1_stg6_0 : Ref sig .tc := ⟨.vmem, 41, rfl⟩
abbrev cc1_stg6_1 : Ref sig .tc := ⟨.vmem, 42, rfl⟩
abbrev cc1_stg7_0 : Ref sig .tc := ⟨.vmem, 43, rfl⟩
abbrev cc1_stg7_1 : Ref sig .tc := ⟨.vmem, 44, rfl⟩
abbrev cc1_stg8_0 : Ref sig .tc := ⟨.vmem, 45, rfl⟩
abbrev cc1_stg8_1 : Ref sig .tc := ⟨.vmem, 46, rfl⟩
abbrev cc1_stg9_0 : Ref sig .tc := ⟨.vmem, 47, rfl⟩
abbrev cc1_stg9_1 : Ref sig .tc := ⟨.vmem, 48, rfl⟩
abbrev cc1_stg10_0 : Ref sig .tc := ⟨.vmem, 49, rfl⟩
abbrev cc1_stg10_1 : Ref sig .tc := ⟨.vmem, 50, rfl⟩
abbrev cc1_stg11_0 : Ref sig .tc := ⟨.vmem, 51, rfl⟩
abbrev cc1_stg11_1 : Ref sig .tc := ⟨.vmem, 52, rfl⟩
abbrev cc1_stg12_0 : Ref sig .tc := ⟨.vmem, 53, rfl⟩
abbrev cc1_stg12_1 : Ref sig .tc := ⟨.vmem, 54, rfl⟩
abbrev cc1_stg13_0 : Ref sig .tc := ⟨.vmem, 55, rfl⟩
abbrev cc1_stg13_1 : Ref sig .tc := ⟨.vmem, 56, rfl⟩
abbrev cc1_stg14_0 : Ref sig .tc := ⟨.vmem, 57, rfl⟩
abbrev cc1_stg15_0 : Ref sig .tc := ⟨.vmem, 58, rfl⟩
abbrev cc1_stg16_0 : Ref sig .tc := ⟨.vmem, 59, rfl⟩
abbrev cc1_stg17_0 : Ref sig .tc := ⟨.vmem, 60, rfl⟩
abbrev cc1_stg18_0 : Ref sig .tc := ⟨.vmem, 61, rfl⟩
abbrev cc1_stg19_0 : Ref sig .tc := ⟨.vmem, 62, rfl⟩
abbrev cc1_stg19_1 : Ref sig .tc := ⟨.vmem, 63, rfl⟩
abbrev cc1_scratch0 : Ref sig .tc := ⟨.vmem, 64, rfl⟩
abbrev cc1_scratch1 : Ref sig .tc := ⟨.vmem, 65, rfl⟩
abbrev cc1_scratch2 : Ref sig .tc := ⟨.vmem, 66, rfl⟩
abbrev cc1_scratch3 : Ref sig .tc := ⟨.vmem, 67, rfl⟩
abbrev cc1_scratch4 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem7_1 : DmaSem sig := 43
abbrev cc1_sem8_0 : DmaSem sig := 44
abbrev cc1_sem8_1 : DmaSem sig := 45
abbrev cc1_sem9_0 : DmaSem sig := 46
abbrev cc1_sem9_1 : DmaSem sig := 47
abbrev cc1_sem10_0 : DmaSem sig := 48
abbrev cc1_sem10_1 : DmaSem sig := 49
abbrev cc1_sem11_0 : DmaSem sig := 50
abbrev cc1_sem11_1 : DmaSem sig := 51
abbrev cc1_sem12_0 : DmaSem sig := 52
abbrev cc1_sem12_1 : DmaSem sig := 53
abbrev cc1_sem13_0 : DmaSem sig := 54
abbrev cc1_sem13_1 : DmaSem sig := 55
abbrev cc1_sem14_0 : DmaSem sig := 56
abbrev cc1_sem15_0 : DmaSem sig := 57
abbrev cc1_sem16_0 : DmaSem sig := 58
abbrev cc1_sem17_0 : DmaSem sig := 59
abbrev cc1_sem18_0 : DmaSem sig := 60
abbrev cc1_sem19_0 : DmaSem sig := 61
abbrev cc1_sem19_1 : DmaSem sig := 62

abbrev nD : Nat := 1
abbrev τ : Topo := Topo.v7x

variable {F : FTy → Type} [FloatOps F] [Named F]

def κ : String → Option EReal := fun
  | "log2_e" => some (((Real.log 2)⁻¹ : ℝ) : EReal)
  | "mask" => some ⊥
  | "q_scale" => some (((8 * (Real.log 2))⁻¹ : ℝ) : EReal)
  | _ => none

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x6656 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc1_transform_7 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  let c0_i32_0 : BitVec 32 := 0#32
  ![arg0.toNat, c0_i32.toNat, v2.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  let c0_i32_0 : BitVec 32 := 0#32
  ![arg0.toNat, v2.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_13 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  let c0_i32_0 : BitVec 32 := 0#32
  ![arg0.toNat, v2.toNat, c0_i32.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x128x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x128x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x128x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x128x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 1 → Memref sig .tc .vmem S1024x1024 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S16x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S1024x1024 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1024x1024 .bf16 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 2 → Memref sig .tc .vmem S1x512x1024 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]
-- ==== ReferenceIdeal.lean ====
abbrev S16x2048x1024 : Shape := ⟨3, ![16, 2048, 1024]⟩
abbrev S1024 : Shape := ⟨1, ![1024]⟩
abbrev S1024x6656 : Shape := ⟨2, ![1024, 6656]⟩
abbrev S4x256x256 : Shape := ⟨3, ![4, 256, 256]⟩
abbrev S1024x1024 : Shape := ⟨2, ![1024, 1024]⟩
abbrev S16 : Shape := ⟨1, ![16]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x6656 : Shape := ⟨3, ![16, 2048, 6656]⟩
abbrev S16x2048x256 : Shape := ⟨3, ![16, 2048, 256]⟩
abbrev S16x2048x2048 : Shape := ⟨3, ![16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x256x2048 : Shape := ⟨3, ![16, 256, 2048]⟩
abbrev S1x2048x1 : Shape := ⟨3, ![1, 2048, 1]⟩
abbrev S16x2048x1x256 : Shape := ⟨4, ![16, 2048, 1, 256]⟩
abbrev S16x2048x4x256 : Shape := ⟨4, ![16, 2048, 4, 256]⟩
abbrev S4x256x16x2048 : Shape := ⟨4, ![4, 256, 16, 2048]⟩
abbrev S16x2048x16x64 : Shape := ⟨4, ![16, 2048, 16, 64]⟩
abbrev S32 : Shape := ⟨1, ![32]⟩
abbrev S1x32 : Shape := ⟨2, ![1, 32]⟩
abbrev S2048x32 : Shape := ⟨2, ![2048, 32]⟩
abbrev S1x2048x1x32 : Shape := ⟨4, ![1, 2048, 1, 32]⟩
abbrev S16x2048x16x32 : Shape := ⟨4, ![16, 2048, 16, 32]⟩
abbrev S16x2048x4x64 : Shape := ⟨4, ![16, 2048, 4, 64]⟩
abbrev S16x2048x4x32 : Shape := ⟨4, ![16, 2048, 4, 32]⟩
abbrev S16x2048x4x4x64 : Shape := ⟨5, ![16, 2048, 4, 4, 64]⟩
abbrev S16x4x2048x2048x4 : Shape := ⟨5, ![16, 4, 2048, 2048, 4]⟩
abbrev S16x4x4x2048x2048 : Shape := ⟨5, ![16, 4, 4, 2048, 2048]⟩
abbrev S1x4x4x1x1 : Shape := ⟨5, ![1, 4, 4, 1, 1]⟩
abbrev S16x4x4x2048 : Shape := ⟨4, ![16, 4, 4, 2048]⟩
abbrev S16x4x4x2048x1 : Shape := ⟨5, ![16, 4, 4, 2048, 1]⟩
abbrev S16x4x4x2048x64 : Shape := ⟨5, ![16, 4, 4, 2048, 64]⟩

abbrev nBuf : Space → Nat
  | .hbm => 368
  | .vmem => 0
  | .smem => 0
  | _ => 0

abbrev hbmTy0_0 (i : Nat) : BufTy := match i % 128 with
  | 0 => ⟨S16x2048x1024, .f32⟩
  | 1 => ⟨S1024, .f32⟩
  | 2 => ⟨S1024x6656, .f32⟩
  | 3 => ⟨S4x256x256, .f32⟩
  | 4 => ⟨S1024, .f32⟩
  | 5 => ⟨S1024x1024, .f32⟩
  | 6 => ⟨S16, .f32⟩
  | 7 => ⟨S1024x1024, .f32⟩
  | 8 => ⟨S1024x1024, .f32⟩
  | 9 => ⟨S1024, .f32⟩
  | 10 => ⟨S16x2048x1024, .f32⟩
  | 11 => ⟨S_, .f32⟩
  | 12 => ⟨S16x2048, .f32⟩
  | 13 => ⟨S16x2048x1, .f32⟩
  | 14 => ⟨S_, .f32⟩
  | 15 => ⟨S16x2048x1, .f32⟩
  | 16 => ⟨S16x2048x1, .f32⟩
  | 17 => ⟨S_, .f32⟩
  | 18 => ⟨S16x2048x1, .f32⟩
  | 19 => ⟨S16x2048x1, .f32⟩
  | 20 => ⟨S16x2048x1, .f32⟩
  | 21 => ⟨S16x2048x1024, .f32⟩
  | 22 => ⟨S16x2048x1024, .f32⟩
  | 23 => ⟨S1x1x1024, .f32⟩
  | 24 => ⟨S16x2048x1024, .f32⟩
  | 25 => ⟨S16x2048x1024, .f32⟩
  | 26 => ⟨S16x2048x6656, .f32⟩
  | 27 => ⟨S16x2048x1024, .f32⟩
  | 28 => ⟨S16x2048x1024, .f32⟩
  | 29 => ⟨S16x2048x1024, .f32⟩
  | 30 => ⟨S16x2048x256, .f32⟩
  | 31 => ⟨S16x2048x256, .f32⟩
  | 32 => ⟨S16x2048x1024, .f32⟩
  | 33 => ⟨S16x2048x2048, .f32⟩
  | 34 => ⟨S2048, .i32⟩
  | 35 => ⟨S16x2048x256, .f32⟩
  | 36 => ⟨S_, .i32⟩
  | 37 => ⟨S2048, .i32⟩
  | 38 => ⟨S2048, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S1x2048, .i32⟩
  | 52 => ⟨S2048x1, .i32⟩
  | 53 => ⟨S2048x2048, .i32⟩
  | 54 => ⟨S2048x2048, .i32⟩
  | 55 => ⟨S2048x2048, .i1⟩
  | 56 => ⟨S1x2048, .i32⟩
  | 57 => ⟨S2048x1, .i32⟩
  | 58 => ⟨S2048x2048, .i32⟩
  | 59 => ⟨S2048x2048, .i32⟩
  | 60 => ⟨S2048x2048, .i1⟩
  | 61 => ⟨S2048x2048, .i1⟩
  | 62 => ⟨S_, .f32⟩
  | 63 => ⟨S_, .f32⟩
  | 64 => ⟨S2048x2048, .f32⟩
  | 65 => ⟨S2048x2048, .f32⟩
  | 66 => ⟨S2048x2048, .f32⟩
  | 67 => ⟨S16x256x2048, .f32⟩
  | 68 => ⟨S16x2048x256, .f32⟩
  | 69 => ⟨S2048, .i32⟩
  | 70 => ⟨S2048, .f32⟩
  | 71 => ⟨S1x2048x1, .f32⟩
  | 72 => ⟨S16x2048x256, .f32⟩
  | 73 => ⟨S16x2048x256, .f32⟩
  | 74 => ⟨S16x2048x256, .f32⟩
  | 75 => ⟨S16x2048x256, .f32⟩
  | 76 => ⟨S_, .i32⟩
  | 77 => ⟨S2048, .i32⟩
  | 78 => ⟨S2048, .i32⟩
  | 79 => ⟨S_, .i32⟩
  | 80 => ⟨S2048, .i32⟩
  | 81 => ⟨S2048, .i32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S_, .i32⟩
  | 89 => ⟨S2048, .i32⟩
  | 90 => ⟨S2048, .i32⟩
  | 91 => ⟨S1x2048, .i32⟩
  | 92 => ⟨S2048x1, .i32⟩
  | 93 => ⟨S2048x2048, .i32⟩
  | 94 => ⟨S2048x2048, .i32⟩
  | 95 => ⟨S2048x2048, .i1⟩
  | 96 => ⟨S1x2048, .i32⟩
  | 97 => ⟨S2048x1, .i32⟩
  | 98 => ⟨S2048x2048, .i32⟩
  | 99 => ⟨S2048x2048, .i32⟩
  | 100 => ⟨S2048x2048, .i1⟩
  | 101 => ⟨S2048x2048, .i1⟩
  | 102 => ⟨S_, .f32⟩
  | 103 => ⟨S_, .f32⟩
  | 104 => ⟨S2048x2048, .f32⟩
  | 105 => ⟨S2048x2048, .f32⟩
  | 106 => ⟨S2048x2048, .f32⟩
  | 107 => ⟨S16x256x2048, .f32⟩
  | 108 => ⟨S16x2048x256, .f32⟩
  | 109 => ⟨S2048, .i32⟩
  | 110 => ⟨S2048, .f32⟩
  | 111 => ⟨S1x2048x1, .f32⟩
  | 112 => ⟨S16x2048x256, .f32⟩
  | 113 => ⟨S16x2048x256, .f32⟩
  | 114 => ⟨S16x2048x256, .f32⟩
  | 115 => ⟨S16x2048x256, .f32⟩
  | 116 => ⟨S_, .i32⟩
  | 117 => ⟨S2048, .i32⟩
  | 118 => ⟨S2048, .i32⟩
  | 119 => ⟨S_, .i32⟩
  | 120 => ⟨S2048, .i32⟩
  | 121 => ⟨S2048, .i32⟩
  | 122 => ⟨S_, .i32⟩
  | 123 => ⟨S2048, .i32⟩
  | 124 => ⟨S2048, .i32⟩
  | 125 => ⟨S_, .i32⟩
  | 126 => ⟨S2048, .i32⟩
  | 127 => ⟨S2048, .i32⟩
  | _ => ⟨S16x2048x1024, .f32⟩

abbrev hbmTy0_1 (i : Nat) : BufTy := match i % 128 with
  | 0 => ⟨S_, .i32⟩
  | 1 => ⟨S2048, .i32⟩
  | 2 => ⟨S2048, .i32⟩
  | 3 => ⟨S1x2048, .i32⟩
  | 4 => ⟨S2048x1, .i32⟩
  | 5 => ⟨S2048x2048, .i32⟩
  | 6 => ⟨S2048x2048, .i32⟩
  | 7 => ⟨S2048x2048, .i1⟩
  | 8 => ⟨S1x2048, .i32⟩
  | 9 => ⟨S2048x1, .i32⟩
  | 10 => ⟨S2048x2048, .i32⟩
  | 11 => ⟨S2048x2048, .i32⟩
  | 12 => ⟨S2048x2048, .i1⟩
  | 13 => ⟨S2048x2048, .i1⟩
  | 14 => ⟨S_, .f32⟩
  | 15 => ⟨S_, .f32⟩
  | 16 => ⟨S2048x2048, .f32⟩
  | 17 => ⟨S2048x2048, .f32⟩
  | 18 => ⟨S2048x2048, .f32⟩
  | 19 => ⟨S16x256x2048, .f32⟩
  | 20 => ⟨S16x2048x256, .f32⟩
  | 21 => ⟨S2048, .i32⟩
  | 22 => ⟨S2048, .f32⟩
  | 23 => ⟨S1x2048x1, .f32⟩
  | 24 => ⟨S16x2048x256, .f32⟩
  | 25 => ⟨S16x2048x256, .f32⟩
  | 26 => ⟨S16x2048x256, .f32⟩
  | 27 => ⟨S16x2048x256, .f32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i32⟩
  | 43 => ⟨S1x2048, .i32⟩
  | 44 => ⟨S2048x1, .i32⟩
  | 45 => ⟨S2048x2048, .i32⟩
  | 46 => ⟨S2048x2048, .i32⟩
  | 47 => ⟨S2048x2048, .i1⟩
  | 48 => ⟨S1x2048, .i32⟩
  | 49 => ⟨S2048x1, .i32⟩
  | 50 => ⟨S2048x2048, .i32⟩
  | 51 => ⟨S2048x2048, .i32⟩
  | 52 => ⟨S2048x2048, .i1⟩
  | 53 => ⟨S2048x2048, .i1⟩
  | 54 => ⟨S_, .f32⟩
  | 55 => ⟨S_, .f32⟩
  | 56 => ⟨S2048x2048, .f32⟩
  | 57 => ⟨S2048x2048, .f32⟩
  | 58 => ⟨S2048x2048, .f32⟩
  | 59 => ⟨S16x256x2048, .f32⟩
  | 60 => ⟨S16x2048x256, .f32⟩
  | 61 => ⟨S2048, .i32⟩
  | 62 => ⟨S2048, .f32⟩
  | 63 => ⟨S1x2048x1, .f32⟩
  | 64 => ⟨S16x2048x256, .f32⟩
  | 65 => ⟨S16x2048x256, .f32⟩
  | 66 => ⟨S16x2048x256, .f32⟩
  | 67 => ⟨S16x2048x1x256, .f32⟩
  | 68 => ⟨S16x2048x1x256, .f32⟩
  | 69 => ⟨S16x2048x1x256, .f32⟩
  | 70 => ⟨S16x2048x1x256, .f32⟩
  | 71 => ⟨S16x2048x4x256, .f32⟩
  | 72 => ⟨S4x256x16x2048, .f32⟩
  | 73 => ⟨S16x2048x4x256, .f32⟩
  | 74 => ⟨S16x2048x1024, .f32⟩
  | 75 => ⟨S1x1x1024, .f32⟩
  | 76 => ⟨S16x2048x1024, .f32⟩
  | 77 => ⟨S16x2048x1024, .f32⟩
  | 78 => ⟨S16x2048x1024, .f32⟩
  | 79 => ⟨S16x2048x1024, .f32⟩
  | 80 => ⟨S_, .f32⟩
  | 81 => ⟨S16x2048x1024, .f32⟩
  | 82 => ⟨S16x2048x1024, .f32⟩
  | 83 => ⟨S_, .f32⟩
  | 84 => ⟨S16x2048x1024, .f32⟩
  | 85 => ⟨S16x2048x1024, .f32⟩
  | 86 => ⟨S16x2048x1024, .f32⟩
  | 87 => ⟨S16x2048x1024, .f32⟩
  | 88 => ⟨S16x2048x16x64, .f32⟩
  | 89 => ⟨S32, .f32⟩
  | 90 => ⟨S32, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | 97 => ⟨S2048, .i32⟩
  | 98 => ⟨S2048, .f32⟩
  | 99 => ⟨S2048x1, .f32⟩
  | 100 => ⟨S1x32, .f32⟩
  | 101 => ⟨S2048x32, .f32⟩
  | 102 => ⟨S2048x32, .f32⟩
  | 103 => ⟨S2048x32, .f32⟩
  | 104 => ⟨S2048x32, .f32⟩
  | 105 => ⟨S1x2048x1x32, .f32⟩
  | 106 => ⟨S2048x32, .f32⟩
  | 107 => ⟨S1x2048x1x32, .f32⟩
  | 108 => ⟨S16x2048x16x32, .f32⟩
  | 109 => ⟨S16x2048x16x32, .f32⟩
  | 110 => ⟨S16x2048x16x32, .f32⟩
  | 111 => ⟨S16x2048x16x32, .f32⟩
  | 112 => ⟨S16x2048x16x32, .f32⟩
  | 113 => ⟨S16x2048x16x32, .f32⟩
  | 114 => ⟨S16x2048x16x32, .f32⟩
  | 115 => ⟨S16x2048x16x32, .f32⟩
  | 116 => ⟨S16x2048x16x32, .f32⟩
  | 117 => ⟨S16x2048x16x32, .f32⟩
  | 118 => ⟨S16x2048x16x32, .f32⟩
  | 119 => ⟨S16x2048x16x32, .f32⟩
  | 120 => ⟨S16x2048x16x64, .f32⟩
  | 121 => ⟨S16x2048x4x64, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S16x2048x1024, .f32⟩

abbrev hbmTy0_2 (i : Nat) : BufTy := match i % 128 with
  | 0 => ⟨S32, .f32⟩
  | 1 => ⟨S32, .f32⟩
  | 2 => ⟨S2048, .i32⟩
  | 3 => ⟨S2048, .f32⟩
  | 4 => ⟨S2048x1, .f32⟩
  | 5 => ⟨S1x32, .f32⟩
  | 6 => ⟨S2048x32, .f32⟩
  | 7 => ⟨S2048x32, .f32⟩
  | 8 => ⟨S2048x32, .f32⟩
  | 9 => ⟨S2048x32, .f32⟩
  | 10 => ⟨S1x2048x1x32, .f32⟩
  | 11 => ⟨S2048x32, .f32⟩
  | 12 => ⟨S1x2048x1x32, .f32⟩
  | 13 => ⟨S16x2048x4x32, .f32⟩
  | 14 => ⟨S16x2048x4x32, .f32⟩
  | 15 => ⟨S16x2048x4x32, .f32⟩
  | 16 => ⟨S16x2048x4x32, .f32⟩
  | 17 => ⟨S16x2048x4x32, .f32⟩
  | 18 => ⟨S16x2048x4x32, .f32⟩
  | 19 => ⟨S16x2048x4x32, .f32⟩
  | 20 => ⟨S16x2048x4x32, .f32⟩
  | 21 => ⟨S16x2048x4x32, .f32⟩
  | 22 => ⟨S16x2048x4x32, .f32⟩
  | 23 => ⟨S16x2048x4x32, .f32⟩
  | 24 => ⟨S16x2048x4x32, .f32⟩
  | 25 => ⟨S16x2048x4x64, .f32⟩
  | 26 => ⟨S16x2048x4x64, .f32⟩
  | 27 => ⟨S16x2048x4x4x64, .f32⟩
  | 28 => ⟨S2048, .i32⟩
  | 29 => ⟨S2048x1, .i32⟩
  | 30 => ⟨S1x2048, .i32⟩
  | 31 => ⟨S2048x2048, .i32⟩
  | 32 => ⟨S2048x2048, .i32⟩
  | 33 => ⟨S2048x2048, .i32⟩
  | 34 => ⟨S2048x2048, .i32⟩
  | 35 => ⟨S_, .i32⟩
  | 36 => ⟨S2048x2048, .i32⟩
  | 37 => ⟨S2048x2048, .i1⟩
  | 38 => ⟨S16x4x2048x2048x4, .f32⟩
  | 39 => ⟨S16x4x4x2048x2048, .f32⟩
  | 40 => ⟨S_, .f32⟩
  | 41 => ⟨S16x4x4x2048x2048, .f32⟩
  | 42 => ⟨S16x4x4x2048x2048, .f32⟩
  | 43 => ⟨S_, .f32⟩
  | 44 => ⟨S_, .f32⟩
  | 45 => ⟨S16x4x4x2048x2048, .i1⟩
  | 46 => ⟨S16x4x4x2048x2048, .f32⟩
  | 47 => ⟨S16x4x4x2048x2048, .f32⟩
  | 48 => ⟨S1x4x4x1x1, .f32⟩
  | 49 => ⟨S_, .f32⟩
  | 50 => ⟨S16x4x4x2048, .f32⟩
  | 51 => ⟨S16x4x4x2048x1, .f32⟩
  | 52 => ⟨S16x4x4x2048x1, .f32⟩
  | 53 => ⟨S16x4x4x2048x1, .f32⟩
  | 54 => ⟨S16x4x4x2048x2048, .f32⟩
  | 55 => ⟨S16x4x4x2048x2048, .f32⟩
  | 56 => ⟨S16x4x4x2048x2048, .f32⟩
  | 57 => ⟨S16x4x4x2048x64, .f32⟩
  | 58 => ⟨S_, .f32⟩
  | 59 => ⟨S16x4x4x2048, .f32⟩
  | 60 => ⟨S16x4x4x2048x1, .f32⟩
  | 61 => ⟨S16x4x4x2048x1, .f32⟩
  | 62 => ⟨S16x4x4x2048x1, .f32⟩
  | 63 => ⟨S16x4x4x2048x1, .f32⟩
  | 64 => ⟨S16x4x4x2048x1, .f32⟩
  | 65 => ⟨S16x4x4x2048x64, .f32⟩
  | 66 => ⟨S16x4x4x2048x64, .f32⟩
  | 67 => ⟨S16x2048x4x4x64, .f32⟩
  | 68 => ⟨S16x2048x1024, .f32⟩
  | 69 => ⟨S16x2048x1024, .f32⟩
  | 70 => ⟨S16x2048x1024, .f32⟩
  | 71 => ⟨S_, .f32⟩
  | 72 => ⟨S16x2048x1024, .f32⟩
  | 73 => ⟨S16x2048x1024, .f32⟩
  | 74 => ⟨S_, .f32⟩
  | 75 => ⟨S16x2048x1024, .f32⟩
  | 76 => ⟨S16x2048x1024, .f32⟩
  | 77 => ⟨S16x2048x1024, .f32⟩
  | 78 => ⟨S16x2048x1024, .f32⟩
  | 79 => ⟨S16x2048x2048, .f32⟩
  | 80 => ⟨S16x2048x2048, .f32⟩
  | 81 => ⟨S_, .f32⟩
  | 82 => ⟨S16x2048x2048, .f32⟩
  | 83 => ⟨S16x2048x2048, .f32⟩
  | 84 => ⟨S_, .f32⟩
  | 85 => ⟨S16x2048x2048, .f32⟩
  | 86 => ⟨S16x2048x2048, .f32⟩
  | 87 => ⟨S16x2048x1024, .f32⟩
  | 88 => ⟨S16x2048x1024, .f32⟩
  | 89 => ⟨S16x2048x1024, .f32⟩
  | 90 => ⟨S16x2048x1024, .f32⟩
  | 91 => ⟨S16x2048x1024, .f32⟩
  | 92 => ⟨S16x2048x1024, .f32⟩
  | 93 => ⟨S16x2048x1024, .f32⟩
  | 94 => ⟨S16x2048x1024, .f32⟩
  | 95 => ⟨S16x2048x1024, .f32⟩
  | 96 => ⟨S_, .f32⟩
  | 97 => ⟨S16x2048, .f32⟩
  | 98 => ⟨S16x2048x1, .f32⟩
  | 99 => ⟨S_, .f32⟩
  | 100 => ⟨S16x2048x1, .f32⟩
  | 101 => ⟨S16x2048x1, .f32⟩
  | 102 => ⟨S_, .f32⟩
  | 103 => ⟨S16x2048x1, .f32⟩
  | 104 => ⟨S16x2048x1, .f32⟩
  | 105 => ⟨S16x2048x1, .f32⟩
  | 106 => ⟨S16x2048x1024, .f32⟩
  | 107 => ⟨S16x2048x1024, .f32⟩
  | 108 => ⟨S1x1x1024, .f32⟩
  | 109 => ⟨S16x2048x1024, .f32⟩
  | 110 => ⟨S16x2048x1024, .f32⟩
  | 111 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_cst_7 : Ref sig .tc := ⟨.hbm, 63, rfl⟩
abbrev main_call0_v0 : Ref sig .tc := ⟨.hbm, 64, rfl⟩
abbrev main_call0_v1 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_cst_14 : Ref sig .tc := ⟨.hbm, 103, rfl⟩
abbrev main_call1_v0 : Ref sig .tc := ⟨.hbm, 104, rfl⟩
abbrev main_call1_v1 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_15 : Ref sig .tc := ⟨.hbm, 116, rfl⟩
abbrev main_v85 : Ref sig .tc := ⟨.hbm, 117, rfl⟩
abbrev main_v86 : Ref sig .tc := ⟨.hbm, 118, rfl⟩
abbrev main_c_16 : Ref sig .tc := ⟨.hbm, 119, rfl⟩
abbrev main_v87 : Ref sig .tc := ⟨.hbm, 120, rfl⟩
abbrev main_v88 : Ref sig .tc := ⟨.hbm, 121, rfl⟩
abbrev main_c_17 : Ref sig .tc := ⟨.hbm, 122, rfl⟩
abbrev main_v89 : Ref sig .tc := ⟨.hbm, 123, rfl⟩
abbrev main_v90 : Ref sig .tc := ⟨.hbm, 124, rfl⟩
abbrev main_c_18 : Ref sig .tc := ⟨.hbm, 125, rfl⟩
abbrev main_v91 : Ref sig .tc := ⟨.hbm, 126, rfl⟩
abbrev main_v92 : Ref sig .tc := ⟨.hbm, 127, rfl⟩
abbrev main_c_19 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_20 : Ref sig .tc := ⟨.hbm, 142, rfl⟩
abbrev main_cst_21 : Ref sig .tc := ⟨.hbm, 143, rfl⟩
abbrev main_call2_v0 : Ref sig .tc := ⟨.hbm, 144, rfl⟩
abbrev main_call2_v1 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_22 : Ref sig .tc := ⟨.hbm, 156, rfl⟩
abbrev main_v116 : Ref sig .tc := ⟨.hbm, 157, rfl⟩
abbrev main_v117 : Ref sig .tc := ⟨.hbm, 158, rfl⟩
abbrev main_c_23 : Ref sig .tc := ⟨.hbm, 159, rfl⟩
abbrev main_v118 : Ref sig .tc := ⟨.hbm, 160, rfl⟩
abbrev main_v119 : Ref sig .tc := ⟨.hbm, 161, rfl⟩
abbrev main_c_24 : Ref sig .tc := ⟨.hbm, 162, rfl⟩
abbrev main_v120 : Ref sig .tc := ⟨.hbm, 163, rfl⟩
abbrev main_v121 : Ref sig .tc := ⟨.hbm, 164, rfl⟩
abbrev main_c_25 : Ref sig .tc := ⟨.hbm, 165, rfl⟩
abbrev main_v122 : Ref sig .tc := ⟨.hbm, 166, rfl⟩
abbrev main_v123 : Ref sig .tc := ⟨.hbm, 167, rfl⟩
abbrev main_c_26 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_27 : Ref sig .tc := ⟨.hbm, 182, rfl⟩
abbrev main_cst_28 : Ref sig .tc := ⟨.hbm, 183, rfl⟩
abbrev main_call3_v0 : Ref sig .tc := ⟨.hbm, 184, rfl⟩
abbrev main_call3_v1 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_call4_v0 : Ref sig .tc := ⟨.hbm, 206, rfl⟩
abbrev main_call4_v1 : Ref sig .tc := ⟨.hbm, 207, rfl⟩
abbrev main_call4_cst : Ref sig .tc := ⟨.hbm, 208, rfl⟩
abbrev main_call4_v2 : Ref sig .tc := ⟨.hbm, 209, rfl⟩
abbrev main_call4_v3 : Ref sig .tc := ⟨.hbm, 210, rfl⟩
abbrev main_call4_cst_0 : Ref sig .tc := ⟨.hbm, 211, rfl⟩
abbrev main_call4_v4 : Ref sig .tc := ⟨.hbm, 212, rfl⟩
abbrev main_call4_v5 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_29 : Ref sig .tc := ⟨.hbm, 219, rfl⟩
abbrev main_v162 : Ref sig .tc := ⟨.hbm, 220, rfl⟩
abbrev main_v163 : Ref sig .tc := ⟨.hbm, 221, rfl⟩
abbrev main_cst_30 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_cst_31 : Ref sig .tc := ⟨.hbm, 252, rfl⟩
abbrev main_v193 : Ref sig .tc := ⟨.hbm, 253, rfl⟩
abbrev main_v194 : Ref sig .tc := ⟨.hbm, 254, rfl⟩
abbrev main_cst_32 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_c_33 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_cst_34 : Ref sig .tc := ⟨.hbm, 296, rfl⟩
abbrev main_v234 : Ref sig .tc := ⟨.hbm, 297, rfl⟩
abbrev main_v235 : Ref sig .tc := ⟨.hbm, 298, rfl⟩
abbrev main_cst_35 : Ref sig .tc := ⟨.hbm, 299, rfl⟩
abbrev main_call5_v0 : Ref sig .tc := ⟨.hbm, 300, rfl⟩
abbrev main_call5_v1 : Ref sig .tc := ⟨.hbm, 301, rfl⟩
abbrev main_call5_v2 : Ref sig .tc := ⟨.hbm, 302, rfl⟩
abbrev main_v236 : Ref sig .tc := ⟨.hbm, 303, rfl⟩
abbrev main_v237 : Ref sig .tc := ⟨.hbm, 304, rfl⟩
abbrev main_cst_36 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_cst_37 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_call6_v0 : Ref sig .tc := ⟨.hbm, 325, rfl⟩
abbrev main_call6_v1 : Ref sig .tc := ⟨.hbm, 326, rfl⟩
abbrev main_call6_cst : Ref sig .tc := ⟨.hbm, 327, rfl⟩
abbrev main_call6_v2 : Ref sig .tc := ⟨.hbm, 328, rfl⟩
abbrev main_call6_v3 : Ref sig .tc := ⟨.hbm, 329, rfl⟩
abbrev main_call6_cst_0 : Ref sig .tc := ⟨.hbm, 330, rfl⟩
abbrev main_call6_v4 : Ref sig .tc := ⟨.hbm, 331, rfl⟩
abbrev main_call6_v5 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_cst_38 : Ref sig .tc := ⟨.hbm, 337, rfl⟩
abbrev main_v260 : Ref sig .tc := ⟨.hbm, 338, rfl⟩
abbrev main_v261 : Ref sig .tc := ⟨.hbm, 339, rfl⟩
abbrev main_cst_39 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_cst_40 : Ref sig .tc := ⟨.hbm, 352, rfl⟩
abbrev main_v273 : Ref sig .tc := ⟨.hbm, 353, rfl⟩
abbrev main_v274 : Ref sig .tc := ⟨.hbm, 354, rfl⟩
abbrev main_cst_41 : Ref sig .tc := ⟨.hbm, 355, rfl⟩
abbrev main_v275 : Ref sig .tc := ⟨.hbm, 356, rfl⟩
abbrev main_v276 : Ref sig .tc := ⟨.hbm, 357, rfl⟩
abbrev main_cst_42 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x6656 : Shape := ⟨2, ![1024, 6656]⟩
abbrev S4x256x256 : Shape := ⟨3, ![4, 256, 256]⟩
abbrev S1024x1024 : Shape := ⟨2, ![1024, 1024]⟩
abbrev S16 : Shape := ⟨1, ![16]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S4x8192x2048 : Shape := ⟨3, ![4, 8192, 2048]⟩
abbrev S4x1024x8192 : Shape := ⟨3, ![4, 1024, 8192]⟩
abbrev S1x512x1024 : Shape := ⟨3, ![1, 512, 1024]⟩
abbrev S1x8x1024 : Shape := ⟨3, ![1, 8, 1024]⟩
abbrev S512x128 : Shape := ⟨2, ![512, 128]⟩
abbrev S1x512x2048 : Shape := ⟨3, ![1, 512, 2048]⟩
abbrev S1x1024x512 : Shape := ⟨3, ![1, 1024, 512]⟩
abbrev S552x1024 : Shape := ⟨2, ![552, 1024]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S8 : Shape := ⟨1, ![8]⟩
abbrev S8x1 : Shape := ⟨2, ![8, 1]⟩
abbrev S528x1024 : Shape := ⟨2, ![528, 1024]⟩
abbrev S1024x512 : Shape := ⟨2, ![1024, 512]⟩
abbrev S528x512 : Shape := ⟨2, ![528, 512]⟩
abbrev S8x512 : Shape := ⟨2, ![8, 512]⟩
abbrev S512x512 : Shape := ⟨2, ![512, 512]⟩
abbrev S24x512 : Shape := ⟨2, ![24, 512]⟩
abbrev S1x512x128 : Shape := ⟨3, ![1, 512, 128]⟩
abbrev S1024x256 : Shape := ⟨2, ![1024, 256]⟩
abbrev S512x256 : Shape := ⟨2, ![512, 256]⟩
abbrev S552x256 : Shape := ⟨2, ![552, 256]⟩
abbrev S536x256 : Shape := ⟨2, ![536, 256]⟩
abbrev S528x256 : Shape := ⟨2, ![528, 256]⟩
abbrev S520x256 : Shape := ⟨2, ![520, 256]⟩
abbrev S128x512 : Shape := ⟨2, ![128, 512]⟩
abbrev S1x128x512 : Shape := ⟨3, ![1, 128, 512]⟩
abbrev S1x256x256 : Shape := ⟨3, ![1, 256, 256]⟩
abbrev S256x256 : Shape := ⟨2, ![256, 256]⟩
abbrev S1x256 : Shape := ⟨2, ![1, 256]⟩
abbrev S1x512x256 : Shape := ⟨3, ![1, 512, 256]⟩
abbrev S1x512x512 : Shape := ⟨3, ![1, 512, 512]⟩
abbrev S16x1 : Shape := ⟨2, ![16, 1]⟩
abbrev S16x128 : Shape := ⟨2, ![16, 128]⟩
abbrev S1x1024x128 : Shape := ⟨3, ![1, 1024, 128]⟩
abbrev S1x128x1024 : Shape := ⟨3, ![1, 128, 1024]⟩
abbrev S1024x768 : Shape := ⟨2, ![1024, 768]⟩
abbrev S768x1152 : Shape := ⟨2, ![768, 1152]⟩
abbrev S512x1152 : Shape := ⟨2, ![512, 1152]⟩
abbrev S1024x128 : Shape := ⟨2, ![1024, 128]⟩
abbrev S128x1024 : Shape := ⟨2, ![128, 1024]⟩
abbrev S128x128 : Shape := ⟨2, ![128, 128]⟩
abbrev S1x128x128 : Shape := ⟨3, ![1, 128, 128]⟩
abbrev S256x128 : Shape := ⟨2, ![256, 128]⟩
abbrev S128x384 : Shape := ⟨2, ![128, 384]⟩
abbrev S128x768 : Shape := ⟨2, ![128, 768]⟩
abbrev S256x768 : Shape := ⟨2, ![256, 768]⟩
abbrev S1x128 : Shape := ⟨2, ![1, 128]⟩
abbrev S128 : Shape := ⟨1, ![128]⟩
abbrev S128x1 : Shape := ⟨2, ![128, 1]⟩
abbrev S384x256 : Shape := ⟨2, ![384, 256]⟩
abbrev S768x256 : Shape := ⟨2, ![768, 256]⟩

abbrev nBuf : Space → Nat
  | .hbm => 54
  | .vmem => 69
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6656, .f32⟩
  | .hbm, ⟨3, _⟩ => ⟨S4x256x256, .f32⟩
  | .hbm, ⟨4, _⟩ => ⟨S1024, .f32⟩
  | .hbm, ⟨5, _⟩ => ⟨S1024x1024, .f32⟩
  | .hbm, ⟨6, _⟩ => ⟨S16, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .i32⟩
  | .hbm, ⟨19, _⟩ => ⟨S8192, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x64, .f32⟩
  | .hbm, ⟨28, _⟩ => ⟨S1x8192x1x64, .f32⟩
  | .hbm, ⟨29, _⟩ => ⟨S1x8192x2x64, .f32⟩
  | .hbm, ⟨30, _⟩ => ⟨S8192x128, .f32⟩
  | .hbm, ⟨31, _⟩ => ⟨S8192x32, .f32⟩
  | .hbm, ⟨32, _⟩ => ⟨S8192x64, .f32⟩
  | .hbm, ⟨33, _⟩ => ⟨S1x8192x1x64, .f32⟩
  | .hbm, ⟨34, _⟩ => ⟨S1x8192x2x64, .f32⟩
  | .hbm, ⟨35, _⟩ => ⟨S8192x128, .f32⟩
  | .hbm, ⟨36, _⟩ => ⟨S1x1024, .f32⟩
  | .hbm, ⟨37, _⟩ => ⟨S1024x6656, .bf16⟩
  | .hbm, ⟨38, _⟩ => ⟨S4x256x256, .bf16⟩
  | .hbm, ⟨39, _⟩ => ⟨S1x1024, .f32⟩
  | .hbm, ⟨40, _⟩ => ⟨S4x8192x1024, .bf16⟩
  | .hbm, ⟨41, _⟩ => ⟨S4x8192x1024, .bf16⟩
  | .hbm, ⟨42, _⟩ => ⟨S4x8192x1024, .bf16⟩
  | .hbm, ⟨43, _⟩ => ⟨S4x8192x2048, .bf16⟩
  | .hbm, ⟨44, _⟩ => ⟨S4x1024x8192, .bf16⟩
  | .hbm, ⟨45, _⟩ => ⟨S4x8192x1024, .bf16⟩
  | .hbm, ⟨46, _⟩ => ⟨S4x8192x1024, .bf16⟩
  | .hbm, ⟨47, _⟩ => ⟨S16x1, .f32⟩
  | .hbm, ⟨48, _⟩ => ⟨S16x128, .f32⟩
  | .hbm, ⟨49, _⟩ => ⟨S1024x1024, .bf16⟩
  | .hbm, ⟨50, _⟩ => ⟨S1024x1024, .bf16⟩
  | .hbm, ⟨51, _⟩ => ⟨S1024x1024, .bf16⟩
  | .hbm, ⟨52, _⟩ => ⟨S1x1024, .f32⟩
  | .hbm, ⟨53, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x6656, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x256x256, .bf16⟩
  | .local _ .vmem, ⟨13, _⟩ => ⟨S1x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x2048, .bf16⟩
  | .local _ .vmem, ⟨21, _⟩ => ⟨S1x512x2048, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S552x1024, .f32⟩
  | .local _ .vmem, ⟨29, _⟩ => ⟨S1x512x1024, .f32⟩
  | .local _ .vmem, ⟨30, _⟩ => ⟨S1x512x1024, .f32⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x512x1024, .bf16⟩
  | .local _ .vmem, ⟨37, _⟩ => ⟨S1x512x2048, .bf16⟩
  | .local _ .vmem, ⟨38, _⟩ => ⟨S1x512x2048, .bf16⟩
  | .local _ .vmem, ⟨39, _⟩ => ⟨S1x1024x512, .bf16⟩
  | .local _ .vmem, ⟨40, _⟩ => ⟨S1x1024x512, .bf16⟩
  | .local _ .vmem, ⟨41, _⟩ => ⟨S1x1024x128, .bf16⟩
  | .local _ .vmem, ⟨42, _⟩ => ⟨S1x1024x128, .bf16⟩
  | .local _ .vmem, ⟨43, _⟩ => ⟨S1x1024x128, .bf16⟩
  | .local _ .vmem, ⟨44, _⟩ => ⟨S1x1024x128, .bf16⟩
  | .local _ .vmem, ⟨45, _⟩ => ⟨S1x512x1024, .bf16⟩
  | .local _ .vmem, ⟨46, _⟩ => ⟨S1x512x1024, .bf16⟩
  | .local _ .vmem, ⟨47, _⟩ => ⟨S1x128x1024, .bf16⟩
  | .local _ .vmem, ⟨48, _⟩ => ⟨S1x128x1024, .bf16⟩
  | .local _ .vmem, ⟨49, _⟩ => ⟨S1x128x1024, .bf16⟩
  | .local _ .vmem, ⟨50, _⟩ => ⟨S1x128x1024, .bf16⟩
  | .local _ .vmem, ⟨51, _⟩ => ⟨S1x512x1024, .bf16⟩
  | .local _ .vmem, ⟨52, _⟩ => ⟨S1x512x1024, .bf16⟩
  | .local _ .vmem, ⟨53, _⟩ => ⟨S1x128x1024, .bf16⟩
  | .local _ .vmem, ⟨54, _⟩ => ⟨S1x128x1024, .bf16⟩
  | .local _ .vmem, ⟨55, _⟩ => ⟨S1x128x1024, .bf16⟩
  | .local _ .vmem, ⟨56, _⟩ => ⟨S1x128x1024, .bf16⟩
  | .local _ .vmem, ⟨57, _⟩ => ⟨S1024x1024, .bf16⟩
  | .local _ .vmem, ⟨58, _⟩ => ⟨S16x128, .f32⟩
  | .local _ .vmem, ⟨59, _⟩ => ⟨S1024x1024, .bf16⟩
  | .local _ .vmem, ⟨60, _⟩ => ⟨S1024x1024, .bf16⟩
  | .local _ .vmem, ⟨61, _⟩ => ⟨S1x1024, .f32⟩
  | .local _ .vmem, ⟨62, _⟩ => ⟨S1x512x1024, .f32⟩
  | .local _ .vmem, ⟨63, _⟩ => ⟨S1x512x1024, .f32⟩
  | .local _ .vmem, ⟨64, _⟩ => ⟨S1024x768, .bf16⟩
  | .local _ .vmem, ⟨65, _⟩ => ⟨S768x1152, .bf16⟩
  | .local _ .vmem, ⟨66, _⟩ => ⟨S768x1152, .bf16⟩
  | .local _ .vmem, ⟨67, _⟩ => ⟨S512x1152, .bf16⟩
  | .local _ .vmem, ⟨68, _⟩ => ⟨S512x1152, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev main_v28_5 : Ref sig .tc := ⟨.hbm, 45, rfl⟩
abbrev main_v28_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg1_1 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg3_1 : Ref sig .tc := ⟨.vmem, 36, rfl⟩
abbrev cc1_stg4_0 : Ref sig .tc := ⟨.vmem, 37, rfl⟩
abbrev cc1_stg4_1 : Ref sig .tc := ⟨.vmem, 38, rfl⟩
abbrev cc1_stg5_0 : Ref sig .tc := ⟨.vmem, 39, rfl⟩
abbrev cc1_stg5_1 : Ref sig .tc := ⟨.vmem, 40, rfl⟩
abbrev cc1_stg6_0 : Ref sig .tc := ⟨.vmem, 41, rfl⟩
abbrev cc1_stg6_1 : Ref sig .tc := ⟨.vmem, 42, rfl⟩
abbrev cc1_stg7_0 : Ref sig .tc := ⟨.vmem, 43, rfl⟩
abbrev cc1_stg7_1 : Ref sig .tc := ⟨.vmem, 44, rfl⟩
abbrev cc1_stg8_0 : Ref sig .tc := ⟨.vmem, 45, rfl⟩
abbrev cc1_stg8_1 : Ref sig .tc := ⟨.vmem, 46, rfl⟩
abbrev cc1_stg9_0 : Ref sig .tc := ⟨.vmem, 47, rfl⟩
abbrev cc1_stg9_1 : Ref sig .tc := ⟨.vmem, 48, rfl⟩
abbrev cc1_stg10_0 : Ref sig .tc := ⟨.vmem, 49, rfl⟩
abbrev cc1_stg10_1 : Ref sig .tc := ⟨.vmem, 50, rfl⟩
abbrev cc1_stg11_0 : Ref sig .tc := ⟨.vmem, 51, rfl⟩
abbrev cc1_stg11_1 : Ref sig .tc := ⟨.vmem, 52, rfl⟩
abbrev cc1_stg12_0 : Ref sig .tc := ⟨.vmem, 53, rfl⟩
abbrev cc1_stg12_1 : Ref sig .tc := ⟨.vmem, 54, rfl⟩
abbrev cc1_stg13_0 : Ref sig .tc := ⟨.vmem, 55, rfl⟩
abbrev cc1_stg13_1 : Ref sig .tc := ⟨.vmem, 56, rfl⟩
abbrev cc1_stg14_0 : Ref sig .tc := ⟨.vmem, 57, rfl⟩
abbrev cc1_stg15_0 : Ref sig .tc := ⟨.vmem, 58, rfl⟩
abbrev cc1_stg16_0 : Ref sig .tc := ⟨.vmem, 59, rfl⟩
abbrev cc1_stg17_0 : Ref sig .tc := ⟨.vmem, 60, rfl⟩
abbrev cc1_stg18_0 : Ref sig .tc := ⟨.vmem, 61, rfl⟩
abbrev cc1_stg19_0 : Ref sig .tc := ⟨.vmem, 62, rfl⟩
abbrev cc1_stg19_1 : Ref sig .tc := ⟨.vmem, 63, rfl⟩
abbrev cc1_scratch0 : Ref sig .tc := ⟨.vmem, 64, rfl⟩
abbrev cc1_scratch1 : Ref sig .tc := ⟨.vmem, 65, rfl⟩
abbrev cc1_scratch2 : Ref sig .tc := ⟨.vmem, 66, rfl⟩
abbrev cc1_scratch3 : Ref sig .tc := ⟨.vmem, 67, rfl⟩
abbrev cc1_scratch4 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem7_1 : DmaSem sig := 43
abbrev cc1_sem8_0 : DmaSem sig := 44
abbrev cc1_sem8_1 : DmaSem sig := 45
abbrev cc1_sem9_0 : DmaSem sig := 46
abbrev cc1_sem9_1 : DmaSem sig := 47
abbrev cc1_sem10_0 : DmaSem sig := 48
abbrev cc1_sem10_1 : DmaSem sig := 49
abbrev cc1_sem11_0 : DmaSem sig := 50
abbrev cc1_sem11_1 : DmaSem sig := 51
abbrev cc1_sem12_0 : DmaSem sig := 52
abbrev cc1_sem12_1 : DmaSem sig := 53
abbrev cc1_sem13_0 : DmaSem sig := 54
abbrev cc1_sem13_1 : DmaSem sig := 55
abbrev cc1_sem14_0 : DmaSem sig := 56
abbrev cc1_sem15_0 : DmaSem sig := 57
abbrev cc1_sem16_0 : DmaSem sig := 58
abbrev cc1_sem17_0 : DmaSem sig := 59
abbrev cc1_sem18_0 : DmaSem sig := 60
abbrev cc1_sem19_0 : DmaSem sig := 61
abbrev cc1_sem19_1 : DmaSem sig := 62

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x6656 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc1_transform_7 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![arg0.toNat, c0_i32.toNat, v2.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_13 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x128x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x128x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x128x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x128x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 1 → Memref sig .tc .vmem S1024x1024 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S16x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S1024x1024 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1024x1024 .bf16 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 2 → Memref sig .tc .vmem S1x512x1024 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]
-- ==== Kernel2Ideal.lean ====
variable {F : FTy → Type} [FloatOps F] [Named F]
def κ : String → Option EReal := fun
  | "log2_e" => some (((Real.log 2)⁻¹ : ℝ) : EReal)
  | "mask" => some ⊥
  | "q_scale" => some (((8 * (Real.log 2))⁻¹ : ℝ) : EReal)
  | _ => none
-- ==== Reference2Ideal.lean ====
abbrev S4x8192x1024 : Shape := ⟨3, ![4, 8192, 1024]⟩
abbrev S1024 : Shape := ⟨1, ![1024]⟩
abbrev S1024x6656 : Shape := ⟨2, ![1024, 6656]⟩
abbrev S4x256x256 : Shape := ⟨3, ![4, 256, 256]⟩
abbrev S1024x1024 : Shape := ⟨2, ![1024, 1024]⟩
abbrev S16 : Shape := ⟨1, ![16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6656 : Shape := ⟨3, ![4, 8192, 6656]⟩
abbrev S4x8192x256 : Shape := ⟨3, ![4, 8192, 256]⟩
abbrev S4x8192x2048 : Shape := ⟨3, ![4, 8192, 2048]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x256x8192 : Shape := ⟨3, ![4, 256, 8192]⟩
abbrev S1x8192x1 : Shape := ⟨3, ![1, 8192, 1]⟩
abbrev S4x8192x1x256 : Shape := ⟨4, ![4, 8192, 1, 256]⟩
abbrev S4x8192x4x256 : Shape := ⟨4, ![4, 8192, 4, 256]⟩
abbrev S4x256x4x8192 : Shape := ⟨4, ![4, 256, 4, 8192]⟩
abbrev S4x8192x16x64 : Shape := ⟨4, ![4, 8192, 16, 64]⟩
abbrev S32 : Shape := ⟨1, ![32]⟩
abbrev S1x32 : Shape := ⟨2, ![1, 32]⟩
abbrev S8192x32 : Shape := ⟨2, ![8192, 32]⟩
abbrev S1x8192x1x32 : Shape := ⟨4, ![1, 8192, 1, 32]⟩
abbrev S4x8192x16x32 : Shape := ⟨4, ![4, 8192, 16, 32]⟩
abbrev S4x8192x4x64 : Shape := ⟨4, ![4, 8192, 4, 64]⟩
abbrev S4x8192x4x32 : Shape := ⟨4, ![4, 8192, 4, 32]⟩
abbrev S4x8192x4x4x64 : Shape := ⟨5, ![4, 8192, 4, 4, 64]⟩
abbrev S4x4x8192x8192x4 : Shape := ⟨5, ![4, 4, 8192, 8192, 4]⟩
abbrev S4x4x4x8192x8192 : Shape := ⟨5, ![4, 4, 4, 8192, 8192]⟩
abbrev S1x4x4x1x1 : Shape := ⟨5, ![1, 4, 4, 1, 1]⟩
abbrev S4x4x4x8192 : Shape := ⟨4, ![4, 4, 4, 8192]⟩
abbrev S4x4x4x8192x1 : Shape := ⟨5, ![4, 4, 4, 8192, 1]⟩
abbrev S4x4x4x8192x64 : Shape := ⟨5, ![4, 4, 4, 8192, 64]⟩

abbrev nBuf : Space → Nat
  | .hbm => 368
  | .vmem => 0
  | .smem => 0
  | _ => 0

abbrev hbmTy0_0 (i : Nat) : BufTy := match i % 128 with
  | 0 => ⟨S4x8192x1024, .f32⟩
  | 1 => ⟨S1024, .f32⟩
  | 2 => ⟨S1024x6656, .f32⟩
  | 3 => ⟨S4x256x256, .f32⟩
  | 4 => ⟨S1024, .f32⟩
  | 5 => ⟨S1024x1024, .f32⟩
  | 6 => ⟨S16, .f32⟩
  | 7 => ⟨S1024x1024, .f32⟩
  | 8 => ⟨S1024x1024, .f32⟩
  | 9 => ⟨S1024, .f32⟩
  | 10 => ⟨S4x8192x1024, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1024, .f32⟩
  | 22 => ⟨S4x8192x1024, .f32⟩
  | 23 => ⟨S1x1x1024, .f32⟩
  | 24 => ⟨S4x8192x1024, .f32⟩
  | 25 => ⟨S4x8192x1024, .f32⟩
  | 26 => ⟨S4x8192x6656, .f32⟩
  | 27 => ⟨S4x8192x1024, .f32⟩
  | 28 => ⟨S4x8192x1024, .f32⟩
  | 29 => ⟨S4x8192x1024, .f32⟩
  | 30 => ⟨S4x8192x256, .f32⟩
  | 31 => ⟨S4x8192x256, .f32⟩
  | 32 => ⟨S4x8192x1024, .f32⟩
  | 33 => ⟨S4x8192x2048, .f32⟩
  | 34 => ⟨S8192, .i32⟩
  | 35 => ⟨S4x8192x256, .f32⟩
  | 36 => ⟨S_, .i32⟩
  | 37 => ⟨S8192, .i32⟩
  | 38 => ⟨S8192, .i32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S1x8192, .i32⟩
  | 52 => ⟨S8192x1, .i32⟩
  | 53 => ⟨S8192x8192, .i32⟩
  | 54 => ⟨S8192x8192, .i32⟩
  | 55 => ⟨S8192x8192, .i1⟩
  | 56 => ⟨S1x8192, .i32⟩
  | 57 => ⟨S8192x1, .i32⟩
  | 58 => ⟨S8192x8192, .i32⟩
  | 59 => ⟨S8192x8192, .i32⟩
  | 60 => ⟨S8192x8192, .i1⟩
  | 61 => ⟨S8192x8192, .i1⟩
  | 62 => ⟨S_, .f32⟩
  | 63 => ⟨S_, .f32⟩
  | 64 => ⟨S8192x8192, .f32⟩
  | 65 => ⟨S8192x8192, .f32⟩
  | 66 => ⟨S8192x8192, .f32⟩
  | 67 => ⟨S4x256x8192, .f32⟩
  | 68 => ⟨S4x8192x256, .f32⟩
  | 69 => ⟨S8192, .i32⟩
  | 70 => ⟨S8192, .f32⟩
  | 71 => ⟨S1x8192x1, .f32⟩
  | 72 => ⟨S4x8192x256, .f32⟩
  | 73 => ⟨S4x8192x256, .f32⟩
  | 74 => ⟨S4x8192x256, .f32⟩
  | 75 => ⟨S4x8192x256, .f32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S_, .i32⟩
  | 89 => ⟨S8192, .i32⟩
  | 90 => ⟨S8192, .i32⟩
  | 91 => ⟨S1x8192, .i32⟩
  | 92 => ⟨S8192x1, .i32⟩
  | 93 => ⟨S8192x8192, .i32⟩
  | 94 => ⟨S8192x8192, .i32⟩
  | 95 => ⟨S8192x8192, .i1⟩
  | 96 => ⟨S1x8192, .i32⟩
  | 97 => ⟨S8192x1, .i32⟩
  | 98 => ⟨S8192x8192, .i32⟩
  | 99 => ⟨S8192x8192, .i32⟩
  | 100 => ⟨S8192x8192, .i1⟩
  | 101 => ⟨S8192x8192, .i1⟩
  | 102 => ⟨S_, .f32⟩
  | 103 => ⟨S_, .f32⟩
  | 104 => ⟨S8192x8192, .f32⟩
  | 105 => ⟨S8192x8192, .f32⟩
  | 106 => ⟨S8192x8192, .f32⟩
  | 107 => ⟨S4x256x8192, .f32⟩
  | 108 => ⟨S4x8192x256, .f32⟩
  | 109 => ⟨S8192, .i32⟩
  | 110 => ⟨S8192, .f32⟩
  | 111 => ⟨S1x8192x1, .f32⟩
  | 112 => ⟨S4x8192x256, .f32⟩
  | 113 => ⟨S4x8192x256, .f32⟩
  | 114 => ⟨S4x8192x256, .f32⟩
  | 115 => ⟨S4x8192x256, .f32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S_, .i32⟩
  | 123 => ⟨S8192, .i32⟩
  | 124 => ⟨S8192, .i32⟩
  | 125 => ⟨S_, .i32⟩
  | 126 => ⟨S8192, .i32⟩
  | 127 => ⟨S8192, .i32⟩
  | _ => ⟨S4x8192x1024, .f32⟩

abbrev hbmTy0_1 (i : Nat) : BufTy := match i % 128 with
  | 0 => ⟨S_, .i32⟩
  | 1 => ⟨S8192, .i32⟩
  | 2 => ⟨S8192, .i32⟩
  | 3 => ⟨S1x8192, .i32⟩
  | 4 => ⟨S8192x1, .i32⟩
  | 5 => ⟨S8192x8192, .i32⟩
  | 6 => ⟨S8192x8192, .i32⟩
  | 7 => ⟨S8192x8192, .i1⟩
  | 8 => ⟨S1x8192, .i32⟩
  | 9 => ⟨S8192x1, .i32⟩
  | 10 => ⟨S8192x8192, .i32⟩
  | 11 => ⟨S8192x8192, .i32⟩
  | 12 => ⟨S8192x8192, .i1⟩
  | 13 => ⟨S8192x8192, .i1⟩
  | 14 => ⟨S_, .f32⟩
  | 15 => ⟨S_, .f32⟩
  | 16 => ⟨S8192x8192, .f32⟩
  | 17 => ⟨S8192x8192, .f32⟩
  | 18 => ⟨S8192x8192, .f32⟩
  | 19 => ⟨S4x256x8192, .f32⟩
  | 20 => ⟨S4x8192x256, .f32⟩
  | 21 => ⟨S8192, .i32⟩
  | 22 => ⟨S8192, .f32⟩
  | 23 => ⟨S1x8192x1, .f32⟩
  | 24 => ⟨S4x8192x256, .f32⟩
  | 25 => ⟨S4x8192x256, .f32⟩
  | 26 => ⟨S4x8192x256, .f32⟩
  | 27 => ⟨S4x8192x256, .f32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S1x8192, .i32⟩
  | 44 => ⟨S8192x1, .i32⟩
  | 45 => ⟨S8192x8192, .i32⟩
  | 46 => ⟨S8192x8192, .i32⟩
  | 47 => ⟨S8192x8192, .i1⟩
  | 48 => ⟨S1x8192, .i32⟩
  | 49 => ⟨S8192x1, .i32⟩
  | 50 => ⟨S8192x8192, .i32⟩
  | 51 => ⟨S8192x8192, .i32⟩
  | 52 => ⟨S8192x8192, .i1⟩
  | 53 => ⟨S8192x8192, .i1⟩
  | 54 => ⟨S_, .f32⟩
  | 55 => ⟨S_, .f32⟩
  | 56 => ⟨S8192x8192, .f32⟩
  | 57 => ⟨S8192x8192, .f32⟩
  | 58 => ⟨S8192x8192, .f32⟩
  | 59 => ⟨S4x256x8192, .f32⟩
  | 60 => ⟨S4x8192x256, .f32⟩
  | 61 => ⟨S8192, .i32⟩
  | 62 => ⟨S8192, .f32⟩
  | 63 => ⟨S1x8192x1, .f32⟩
  | 64 => ⟨S4x8192x256, .f32⟩
  | 65 => ⟨S4x8192x256, .f32⟩
  | 66 => ⟨S4x8192x256, .f32⟩
  | 67 => ⟨S4x8192x1x256, .f32⟩
  | 68 => ⟨S4x8192x1x256, .f32⟩
  | 69 => ⟨S4x8192x1x256, .f32⟩
  | 70 => ⟨S4x8192x1x256, .f32⟩
  | 71 => ⟨S4x8192x4x256, .f32⟩
  | 72 => ⟨S4x256x4x8192, .f32⟩
  | 73 => ⟨S4x8192x4x256, .f32⟩
  | 74 => ⟨S4x8192x1024, .f32⟩
  | 75 => ⟨S1x1x1024, .f32⟩
  | 76 => ⟨S4x8192x1024, .f32⟩
  | 77 => ⟨S4x8192x1024, .f32⟩
  | 78 => ⟨S4x8192x1024, .f32⟩
  | 79 => ⟨S4x8192x1024, .f32⟩
  | 80 => ⟨S_, .f32⟩
  | 81 => ⟨S4x8192x1024, .f32⟩
  | 82 => ⟨S4x8192x1024, .f32⟩
  | 83 => ⟨S_, .f32⟩
  | 84 => ⟨S4x8192x1024, .f32⟩
  | 85 => ⟨S4x8192x1024, .f32⟩
  | 86 => ⟨S4x8192x1024, .f32⟩
  | 87 => ⟨S4x8192x1024, .f32⟩
  | 88 => ⟨S4x8192x16x64, .f32⟩
  | 89 => ⟨S32, .f32⟩
  | 90 => ⟨S32, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | 97 => ⟨S8192, .i32⟩
  | 98 => ⟨S8192, .f32⟩
  | 99 => ⟨S8192x1, .f32⟩
  | 100 => ⟨S1x32, .f32⟩
  | 101 => ⟨S8192x32, .f32⟩
  | 102 => ⟨S8192x32, .f32⟩
  | 103 => ⟨S8192x32, .f32⟩
  | 104 => ⟨S8192x32, .f32⟩
  | 105 => ⟨S1x8192x1x32, .f32⟩
  | 106 => ⟨S8192x32, .f32⟩
  | 107 => ⟨S1x8192x1x32, .f32⟩
  | 108 => ⟨S4x8192x16x32, .f32⟩
  | 109 => ⟨S4x8192x16x32, .f32⟩
  | 110 => ⟨S4x8192x16x32, .f32⟩
  | 111 => ⟨S4x8192x16x32, .f32⟩
  | 112 => ⟨S4x8192x16x32, .f32⟩
  | 113 => ⟨S4x8192x16x32, .f32⟩
  | 114 => ⟨S4x8192x16x32, .f32⟩
  | 115 => ⟨S4x8192x16x32, .f32⟩
  | 116 => ⟨S4x8192x16x32, .f32⟩
  | 117 => ⟨S4x8192x16x32, .f32⟩
  | 118 => ⟨S4x8192x16x32, .f32⟩
  | 119 => ⟨S4x8192x16x32, .f32⟩
  | 120 => ⟨S4x8192x16x64, .f32⟩
  | 121 => ⟨S4x8192x4x64, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S4x8192x1024, .f32⟩

abbrev hbmTy0_2 (i : Nat) : BufTy := match i % 128 with
  | 0 => ⟨S32, .f32⟩
  | 1 => ⟨S32, .f32⟩
  | 2 => ⟨S8192, .i32⟩
  | 3 => ⟨S8192, .f32⟩
  | 4 => ⟨S8192x1, .f32⟩
  | 5 => ⟨S1x32, .f32⟩
  | 6 => ⟨S8192x32, .f32⟩
  | 7 => ⟨S8192x32, .f32⟩
  | 8 => ⟨S8192x32, .f32⟩
  | 9 => ⟨S8192x32, .f32⟩
  | 10 => ⟨S1x8192x1x32, .f32⟩
  | 11 => ⟨S8192x32, .f32⟩
  | 12 => ⟨S1x8192x1x32, .f32⟩
  | 13 => ⟨S4x8192x4x32, .f32⟩
  | 14 => ⟨S4x8192x4x32, .f32⟩
  | 15 => ⟨S4x8192x4x32, .f32⟩
  | 16 => ⟨S4x8192x4x32, .f32⟩
  | 17 => ⟨S4x8192x4x32, .f32⟩
  | 18 => ⟨S4x8192x4x32, .f32⟩
  | 19 => ⟨S4x8192x4x32, .f32⟩
  | 20 => ⟨S4x8192x4x32, .f32⟩
  | 21 => ⟨S4x8192x4x32, .f32⟩
  | 22 => ⟨S4x8192x4x32, .f32⟩
  | 23 => ⟨S4x8192x4x32, .f32⟩
  | 24 => ⟨S4x8192x4x32, .f32⟩
  | 25 => ⟨S4x8192x4x64, .f32⟩
  | 26 => ⟨S4x8192x4x64, .f32⟩
  | 27 => ⟨S4x8192x4x4x64, .f32⟩
  | 28 => ⟨S8192, .i32⟩
  | 29 => ⟨S8192x1, .i32⟩
  | 30 => ⟨S1x8192, .i32⟩
  | 31 => ⟨S8192x8192, .i32⟩
  | 32 => ⟨S8192x8192, .i32⟩
  | 33 => ⟨S8192x8192, .i32⟩
  | 34 => ⟨S8192x8192, .i32⟩
  | 35 => ⟨S_, .i32⟩
  | 36 => ⟨S8192x8192, .i32⟩
  | 37 => ⟨S8192x8192, .i1⟩
  | 38 => ⟨S4x4x8192x8192x4, .f32⟩
  | 39 => ⟨S4x4x4x8192x8192, .f32⟩
  | 40 => ⟨S_, .f32⟩
  | 41 => ⟨S4x4x4x8192x8192, .f32⟩
  | 42 => ⟨S4x4x4x8192x8192, .f32⟩
  | 43 => ⟨S_, .f32⟩
  | 44 => ⟨S_, .f32⟩
  | 45 => ⟨S4x4x4x8192x8192, .i1⟩
  | 46 => ⟨S4x4x4x8192x8192, .f32⟩
  | 47 => ⟨S4x4x4x8192x8192, .f32⟩
  | 48 => ⟨S1x4x4x1x1, .f32⟩
  | 49 => ⟨S_, .f32⟩
  | 50 => ⟨S4x4x4x8192, .f32⟩
  | 51 => ⟨S4x4x4x8192x1, .f32⟩
  | 52 => ⟨S4x4x4x8192x1, .f32⟩
  | 53 => ⟨S4x4x4x8192x1, .f32⟩
  | 54 => ⟨S4x4x4x8192x8192, .f32⟩
  | 55 => ⟨S4x4x4x8192x8192, .f32⟩
  | 56 => ⟨S4x4x4x8192x8192, .f32⟩
  | 57 => ⟨S4x4x4x8192x64, .f32⟩
  | 58 => ⟨S_, .f32⟩
  | 59 => ⟨S4x4x4x8192, .f32⟩
  | 60 => ⟨S4x4x4x8192x1, .f32⟩
  | 61 => ⟨S4x4x4x8192x1, .f32⟩
  | 62 => ⟨S4x4x4x8192x1, .f32⟩
  | 63 => ⟨S4x4x4x8192x1, .f32⟩
  | 64 => ⟨S4x4x4x8192x1, .f32⟩
  | 65 => ⟨S4x4x4x8192x64, .f32⟩
  | 66 => ⟨S4x4x4x8192x64, .f32⟩
  | 67 => ⟨S4x8192x4x4x64, .f32⟩
  | 68 => ⟨S4x8192x1024, .f32⟩
  | 69 => ⟨S4x8192x1024, .f32⟩
  | 70 => ⟨S4x8192x1024, .f32⟩
  | 71 => ⟨S_, .f32⟩
  | 72 => ⟨S4x8192x1024, .f32⟩
  | 73 => ⟨S4x8192x1024, .f32⟩
  | 74 => ⟨S_, .f32⟩
  | 75 => ⟨S4x8192x1024, .f32⟩
  | 76 => ⟨S4x8192x1024, .f32⟩
  | 77 => ⟨S4x8192x1024, .f32⟩
  | 78 => ⟨S4x8192x1024, .f32⟩
  | 79 => ⟨S4x8192x2048, .f32⟩
  | 80 => ⟨S4x8192x2048, .f32⟩
  | 81 => ⟨S_, .f32⟩
  | 82 => ⟨S4x8192x2048, .f32⟩
  | 83 => ⟨S4x8192x2048, .f32⟩
  | 84 => ⟨S_, .f32⟩
  | 85 => ⟨S4x8192x2048, .f32⟩
  | 86 => ⟨S4x8192x2048, .f32⟩
  | 87 => ⟨S4x8192x1024, .f32⟩
  | 88 => ⟨S4x8192x1024, .f32⟩
  | 89 => ⟨S4x8192x1024, .f32⟩
  | 90 => ⟨S4x8192x1024, .f32⟩
  | 91 => ⟨S4x8192x1024, .f32⟩
  | 92 => ⟨S4x8192x1024, .f32⟩
  | 93 => ⟨S4x8192x1024, .f32⟩
  | 94 => ⟨S4x8192x1024, .f32⟩
  | 95 => ⟨S4x8192x1024, .f32⟩
  | 96 => ⟨S_, .f32⟩
  | 97 => ⟨S4x8192, .f32⟩
  | 98 => ⟨S4x8192x1, .f32⟩
  | 99 => ⟨S_, .f32⟩
  | 100 => ⟨S4x8192x1, .f32⟩
  | 101 => ⟨S4x8192x1, .f32⟩
  | 102 => ⟨S_, .f32⟩
  | 103 => ⟨S4x8192x1, .f32⟩
  | 104 => ⟨S4x8192x1, .f32⟩
  | 105 => ⟨S4x8192x1, .f32⟩
  | 106 => ⟨S4x8192x1024, .f32⟩
  | 107 => ⟨S4x8192x1024, .f32⟩
  | 108 => ⟨S1x1x1024, .f32⟩
  | 109 => ⟨S4x8192x1024, .f32⟩
  | 110 => ⟨S4x8192x1024, .f32⟩
  | 111 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_cst_7 : Ref sig .tc := ⟨.hbm, 63, rfl⟩
abbrev main_call0_v0 : Ref sig .tc := ⟨.hbm, 64, rfl⟩
abbrev main_call0_v1 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_cst_14 : Ref sig .tc := ⟨.hbm, 103, rfl⟩
abbrev main_call1_v0 : Ref sig .tc := ⟨.hbm, 104, rfl⟩
abbrev main_call1_v1 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_15 : Ref sig .tc := ⟨.hbm, 116, rfl⟩
abbrev main_v85 : Ref sig .tc := ⟨.hbm, 117, rfl⟩
abbrev main_v86 : Ref sig .tc := ⟨.hbm, 118, rfl⟩
abbrev main_c_16 : Ref sig .tc := ⟨.hbm, 119, rfl⟩
abbrev main_v87 : Ref sig .tc := ⟨.hbm, 120, rfl⟩
abbrev main_v88 : Ref sig .tc := ⟨.hbm, 121, rfl⟩
abbrev main_c_17 : Ref sig .tc := ⟨.hbm, 122, rfl⟩
abbrev main_v89 : Ref sig .tc := ⟨.hbm, 123, rfl⟩
abbrev main_v90 : Ref sig .tc := ⟨.hbm, 124, rfl⟩
abbrev main_c_18 : Ref sig .tc := ⟨.hbm, 125, rfl⟩
abbrev main_v91 : Ref sig .tc := ⟨.hbm, 126, rfl⟩
abbrev main_v92 : Ref sig .tc := ⟨.hbm, 127, rfl⟩
abbrev main_c_19 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_20 : Ref sig .tc := ⟨.hbm, 142, rfl⟩
abbrev main_cst_21 : Ref sig .tc := ⟨.hbm, 143, rfl⟩
abbrev main_call2_v0 : Ref sig .tc := ⟨.hbm, 144, rfl⟩
abbrev main_call2_v1 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_22 : Ref sig .tc := ⟨.hbm, 156, rfl⟩
abbrev main_v116 : Ref sig .tc := ⟨.hbm, 157, rfl⟩
abbrev main_v117 : Ref sig .tc := ⟨.hbm, 158, rfl⟩
abbrev main_c_23 : Ref sig .tc := ⟨.hbm, 159, rfl⟩
abbrev main_v118 : Ref sig .tc := ⟨.hbm, 160, rfl⟩
abbrev main_v119 : Ref sig .tc := ⟨.hbm, 161, rfl⟩
abbrev main_c_24 : Ref sig .tc := ⟨.hbm, 162, rfl⟩
abbrev main_v120 : Ref sig .tc := ⟨.hbm, 163, rfl⟩
abbrev main_v121 : Ref sig .tc := ⟨.hbm, 164, rfl⟩
abbrev main_c_25 : Ref sig .tc := ⟨.hbm, 165, rfl⟩
abbrev main_v122 : Ref sig .tc := ⟨.hbm, 166, rfl⟩
abbrev main_v123 : Ref sig .tc := ⟨.hbm, 167, rfl⟩
abbrev main_c_26 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_27 : Ref sig .tc := ⟨.hbm, 182, rfl⟩
abbrev main_cst_28 : Ref sig .tc := ⟨.hbm, 183, rfl⟩
abbrev main_call3_v0 : Ref sig .tc := ⟨.hbm, 184, rfl⟩
abbrev main_call3_v1 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_call4_v0 : Ref sig .tc := ⟨.hbm, 206, rfl⟩
abbrev main_call4_v1 : Ref sig .tc := ⟨.hbm, 207, rfl⟩
abbrev main_call4_cst : Ref sig .tc := ⟨.hbm, 208, rfl⟩
abbrev main_call4_v2 : Ref sig .tc := ⟨.hbm, 209, rfl⟩
abbrev main_call4_v3 : Ref sig .tc := ⟨.hbm, 210, rfl⟩
abbrev main_call4_cst_0 : Ref sig .tc := ⟨.hbm, 211, rfl⟩
abbrev main_call4_v4 : Ref sig .tc := ⟨.hbm, 212, rfl⟩
abbrev main_call4_v5 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_29 : Ref sig .tc := ⟨.hbm, 219, rfl⟩
abbrev main_v162 : Ref sig .tc := ⟨.hbm, 220, rfl⟩
abbrev main_v163 : Ref sig .tc := ⟨.hbm, 221, rfl⟩
abbrev main_cst_30 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_cst_31 : Ref sig .tc := ⟨.hbm, 252, rfl⟩
abbrev main_v193 : Ref sig .tc := ⟨.hbm, 253, rfl⟩
abbrev main_v194 : Ref sig .tc := ⟨.hbm, 254, rfl⟩
abbrev main_cst_32 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_c_33 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_cst_34 : Ref sig .tc := ⟨.hbm, 296, rfl⟩
abbrev main_v234 : Ref sig .tc := ⟨.hbm, 297, rfl⟩
abbrev main_v235 : Ref sig .tc := ⟨.hbm, 298, rfl⟩
abbrev main_cst_35 : Ref sig .tc := ⟨.hbm, 299, rfl⟩
abbrev main_call5_v0 : Ref sig .tc := ⟨.hbm, 300, rfl⟩
abbrev main_call5_v1 : Ref sig .tc := ⟨.hbm, 301, rfl⟩
abbrev main_call5_v2 : Ref sig .tc := ⟨.hbm, 302, rfl⟩
abbrev main_v236 : Ref sig .tc := ⟨.hbm, 303, rfl⟩
abbrev main_v237 : Ref sig .tc := ⟨.hbm, 304, rfl⟩
abbrev main_cst_36 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_cst_37 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_call6_v0 : Ref sig .tc := ⟨.hbm, 325, rfl⟩
abbrev main_call6_v1 : Ref sig .tc := ⟨.hbm, 326, rfl⟩
abbrev main_call6_cst : Ref sig .tc := ⟨.hbm, 327, rfl⟩
abbrev main_call6_v2 : Ref sig .tc := ⟨.hbm, 328, rfl⟩
abbrev main_call6_v3 : Ref sig .tc := ⟨.hbm, 329, rfl⟩
abbrev main_call6_cst_0 : Ref sig .tc := ⟨.hbm, 330, rfl⟩
abbrev main_call6_v4 : Ref sig .tc := ⟨.hbm, 331, rfl⟩
abbrev main_call6_v5 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_cst_38 : Ref sig .tc := ⟨.hbm, 337, rfl⟩
abbrev main_v260 : Ref sig .tc := ⟨.hbm, 338, rfl⟩
abbrev main_v261 : Ref sig .tc := ⟨.hbm, 339, rfl⟩
abbrev main_cst_39 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_cst_40 : Ref sig .tc := ⟨.hbm, 352, rfl⟩
abbrev main_v273 : Ref sig .tc := ⟨.hbm, 353, rfl⟩
abbrev main_v274 : Ref sig .tc := ⟨.hbm, 354, rfl⟩
abbrev main_cst_41 : Ref sig .tc := ⟨.hbm, 355, rfl⟩
abbrev main_v275 : Ref sig .tc := ⟨.hbm, 356, rfl⟩
abbrev main_v276 : Ref sig .tc := ⟨.hbm, 357, rfl⟩
abbrev main_cst_42 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩

abbrev nD : Nat := 1
abbrev τ : Topo := Topo.v7x

variable {F : FTy → Type} [FloatOps F]
-- ==== Proof.Math.lean ====
module

public import Idealize.ShloMosaic.Lib.Pointwise
public import Idealize.ShloMosaic.PureOps.Ideal.Laws
public import Mathlib.Data.EReal.Operations
public import Mathlib.Analysis.SpecialFunctions.Pow.Real

@[expose] public section

noncomputable section

namespace Layer

open Idealize.ShloMosaic

/-! ### Arrays read at natural-number positions (zero outside their extents) -/

/-- A rank-1 array at a natural-number position. -/
def rd1 {n0 : ℕ} (v : (⟨1, ![n0]⟩ : Shape).Idx → EReal) (a : ℕ) : EReal :=
  if h : a < n0 then v (ix1 ⟨a, h⟩) else 0

/-- A rank-2 array at natural-number positions. -/
def rd2 {n0 n1 : ℕ} (v : (⟨2, ![n0, n1]⟩ : Shape).Idx → EReal) (a b : ℕ) : EReal :=
  if h : a < n0 ∧ b < n1 then v (ix2 ⟨a, h.1⟩ ⟨b, h.2⟩) else 0

/-- A rank-3 array at natural-number positions. -/
def rd3 {n0 n1 n2 : ℕ} (v : (⟨3, ![n0, n1, n2]⟩ : Shape).Idx → EReal) (a b c : ℕ) : EReal :=
  if h : a < n0 ∧ b < n1 ∧ c < n2 then v (ix3 ⟨a, h.1⟩ ⟨b, h.2.1⟩ ⟨c, h.2.2⟩) else 0

theorem rd1_val {n0 : ℕ} (v : (⟨1, ![n0]⟩ : Shape).Idx → EReal) (a : Fin n0) :
    v (ix1 a) = rd1 v a.val := by
  simp [rd1]

theorem rd2_val {n0 n1 : ℕ} (v : (⟨2, ![n0, n1]⟩ : Shape).Idx → EReal) (a : Fin n0) (b : Fin n1) :
    v (ix2 a b) = rd2 v a.val b.val := by
  simp [rd2]

theorem rd3_val {n0 n1 n2 : ℕ} (v : (⟨3, ![n0, n1, n2]⟩ : Shape).Idx → EReal) (a : Fin n0) (b : Fin n1) (c : Fin n2) :
    v (ix3 a b c) = rd3 v a.val b.val c.val := by
  simp [rd3]

theorem rd1_idx {n0 : ℕ} (v : (⟨1, ![n0]⟩ : Shape).Idx → EReal) (i : (⟨1, ![n0]⟩ : Shape).Idx) :
    v i = rd1 v (i 0).val := by
  conv_lhs => rw [eq_ix1 i]
  exact rd1_val v _

theorem rd2_idx {n0 n1 : ℕ} (v : (⟨2, ![n0, n1]⟩ : Shape).Idx → EReal) (i : (⟨2, ![n0, n1]⟩ : Shape).Idx) :
    v i = rd2 v (i 0).val (i 1).val := by
  conv_lhs => rw [eq_ix2 i]
  exact rd2_val v _ _

theorem rd3_idx {n0 n1 n2 : ℕ} (v : (⟨3, ![n0, n1, n2]⟩ : Shape).Idx → EReal) (i : (⟨3, ![n0, n1, n2]⟩ : Shape).Idx) :
    v i = rd3 v (i 0).val (i 1).val (i 2).val := by
  conv_lhs => rw [eq_ix3 i]
  exact rd3_val v _ _ _

/-! ### Arithmetic of the extended reals -/

theorem sum_mul_right {ι : Type*} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

theorem sum_mul_left {ι : Type*} (s : Finset ι) (f : ι → EReal) (c : EReal) (h0 : 0 ≤ c) (ht : c ≠ ⊤) :
    c * (∑ i ∈ s, f i) = ∑ i ∈ s, c * f i := by
  rw [mul_comm, sum_mul_right s f c h0 ht]
  exact Finset.sum_congr rfl fun i _ => mul_comm _ _

/-- The factor that turns a power of `e` into a power of two. -/
def kap : ℝ := (Real.log 2)⁻¹

theorem log2_pos : 0 < Real.log 2 := Real.log_pos one_lt_two

theorem kap_pos : 0 < kap := inv_pos.mpr log2_pos

theorem kapE_nonneg : (0 : EReal) ≤ (kap : EReal) := by exact_mod_cast kap_pos.le

theorem kapE_ne_top : (kap : EReal) ≠ ⊤ := EReal.coe_ne_top _

/-- Two to the scaled exponent is `e` to the exponent. -/
theorem exp2_kap (x : EReal) : Ideal.exp2 ((kap : EReal) * x) = Ideal.exp x := by
  induction x with
  | bot => rw [EReal.coe_mul_bot_of_pos kap_pos]; rfl
  | top => rw [EReal.coe_mul_top_of_pos kap_pos]; rfl
  | coe r =>
    rw [← EReal.coe_mul]
    show ((Real.rpow 2 (kap * r) : ℝ) : EReal) = ((Real.exp r : ℝ) : EReal)
    congr 1
    show (2 : ℝ) ^ (kap * r) = Real.exp r
    rw [Real.rpow_def_of_pos two_pos]
    congr 1
    unfold kap
    field_simp [log2_pos.ne']

theorem kap_sub (a b : EReal) : (kap : EReal) * a - (kap : EReal) * b = (kap : EReal) * (a - b) := by
  rw [sub_eq_add_neg, sub_eq_add_neg, EReal.left_distrib_of_nonneg_of_ne_top kapE_nonneg kapE_ne_top, mul_neg]

theorem kap_mono : Monotone fun x : EReal => (kap : EReal) * x :=
  fun _ _ h => mul_le_mul_of_nonneg_left h kapE_nonneg

theorem kap_max (a b : EReal) : max ((kap : EReal) * a) ((kap : EReal) * b) = (kap : EReal) * max a b :=
  (kap_mono.map_max).symm

theorem kap_bot : (kap : EReal) * ⊥ = ⊥ := EReal.coe_mul_bot_of_pos kap_pos

theorem kap_sup {ι : Type*} (s : Finset ι) (f : ι → EReal) :
    (s.sup fun i => (kap : EReal) * f i) = (kap : EReal) * s.sup f := by
  classical
  induction s using Finset.induction_on with
  | empty => simp [kap_bot]
  | insert a s ha ih =>
    rw [Finset.sup_insert, Finset.sup_insert, ih]
    exact kap_max _ _

theorem exp_bot_sub (m : EReal) : Ideal.exp (⊥ - m) = 0 := by
  rw [EReal.bot_sub]; rfl

theorem exp2_bot_sub (m : EReal) : Ideal.exp2 (⊥ - m) = 0 := by
  rw [EReal.bot_sub]; rfl

/-! ### Sums and suprema over windows of positions -/

theorem sum_fin {n : ℕ} (f : ℕ → EReal) : (∑ k : Fin n, f k.val) = ∑ k ∈ Finset.range n, f k :=
  Fin.sum_univ_eq_sum_range f n

theorem sup_fin {n : ℕ} (f : ℕ → EReal) : (Finset.univ.sup fun k : Fin n => f k.val) = (Finset.range n).sup f := by
  apply le_antisymm
  · exact Finset.sup_le fun k _ => Finset.le_sup (f := f) (Finset.mem_range.mpr k.isLt)
  · exact Finset.sup_le fun k hk =>
      Finset.le_sup (f := fun k : Fin n => f k.val) (Finset.mem_univ (⟨k, Finset.mem_range.mp hk⟩ : Fin n))

theorem fold_max_fin {n : ℕ} (f : ℕ → EReal) :
    (Finset.univ.fold max ⊥ fun k : Fin n => f k.val) = (Finset.range n).sup f := sup_fin f

/-- The positions of a key window of 384 around the 128 rows from `B`: a sum over the window's positions that lie in the
    sequence and near the row is the sum over the sequence's near positions. -/
theorem window_sum (B S t : ℕ) (F : ℕ → EReal) (hB : B ≤ t) (ht : t < B + 128) :
    (∑ n ∈ Finset.range 384, if 128 ≤ B + n ∧ B + n - 128 < S ∧ t ≤ B + n - 128 + 128 ∧ B + n - 128 ≤ t + 128 then F (B + n - 128) else 0)
      = ∑ s ∈ Finset.range S, if t ≤ s + 128 ∧ s ≤ t + 128 then F s else 0 := by
  rw [← Finset.sum_filter, ← Finset.sum_filter]
  refine Finset.sum_nbij' (fun n => B + n - 128) (fun s => s + 128 - B) ?_ ?_ ?_ ?_ ?_
  · intro n hn; simp only [Finset.mem_filter, Finset.mem_range] at hn ⊢; omega
  · intro s hs; simp only [Finset.mem_filter, Finset.mem_range] at hs ⊢; omega
  · intro n hn; simp only [Finset.mem_filter, Finset.mem_range] at hn; omega
  · intro s hs; simp only [Finset.mem_filter, Finset.mem_range] at hs; omega
  · intro n hn; rfl

theorem window_sup (B S t : ℕ) (F : ℕ → EReal) (hB : B ≤ t) (ht : t < B + 128) :
    ((Finset.range 384).sup fun n => if 128 ≤ B + n ∧ B + n - 128 < S ∧ t ≤ B + n - 128 + 128 ∧ B + n - 128 ≤ t + 128 then F (B + n - 128) else ⊥)
      = (Finset.range S).sup fun s => if t ≤ s + 128 ∧ s ≤ t + 128 then F s else ⊥ := by
  apply le_antisymm
  · refine Finset.sup_le fun n hn => ?_
    split
    · rename_i h
      refine le_trans ?_ (Finset.le_sup (f := fun s => if t ≤ s + 128 ∧ s ≤ t + 128 then F s else ⊥)
        (Finset.mem_range.mpr h.2.1))
      rw [if_pos ⟨h.2.2.1, h.2.2.2⟩]
    · exact bot_le
  · refine Finset.sup_le fun s hs => ?_
    rw [Finset.mem_range] at hs
    split
    · rename_i h
      have hn : s + 128 - B ∈ Finset.range 384 := by rw [Finset.mem_range]; omega
      refine le_trans ?_ (Finset.le_sup (f := fun n => if 128 ≤ B + n ∧ B + n - 128 < S ∧ t ≤ B + n - 128 + 128 ∧ B + n - 128 ≤ t + 128 then F (B + n - 128) else ⊥) hn)
      have e : B + (s + 128 - B) - 128 = s := by omega
      simp only [e]
      rw [if_pos (by omega)]
    · exact bot_le

/-- A supremum over 384 positions taken lane by lane over three chunks of 128. -/
theorem sup_chunks (f : ℕ → EReal) :
    ((Finset.range 128).sup fun l => max (max (f l) (f (128 + l))) (f (256 + l))) = (Finset.range 384).sup f := by
  apply le_antisymm
  · refine Finset.sup_le fun l hl => ?_
    rw [Finset.mem_range] at hl
    refine max_le (max_le ?_ ?_) ?_ <;>
      exact Finset.le_sup (f := f) (Finset.mem_range.mpr (by omega))
  · refine Finset.sup_le fun n hn => ?_
    rw [Finset.mem_range] at hn
    by_cases h1 : n < 128
    · refine le_trans ?_ (Finset.le_sup (f := fun l => max (max (f l) (f (128 + l))) (f (256 + l))) (Finset.mem_range.mpr h1))
      exact le_max_of_le_left (le_max_left _ _)
    by_cases h2 : n < 256
    · refine le_trans ?_ (Finset.le_sup (f := fun l => max (max (f l) (f (128 + l))) (f (256 + l))) (Finset.mem_range.mpr (show n - 128 < 128 by omega)))
      have e : 128 + (n - 128) = n := by omega
      simp only [e]
      exact le_max_of_le_left (le_max_right _ _)
    · refine le_trans ?_ (Finset.le_sup (f := fun l => max (max (f l) (f (128 + l))) (f (256 + l))) (Finset.mem_range.mpr (show n - 256 < 128 by omega)))
      have e : 256 + (n - 256) = n := by omega
      simp only [e]
      exact le_max_right _ _

/-- A sum over a window of `w` positions around `t`, zero outside the sequence, against the sum over the whole sequence
    with the window's 0/1 indicator. -/
theorem pool_sum (S t lo w : ℕ) (u : ℕ → EReal) :
    (∑ s ∈ Finset.range S, u s * (if t ≤ s + lo ∧ s + lo < t + w then (1 : EReal) else 0))
      = ∑ j ∈ Finset.range w, if lo ≤ t + j ∧ t + j - lo < S then u (t + j - lo) else 0 := by
  have e : ∀ s, u s * (if t ≤ s + lo ∧ s + lo < t + w then (1 : EReal) else 0)
      = if t ≤ s + lo ∧ s + lo < t + w then u s else 0 := fun s => by split <;> simp
  simp only [e]
  rw [← Finset.sum_filter, ← Finset.sum_filter]
  refine Finset.sum_nbij' (fun s => s + lo - t) (fun j => t + j - lo) ?_ ?_ ?_ ?_ ?_
  · intro n hn; simp only [Finset.mem_filter, Finset.mem_range] at hn ⊢; omega
  · intro s hs; simp only [Finset.mem_filter, Finset.mem_range] at hs ⊢; omega
  · intro n hn; simp only [Finset.mem_filter, Finset.mem_range] at hn; omega
  · intro s hs; simp only [Finset.mem_filter, Finset.mem_range] at hs; omega
  · intro n hn; simp only [Finset.mem_filter, Finset.mem_range] at hn ⊢; congr 1; omega

/-! ### One row of one head -/

/-- The logit of a row for key `s`: the scaled score of a key at most 128 positions away, minus infinity for another. -/
def logit (t : ℕ) (sc : ℕ → EReal) (s : ℕ) : EReal := if t ≤ s + 128 ∧ s ≤ t + 128 then sc s else ⊥

/-- The largest of a row's logits and the head's sink. -/
def rowTop (S t : ℕ) (sc : ℕ → EReal) (sk : EReal) : EReal := max ((Finset.range S).sup (logit t sc)) sk

/-- The softmax-weighted mean of a row's values with the sink in the denominator. -/
def attRow (S t : ℕ) (sc : ℕ → EReal) (sk : EReal) (v : ℕ → EReal) : EReal :=
  Ideal.div (∑ s ∈ Finset.range S, Ideal.exp (logit t sc s - rowTop S t sc sk) * v s)
    ((∑ s ∈ Finset.range S, Ideal.exp (logit t sc s - rowTop S t sc sk)) + Ideal.exp (sk - rowTop S t sc sk))

/-- A key chunk's score after the tile's masks. -/
def chunk (ok0 ok2 : ℕ → Prop) [DecidablePred ok0] [DecidablePred ok2] (f : ℕ → EReal) (n : ℕ) : EReal :=
  if n < 128 then (if ok0 n then f n else ⊥) else if n < 256 then f n else (if ok2 n then f n else ⊥)

section Row
variable (B S t : ℕ) (sc : ℕ → EReal) (sk : EReal) (v : ℕ → EReal)
  (ok0 ok2 : ℕ → Prop) [DecidablePred ok0] [DecidablePred ok2] (f : ℕ → EReal) (V : ℕ → EReal)

theorem chunk_eq (hB : B ≤ t) (ht : t < B + 128) (hBS : B + 128 ≤ S) (hB128 : 128 ∣ B) (hS128 : 128 ∣ S)
    (h0 : ∀ n, n < 128 → (ok0 n ↔ (t - B ≤ n ∧ B ≠ 0)))
    (h2 : ∀ n, 256 ≤ n → n < 384 → (ok2 n ↔ (n - 256 ≤ t - B ∧ B + 128 ≠ S)))
    (hf : ∀ n, n < 384 → 128 ≤ B + n → B + n - 128 < S → f n = (kap : EReal) * sc (B + n - 128))
    (n : ℕ) (hn : n < 384) :
    chunk ok0 ok2 f n
      = if 128 ≤ B + n ∧ B + n - 128 < S ∧ t ≤ B + n - 128 + 128 ∧ B + n - 128 ≤ t + 128 then (kap : EReal) * sc (B + n - 128) else ⊥ := by
  unfold chunk
  by_cases c1 : n < 128
  · rw [if_pos c1]
    by_cases ho : ok0 n
    · have := (h0 n c1).mp ho
      rw [if_pos ho, if_pos (by omega), hf n hn (by omega) (by omega)]
    · have h' : ¬ (t - B ≤ n ∧ B ≠ 0) := fun h => ho ((h0 n c1).mpr h)
      rw [if_neg ho, if_neg (by omega)]
  · rw [if_neg c1]
    by_cases c2 : n < 256
    · rw [if_pos c2, if_pos (by omega), hf n hn (by omega) (by omega)]
    · rw [if_neg c2]
      by_cases ho : ok2 n
      · have := (h2 n (by omega) hn).mp ho
        rw [if_pos ho, if_pos (by omega), hf n hn (by omega) (by omega)]
      · have h' : ¬ (n - 256 ≤ t - B ∧ B + 128 ≠ S) := fun h => ho ((h2 n (by omega) hn).mpr h)
        rw [if_neg ho, if_neg (by omega)]

/-- The tile's row: the weights as powers of two of scores scaled by `1/ln 2`, the maximum taken lane by lane over the three
    chunks, against the row of the whole sequence. -/
theorem row_eq (hB : B ≤ t) (ht : t < B + 128) (hBS : B + 128 ≤ S) (hB128 : 128 ∣ B) (hS128 : 128 ∣ S)
    (h0 : ∀ n, n < 128 → (ok0 n ↔ (t - B ≤ n ∧ B ≠ 0)))
    (h2 : ∀ n, 256 ≤ n → n < 384 → (ok2 n ↔ (n - 256 ≤ t - B ∧ B + 128 ≠ S)))
    (hf : ∀ n, n < 384 → 128 ≤ B + n → B + n - 128 < S → f n = (kap : EReal) * sc (B + n - 128))
    (hV : ∀ n, n < 384 → 128 ≤ B + n → B + n - 128 < S → V n = v (B + n - 128))
    (m' : EReal)
    (hm : m' = max ((Finset.range 128).sup fun l => max (max (chunk ok0 ok2 f l) (chunk ok0 ok2 f (128 + l))) (chunk ok0 ok2 f (256 + l)))
      ((kap : EReal) * sk)) :
    Ideal.div (∑ n ∈ Finset.range 384, Ideal.exp2 (chunk ok0 ok2 f n - m') * V n)
      ((∑ n ∈ Finset.range 384, Ideal.exp2 (chunk ok0 ok2 f n - m')) + Ideal.exp2 ((kap : EReal) * sk - m'))
      = attRow S t sc sk v := by
  have hch := chunk_eq B S t sc ok0 ok2 f hB ht hBS hB128 hS128 h0 h2 hf
  have hm' : m' = (kap : EReal) * rowTop S t sc sk := by
    rw [hm, sup_chunks, rowTop, ← kap_max]
    congr 1
    rw [← kap_sup]
    rw [Finset.sup_congr rfl (fun n hn => hch n (Finset.mem_range.mp hn)), window_sup B S t (fun s => (kap : EReal) * sc s) hB ht]
    refine Finset.sup_congr rfl fun s _ => ?_
    unfold logit
    split
    · rfl
    · exact kap_bot.symm
  have hp : ∀ n, n < 384 → Ideal.exp2 (chunk ok0 ok2 f n - m')
      = if 128 ≤ B + n ∧ B + n - 128 < S ∧ t ≤ B + n - 128 + 128 ∧ B + n - 128 ≤ t + 128 then
          Ideal.exp (sc (B + n - 128) - rowTop S t sc sk) else 0 := by
    intro n hn
    rw [hch n hn, hm']
    split
    · rw [kap_sub, exp2_kap]
    · exact exp2_bot_sub _
  have he : ∀ s, Ideal.exp (logit t sc s - rowTop S t sc sk)
      = if t ≤ s + 128 ∧ s ≤ t + 128 then Ideal.exp (sc s - rowTop S t sc sk) else 0 := by
    intro s
    unfold logit
    split
    · rfl
    · exact exp_bot_sub _
  unfold attRow
  congr 1
  · rw [Finset.sum_congr rfl (g := fun n => if 128 ≤ B + n ∧ B + n - 128 < S ∧ t ≤ B + n - 128 + 128 ∧ B + n - 128 ≤ t + 128 then
        Ideal.exp (sc (B + n - 128) - rowTop S t sc sk) * v (B + n - 128) else 0)
      (fun n hn => by
        have hn' := Finset.mem_range.mp hn
        rw [hp n hn']
        split
        · rename_i h; rw [hV n hn' h.1 h.2.1]
        · rw [zero_mul])]
    rw [window_sum B S t (fun s => Ideal.exp (sc s - rowTop S t sc sk) * v s) hB ht]
    refine Finset.sum_congr rfl fun s _ => ?_
    rw [he s]
    split
    · rfl
    · rw [zero_mul]
  · congr 1
    · rw [Finset.sum_congr rfl (fun n hn => hp n (Finset.mem_range.mp hn)),
        window_sum B S t (fun s => Ideal.exp (sc s - rowTop S t sc sk)) hB ht]
      exact Finset.sum_congr rfl fun s _ => (he s).symm
    · rw [hm', kap_sub, exp2_kap]

end Row

end Layer

end
-- ==== Proof.Spec.lean ====
module

public import proofs.«01_k».proof.Proof.Math

@[expose] public section

noncomputable section

namespace Layer

open Idealize.ShloMosaic

/-! ### The layer as functions of natural-number positions -/

/-- The layer's arrays. -/
structure In where
  /-- the residual stream -/
  x : ℕ → ℕ → ℕ → EReal
  /-- the first norm's gain -/
  g : ℕ → EReal
  /-- the input projection -/
  w : ℕ → ℕ → EReal
  /-- the pooling groups' mixing matrices -/
  wpg : ℕ → ℕ → ℕ → EReal
  /-- the pooling branch's gain -/
  ps : ℕ → EReal
  /-- the pooling branch's projection -/
  wpp : ℕ → ℕ → EReal
  /-- the heads' sinks -/
  sk : ℕ → EReal
  /-- the attention branch's projection -/
  wap : ℕ → ℕ → EReal
  /-- the output projection -/
  wo : ℕ → ℕ → EReal
  /-- the last norm's gain -/
  gp : ℕ → EReal

/-- The logistic function. -/
def sg (z : EReal) : EReal := Ideal.div 1 (1 + Ideal.exp (-z))

/-- The gated activation. -/
def silu (z : EReal) : EReal := z * sg z

/-- A row scaled by the reciprocal root of its mean square, then by the gain. -/
def rms (f g : ℕ → EReal) (k : ℕ) : EReal :=
  f k * Ideal.rsqrt (Ideal.div (∑ j ∈ Finset.range 1024, f j * f j) (Ideal.ofBits .f32 0x44800000#32) + Ideal.ofBits .f32 0x358637BD#32) * g k

theorem rms_fin (f g : ℕ → EReal) (k : ℕ) : rms f g k = f k * Ideal.rsqrt (Ideal.div (∑ j : Fin 1024, f j.val * f j.val) (Ideal.ofBits .f32 0x44800000#32) + Ideal.ofBits .f32 0x358637BD#32) * g k := by
  rw [rms, ← sum_fin (fun j => f j * f j)]

/-- A position's rotation angle in a frequency. -/
def ang (t j : ℕ) : EReal :=
  ((t : ℝ) : EReal) * Ideal.pow (Ideal.ofBits .f32 0x461C4000#32) (Ideal.div (-((j : ℝ) : EReal)) (Ideal.ofBits .f32 0x42000000#32))

/-- The rotary embedding of one head's 64 lanes. -/
def rot (f : ℕ → EReal) (t l : ℕ) : EReal :=
  if l < 32 then f l * Ideal.cos (ang t l) - f (l + 32) * Ideal.sin (ang t l)
  else f l * Ideal.cos (ang t (l - 32)) + f (l - 32) * Ideal.sin (ang t (l - 32))

section
variable (S : ℕ) (I : In)

/-- The normed row. -/
def hN (b t k : ℕ) : EReal := rms (I.x b t) I.g k

/-- The input projection. -/
def zP (b t c : ℕ) : EReal := ∑ k ∈ Finset.range 1024, hN I b t k * I.w k c

/-- A query lane. -/
def qR (b t hd l : ℕ) : EReal := rot (fun l => zP I b t (2048 + hd * 64 + l)) t l

/-- A key lane. -/
def kR (b t hk l : ℕ) : EReal := rot (fun l => zP I b t (3072 + hk * 64 + l)) t l

/-- A value lane. -/
def vV (b t hk l : ℕ) : EReal := zP I b t (3328 + hk * 64 + l)

/-- A scaled score. -/
def scS (b t hd s : ℕ) : EReal :=
  (∑ d ∈ Finset.range 64, qR I b t hd d * kR I b s (hd / 4) d) * Ideal.ofBits .f32 0x3E000000#32

/-- A lane of the attention. -/
def att (b t hd l : ℕ) : EReal := attRow S t (scS I b t hd) (I.sk hd) (fun s => vV I b s (hd / 4) l)

/-- The gated attention. -/
def abG (b t c : ℕ) : EReal := att S I b t (c / 64) (c % 64) * silu (zP I b t (3584 + c))

/-- Half the window of a pooling group. -/
def hw (g : ℕ) : ℕ := 2 ^ g

/-- The number of a window's positions inside the sequence. -/
def cnt (g t : ℕ) : EReal := (((min (t + hw g) S - (t - hw g) : ℕ) : ℝ) : EReal)

/-- The sum over a window's positions inside the sequence. -/
def total (b t c : ℕ) : EReal :=
  ∑ j ∈ Finset.range (2 * hw (c / 256)), if hw (c / 256) ≤ t + j ∧ t + j - hw (c / 256) < S then zP I b (t + j - hw (c / 256)) c else 0

/-- The window mean minus the token. -/
def pooled (b t c : ℕ) : EReal := Ideal.div (total S I b t c) (cnt S (c / 256) t) - zP I b t c

/-- The gated pooling branch. -/
def pbG (b t c : ℕ) : EReal :=
  (∑ k ∈ Finset.range 256, pooled S I b t (c / 256 * 256 + k) * I.wpg (c / 256) k (c % 256)) * I.ps c * silu (zP I b t (1024 + c))

/-- The merged branches. -/
def mrg (b t c : ℕ) : EReal :=
  sg (zP I b t (4608 + c)) * (∑ k ∈ Finset.range 1024, pbG S I b t k * I.wpp k c)
    + sg (zP I b t (5632 + c)) * (∑ k ∈ Finset.range 1024, abG S I b t k * I.wap k c)

/-- The output projection. -/
def outP (b t c : ℕ) : EReal := ∑ k ∈ Finset.range 1024, mrg S I b t k * I.wo k c

/-- The layer's result. -/
def res (b t c : ℕ) : EReal := I.x b t c + rms (outP S I b t) I.gp c

end

end Layer

end
-- ==== Proof.Item.lean ====
module

public import proofs.«01_k».proof.Proof.Gen.KernelIdeal
public import proofs.«01_k».proof.Proof.Math

@[expose] public section

set_option maxRecDepth 16384

noncomputable section

namespace Cert.KernelIdeal.Val

open Idealize.ShloMosaic Layer Facts₀ Facts

/-! ### One query block of one key head: two pairs of heads against their key window -/

theorem lt256 (l : Fin 128) : l.val < 256 := by omega

theorem lt256' (l : Fin 128) : 128 + l.val < 256 := by omega

/-- The scores of both pairs (rows) against both half-lane key copies (columns). -/
def scoreT (q0 q1 : Vec Ideal S1x128x128 .bf16) (ka kb : Vec Ideal S128x384 .bf16) : FVec Ideal S256x768 .f32 :=
  matmul dot_S256x128_S128x768_S256x768_1_0_0_1_n_n none
    (concatenate S256x128 0 [⟨S128x128, shapeCast S128x128 q0 shapeCasts_S1x128x128_S128x128⟩, ⟨S128x128, shapeCast S128x128 q1 shapeCasts_S1x128x128_S128x128⟩] concatenates_S128x128_S128x128_S256x128_d0 : FVec Ideal S256x128 .bf16)
    (concatenate S128x768 1 [⟨S128x384, ka⟩, ⟨S128x384, kb⟩] concatenates_S128x384_S128x384_S128x768_d1 : FVec Ideal S128x768 .bf16)
    (constant S256x768 .f32 0x00000000#32)

def ch0 (m0 : IVec S128x128 1) (b : FVec Ideal S128x384 .f32) : FVec Ideal S128x128 .f32 :=
  select m0 (extractStridedSlice S128x128 ![0, 0] b slices_S128x384_o0_0_S128x128) (broadcast S128x128 (Named.named κ "mask" 0xF149F2CA#32))

def ch1 (b : FVec Ideal S128x384 .f32) : FVec Ideal S128x128 .f32 :=
  extractStridedSlice S128x128 ![0, 128] b slices_S128x384_o0_128_S128x128

def ch2 (m2 : IVec S128x128 1) (b : FVec Ideal S128x384 .f32) : FVec Ideal S128x128 .f32 :=
  select m2 (extractStridedSlice S128x128 ![0, 256] b slices_S128x384_o0_256_S128x128) (broadcast S128x128 (Named.named κ "mask" 0xF149F2CA#32))

def snk (k : Vec Ideal S1x128 .f32) : FVec Ideal S1x128 .f32 :=
  mulf (F := Ideal) (s := S1x128) (φ := .f32) (shapeCast S1x128 k shapeCasts_S1x128_S1x128) (broadcast S1x128 (Named.named κ "log2_e" 0x3FB8AA3B#32))

def topT (m0 m2 : IVec S128x128 1) (b : FVec Ideal S128x384 .f32) (k : Vec Ideal S1x128 .f32) : FVec Ideal S128x128 .f32 :=
  maximumf (broadcastTo S128x128 (shapeCast S128x1 (multiReduction .maximumf [1] S128 (maximumf (maximumf (ch0 m0 b) (ch1 b)) (ch2 m2 b)) 0xFF800000#32 reduces_S128x128_S128 (.inl rfl) rfl) shapeCasts_S128_S128x1) broadcasts_S128x1_S128x128)
    (broadcastTo S128x128 (snk k) broadcasts_S1x128_S128x128)

def pw (c t : FVec Ideal S128x128 .f32) : FVec Ideal S128x128 .bf16 := truncf .bf16 (exp2 (subf c t)) bitsLt_bf16_f32

def sinkT (m0 m2 : IVec S128x128 1) (b : FVec Ideal S128x384 .f32) (k : Vec Ideal S1x128 .f32) : FVec Ideal S128x128 .f32 :=
  exp2 (subf (broadcastTo S128x128 (snk k) broadcasts_S1x128_S128x128) (topT m0 m2 b k))

/-- The weights of one pair of heads. -/
def pairT (m0 m2 : IVec S128x128 1) (b b' : FVec Ideal S128x384 .f32) (k k' : Vec Ideal S1x128 .f32) : FVec Ideal S128x768 .bf16 :=
  concatenate S128x768 1 [⟨S128x128, pw (ch0 m0 b) (topT m0 m2 b k)⟩, ⟨S128x128, pw (ch1 b) (topT m0 m2 b k)⟩, ⟨S128x128, pw (ch2 m2 b) (topT m0 m2 b k)⟩,
    ⟨S128x128, pw (ch0 m0 b') (topT m0 m2 b' k')⟩, ⟨S128x128, pw (ch1 b') (topT m0 m2 b' k')⟩, ⟨S128x128, pw (ch2 m2 b') (topT m0 m2 b' k')⟩]
    concatenates_S128x128_S128x128_S128x128_S128x128_S128x128_S128x128_S128x768_d1

/-- The weighted sums of both pairs. -/
def outT (P0 P1 : FVec Ideal S128x768 .bf16) (va vb : Vec Ideal S384x256 .bf16) : FVec Ideal S256x256 .f32 :=
  matmul dot_S256x768_S768x256_S256x256_1_0_0_1_n_n none
    (concatenate S256x768 0 [⟨S128x768, P0⟩, ⟨S128x768, P1⟩] concatenates_S128x768_S128x768_S256x768_d0)
    (concatenate S768x256 0 [⟨S384x256, va⟩, ⟨S384x256, vb⟩] concatenates_S384x256_S384x256_S768x256_d0 : FVec Ideal S768x256 .bf16)
    (constant S256x256 .f32 0x00000000#32)

def sl00 (s : FVec Ideal S256x768 .f32) : FVec Ideal S128x384 .f32 := extractStridedSlice S128x384 ![0, 0] s slices_S256x768_o0_0_S128x384
def sl01 (s : FVec Ideal S256x768 .f32) : FVec Ideal S128x384 .f32 := extractStridedSlice S128x384 ![0, 384] s slices_S256x768_o0_384_S128x384
def sl10 (s : FVec Ideal S256x768 .f32) : FVec Ideal S128x384 .f32 := extractStridedSlice S128x384 ![128, 0] s slices_S256x768_o128_0_S128x384
def sl11 (s : FVec Ideal S256x768 .f32) : FVec Ideal S128x384 .f32 := extractStridedSlice S128x384 ![128, 384] s slices_S256x768_o128_384_S128x384

def lowT : IVec S128x128 1 := cmpi .slt (iota .tc S128x128 32 [1] iota_S128x128_d1_w32) (broadcast S128x128 64#32)

def finT (num den st : FVec Ideal S128x128 .f32) (ag : Vec Ideal S1x128x128 .bf16) : FVec Ideal S128x128 .bf16 :=
  shapeCast S128x128 (truncf .bf16 (mulf (divf num (addf den st)) (extf .f32 (shapeCast S128x128 ag shapeCasts_S1x128x128_S128x128) bitsLt_bf16_f32)) bitsLt_bf16_f32 : FVec Ideal S128x128 .bf16) shapeCasts_S128x128_S128x128

/-- The first pair's gated block. -/
def item0 (m0 m2 : IVec S128x128 1) (q0 q1 : Vec Ideal S1x128x128 .bf16) (ka kb : Vec Ideal S128x384 .bf16) (va vb : Vec Ideal S384x256 .bf16)
    (k0 k1 k2 k3 : Vec Ideal S1x128 .f32) (ag : Vec Ideal S1x128x128 .bf16) : FVec Ideal S128x128 .bf16 :=
  let s := scoreT q0 q1 ka kb
  let o := outT (pairT m0 m2 (sl00 s) (sl01 s) k0 k1) (pairT m0 m2 (sl10 s) (sl11 s) k2 k3) va vb
  finT (extractStridedSlice S128x128 ![0, 0] o slices_S256x256_o0_0_S128x128) (extractStridedSlice S128x128 ![0, 128] o slices_S256x256_o0_128_S128x128)
    (select lowT (sinkT m0 m2 (sl00 s) k0) (sinkT m0 m2 (sl01 s) k1)) ag

/-- The second pair's gated block. -/
def item1 (m0 m2 : IVec S128x128 1) (q0 q1 : Vec Ideal S1x128x128 .bf16) (ka kb : Vec Ideal S128x384 .bf16) (va vb : Vec Ideal S384x256 .bf16)
    (k0 k1 k2 k3 : Vec Ideal S1x128 .f32) (ag : Vec Ideal S1x128x128 .bf16) : FVec Ideal S128x128 .bf16 :=
  let s := scoreT q0 q1 ka kb
  let o := outT (pairT m0 m2 (sl00 s) (sl01 s) k0 k1) (pairT m0 m2 (sl10 s) (sl11 s) k2 k3) va vb
  finT (extractStridedSlice S128x128 ![128, 0] o slices_S256x256_o128_0_S128x128) (extractStridedSlice S128x128 ![128, 128] o slices_S256x256_o128_128_S128x128)
    (select lowT (sinkT m0 m2 (sl10 s) k2) (sinkT m0 m2 (sl11 s) k3)) ag

section
variable (m0 m2 : IVec S128x128 1) (q0 q1 : Vec Ideal S1x128x128 .bf16) (ka kb : Vec Ideal S128x384 .bf16) (va vb : Vec Ideal S384x256 .bf16)
    (k0 k1 k2 k3 : Vec Ideal S1x128 .f32) (ag : Vec Ideal S1x128x128 .bf16) (b b' : FVec Ideal S128x384 .f32)

theorem sl00_at (a : Fin 128) (n : Fin 384) : sl00 (scoreT q0 q1 ka kb) (ix2 a n) = ∑ j : Fin 128, q0 (ix3 0 a j) * ka (ix2 j n) := by
  pointwise! [sl00, scoreT]

theorem sl01_at (a : Fin 128) (n : Fin 384) : sl01 (scoreT q0 q1 ka kb) (ix2 a n) = ∑ j : Fin 128, q0 (ix3 0 a j) * kb (ix2 j n) := by
  pointwise! [sl01, scoreT]

theorem sl10_at (a : Fin 128) (n : Fin 384) : sl10 (scoreT q0 q1 ka kb) (ix2 a n) = ∑ j : Fin 128, q1 (ix3 0 a j) * ka (ix2 j n) := by
  pointwise! [sl10, scoreT]

theorem sl11_at (a : Fin 128) (n : Fin 384) : sl11 (scoreT q0 q1 ka kb) (ix2 a n) = ∑ j : Fin 128, q1 (ix3 0 a j) * kb (ix2 j n) := by
  pointwise! [sl11, scoreT]

theorem negInf : Ideal.ofBits .f32 0xFF800000#32 = ⊥ := by
  simp [Ideal.ofBits, Ideal.ieee]

theorem mask_named : (Named.named κ "mask" 0xF149F2CA#32 : Ideal .f32) = ⊥ := IdealRules.named_const.ideal_named_scalar _ _ _ _ rfl

theorem log_named : (Named.named κ "log2_e" 0x3FB8AA3B#32 : Ideal .f32) = (kap : EReal) := IdealRules.named_const.ideal_named_scalar _ _ _ _ rfl

theorem sel (c : BitVec 1) (x y : EReal) (p : Prop) [Decidable p] (h : c = 1#1 ↔ p) : Scalar.select c x y = if p then x else y := by
  unfold Scalar.select
  by_cases hp : p
  · rw [if_pos hp]; simp [h.mpr hp]
  · rw [if_neg hp]
    have : ¬ c = 1#1 := fun e => hp (h.mp e)
    simp [this]

theorem ch0_at (a l : Fin 128) : ch0 m0 b (ix2 a l) = Scalar.select (m0 (ix2 a l)) (rd2 (n0 := 128) (n1 := 384) b a.val l.val) ⊥ := by
  rw [← mask_named]
  pointwise [ch0]
  rw [rd2_val (n0 := 128) (n1 := 384) b]

theorem ch1_at (a l : Fin 128) : ch1 b (ix2 a l) = rd2 (n0 := 128) (n1 := 384) b a.val (128 + l.val) := by
  pointwise [ch1]
  rw [rd2_val (n0 := 128) (n1 := 384) b]

theorem ch2_at (a l : Fin 128) : ch2 m2 b (ix2 a l) = Scalar.select (m2 (ix2 a l)) (rd2 (n0 := 128) (n1 := 384) b a.val (256 + l.val)) ⊥ := by
  rw [← mask_named]
  pointwise [ch2]
  rw [rd2_val (n0 := 128) (n1 := 384) b]

theorem snk_at (l : Fin 128) : snk k0 (ix2 0 l) = (kap : EReal) * k0 (ix2 0 l) := by
  rw [← log_named, mul_comm]
  pointwise [snk]

theorem top_gen (a l : Fin 128) : topT m0 m2 b k0 (ix2 a l)
    = max (Finset.univ.fold max ⊥ fun x : Fin 128 => max (max (ch0 m0 b (ix2 a x)) (ch1 b (ix2 a x))) (ch2 m2 b (ix2 a x))) (snk k0 (ix2 0 l)) := by
  pointwise [topT]
  rw [show Ideal.ofBits .f32 0xFF800000#32 = ⊥ from negInf]

theorem pw_at (c t : FVec Ideal S128x128 .f32) (a l : Fin 128) : pw c t (ix2 a l) = Ideal.exp2 (c (ix2 a l) - t (ix2 a l)) := by
  pointwise [pw]
  rfl

theorem sink_at (a l : Fin 128) : sinkT m0 m2 b k0 (ix2 a l) = Ideal.exp2 (snk k0 (ix2 0 l) - topT m0 m2 b k0 (ix2 a l)) := by
  pointwise [sinkT]
  rfl

/-- A pair's weights in the first head's columns. -/
theorem pair_lo (a : Fin 128) (n : Fin 384) : pairT m0 m2 b b' k0 k1 (ix2 a ⟨n.val, by omega⟩)
    = if h : n.val < 128 then pw (ch0 m0 b) (topT m0 m2 b k0) (ix2 a ⟨n.val, h⟩)
      else if h : n.val - 128 < 128 then pw (ch1 b) (topT m0 m2 b k0) (ix2 a ⟨n.val - 128, h⟩)
      else pw (ch2 m2 b) (topT m0 m2 b k0) (ix2 a ⟨n.val - 128 - 128, by omega⟩) := by
  pointwise [pairT]
  split
  · rfl
  split
  · rfl
  rw [dif_pos (by omega)]

/-- A pair's weights in the second head's columns. -/
theorem pair_hi (a : Fin 128) (n : Fin 384) : pairT m0 m2 b b' k0 k1 (ix2 a ⟨384 + n.val, by omega⟩)
    = if h : n.val < 128 then pw (ch0 m0 b') (topT m0 m2 b' k1) (ix2 a ⟨n.val, h⟩)
      else if h : n.val - 128 < 128 then pw (ch1 b') (topT m0 m2 b' k1) (ix2 a ⟨n.val - 128, h⟩)
      else pw (ch2 m2 b') (topT m0 m2 b' k1) (ix2 a ⟨n.val - 128 - 128, by omega⟩) := by
  pointwise [pairT]
  rw [dif_neg (by omega), dif_neg (by omega), dif_neg (by omega)]
  have e : ∀ (f : FVec Ideal S128x128 .bf16) (x y : ℕ) (hx : x < 128) (hy : y < 128), x = y → f (ix2 a ⟨x, hx⟩) = f (ix2 a ⟨y, hy⟩) := by
    intro f x y hx hy h; subst h; rfl
  by_cases h1 : n.val < 128
  · rw [dif_pos (by omega), dif_pos h1]; exact e _ _ _ _ _ (by omega)
  rw [dif_neg (by omega), dif_neg h1]
  by_cases h2 : n.val - 128 < 128
  · rw [dif_pos (by omega), dif_pos h2]; exact e _ _ _ _ _ (by omega)
  rw [dif_neg (by omega), dif_neg h2]
  exact e _ _ _ _ _ (by omega)

theorem o00 (P0 P1 : FVec Ideal S128x768 .bf16) (a l : Fin 128) :
    extractStridedSlice S128x128 ![0, 0] (outT P0 P1 va vb) slices_S256x256_o0_0_S128x128 (ix2 a l)
      = ∑ x : Fin 384, P0 (ix2 a ⟨x.val, by omega⟩) * va (ix2 x ⟨l.val, by omega⟩) + ∑ x : Fin 384, P0 (ix2 a ⟨384 + x.val, by omega⟩) * vb (ix2 x ⟨l.val, by omega⟩) := by
  pointwise! [outT]

theorem o01 (P0 P1 : FVec Ideal S128x768 .bf16) (a l : Fin 128) :
    extractStridedSlice S128x128 ![0, 128] (outT P0 P1 va vb) slices_S256x256_o0_128_S128x128 (ix2 a l)
      = ∑ x : Fin 384, P0 (ix2 a ⟨x.val, by omega⟩) * va (ix2 x ⟨128 + l.val, by omega⟩) + ∑ x : Fin 384, P0 (ix2 a ⟨384 + x.val, by omega⟩) * vb (ix2 x ⟨128 + l.val, by omega⟩) := by
  pointwise! [outT]

theorem o10 (P0 P1 : FVec Ideal S128x768 .bf16) (a l : Fin 128) :
    extractStridedSlice S128x128 ![128, 0] (outT P0 P1 va vb) slices_S256x256_o128_0_S128x128 (ix2 a l)
      = ∑ x : Fin 384, P1 (ix2 a ⟨x.val, by omega⟩) * va (ix2 x ⟨l.val, by omega⟩) + ∑ x : Fin 384, P1 (ix2 a ⟨384 + x.val, by omega⟩) * vb (ix2 x ⟨l.val, by omega⟩) := by
  pointwise! [outT]

theorem o11 (P0 P1 : FVec Ideal S128x768 .bf16) (a l : Fin 128) :
    extractStridedSlice S128x128 ![128, 128] (outT P0 P1 va vb) slices_S256x256_o128_128_S128x128 (ix2 a l)
      = ∑ x : Fin 384, P1 (ix2 a ⟨x.val, by omega⟩) * va (ix2 x ⟨128 + l.val, by omega⟩) + ∑ x : Fin 384, P1 (ix2 a ⟨384 + x.val, by omega⟩) * vb (ix2 x ⟨128 + l.val, by omega⟩) := by
  pointwise! [outT]

theorem slt64 : ∀ l : Fin 128, IntOp.cmpi CmpIPredicate.slt (BitVec.ofNat 32 l.val) 64#32 = 1#1 ↔ l.val < 64 := by decide +kernel

theorem fin_at (num den st st' : FVec Ideal S128x128 .f32) (a l : Fin 128) :
   finT num den (select lowT st st') ag (ix2 a l) = Ideal.div (num (ix2 a l)) (den (ix2 a l) + if l.val < 64 then st (ix2 a l) else st' (ix2 a l)) * ag (ix3 0 a l) := by
  pointwise [finT, lowT]
  rw [sel _ _ _ _ (slt64 l)]

end

/-! ### A row of a pair -/

section
variable (m0 m2 : IVec S128x128 1) (b b' : FVec Ideal S128x384 .f32) (k0 k1 : Vec Ideal S1x128 .f32) (va vb : Vec Ideal S384x256 .bf16)
  (ok0 ok2 : ℕ → Prop) [DecidablePred ok0] [DecidablePred ok2] (a : Fin 128)
  (h0 : ∀ l : Fin 128, m0 (ix2 a l) = 1#1 ↔ ok0 l.val) (h2 : ∀ l : Fin 128, m2 (ix2 a l) = 1#1 ↔ ok2 (256 + l.val))

/-- The masked score of a window position. -/
def chk (ok0 ok2 : ℕ → Prop) [DecidablePred ok0] [DecidablePred ok2] (b : FVec Ideal S128x384 .f32) (a : ℕ) (n : ℕ) : EReal :=
  chunk ok0 ok2 (rd2 (n0 := 128) (n1 := 384) b a) n

include h0 in
theorem ch0_chk (l : Fin 128) : ch0 m0 b (ix2 a l) = chk ok0 ok2 b a.val l.val := by
  rw [ch0_at, sel _ _ _ _ (h0 l), chk, chunk, if_pos l.isLt]

theorem ch1_chk (l : Fin 128) : ch1 b (ix2 a l) = chk ok0 ok2 b a.val (128 + l.val) := by
  rw [ch1_at, chk, chunk, if_neg (by omega), if_pos (by omega)]

include h2 in
theorem ch2_chk (l : Fin 128) : ch2 m2 b (ix2 a l) = chk ok0 ok2 b a.val (256 + l.val) := by
  rw [ch2_at, sel _ _ _ _ (h2 l), chk, chunk, if_neg (show ¬ 256 + l.val < 128 by omega), if_neg (show ¬ 256 + l.val < 256 by omega)]

/-- The row's top. -/
def topN (ok0 ok2 : ℕ → Prop) [DecidablePred ok0] [DecidablePred ok2] (b : FVec Ideal S128x384 .f32) (a : ℕ) (sk : EReal) : EReal :=
  max ((Finset.range 128).sup fun l => max (max (chk ok0 ok2 b a l) (chk ok0 ok2 b a (128 + l))) (chk ok0 ok2 b a (256 + l))) ((kap : EReal) * sk)

include h0 h2 in
theorem top_row (sk : EReal) (hk : ∀ l : Fin 128, k0 (ix2 0 l) = sk) (l : Fin 128) :
    topT m0 m2 b k0 (ix2 a l) = topN ok0 ok2 b a.val sk := by
  rw [top_gen, snk_at, hk, topN]
  congr 1
  simp only [ch0_chk m0 b ok0 ok2 a h0, ch1_chk b ok0 ok2 a, ch2_chk m2 b ok0 ok2 a h2]
  exact fold_max_fin fun l => max (max (chk ok0 ok2 b a.val l) (chk ok0 ok2 b a.val (128 + l))) (chk ok0 ok2 b a.val (256 + l))

include h0 h2 in
theorem pair_lo_row (sk : EReal) (hk : ∀ l : Fin 128, k0 (ix2 0 l) = sk) (n : Fin 384) :
    pairT m0 m2 b b' k0 k1 (ix2 a ⟨n.val, by omega⟩) = Ideal.exp2 (chk ok0 ok2 b a.val n.val - topN ok0 ok2 b a.val sk) := by
  rw [pair_lo]
  split
  · rw [pw_at, top_row m0 m2 b k0 ok0 ok2 a h0 h2 sk hk, ch0_chk m0 b ok0 ok2 a h0]
  split
  · rw [pw_at, top_row m0 m2 b k0 ok0 ok2 a h0 h2 sk hk, ch1_chk b ok0 ok2 a]
    rw [show 128 + (n.val - 128) = n.val by omega]
  · rw [pw_at, top_row m0 m2 b k0 ok0 ok2 a h0 h2 sk hk, ch2_chk m2 b ok0 ok2 a h2]
    rw [show 256 + (n.val - 128 - 128) = n.val by omega]

include h0 h2 in
theorem pair_hi_row (sk : EReal) (hk : ∀ l : Fin 128, k1 (ix2 0 l) = sk) (n : Fin 384) :
    pairT m0 m2 b b' k0 k1 (ix2 a ⟨384 + n.val, by omega⟩) = Ideal.exp2 (chk ok0 ok2 b' a.val n.val - topN ok0 ok2 b' a.val sk) := by
  rw [pair_hi]
  split
  · rw [pw_at, top_row m0 m2 b' k1 ok0 ok2 a h0 h2 sk hk, ch0_chk m0 b' ok0 ok2 a h0]
  split
  · rw [pw_at, top_row m0 m2 b' k1 ok0 ok2 a h0 h2 sk hk, ch1_chk b' ok0 ok2 a]
    rw [show 128 + (n.val - 128) = n.val by omega]
  · rw [pw_at, top_row m0 m2 b' k1 ok0 ok2 a h0 h2 sk hk, ch2_chk m2 b' ok0 ok2 a h2]
    rw [show 256 + (n.val - 128 - 128) = n.val by omega]

include h0 h2 in
theorem sink_row (sk : EReal) (hk : ∀ l : Fin 128, k0 (ix2 0 l) = sk) (l : Fin 128) :
    sinkT m0 m2 b k0 (ix2 a l) = Ideal.exp2 ((kap : EReal) * sk - topN ok0 ok2 b a.val sk) := by
  rw [sink_at, top_row m0 m2 b k0 ok0 ok2 a h0 h2 sk hk, snk_at, hk]

end

section
variable (m0 m2 : IVec S128x128 1) (q0 q1 : Vec Ideal S1x128x128 .bf16) (ka kb : Vec Ideal S128x384 .bf16) (va vb : Vec Ideal S384x256 .bf16)
    (k0 k1 k2 k3 : Vec Ideal S1x128 .f32) (ag : Vec Ideal S1x128x128 .bf16)
  (ok0 ok2 : ℕ → Prop) [DecidablePred ok0] [DecidablePred ok2] (a : Fin 128)
  (h0 : ∀ l : Fin 128, m0 (ix2 a l) = 1#1 ↔ ok0 l.val) (h2 : ∀ l : Fin 128, m2 (ix2 a l) = 1#1 ↔ ok2 (256 + l.val))
  (B S : ℕ) (hBS : B + 128 ≤ S) (hB128 : 128 ∣ B) (hS128 : 128 ∣ S)
  (c0 : ∀ n, n < 128 → (ok0 n ↔ (a.val ≤ n ∧ B ≠ 0)))
  (c2 : ∀ n, 256 ≤ n → n < 384 → (ok2 n ↔ (n - 256 ≤ a.val ∧ B + 128 ≠ S)))
  (val0 val1 : ℕ → ℕ → EReal)
  (vaL : ∀ (n : Fin 384) (l : Fin 128), l.val < 64 → 128 ≤ B + n.val → B + n.val - 128 < S → va (ix2 n ⟨l.val, lt256 l⟩) = val0 (B + n.val - 128) l.val)
  (vaH : ∀ (n : Fin 384) (l : Fin 128), ¬ l.val < 64 → va (ix2 n ⟨l.val, lt256 l⟩) = 0)
  (vbL : ∀ (n : Fin 384) (l : Fin 128), l.val < 64 → vb (ix2 n ⟨l.val, lt256 l⟩) = 0)
  (vbH : ∀ (n : Fin 384) (l : Fin 128), ¬ l.val < 64 → 128 ≤ B + n.val → B + n.val - 128 < S → vb (ix2 n ⟨l.val, lt256 l⟩) = val1 (B + n.val - 128) l.val)
  (oaL : ∀ (n : Fin 384) (l : Fin 128), va (ix2 n ⟨128 + l.val, lt256' l⟩) = if l.val < 64 then 1 else 0)
  (obL : ∀ (n : Fin 384) (l : Fin 128), vb (ix2 n ⟨128 + l.val, lt256' l⟩) = if l.val < 64 then 0 else 1)

include h0 h2 hBS hB128 hS128 c0 c2 vaL vaH vbL vbH oaL obL

/-- A lane of the pair's quotient. -/
theorem quot (b b' : FVec Ideal S128x384 .f32) (kk kk' : Vec Ideal S1x128 .f32) (sk sk' : EReal)
    (hk : ∀ l : Fin 128, kk (ix2 0 l) = sk) (hk' : ∀ l : Fin 128, kk' (ix2 0 l) = sk') (sc sc' : ℕ → EReal)
    (hb : ∀ n : Fin 384, 128 ≤ B + n.val → B + n.val - 128 < S → b (ix2 a n) = (kap : EReal) * sc (B + n.val - 128))
    (hb' : ∀ n : Fin 384, 128 ≤ B + n.val → B + n.val - 128 < S → b' (ix2 a n) = (kap : EReal) * sc' (B + n.val - 128))
    (l : Fin 128) :
    Ideal.div (∑ x : Fin 384, pairT m0 m2 b b' kk kk' (ix2 a ⟨x.val, by omega⟩) * va (ix2 x ⟨l.val, by omega⟩)
          + ∑ x : Fin 384, pairT m0 m2 b b' kk kk' (ix2 a ⟨384 + x.val, by omega⟩) * vb (ix2 x ⟨l.val, by omega⟩))
        (∑ x : Fin 384, pairT m0 m2 b b' kk kk' (ix2 a ⟨x.val, by omega⟩) * va (ix2 x ⟨128 + l.val, by omega⟩)
          + ∑ x : Fin 384, pairT m0 m2 b b' kk kk' (ix2 a ⟨384 + x.val, by omega⟩) * vb (ix2 x ⟨128 + l.val, by omega⟩)
          + if l.val < 64 then sinkT m0 m2 b kk (ix2 a l) else sinkT m0 m2 b' kk' (ix2 a l))
      = if l.val < 64 then attRow S (B + a.val) sc sk (fun s => val0 s l.val) else attRow S (B + a.val) sc' sk' (fun s => val1 s l.val) := by
  have hf : ∀ n, n < 384 → 128 ≤ B + n → B + n - 128 < S → rd2 (n0 := 128) (n1 := 384) b a.val n = (kap : EReal) * sc (B + n - 128) :=
    fun n hn p q => (rd2_val (n0 := 128) (n1 := 384) b a ⟨n, hn⟩).symm.trans (hb ⟨n, hn⟩ p q)
  have hf' : ∀ n, n < 384 → 128 ≤ B + n → B + n - 128 < S → rd2 (n0 := 128) (n1 := 384) b' a.val n = (kap : EReal) * sc' (B + n - 128) :=
    fun n hn p q => (rd2_val (n0 := 128) (n1 := 384) b' a ⟨n, hn⟩).symm.trans (hb' ⟨n, hn⟩ p q)
  have c0' : ∀ n, n < 128 → (ok0 n ↔ (B + a.val - B ≤ n ∧ B ≠ 0)) := fun n hn => by rw [c0 n hn, Nat.add_sub_cancel_left]
  have c2' : ∀ n, 256 ≤ n → n < 384 → (ok2 n ↔ (n - 256 ≤ B + a.val - B ∧ B + 128 ≠ S)) := fun n hn hn' => by rw [c2 n hn hn', Nat.add_sub_cancel_left]
  simp only [pair_lo_row m0 m2 b b' kk kk' ok0 ok2 a h0 h2 sk hk, pair_hi_row m0 m2 b b' kk kk' ok0 ok2 a h0 h2 sk' hk', oaL, obL]
  by_cases hl : l.val < 64
  · simp only [if_pos hl, vbL _ _ hl, mul_zero, mul_one, Finset.sum_const_zero, add_zero]
    rw [sink_row m0 m2 b kk ok0 ok2 a h0 h2 sk hk]
    have key := row_eq B S (B + a.val) sc sk (fun s => val0 s l.val) ok0 ok2 (rd2 (n0 := 128) (n1 := 384) b a.val)
      (fun n => if 128 ≤ B + n ∧ B + n - 128 < S then val0 (B + n - 128) l.val else rd2 (n0 := 384) (n1 := 256) va n l.val)
      (by omega) (by omega) hBS hB128 hS128 c0' c2' hf (fun n _ p q => if_pos ⟨p, q⟩) (topN ok0 ok2 b a.val sk) rfl
    rw [← key, ← sum_fin, ← sum_fin]
    congr 1
    refine Finset.sum_congr rfl fun n _ => ?_
    simp only [chk]
    congr 1
    split
    · rename_i h; exact vaL n l hl h.1 h.2
    · exact rd2_val (n0 := 384) (n1 := 256) va n ⟨l.val, by omega⟩
  · simp only [if_neg hl, vaH _ _ hl, mul_zero, mul_one, Finset.sum_const_zero, zero_add]
    rw [sink_row m0 m2 b' kk' ok0 ok2 a h0 h2 sk' hk']
    have key := row_eq B S (B + a.val) sc' sk' (fun s => val1 s l.val) ok0 ok2 (rd2 (n0 := 128) (n1 := 384) b' a.val)
      (fun n => if 128 ≤ B + n ∧ B + n - 128 < S then val1 (B + n - 128) l.val else rd2 (n0 := 384) (n1 := 256) vb n l.val)
      (by omega) (by omega) hBS hB128 hS128 c0' c2' hf' (fun n _ p q => if_pos ⟨p, q⟩) (topN ok0 ok2 b' a.val sk') rfl
    rw [← key, ← sum_fin, ← sum_fin]
    congr 1
    refine Finset.sum_congr rfl fun n _ => ?_
    simp only [chk]
    congr 1
    split
    · rename_i h; exact vbH n l hl h.1 h.2
    · exact rd2_val (n0 := 384) (n1 := 256) vb n ⟨l.val, by omega⟩

variable (sk : ℕ → EReal) (hk0 : ∀ l : Fin 128, k0 (ix2 0 l) = sk 0) (hk1 : ∀ l : Fin 128, k1 (ix2 0 l) = sk 1)
  (hk2 : ∀ l : Fin 128, k2 (ix2 0 l) = sk 2) (hk3 : ∀ l : Fin 128, k3 (ix2 0 l) = sk 3) (sc : ℕ → ℕ → EReal)
  (s0 : ∀ n : Fin 384, 128 ≤ B + n.val → B + n.val - 128 < S → ∑ j : Fin 128, q0 (ix3 0 a j) * ka (ix2 j n) = (kap : EReal) * sc 0 (B + n.val - 128))
  (s1 : ∀ n : Fin 384, 128 ≤ B + n.val → B + n.val - 128 < S → ∑ j : Fin 128, q0 (ix3 0 a j) * kb (ix2 j n) = (kap : EReal) * sc 1 (B + n.val - 128))
  (s2 : ∀ n : Fin 384, 128 ≤ B + n.val → B + n.val - 128 < S → ∑ j : Fin 128, q1 (ix3 0 a j) * ka (ix2 j n) = (kap : EReal) * sc 2 (B + n.val - 128))
  (s3 : ∀ n : Fin 384, 128 ≤ B + n.val → B + n.val - 128 < S → ∑ j : Fin 128, q1 (ix3 0 a j) * kb (ix2 j n) = (kap : EReal) * sc 3 (B + n.val - 128))

include hk0 hk1 s0 s1 in
theorem item0_val (l : Fin 128) : item0 m0 m2 q0 q1 ka kb va vb k0 k1 k2 k3 ag (ix2 a l)
    = (if l.val < 64 then attRow S (B + a.val) (sc 0) (sk 0) (fun s => val0 s l.val) else attRow S (B + a.val) (sc 1) (sk 1) (fun s => val1 s l.val))
      * ag (ix3 0 a l) := by
  unfold item0
  rw [fin_at, o00, o01]
  congr 1
  exact quot m0 m2 va vb ok0 ok2 a h0 h2 B S hBS hB128 hS128 c0 c2 val0 val1 vaL vaH vbL vbH oaL obL _ _ k0 k1 (sk 0) (sk 1) hk0 hk1 (sc 0) (sc 1)
    (fun n p q => (sl00_at q0 q1 ka kb a n).trans (s0 n p q)) (fun n p q => (sl01_at q0 q1 ka kb a n).trans (s1 n p q)) l

include hk2 hk3 s2 s3 in
theorem item1_val (l : Fin 128) : item1 m0 m2 q0 q1 ka kb va vb k0 k1 k2 k3 ag (ix2 a l)
    = (if l.val < 64 then attRow S (B + a.val) (sc 2) (sk 2) (fun s => val0 s l.val) else attRow S (B + a.val) (sc 3) (sk 3) (fun s => val1 s l.val))
      * ag (ix3 0 a l) := by
  unfold item1
  rw [fin_at, o10, o11]
  congr 1
  exact quot m0 m2 va vb ok0 ok2 a h0 h2 B S hBS hB128 hS128 c0 c2 val0 val1 vaL vaH vbL vbH oaL obL _ _ k2 k3 (sk 2) (sk 3) hk2 hk3 (sc 2) (sc 3)
    (fun n p q => (sl10_at q0 q1 ka kb a n).trans (s2 n p q)) (fun n p q => (sl11_at q0 q1 ka kb a n).trans (s3 n p q)) l

end

end Cert.KernelIdeal.Val

end
-- ==== Proof.Reads.lean ====
module

public import proofs.«01_k».proof.Proof.Gen.KernelIdeal.Frame
public import proofs.«01_k».proof.Proof.Math
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem Layer Facts₀ Facts Gen

/-! ### Loads and stores of whole-step rectangles, at natural-number positions -/

theorem inb2 (A B a b : ℕ) {n m : ℕ} (h : a + n ≤ A) (k : b + m ≤ B) : ∀ x : Fin 2, (![a, b] : Fin 2 → ℕ) x + (![n, m] : Fin 2 → ℕ) x ≤ (![A, B] : Fin 2 → ℕ) x := by
  intro x; fin_cases x
  · exact h
  · exact k

theorem inb3 (A B C a b d : ℕ) {n m p : ℕ} (h : a + n ≤ A) (k : b + m ≤ B) (l : d + p ≤ C) : ∀ x : Fin 3, (![a, b, d] : Fin 3 → ℕ) x + (![n, m, p] : Fin 3 → ℕ) x ≤ (![A, B, C] : Fin 3 → ℕ) x := by
  intro x; fin_cases x
  · exact h
  · exact k
  · exact l

theorem at2 {A B n m a b : ℕ} (X : (⟨2, ![A, B]⟩ : Shape).Idx → EReal) (inb) (y : (⟨2, ![n, m]⟩ : Shape).Idx) :
    X ((Rect.unit (s := ⟨2, ![A, B]⟩) ![a, b] ![n, m] inb).idx y) = rd2 X (a + (y 0).val) (b + (y 1).val) := by
  rw [rd2_idx X]
  congr 1
  · exact Rect.idx_unit_val (s := ⟨2, ![A, B]⟩) ![a, b] ![n, m] inb y 0
  · exact Rect.idx_unit_val (s := ⟨2, ![A, B]⟩) ![a, b] ![n, m] inb y 1

theorem at3 {A B C n m p a b d : ℕ} (X : (⟨3, ![A, B, C]⟩ : Shape).Idx → EReal) (inb) (y : (⟨3, ![n, m, p]⟩ : Shape).Idx) :
    X ((Rect.unit (s := ⟨3, ![A, B, C]⟩) ![a, b, d] ![n, m, p] inb).idx y) = rd3 X (a + (y 0).val) (b + (y 1).val) (d + (y 2).val) := by
  rw [rd3_idx X]
  congr 1
  · exact Rect.idx_unit_val (s := ⟨3, ![A, B, C]⟩) ![a, b, d] ![n, m, p] inb y 0
  · exact Rect.idx_unit_val (s := ⟨3, ![A, B, C]⟩) ![a, b, d] ![n, m, p] inb y 1
  · exact Rect.idx_unit_val (s := ⟨3, ![A, B, C]⟩) ![a, b, d] ![n, m, p] inb y 2

section
variable {σ : RefSig} {A B C n m p a b d : ℕ}

theorem load2_bf16 (M : Memref σ .tc .vmem ⟨2, ![A, B]⟩ .bf16) (h : M.IsWhole) (x : Vec Ideal ⟨2, ![A, B]⟩ .bf16) (inb) (y : (⟨2, ![n, m]⟩ : Shape).Idx) :
    View.readAt (Elt Ideal) M.view (Rect.unit (s := ⟨2, ![A, B]⟩) ![a, b] ![n, m] inb).toLoadRect (h.unread x) y = rd2 (n0 := A) (n1 := B) x (a + (y 0).val) (b + (y 1).val) := by
  rw [View.readAt_eq_ld, Memref.IsWhole.read_unread]
  exact at2 (A := A) (B := B) x inb y

theorem load3_bf16 (M : Memref σ .tc .vmem ⟨3, ![A, B, C]⟩ .bf16) (h : M.IsWhole) (x : Vec Ideal ⟨3, ![A, B, C]⟩ .bf16) (inb) (y : (⟨3, ![n, m, p]⟩ : Shape).Idx) :
    View.readAt (Elt Ideal) M.view (Rect.unit (s := ⟨3, ![A, B, C]⟩) ![a, b, d] ![n, m, p] inb).toLoadRect (h.unread x) y
      = rd3 (n0 := A) (n1 := B) (n2 := C) x (a + (y 0).val) (b + (y 1).val) (d + (y 2).val) := by
  rw [View.readAt_eq_ld, Memref.IsWhole.read_unread]
  exact at3 (A := A) (B := B) (C := C) x inb y

/-- A load from a written scratch, when its writes are the cells of one array. -/
theorem cov2_bf16 (M : View σ .tc .vmem ⟨2, ![A, B]⟩ .bf16) (L : List (View.Piece (Elt Ideal) ⟨2, ![A, B]⟩ .bf16)) (G : ℕ → ℕ → EReal)
    (hL : ∀ q ∈ L, ∀ x : q.1.shape.Idx, q.2 x = G (q.1.emb x 0).val (q.1.emb x 1).val) (inb) (y : (⟨2, ![n, m]⟩ : Shape).Idx)
    (hy : ∃ q ∈ L, (Rect.unit (s := ⟨2, ![A, B]⟩) ![a, b] ![n, m] inb).idx y ∈ q.1.set) :
    M.readCov L (Rect.unit (s := ⟨2, ![A, B]⟩) ![a, b] ![n, m] inb).toLoadRect y = G (a + (y 0).val) (b + (y 1).val) := by
  rw [View.readCov_eq_canon']
  show View.canon L ((Rect.unit (s := ⟨2, ![A, B]⟩) ![a, b] ![n, m] inb).idx y) = _
  rw [View.canon_apply_of_pieces (fun i : (⟨2, ![A, B]⟩ : Shape).Idx => (G (i 0).val (i 1).val : Elt Ideal .bf16)) L hL _ hy]
  show G _ _ = G _ _
  congr 1
  · exact Rect.idx_unit_val (s := ⟨2, ![A, B]⟩) ![a, b] ![n, m] inb y 0
  · exact Rect.idx_unit_val (s := ⟨2, ![A, B]⟩) ![a, b] ![n, m] inb y 1

theorem load2_f32 (M : Memref σ .tc .vmem ⟨2, ![A, B]⟩ .f32) (h : M.IsWhole) (x : Vec Ideal ⟨2, ![A, B]⟩ .f32) (inb) (y : (⟨2, ![n, m]⟩ : Shape).Idx) :
    View.readAt (Elt Ideal) M.view (Rect.unit (s := ⟨2, ![A, B]⟩) ![a, b] ![n, m] inb).toLoadRect (h.unread x) y = rd2 (n0 := A) (n1 := B) x (a + (y 0).val) (b + (y 1).val) := by
  rw [View.readAt_eq_ld, Memref.IsWhole.read_unread]
  exact at2 (A := A) (B := B) x inb y

theorem load3_f32 (M : Memref σ .tc .vmem ⟨3, ![A, B, C]⟩ .f32) (h : M.IsWhole) (x : Vec Ideal ⟨3, ![A, B, C]⟩ .f32) (inb) (y : (⟨3, ![n, m, p]⟩ : Shape).Idx) :
    View.readAt (Elt Ideal) M.view (Rect.unit (s := ⟨3, ![A, B, C]⟩) ![a, b, d] ![n, m, p] inb).toLoadRect (h.unread x) y
      = rd3 (n0 := A) (n1 := B) (n2 := C) x (a + (y 0).val) (b + (y 1).val) (d + (y 2).val) := by
  rw [View.readAt_eq_ld, Memref.IsWhole.read_unread]
  exact at3 (A := A) (B := B) (C := C) x inb y

/-- A load from a written scratch, when its writes are the cells of one array. -/
theorem cov2_f32 (M : View σ .tc .vmem ⟨2, ![A, B]⟩ .f32) (L : List (View.Piece (Elt Ideal) ⟨2, ![A, B]⟩ .f32)) (G : ℕ → ℕ → EReal)
    (hL : ∀ q ∈ L, ∀ x : q.1.shape.Idx, q.2 x = G (q.1.emb x 0).val (q.1.emb x 1).val) (inb) (y : (⟨2, ![n, m]⟩ : Shape).Idx)
    (hy : ∃ q ∈ L, (Rect.unit (s := ⟨2, ![A, B]⟩) ![a, b] ![n, m] inb).idx y ∈ q.1.set) :
    M.readCov L (Rect.unit (s := ⟨2, ![A, B]⟩) ![a, b] ![n, m] inb).toLoadRect y = G (a + (y 0).val) (b + (y 1).val) := by
  rw [View.readCov_eq_canon']
  show View.canon L ((Rect.unit (s := ⟨2, ![A, B]⟩) ![a, b] ![n, m] inb).idx y) = _
  rw [View.canon_apply_of_pieces (fun i : (⟨2, ![A, B]⟩ : Shape).Idx => (G (i 0).val (i 1).val : Elt Ideal .f32)) L hL _ hy]
  show G _ _ = G _ _
  congr 1
  · exact Rect.idx_unit_val (s := ⟨2, ![A, B]⟩) ![a, b] ![n, m] inb y 0
  · exact Rect.idx_unit_val (s := ⟨2, ![A, B]⟩) ![a, b] ![n, m] inb y 1

theorem emb2_0 (inb) (x : (⟨2, ![n, m]⟩ : Shape).Idx) : ((Rect.unit (s := ⟨2, ![A, B]⟩) ![a, b] ![n, m] inb).emb x 0).val = a + (x 0).val :=
  Rect.idx_unit_val (s := ⟨2, ![A, B]⟩) ![a, b] ![n, m] inb x 0

theorem emb2_1 (inb) (x : (⟨2, ![n, m]⟩ : Shape).Idx) : ((Rect.unit (s := ⟨2, ![A, B]⟩) ![a, b] ![n, m] inb).emb x 1).val = b + (x 1).val :=
  Rect.idx_unit_val (s := ⟨2, ![A, B]⟩) ![a, b] ![n, m] inb x 1

theorem mem2 {inb} {y : (⟨2, ![A, B]⟩ : Shape).Idx} (h0 : a ≤ (y 0).val ∧ (y 0).val < a + n) (h1 : b ≤ (y 1).val ∧ (y 1).val < b + m) :
    y ∈ (Rect.unit (s := ⟨2, ![A, B]⟩) ![a, b] ![n, m] inb).set := by
  rw [Rect.mem_set_unit]
  intro k; fin_cases k
  · exact h0
  · exact h1

end

end Cert.KernelIdeal.Val

end
-- ==== Proof.Step.lean ====
module

public import proofs.«01_k».proof.Proof.Spec
public import proofs.«01_k».proof.Proof.Item
public import proofs.«01_k».proof.Proof.Reads

@[expose] public section

set_option maxRecDepth 16384

noncomputable section

namespace Cert.KernelIdeal.Val

open Idealize.ShloMosaic Idealize.ShloMosaic.TcCoe Idealize.SL.Sem Layer Facts₀ Facts Gen

/-! ### The input projection's steps at a position -/

/-- The scale of a query, in base two. -/
def qsc : ℝ := (8 * Real.log 2)⁻¹

theorem qsc_named : (Named.named κ "q_scale" 0x3E38AA3B#32 : Ideal .f32) = (qsc : EReal) := IdealRules.named_const.ideal_named_scalar _ _ _ _ rfl

theorem sel_if (P : Prop) [Decidable P] (x y : EReal) : Scalar.select (if P then 1#1 else 0#1) x y = if P then x else y :=
  sel _ x y P (by by_cases h : P <;> simp [h])

theorem pay6_at (p : Fin 512) (l : Fin 128) : k0_pay6 (ix2 p l) = if l.val % 64 < 32 then 1#1 else 0#1 := by
  unfold k0_pay6
  pointwise [Gen.iota_S512x128_d1_w32]
  revert l
  decide +kernel

theorem pay5_at (p : Fin 512) (l : Fin 128) : k0_pay5 (ix2 p l) = if l.val < 64 then 1#1 else 0#1 := by
  unfold k0_pay5
  pointwise [Gen.iota_S512x128_d1_w32]
  revert l
  decide +kernel

/-- Two heads side by side, rotated in place. -/
theorem rope_eq (f : ℕ → EReal) (t l : ℕ) (hl : l < 128) :
    f l * Ideal.cos (ang t (l % 32)) + (if l % 64 < 32 then f ((l + 128 - 96) % 128) else f ((l + 128 - 32) % 128)) * (if l % 64 < 32 then -Ideal.sin (ang t (l % 32)) else Ideal.sin (ang t (l % 32)))
      = rot (fun d => f (l / 64 * 64 + d)) t (l % 64) := by
  unfold rot
  have e0 : l / 64 * 64 + l % 64 = l := by omega
  by_cases h : l % 64 < 32
  · have e1 : l / 64 * 64 + (l % 64 + 32) = (l + 128 - 96) % 128 := by omega
    have e2 : l % 64 = l % 32 := by omega
    rw [if_pos h, if_pos h, if_pos h]
    dsimp only
    rw [e0, e1, e2, mul_neg, sub_eq_add_neg]
  · have e1 : l / 64 * 64 + (l % 64 - 32) = (l + 128 - 32) % 128 := by omega
    have e2 : l % 64 - 32 = l % 32 := by omega
    rw [if_neg h, if_neg h, if_neg h]
    dsimp only
    rw [e0, e1, e2]

theorem norm_at (g : Vec Ideal S1x1024 .f32) (x : Vec Ideal S1x512x1024 .f32) (p : Fin 512) (l : Fin 1024) :
    k0_pay3 (F := Ideal) g x (ix2 p l) = x (ix3 0 p l) * Ideal.rsqrt (Ideal.div (∑ j : Fin 1024, x (ix3 0 p j) * x (ix3 0 p j)) (Ideal.ofBits .f32 0x44800000#32) + Ideal.ofBits .f32 0x358637BD#32) * g (ix2 0 l) := by
  pointwise! [k0_pay3, k0_pay2]

theorem pay4_at (g : Vec Ideal S1x1024 .f32) (x : Vec Ideal S1x512x1024 .f32) (p : Fin 512) (l : Fin 1024) :
    k0_pay4 (F := Ideal) g x (ix2 p l) = k0_pay3 (F := Ideal) g x (ix2 p l) := by
  pointwise! [k0_pay4]

theorem pay18_at (A : FVec Ideal S512x1024 .bf16) (B : Vec Ideal S1024x512 .bf16) (p : Fin 512) (l : Fin 512) :
    k0_pay18 (F := Ideal) A B (ix2 p l) = ∑ k : Fin 1024, A (ix2 p k) * B (ix2 k l) := by
  pointwise! [k0_pay18]

theorem pay24_at (A : FVec Ideal S512x1024 .bf16) (B : Vec Ideal S1024x512 .bf16) (p : Fin 512) (l : Fin 512) :
    k0_pay24 (F := Ideal) A B (ix2 p l) = ∑ k : Fin 1024, A (ix2 p k) * B (ix2 k l) := by
  pointwise! [k0_pay24]

theorem pay31_at (A : FVec Ideal S512x1024 .bf16) (B : Vec Ideal S1024x256 .bf16) (p : Fin 512) (l : Fin 256) :
    k0_pay31 (F := Ideal) A B (ix2 p l) = ∑ k : Fin 1024, A (ix2 p k) * B (ix2 k l) := by
  pointwise! [k0_pay31]

theorem pay37_at (A : FVec Ideal S512x1024 .bf16) (B : Vec Ideal S1024x256 .bf16) (p : Fin 512) (l : Fin 256) :
    k0_pay37 (F := Ideal) A B (ix2 p l) = ∑ k : Fin 1024, A (ix2 p k) * B (ix2 k l) := by
  pointwise! [k0_pay37]

theorem pay45_at (A : FVec Ideal S512x1024 .bf16) (B : Vec Ideal S1024x256 .bf16) (p : Fin 512) (l : Fin 256) :
    k0_pay45 (F := Ideal) A B (ix2 p l) = ∑ k : Fin 1024, A (ix2 p k) * B (ix2 k l) := by
  pointwise! [k0_pay45]

theorem pay50_at (A : FVec Ideal S512x1024 .bf16) (B : Vec Ideal S1024x256 .bf16) (p : Fin 512) (l : Fin 256) :
    k0_pay50 (F := Ideal) A B (ix2 p l) = ∑ k : Fin 1024, A (ix2 p k) * B (ix2 k l) := by
  pointwise! [k0_pay50]

theorem pay56_at (A : FVec Ideal S512x1024 .bf16) (B : Vec Ideal S1024x256 .bf16) (p : Fin 512) (l : Fin 256) :
    k0_pay56 (F := Ideal) A B (ix2 p l) = ∑ k : Fin 1024, A (ix2 p k) * B (ix2 k l) := by
  pointwise! [k0_pay56]

theorem pay109_at (A : FVec Ideal S512x1024 .bf16) (B : Vec Ideal S1024x512 .bf16) (p : Fin 512) (l : Fin 512) :
    k0_pay109 (F := Ideal) A B (ix2 p l) = ∑ k : Fin 1024, A (ix2 p k) * B (ix2 k l) := by
  pointwise! [k0_pay109]

theorem pay111_at (A : FVec Ideal S512x1024 .bf16) (B : Vec Ideal S1024x512 .bf16) (p : Fin 512) (l : Fin 512) :
    k0_pay111 (F := Ideal) A B (ix2 p l) = ∑ k : Fin 1024, A (ix2 p k) * B (ix2 k l) := by
  pointwise! [k0_pay111]

theorem pay46_at (A : FVec Ideal S512x1024 .bf16) (B : Vec Ideal S1024x256 .bf16) (p : Fin 512) (l : Fin 256) :
    k0_pay46 (F := Ideal) A B (ix2 p l) = silu (∑ k : Fin 1024, A (ix2 p k) * B (ix2 k l)) := by
  pointwise! [k0_pay46, silu, sg]

theorem pay110_at (A : FVec Ideal S512x1024 .bf16) (B : Vec Ideal S1024x512 .bf16) (p : Fin 512) (l : Fin 512) :
    k0_pay110 (F := Ideal) A B (ix3 0 p l) = silu (∑ k : Fin 1024, A (ix2 p k) * B (ix2 k l)) := by
  pointwise! [k0_pay110, silu, sg]

theorem pay112_at (Z : FVec Ideal S512x512 .f32) (p : Fin 512) (l : Fin 512) : k0_pay112 (F := Ideal) Z (ix3 0 p l) = silu (Z (ix2 p l)) := by
  pointwise! [k0_pay112, silu, sg]

theorem pay113_at (Z : FVec Ideal S512x512 .f32) (p : Fin 512) (l : Fin 512) : k0_pay113 (F := Ideal) Z (ix3 0 p l) = sg (Z (ix2 p l)) := by
  pointwise! [k0_pay113, sg]

theorem pay1_at (Z : FVec Ideal S512x512 .bf16) (p : Fin 512) (l : Fin 512) : k0_pay1 (F := Ideal) Z (ix3 0 p l) = Z (ix2 p l) := by
  pointwise! [k0_pay1]

theorem pay116_at (A : FVec Ideal S512x1024 .bf16) (B : Vec Ideal S1024x512 .bf16) (p : Fin 512) (l : Fin 512) :
    k0_pay116 (F := Ideal) A B (ix2 p l) = sg (∑ k : Fin 1024, A (ix2 p k) * B (ix2 k l)) := by
  pointwise! [k0_pay116, sg]

theorem pay114_at (A : FVec Ideal S512x1024 .bf16) (B : Vec Ideal S1024x512 .bf16) (p : Fin 512) (l : Fin 512) :
    k0_pay114 (F := Ideal) A B (ix3 0 p l) = sg (∑ k : Fin 1024, A (ix2 p k) * B (ix2 k l)) := by
  pointwise! [k0_pay114, sg]

theorem pay115_at (A : FVec Ideal S512x1024 .bf16) (B : Vec Ideal S1024x512 .bf16) (p : Fin 512) (l : Fin 512) :
    k0_pay115 (F := Ideal) A B (ix3 0 p l) = sg (∑ k : Fin 1024, A (ix2 p k) * B (ix2 k l)) := by
  pointwise! [k0_pay115, sg]

theorem pay38_at (Z : FVec Ideal S512x256 .f32) (p : Fin 512) (l : Fin 256) : k0_pay38 (F := Ideal) Z (ix2 p l) = silu (Z (ix2 p l)) := by
  pointwise! [k0_pay38, silu, sg]

theorem pay43_at (Z : FVec Ideal S512x256 .f32) (p : Fin 512) (l : Fin 256) : k0_pay43 (F := Ideal) Z (ix2 p l) = silu (Z (ix2 p l)) := by
  pointwise! [k0_pay43, silu, sg]

theorem pay51_at (Z : FVec Ideal S512x256 .f32) (p : Fin 512) (l : Fin 256) : k0_pay51 (F := Ideal) Z (ix2 p l) = silu (Z (ix2 p l)) := by
  pointwise! [k0_pay51, silu, sg]

section
variable (C S : FVec Ideal S512x128 .f32) (tt : ℕ → ℕ) (f : ℕ → ℕ → EReal)
  (hC : ∀ (p : Fin 512) (l : Fin 128), C (ix2 p l) = Ideal.cos (ang (tt p.val) (l.val % 32)))
  (hS : ∀ (p : Fin 512) (l : Fin 128), S (ix2 p l) = if l.val % 64 < 32 then -Ideal.sin (ang (tt p.val) (l.val % 32)) else Ideal.sin (ang (tt p.val) (l.val % 32)))

section
variable (Z : FVec Ideal S512x512 .f32) (hZ : ∀ (p : Fin 512) (l : Fin 512), Z (ix2 p l) = f p.val l.val)
include hC hS hZ

theorem pay25_q (p : Fin 512) (l : Fin 128) :
    k0_pay25 (F := Ideal) k0_pay6 C S Z (ix3 0 p l) = rot (fun d => f p.val (l.val / 64 * 64 + d)) (tt p.val) (l.val % 64) * (qsc : EReal) := by
  pointwise [k0_pay25]
  simp only [hZ, hC, hS, pay6_at, sel_if, qsc_named]
  exact congrArg (· * (qsc : EReal)) (rope_eq (f p.val) (tt p.val) l.val l.isLt)

theorem pay28_q (p : Fin 512) (l : Fin 128) :
    k0_pay28 (F := Ideal) k0_pay6 C S (k0_pay26 Z) (k0_pay27 Z) (ix3 0 p l) = rot (fun d => f p.val (128 + (l.val / 64 * 64 + d))) (tt p.val) (l.val % 64) * (qsc : EReal) := by
  pointwise [k0_pay28, k0_pay27, k0_pay26]
  simp only [hZ, hC, hS, pay6_at, sel_if, qsc_named]
  exact congrArg (· * (qsc : EReal)) (rope_eq (fun j => f p.val (128 + j)) (tt p.val) l.val l.isLt)

theorem pay29_q (p : Fin 512) (l : Fin 128) :
    k0_pay29 (F := Ideal) k0_pay6 C S Z (ix3 0 p l) = rot (fun d => f p.val (256 + (l.val / 64 * 64 + d))) (tt p.val) (l.val % 64) * (qsc : EReal) := by
  pointwise [k0_pay29]
  simp only [hZ, hC, hS, pay6_at, sel_if, qsc_named]
  exact congrArg (· * (qsc : EReal)) (rope_eq (fun j => f p.val (256 + j)) (tt p.val) l.val l.isLt)

theorem pay30_q (p : Fin 512) (l : Fin 128) :
    k0_pay30 (F := Ideal) k0_pay6 C S Z (ix3 0 p l) = rot (fun d => f p.val (384 + (l.val / 64 * 64 + d))) (tt p.val) (l.val % 64) * (qsc : EReal) := by
  pointwise [k0_pay30]
  simp only [hZ, hC, hS, pay6_at, sel_if, qsc_named]
  exact congrArg (· * (qsc : EReal)) (rope_eq (fun j => f p.val (384 + j)) (tt p.val) l.val l.isLt)

theorem pay32_q (p : Fin 512) (l : Fin 128) :
    k0_pay32 (F := Ideal) k0_pay6 C S Z (ix3 0 p l) = rot (fun d => f p.val (l.val / 64 * 64 + d)) (tt p.val) (l.val % 64) * (qsc : EReal) := by
  pointwise [k0_pay32]
  simp only [hZ, hC, hS, pay6_at, sel_if, qsc_named]
  exact congrArg (· * (qsc : EReal)) (rope_eq (f p.val) (tt p.val) l.val l.isLt)

theorem pay33_q (p : Fin 512) (l : Fin 128) :
    k0_pay33 (F := Ideal) k0_pay6 C S Z (ix3 0 p l) = rot (fun d => f p.val (128 + (l.val / 64 * 64 + d))) (tt p.val) (l.val % 64) * (qsc : EReal) := by
  pointwise [k0_pay33]
  simp only [hZ, hC, hS, pay6_at, sel_if, qsc_named]
  exact congrArg (· * (qsc : EReal)) (rope_eq (fun j => f p.val (128 + j)) (tt p.val) l.val l.isLt)

theorem pay35_q (p : Fin 512) (l : Fin 128) :
    k0_pay35 (F := Ideal) (k0_pay34 k0_pay6 C S Z) (ix3 0 p l) = rot (fun d => f p.val (256 + (l.val / 64 * 64 + d))) (tt p.val) (l.val % 64) * (qsc : EReal) := by
  pointwise [k0_pay35, k0_pay34]
  simp only [hZ, hC, hS, pay6_at, sel_if, qsc_named]
  exact congrArg (· * (qsc : EReal)) (rope_eq (fun j => f p.val (256 + j)) (tt p.val) l.val l.isLt)

theorem pay36_q (p : Fin 512) (l : Fin 128) :
    k0_pay36 (F := Ideal) k0_pay6 C S Z (ix3 0 p l) = rot (fun d => f p.val (384 + (l.val / 64 * 64 + d))) (tt p.val) (l.val % 64) * (qsc : EReal) := by
  pointwise [k0_pay36]
  simp only [hZ, hC, hS, pay6_at, sel_if, qsc_named]
  exact congrArg (· * (qsc : EReal)) (rope_eq (fun j => f p.val (384 + j)) (tt p.val) l.val l.isLt)

end

section
variable (Z : FVec Ideal S512x256 .f32) (hZ : ∀ (p : Fin 512) (l : Fin 256), Z (ix2 p l) = f p.val l.val)
include hC hS hZ

theorem pay57_k (p : Fin 512) (l : Fin 128) :
    k0_pay57 (F := Ideal) k0_pay6 C S Z (ix2 p l) = rot (fun d => f p.val (l.val / 64 * 64 + d)) (tt p.val) (l.val % 64) := by
  pointwise [k0_pay57]
  simp only [hZ, hC, hS, pay6_at, sel_if]
  exact rope_eq (f p.val) (tt p.val) l.val l.isLt

theorem pay66_k (p : Fin 512) (l : Fin 128) :
    k0_pay66 (F := Ideal) k0_pay6 C S Z (ix2 p l) = rot (fun d => f p.val (128 + (l.val / 64 * 64 + d))) (tt p.val) (l.val % 64) := by
  pointwise [k0_pay66]
  simp only [hZ, hC, hS, pay6_at, sel_if]
  exact rope_eq (fun j => f p.val (128 + j)) (tt p.val) l.val l.isLt

theorem pay61_k (p : Fin 512) (l : Fin 128) :
    k0_pay61 (F := Ideal) k0_pay5 k0_pay6 C S Z (ix3 0 l p) = if l.val < 64 then rot (fun d => f p.val (d)) (tt p.val) l.val else 0 := by
  have hl := l.isLt
  pointwise [k0_pay61]
  rw [pay57_k C S tt f hC hS Z hZ, pay5_at, sel_if]
  by_cases h : l.val < 64
  · rw [if_pos h, if_pos h]
    refine congrArg₂ (fun g j => rot g (tt p.val) j) (funext fun d => congrArg (f p.val) ?_) ?_
    · show l.val / 64 * 64 + d = d
      omega
    · show l.val % 64 = l.val
      omega
  · rw [if_neg h, if_neg h]

theorem pay63_k (p : Fin 512) (l : Fin 128) :
    k0_pay63 (F := Ideal) (k0_pay62 k0_pay5 k0_pay6 C S Z) (ix3 0 l p) = if l.val < 64 then 0 else rot (fun d => f p.val (d)) (tt p.val) (l.val - 64) := by
  have hl := l.isLt
  pointwise [k0_pay63, k0_pay62, k0_pay58]
  rw [pay57_k C S tt f hC hS Z hZ, pay5_at, sel_if]
  by_cases h : l.val < 64
  · rw [if_pos h, if_pos h]
  · rw [if_neg h, if_neg h]
    refine congrArg₂ (fun g j => rot g (tt p.val) j) (funext fun d => congrArg (f p.val) ?_) ?_
    · show ((l.val + 128 - 64) % 128) / 64 * 64 + d = d
      omega
    · show ((l.val + 128 - 64) % 128) % 64 = (l.val - 64)
      omega

theorem pay64_k (p : Fin 512) (l : Fin 128) :
    k0_pay64 (F := Ideal) (k0_pay59 k0_pay5 k0_pay6 C S Z) (ix3 0 l p) = if l.val < 64 then rot (fun d => f p.val (64 + d)) (tt p.val) l.val else 0 := by
  have hl := l.isLt
  pointwise [k0_pay64, k0_pay59, k0_pay58]
  rw [pay57_k C S tt f hC hS Z hZ, pay5_at, sel_if]
  by_cases h : l.val < 64
  · rw [if_pos h, if_pos h]
    refine congrArg₂ (fun g j => rot g (tt p.val) j) (funext fun d => congrArg (f p.val) ?_) ?_
    · show ((l.val + 128 - 64) % 128) / 64 * 64 + d = 64 + d
      omega
    · show ((l.val + 128 - 64) % 128) % 64 = l.val
      omega
  · rw [if_neg h, if_neg h]

theorem pay65_k (p : Fin 512) (l : Fin 128) :
    k0_pay65 (F := Ideal) (k0_pay60 k0_pay5 k0_pay6 C S Z) (ix3 0 l p) = if l.val < 64 then 0 else rot (fun d => f p.val (64 + d)) (tt p.val) (l.val - 64) := by
  have hl := l.isLt
  pointwise [k0_pay65, k0_pay60]
  rw [pay57_k C S tt f hC hS Z hZ, pay5_at, sel_if]
  by_cases h : l.val < 64
  · rw [if_pos h, if_pos h]
  · rw [if_neg h, if_neg h]
    refine congrArg₂ (fun g j => rot g (tt p.val) j) (funext fun d => congrArg (f p.val) ?_) ?_
    · show l.val / 64 * 64 + d = 64 + d
      omega
    · show l.val % 64 = (l.val - 64)
      omega

theorem pay70_k (p : Fin 512) (l : Fin 128) :
    k0_pay70 (F := Ideal) k0_pay5 k0_pay6 C S Z (ix3 0 l p) = if l.val < 64 then rot (fun d => f p.val (128 + d)) (tt p.val) l.val else 0 := by
  have hl := l.isLt
  pointwise [k0_pay70]
  rw [pay66_k C S tt f hC hS Z hZ, pay5_at, sel_if]
  by_cases h : l.val < 64
  · rw [if_pos h, if_pos h]
    refine congrArg₂ (fun g j => rot g (tt p.val) j) (funext fun d => congrArg (f p.val) ?_) ?_
    · show 128 + (l.val / 64 * 64 + d) = 128 + d
      omega
    · show l.val % 64 = l.val
      omega
  · rw [if_neg h, if_neg h]

theorem pay72_k (p : Fin 512) (l : Fin 128) :
    k0_pay72 (F := Ideal) (k0_pay71 k0_pay5 k0_pay6 C S Z) (ix3 0 l p) = if l.val < 64 then 0 else rot (fun d => f p.val (128 + d)) (tt p.val) (l.val - 64) := by
  have hl := l.isLt
  pointwise [k0_pay72, k0_pay71, k0_pay67]
  rw [pay66_k C S tt f hC hS Z hZ, pay5_at, sel_if]
  by_cases h : l.val < 64
  · rw [if_pos h, if_pos h]
  · rw [if_neg h, if_neg h]
    refine congrArg₂ (fun g j => rot g (tt p.val) j) (funext fun d => congrArg (f p.val) ?_) ?_
    · show 128 + (((l.val + 128 - 64) % 128) / 64 * 64 + d) = 128 + d
      omega
    · show ((l.val + 128 - 64) % 128) % 64 = (l.val - 64)
      omega

theorem pay73_k (p : Fin 512) (l : Fin 128) :
    k0_pay73 (F := Ideal) (k0_pay68 k0_pay5 k0_pay6 C S Z) (ix3 0 l p) = if l.val < 64 then rot (fun d => f p.val (192 + d)) (tt p.val) l.val else 0 := by
  have hl := l.isLt
  pointwise [k0_pay73, k0_pay68, k0_pay67]
  rw [pay66_k C S tt f hC hS Z hZ, pay5_at, sel_if]
  by_cases h : l.val < 64
  · rw [if_pos h, if_pos h]
    refine congrArg₂ (fun g j => rot g (tt p.val) j) (funext fun d => congrArg (f p.val) ?_) ?_
    · show 128 + (((l.val + 128 - 64) % 128) / 64 * 64 + d) = 192 + d
      omega
    · show ((l.val + 128 - 64) % 128) % 64 = l.val
      omega
  · rw [if_neg h, if_neg h]

theorem pay74_k (p : Fin 512) (l : Fin 128) :
    k0_pay74 (F := Ideal) (k0_pay69 k0_pay5 k0_pay6 C S Z) (ix3 0 l p) = if l.val < 64 then 0 else rot (fun d => f p.val (192 + d)) (tt p.val) (l.val - 64) := by
  have hl := l.isLt
  pointwise [k0_pay74, k0_pay69]
  rw [pay66_k C S tt f hC hS Z hZ, pay5_at, sel_if]
  by_cases h : l.val < 64
  · rw [if_pos h, if_pos h]
  · rw [if_neg h, if_neg h]
    refine congrArg₂ (fun g j => rot g (tt p.val) j) (funext fun d => congrArg (f p.val) ?_) ?_
    · show 128 + (l.val / 64 * 64 + d) = 192 + d
      omega
    · show l.val % 64 = (l.val - 64)
      omega

end

end

section
variable (Z : FVec Ideal S512x256 .f32) (f : ℕ → ℕ → EReal) (hZ : ∀ (p : Fin 512) (l : Fin 256), Z (ix2 p l) = f p.val l.val)
include hZ

theorem pay84_v (p : Fin 512) (l : Fin 128) :
    k0_pay84 (F := Ideal) (k0_pay83 k0_pay5 Z) (ix3 0 p l) = if l.val < 64 then f p.val (l.val) else 0 := by
  have hl := l.isLt
  pointwise [k0_pay84, k0_pay83, k0_pay78]
  rw [hZ, pay5_at, sel_if]

theorem pay86_v (p : Fin 512) (l : Fin 128) :
    k0_pay86 (F := Ideal) (k0_pay80 k0_pay5 Z) (ix3 0 p l) = if l.val < 64 then 0 else f p.val ((l.val - 64)) := by
  have hl := l.isLt
  pointwise [k0_pay86, k0_pay80, k0_pay79, k0_pay78]
  rw [hZ, pay5_at, sel_if]
  by_cases h : l.val < 64
  · rw [if_pos h, if_pos h]
  · rw [if_neg h, if_neg h]
    refine congrArg (f p.val) ?_
    show ((l.val + 128 - 64) % 128) = (l.val - 64)
    omega

theorem pay88_v (p : Fin 512) (l : Fin 128) :
    k0_pay88 (F := Ideal) (k0_pay81 k0_pay5 Z) (ix3 0 p l) = if l.val < 64 then f p.val (64 + l.val) else 0 := by
  have hl := l.isLt
  pointwise [k0_pay88, k0_pay81, k0_pay79, k0_pay78]
  rw [hZ, pay5_at, sel_if]
  by_cases h : l.val < 64
  · rw [if_pos h, if_pos h]
    refine congrArg (f p.val) ?_
    show ((l.val + 128 - 64) % 128) = 64 + l.val
    omega
  · rw [if_neg h, if_neg h]

theorem pay90_v (p : Fin 512) (l : Fin 128) :
    k0_pay90 (F := Ideal) (k0_pay82 k0_pay5 Z) (ix3 0 p l) = if l.val < 64 then 0 else f p.val (64 + (l.val - 64)) := by
  have hl := l.isLt
  pointwise [k0_pay90, k0_pay82, k0_pay78]
  rw [hZ, pay5_at, sel_if]
  by_cases h : l.val < 64
  · rw [if_pos h, if_pos h]
  · rw [if_neg h, if_neg h]
    refine congrArg (f p.val) ?_
    show l.val = 64 + (l.val - 64)
    omega

theorem pay94_v (p : Fin 512) (l : Fin 128) :
    k0_pay94 (F := Ideal) k0_pay5 (k0_pay92 Z) (FloatOps.ofBits FTy.f32 0#32) (ix3 0 p l) = if l.val < 64 then f p.val (128 + l.val) else 0 := by
  have hl := l.isLt
  pointwise [k0_pay94, k0_pay92]
  rw [hZ, pay5_at, sel_if]

theorem pay96_v (p : Fin 512) (l : Fin 128) :
    k0_pay96 (F := Ideal) k0_pay5 (k0_pay93 Z) (ix3 0 p l) = if l.val < 64 then 0 else f p.val (128 + (l.val - 64)) := by
  have hl := l.isLt
  pointwise [k0_pay96, k0_pay93, k0_pay92]
  rw [hZ, pay5_at, sel_if]
  by_cases h : l.val < 64
  · rw [if_pos h, if_pos h]
  · rw [if_neg h, if_neg h]
    refine congrArg (f p.val) ?_
    show 128 + ((l.val + 128 - 64) % 128) = 128 + (l.val - 64)
    omega

theorem pay98_v (p : Fin 512) (l : Fin 128) :
    k0_pay98 (F := Ideal) k0_pay5 (k0_pay93 Z) (ix3 0 p l) = if l.val < 64 then f p.val (192 + l.val) else 0 := by
  have hl := l.isLt
  pointwise [k0_pay98, k0_pay93, k0_pay92]
  rw [hZ, pay5_at, sel_if]
  by_cases h : l.val < 64
  · rw [if_pos h, if_pos h]
    refine congrArg (f p.val) ?_
    show 128 + ((l.val + 128 - 64) % 128) = 192 + l.val
    omega
  · rw [if_neg h, if_neg h]

theorem pay101_v (p : Fin 512) (l : Fin 128) :
    k0_pay101 (F := Ideal) (k0_pay100 k0_pay5 (k0_pay92 Z)) (ix3 0 p l) = if l.val < 64 then 0 else f p.val (192 + (l.val - 64)) := by
  have hl := l.isLt
  pointwise [k0_pay101, k0_pay100, k0_pay92]
  rw [hZ, pay5_at, sel_if]
  by_cases h : l.val < 64
  · rw [if_pos h, if_pos h]
  · rw [if_neg h, if_neg h]
    refine congrArg (f p.val) ?_
    show 128 + l.val = 192 + (l.val - 64)
    omega

end

theorem pay85_o (p : Fin 512) (l : Fin 128) :
    k0_pay85 (F := Ideal) (k0_pay76 k0_pay5) (ix3 0 p l) = if l.val < 64 then 1 else 0 := by
  pointwise [k0_pay85, k0_pay76]
  rw [pay5_at, sel_if]

theorem pay89_o (p : Fin 512) (l : Fin 128) :
    k0_pay89 (F := Ideal) (k0_pay76 k0_pay5) (ix3 0 p l) = if l.val < 64 then 1 else 0 := by
  pointwise [k0_pay89, k0_pay76]
  rw [pay5_at, sel_if]

theorem pay95_o (p : Fin 512) (l : Fin 128) :
    k0_pay95 (F := Ideal) (k0_pay76 k0_pay5) (ix3 0 p l) = if l.val < 64 then 1 else 0 := by
  pointwise [k0_pay95, k0_pay76]
  rw [pay5_at, sel_if]

theorem pay99_o (p : Fin 512) (l : Fin 128) :
    k0_pay99 (F := Ideal) (k0_pay76 k0_pay5) (ix3 0 p l) = if l.val < 64 then 1 else 0 := by
  pointwise [k0_pay99, k0_pay76]
  rw [pay5_at, sel_if]

theorem pay87_o (p : Fin 512) (l : Fin 128) :
    k0_pay87 (F := Ideal) (k0_pay77 k0_pay5) (ix3 0 p l) = if l.val < 64 then 0 else 1 := by
  pointwise [k0_pay87, k0_pay77]
  rw [pay5_at, sel_if]

theorem pay91_o (p : Fin 512) (l : Fin 128) :
    k0_pay91 (F := Ideal) (k0_pay77 k0_pay5) (ix3 0 p l) = if l.val < 64 then 0 else 1 := by
  pointwise [k0_pay91, k0_pay77]
  rw [pay5_at, sel_if]

theorem pay97_o (p : Fin 512) (l : Fin 128) :
    k0_pay97 (F := Ideal) (k0_pay77 k0_pay5) (ix3 0 p l) = if l.val < 64 then 0 else 1 := by
  pointwise [k0_pay97, k0_pay77]
  rw [pay5_at, sel_if]

theorem pay102_o (p : Fin 512) (l : Fin 128) :
    k0_pay102 (F := Ideal) (k0_pay77 k0_pay5) (ix3 0 p l) = if l.val < 64 then 0 else 1 := by
  pointwise [k0_pay102, k0_pay77]
  rw [pay5_at, sel_if]

end Cert.KernelIdeal.Val

end
-- ==== Proof.Proj.lean ====
module

public import proofs.«01_k».proof.Proof.Step

@[expose] public section

set_option maxRecDepth 16384

noncomputable section

namespace Cert.KernelIdeal.Val

open Idealize.ShloMosaic Idealize.ShloMosaic.TcCoe Idealize.SL.Sem Layer Facts₀ Facts Gen

/-! ### What a step of the input projection writes -/

section
variable {A B n m a d : ℕ}

theorem emb3_1 (inb) (x : (⟨3, ![1, n, m]⟩ : Shape).Idx) : ((Rect.unit (s := ⟨3, ![1, A, B]⟩) ![0, a, d] ![1, n, m] inb).emb x 1).val = a + (x 1).val :=
  Rect.idx_unit_val (s := ⟨3, ![1, A, B]⟩) ![0, a, d] ![1, n, m] inb x 1

theorem emb3_2 (inb) (x : (⟨3, ![1, n, m]⟩ : Shape).Idx) : ((Rect.unit (s := ⟨3, ![1, A, B]⟩) ![0, a, d] ![1, n, m] inb).emb x 2).val = d + (x 2).val :=
  Rect.idx_unit_val (s := ⟨3, ![1, A, B]⟩) ![0, a, d] ![1, n, m] inb x 2

/-- A store of whole columns holds the cells of an array, if it does lane by lane. -/
theorem pieceR (inb) (P : (⟨3, ![1, n, m]⟩ : Shape).Idx → EReal) (G : ℕ → ℕ → EReal) (h : ∀ (p : Fin n) (l : Fin m), P (ix3 0 p l) = G p.val (d + l.val)) (x : (⟨3, ![1, n, m]⟩ : Shape).Idx) :
    P x = G ((Rect.unit (s := ⟨3, ![1, A, B]⟩) ![0, 0, d] ![1, n, m] inb).emb x 1).val ((Rect.unit (s := ⟨3, ![1, A, B]⟩) ![0, 0, d] ![1, n, m] inb).emb x 2).val := by
  rw [emb3_1, emb3_2, Nat.zero_add]
  obtain ⟨z, p, l, rfl⟩ : ∃ z p l, x = ix3 z p l := ⟨_, _, _, eq_ix3 x⟩
  rw [Fin.eq_zero z]
  exact h p l

/-- A store of whole rows holds the cells of an array, if it does lane by lane. -/
theorem pieceC (inb) (P : (⟨3, ![1, n, m]⟩ : Shape).Idx → EReal) (G : ℕ → ℕ → EReal) (h : ∀ (p : Fin n) (l : Fin m), P (ix3 0 p l) = G (a + p.val) l.val) (x : (⟨3, ![1, n, m]⟩ : Shape).Idx) :
    P x = G ((Rect.unit (s := ⟨3, ![1, A, B]⟩) ![0, a, 0] ![1, n, m] inb).emb x 1).val ((Rect.unit (s := ⟨3, ![1, A, B]⟩) ![0, a, 0] ![1, n, m] inb).emb x 2).val := by
  rw [emb3_1, emb3_2, Nat.zero_add]
  obtain ⟨z, p, l, rfl⟩ : ∃ z p l, x = ix3 z p l := ⟨_, _, _, eq_ix3 x⟩
  rw [Fin.eq_zero z]
  exact h p l

end

/-! ### The halves of the key and value lanes -/

theorem ones_lo (h : ℕ) {l : ℕ} (hl : l < 128) {X : EReal} : (if l < 64 then (1 : EReal) else 0) = if (h * 256 + 128 + l) % 256 < 128 then X else if (h * 256 + 128 + l) % 256 < 192 then 1 else 0 := by
  rw [if_neg (show ¬ (h * 256 + 128 + l) % 256 < 128 by omega)]
  exact if_congr (by omega) rfl rfl

theorem half_lo0 (f : ℕ → EReal) {l : ℕ} (hl : l < 128) {X : EReal} : (if l < 64 then f (3328 + (l)) else 0)
    = if (0 + l) % 256 < 128 then (if (0 + l) % 256 < 64 then f (3328 + (0 + l) / 256 * 64 + (0 + l) % 256) else 0) else X := by
  rw [if_pos (show (0 + l) % 256 < 128 by omega)]
  by_cases h : l < 64
  · rw [if_pos h, if_pos (by omega)]
    exact congrArg f (by omega)
  · rw [if_neg h, if_neg (by omega)]

theorem half_lo1 (f : ℕ → EReal) {l : ℕ} (hl : l < 128) {X : EReal} : (if l < 64 then f (3328 + (64 + l)) else 0)
    = if (256 + l) % 256 < 128 then (if (256 + l) % 256 < 64 then f (3328 + (256 + l) / 256 * 64 + (256 + l) % 256) else 0) else X := by
  rw [if_pos (show (256 + l) % 256 < 128 by omega)]
  by_cases h : l < 64
  · rw [if_pos h, if_pos (by omega)]
    exact congrArg f (by omega)
  · rw [if_neg h, if_neg (by omega)]

theorem half_lo2 (f : ℕ → EReal) {l : ℕ} (hl : l < 128) {X : EReal} : (if l < 64 then f (3328 + (128 + l)) else 0)
    = if (512 + l) % 256 < 128 then (if (512 + l) % 256 < 64 then f (3328 + (512 + l) / 256 * 64 + (512 + l) % 256) else 0) else X := by
  rw [if_pos (show (512 + l) % 256 < 128 by omega)]
  by_cases h : l < 64
  · rw [if_pos h, if_pos (by omega)]
    exact congrArg f (by omega)
  · rw [if_neg h, if_neg (by omega)]

theorem half_lo3 (f : ℕ → EReal) {l : ℕ} (hl : l < 128) {X : EReal} : (if l < 64 then f (3328 + (192 + l)) else 0)
    = if (768 + l) % 256 < 128 then (if (768 + l) % 256 < 64 then f (3328 + (768 + l) / 256 * 64 + (768 + l) % 256) else 0) else X := by
  rw [if_pos (show (768 + l) % 256 < 128 by omega)]
  by_cases h : l < 64
  · rw [if_pos h, if_pos (by omega)]
    exact congrArg f (by omega)
  · rw [if_neg h, if_neg (by omega)]

theorem ones_hi (h : ℕ) {l : ℕ} (hl : l < 128) {X : EReal} : (if l < 64 then (0 : EReal) else 1) = if (h * 256 + 128 + l) % 256 < 128 then X else if (h * 256 + 128 + l) % 256 < 192 then 0 else 1 := by
  rw [if_neg (show ¬ (h * 256 + 128 + l) % 256 < 128 by omega)]
  exact if_congr (by omega) rfl rfl

theorem half_hi0 (f : ℕ → EReal) {l : ℕ} (hl : l < 128) {X : EReal} : (if l < 64 then 0 else f (3328 + ((l - 64))))
    = if (0 + l) % 256 < 128 then (if (0 + l) % 256 < 64 then 0 else f (3328 + (0 + l) / 256 * 64 + ((0 + l) % 256 - 64))) else X := by
  rw [if_pos (show (0 + l) % 256 < 128 by omega)]
  by_cases h : l < 64
  · rw [if_pos h, if_pos (by omega)]
  · rw [if_neg h, if_neg (by omega)]
    exact congrArg f (by omega)

theorem half_hi1 (f : ℕ → EReal) {l : ℕ} (hl : l < 128) {X : EReal} : (if l < 64 then 0 else f (3328 + (64 + (l - 64))))
    = if (256 + l) % 256 < 128 then (if (256 + l) % 256 < 64 then 0 else f (3328 + (256 + l) / 256 * 64 + ((256 + l) % 256 - 64))) else X := by
  rw [if_pos (show (256 + l) % 256 < 128 by omega)]
  by_cases h : l < 64
  · rw [if_pos h, if_pos (by omega)]
  · rw [if_neg h, if_neg (by omega)]
    exact congrArg f (by omega)

theorem half_hi2 (f : ℕ → EReal) {l : ℕ} (hl : l < 128) {X : EReal} : (if l < 64 then 0 else f (3328 + (128 + (l - 64))))
    = if (512 + l) % 256 < 128 then (if (512 + l) % 256 < 64 then 0 else f (3328 + (512 + l) / 256 * 64 + ((512 + l) % 256 - 64))) else X := by
  rw [if_pos (show (512 + l) % 256 < 128 by omega)]
  by_cases h : l < 64
  · rw [if_pos h, if_pos (by omega)]
  · rw [if_neg h, if_neg (by omega)]
    exact congrArg f (by omega)

theorem half_hi3 (f : ℕ → EReal) {l : ℕ} (hl : l < 128) {X : EReal} : (if l < 64 then 0 else f (3328 + (192 + (l - 64))))
    = if (768 + l) % 256 < 128 then (if (768 + l) % 256 < 64 then 0 else f (3328 + (768 + l) / 256 * 64 + ((768 + l) % 256 - 64))) else X := by
  rw [if_pos (show (768 + l) % 256 < 128 by omega)]
  by_cases h : l < 64
  · rw [if_pos h, if_pos (by omega)]
  · rw [if_neg h, if_neg (by omega)]
    exact congrArg f (by omega)

theorem qrot0 (I : In) (b t : ℕ) {l : ℕ} (hl : l < 128) :
    rot (fun d => zP I b t (2048 + (l / 64 * 64 + d))) t (l % 64) * (qsc : EReal) = qR I b t ((0 + l) / 64) ((0 + l) % 64) * (qsc : EReal) := by
  refine congrArg (· * (qsc : EReal)) (congrArg₂ (fun g j => rot g t j) (funext fun d => congrArg (zP I b t) ?_) ?_)
  · show 2048 + (l / 64 * 64 + d) = 2048 + (0 + l) / 64 * 64 + d
    omega
  · omega

theorem qrot128 (I : In) (b t : ℕ) {l : ℕ} (hl : l < 128) :
    rot (fun d => zP I b t (2048 + (128 + (l / 64 * 64 + d)))) t (l % 64) * (qsc : EReal) = qR I b t ((128 + l) / 64) ((128 + l) % 64) * (qsc : EReal) := by
  refine congrArg (· * (qsc : EReal)) (congrArg₂ (fun g j => rot g t j) (funext fun d => congrArg (zP I b t) ?_) ?_)
  · show 2048 + (128 + (l / 64 * 64 + d)) = 2048 + (128 + l) / 64 * 64 + d
    omega
  · omega

theorem qrot256 (I : In) (b t : ℕ) {l : ℕ} (hl : l < 128) :
    rot (fun d => zP I b t (2048 + (256 + (l / 64 * 64 + d)))) t (l % 64) * (qsc : EReal) = qR I b t ((256 + l) / 64) ((256 + l) % 64) * (qsc : EReal) := by
  refine congrArg (· * (qsc : EReal)) (congrArg₂ (fun g j => rot g t j) (funext fun d => congrArg (zP I b t) ?_) ?_)
  · show 2048 + (256 + (l / 64 * 64 + d)) = 2048 + (256 + l) / 64 * 64 + d
    omega
  · omega

theorem qrot384 (I : In) (b t : ℕ) {l : ℕ} (hl : l < 128) :
    rot (fun d => zP I b t (2048 + (384 + (l / 64 * 64 + d)))) t (l % 64) * (qsc : EReal) = qR I b t ((384 + l) / 64) ((384 + l) % 64) * (qsc : EReal) := by
  refine congrArg (· * (qsc : EReal)) (congrArg₂ (fun g j => rot g t j) (funext fun d => congrArg (zP I b t) ?_) ?_)
  · show 2048 + (384 + (l / 64 * 64 + d)) = 2048 + (384 + l) / 64 * 64 + d
    omega
  · omega

theorem qrot512 (I : In) (b t : ℕ) {l : ℕ} (hl : l < 128) :
    rot (fun d => zP I b t (2560 + (l / 64 * 64 + d))) t (l % 64) * (qsc : EReal) = qR I b t ((512 + l) / 64) ((512 + l) % 64) * (qsc : EReal) := by
  refine congrArg (· * (qsc : EReal)) (congrArg₂ (fun g j => rot g t j) (funext fun d => congrArg (zP I b t) ?_) ?_)
  · show 2560 + (l / 64 * 64 + d) = 2048 + (512 + l) / 64 * 64 + d
    omega
  · omega

theorem qrot640 (I : In) (b t : ℕ) {l : ℕ} (hl : l < 128) :
    rot (fun d => zP I b t (2560 + (128 + (l / 64 * 64 + d)))) t (l % 64) * (qsc : EReal) = qR I b t ((640 + l) / 64) ((640 + l) % 64) * (qsc : EReal) := by
  refine congrArg (· * (qsc : EReal)) (congrArg₂ (fun g j => rot g t j) (funext fun d => congrArg (zP I b t) ?_) ?_)
  · show 2560 + (128 + (l / 64 * 64 + d)) = 2048 + (640 + l) / 64 * 64 + d
    omega
  · omega

theorem qrot768 (I : In) (b t : ℕ) {l : ℕ} (hl : l < 128) :
    rot (fun d => zP I b t (2560 + (256 + (l / 64 * 64 + d)))) t (l % 64) * (qsc : EReal) = qR I b t ((768 + l) / 64) ((768 + l) % 64) * (qsc : EReal) := by
  refine congrArg (· * (qsc : EReal)) (congrArg₂ (fun g j => rot g t j) (funext fun d => congrArg (zP I b t) ?_) ?_)
  · show 2560 + (256 + (l / 64 * 64 + d)) = 2048 + (768 + l) / 64 * 64 + d
    omega
  · omega

theorem qrot896 (I : In) (b t : ℕ) {l : ℕ} (hl : l < 128) :
    rot (fun d => zP I b t (2560 + (384 + (l / 64 * 64 + d)))) t (l % 64) * (qsc : EReal) = qR I b t ((896 + l) / 64) ((896 + l) % 64) * (qsc : EReal) := by
  refine congrArg (· * (qsc : EReal)) (congrArg₂ (fun g j => rot g t j) (funext fun d => congrArg (zP I b t) ?_) ?_)
  · show 2560 + (384 + (l / 64 * 64 + d)) = 2048 + (896 + l) / 64 * 64 + d
    omega
  · omega

theorem krot0 (I : In) (b t : ℕ) {l : ℕ} (hl : l < 128) :
    (if l < 64 then rot (fun d => zP I b t (3072 + (d))) t l else 0) = if (0 + l) % 256 < 128 then (if (0 + l) % 128 < 64 then kR I b t ((0 + l) / 256) ((0 + l) % 128) else 0) else (if (0 + l) % 128 < 64 then 0 else kR I b t ((0 + l) / 256) ((0 + l) % 128 - 64)) := by
  rw [if_pos (show (0 + l) % 256 < 128 by omega)]
  by_cases h : l < 64
  · rw [if_pos h, if_pos (show (0 + l) % 128 < 64 by omega)]
    refine congrArg₂ (fun g j => rot g t j) (funext fun d => congrArg (zP I b t) ?_) ?_
    · show 3072 + (d) = 3072 + (0 + l) / 256 * 64 + d
      omega
    · show l = (0 + l) % 128
      omega
  · rw [if_neg h, if_neg (show ¬ (0 + l) % 128 < 64 by omega)]

theorem krot1 (I : In) (b t : ℕ) {l : ℕ} (hl : l < 128) :
    (if l < 64 then 0 else rot (fun d => zP I b t (3072 + (d))) t (l - 64)) = if (128 + l) % 256 < 128 then (if (128 + l) % 128 < 64 then kR I b t ((128 + l) / 256) ((128 + l) % 128) else 0) else (if (128 + l) % 128 < 64 then 0 else kR I b t ((128 + l) / 256) ((128 + l) % 128 - 64)) := by
  rw [if_neg (show ¬ (128 + l) % 256 < 128 by omega)]
  by_cases h : l < 64
  · rw [if_pos h, if_pos (show (128 + l) % 128 < 64 by omega)]

  · rw [if_neg h, if_neg (show ¬ (128 + l) % 128 < 64 by omega)]
    refine congrArg₂ (fun g j => rot g t j) (funext fun d => congrArg (zP I b t) ?_) ?_
    · show 3072 + (d) = 3072 + (128 + l) / 256 * 64 + d
      omega
    · show l - 64 = (128 + l) % 128 - 64
      omega

theorem krot2 (I : In) (b t : ℕ) {l : ℕ} (hl : l < 128) :
    (if l < 64 then rot (fun d => zP I b t (3072 + (64 + d))) t l else 0) = if (256 + l) % 256 < 128 then (if (256 + l) % 128 < 64 then kR I b t ((256 + l) / 256) ((256 + l) % 128) else 0) else (if (256 + l) % 128 < 64 then 0 else kR I b t ((256 + l) / 256) ((256 + l) % 128 - 64)) := by
  rw [if_pos (show (256 + l) % 256 < 128 by omega)]
  by_cases h : l < 64
  · rw [if_pos h, if_pos (show (256 + l) % 128 < 64 by omega)]
    refine congrArg₂ (fun g j => rot g t j) (funext fun d => congrArg (zP I b t) ?_) ?_
    · show 3072 + (64 + d) = 3072 + (256 + l) / 256 * 64 + d
      omega
    · show l = (256 + l) % 128
      omega
  · rw [if_neg h, if_neg (show ¬ (256 + l) % 128 < 64 by omega)]

theorem krot3 (I : In) (b t : ℕ) {l : ℕ} (hl : l < 128) :
    (if l < 64 then 0 else rot (fun d => zP I b t (3072 + (64 + d))) t (l - 64)) = if (384 + l) % 256 < 128 then (if (384 + l) % 128 < 64 then kR I b t ((384 + l) / 256) ((384 + l) % 128) else 0) else (if (384 + l) % 128 < 64 then 0 else kR I b t ((384 + l) / 256) ((384 + l) % 128 - 64)) := by
  rw [if_neg (show ¬ (384 + l) % 256 < 128 by omega)]
  by_cases h : l < 64
  · rw [if_pos h, if_pos (show (384 + l) % 128 < 64 by omega)]

  · rw [if_neg h, if_neg (show ¬ (384 + l) % 128 < 64 by omega)]
    refine congrArg₂ (fun g j => rot g t j) (funext fun d => congrArg (zP I b t) ?_) ?_
    · show 3072 + (64 + d) = 3072 + (384 + l) / 256 * 64 + d
      omega
    · show l - 64 = (384 + l) % 128 - 64
      omega

theorem krot4 (I : In) (b t : ℕ) {l : ℕ} (hl : l < 128) :
    (if l < 64 then rot (fun d => zP I b t (3072 + (128 + d))) t l else 0) = if (512 + l) % 256 < 128 then (if (512 + l) % 128 < 64 then kR I b t ((512 + l) / 256) ((512 + l) % 128) else 0) else (if (512 + l) % 128 < 64 then 0 else kR I b t ((512 + l) / 256) ((512 + l) % 128 - 64)) := by
  rw [if_pos (show (512 + l) % 256 < 128 by omega)]
  by_cases h : l < 64
  · rw [if_pos h, if_pos (show (512 + l) % 128 < 64 by omega)]
    refine congrArg₂ (fun g j => rot g t j) (funext fun d => congrArg (zP I b t) ?_) ?_
    · show 3072 + (128 + d) = 3072 + (512 + l) / 256 * 64 + d
      omega
    · show l = (512 + l) % 128
      omega
  · rw [if_neg h, if_neg (show ¬ (512 + l) % 128 < 64 by omega)]

theorem krot5 (I : In) (b t : ℕ) {l : ℕ} (hl : l < 128) :
    (if l < 64 then 0 else rot (fun d => zP I b t (3072 + (128 + d))) t (l - 64)) = if (640 + l) % 256 < 128 then (if (640 + l) % 128 < 64 then kR I b t ((640 + l) / 256) ((640 + l) % 128) else 0) else (if (640 + l) % 128 < 64 then 0 else kR I b t ((640 + l) / 256) ((640 + l) % 128 - 64)) := by
  rw [if_neg (show ¬ (640 + l) % 256 < 128 by omega)]
  by_cases h : l < 64
  · rw [if_pos h, if_pos (show (640 + l) % 128 < 64 by omega)]

  · rw [if_neg h, if_neg (show ¬ (640 + l) % 128 < 64 by omega)]
    refine congrArg₂ (fun g j => rot g t j) (funext fun d => congrArg (zP I b t) ?_) ?_
    · show 3072 + (128 + d) = 3072 + (640 + l) / 256 * 64 + d
      omega
    · show l - 64 = (640 + l) % 128 - 64
      omega

theorem krot6 (I : In) (b t : ℕ) {l : ℕ} (hl : l < 128) :
    (if l < 64 then rot (fun d => zP I b t (3072 + (192 + d))) t l else 0) = if (768 + l) % 256 < 128 then (if (768 + l) % 128 < 64 then kR I b t ((768 + l) / 256) ((768 + l) % 128) else 0) else (if (768 + l) % 128 < 64 then 0 else kR I b t ((768 + l) / 256) ((768 + l) % 128 - 64)) := by
  rw [if_pos (show (768 + l) % 256 < 128 by omega)]
  by_cases h : l < 64
  · rw [if_pos h, if_pos (show (768 + l) % 128 < 64 by omega)]
    refine congrArg₂ (fun g j => rot g t j) (funext fun d => congrArg (zP I b t) ?_) ?_
    · show 3072 + (192 + d) = 3072 + (768 + l) / 256 * 64 + d
      omega
    · show l = (768 + l) % 128
      omega
  · rw [if_neg h, if_neg (show ¬ (768 + l) % 128 < 64 by omega)]

theorem krot7 (I : In) (b t : ℕ) {l : ℕ} (hl : l < 128) :
    (if l < 64 then 0 else rot (fun d => zP I b t (3072 + (192 + d))) t (l - 64)) = if (896 + l) % 256 < 128 then (if (896 + l) % 128 < 64 then kR I b t ((896 + l) / 256) ((896 + l) % 128) else 0) else (if (896 + l) % 128 < 64 then 0 else kR I b t ((896 + l) / 256) ((896 + l) % 128 - 64)) := by
  rw [if_neg (show ¬ (896 + l) % 256 < 128 by omega)]
  by_cases h : l < 64
  · rw [if_pos h, if_pos (show (896 + l) % 128 < 64 by omega)]

  · rw [if_neg h, if_neg (show ¬ (896 + l) % 128 < 64 by omega)]
    refine congrArg₂ (fun g j => rot g t j) (funext fun d => congrArg (zP I b t) ?_) ?_
    · show 3072 + (192 + d) = 3072 + (896 + l) / 256 * 64 + d
      omega
    · show l - 64 = (896 + l) % 128 - 64
      omega

theorem norm_hN (I : In) (b t : ℕ) (g : Vec Ideal S1x1024 .f32) (x : Vec Ideal S1x512x1024 .f32) (p : Fin 512) (hg : ∀ l : Fin 1024, g (ix2 0 l) = I.g l.val)
    (hx : ∀ l : Fin 1024, x (ix3 0 p l) = I.x b t l.val) (l : Fin 1024) : k0_pay3 (F := Ideal) g x (ix2 p l) = hN I b t l.val := by
  rw [norm_at, hN, rms_fin]
  simp only [hg, hx]

theorem z_of {n m : ℕ} (I : In) (b t c : ℕ) (A : (⟨2, ![n, 1024]⟩ : Shape).Idx → EReal) (B : (⟨2, ![1024, m]⟩ : Shape).Idx → EReal) (p : Fin n) (l : Fin m)
    (hA : ∀ k : Fin 1024, A (ix2 p k) = hN I b t k.val) (hB : ∀ k : Fin 1024, B (ix2 k l) = I.w k.val c) : (∑ k : Fin 1024, A (ix2 p k) * B (ix2 k l)) = zP I b t c := by
  rw [zP, ← sum_fin]
  exact Finset.sum_congr rfl fun k _ => by rw [hA, hB]

section
variable (c : Dev nD) (i : grid0.Coords)
  (arg2 : Memref sig .tc .vmem S1x512x1024 .f32) (harg2 : arg2.IsWhole)
  (arg3 : Memref sig .tc .vmem S1x8x1024 .f32) (harg3 : arg3.IsWhole)
  (arg4 : Memref sig .tc .vmem S1x8x1024 .f32) (harg4 : arg4.IsWhole)
  (arg5 : Memref sig .tc .vmem S1x1024 .f32) (harg5 : arg5.IsWhole)
  (arg6 : Memref sig .tc .vmem S1024x6656 .bf16) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S4x256x256 .bf16) (harg9 : arg9.IsWhole)
  (arg10 : Memref sig .tc .vmem S1x1024 .f32) (harg10 : arg10.IsWhole)
  (arg11 : Memref sig .tc .vmem S1x512x1024 .bf16) (harg11 : arg11.IsWhole)
  (arg12 : Memref sig .tc .vmem S1x512x1024 .bf16) (harg12 : arg12.IsWhole)
  (arg13 : Memref sig .tc .vmem S1x512x1024 .bf16) (harg13 : arg13.IsWhole)
  (arg14 : Memref sig .tc .vmem S1x512x2048 .bf16) (harg14 : arg14.IsWhole)
  (arg15 : Memref sig .tc .vmem S1x1024x512 .bf16) (harg15 : arg15.IsWhole)
  (arg16 : Memref sig .tc .vmem S1x512x1024 .bf16) (harg16 : arg16.IsWhole)
  (arg17 : Memref sig .tc .vmem S1x512x1024 .bf16) (harg17 : arg17.IsWhole)
  (arg18 : Memref sig .tc .vmem S552x1024 .f32) (harg18 : arg18.IsWhole)
  (x0 : Vec Ideal S1x512x1024 .f32) (x1 : Vec Ideal S1x8x1024 .f32) (x2 : Vec Ideal S1x8x1024 .f32) (x3 : Vec Ideal S1x1024 .f32) (x4 : Vec Ideal S1024x6656 .bf16) (x5 : Vec Ideal S512x128 .f32) (x6 : Vec Ideal S512x128 .f32) (x7 : Vec Ideal S4x256x256 .bf16) (x8 : Vec Ideal S1x1024 .f32)
variable (I : In) (b T : ℕ)
  (h0 : ∀ p l, p < 512 → l < 1024 → rd3 (n0 := 1) (n1 := 512) (n2 := 1024) x0 0 p l = I.x b (T * 512 + p) l)
  (h3 : ∀ l, l < 1024 → rd2 (n0 := 1) (n1 := 1024) x3 0 l = I.g l)
  (h4 : ∀ k l, k < 1024 → l < 6656 → rd2 (n0 := 1024) (n1 := 6656) x4 k l = I.w k l)
  (h5 : ∀ p l, p < 512 → l < 128 → rd2 (n0 := 512) (n1 := 128) x5 p l = Ideal.cos (ang (T * 512 + p) (l % 32)))
  (h6 : ∀ p l, p < 512 → l < 128 → rd2 (n0 := 512) (n1 := 128) x6 p l = if l % 64 < 32 then -Ideal.sin (ang (T * 512 + p) (l % 32)) else Ideal.sin (ang (T * 512 + p) (l % 32)))

include h0 in
theorem ldX (inb) (p : Fin 512) (l : Fin 1024) :
    View.readAt (Elt Ideal) arg2.view (Rect.unit (s := S1x512x1024) ![0, 0, 0] S1x512x1024.size inb).toLoadRect (harg2.unread x0) (ix3 0 p l) = I.x b (T * 512 + p.val) l.val := by
  have hp := p.isLt
  have hl := l.isLt
  exact (load3_f32 (A := 1) (B := 512) (C := 1024) arg2 harg2 x0 _ (ix3 0 p l)).trans ((h0 (0 + p.val) (0 + l.val) (by omega) (by omega)).trans (by rw [Nat.zero_add, Nat.zero_add]))

include h3 in
theorem ldG (inb) (l : Fin 1024) :
    View.readAt (Elt Ideal) arg5.view (Rect.unit (s := S1x1024) ![0, 0] S1x1024.size inb).toLoadRect (harg5.unread x3) (ix2 0 l) = I.g l.val := by
  have hl := l.isLt
  exact (load2_f32 (A := 1) (B := 1024) arg5 harg5 x3 _ (ix2 0 l)).trans ((h3 (0 + l.val) (by omega)).trans (by rw [Nat.zero_add]))

include h4 in
theorem ldW {off n : ℕ} (ho : off + n ≤ 6656) (inb) (k : Fin 1024) (l : Fin n) :
    View.readAt (Elt Ideal) arg6.view (Rect.unit (s := S1024x6656) ![0, off] ![1024, n] inb).toLoadRect (harg6.unread x4) (ix2 k l) = I.w k.val (off + l.val) := by
  have hk := k.isLt
  have hl := l.isLt
  exact (load2_bf16 (A := 1024) (B := 6656) (n := 1024) (m := n) arg6 harg6 x4 _ (ix2 k l)).trans ((h4 (0 + k.val) (off + l.val) (by omega) (by omega)).trans (by rw [Nat.zero_add]))

include h5 in
theorem cos_at (p : Fin 512) (l : Fin 128) : kernelRun0_A.sl.r_3 (F := Ideal) c arg7 harg7 x5 (ix2 p l) = Ideal.cos (ang (T * 512 + p.val) (l.val % 32)) := by
  have hp := p.isLt
  have hl := l.isLt
  have e : ∀ v : Vec Ideal S512x128 .f32, k0_pay7 v (ix2 p l) = v (ix2 p l) := by intro v; pointwise! [k0_pay7]
  refine (e _).trans ((load2_f32 (A := 512) (B := 128) arg7 harg7 x5 _ (ix2 p l)).trans ((h5 (0 + p.val) (0 + l.val) (by omega) (by omega)).trans (by rw [Nat.zero_add, Nat.zero_add])))

include h6 in
theorem sin_at (p : Fin 512) (l : Fin 128) : kernelRun0_A.sl.r_4 (F := Ideal) c arg8 harg8 x6 (ix2 p l) = if l.val % 64 < 32 then -Ideal.sin (ang (T * 512 + p.val) (l.val % 32)) else Ideal.sin (ang (T * 512 + p.val) (l.val % 32)) := by
  have hp := p.isLt
  have hl := l.isLt
  have e : ∀ v : Vec Ideal S512x128 .f32, k0_pay8 v (ix2 p l) = v (ix2 p l) := by intro v; pointwise! [k0_pay8]
  refine (e _).trans ((load2_f32 (A := 512) (B := 128) arg8 harg8 x6 _ (ix2 p l)).trans ((h6 (0 + p.val) (0 + l.val) (by omega) (by omega)).trans (by rw [Nat.zero_add, Nat.zero_add])))

include h0 h3

theorem h_at (p : Fin 512) (k : Fin 1024) : kernelRun0_A.sl.r_2 (F := Ideal) c arg2 harg2 arg5 harg5 x0 x3 (ix2 p k) = hN I b (T * 512 + p.val) k.val :=
  (pay4_at _ _ p k).trans (norm_hN I b _ _ _ p (ldG arg5 harg5 x3 I h3 _) (ldX arg2 harg2 x0 I b T h0 _ p) k)

include h4

theorem r9_at (p : Fin 512) (l : Fin 512) : kernelRun0_A.sl.r_9 (F := Ideal) c arg2 harg2 arg5 harg5 arg6 harg6 x0 x3 x4 (ix2 p l) = zP I b (T * 512 + p.val) (2048 + l.val) :=
  (pay18_at _ _ p l).trans (z_of I b (T * 512 + p.val) (2048 + l.val) _ _ p l (h_at c arg2 harg2 arg5 harg5 x0 x3 I b T h0 h3 p) (fun k => ldW (off := 2048) (n := 512) arg6 harg6 x4 I h4 (by decide) _ k l))

theorem r11_at (p : Fin 512) (l : Fin 512) : kernelRun0_A.sl.r_11 (F := Ideal) c arg2 harg2 arg5 harg5 arg6 harg6 x0 x3 x4 (ix2 p l) = zP I b (T * 512 + p.val) (2560 + l.val) :=
  (pay24_at _ _ p l).trans (z_of I b (T * 512 + p.val) (2560 + l.val) _ _ p l (h_at c arg2 harg2 arg5 harg5 x0 x3 I b T h0 h3 p) (fun k => ldW (off := 2560) (n := 512) arg6 harg6 x4 I h4 (by decide) _ k l))

theorem r15_at (p : Fin 512) (l : Fin 256) : kernelRun0_A.sl.r_15 (F := Ideal) c arg2 harg2 arg5 harg5 arg6 harg6 x0 x3 x4 (ix2 p l) = zP I b (T * 512 + p.val) (1024 + l.val) :=
  (pay31_at _ _ p l).trans (z_of I b (T * 512 + p.val) (1024 + l.val) _ _ p l (h_at c arg2 harg2 arg5 harg5 x0 x3 I b T h0 h3 p) (fun k => ldW (off := 1024) (n := 256) arg6 harg6 x4 I h4 (by decide) _ k l))

theorem r17_at (p : Fin 512) (l : Fin 256) : kernelRun0_A.sl.r_17 (F := Ideal) c arg2 harg2 arg5 harg5 arg6 harg6 x0 x3 x4 (ix2 p l) = zP I b (T * 512 + p.val) (1280 + l.val) :=
  (pay37_at _ _ p l).trans (z_of I b (T * 512 + p.val) (1280 + l.val) _ _ p l (h_at c arg2 harg2 arg5 harg5 x0 x3 I b T h0 h3 p) (fun k => ldW (off := 1280) (n := 256) arg6 harg6 x4 I h4 (by decide) _ k l))

theorem r25_at (p : Fin 512) (l : Fin 256) : kernelRun0_A.sl.r_25 (F := Ideal) c arg2 harg2 arg5 harg5 arg6 harg6 x0 x3 x4 (ix2 p l) = zP I b (T * 512 + p.val) (1792 + l.val) :=
  (pay45_at _ _ p l).trans (z_of I b (T * 512 + p.val) (1792 + l.val) _ _ p l (h_at c arg2 harg2 arg5 harg5 x0 x3 I b T h0 h3 p) (fun k => ldW (off := 1792) (n := 256) arg6 harg6 x4 I h4 (by decide) _ k l))

theorem r26_at (p : Fin 512) (l : Fin 256) : kernelRun0_A.sl.r_26 (F := Ideal) c arg2 harg2 arg5 harg5 arg6 harg6 x0 x3 x4 (ix2 p l) = silu (zP I b (T * 512 + p.val) (1536 + l.val)) :=
  (pay46_at _ _ p l).trans (congrArg silu (z_of I b (T * 512 + p.val) (1536 + l.val) _ _ p l (h_at c arg2 harg2 arg5 harg5 x0 x3 I b T h0 h3 p) (fun k => ldW (off := 1536) (n := 256) arg6 harg6 x4 I h4 (by decide) _ k l)))

theorem r30_at (p : Fin 512) (l : Fin 256) : kernelRun0_A.sl.r_30 (F := Ideal) c arg2 harg2 arg5 harg5 arg6 harg6 x0 x3 x4 (ix2 p l) = zP I b (T * 512 + p.val) (3072 + l.val) :=
  (pay50_at _ _ p l).trans (z_of I b (T * 512 + p.val) (3072 + l.val) _ _ p l (h_at c arg2 harg2 arg5 harg5 x0 x3 I b T h0 h3 p) (fun k => ldW (off := 3072) (n := 256) arg6 harg6 x4 I h4 (by decide) _ k l))

theorem r36_at (p : Fin 512) (l : Fin 256) : kernelRun0_A.sl.r_36 (F := Ideal) c arg2 harg2 arg5 harg5 arg6 harg6 x0 x3 x4 (ix2 p l) = zP I b (T * 512 + p.val) (3328 + l.val) :=
  (pay56_at _ _ p l).trans (z_of I b (T * 512 + p.val) (3328 + l.val) _ _ p l (h_at c arg2 harg2 arg5 harg5 x0 x3 I b T h0 h3 p) (fun k => ldW (off := 3328) (n := 256) arg6 harg6 x4 I h4 (by decide) _ k l))

theorem r53_at (p : Fin 512) (l : Fin 512) : kernelRun0_A.sl.r_53 (F := Ideal) c arg2 harg2 arg5 harg5 arg6 harg6 x0 x3 x4 (ix2 p l) = zP I b (T * 512 + p.val) (4096 + l.val) :=
  (pay109_at _ _ p l).trans (z_of I b (T * 512 + p.val) (4096 + l.val) _ _ p l (h_at c arg2 harg2 arg5 harg5 x0 x3 I b T h0 h3 p) (fun k => ldW (off := 4096) (n := 512) arg6 harg6 x4 I h4 (by decide) _ k l))

theorem r54_at (p : Fin 512) (l : Fin 512) : kernelRun0_A.sl.r_54 (F := Ideal) c arg2 harg2 arg5 harg5 arg6 harg6 x0 x3 x4 (ix2 p l) = zP I b (T * 512 + p.val) (4608 + l.val) :=
  (pay111_at _ _ p l).trans (z_of I b (T * 512 + p.val) (4608 + l.val) _ _ p l (h_at c arg2 harg2 arg5 harg5 x0 x3 I b T h0 h3 p) (fun k => ldW (off := 4608) (n := 512) arg6 harg6 x4 I h4 (by decide) _ k l))

theorem r55_at (p : Fin 512) (l : Fin 512) : kernelRun0_A.sl.r_55 (F := Ideal) c arg2 harg2 arg5 harg5 arg6 harg6 x0 x3 x4 (ix2 p l) = sg (zP I b (T * 512 + p.val) (6144 + l.val)) :=
  (pay116_at _ _ p l).trans (congrArg sg (z_of I b (T * 512 + p.val) (6144 + l.val) _ _ p l (h_at c arg2 harg2 arg5 harg5 x0 x3 I b T h0 h3 p) (fun k => ldW (off := 6144) (n := 512) arg6 harg6 x4 I h4 (by decide) _ k l)))

theorem gate_val (p : Fin 512) (l : Fin 2048) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun u v => sg (zP I b (T * 512 + u) (4608 + v))) p.val l.val := by
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 2048]⟩ : Shape).Idx => ((fun u v => sg (zP I b (T * 512 + u) (4608 + v))) (y 1).val (y 2).val : Elt Ideal .bf16)) _ ?_ _ (cover0_A_12 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl
  · exact pieceR (A := 512) (B := 2048) (n := 512) (m := 512) (d := 1536) (inb3 1 512 2048 0 0 1536 (by decide) (by decide) (by decide)) _ (fun u v => sg (zP I b (T * 512 + u) (4608 + v))) fun p l => (pay1_at _ p l).trans (((r55_at c arg2 harg2 arg5 harg5 arg6 harg6 x0 x3 x4 I b T h0 h3 h4 p l)).trans (congrArg (fun j => sg (zP I b (T * 512 + p.val) j)) (show 6144 + l.val = 4608 + (1536 + l.val) by omega)))
  · exact pieceR (A := 512) (B := 2048) (n := 512) (m := 512) (d := 1024) (inb3 1 512 2048 0 0 1024 (by decide) (by decide) (by decide)) _ (fun u v => sg (zP I b (T * 512 + u) (4608 + v))) fun p l => (pay115_at _ _ p l).trans ((congrArg sg (z_of I b (T * 512 + p.val) _ _ _ p l (h_at c arg2 harg2 arg5 harg5 x0 x3 I b T h0 h3 p) (fun k => ldW (off := 5632) (n := 512) arg6 harg6 x4 I h4 (by decide) _ k l))).trans (congrArg (fun j => sg (zP I b (T * 512 + p.val) j)) (show 5632 + l.val = 4608 + (1024 + l.val) by omega)))
  · exact pieceR (A := 512) (B := 2048) (n := 512) (m := 512) (d := 512) (inb3 1 512 2048 0 0 512 (by decide) (by decide) (by decide)) _ (fun u v => sg (zP I b (T * 512 + u) (4608 + v))) fun p l => (pay114_at _ _ p l).trans ((congrArg sg (z_of I b (T * 512 + p.val) _ _ _ p l (h_at c arg2 harg2 arg5 harg5 x0 x3 I b T h0 h3 p) (fun k => ldW (off := 5120) (n := 512) arg6 harg6 x4 I h4 (by decide) _ k l))).trans (congrArg (fun j => sg (zP I b (T * 512 + p.val) j)) (show 5120 + l.val = 4608 + (512 + l.val) by omega)))
  · exact pieceR (A := 512) (B := 2048) (n := 512) (m := 512) (d := 0) (inb3 1 512 2048 0 0 0 (by decide) (by decide) (by decide)) _ (fun u v => sg (zP I b (T * 512 + u) (4608 + v))) fun p l => (pay113_at _ p l).trans ((congrArg sg (r54_at c arg2 harg2 arg5 harg5 arg6 harg6 x0 x3 x4 I b T h0 h3 h4 p l)).trans (congrArg (fun j => sg (zP I b (T * 512 + p.val) j)) (show 4608 + l.val = 4608 + (0 + l.val) by omega)))

theorem ag_val (p : Fin 512) (l : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun u v => silu (zP I b (T * 512 + u) (3584 + v))) p.val l.val := by
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 1024]⟩ : Shape).Idx => ((fun u v => silu (zP I b (T * 512 + u) (3584 + v))) (y 1).val (y 2).val : Elt Ideal .bf16)) _ ?_ _ (cover0_A_11 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl
  · exact pieceR (A := 512) (B := 1024) (n := 512) (m := 512) (d := 512) (inb3 1 512 1024 0 0 512 (by decide) (by decide) (by decide)) _ (fun u v => silu (zP I b (T * 512 + u) (3584 + v))) fun p l => (pay112_at _ p l).trans ((congrArg silu (r53_at c arg2 harg2 arg5 harg5 arg6 harg6 x0 x3 x4 I b T h0 h3 h4 p l)).trans (congrArg (fun j => silu (zP I b (T * 512 + p.val) j)) (show 4096 + l.val = 3584 + (512 + l.val) by omega)))
  · exact pieceR (A := 512) (B := 1024) (n := 512) (m := 512) (d := 0) (inb3 1 512 1024 0 0 0 (by decide) (by decide) (by decide)) _ (fun u v => silu (zP I b (T * 512 + u) (3584 + v))) fun p l => (pay110_at _ _ p l).trans ((congrArg silu (z_of I b (T * 512 + p.val) _ _ _ p l (h_at c arg2 harg2 arg5 harg5 x0 x3 I b T h0 h3 p) (fun k => ldW (off := 3584) (n := 512) arg6 harg6 x4 I h4 (by decide) _ k l))).trans (congrArg (fun j => silu (zP I b (T * 512 + p.val) j)) (show 3584 + l.val = 3584 + (0 + l.val) by omega)))

-- vl_val
theorem vl_val (p : Fin 512) (l : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun u v => if v % 256 < 128 then (if v % 256 < 64 then vV I b (T * 512 + u) (v / 256) (v % 256) else 0) else if v % 256 < 192 then 1 else 0) p.val l.val := by
  unfold out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 1024]⟩ : Shape).Idx => ((fun u v => if v % 256 < 128 then (if v % 256 < 64 then vV I b (T * 512 + u) (v / 256) (v % 256) else 0) else if v % 256 < 192 then 1 else 0) (y 1).val (y 2).val : Elt Ideal .bf16)) _ ?_ _ (cover0_A_14 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl | rfl | rfl | rfl | rfl
  · exact pieceR (A := 512) (B := 1024) (n := 512) (m := 128) (d := 896) (inb3 1 512 1024 0 0 896 (by decide) (by decide) (by decide)) _ (fun u v => if v % 256 < 128 then (if v % 256 < 64 then vV I b (T * 512 + u) (v / 256) (v % 256) else 0) else if v % 256 < 192 then 1 else 0) fun p l => (pay99_o p l).trans (ones_lo 3 l.isLt)
  · exact pieceR (A := 512) (B := 1024) (n := 512) (m := 128) (d := 768) (inb3 1 512 1024 0 0 768 (by decide) (by decide) (by decide)) _ (fun u v => if v % 256 < 128 then (if v % 256 < 64 then vV I b (T * 512 + u) (v / 256) (v % 256) else 0) else if v % 256 < 192 then 1 else 0) fun p l => (pay98_v _ (fun u j => zP I b (T * 512 + u) (3328 + j)) (r36_at c arg2 harg2 arg5 harg5 arg6 harg6 x0 x3 x4 I b T h0 h3 h4) p l).trans (half_lo3 _ l.isLt)
  · exact pieceR (A := 512) (B := 1024) (n := 512) (m := 128) (d := 640) (inb3 1 512 1024 0 0 640 (by decide) (by decide) (by decide)) _ (fun u v => if v % 256 < 128 then (if v % 256 < 64 then vV I b (T * 512 + u) (v / 256) (v % 256) else 0) else if v % 256 < 192 then 1 else 0) fun p l => (pay95_o p l).trans (ones_lo 2 l.isLt)
  · exact pieceR (A := 512) (B := 1024) (n := 512) (m := 128) (d := 512) (inb3 1 512 1024 0 0 512 (by decide) (by decide) (by decide)) _ (fun u v => if v % 256 < 128 then (if v % 256 < 64 then vV I b (T * 512 + u) (v / 256) (v % 256) else 0) else if v % 256 < 192 then 1 else 0) fun p l => (pay94_v _ (fun u j => zP I b (T * 512 + u) (3328 + j)) (r36_at c arg2 harg2 arg5 harg5 arg6 harg6 x0 x3 x4 I b T h0 h3 h4) p l).trans (half_lo2 _ l.isLt)
  · exact pieceR (A := 512) (B := 1024) (n := 512) (m := 128) (d := 384) (inb3 1 512 1024 0 0 384 (by decide) (by decide) (by decide)) _ (fun u v => if v % 256 < 128 then (if v % 256 < 64 then vV I b (T * 512 + u) (v / 256) (v % 256) else 0) else if v % 256 < 192 then 1 else 0) fun p l => (pay89_o p l).trans (ones_lo 1 l.isLt)
  · exact pieceR (A := 512) (B := 1024) (n := 512) (m := 128) (d := 256) (inb3 1 512 1024 0 0 256 (by decide) (by decide) (by decide)) _ (fun u v => if v % 256 < 128 then (if v % 256 < 64 then vV I b (T * 512 + u) (v / 256) (v % 256) else 0) else if v % 256 < 192 then 1 else 0) fun p l => (pay88_v _ (fun u j => zP I b (T * 512 + u) (3328 + j)) (r36_at c arg2 harg2 arg5 harg5 arg6 harg6 x0 x3 x4 I b T h0 h3 h4) p l).trans (half_lo1 _ l.isLt)
  · exact pieceR (A := 512) (B := 1024) (n := 512) (m := 128) (d := 128) (inb3 1 512 1024 0 0 128 (by decide) (by decide) (by decide)) _ (fun u v => if v % 256 < 128 then (if v % 256 < 64 then vV I b (T * 512 + u) (v / 256) (v % 256) else 0) else if v % 256 < 192 then 1 else 0) fun p l => (pay85_o p l).trans (ones_lo 0 l.isLt)
  · exact pieceR (A := 512) (B := 1024) (n := 512) (m := 128) (d := 0) (inb3 1 512 1024 0 0 0 (by decide) (by decide) (by decide)) _ (fun u v => if v % 256 < 128 then (if v % 256 < 64 then vV I b (T * 512 + u) (v / 256) (v % 256) else 0) else if v % 256 < 192 then 1 else 0) fun p l => (pay84_v _ (fun u j => zP I b (T * 512 + u) (3328 + j)) (r36_at c arg2 harg2 arg5 harg5 arg6 harg6 x0 x3 x4 I b T h0 h3 h4) p l).trans (half_lo0 _ l.isLt)

-- vh_val
theorem vh_val (p : Fin 512) (l : Fin 1024) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun u v => if v % 256 < 128 then (if v % 256 < 64 then 0 else vV I b (T * 512 + u) (v / 256) (v % 256 - 64)) else if v % 256 < 192 then 0 else 1) p.val l.val := by
  unfold out0_A_15
  rw [View.read_writes_eq_canon _ _ _ (cover0_A_15 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 1024]⟩ : Shape).Idx => ((fun u v => if v % 256 < 128 then (if v % 256 < 64 then 0 else vV I b (T * 512 + u) (v / 256) (v % 256 - 64)) else if v % 256 < 192 then 0 else 1) (y 1).val (y 2).val : Elt Ideal .bf16)) _ ?_ _ (cover0_A_15 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl | rfl | rfl | rfl | rfl
  · exact pieceR (A := 512) (B := 1024) (n := 512) (m := 128) (d := 896) (inb3 1 512 1024 0 0 896 (by decide) (by decide) (by decide)) _ (fun u v => if v % 256 < 128 then (if v % 256 < 64 then 0 else vV I b (T * 512 + u) (v / 256) (v % 256 - 64)) else if v % 256 < 192 then 0 else 1) fun p l => (pay102_o p l).trans (ones_hi 3 l.isLt)
  · exact pieceR (A := 512) (B := 1024) (n := 512) (m := 128) (d := 768) (inb3 1 512 1024 0 0 768 (by decide) (by decide) (by decide)) _ (fun u v => if v % 256 < 128 then (if v % 256 < 64 then 0 else vV I b (T * 512 + u) (v / 256) (v % 256 - 64)) else if v % 256 < 192 then 0 else 1) fun p l => (pay101_v _ (fun u j => zP I b (T * 512 + u) (3328 + j)) (r36_at c arg2 harg2 arg5 harg5 arg6 harg6 x0 x3 x4 I b T h0 h3 h4) p l).trans (half_hi3 _ l.isLt)
  · exact pieceR (A := 512) (B := 1024) (n := 512) (m := 128) (d := 640) (inb3 1 512 1024 0 0 640 (by decide) (by decide) (by decide)) _ (fun u v => if v % 256 < 128 then (if v % 256 < 64 then 0 else vV I b (T * 512 + u) (v / 256) (v % 256 - 64)) else if v % 256 < 192 then 0 else 1) fun p l => (pay97_o p l).trans (ones_hi 2 l.isLt)
  · exact pieceR (A := 512) (B := 1024) (n := 512) (m := 128) (d := 512) (inb3 1 512 1024 0 0 512 (by decide) (by decide) (by decide)) _ (fun u v => if v % 256 < 128 then (if v % 256 < 64 then 0 else vV I b (T * 512 + u) (v / 256) (v % 256 - 64)) else if v % 256 < 192 then 0 else 1) fun p l => (pay96_v _ (fun u j => zP I b (T * 512 + u) (3328 + j)) (r36_at c arg2 harg2 arg5 harg5 arg6 harg6 x0 x3 x4 I b T h0 h3 h4) p l).trans (half_hi2 _ l.isLt)
  · exact pieceR (A := 512) (B := 1024) (n := 512) (m := 128) (d := 384) (inb3 1 512 1024 0 0 384 (by decide) (by decide) (by decide)) _ (fun u v => if v % 256 < 128 then (if v % 256 < 64 then 0 else vV I b (T * 512 + u) (v / 256) (v % 256 - 64)) else if v % 256 < 192 then 0 else 1) fun p l => (pay91_o p l).trans (ones_hi 1 l.isLt)
  · exact pieceR (A := 512) (B := 1024) (n := 512) (m := 128) (d := 256) (inb3 1 512 1024 0 0 256 (by decide) (by decide) (by decide)) _ (fun u v => if v % 256 < 128 then (if v % 256 < 64 then 0 else vV I b (T * 512 + u) (v / 256) (v % 256 - 64)) else if v % 256 < 192 then 0 else 1) fun p l => (pay90_v _ (fun u j => zP I b (T * 512 + u) (3328 + j)) (r36_at c arg2 harg2 arg5 harg5 arg6 harg6 x0 x3 x4 I b T h0 h3 h4) p l).trans (half_hi1 _ l.isLt)
  · exact pieceR (A := 512) (B := 1024) (n := 512) (m := 128) (d := 128) (inb3 1 512 1024 0 0 128 (by decide) (by decide) (by decide)) _ (fun u v => if v % 256 < 128 then (if v % 256 < 64 then 0 else vV I b (T * 512 + u) (v / 256) (v % 256 - 64)) else if v % 256 < 192 then 0 else 1) fun p l => (pay87_o p l).trans (ones_hi 0 l.isLt)
  · exact pieceR (A := 512) (B := 1024) (n := 512) (m := 128) (d := 0) (inb3 1 512 1024 0 0 0 (by decide) (by decide) (by decide)) _ (fun u v => if v % 256 < 128 then (if v % 256 < 64 then 0 else vV I b (T * 512 + u) (v / 256) (v % 256 - 64)) else if v % 256 < 192 then 0 else 1) fun p l => (pay86_v _ (fun u j => zP I b (T * 512 + u) (3328 + j)) (r36_at c arg2 harg2 arg5 harg5 arg6 harg6 x0 x3 x4 I b T h0 h3 h4) p l).trans (half_hi0 _ l.isLt)

include h5 h6

theorem q_val (p : Fin 512) (l : Fin 1024) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun u v => qR I b (T * 512 + u) (v / 64) (v % 64) * (qsc : EReal)) p.val l.val := by
  unfold out0_A_10
  rw [View.read_writes_eq_canon _ _ _ (cover0_A_10 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 1024]⟩ : Shape).Idx => ((fun u v => qR I b (T * 512 + u) (v / 64) (v % 64) * (qsc : EReal)) (y 1).val (y 2).val : Elt Ideal .bf16)) _ ?_ _ (cover0_A_10 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl | rfl | rfl | rfl | rfl
  · exact pieceR (A := 512) (B := 1024) (n := 512) (m := 128) (d := 896) (inb3 1 512 1024 0 0 896 (by decide) (by decide) (by decide)) _ (fun u v => qR I b (T * 512 + u) (v / 64) (v % 64) * (qsc : EReal)) fun p l => (pay36_q _ _ (fun u => T * 512 + u) (fun u j => zP I b (T * 512 + u) (2560 + j)) (cos_at c arg7 harg7 x5 T h5) (sin_at c arg8 harg8 x6 T h6) _ (r11_at c arg2 harg2 arg5 harg5 arg6 harg6 x0 x3 x4 I b T h0 h3 h4) p l).trans (qrot896 I b _ l.isLt)
  · exact pieceR (A := 512) (B := 1024) (n := 512) (m := 128) (d := 768) (inb3 1 512 1024 0 0 768 (by decide) (by decide) (by decide)) _ (fun u v => qR I b (T * 512 + u) (v / 64) (v % 64) * (qsc : EReal)) fun p l => (pay35_q _ _ (fun u => T * 512 + u) (fun u j => zP I b (T * 512 + u) (2560 + j)) (cos_at c arg7 harg7 x5 T h5) (sin_at c arg8 harg8 x6 T h6) _ (r11_at c arg2 harg2 arg5 harg5 arg6 harg6 x0 x3 x4 I b T h0 h3 h4) p l).trans (qrot768 I b _ l.isLt)
  · exact pieceR (A := 512) (B := 1024) (n := 512) (m := 128) (d := 640) (inb3 1 512 1024 0 0 640 (by decide) (by decide) (by decide)) _ (fun u v => qR I b (T * 512 + u) (v / 64) (v % 64) * (qsc : EReal)) fun p l => (pay33_q _ _ (fun u => T * 512 + u) (fun u j => zP I b (T * 512 + u) (2560 + j)) (cos_at c arg7 harg7 x5 T h5) (sin_at c arg8 harg8 x6 T h6) _ (r11_at c arg2 harg2 arg5 harg5 arg6 harg6 x0 x3 x4 I b T h0 h3 h4) p l).trans (qrot640 I b _ l.isLt)
  · exact pieceR (A := 512) (B := 1024) (n := 512) (m := 128) (d := 512) (inb3 1 512 1024 0 0 512 (by decide) (by decide) (by decide)) _ (fun u v => qR I b (T * 512 + u) (v / 64) (v % 64) * (qsc : EReal)) fun p l => (pay32_q _ _ (fun u => T * 512 + u) (fun u j => zP I b (T * 512 + u) (2560 + j)) (cos_at c arg7 harg7 x5 T h5) (sin_at c arg8 harg8 x6 T h6) _ (r11_at c arg2 harg2 arg5 harg5 arg6 harg6 x0 x3 x4 I b T h0 h3 h4) p l).trans (qrot512 I b _ l.isLt)
  · exact pieceR (A := 512) (B := 1024) (n := 512) (m := 128) (d := 384) (inb3 1 512 1024 0 0 384 (by decide) (by decide) (by decide)) _ (fun u v => qR I b (T * 512 + u) (v / 64) (v % 64) * (qsc : EReal)) fun p l => (pay30_q _ _ (fun u => T * 512 + u) (fun u j => zP I b (T * 512 + u) (2048 + j)) (cos_at c arg7 harg7 x5 T h5) (sin_at c arg8 harg8 x6 T h6) _ (r9_at c arg2 harg2 arg5 harg5 arg6 harg6 x0 x3 x4 I b T h0 h3 h4) p l).trans (qrot384 I b _ l.isLt)
  · exact pieceR (A := 512) (B := 1024) (n := 512) (m := 128) (d := 256) (inb3 1 512 1024 0 0 256 (by decide) (by decide) (by decide)) _ (fun u v => qR I b (T * 512 + u) (v / 64) (v % 64) * (qsc : EReal)) fun p l => (pay29_q _ _ (fun u => T * 512 + u) (fun u j => zP I b (T * 512 + u) (2048 + j)) (cos_at c arg7 harg7 x5 T h5) (sin_at c arg8 harg8 x6 T h6) _ (r9_at c arg2 harg2 arg5 harg5 arg6 harg6 x0 x3 x4 I b T h0 h3 h4) p l).trans (qrot256 I b _ l.isLt)
  · exact pieceR (A := 512) (B := 1024) (n := 512) (m := 128) (d := 128) (inb3 1 512 1024 0 0 128 (by decide) (by decide) (by decide)) _ (fun u v => qR I b (T * 512 + u) (v / 64) (v % 64) * (qsc : EReal)) fun p l => (pay28_q _ _ (fun u => T * 512 + u) (fun u j => zP I b (T * 512 + u) (2048 + j)) (cos_at c arg7 harg7 x5 T h5) (sin_at c arg8 harg8 x6 T h6) _ (r9_at c arg2 harg2 arg5 harg5 arg6 harg6 x0 x3 x4 I b T h0 h3 h4) p l).trans (qrot128 I b _ l.isLt)
  · exact pieceR (A := 512) (B := 1024) (n := 512) (m := 128) (d := 0) (inb3 1 512 1024 0 0 0 (by decide) (by decide) (by decide)) _ (fun u v => qR I b (T * 512 + u) (v / 64) (v % 64) * (qsc : EReal)) fun p l => (pay25_q _ _ (fun u => T * 512 + u) (fun u j => zP I b (T * 512 + u) (2048 + j)) (cos_at c arg7 harg7 x5 T h5) (sin_at c arg8 harg8 x6 T h6) _ (r9_at c arg2 harg2 arg5 harg5 arg6 harg6 x0 x3 x4 I b T h0 h3 h4) p l).trans (qrot0 I b _ l.isLt)

theorem kt_val (p : Fin 1024) (l : Fin 512) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun v u => if v % 256 < 128 then (if v % 128 < 64 then kR I b (T * 512 + u) (v / 256) (v % 128) else 0) else (if v % 128 < 64 then 0 else kR I b (T * 512 + u) (v / 256) (v % 128 - 64))) p.val l.val := by
  unfold out0_A_13
  rw [View.read_writes_eq_canon _ _ _ (cover0_A_13 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 1024, 512]⟩ : Shape).Idx => ((fun v u => if v % 256 < 128 then (if v % 128 < 64 then kR I b (T * 512 + u) (v / 256) (v % 128) else 0) else (if v % 128 < 64 then 0 else kR I b (T * 512 + u) (v / 256) (v % 128 - 64))) (y 1).val (y 2).val : Elt Ideal .bf16)) _ ?_ _ (cover0_A_13 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl | rfl | rfl | rfl | rfl
  · exact pieceC (A := 1024) (B := 512) (n := 128) (m := 512) (a := 896) (inb3 1 1024 512 0 896 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay74_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot7 I b _ l.isLt)
  · exact pieceC (A := 1024) (B := 512) (n := 128) (m := 512) (a := 768) (inb3 1 1024 512 0 768 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay73_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot6 I b _ l.isLt)
  · exact pieceC (A := 1024) (B := 512) (n := 128) (m := 512) (a := 640) (inb3 1 1024 512 0 640 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay72_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot5 I b _ l.isLt)
  · exact pieceC (A := 1024) (B := 512) (n := 128) (m := 512) (a := 512) (inb3 1 1024 512 0 512 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay70_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot4 I b _ l.isLt)
  · exact pieceC (A := 1024) (B := 512) (n := 128) (m := 512) (a := 384) (inb3 1 1024 512 0 384 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay65_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot3 I b _ l.isLt)
  · exact pieceC (A := 1024) (B := 512) (n := 128) (m := 512) (a := 256) (inb3 1 1024 512 0 256 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay64_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot2 I b _ l.isLt)
  · exact pieceC (A := 1024) (B := 512) (n := 128) (m := 512) (a := 128) (inb3 1 1024 512 0 128 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay63_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot1 I b _ l.isLt)
  · exact pieceC (A := 1024) (B := 512) (n := 128) (m := 512) (a := 0) (inb3 1 1024 512 0 0 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay61_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot0 I b _ l.isLt)

end

end Cert.KernelIdeal.Val

end
-- ==== Proof.Pool.lean ====
module

public import proofs.«01_k».proof.Proof.Proj

@[expose] public section

set_option maxRecDepth 16384

noncomputable section

namespace Cert.KernelIdeal.Val

open Idealize.ShloMosaic Idealize.ShloMosaic.TcCoe Idealize.SL.Sem Layer Facts₀ Facts Gen

/-! ### The pooling branch of a step -/

theorem ext_at (g : FVec Ideal S1x1024 .f32) (A : FVec Ideal S512x1024 .f32) (x y : Vec Ideal S1x8x1024 .f32) (p : Fin 528) (l : Fin 1024) :
    k0_pay9 (F := Ideal) g A x y (ix2 p l)
      = if h : p.val < 8 then
          x (ix3 0 ⟨p.val, h⟩ l) * Ideal.rsqrt (Ideal.div (∑ j : Fin 1024, x (ix3 0 ⟨p.val, h⟩ j) * x (ix3 0 ⟨p.val, h⟩ j)) (Ideal.ofBits .f32 0x44800000#32) + Ideal.ofBits .f32 0x358637BD#32) * g (ix2 0 l)
        else if h' : p.val - 8 < 512 then A (ix2 ⟨p.val - 8, h'⟩ l)
        else y (ix3 0 ⟨p.val - 8 - 512, by omega⟩ l) * Ideal.rsqrt (Ideal.div (∑ j : Fin 1024, y (ix3 0 ⟨p.val - 8 - 512, by omega⟩ j) * y (ix3 0 ⟨p.val - 8 - 512, by omega⟩ j)) (Ideal.ofBits .f32 0x44800000#32) + Ideal.ofBits .f32 0x358637BD#32) * g (ix2 0 l) := by
  pointwise! [k0_pay9]

theorem pay2_at (g : Vec Ideal S1x1024 .f32) (l : Fin 1024) : k0_pay2 (F := Ideal) g (ix2 0 l) = g (ix2 0 l) := by
  pointwise! [k0_pay2]

theorem pay11_at (W : Vec Ideal S1024x512 .bf16) (k : Fin 1024) (l : Fin 512) : k0_pay11 (F := Ideal) W (ix2 k l) = W (ix2 k l) := by
  pointwise! [k0_pay11]

theorem pay13_at (A : FVec Ideal S528x1024 .bf16) (B : Vec Ideal S1024x512 .bf16) (p : Fin 528) (l : Fin 512) :
    k0_pay13 (F := Ideal) A B (ix2 p l) = ∑ k : Fin 1024, A (ix2 p k) * B (ix2 k l) := by
  pointwise! [k0_pay13]

theorem pay12_at (A : FVec Ideal S528x1024 .bf16) (B : FVec Ideal S1024x512 .bf16) (p : Fin 528) (l : Fin 512) :
    k0_pay12 (F := Ideal) A B (kernelRun0_A.sl.cst_29 (F := Ideal)) (ix2 p l) = ∑ k : Fin 1024, A (ix2 p k) * B (ix2 k l) := by
  unfold kernelRun0_A.sl.cst_29
  pointwise! [k0_pay12]

theorem lt528 (p : Fin 8) : p.val < 528 := by omega

theorem lt528' (p : Fin 512) : 8 + p.val < 528 := by omega

theorem lt528'' (p : Fin 8) : 520 + p.val < 528 := by omega

section
variable (v : BitVec 1) (A : FVec Ideal S528x1024 .bf16) (B : FVec Ideal S1024x512 .bf16) (Z : FVec Ideal S528x512 .f32)

theorem pay14_at (p : Fin 8) (l : Fin 512) : k0_pay14 (F := Ideal) v A B (kernelRun0_A.sl.cst_29 (F := Ideal)) (ix2 p l) = Scalar.select (Scalar.xori v 1#1) (k0_pay12 A B (kernelRun0_A.sl.cst_29 (F := Ideal)) (ix2 ⟨p.val, lt528 p⟩ l)) 0 := by
  pointwise! [k0_pay14]

theorem pay15_at (p : Fin 512) (l : Fin 512) : k0_pay15 (F := Ideal) A B (kernelRun0_A.sl.cst_29 (F := Ideal)) (ix2 p l) = k0_pay12 A B (kernelRun0_A.sl.cst_29 (F := Ideal)) (ix2 ⟨8 + p.val, lt528' p⟩ l) := by
  pointwise! [k0_pay15]

theorem pay16_at (p : Fin 8) (l : Fin 512) : k0_pay16 (F := Ideal) v A B (kernelRun0_A.sl.cst_29 (F := Ideal)) (ix2 p l) = Scalar.select (Scalar.xori v 1#1) (k0_pay12 A B (kernelRun0_A.sl.cst_29 (F := Ideal)) (ix2 ⟨520 + p.val, lt528'' p⟩ l)) 0 := by
  pointwise! [k0_pay16]

theorem pay17_at (p : Fin 24) (l : Fin 512) : k0_pay17 (F := Ideal) (ix2 p l) = 0 := by
  pointwise! [k0_pay17]

theorem pay20_at (B : Vec Ideal S1024x512 .bf16) (p : Fin 8) (l : Fin 512) : k0_pay20 (F := Ideal) (k0_pay19 v A B) (ix2 p l) = Scalar.select (Scalar.xori v 1#1) (k0_pay13 A B (ix2 ⟨p.val, lt528 p⟩ l)) 0 := by
  pointwise! [k0_pay20, k0_pay19]

theorem pay21_at (p : Fin 512) (l : Fin 512) : k0_pay21 (F := Ideal) Z (ix2 p l) = Z (ix2 ⟨8 + p.val, lt528' p⟩ l) := by
  pointwise! [k0_pay21]

theorem pay22_at (p : Fin 8) (l : Fin 512) : k0_pay22 (F := Ideal) Z v (ix2 p l) = Scalar.select v (Z (ix2 ⟨520 + p.val, lt528'' p⟩ l)) 0 := by
  pointwise! [k0_pay22]

theorem pay23_at (p : Fin 24) (l : Fin 512) : k0_pay23 (F := Ideal) (ix2 p l) = 0 := by
  pointwise! [k0_pay23]

end

/-- The projected rows around a step, zero outside the sequence. -/
def uX (I : In) (b T : ℕ) (r c : ℕ) : EReal := if 8 ≤ T * 512 + r ∧ T * 512 + r < 2056 ∧ r < 528 then zP I b (T * 512 + r - 8) c else 0

theorem not_edge (T n : ℕ) (hT : T < 4) (hn : n < 4) : Scalar.xori (Scalar.cmpi .eq (BitVec.ofNat 32 T) (BitVec.ofNat 32 n)) 1#1 = if T ≠ n then 1#1 else 0#1 := by
  interval_cases T <;> interval_cases n <;> decide

theorem count0 (t : Fin 2048) : (IntOp.subi (IntOp.minsi (IntOp.addi (IntOp.subi (BitVec.ofNat 32 t.val) 1#32) 2#32) 2048#32) (IntOp.maxsi (IntOp.subi (BitVec.ofNat 32 t.val) 1#32) 0#32)).toInt = ((min (t.val + 1) 2048 - (t.val - 1) : ℕ) : ℤ) := by
  revert t
  decide +kernel

theorem count1 (t : Fin 2048) : (IntOp.subi (IntOp.minsi (IntOp.addi (IntOp.subi (BitVec.ofNat 32 t.val) 2#32) 4#32) 2048#32) (IntOp.maxsi (IntOp.subi (BitVec.ofNat 32 t.val) 2#32) 0#32)).toInt = ((min (t.val + 2) 2048 - (t.val - 2) : ℕ) : ℤ) := by
  revert t
  decide +kernel

theorem count2 (t : Fin 2048) : (IntOp.subi (IntOp.minsi (IntOp.addi (IntOp.subi (BitVec.ofNat 32 t.val) 4#32) 8#32) 2048#32) (IntOp.maxsi (IntOp.subi (BitVec.ofNat 32 t.val) 4#32) 0#32)).toInt = ((min (t.val + 4) 2048 - (t.val - 4) : ℕ) : ℤ) := by
  revert t
  decide +kernel

theorem count3 (t : Fin 2048) : (IntOp.subi (IntOp.minsi (IntOp.addi (IntOp.subi (BitVec.ofNat 32 t.val) 8#32) 16#32) 2048#32) (IntOp.maxsi (IntOp.subi (BitVec.ofNat 32 t.val) 8#32) 0#32)).toInt = ((min (t.val + 8) 2048 - (t.val - 8) : ℕ) : ℤ) := by
  revert t
  decide +kernel

theorem recip (x y : EReal) (h : y ≠ 0) : x * Ideal.div 1 y = Ideal.div x y := by
  unfold Ideal.div
  rw [if_neg h, if_neg h, one_mul]

theorem cnt_ne (g t : ℕ) (ht : t < 2048) : cnt 2048 g t ≠ 0 := by
  have h2 : 1 ≤ hw g := Nat.one_le_two_pow
  unfold cnt
  have : min (t + hw g) 2048 - (t - hw g) ≠ 0 := by omega
  intro h
  exact this (by exact_mod_cast h)

theorem pos_at (T : ℕ) (hT : T < 4) (p : Fin 512) (l : Fin 128) : k0_pay10 (BitVec.ofNat 32 T) (ix2 p l) = BitVec.ofNat 32 (T * 512 + p.val) := by
  pointwise [k0_pay10]
  show BitVec.ofNat 32 T * 512#32 + BitVec.ofNat 32 p.val = _
  rw [← BitVec.ofNat_mul, ← BitVec.ofNat_add]

/-- A lane of a pair of equal halves. -/
theorem lt128 (l : Fin 256) : l.val % 128 < 128 := by omega

section
variable (G : FVec Ideal S512x256 .f32) (P : FVec Ideal S512x256 .bf16) (W : Vec Ideal S1x256x256 .bf16) (s : Vec Ideal S1x256 .f32) (p : Fin 512) (l : Fin 256)

theorem mix0_at : k0_pay103 (F := Ideal) G (k0_pay75 P W) s (ix3 0 p l) = (∑ k : Fin 256, P (ix2 p k) * W (ix3 0 k l)) * s (ix2 0 l) * G (ix2 p l) := by
  pointwise! [k0_pay103, k0_pay75]

theorem mix1_at : k0_pay105 (F := Ideal) G P W s (ix3 0 p l) = (∑ k : Fin 256, P (ix2 p k) * W (ix3 0 k l)) * s (ix2 0 l) * G (ix2 p l) := by
  pointwise! [k0_pay105]

theorem mix2_at : k0_pay107 (F := Ideal) G (k0_pay104 P W) s (ix3 0 p l) = (∑ k : Fin 256, P (ix2 p k) * W (ix3 0 k l)) * s (ix2 0 l) * G (ix2 p l) := by
  pointwise! [k0_pay107, k0_pay104]

theorem mix3_at : k0_pay108 (F := Ideal) G P (k0_pay106 W) s (ix3 0 p l) = (∑ k : Fin 256, P (ix2 p k) * W (ix3 0 k l)) * s (ix2 0 l) * G (ix2 p l) := by
  pointwise! [k0_pay108, k0_pay106]

/-- One group of the gated pooling branch. -/
theorem group (I : In) (b t g : ℕ) (hP : ∀ k : Fin 256, P (ix2 p k) = pooled 2048 I b t (256 * g + k.val)) (hW : ∀ k : Fin 256, W (ix3 0 k l) = I.wpg g k.val l.val)
    (hs : s (ix2 0 l) = I.ps (256 * g + l.val)) (hG : G (ix2 p l) = silu (zP I b t (1024 + (256 * g + l.val)))) :
    (∑ k : Fin 256, P (ix2 p k) * W (ix3 0 k l)) * s (ix2 0 l) * G (ix2 p l) = pbG 2048 I b t (256 * g + l.val) := by
  have hl := l.isLt
  unfold pbG
  rw [hs, hG, ← sum_fin]
  refine congrArg (· * _) (congrArg (· * _) (Finset.sum_congr rfl fun k _ => ?_))
  rw [hP, hW, show (256 * g + l.val) / 256 = g by omega, show (256 * g + l.val) % 256 = l.val by omega, show g * 256 + k.val = 256 * g + k.val by omega]

end

theorem inv0 (t : ℕ) (ht : t < 2048) : Ideal.div 1 (FloatOps.sitofp FTy.f32 (IntOp.subi (IntOp.minsi (IntOp.addi (IntOp.subi (BitVec.ofNat 32 t) 1#32) 2#32) 2048#32) (IntOp.maxsi (IntOp.subi (BitVec.ofNat 32 t) 1#32) 0#32)) : Ideal .f32)
    = Ideal.div 1 (cnt 2048 0 t) := by
  have h := count0 ⟨t, ht⟩
  show Ideal.div 1 ((((IntOp.subi (IntOp.minsi (IntOp.addi (IntOp.subi (BitVec.ofNat 32 t) 1#32) 2#32) 2048#32) (IntOp.maxsi (IntOp.subi (BitVec.ofNat 32 t) 1#32) 0#32)).toInt : ℝ)) : EReal) = _
  rw [h]
  rfl

theorem inv1 (t : ℕ) (ht : t < 2048) : Ideal.div 1 (FloatOps.sitofp FTy.f32 (IntOp.subi (IntOp.minsi (IntOp.addi (IntOp.subi (BitVec.ofNat 32 t) 2#32) 4#32) 2048#32) (IntOp.maxsi (IntOp.subi (BitVec.ofNat 32 t) 2#32) 0#32)) : Ideal .f32)
    = Ideal.div 1 (cnt 2048 1 t) := by
  have h := count1 ⟨t, ht⟩
  show Ideal.div 1 ((((IntOp.subi (IntOp.minsi (IntOp.addi (IntOp.subi (BitVec.ofNat 32 t) 2#32) 4#32) 2048#32) (IntOp.maxsi (IntOp.subi (BitVec.ofNat 32 t) 2#32) 0#32)).toInt : ℝ)) : EReal) = _
  rw [h]
  rfl

theorem inv2 (t : ℕ) (ht : t < 2048) : Ideal.div 1 (FloatOps.sitofp FTy.f32 (IntOp.subi (IntOp.minsi (IntOp.addi (IntOp.subi (BitVec.ofNat 32 t) 4#32) 8#32) 2048#32) (IntOp.maxsi (IntOp.subi (BitVec.ofNat 32 t) 4#32) 0#32)) : Ideal .f32)
    = Ideal.div 1 (cnt 2048 2 t) := by
  have h := count2 ⟨t, ht⟩
  show Ideal.div 1 ((((IntOp.subi (IntOp.minsi (IntOp.addi (IntOp.subi (BitVec.ofNat 32 t) 4#32) 8#32) 2048#32) (IntOp.maxsi (IntOp.subi (BitVec.ofNat 32 t) 4#32) 0#32)).toInt : ℝ)) : EReal) = _
  rw [h]
  rfl

theorem inv3 (t : ℕ) (ht : t < 2048) : Ideal.div 1 (FloatOps.sitofp FTy.f32 (IntOp.subi (IntOp.minsi (IntOp.addi (IntOp.subi (BitVec.ofNat 32 t) 8#32) 16#32) 2048#32) (IntOp.maxsi (IntOp.subi (BitVec.ofNat 32 t) 8#32) 0#32)) : Ideal .f32)
    = Ideal.div 1 (cnt 2048 3 t) := by
  have h := count3 ⟨t, ht⟩
  show Ideal.div 1 ((((IntOp.subi (IntOp.minsi (IntOp.addi (IntOp.subi (BitVec.ofNat 32 t) 8#32) 16#32) 2048#32) (IntOp.maxsi (IntOp.subi (BitVec.ofNat 32 t) 8#32) 0#32)).toInt : ℝ)) : EReal) = _
  rw [h]
  rfl

/-- The window sum of a group, read off the rows around the step. -/
theorem window (g p cc : ℕ) (hg : hw g ≤ 8) (hp : p < 512) (hc : cc / 256 = g) (I : In) (b T : ℕ) (hT : T < 4) :
    (∑ j ∈ Finset.range (2 * hw g), uX I b T (8 - hw g + p + j) cc) = total 2048 I b (T * 512 + p) cc := by
  unfold total
  rw [hc]
  refine Finset.sum_congr rfl fun j hj => ?_
  have hj := Finset.mem_range.mp hj
  unfold uX
  refine (if_congr (by omega) (congrArg (fun t => zP I b t cc) (by omega)) rfl)

theorem center (p cc : ℕ) (hp : p < 512) (I : In) (b T : ℕ) (hT : T < 4) : uX I b T (8 + p) cc = zP I b (T * 512 + p) cc := by
  unfold uX
  rw [if_pos (by omega)]
  exact congrArg (fun t => zP I b t cc) (by omega)

section
variable (V : IVec S512x128 32) (T : ℕ) (hT : T < 4) (hV : ∀ (p : Fin 512) (l : Fin 128), V (ix2 p l) = BitVec.ofNat 32 (T * 512 + p.val))
include hV hT

theorem pool0 (U : Vec Ideal S552x256 .f32) (f : ℕ → ℕ → EReal) (hU : ∀ (r : Fin 552) (l : Fin 256), U (ix2 r l) = f r.val l.val) (p : Fin 512) (l : Fin 256) :
    k0_pay42 (F := Ideal) (k0_pay39 U) (k0_pay40 U) (k0_pay41 V) (ix2 p l) = Ideal.div (∑ j ∈ Finset.range 2, f (7 + p.val + j) l.val) (cnt 2048 0 (T * 512 + p.val)) - f (8 + p.val) l.val := by
  have hp := p.isLt
  rw [← recip _ _ (cnt_ne 0 _ (by omega))]
  pointwise [k0_pay42, k0_pay39, k0_pay40, k0_pay41]
  simp only [hU, hV, dite_eq_ite, ite_self]
  rw [inv0 _ (by omega)]
  refine congrArg (· - f (8 + p.val) l.val) (congrArg (· * Ideal.div 1 (cnt 2048 0 (T * 512 + p.val))) ?_)
  simp only [Finset.sum_range_succ, Finset.sum_range_zero, zero_add, Nat.add_zero]
  have e : ∀ a b : ℕ, a = b → f a l.val = f b l.val := fun a b h => by rw [h]
  simp only [e (1 + (7 + p.val)) (7 + p.val + 1) (by omega)]

theorem pool1 (U : Vec Ideal S552x256 .f32) (f : ℕ → ℕ → EReal) (hU : ∀ (r : Fin 552) (l : Fin 256), U (ix2 r l) = f r.val l.val) (p : Fin 512) (l : Fin 256) :
    k0_pay44 (F := Ideal) V U (ix2 p l) = Ideal.div (∑ j ∈ Finset.range 4, f (6 + p.val + j) l.val) (cnt 2048 1 (T * 512 + p.val)) - f (8 + p.val) l.val := by
  have hp := p.isLt
  rw [← recip _ _ (cnt_ne 1 _ (by omega))]
  pointwise [k0_pay44]
  simp only [hU, hV, dite_eq_ite, ite_self]
  rw [inv1 _ (by omega)]
  refine congrArg (· - f (8 + p.val) l.val) (congrArg (· * Ideal.div 1 (cnt 2048 1 (T * 512 + p.val))) ?_)
  simp only [Finset.sum_range_succ, Finset.sum_range_zero, zero_add, Nat.add_zero]
  have e : ∀ a b : ℕ, a = b → f a l.val = f b l.val := fun a b h => by rw [h]
  simp only [e (1 + (6 + p.val)) (6 + p.val + 1) (by omega), e (8 + p.val) (6 + p.val + 2) (by omega), e (1 + (8 + p.val)) (6 + p.val + 3) (by omega)]
  simp only [add_assoc]

theorem pool2 (U : Vec Ideal S552x256 .f32) (f : ℕ → ℕ → EReal) (hU : ∀ (r : Fin 552) (l : Fin 256), U (ix2 r l) = f r.val l.val) (p : Fin 512) (l : Fin 256) :
    k0_pay49 (F := Ideal) V (k0_pay47 U) (k0_pay48 U) (ix2 p l) = Ideal.div (∑ j ∈ Finset.range 8, f (4 + p.val + j) l.val) (cnt 2048 2 (T * 512 + p.val)) - f (8 + p.val) l.val := by
  have hp := p.isLt
  rw [← recip _ _ (cnt_ne 2 _ (by omega))]
  pointwise [k0_pay49, k0_pay47, k0_pay48]
  simp only [hU, hV, dite_eq_ite, ite_self]
  rw [inv2 _ (by omega)]
  refine congrArg (· - f (8 + p.val) l.val) (congrArg (· * Ideal.div 1 (cnt 2048 2 (T * 512 + p.val))) ?_)
  simp only [Finset.sum_range_succ, Finset.sum_range_zero, zero_add, Nat.add_zero]
  have e : ∀ a b : ℕ, a = b → f a l.val = f b l.val := fun a b h => by rw [h]
  simp only [e (1 + (4 + p.val)) (4 + p.val + 1) (by omega), e (2 + (4 + p.val)) (4 + p.val + 2) (by omega), e (1 + (2 + (4 + p.val))) (4 + p.val + 3) (by omega), e (8 + p.val) (4 + p.val + 4) (by omega), e (1 + (8 + p.val)) (4 + p.val + 5) (by omega), e (2 + (8 + p.val)) (4 + p.val + 6) (by omega), e (1 + (2 + (8 + p.val))) (4 + p.val + 7) (by omega)]
  simp only [add_assoc]

theorem pool3 (U : Vec Ideal S552x256 .f32) (f : ℕ → ℕ → EReal) (hU : ∀ (r : Fin 552) (l : Fin 256), U (ix2 r l) = f r.val l.val) (p : Fin 512) (l : Fin 256) :
    k0_pay55 (F := Ideal) V (k0_pay52 U) (k0_pay53 U) (k0_pay54 V) (ix2 p l) = Ideal.div (∑ j ∈ Finset.range 16, f (p.val + j) l.val) (cnt 2048 3 (T * 512 + p.val)) - f (8 + p.val) l.val := by
  have hp := p.isLt
  rw [← recip _ _ (cnt_ne 3 _ (by omega))]
  pointwise [k0_pay55, k0_pay52, k0_pay53, k0_pay54]
  simp only [hU, hV, dite_eq_ite, ite_self]
  rw [inv3 _ (by omega)]
  refine congrArg (· - f (8 + p.val) l.val) (congrArg (· * Ideal.div 1 (cnt 2048 3 (T * 512 + p.val))) ?_)
  simp only [Finset.sum_range_succ, Finset.sum_range_zero, zero_add, Nat.add_zero]
  have e : ∀ a b : ℕ, a = b → f a l.val = f b l.val := fun a b h => by rw [h]
  simp only [e (1 + p.val) (p.val + 1) (by omega), e (2 + p.val) (p.val + 2) (by omega), e (1 + (2 + p.val)) (p.val + 3) (by omega), e (4 + p.val) (p.val + 4) (by omega), e (1 + (4 + p.val)) (p.val + 5) (by omega), e (2 + (4 + p.val)) (p.val + 6) (by omega), e (1 + (2 + (4 + p.val))) (p.val + 7) (by omega), e (8 + p.val) (p.val + 8) (by omega), e (1 + (8 + p.val)) (p.val + 9) (by omega), e (2 + (8 + p.val)) (p.val + 10) (by omega), e (1 + (2 + (8 + p.val))) (p.val + 11) (by omega), e (4 + (8 + p.val)) (p.val + 12) (by omega), e (1 + (4 + (8 + p.val))) (p.val + 13) (by omega), e (2 + (4 + (8 + p.val))) (p.val + 14) (by omega), e (1 + (2 + (4 + (8 + p.val)))) (p.val + 15) (by omega)]
  simp only [add_assoc]

end

section
variable (c : Dev nD) (i : grid0.Coords)
  (arg2 : Memref sig .tc .vmem S1x512x1024 .f32) (harg2 : arg2.IsWhole)
  (arg3 : Memref sig .tc .vmem S1x8x1024 .f32) (harg3 : arg3.IsWhole)
  (arg4 : Memref sig .tc .vmem S1x8x1024 .f32) (harg4 : arg4.IsWhole)
  (arg5 : Memref sig .tc .vmem S1x1024 .f32) (harg5 : arg5.IsWhole)
  (arg6 : Memref sig .tc .vmem S1024x6656 .bf16) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S4x256x256 .bf16) (harg9 : arg9.IsWhole)
  (arg10 : Memref sig .tc .vmem S1x1024 .f32) (harg10 : arg10.IsWhole)
  (arg11 : Memref sig .tc .vmem S1x512x1024 .bf16) (harg11 : arg11.IsWhole)
  (arg12 : Memref sig .tc .vmem S1x512x1024 .bf16) (harg12 : arg12.IsWhole)
  (arg13 : Memref sig .tc .vmem S1x512x1024 .bf16) (harg13 : arg13.IsWhole)
  (arg14 : Memref sig .tc .vmem S1x512x2048 .bf16) (harg14 : arg14.IsWhole)
  (arg15 : Memref sig .tc .vmem S1x1024x512 .bf16) (harg15 : arg15.IsWhole)
  (arg16 : Memref sig .tc .vmem S1x512x1024 .bf16) (harg16 : arg16.IsWhole)
  (arg17 : Memref sig .tc .vmem S1x512x1024 .bf16) (harg17 : arg17.IsWhole)
  (arg18 : Memref sig .tc .vmem S552x1024 .f32) (harg18 : arg18.IsWhole)
  (x0 : Vec Ideal S1x512x1024 .f32) (x1 : Vec Ideal S1x8x1024 .f32) (x2 : Vec Ideal S1x8x1024 .f32) (x3 : Vec Ideal S1x1024 .f32) (x4 : Vec Ideal S1024x6656 .bf16) (x5 : Vec Ideal S512x128 .f32) (x6 : Vec Ideal S512x128 .f32) (x7 : Vec Ideal S4x256x256 .bf16) (x8 : Vec Ideal S1x1024 .f32)
variable (I : In) (b T : ℕ)
  (h0 : ∀ p l, p < 512 → l < 1024 → rd3 (n0 := 1) (n1 := 512) (n2 := 1024) x0 0 p l = I.x b (T * 512 + p) l)
  (h3 : ∀ l, l < 1024 → rd2 (n0 := 1) (n1 := 1024) x3 0 l = I.g l)
  (h4 : ∀ k l, k < 1024 → l < 6656 → rd2 (n0 := 1024) (n1 := 6656) x4 k l = I.w k l)
  (h5 : ∀ p l, p < 512 → l < 128 → rd2 (n0 := 512) (n1 := 128) x5 p l = Ideal.cos (ang (T * 512 + p) (l % 32)))
  (h6 : ∀ p l, p < 512 → l < 128 → rd2 (n0 := 512) (n1 := 128) x6 p l = if l % 64 < 32 then -Ideal.sin (ang (T * 512 + p) (l % 32)) else Ideal.sin (ang (T * 512 + p) (l % 32)))
  (hT : T < 4) (hi : (i 1).val = T)
  (h1 : ∀ p l, T ≠ 0 → p < 8 → l < 1024 → rd3 (n0 := 1) (n1 := 8) (n2 := 1024) x1 0 p l = I.x b (T * 512 + p - 8) l)
  (h2 : ∀ p l, T ≠ 3 → p < 8 → l < 1024 → rd3 (n0 := 1) (n1 := 8) (n2 := 1024) x2 0 p l = I.x b (T * 512 + 512 + p) l)
  (h7 : ∀ g k l, g < 4 → k < 256 → l < 256 → rd3 (n0 := 4) (n1 := 256) (n2 := 256) x7 g k l = I.wpg g k l)
  (h8 : ∀ l, l < 1024 → rd2 (n0 := 1) (n1 := 1024) x8 0 l = I.ps l)

include h0 h3 hT h1 h2

theorem ext_hN (p : Fin 528) (k : Fin 1024) (ha : 8 ≤ T * 512 + p.val) (hb : T * 512 + p.val < 2056) :
    kernelRun0_A.sl.r_5 (F := Ideal) c arg2 harg2 arg3 harg3 arg4 harg4 arg5 harg5 x0 x1 x2 x3 (ix2 p k) = hN I b (T * 512 + p.val - 8) k.val := by
  have hp := p.isLt
  have hg : ∀ l : Fin 1024, kernelRun0_A.sl.r (F := Ideal) c arg5 harg5 x3 (ix2 0 l) = I.g l.val := fun l => (pay2_at _ l).trans (ldG arg5 harg5 x3 I h3 _ l)
  refine (ext_at _ _ _ _ p k).trans ?_
  by_cases c1 : p.val < 8
  · rw [dif_pos c1, hN, rms_fin]
    have hx : ∀ l : Fin 1024, View.readAt (Elt Ideal) arg3.view (Rect.unit (s := S1x8x1024) ![0, 0, 0] S1x8x1024.size (inb3 1 8 1024 _ _ _ (by decide) (by decide) (by decide))).toLoadRect (harg3.unread x1) (ix3 0 ⟨p.val, c1⟩ l) = I.x b (T * 512 + p.val - 8) l.val := by
      intro l
      have hl := l.isLt
      exact (load3_f32 (A := 1) (B := 8) (C := 1024) arg3 harg3 x1 _ (ix3 0 ⟨p.val, c1⟩ l)).trans ((h1 (0 + p.val) (0 + l.val) (by omega) (by omega) (by omega)).trans (by rw [Nat.zero_add, Nat.zero_add]))
    simp only [hg]
    refine congrArg₂ (· * ·) (congrArg₂ (· * ·) (hx k) (congrArg Ideal.rsqrt (congrArg (· + _) (congrArg (Ideal.div · _) ?_)))) rfl
    exact Finset.sum_congr rfl fun j _ => congrArg₂ (· * ·) (hx j) (hx j)
  by_cases c2 : p.val - 8 < 512
  · rw [dif_neg c1, dif_pos c2]
    refine (norm_hN I b (T * 512 + (p.val - 8)) _ _ ⟨p.val - 8, c2⟩ (ldG arg5 harg5 x3 I h3 _) (ldX arg2 harg2 x0 I b T h0 _ ⟨p.val - 8, c2⟩) k).trans ?_
    rw [show T * 512 + (p.val - 8) = T * 512 + p.val - 8 by omega]
  · rw [dif_neg c1, dif_neg c2, hN, rms_fin]
    have hx : ∀ l : Fin 1024, View.readAt (Elt Ideal) arg4.view (Rect.unit (s := S1x8x1024) ![0, 0, 0] S1x8x1024.size (inb3 1 8 1024 _ _ _ (by decide) (by decide) (by decide))).toLoadRect (harg4.unread x2) (ix3 0 ⟨p.val - 8 - 512, by omega⟩ l) = I.x b (T * 512 + p.val - 8) l.val := by
      intro l
      have hl := l.isLt
      exact (load3_f32 (A := 1) (B := 8) (C := 1024) arg4 harg4 x2 _ (ix3 0 ⟨p.val - 8 - 512, by omega⟩ l)).trans ((h2 (0 + (p.val - 8 - 512)) (0 + l.val) (by omega) (by omega) (by omega)).trans (by rw [Nat.zero_add, Nat.zero_add]; congr 1; omega))
    simp only [hg]
    refine congrArg₂ (· * ·) (congrArg₂ (· * ·) (hx k) (congrArg Ideal.rsqrt (congrArg (· + _) (congrArg (Ideal.div · _) ?_)))) rfl
    exact Finset.sum_congr rfl fun j _ => congrArg₂ (· * ·) (hx j) (hx j)

include h4

theorem zlo (p : Fin 528) (l : Fin 512) (ha : 8 ≤ T * 512 + p.val) (hb : T * 512 + p.val < 2056) :
    k0_pay12 (F := Ideal) (kernelRun0_A.sl.r_5 (F := Ideal) c arg2 harg2 arg3 harg3 arg4 harg4 arg5 harg5 x0 x1 x2 x3) (kernelRun0_A.sl.r_7 (F := Ideal) c arg6 harg6 x4) (kernelRun0_A.sl.cst_29 (F := Ideal)) (ix2 p l) = zP I b (T * 512 + p.val - 8) (0 + l.val) :=
  (pay12_at _ _ p l).trans (z_of I b _ _ _ _ p l (fun k => ext_hN c arg2 harg2 arg3 harg3 arg4 harg4 arg5 harg5 x0 x1 x2 x3 I b T h0 h3 hT h1 h2 p k ha hb) (fun k => (pay11_at _ k l).trans (ldW (off := 0) (n := 512) arg6 harg6 x4 I h4 (by decide) _ k l)))

theorem zhi (p : Fin 528) (l : Fin 512) (ha : 8 ≤ T * 512 + p.val) (hb : T * 512 + p.val < 2056) :
    kernelRun0_A.sl.r_8 (F := Ideal) c arg2 harg2 arg3 harg3 arg4 harg4 arg5 harg5 arg6 harg6 x0 x1 x2 x3 x4 (ix2 p l) = zP I b (T * 512 + p.val - 8) (512 + l.val) :=
  (pay13_at _ _ p l).trans (z_of I b _ _ _ _ p l (fun k => ext_hN c arg2 harg2 arg3 harg3 arg4 harg4 arg5 harg5 x0 x1 x2 x3 I b T h0 h3 hT h1 h2 p k ha hb) (fun k => ldW (off := 512) (n := 512) arg6 harg6 x4 I h4 (by decide) _ k l))

include hi

theorem uLoad (off : ℕ) (ho : off + 256 ≤ 1024) (inb) (r : Fin 552) (l : Fin 256) :
    arg18.view.readCov (kernelRun0_A.sl.HS0_8 (F := Ideal) c i arg2 harg2 arg3 harg3 arg4 harg4 arg5 harg5 arg6 harg6 x0 x1 x2 x3 x4) (Rect.unit (s := S552x1024) ![0, off] S552x256.size inb).toLoadRect (ix2 r l) = uX I b T r.val (off + l.val) := by
  have hr := r.isLt
  have hl := l.isLt
  have e0 : ((Rect.unit (s := S552x1024) ![0, off] S552x256.size inb).idx (ix2 r l) 0).val = 0 + r.val := Rect.idx_unit_val (s := S552x1024) ![0, off] S552x256.size inb (ix2 r l) 0
  have e1 : ((Rect.unit (s := S552x1024) ![0, off] S552x256.size inb).idx (ix2 r l) 1).val = off + l.val := Rect.idx_unit_val (s := S552x1024) ![0, off] S552x256.size inb (ix2 r l) 1
  have hf : Scalar.xori (kernelRun0_A.sl.v0 i) 1#1 = if T ≠ 0 then 1#1 else 0#1 := by
    rw [← not_edge T 0 hT (by decide), ← hi]; rfl
  have hg : Scalar.xori (kernelRun0_A.sl.v1 i) 1#1 = if T ≠ 3 then 1#1 else 0#1 := by
    rw [← not_edge T 3 hT (by decide), ← hi]; rfl
  have hg' : kernelRun0_A.sl.v110 i = if T ≠ 3 then 1#1 else 0#1 := hg
  refine (cov2_f32 (A := 552) (B := 1024) arg18.view _ (fun u v => uX I b T u v) ?_ inb (ix2 r l) ?_).trans ?_
  · intro q hq
    simp only [kernelRun0_A.sl.HS0_8, List.mem_cons, List.not_mem_nil, or_false] at hq
    rcases hq with rfl | rfl | rfl | rfl | rfl | rfl | rfl | rfl
    · intro x
      obtain ⟨p, l, rfl⟩ : ∃ a b, x = ix2 a b := ⟨_, _, eq_ix2 x⟩
      rw [emb2_0, emb2_1]
      refine (pay23_at p l).trans ?_
      show 0 = uX I b T (528 + p.val) (512 + l.val)
      unfold uX
      rw [if_neg (by omega)]
    · intro x
      obtain ⟨p, l, rfl⟩ : ∃ a b, x = ix2 a b := ⟨_, _, eq_ix2 x⟩
      have hp := p.isLt
      rw [emb2_0, emb2_1]
      refine (pay22_at _ _ p l).trans ?_
      rw [hg', sel_if]
      show _ = uX I b T (520 + p.val) (512 + l.val)
      unfold uX
      by_cases hc : T ≠ 3
      · rw [if_pos hc, if_pos (by omega)]
        exact zhi c arg2 harg2 arg3 harg3 arg4 harg4 arg5 harg5 arg6 harg6 x0 x1 x2 x3 x4 I b T h0 h3 h4 hT h1 h2 ⟨520 + p.val, lt528'' p⟩ l (by dsimp only; omega) (by dsimp only; omega)
      · rw [if_neg hc, if_neg (by omega)]
    · intro x
      obtain ⟨p, l, rfl⟩ : ∃ a b, x = ix2 a b := ⟨_, _, eq_ix2 x⟩
      have hp := p.isLt
      rw [emb2_0, emb2_1]
      refine (pay21_at (kernelRun0_A.sl.r_8 (F := Ideal) c arg2 harg2 arg3 harg3 arg4 harg4 arg5 harg5 arg6 harg6 x0 x1 x2 x3 x4) p l).trans ?_
      show _ = uX I b T (8 + p.val) (512 + l.val)
      unfold uX
      rw [if_pos (by omega)]
      exact zhi c arg2 harg2 arg3 harg3 arg4 harg4 arg5 harg5 arg6 harg6 x0 x1 x2 x3 x4 I b T h0 h3 h4 hT h1 h2 ⟨8 + p.val, lt528' p⟩ l (by dsimp only; omega) (by dsimp only; omega)
    · intro x
      obtain ⟨p, l, rfl⟩ : ∃ a b, x = ix2 a b := ⟨_, _, eq_ix2 x⟩
      have hp := p.isLt
      rw [emb2_0, emb2_1]
      refine (pay20_at _ _ _ p l).trans ?_
      rw [hf, sel_if]
      show _ = uX I b T (0 + p.val) (512 + l.val)
      rw [Nat.zero_add]
      unfold uX
      by_cases hc : T ≠ 0
      · rw [if_pos hc, if_pos (by omega)]
        exact zhi c arg2 harg2 arg3 harg3 arg4 harg4 arg5 harg5 arg6 harg6 x0 x1 x2 x3 x4 I b T h0 h3 h4 hT h1 h2 ⟨p.val, lt528 p⟩ l (by dsimp only; omega) (by dsimp only; omega)
      · rw [if_neg hc, if_neg (by omega)]
    · intro x
      obtain ⟨p, l, rfl⟩ : ∃ a b, x = ix2 a b := ⟨_, _, eq_ix2 x⟩
      rw [emb2_0, emb2_1]
      refine (pay17_at p l).trans ?_
      show 0 = uX I b T (528 + p.val) (0 + l.val)
      unfold uX
      rw [if_neg (by omega)]
    · intro x
      obtain ⟨p, l, rfl⟩ : ∃ a b, x = ix2 a b := ⟨_, _, eq_ix2 x⟩
      have hp := p.isLt
      rw [emb2_0, emb2_1]
      refine (pay16_at _ _ _ p l).trans ?_
      rw [hg, sel_if]
      show _ = uX I b T (520 + p.val) (0 + l.val)
      unfold uX
      by_cases hc : T ≠ 3
      · rw [if_pos hc, if_pos (by omega)]
        exact zlo c arg2 harg2 arg3 harg3 arg4 harg4 arg5 harg5 arg6 harg6 x0 x1 x2 x3 x4 I b T h0 h3 h4 hT h1 h2 ⟨520 + p.val, lt528'' p⟩ l (by dsimp only; omega) (by dsimp only; omega)
      · rw [if_neg hc, if_neg (by omega)]
    · intro x
      obtain ⟨p, l, rfl⟩ : ∃ a b, x = ix2 a b := ⟨_, _, eq_ix2 x⟩
      have hp := p.isLt
      rw [emb2_0, emb2_1]
      refine (pay15_at _ _ p l).trans ?_
      show _ = uX I b T (8 + p.val) (0 + l.val)
      unfold uX
      rw [if_pos (by omega)]
      exact zlo c arg2 harg2 arg3 harg3 arg4 harg4 arg5 harg5 arg6 harg6 x0 x1 x2 x3 x4 I b T h0 h3 h4 hT h1 h2 ⟨8 + p.val, lt528' p⟩ l (by dsimp only; omega) (by dsimp only; omega)
    · intro x
      obtain ⟨p, l, rfl⟩ : ∃ a b, x = ix2 a b := ⟨_, _, eq_ix2 x⟩
      have hp := p.isLt
      rw [emb2_0, emb2_1]
      refine (pay14_at _ _ _ p l).trans ?_
      rw [hf, sel_if]
      show _ = uX I b T (0 + p.val) (0 + l.val)
      rw [Nat.zero_add]
      unfold uX
      by_cases hc : T ≠ 0
      · rw [if_pos hc, if_pos (by omega)]
        exact zlo c arg2 harg2 arg3 harg3 arg4 harg4 arg5 harg5 arg6 harg6 x0 x1 x2 x3 x4 I b T h0 h3 h4 hT h1 h2 ⟨p.val, lt528 p⟩ l (by dsimp only; omega) (by dsimp only; omega)
      · rw [if_neg hc, if_neg (by omega)]
  · unfold kernelRun0_A.sl.HS0_8
    by_cases c0 : off + l.val < 512
    · by_cases c1 : r.val < 8
      · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
        refine mem2 (inb := inb2 552 1024 0 0 (by decide) (by decide)) ?_ ?_
        · rw [e0]; omega
        · rw [e1]; omega
      by_cases c2 : r.val < 520
      · refine ⟨_, (List.mem_cons_of_mem _ (List.mem_cons_of_mem _ (List.mem_cons_of_mem _ (List.mem_cons_of_mem _ (List.mem_cons_of_mem _ (List.mem_cons_of_mem _ List.mem_cons_self)))))), ?_⟩
        refine mem2 (inb := inb2 552 1024 8 0 (by decide) (by decide)) ?_ ?_
        · rw [e0]; omega
        · rw [e1]; omega
      by_cases c3 : r.val < 528
      · refine ⟨_, (List.mem_cons_of_mem _ (List.mem_cons_of_mem _ (List.mem_cons_of_mem _ (List.mem_cons_of_mem _ (List.mem_cons_of_mem _ List.mem_cons_self))))), ?_⟩
        refine mem2 (inb := inb2 552 1024 520 0 (by decide) (by decide)) ?_ ?_
        · rw [e0]; omega
        · rw [e1]; omega
      · refine ⟨_, (List.mem_cons_of_mem _ (List.mem_cons_of_mem _ (List.mem_cons_of_mem _ (List.mem_cons_of_mem _ List.mem_cons_self)))), ?_⟩
        refine mem2 (inb := inb2 552 1024 528 0 (by decide) (by decide)) ?_ ?_
        · rw [e0]; omega
        · rw [e1]; omega
    · by_cases c1 : r.val < 8
      · refine ⟨_, (List.mem_cons_of_mem _ (List.mem_cons_of_mem _ (List.mem_cons_of_mem _ List.mem_cons_self))), ?_⟩
        refine mem2 (inb := inb2 552 1024 0 512 (by decide) (by decide)) ?_ ?_
        · rw [e0]; omega
        · rw [e1]; omega
      by_cases c2 : r.val < 520
      · refine ⟨_, (List.mem_cons_of_mem _ (List.mem_cons_of_mem _ List.mem_cons_self)), ?_⟩
        refine mem2 (inb := inb2 552 1024 8 512 (by decide) (by decide)) ?_ ?_
        · rw [e0]; omega
        · rw [e1]; omega
      by_cases c3 : r.val < 528
      · refine ⟨_, (List.mem_cons_of_mem _ List.mem_cons_self), ?_⟩
        refine mem2 (inb := inb2 552 1024 520 512 (by decide) (by decide)) ?_ ?_
        · rw [e0]; omega
        · rw [e1]; omega
      · refine ⟨_, List.mem_cons_self, ?_⟩
        refine mem2 (inb := inb2 552 1024 528 512 (by decide) (by decide)) ?_ ?_
        · rw [e0]; omega
        · rw [e1]; omega
  · show uX I b T (0 + r.val) (off + l.val) = _
    rw [Nat.zero_add]

theorem pooled0 (p : Fin 512) (l : Fin 256) :
    kernelRun0_A.sl.r_22 (F := Ideal) c i arg2 harg2 arg3 harg3 arg4 harg4 arg5 harg5 arg6 harg6 arg18 x0 x1 x2 x3 x4 (ix2 p l) = pooled 2048 I b (T * 512 + p.val) (0 + l.val) := by
  have hp := p.isLt
  have hl := l.isLt
  refine (pool0 (kernelRun0_A.sl.r_6 i) T hT (fun p l => (congrFun (congrArg k0_pay10 (congrArg (BitVec.ofNat 32) hi)) (ix2 p l)).trans (pos_at T hT p l)) _ (fun u v => uX I b T u (0 + v)) (fun r l => uLoad c i arg2 harg2 arg3 harg3 arg4 harg4 arg5 harg5 arg6 harg6 arg18 x0 x1 x2 x3 x4 I b T h0 h3 h4 hT hi h1 h2 0 (by decide) _ r l) p l).trans ?_
  unfold pooled
  have hq : (0 + l.val) / 256 = 0 := by omega
  rw [hq]
  refine congrArg₂ (· - ·) (congrArg (Ideal.div · _) ?_) (center p.val (0 + l.val) hp I b T hT)
  exact window 0 p.val (0 + l.val) (by decide) hp hq I b T hT

theorem pooled1 (p : Fin 512) (l : Fin 256) :
    kernelRun0_A.sl.r_24 (F := Ideal) c i arg2 harg2 arg3 harg3 arg4 harg4 arg5 harg5 arg6 harg6 arg18 x0 x1 x2 x3 x4 (ix2 p l) = pooled 2048 I b (T * 512 + p.val) (256 + l.val) := by
  have hp := p.isLt
  have hl := l.isLt
  refine (pool1 (kernelRun0_A.sl.r_6 i) T hT (fun p l => (congrFun (congrArg k0_pay10 (congrArg (BitVec.ofNat 32) hi)) (ix2 p l)).trans (pos_at T hT p l)) _ (fun u v => uX I b T u (256 + v)) (fun r l => uLoad c i arg2 harg2 arg3 harg3 arg4 harg4 arg5 harg5 arg6 harg6 arg18 x0 x1 x2 x3 x4 I b T h0 h3 h4 hT hi h1 h2 256 (by decide) _ r l) p l).trans ?_
  unfold pooled
  have hq : (256 + l.val) / 256 = 1 := by omega
  rw [hq]
  refine congrArg₂ (· - ·) (congrArg (Ideal.div · _) ?_) (center p.val (256 + l.val) hp I b T hT)
  exact window 1 p.val (256 + l.val) (by decide) hp hq I b T hT

theorem pooled2 (p : Fin 512) (l : Fin 256) :
    kernelRun0_A.sl.r_29 (F := Ideal) c i arg2 harg2 arg3 harg3 arg4 harg4 arg5 harg5 arg6 harg6 arg18 x0 x1 x2 x3 x4 (ix2 p l) = pooled 2048 I b (T * 512 + p.val) (512 + l.val) := by
  have hp := p.isLt
  have hl := l.isLt
  refine (pool2 (kernelRun0_A.sl.r_6 i) T hT (fun p l => (congrFun (congrArg k0_pay10 (congrArg (BitVec.ofNat 32) hi)) (ix2 p l)).trans (pos_at T hT p l)) _ (fun u v => uX I b T u (512 + v)) (fun r l => uLoad c i arg2 harg2 arg3 harg3 arg4 harg4 arg5 harg5 arg6 harg6 arg18 x0 x1 x2 x3 x4 I b T h0 h3 h4 hT hi h1 h2 512 (by decide) _ r l) p l).trans ?_
  unfold pooled
  have hq : (512 + l.val) / 256 = 2 := by omega
  rw [hq]
  refine congrArg₂ (· - ·) (congrArg (Ideal.div · _) ?_) (center p.val (512 + l.val) hp I b T hT)
  exact window 2 p.val (512 + l.val) (by decide) hp hq I b T hT

theorem pooled3 (p : Fin 512) (l : Fin 256) :
    kernelRun0_A.sl.r_35 (F := Ideal) c i arg2 harg2 arg3 harg3 arg4 harg4 arg5 harg5 arg6 harg6 arg18 x0 x1 x2 x3 x4 (ix2 p l) = pooled 2048 I b (T * 512 + p.val) (768 + l.val) := by
  have hp := p.isLt
  have hl := l.isLt
  refine (pool3 (kernelRun0_A.sl.r_6 i) T hT (fun p l => (congrFun (congrArg k0_pay10 (congrArg (BitVec.ofNat 32) hi)) (ix2 p l)).trans (pos_at T hT p l)) _ (fun u v => uX I b T u (768 + v)) (fun r l => uLoad c i arg2 harg2 arg3 harg3 arg4 harg4 arg5 harg5 arg6 harg6 arg18 x0 x1 x2 x3 x4 I b T h0 h3 h4 hT hi h1 h2 768 (by decide) _ r l) p l).trans ?_
  unfold pooled
  have hq : (768 + l.val) / 256 = 3 := by omega
  rw [hq]
  refine congrArg₂ (· - ·) (congrArg (Ideal.div · _) ?_) (center p.val (768 + l.val) hp I b T hT)
  exact (Finset.sum_congr rfl fun j _ => congrArg (fun a => uX I b T a (768 + l.val)) (show p.val + j = 8 - hw 3 + p.val + j from (by rw [show hw 3 = 8 from rfl]; omega))).trans (window 3 p.val (768 + l.val) (by decide) hp hq I b T hT)

omit h0 h3 hT h1 h2 h4 hi in
include h7 in
theorem ldWG (g : ℕ) (hg : g < 4) (inb) (k l : Fin 256) :
    View.readAt (Elt Ideal) arg9.view (Rect.unit (s := S4x256x256) ![g, 0, 0] S1x256x256.size inb).toLoadRect (harg9.unread x7) (ix3 0 k l) = I.wpg g k.val l.val := by
  have hk := k.isLt
  have hl := l.isLt
  exact (load3_bf16 (A := 4) (B := 256) (C := 256) arg9 harg9 x7 _ (ix3 0 k l)).trans ((h7 (g + 0) (0 + k.val) (0 + l.val) (by omega) (by omega) (by omega)).trans (by rw [Nat.zero_add, Nat.zero_add, Nat.add_zero]))

omit h0 h3 hT h1 h2 h4 hi in
include h8 in
theorem ldPS (off : ℕ) (ho : off + 256 ≤ 1024) (inb) (l : Fin 256) :
    View.readAt (Elt Ideal) arg10.view (Rect.unit (s := S1x1024) ![0, off] S1x256.size inb).toLoadRect (harg10.unread x8) (ix2 0 l) = I.ps (off + l.val) := by
  have hl := l.isLt
  exact (load2_f32 (A := 1) (B := 1024) arg10 harg10 x8 _ (ix2 0 l)).trans (h8 (off + l.val) (by omega))

include h7 h8

theorem pb_val (p : Fin 512) (l : Fin 1024) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = pbG 2048 I b (T * 512 + p.val) l.val := by
  unfold out0_A_9
  rw [View.read_writes_eq_canon _ _ _ (cover0_A_9 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 1024]⟩ : Shape).Idx => (pbG 2048 I b (T * 512 + (y 1).val) (y 2).val : Elt Ideal .bf16)) _ ?_ _ (cover0_A_9 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl
  · exact pieceR (A := 512) (B := 1024) (n := 512) (m := 256) (d := 768) (inb3 1 512 1024 0 0 768 (by decide) (by decide) (by decide)) _ (fun u v => pbG 2048 I b (T * 512 + u) v) fun p l => (mix3_at _ _ _ _ p l).trans (group _ _ _ _ p l I b _ 3
      (fun k => (pooled3 c i arg2 harg2 arg3 harg3 arg4 harg4 arg5 harg5 arg6 harg6 arg18 x0 x1 x2 x3 x4 I b T h0 h3 h4 hT hi h1 h2 p k)) (fun k => ldWG arg9 harg9 x7 I h7 3 (by decide) _ k l) (ldPS arg10 harg10 x8 I h8 768 (by decide) _ l) ((pay51_at _ p l).trans (congrArg silu ((r25_at c arg2 harg2 arg5 harg5 arg6 harg6 x0 x3 x4 I b T h0 h3 h4 p l).trans (congrArg (zP I b _) (by omega))))))
  · exact pieceR (A := 512) (B := 1024) (n := 512) (m := 256) (d := 512) (inb3 1 512 1024 0 0 512 (by decide) (by decide) (by decide)) _ (fun u v => pbG 2048 I b (T * 512 + u) v) fun p l => (mix2_at _ _ _ _ p l).trans (group _ _ _ _ p l I b _ 2
      (fun k => (pooled2 c i arg2 harg2 arg3 harg3 arg4 harg4 arg5 harg5 arg6 harg6 arg18 x0 x1 x2 x3 x4 I b T h0 h3 h4 hT hi h1 h2 p k)) (fun k => ldWG arg9 harg9 x7 I h7 2 (by decide) _ k l) (ldPS arg10 harg10 x8 I h8 512 (by decide) _ l) ((r26_at c arg2 harg2 arg5 harg5 arg6 harg6 x0 x3 x4 I b T h0 h3 h4 p l).trans (congrArg (fun j => silu (zP I b (T * 512 + p.val) j)) (by omega))))
  · exact pieceR (A := 512) (B := 1024) (n := 512) (m := 256) (d := 256) (inb3 1 512 1024 0 0 256 (by decide) (by decide) (by decide)) _ (fun u v => pbG 2048 I b (T * 512 + u) v) fun p l => (mix1_at _ _ _ _ p l).trans (group _ _ _ _ p l I b _ 1
      (fun k => (pooled1 c i arg2 harg2 arg3 harg3 arg4 harg4 arg5 harg5 arg6 harg6 arg18 x0 x1 x2 x3 x4 I b T h0 h3 h4 hT hi h1 h2 p k)) (fun k => ldWG arg9 harg9 x7 I h7 1 (by decide) _ k l) (ldPS arg10 harg10 x8 I h8 256 (by decide) _ l) ((pay43_at _ p l).trans (congrArg silu ((r17_at c arg2 harg2 arg5 harg5 arg6 harg6 x0 x3 x4 I b T h0 h3 h4 p l).trans (congrArg (zP I b _) (by omega))))))
  · exact pieceR (A := 512) (B := 1024) (n := 512) (m := 256) (d := 0) (inb3 1 512 1024 0 0 0 (by decide) (by decide) (by decide)) _ (fun u v => pbG 2048 I b (T * 512 + u) v) fun p l => (mix0_at _ _ _ _ p l).trans (group _ _ _ _ p l I b _ 0
      (fun k => (pooled0 c i arg2 harg2 arg3 harg3 arg4 harg4 arg5 harg5 arg6 harg6 arg18 x0 x1 x2 x3 x4 I b T h0 h3 h4 hT hi h1 h2 p k)) (fun k => ldWG arg9 harg9 x7 I h7 0 (by decide) _ k l) (ldPS arg10 harg10 x8 I h8 0 (by decide) _ l) ((pay38_at _ p l).trans (congrArg silu ((r15_at c arg2 harg2 arg5 harg5 arg6 harg6 x0 x3 x4 I b T h0 h3 h4 p l).trans (congrArg (zP I b _) (by omega))))))

end

end Cert.KernelIdeal.Val

end
-- ==== Proof.Region0.lean ====
module

public import proofs.«01_k».proof.Proof.Pool
public import proofs.«01_k».proof.Proof.Gen.KernelIdeal.Frame
public import Idealize.ShloMosaic.Lib.Pipeline.Value
public import Idealize.ShloMosaic.Lib.Pipeline.ValueKit

@[expose] public section

set_option maxRecDepth 16384

noncomputable section

namespace Cert.KernelIdeal.Val

open Idealize.ShloMosaic Idealize.ShloMosaic.TcCoe Idealize.SL.Sem Layer Facts₀ Facts Gen

theorem rd2_at {n0 n1 : ℕ} (v : (⟨2, ![n0, n1]⟩ : Shape).Idx → EReal) {a b : ℕ} (ha : a < n0) (hb : b < n1) :
    rd2 v a b = v (ix2 ⟨a, ha⟩ ⟨b, hb⟩) := (rd2_val v ⟨a, ha⟩ ⟨b, hb⟩).symm

theorem rd3_at {n0 n1 n2 : ℕ} (v : (⟨3, ![n0, n1, n2]⟩ : Shape).Idx → EReal) {a b c : ℕ} (ha : a < n0) (hb : b < n1) (hc : c < n2) :
    rd3 v a b c = v (ix3 ⟨a, ha⟩ ⟨b, hb⟩ ⟨c, hc⟩) := (rd3_val v ⟨a, ha⟩ ⟨b, hb⟩ ⟨c, hc⟩).symm

theorem row_eq3 {n1 n2 : ℕ} (y : (⟨3, ![1, n1, n2]⟩ : Shape).Idx) : y = ix3 0 (y 1) (y 2) := by
  exact (eq_ix3 y).trans (congrArg (fun a => ix3 a (y 1) (y 2)) (Fin.fin_one_eq_zero (y 0)))

theorem index0_0 (t : Fin cfg0.N) : win0_0.index t = ![(grid0.coords t 0).val, (grid0.coords t 1).val, 0] :=
  (by decide +kernel : ∀ t : Fin grid0.N, win0_0.index t = ![(grid0.coords t 0).val, (grid0.coords t 1).val, 0]) t

theorem index0_1 (t : Fin cfg0.N) : win0_1.index t = ![(grid0.coords t 0).val, (grid0.coords t 1).val * 64 - 1, 0] :=
  (by decide +kernel : ∀ t : Fin grid0.N, win0_1.index t = ![(grid0.coords t 0).val, (grid0.coords t 1).val * 64 - 1, 0]) t

theorem index0_2 (t : Fin cfg0.N) : win0_2.index t = ![(grid0.coords t 0).val, min (((grid0.coords t 1).val + 1) * 64) 255, 0] :=
  (by decide +kernel : ∀ t : Fin grid0.N, win0_2.index t = ![(grid0.coords t 0).val, min (((grid0.coords t 1).val + 1) * 64) 255, 0]) t

theorem index0_3 (t : Fin cfg0.N) : win0_3.index t = ![0, 0] :=
  (by decide +kernel : ∀ t : Fin grid0.N, win0_3.index t = ![0, 0]) t

theorem index0_4 (t : Fin cfg0.N) : win0_4.index t = ![0, 0] :=
  (by decide +kernel : ∀ t : Fin grid0.N, win0_4.index t = ![0, 0]) t

theorem index0_5 (t : Fin cfg0.N) : win0_5.index t = ![(grid0.coords t 1).val, 0] :=
  (by decide +kernel : ∀ t : Fin grid0.N, win0_5.index t = ![(grid0.coords t 1).val, 0]) t

theorem index0_6 (t : Fin cfg0.N) : win0_6.index t = ![(grid0.coords t 1).val, 0] :=
  (by decide +kernel : ∀ t : Fin grid0.N, win0_6.index t = ![(grid0.coords t 1).val, 0]) t

theorem index0_7 (t : Fin cfg0.N) : win0_7.index t = ![0, 0, 0] :=
  (by decide +kernel : ∀ t : Fin grid0.N, win0_7.index t = ![0, 0, 0]) t

theorem index0_8 (t : Fin cfg0.N) : win0_8.index t = ![0, 0] :=
  (by decide +kernel : ∀ t : Fin grid0.N, win0_8.index t = ![0, 0]) t

theorem index0_9 (t : Fin cfg0.N) : win0_9.index t = ![(grid0.coords t 0).val, (grid0.coords t 1).val, 0] :=
  (by decide +kernel : ∀ t : Fin grid0.N, win0_9.index t = ![(grid0.coords t 0).val, (grid0.coords t 1).val, 0]) t

theorem index0_10 (t : Fin cfg0.N) : win0_10.index t = ![(grid0.coords t 0).val, (grid0.coords t 1).val, 0] :=
  (by decide +kernel : ∀ t : Fin grid0.N, win0_10.index t = ![(grid0.coords t 0).val, (grid0.coords t 1).val, 0]) t

theorem index0_11 (t : Fin cfg0.N) : win0_11.index t = ![(grid0.coords t 0).val, (grid0.coords t 1).val, 0] :=
  (by decide +kernel : ∀ t : Fin grid0.N, win0_11.index t = ![(grid0.coords t 0).val, (grid0.coords t 1).val, 0]) t

theorem index0_12 (t : Fin cfg0.N) : win0_12.index t = ![(grid0.coords t 0).val, (grid0.coords t 1).val, 0] :=
  (by decide +kernel : ∀ t : Fin grid0.N, win0_12.index t = ![(grid0.coords t 0).val, (grid0.coords t 1).val, 0]) t

theorem index0_13 (t : Fin cfg0.N) : win0_13.index t = ![(grid0.coords t 0).val, 0, (grid0.coords t 1).val] :=
  (by decide +kernel : ∀ t : Fin grid0.N, win0_13.index t = ![(grid0.coords t 0).val, 0, (grid0.coords t 1).val]) t

theorem index0_14 (t : Fin cfg0.N) : win0_14.index t = ![(grid0.coords t 0).val, (grid0.coords t 1).val, 0] :=
  (by decide +kernel : ∀ t : Fin grid0.N, win0_14.index t = ![(grid0.coords t 0).val, (grid0.coords t 1).val, 0]) t

theorem index0_15 (t : Fin cfg0.N) : win0_15.index t = ![(grid0.coords t 0).val, (grid0.coords t 1).val, 0] :=
  (by decide +kernel : ∀ t : Fin grid0.N, win0_15.index t = ![(grid0.coords t 0).val, (grid0.coords t 1).val, 0]) t

theorem coord0_0 (t : Fin cfg0.N) : (grid0.coords t 0).val < 16 := (grid0.coords t 0).isLt

theorem coord0_1 (t : Fin cfg0.N) : (grid0.coords t 1).val < 4 := (grid0.coords t 1).isLt

/-- What the arrays of call 0 hold as it begins. -/
structure Entry0 (V : (c : Dev nD) → (b : Ref sig .tc) → Buf (Elt Ideal) ((c : Thread nD τ).loc b)) (c : Dev nD) (I : In) : Prop where
  e0 : ∀ a b d, a < 16 → b < 2048 → d < 1024 → rd3 (n0 := 16) (n1 := 2048) (n2 := 1024) (V c main_arg0) a b d = I.x a b d
  e3 : ∀ a b, a < 1 → b < 1024 → rd2 (n0 := 1) (n1 := 1024) (V c main_v24) a b = I.g b
  e4 : ∀ a b, a < 1024 → b < 6656 → rd2 (n0 := 1024) (n1 := 6656) (V c main_v25) a b = I.w a b
  e5 : ∀ a b, a < 2048 → b < 128 → rd2 (n0 := 2048) (n1 := 128) (V c main_v18) a b = Ideal.cos (ang a (b % 32))
  e6 : ∀ a b, a < 2048 → b < 128 → rd2 (n0 := 2048) (n1 := 128) (V c main_v23) a b = if b % 64 < 32 then -Ideal.sin (ang a (b % 32)) else Ideal.sin (ang a (b % 32))
  e7 : ∀ a b d, a < 4 → b < 256 → d < 256 → rd3 (n0 := 4) (n1 := 256) (n2 := 256) (V c main_v26) a b d = I.wpg a b d
  e8 : ∀ a b, a < 1 → b < 1024 → rd2 (n0 := 1) (n1 := 1024) (V c main_v27) a b = I.ps b

section
variable (V : (c : Dev nD) → (b : Ref sig .tc) → Buf (Elt Ideal) ((c : Thread nD τ).loc b)) (c : Dev nD) (I : In) (E : Entry0 V c I) (t : Fin cfg0.N)
include E

theorem blk0_0 (b d : ℕ) (hb : b < 512) (hd : d < 1024) : rd3 (n0 := 1) (n1 := 512) (n2 := 1024) (iblk0 V c 0 t) 0 b d = I.x (grid0.coords t 0).val ((grid0.coords t 1).val * 512 + b) d := by
  have c0 := coord0_0 t
  have c1 := coord0_1 t
  rw [rd3_at (n0 := 1) (n1 := 512) (n2 := 1024) _ (by decide : 0 < 1) hb hd]
  blk_simp [iblk0]
  refine (rd3_idx (n0 := 16) (n1 := 2048) (n2 := 1024) _ _).trans ?_
  blk_simp [index0_0]
  refine (E.e0 _ _ _ (by omega) (by omega) (by omega)).trans ?_
  dsimp only
  try simp only [Nat.add_zero, Nat.zero_add]
  try rfl

theorem blk0_1 (b d : ℕ) (hb : b < 8) (hd : d < 1024) : rd3 (n0 := 1) (n1 := 8) (n2 := 1024) (iblk0 V c 1 t) 0 b d = I.x (grid0.coords t 0).val (((grid0.coords t 1).val * 64 - 1) * 8 + b) d := by
  have c0 := coord0_0 t
  have c1 := coord0_1 t
  rw [rd3_at (n0 := 1) (n1 := 8) (n2 := 1024) _ (by decide : 0 < 1) hb hd]
  blk_simp [iblk0]
  refine (rd3_idx (n0 := 16) (n1 := 2048) (n2 := 1024) _ _).trans ?_
  blk_simp [index0_1]
  refine (E.e0 _ _ _ (by omega) (by omega) (by omega)).trans ?_
  dsimp only
  try simp only [Nat.add_zero, Nat.zero_add]
  try rfl

theorem blk0_2 (b d : ℕ) (hb : b < 8) (hd : d < 1024) : rd3 (n0 := 1) (n1 := 8) (n2 := 1024) (iblk0 V c 2 t) 0 b d = I.x (grid0.coords t 0).val ((min (((grid0.coords t 1).val + 1) * 64) 255) * 8 + b) d := by
  have c0 := coord0_0 t
  have c1 := coord0_1 t
  rw [rd3_at (n0 := 1) (n1 := 8) (n2 := 1024) _ (by decide : 0 < 1) hb hd]
  blk_simp [iblk0]
  refine (rd3_idx (n0 := 16) (n1 := 2048) (n2 := 1024) _ _).trans ?_
  blk_simp [index0_2]
  refine (E.e0 _ _ _ (by omega) (by omega) (by omega)).trans ?_
  dsimp only
  try simp only [Nat.add_zero, Nat.zero_add]
  try rfl

theorem blk0_3 (b : ℕ) (hb : b < 1024) : rd2 (n0 := 1) (n1 := 1024) (iblk0 V c 3 t) 0 b = I.g b := by
  have c0 := coord0_0 t
  have c1 := coord0_1 t
  rw [rd2_at (n0 := 1) (n1 := 1024) _ (by decide : 0 < 1) hb]
  blk_simp [iblk0]
  refine (rd2_idx (n0 := 1) (n1 := 1024) _ _).trans ?_
  blk_simp [index0_3]
  refine (E.e3 _ _ (by omega) (by omega)).trans ?_
  dsimp only
  try simp only [Nat.add_zero, Nat.zero_add]
  try rfl

theorem blk0_4 (a b : ℕ) (ha : a < 1024) (hb : b < 6656) : rd2 (n0 := 1024) (n1 := 6656) (iblk0 V c 4 t) a b = I.w a b := by
  have c0 := coord0_0 t
  have c1 := coord0_1 t
  rw [rd2_at (n0 := 1024) (n1 := 6656) _ ha hb]
  blk_simp [iblk0]
  refine (rd2_idx (n0 := 1024) (n1 := 6656) _ _).trans ?_
  blk_simp [index0_4]
  refine (E.e4 _ _ (by omega) (by omega)).trans ?_
  dsimp only
  try simp only [Nat.add_zero, Nat.zero_add]
  try rfl

theorem blk0_5 (a b : ℕ) (ha : a < 512) (hb : b < 128) : rd2 (n0 := 512) (n1 := 128) (iblk0 V c 5 t) a b = Ideal.cos (ang ((grid0.coords t 1).val * 512 + a) (b % 32)) := by
  have c0 := coord0_0 t
  have c1 := coord0_1 t
  rw [rd2_at (n0 := 512) (n1 := 128) _ ha hb]
  blk_simp [iblk0]
  refine (rd2_idx (n0 := 2048) (n1 := 128) _ _).trans ?_
  blk_simp [index0_5]
  refine (E.e5 _ _ (by omega) (by omega)).trans ?_
  dsimp only
  try simp only [Nat.add_zero, Nat.zero_add]
  try rfl

theorem blk0_6 (a b : ℕ) (ha : a < 512) (hb : b < 128) : rd2 (n0 := 512) (n1 := 128) (iblk0 V c 6 t) a b = if b % 64 < 32 then -Ideal.sin (ang ((grid0.coords t 1).val * 512 + a) (b % 32)) else Ideal.sin (ang ((grid0.coords t 1).val * 512 + a) (b % 32)) := by
  have c0 := coord0_0 t
  have c1 := coord0_1 t
  rw [rd2_at (n0 := 512) (n1 := 128) _ ha hb]
  blk_simp [iblk0]
  refine (rd2_idx (n0 := 2048) (n1 := 128) _ _).trans ?_
  blk_simp [index0_6]
  refine (E.e6 _ _ (by omega) (by omega)).trans ?_
  dsimp only
  try simp only [Nat.add_zero, Nat.zero_add]
  try rfl

theorem blk0_7 (a b d : ℕ) (ha : a < 4) (hb : b < 256) (hd : d < 256) : rd3 (n0 := 4) (n1 := 256) (n2 := 256) (iblk0 V c 7 t) a b d = I.wpg a b d := by
  have c0 := coord0_0 t
  have c1 := coord0_1 t
  rw [rd3_at (n0 := 4) (n1 := 256) (n2 := 256) _ ha hb hd]
  blk_simp [iblk0]
  refine (rd3_idx (n0 := 4) (n1 := 256) (n2 := 256) _ _).trans ?_
  blk_simp [index0_7]
  refine (E.e7 _ _ _ (by omega) (by omega) (by omega)).trans ?_
  dsimp only
  try simp only [Nat.add_zero, Nat.zero_add]
  try rfl

theorem blk0_8 (b : ℕ) (hb : b < 1024) : rd2 (n0 := 1) (n1 := 1024) (iblk0 V c 8 t) 0 b = I.ps b := by
  have c0 := coord0_0 t
  have c1 := coord0_1 t
  rw [rd2_at (n0 := 1) (n1 := 1024) _ (by decide : 0 < 1) hb]
  blk_simp [iblk0]
  refine (rd2_idx (n0 := 1) (n1 := 1024) _ _).trans ?_
  blk_simp [index0_8]
  refine (E.e8 _ _ (by omega) (by omega)).trans ?_
  dsimp only
  try simp only [Nat.add_zero, Nat.zero_add]
  try rfl

end

section
variable (V : (c : Dev nD) → (b : Ref sig .tc) → Buf (Elt Ideal) ((c : Thread nD τ).loc b)) (c : Dev nD) (I : In) (E : Entry0 V c I)
include E

theorem out0_9_at (t : Fin cfg0.N) (y : S1x512x1024.Idx) : (outsAt0 V c t).1 y = (pbG 2048 I (grid0.coords t 0).val ((grid0.coords t 1).val * 512 + (y 1).val) (y 2).val : EReal) := by
  rw [row_eq3 y]
  unfold outsAt0
  dsimp only
  exact pb_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (coord0_1 t) rfl (fun p l hT hp hl => (blk0_1 V c I E t p l hp hl).trans (congrArg (fun s => I.x _ s l) (show ((grid0.coords t 1).val * 64 - 1) * 8 + p = (grid0.coords t 1).val * 512 + p - 8 by omega))) (fun p l hT hp hl => (blk0_2 V c I E t p l hp hl).trans (congrArg (fun s => I.x _ s l) (show (min (((grid0.coords t 1).val + 1) * 64) 255) * 8 + p = (grid0.coords t 1).val * 512 + 512 + p by have := coord0_1 t; omega))) (blk0_7 V c I E t) (blk0_8 V c I E t) (y 1) (y 2)

/-- The array `main_v28_0` after the first call. -/
theorem arr0_9 : (dat0 V c).arrAt 9 cfg0.N = fun y : S16x2048x1024.Idx => (pbG 2048 I (y 0).val (y 1).val (y 2).val : EReal) := by
  refine (dat0 V c).arrAt_eq_of_covers 9 _ (by decide +kernel) fun t hf y => ?_
  blk_simp
  rw [after0_9]
  refine (out0_9_at V c I E t y).trans ?_
  have hy : (y 0).val = 0 := Nat.lt_one_iff.mp (y 0).isLt
  blk_simp [index0_9]
  try simp only [hy, Nat.mul_one, Nat.add_zero, Nat.zero_add]

theorem out0_10_at (t : Fin cfg0.N) (y : S1x512x1024.Idx) : (outsAt0 V c t).2.1 y = (qR I (grid0.coords t 0).val ((grid0.coords t 1).val * 512 + (y 1).val) ((y 2).val / 64) ((y 2).val % 64) * (qsc : EReal) : EReal) := by
  rw [row_eq3 y]
  unfold outsAt0
  dsimp only
  exact q_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (blk0_5 V c I E t) (blk0_6 V c I E t) (y 1) (y 2)

/-- The array `main_v28_1` after the first call. -/
theorem arr0_10 : (dat0 V c).arrAt 10 cfg0.N = fun y : S16x2048x1024.Idx => (qR I (y 0).val (y 1).val ((y 2).val / 64) ((y 2).val % 64) * (qsc : EReal) : EReal) := by
  refine (dat0 V c).arrAt_eq_of_covers 10 _ (by decide +kernel) fun t hf y => ?_
  blk_simp
  rw [after0_10]
  refine (out0_10_at V c I E t y).trans ?_
  have hy : (y 0).val = 0 := Nat.lt_one_iff.mp (y 0).isLt
  blk_simp [index0_10]
  try simp only [hy, Nat.mul_one, Nat.add_zero, Nat.zero_add]

theorem out0_11_at (t : Fin cfg0.N) (y : S1x512x1024.Idx) : (outsAt0 V c t).2.2.1 y = (silu (zP I (grid0.coords t 0).val ((grid0.coords t 1).val * 512 + (y 1).val) (3584 + (y 2).val)) : EReal) := by
  rw [row_eq3 y]
  unfold outsAt0
  dsimp only
  exact ag_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (y 1) (y 2)

/-- The array `main_v28_2` after the first call. -/
theorem arr0_11 : (dat0 V c).arrAt 11 cfg0.N = fun y : S16x2048x1024.Idx => (silu (zP I (y 0).val (y 1).val (3584 + (y 2).val)) : EReal) := by
  refine (dat0 V c).arrAt_eq_of_covers 11 _ (by decide +kernel) fun t hf y => ?_
  blk_simp
  rw [after0_11]
  refine (out0_11_at V c I E t y).trans ?_
  have hy : (y 0).val = 0 := Nat.lt_one_iff.mp (y 0).isLt
  blk_simp [index0_11]
  try simp only [hy, Nat.mul_one, Nat.add_zero, Nat.zero_add]

theorem out0_12_at (t : Fin cfg0.N) (y : S1x512x2048.Idx) : (outsAt0 V c t).2.2.2.1 y = (sg (zP I (grid0.coords t 0).val ((grid0.coords t 1).val * 512 + (y 1).val) (4608 + (y 2).val)) : EReal) := by
  rw [row_eq3 y]
  unfold outsAt0
  dsimp only
  exact gate_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (y 1) (y 2)

/-- The array `main_v28_3` after the first call. -/
theorem arr0_12 : (dat0 V c).arrAt 12 cfg0.N = fun y : S16x2048x2048.Idx => (sg (zP I (y 0).val (y 1).val (4608 + (y 2).val)) : EReal) := by
  refine (dat0 V c).arrAt_eq_of_covers 12 _ (by decide +kernel) fun t hf y => ?_
  blk_simp
  rw [after0_12]
  refine (out0_12_at V c I E t y).trans ?_
  have hy : (y 0).val = 0 := Nat.lt_one_iff.mp (y 0).isLt
  blk_simp [index0_12]
  try simp only [hy, Nat.mul_one, Nat.add_zero, Nat.zero_add]

theorem out0_13_at (t : Fin cfg0.N) (y : S1x1024x512.Idx) : (outsAt0 V c t).2.2.2.2.1 y = (if (y 1).val % 256 < 128 then (if (y 1).val % 128 < 64 then kR I (grid0.coords t 0).val ((grid0.coords t 1).val * 512 + (y 2).val) ((y 1).val / 256) ((y 1).val % 128) else 0) else (if (y 1).val % 128 < 64 then 0 else kR I (grid0.coords t 0).val ((grid0.coords t 1).val * 512 + (y 2).val) ((y 1).val / 256) ((y 1).val % 128 - 64)) : EReal) := by
  rw [row_eq3 y]
  unfold outsAt0
  dsimp only
  exact kt_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (blk0_5 V c I E t) (blk0_6 V c I E t) (y 1) (y 2)

/-- The array `main_v28_4` after the first call. -/
theorem arr0_13 : (dat0 V c).arrAt 13 cfg0.N = fun y : S16x1024x2048.Idx => (if (y 1).val % 256 < 128 then (if (y 1).val % 128 < 64 then kR I (y 0).val (y 2).val ((y 1).val / 256) ((y 1).val % 128) else 0) else (if (y 1).val % 128 < 64 then 0 else kR I (y 0).val (y 2).val ((y 1).val / 256) ((y 1).val % 128 - 64)) : EReal) := by
  refine (dat0 V c).arrAt_eq_of_covers 13 _ (by decide +kernel) fun t hf y => ?_
  blk_simp
  rw [after0_13]
  refine (out0_13_at V c I E t y).trans ?_
  have hy : (y 0).val = 0 := Nat.lt_one_iff.mp (y 0).isLt
  blk_simp [index0_13]
  try simp only [hy, Nat.mul_one, Nat.add_zero, Nat.zero_add]

theorem out0_14_at (t : Fin cfg0.N) (y : S1x512x1024.Idx) : (outsAt0 V c t).2.2.2.2.2.1 y = (if (y 2).val % 256 < 128 then (if (y 2).val % 256 < 64 then vV I (grid0.coords t 0).val ((grid0.coords t 1).val * 512 + (y 1).val) ((y 2).val / 256) ((y 2).val % 256) else 0) else if (y 2).val % 256 < 192 then 1 else 0 : EReal) := by
  rw [row_eq3 y]
  unfold outsAt0
  dsimp only
  exact vl_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (y 1) (y 2)

/-- The array `main_v28_5` after the first call. -/
theorem arr0_14 : (dat0 V c).arrAt 14 cfg0.N = fun y : S16x2048x1024.Idx => (if (y 2).val % 256 < 128 then (if (y 2).val % 256 < 64 then vV I (y 0).val (y 1).val ((y 2).val / 256) ((y 2).val % 256) else 0) else if (y 2).val % 256 < 192 then 1 else 0 : EReal) := by
  refine (dat0 V c).arrAt_eq_of_covers 14 _ (by decide +kernel) fun t hf y => ?_
  blk_simp
  rw [after0_14]
  refine (out0_14_at V c I E t y).trans ?_
  have hy : (y 0).val = 0 := Nat.lt_one_iff.mp (y 0).isLt
  blk_simp [index0_14]
  try simp only [hy, Nat.mul_one, Nat.add_zero, Nat.zero_add]

theorem out0_15_at (t : Fin cfg0.N) (y : S1x512x1024.Idx) : (outsAt0 V c t).2.2.2.2.2.2 y = (if (y 2).val % 256 < 128 then (if (y 2).val % 256 < 64 then 0 else vV I (grid0.coords t 0).val ((grid0.coords t 1).val * 512 + (y 1).val) ((y 2).val / 256) ((y 2).val % 256 - 64)) else if (y 2).val % 256 < 192 then 0 else 1 : EReal) := by
  rw [row_eq3 y]
  unfold outsAt0
  dsimp only
  exact vh_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (y 1) (y 2)

/-- The array `main_v28_6` after the first call. -/
theorem arr0_15 : (dat0 V c).arrAt 15 cfg0.N = fun y : S16x2048x1024.Idx => (if (y 2).val % 256 < 128 then (if (y 2).val % 256 < 64 then 0 else vV I (y 0).val (y 1).val ((y 2).val / 256) ((y 2).val % 256 - 64)) else if (y 2).val % 256 < 192 then 0 else 1 : EReal) := by
  refine (dat0 V c).arrAt_eq_of_covers 15 _ (by decide +kernel) fun t hf y => ?_
  blk_simp
  rw [after0_15]
  refine (out0_15_at V c I E t y).trans ?_
  have hy : (y 0).val = 0 := Nat.lt_one_iff.mp (y 0).isLt
  blk_simp [index0_15]
  try simp only [hy, Nat.mul_one, Nat.add_zero, Nat.zero_add]

end

end Cert.KernelIdeal.Val

end
-- ==== Proof.Mixer.lean ====
module

public import proofs.«01_k».proof.Proof.Gen.KernelIdeal.Frame
public import proofs.«01_k».proof.Proof.Item
public import proofs.«01_k».proof.Proof.Reads

@[expose] public section

set_option maxRecDepth 16384

noncomputable section

namespace Cert.KernelIdeal.Val

open Idealize.ShloMosaic Idealize.ShloMosaic.TcCoe Idealize.SL.Sem Layer Facts₀ Facts Gen

def colT : IVec S128x128 32 := iota .tc S128x128 32 [1] Gen.iota_S128x128_d1_w32
def rowT : IVec S128x128 32 := iota .tc S128x128 32 [0] Gen.iota_S128x128_d0_w32

/-- Which positions before the block a row sees. -/
def msk0 (i : grid1.Coords) : ℕ → IVec S128x128 1
  | 0 => andi (cmpi .sge colT rowT) (broadcast S128x128 (Scalar.xori (Scalar.cmpi .eq (BitVec.ofNat 32 (i 1).val) 0#32) 1#1))
  | _ => cmpi .sge colT rowT

/-- Which positions after the block a row sees. -/
def msk2 (i : grid1.Coords) : ℕ → IVec S128x128 1
  | 3 => andi (cmpi .sle colT rowT) (broadcast S128x128 (Scalar.xori (Scalar.cmpi .eq (BitVec.ofNat 32 (i 1).val) 3#32) 1#1))
  | _ => cmpi .sle colT rowT

section
variable (c : Dev nD) (i : grid1.Coords)
  (arg2 : Memref sig .tc .vmem S1x512x1024 .f32) (harg2 : arg2.IsWhole)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x2048 .bf16) (harg6 : arg6.IsWhole)
  (arg7 : Memref sig .tc .vmem S1x1024x512 .bf16) (harg7 : arg7.IsWhole)
  (arg8 : Memref sig .tc .vmem S1x1024x128 .bf16) (harg8 : arg8.IsWhole)
  (arg9 : Memref sig .tc .vmem S1x1024x128 .bf16) (harg9 : arg9.IsWhole)
  (arg10 : Memref sig .tc .vmem S1x512x1024 .bf16) (harg10 : arg10.IsWhole)
  (arg11 : Memref sig .tc .vmem S1x128x1024 .bf16) (harg11 : arg11.IsWhole)
  (arg12 : Memref sig .tc .vmem S1x128x1024 .bf16) (harg12 : arg12.IsWhole)
  (arg13 : Memref sig .tc .vmem S1x512x1024 .bf16) (harg13 : arg13.IsWhole)
  (arg14 : Memref sig .tc .vmem S1x128x1024 .bf16) (harg14 : arg14.IsWhole)
  (arg15 : Memref sig .tc .vmem S1x128x1024 .bf16) (harg15 : arg15.IsWhole)
  (arg16 : Memref sig .tc .vmem S1024x1024 .bf16) (harg16 : arg16.IsWhole)
  (arg17 : Memref sig .tc .vmem S16x128 .f32) (harg17 : arg17.IsWhole)
  (arg18 : Memref sig .tc .vmem S1024x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1x512x1024 .f32) (harg21 : arg21.IsWhole)
  (arg22 : Memref sig .tc .vmem S1024x768 .bf16) (harg22 : arg22.IsWhole)
  (arg23 : Memref sig .tc .vmem S768x1152 .bf16) (harg23 : arg23.IsWhole)
  (arg24 : Memref sig .tc .vmem S768x1152 .bf16) (harg24 : arg24.IsWhole)
  (arg25 : Memref sig .tc .vmem S512x1152 .bf16) (harg25 : arg25.IsWhole)
  (arg26 : Memref sig .tc .vmem S512x1152 .f32) (harg26 : arg26.IsWhole)
  (x0 : Vec Ideal S1x512x1024 .f32) (x1 : Vec Ideal S1x512x1024 .bf16) (x2 : Vec Ideal S1x512x1024 .bf16) (x3 : Vec Ideal S1x512x1024 .bf16) (x4 : Vec Ideal S1x512x2048 .bf16) (x5 : Vec Ideal S1x1024x512 .bf16) (x6 : Vec Ideal S1x1024x128 .bf16) (x7 : Vec Ideal S1x1024x128 .bf16) (x8 : Vec Ideal S1x512x1024 .bf16) (x9 : Vec Ideal S1x128x1024 .bf16) (x10 : Vec Ideal S1x128x1024 .bf16) (x11 : Vec Ideal S1x512x1024 .bf16) (x12 : Vec Ideal S1x128x1024 .bf16) (x13 : Vec Ideal S1x128x1024 .bf16) (x14 : Vec Ideal S1024x1024 .bf16) (x15 : Vec Ideal S16x128 .f32) (x16 : Vec Ideal S1024x1024 .bf16) (x17 : Vec Ideal S1024x1024 .bf16) (x18 : Vec Ideal S1x1024 .f32)

def pc0 (q h : ℕ) (hq : q < 4) (hh : h < 4) : View.Piece (Elt Ideal) S512x1152 .bf16 :=
  ⟨Rect.unit (s := S512x1152) ![q * 128, (2 * h + 0) * 128] S128x128.size (inb2 512 1152 _ _ (by omega) (by omega)),
    item0 (msk0 i q) (msk2 i q)
      (View.readAt (Elt Ideal) arg4.view (Rect.unit (s := S1x512x1024) ![0, q * 128, (2 * h + 0) * 128] S1x128x128.size (inb3 1 512 1024 _ _ _ (by decide) (by omega) (by omega))).toLoadRect (harg4.unread x2))
      (View.readAt (Elt Ideal) arg4.view (Rect.unit (s := S1x512x1024) ![0, q * 128, (2 * h + 1) * 128] S1x128x128.size (inb3 1 512 1024 _ _ _ (by decide) (by omega) (by omega))).toLoadRect (harg4.unread x2))
      (arg22.view.readCov (kernelRun1_A.sl.HS0_3 (F := Ideal) c arg7 harg7 arg8 harg8 arg9 harg9 x5 x6 x7) (Rect.unit (s := S1024x768) ![h * 256, q * 128] S128x384.size (inb2 1024 768 _ _ (by omega) (by omega))).toLoadRect)
      (arg22.view.readCov (kernelRun1_A.sl.HS0_3 (F := Ideal) c arg7 harg7 arg8 harg8 arg9 harg9 x5 x6 x7) (Rect.unit (s := S1024x768) ![h * 256 + 128, q * 128] S128x384.size (inb2 1024 768 _ _ (by omega) (by omega))).toLoadRect)
      (arg23.view.readCov (kernelRun1_A.sl.HS1_3 (F := Ideal) c arg10 harg10 arg11 harg11 arg12 harg12 x8 x9 x10) (Rect.unit (s := S768x1152) ![q * 128, h * 256] S384x256.size (inb2 768 1152 _ _ (by omega) (by omega))).toLoadRect)
      (arg24.view.readCov (kernelRun1_A.sl.HS2_3 (F := Ideal) c arg13 harg13 arg14 harg14 arg15 harg15 x11 x12 x13) (Rect.unit (s := S768x1152) ![q * 128, h * 256] S384x256.size (inb2 768 1152 _ _ (by omega) (by omega))).toLoadRect)
      (View.readAt (Elt Ideal) arg17.view (Rect.unit (s := S16x128) ![4 * h + 0, 0] S1x128.size (inb2 16 128 _ _ (by omega) (by omega))).toLoadRect (harg17.unread x15)) (View.readAt (Elt Ideal) arg17.view (Rect.unit (s := S16x128) ![4 * h + 1, 0] S1x128.size (inb2 16 128 _ _ (by omega) (by omega))).toLoadRect (harg17.unread x15)) (View.readAt (Elt Ideal) arg17.view (Rect.unit (s := S16x128) ![4 * h + 2, 0] S1x128.size (inb2 16 128 _ _ (by omega) (by omega))).toLoadRect (harg17.unread x15)) (View.readAt (Elt Ideal) arg17.view (Rect.unit (s := S16x128) ![4 * h + 3, 0] S1x128.size (inb2 16 128 _ _ (by omega) (by omega))).toLoadRect (harg17.unread x15))
      (View.readAt (Elt Ideal) arg5.view (Rect.unit (s := S1x512x1024) ![0, q * 128, (2 * h + 0) * 128] S1x128x128.size (inb3 1 512 1024 _ _ _ (by decide) (by omega) (by omega))).toLoadRect (harg5.unread x3))⟩
def pc1 (q h : ℕ) (hq : q < 4) (hh : h < 4) : View.Piece (Elt Ideal) S512x1152 .bf16 :=
  ⟨Rect.unit (s := S512x1152) ![q * 128, (2 * h + 1) * 128] S128x128.size (inb2 512 1152 _ _ (by omega) (by omega)),
    item1 (msk0 i q) (msk2 i q)
      (View.readAt (Elt Ideal) arg4.view (Rect.unit (s := S1x512x1024) ![0, q * 128, (2 * h + 0) * 128] S1x128x128.size (inb3 1 512 1024 _ _ _ (by decide) (by omega) (by omega))).toLoadRect (harg4.unread x2))
      (View.readAt (Elt Ideal) arg4.view (Rect.unit (s := S1x512x1024) ![0, q * 128, (2 * h + 1) * 128] S1x128x128.size (inb3 1 512 1024 _ _ _ (by decide) (by omega) (by omega))).toLoadRect (harg4.unread x2))
      (arg22.view.readCov (kernelRun1_A.sl.HS0_3 (F := Ideal) c arg7 harg7 arg8 harg8 arg9 harg9 x5 x6 x7) (Rect.unit (s := S1024x768) ![h * 256, q * 128] S128x384.size (inb2 1024 768 _ _ (by omega) (by omega))).toLoadRect)
      (arg22.view.readCov (kernelRun1_A.sl.HS0_3 (F := Ideal) c arg7 harg7 arg8 harg8 arg9 harg9 x5 x6 x7) (Rect.unit (s := S1024x768) ![h * 256 + 128, q * 128] S128x384.size (inb2 1024 768 _ _ (by omega) (by omega))).toLoadRect)
      (arg23.view.readCov (kernelRun1_A.sl.HS1_3 (F := Ideal) c arg10 harg10 arg11 harg11 arg12 harg12 x8 x9 x10) (Rect.unit (s := S768x1152) ![q * 128, h * 256] S384x256.size (inb2 768 1152 _ _ (by omega) (by omega))).toLoadRect)
      (arg24.view.readCov (kernelRun1_A.sl.HS2_3 (F := Ideal) c arg13 harg13 arg14 harg14 arg15 harg15 x11 x12 x13) (Rect.unit (s := S768x1152) ![q * 128, h * 256] S384x256.size (inb2 768 1152 _ _ (by omega) (by omega))).toLoadRect)
      (View.readAt (Elt Ideal) arg17.view (Rect.unit (s := S16x128) ![4 * h + 0, 0] S1x128.size (inb2 16 128 _ _ (by omega) (by omega))).toLoadRect (harg17.unread x15)) (View.readAt (Elt Ideal) arg17.view (Rect.unit (s := S16x128) ![4 * h + 1, 0] S1x128.size (inb2 16 128 _ _ (by omega) (by omega))).toLoadRect (harg17.unread x15)) (View.readAt (Elt Ideal) arg17.view (Rect.unit (s := S16x128) ![4 * h + 2, 0] S1x128.size (inb2 16 128 _ _ (by omega) (by omega))).toLoadRect (harg17.unread x15)) (View.readAt (Elt Ideal) arg17.view (Rect.unit (s := S16x128) ![4 * h + 3, 0] S1x128.size (inb2 16 128 _ _ (by omega) (by omega))).toLoadRect (harg17.unread x15))
      (View.readAt (Elt Ideal) arg5.view (Rect.unit (s := S1x512x1024) ![0, q * 128, (2 * h + 1) * 128] S1x128x128.size (inb3 1 512 1024 _ _ _ (by decide) (by omega) (by omega))).toLoadRect (harg5.unread x3))⟩

/-- The pieces, last first. -/
def pcs {α : Type*} (f0 f1 : ∀ q h : ℕ, q < 4 → h < 4 → α) : List α :=
  [f1 3 3 (by decide) (by decide), f0 3 3 (by decide) (by decide), f1 3 2 (by decide) (by decide), f0 3 2 (by decide) (by decide), f1 3 1 (by decide) (by decide), f0 3 1 (by decide) (by decide), f1 3 0 (by decide) (by decide), f0 3 0 (by decide) (by decide), f1 2 3 (by decide) (by decide), f0 2 3 (by decide) (by decide), f1 2 2 (by decide) (by decide), f0 2 2 (by decide) (by decide), f1 2 1 (by decide) (by decide), f0 2 1 (by decide) (by decide), f1 2 0 (by decide) (by decide), f0 2 0 (by decide) (by decide), f1 1 3 (by decide) (by decide), f0 1 3 (by decide) (by decide), f1 1 2 (by decide) (by decide), f0 1 2 (by decide) (by decide), f1 1 1 (by decide) (by decide), f0 1 1 (by decide) (by decide), f1 1 0 (by decide) (by decide), f0 1 0 (by decide) (by decide), f1 0 3 (by decide) (by decide), f0 0 3 (by decide) (by decide), f1 0 2 (by decide) (by decide), f0 0 2 (by decide) (by decide), f1 0 1 (by decide) (by decide), f0 0 1 (by decide) (by decide), f1 0 0 (by decide) (by decide), f0 0 0 (by decide) (by decide)]

theorem pcs_mem {α : Type*} (f0 f1 : ∀ q h : ℕ, q < 4 → h < 4 → α) (p : α) (hp : p ∈ pcs f0 f1) :
    ∃ q h hq hh, p = f0 q h hq hh ∨ p = f1 q h hq hh := by
  simp only [pcs, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact ⟨3, 3, by decide, by decide, .inr rfl⟩
  · exact ⟨3, 3, by decide, by decide, .inl rfl⟩
  · exact ⟨3, 2, by decide, by decide, .inr rfl⟩
  · exact ⟨3, 2, by decide, by decide, .inl rfl⟩
  · exact ⟨3, 1, by decide, by decide, .inr rfl⟩
  · exact ⟨3, 1, by decide, by decide, .inl rfl⟩
  · exact ⟨3, 0, by decide, by decide, .inr rfl⟩
  · exact ⟨3, 0, by decide, by decide, .inl rfl⟩
  · exact ⟨2, 3, by decide, by decide, .inr rfl⟩
  · exact ⟨2, 3, by decide, by decide, .inl rfl⟩
  · exact ⟨2, 2, by decide, by decide, .inr rfl⟩
  · exact ⟨2, 2, by decide, by decide, .inl rfl⟩
  · exact ⟨2, 1, by decide, by decide, .inr rfl⟩
  · exact ⟨2, 1, by decide, by decide, .inl rfl⟩
  · exact ⟨2, 0, by decide, by decide, .inr rfl⟩
  · exact ⟨2, 0, by decide, by decide, .inl rfl⟩
  · exact ⟨1, 3, by decide, by decide, .inr rfl⟩
  · exact ⟨1, 3, by decide, by decide, .inl rfl⟩
  · exact ⟨1, 2, by decide, by decide, .inr rfl⟩
  · exact ⟨1, 2, by decide, by decide, .inl rfl⟩
  · exact ⟨1, 1, by decide, by decide, .inr rfl⟩
  · exact ⟨1, 1, by decide, by decide, .inl rfl⟩
  · exact ⟨1, 0, by decide, by decide, .inr rfl⟩
  · exact ⟨1, 0, by decide, by decide, .inl rfl⟩
  · exact ⟨0, 3, by decide, by decide, .inr rfl⟩
  · exact ⟨0, 3, by decide, by decide, .inl rfl⟩
  · exact ⟨0, 2, by decide, by decide, .inr rfl⟩
  · exact ⟨0, 2, by decide, by decide, .inl rfl⟩
  · exact ⟨0, 1, by decide, by decide, .inr rfl⟩
  · exact ⟨0, 1, by decide, by decide, .inl rfl⟩
  · exact ⟨0, 0, by decide, by decide, .inr rfl⟩
  · exact ⟨0, 0, by decide, by decide, .inl rfl⟩

theorem pcs_f0 {α : Type*} (f0 f1 : ∀ q h : ℕ, q < 4 → h < 4 → α) (q h : ℕ) (hq : q < 4) (hh : h < 4) : f0 q h hq hh ∈ pcs f0 f1 := by
  unfold pcs
  interval_cases q <;> interval_cases h <;> simp only [List.mem_cons, true_or, or_true]

theorem pcs_f1 {α : Type*} (f0 f1 : ∀ q h : ℕ, q < 4 → h < 4 → α) (q h : ℕ) (hq : q < 4) (hh : h < 4) : f1 q h hq hh ∈ pcs f0 f1 := by
  unfold pcs
  interval_cases q <;> interval_cases h <;> simp only [List.mem_cons, true_or, or_true]

theorem pieces : kernelRun1_A.sl.HS3_32 (F := Ideal) c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15
    = pcs (pc0 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15) (pc1 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15) := by
  unfold kernelRun1_A.sl.HS3_32
  rfl

/-! ### The windows -/

/-- The key window. -/
def kW (x5 : Vec Ideal S1x1024x512 .bf16) (x6 x7 : Vec Ideal S1x1024x128 .bf16) (r n : ℕ) : EReal :=
  if n < 128 then rd3 (n0 := 1) (n1 := 1024) (n2 := 128) x6 0 r n else if n < 640 then rd3 (n0 := 1) (n1 := 1024) (n2 := 512) x5 0 r (n - 128) else rd3 (n0 := 1) (n1 := 1024) (n2 := 128) x7 0 r (n - 640)

/-- A value window. -/
def vW (x8 : Vec Ideal S1x512x1024 .bf16) (x9 x10 : Vec Ideal S1x128x1024 .bf16) (n l : ℕ) : EReal :=
  if n < 128 then rd3 (n0 := 1) (n1 := 128) (n2 := 1024) x9 0 n l else if n < 640 then rd3 (n0 := 1) (n1 := 512) (n2 := 1024) x8 0 (n - 128) l else rd3 (n0 := 1) (n1 := 128) (n2 := 1024) x10 0 (n - 640) l

theorem v6_at (x : S1024x128.Idx) : kernelRun1_A.sl.v6 (F := Ideal) c arg8 harg8 x6 x = rd3 x6 0 (x 0).val (x 1).val := by
  obtain ⟨a, b, rfl⟩ : ∃ a b, x = ix2 a b := ⟨_, _, eq_ix2 x⟩
  pointwise [kernelRun1_A.sl.v6, kernelRun1_A.sl.v3]
  rw [load3_bf16]
  simp

theorem v11_at (x : S1024x512.Idx) : kernelRun1_A.sl.v11 (F := Ideal) c arg7 harg7 x5 x = rd3 x5 0 (x 0).val (x 1).val := by
  obtain ⟨a, b, rfl⟩ : ∃ a b, x = ix2 a b := ⟨_, _, eq_ix2 x⟩
  pointwise [kernelRun1_A.sl.v11, kernelRun1_A.sl.v8]
  rw [load3_bf16]
  simp

theorem v16_at (x : S1024x128.Idx) : kernelRun1_A.sl.v16 (F := Ideal) c arg9 harg9 x7 x = rd3 x7 0 (x 0).val (x 1).val := by
  obtain ⟨a, b, rfl⟩ : ∃ a b, x = ix2 a b := ⟨_, _, eq_ix2 x⟩
  pointwise [kernelRun1_A.sl.v16, kernelRun1_A.sl.v13]
  rw [load3_bf16]
  simp

theorem v21_at (x : S128x1024.Idx) : kernelRun1_A.sl.v21 (F := Ideal) c arg11 harg11 x9 x = rd3 x9 0 (x 0).val (x 1).val := by
  obtain ⟨a, b, rfl⟩ : ∃ a b, x = ix2 a b := ⟨_, _, eq_ix2 x⟩
  pointwise [kernelRun1_A.sl.v21, kernelRun1_A.sl.v18]
  rw [load3_bf16]
  simp

theorem v26_at (x : S512x1024.Idx) : kernelRun1_A.sl.v26 (F := Ideal) c arg10 harg10 x8 x = rd3 x8 0 (x 0).val (x 1).val := by
  obtain ⟨a, b, rfl⟩ : ∃ a b, x = ix2 a b := ⟨_, _, eq_ix2 x⟩
  pointwise [kernelRun1_A.sl.v26, kernelRun1_A.sl.v23]
  rw [load3_bf16]
  simp

theorem v31_at (x : S128x1024.Idx) : kernelRun1_A.sl.v31 (F := Ideal) c arg12 harg12 x10 x = rd3 x10 0 (x 0).val (x 1).val := by
  obtain ⟨a, b, rfl⟩ : ∃ a b, x = ix2 a b := ⟨_, _, eq_ix2 x⟩
  pointwise [kernelRun1_A.sl.v31, kernelRun1_A.sl.v28]
  rw [load3_bf16]
  simp

theorem v36_at (x : S128x1024.Idx) : kernelRun1_A.sl.v36 (F := Ideal) c arg14 harg14 x12 x = rd3 x12 0 (x 0).val (x 1).val := by
  obtain ⟨a, b, rfl⟩ : ∃ a b, x = ix2 a b := ⟨_, _, eq_ix2 x⟩
  pointwise [kernelRun1_A.sl.v36, kernelRun1_A.sl.v33]
  rw [load3_bf16]
  simp

theorem v41_at (x : S512x1024.Idx) : kernelRun1_A.sl.v41 (F := Ideal) c arg13 harg13 x11 x = rd3 x11 0 (x 0).val (x 1).val := by
  obtain ⟨a, b, rfl⟩ : ∃ a b, x = ix2 a b := ⟨_, _, eq_ix2 x⟩
  pointwise [kernelRun1_A.sl.v41, kernelRun1_A.sl.v38]
  rw [load3_bf16]
  simp

theorem v46_at (x : S128x1024.Idx) : kernelRun1_A.sl.v46 (F := Ideal) c arg15 harg15 x13 x = rd3 x13 0 (x 0).val (x 1).val := by
  obtain ⟨a, b, rfl⟩ : ∃ a b, x = ix2 a b := ⟨_, _, eq_ix2 x⟩
  pointwise [kernelRun1_A.sl.v46, kernelRun1_A.sl.v43]
  rw [load3_bf16]
  simp

theorem kLoad {n m a b : ℕ} (inb) (y : (⟨2, ![n, m]⟩ : Shape).Idx) :
    arg22.view.readCov (kernelRun1_A.sl.HS0_3 (F := Ideal) c arg7 harg7 arg8 harg8 arg9 harg9 x5 x6 x7) (Rect.unit (s := S1024x768) ![a, b] ![n, m] inb).toLoadRect y = kW x5 x6 x7 (a + (y 0).val) (b + (y 1).val) := by
  have l0 : a + n ≤ S1024x768.size 0 := inb 0
  have l1 : b + m ≤ S1024x768.size 1 := inb 1
  have y0 : (y 0).val < n := (y 0).isLt
  have y1 : (y 1).val < m := (y 1).isLt
  have e0 : ((Rect.unit (s := S1024x768) ![a, b] ![n, m] inb).idx y 0).val = a + (y 0).val := Rect.idx_unit_val (s := S1024x768) ![a, b] ![n, m] inb y 0
  have e1 : ((Rect.unit (s := S1024x768) ![a, b] ![n, m] inb).idx y 1).val = b + (y 1).val := Rect.idx_unit_val (s := S1024x768) ![a, b] ![n, m] inb y 1
  have l0' : a + n ≤ 1024 := l0
  have l1' : b + m ≤ 768 := l1
  refine cov2_bf16 (A := 1024) (B := 768) arg22.view _ (kW x5 x6 x7) ?_ inb y ?_
  · intro q hq
    simp only [kernelRun1_A.sl.HS0_3, List.mem_cons, List.not_mem_nil, or_false] at hq
    rcases hq with rfl | rfl | rfl
    · intro x
      refine (v16_at c arg9 harg9 x7 x).trans ?_
      have hx0 : (x 0).val < 1024 := (x 0).isLt
      have hx1 : (x 1).val < 128 := (x 1).isLt
      rw [emb2_0, emb2_1, kW]
      rw [if_neg (show ¬ _ by omega), if_neg (show ¬ _ by omega)]; congr 1 <;> omega
    · intro x
      refine (v11_at c arg7 harg7 x5 x).trans ?_
      have hx0 : (x 0).val < 1024 := (x 0).isLt
      have hx1 : (x 1).val < 512 := (x 1).isLt
      rw [emb2_0, emb2_1, kW]
      rw [if_neg (show ¬ _ by omega), if_pos (show _ by omega)]; congr 1 <;> omega
    · intro x
      refine (v6_at c arg8 harg8 x6 x).trans ?_
      have hx0 : (x 0).val < 1024 := (x 0).isLt
      have hx1 : (x 1).val < 128 := (x 1).isLt
      rw [emb2_0, emb2_1, kW]
      rw [if_pos (show _ by omega)]; congr 1 <;> omega
  · unfold kernelRun1_A.sl.HS0_3
    by_cases c1 : b + (y 1).val < 128
    · refine ⟨_, List.mem_cons_of_mem _ (List.mem_cons_of_mem _ List.mem_cons_self), ?_⟩
      refine mem2 (inb := inb2 1024 768 0 0 (by decide) (by decide)) ?_ ?_
      · rw [e0]; constructor <;> omega
      · rw [e1]; constructor <;> omega
    by_cases c2 : b + (y 1).val < 640
    · refine ⟨_, List.mem_cons_of_mem _ List.mem_cons_self, ?_⟩
      refine mem2 (inb := inb2 1024 768 0 128 (by decide) (by decide)) ?_ ?_
      · rw [e0]; constructor <;> omega
      · rw [e1]; constructor <;> omega
    · refine ⟨_, List.mem_cons_self, ?_⟩
      refine mem2 (inb := inb2 1024 768 0 640 (by decide) (by decide)) ?_ ?_
      · rw [e0]; constructor <;> omega
      · rw [e1]; constructor <;> omega

theorem vlLoad {n m a b : ℕ} (inb) (y : (⟨2, ![n, m]⟩ : Shape).Idx) (h24 : b + m ≤ 1024) :
    arg23.view.readCov (kernelRun1_A.sl.HS1_3 (F := Ideal) c arg10 harg10 arg11 harg11 arg12 harg12 x8 x9 x10) (Rect.unit (s := S768x1152) ![a, b] ![n, m] inb).toLoadRect y = vW x8 x9 x10 (a + (y 0).val) (b + (y 1).val) := by
  have l0 : a + n ≤ S768x1152.size 0 := inb 0
  have l1 : b + m ≤ S768x1152.size 1 := inb 1
  have y0 : (y 0).val < n := (y 0).isLt
  have y1 : (y 1).val < m := (y 1).isLt
  have e0 : ((Rect.unit (s := S768x1152) ![a, b] ![n, m] inb).idx y 0).val = a + (y 0).val := Rect.idx_unit_val (s := S768x1152) ![a, b] ![n, m] inb y 0
  have e1 : ((Rect.unit (s := S768x1152) ![a, b] ![n, m] inb).idx y 1).val = b + (y 1).val := Rect.idx_unit_val (s := S768x1152) ![a, b] ![n, m] inb y 1
  have l0' : a + n ≤ 768 := l0
  have l1' : b + m ≤ 1152 := l1
  refine cov2_bf16 (A := 768) (B := 1152) arg23.view _ (vW x8 x9 x10) ?_ inb y ?_
  · intro q hq
    simp only [kernelRun1_A.sl.HS1_3, List.mem_cons, List.not_mem_nil, or_false] at hq
    rcases hq with rfl | rfl | rfl
    · intro x
      refine (v31_at c arg12 harg12 x10 x).trans ?_
      have hx0 : (x 0).val < 128 := (x 0).isLt
      have hx1 : (x 1).val < 1024 := (x 1).isLt
      rw [emb2_0, emb2_1, vW]
      rw [if_neg (show ¬ _ by omega), if_neg (show ¬ _ by omega)]; congr 1 <;> omega
    · intro x
      refine (v26_at c arg10 harg10 x8 x).trans ?_
      have hx0 : (x 0).val < 512 := (x 0).isLt
      have hx1 : (x 1).val < 1024 := (x 1).isLt
      rw [emb2_0, emb2_1, vW]
      rw [if_neg (show ¬ _ by omega), if_pos (show _ by omega)]; congr 1 <;> omega
    · intro x
      refine (v21_at c arg11 harg11 x9 x).trans ?_
      have hx0 : (x 0).val < 128 := (x 0).isLt
      have hx1 : (x 1).val < 1024 := (x 1).isLt
      rw [emb2_0, emb2_1, vW]
      rw [if_pos (show _ by omega)]; congr 1 <;> omega
  · unfold kernelRun1_A.sl.HS1_3
    by_cases c1 : a + (y 0).val < 128
    · refine ⟨_, List.mem_cons_of_mem _ (List.mem_cons_of_mem _ List.mem_cons_self), ?_⟩
      refine mem2 (inb := inb2 768 1152 0 0 (by decide) (by decide)) ?_ ?_
      · rw [e0]; constructor <;> omega
      · rw [e1]; constructor <;> omega
    by_cases c2 : a + (y 0).val < 640
    · refine ⟨_, List.mem_cons_of_mem _ List.mem_cons_self, ?_⟩
      refine mem2 (inb := inb2 768 1152 128 0 (by decide) (by decide)) ?_ ?_
      · rw [e0]; constructor <;> omega
      · rw [e1]; constructor <;> omega
    · refine ⟨_, List.mem_cons_self, ?_⟩
      refine mem2 (inb := inb2 768 1152 640 0 (by decide) (by decide)) ?_ ?_
      · rw [e0]; constructor <;> omega
      · rw [e1]; constructor <;> omega

theorem vhLoad {n m a b : ℕ} (inb) (y : (⟨2, ![n, m]⟩ : Shape).Idx) (h24 : b + m ≤ 1024) :
    arg24.view.readCov (kernelRun1_A.sl.HS2_3 (F := Ideal) c arg13 harg13 arg14 harg14 arg15 harg15 x11 x12 x13) (Rect.unit (s := S768x1152) ![a, b] ![n, m] inb).toLoadRect y = vW x11 x12 x13 (a + (y 0).val) (b + (y 1).val) := by
  have l0 : a + n ≤ S768x1152.size 0 := inb 0
  have l1 : b + m ≤ S768x1152.size 1 := inb 1
  have y0 : (y 0).val < n := (y 0).isLt
  have y1 : (y 1).val < m := (y 1).isLt
  have e0 : ((Rect.unit (s := S768x1152) ![a, b] ![n, m] inb).idx y 0).val = a + (y 0).val := Rect.idx_unit_val (s := S768x1152) ![a, b] ![n, m] inb y 0
  have e1 : ((Rect.unit (s := S768x1152) ![a, b] ![n, m] inb).idx y 1).val = b + (y 1).val := Rect.idx_unit_val (s := S768x1152) ![a, b] ![n, m] inb y 1
  have l0' : a + n ≤ 768 := l0
  have l1' : b + m ≤ 1152 := l1
  refine cov2_bf16 (A := 768) (B := 1152) arg24.view _ (vW x11 x12 x13) ?_ inb y ?_
  · intro q hq
    simp only [kernelRun1_A.sl.HS2_3, List.mem_cons, List.not_mem_nil, or_false] at hq
    rcases hq with rfl | rfl | rfl
    · intro x
      refine (v46_at c arg15 harg15 x13 x).trans ?_
      have hx0 : (x 0).val < 128 := (x 0).isLt
      have hx1 : (x 1).val < 1024 := (x 1).isLt
      rw [emb2_0, emb2_1, vW]
      rw [if_neg (show ¬ _ by omega), if_neg (show ¬ _ by omega)]; congr 1 <;> omega
    · intro x
      refine (v41_at c arg13 harg13 x11 x).trans ?_
      have hx0 : (x 0).val < 512 := (x 0).isLt
      have hx1 : (x 1).val < 1024 := (x 1).isLt
      rw [emb2_0, emb2_1, vW]
      rw [if_neg (show ¬ _ by omega), if_pos (show _ by omega)]; congr 1 <;> omega
    · intro x
      refine (v36_at c arg14 harg14 x12 x).trans ?_
      have hx0 : (x 0).val < 128 := (x 0).isLt
      have hx1 : (x 1).val < 1024 := (x 1).isLt
      rw [emb2_0, emb2_1, vW]
      rw [if_pos (show _ by omega)]; congr 1 <;> omega
  · unfold kernelRun1_A.sl.HS2_3
    by_cases c1 : a + (y 0).val < 128
    · refine ⟨_, List.mem_cons_of_mem _ (List.mem_cons_of_mem _ List.mem_cons_self), ?_⟩
      refine mem2 (inb := inb2 768 1152 0 0 (by decide) (by decide)) ?_ ?_
      · rw [e0]; constructor <;> omega
      · rw [e1]; constructor <;> omega
    by_cases c2 : a + (y 0).val < 640
    · refine ⟨_, List.mem_cons_of_mem _ List.mem_cons_self, ?_⟩
      refine mem2 (inb := inb2 768 1152 128 0 (by decide) (by decide)) ?_ ?_
      · rw [e0]; constructor <;> omega
      · rw [e1]; constructor <;> omega
    · refine ⟨_, List.mem_cons_self, ?_⟩
      refine mem2 (inb := inb2 768 1152 640 0 (by decide) (by decide)) ?_ ?_
      · rw [e0]; constructor <;> omega
      · rw [e1]; constructor <;> omega

theorem sge_at : ∀ l a : Fin 128, IntOp.cmpi .sge (BitVec.ofNat 32 l.val) (BitVec.ofNat 32 a.val) = 1#1 ↔ a.val ≤ l.val := by decide +kernel

theorem sle_at : ∀ l a : Fin 128, IntOp.cmpi .sle (BitVec.ofNat 32 l.val) (BitVec.ofNat 32 a.val) = 1#1 ↔ l.val ≤ a.val := by decide +kernel

theorem and_at : ∀ x y : BitVec 1, IntOp.andi x y = 1#1 ↔ x = 1#1 ∧ y = 1#1 := by decide

theorem not_first : ∀ t : Fin 4, Scalar.xori (Scalar.cmpi .eq (BitVec.ofNat 32 t.val) 0#32) 1#1 = 1#1 ↔ t.val ≠ 0 := by decide

theorem not_last : ∀ t : Fin 4, Scalar.xori (Scalar.cmpi .eq (BitVec.ofNat 32 t.val) 3#32) 1#1 = 1#1 ↔ t.val ≠ 3 := by decide

theorem msk0_at (q : ℕ) (a l : Fin 128) : msk0 i q (ix2 a l) = 1#1 ↔ (a.val ≤ l.val ∧ (i 1).val * 512 + q * 128 ≠ 0) := by
  match q with
  | 0 =>
    have e : msk0 i 0 (ix2 a l) = IntOp.andi (IntOp.cmpi .sge (BitVec.ofNat 32 l.val) (BitVec.ofNat 32 a.val)) (Scalar.xori (Scalar.cmpi .eq (BitVec.ofNat 32 (i 1).val) 0#32) 1#1) := by
      pointwise [msk0, colT, rowT]
    rw [e, and_at, sge_at, not_first (i 1)]
    constructor <;> rintro ⟨p, q⟩ <;> exact ⟨p, by omega⟩
  | k + 1 =>
    have e : msk0 i (k + 1) (ix2 a l) = IntOp.cmpi .sge (BitVec.ofNat 32 l.val) (BitVec.ofNat 32 a.val) := by
      show (cmpi .sge colT rowT) (ix2 a l) = _
      pointwise [colT, rowT]
    rw [e, sge_at]
    exact ⟨fun p => ⟨p, by omega⟩, fun p => p.1⟩

theorem msk2_at (q : ℕ) (hq : q < 4) (a l : Fin 128) : msk2 i q (ix2 a l) = 1#1 ↔ (l.val ≤ a.val ∧ (i 1).val * 512 + q * 128 + 128 ≠ 2048) := by
  have hi : (i 1).val < 4 := (i 1).isLt
  by_cases h : q = 3
  · subst h
    have e : msk2 i 3 (ix2 a l) = IntOp.andi (IntOp.cmpi .sle (BitVec.ofNat 32 l.val) (BitVec.ofNat 32 a.val)) (Scalar.xori (Scalar.cmpi .eq (BitVec.ofNat 32 (i 1).val) 3#32) 1#1) := by
      pointwise [msk2, colT, rowT]
    rw [e, and_at, sle_at, not_last (i 1)]
    constructor <;> rintro ⟨p, q⟩ <;> exact ⟨p, by omega⟩
  · have e : msk2 i q (ix2 a l) = IntOp.cmpi .sle (BitVec.ofNat 32 l.val) (BitVec.ofNat 32 a.val) := by
      have : msk2 i q = cmpi .sle colT rowT := by unfold msk2; split; exact absurd rfl h; rfl
      rw [this]
      pointwise [colT, rowT]
    rw [e, sle_at]
    exact ⟨fun p => ⟨p, by omega⟩, fun p => p.1⟩

end

end Cert.KernelIdeal.Val

end
-- ==== Proof.Tile.lean ====
module

public import proofs.«01_k».proof.Proof.Mixer
public import proofs.«01_k».proof.Proof.Spec

@[expose] public section

set_option maxRecDepth 16384

noncomputable section

namespace Cert.KernelIdeal.Val

open Idealize.ShloMosaic Idealize.ShloMosaic.TcCoe Idealize.SL.Sem Layer Facts₀ Facts Gen

/-! ### One step of the second pass, over what its blocks hold -/

/-- What a step's blocks hold: `T` is the step's tile of 512 positions, the neighbours start at `Bp` and `Bn`. -/
structure Blocks (T : ℕ) (Q AG : ℕ → ℕ → EReal) (KT VL VH : ℕ → ℕ → EReal) (SK : ℕ → EReal)
    (x2 : Vec Ideal S1x512x1024 .bf16) (x3 : Vec Ideal S1x512x1024 .bf16) (x5 : Vec Ideal S1x1024x512 .bf16) (x6 : Vec Ideal S1x1024x128 .bf16) (x7 : Vec Ideal S1x1024x128 .bf16)
    (x8 : Vec Ideal S1x512x1024 .bf16) (x9 : Vec Ideal S1x128x1024 .bf16) (x10 : Vec Ideal S1x128x1024 .bf16) (x11 : Vec Ideal S1x512x1024 .bf16) (x12 : Vec Ideal S1x128x1024 .bf16)
    (x13 : Vec Ideal S1x128x1024 .bf16) (x15 : Vec Ideal S16x128 .f32) where
  Bp : ℕ
  Bn : ℕ
  hT : T < 4
  hBp : Bp + 128 ≤ 2048
  hBn : Bn + 128 ≤ 2048
  eBp : T ≠ 0 → Bp + 128 = T * 512
  eBn : T ≠ 3 → Bn = T * 512 + 512
  h2 : ∀ p l, p < 512 → l < 1024 → rd3 (n0 := 1) (n1 := 512) (n2 := 1024) x2 0 p l = Q (T * 512 + p) l
  h3 : ∀ p l, p < 512 → l < 1024 → rd3 (n0 := 1) (n1 := 512) (n2 := 1024) x3 0 p l = AG (T * 512 + p) l
  h5 : ∀ r n, r < 1024 → n < 512 → rd3 (n0 := 1) (n1 := 1024) (n2 := 512) x5 0 r n = KT r (T * 512 + n)
  h6 : ∀ r n, r < 1024 → n < 128 → rd3 (n0 := 1) (n1 := 1024) (n2 := 128) x6 0 r n = KT r (Bp + n)
  h7 : ∀ r n, r < 1024 → n < 128 → rd3 (n0 := 1) (n1 := 1024) (n2 := 128) x7 0 r n = KT r (Bn + n)
  h8 : ∀ n l, n < 512 → l < 1024 → rd3 (n0 := 1) (n1 := 512) (n2 := 1024) x8 0 n l = VL (T * 512 + n) l
  h9 : ∀ n l, n < 128 → l < 1024 → rd3 (n0 := 1) (n1 := 128) (n2 := 1024) x9 0 n l = VL (Bp + n) l
  h10 : ∀ n l, n < 128 → l < 1024 → rd3 (n0 := 1) (n1 := 128) (n2 := 1024) x10 0 n l = VL (Bn + n) l
  h11 : ∀ n l, n < 512 → l < 1024 → rd3 (n0 := 1) (n1 := 512) (n2 := 1024) x11 0 n l = VH (T * 512 + n) l
  h12 : ∀ n l, n < 128 → l < 1024 → rd3 (n0 := 1) (n1 := 128) (n2 := 1024) x12 0 n l = VH (Bp + n) l
  h13 : ∀ n l, n < 128 → l < 1024 → rd3 (n0 := 1) (n1 := 128) (n2 := 1024) x13 0 n l = VH (Bn + n) l
  h15 : ∀ hd l, hd < 16 → l < 128 → rd2 (n0 := 16) (n1 := 128) x15 hd l = SK hd

/-- What the arrays between the passes hold: scores as lane products, values in their half lanes next to ones. -/
structure Arrays (Q : ℕ → ℕ → EReal) (KT VL VH : ℕ → ℕ → EReal) (SC : ℕ → ℕ → ℕ → EReal) (VV : ℕ → ℕ → ℕ → EReal) : Prop where
  sc0 : ∀ h r t s, h < 4 → r < 2 → t < 2048 → s < 2048 → ∑ j : Fin 128, Q t ((2 * h + r) * 128 + j.val) * KT (h * 256 + j.val) s = (kap : EReal) * SC t (4 * h + 2 * r) s
  sc1 : ∀ h r t s, h < 4 → r < 2 → t < 2048 → s < 2048 → ∑ j : Fin 128, Q t ((2 * h + r) * 128 + j.val) * KT (h * 256 + 128 + j.val) s = (kap : EReal) * SC t (4 * h + 2 * r + 1) s
  vl0 : ∀ h s l, h < 4 → s < 2048 → l < 64 → VL s (h * 256 + l) = VV s h l
  vl1 : ∀ h s l, h < 4 → s < 2048 → l < 128 → ¬ l < 64 → VL s (h * 256 + l) = 0
  vl2 : ∀ h s l, h < 4 → s < 2048 → l < 128 → VL s (h * 256 + 128 + l) = if l < 64 then 1 else 0
  vh0 : ∀ h s l, h < 4 → s < 2048 → l < 64 → VH s (h * 256 + l) = 0
  vh1 : ∀ h s l, h < 4 → s < 2048 → l < 128 → ¬ l < 64 → VH s (h * 256 + l) = VV s h (l - 64)
  vh2 : ∀ h s l, h < 4 → s < 2048 → l < 128 → VH s (h * 256 + 128 + l) = if l < 64 then 0 else 1

/-- A lane of the gated attention. -/
def abT (AG : ℕ → ℕ → EReal) (SC : ℕ → ℕ → ℕ → EReal) (VV : ℕ → ℕ → ℕ → EReal) (SK : ℕ → EReal) (t c : ℕ) : EReal :=
  attRow 2048 t (SC t (c / 64)) (SK (c / 64)) (fun s => VV s (c / 64 / 4) (c % 64)) * AG t c

section
variable (c : Dev nD) (i : grid1.Coords)
  (arg2 : Memref sig .tc .vmem S1x512x1024 .f32) (harg2 : arg2.IsWhole)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x2048 .bf16) (harg6 : arg6.IsWhole)
  (arg7 : Memref sig .tc .vmem S1x1024x512 .bf16) (harg7 : arg7.IsWhole)
  (arg8 : Memref sig .tc .vmem S1x1024x128 .bf16) (harg8 : arg8.IsWhole)
  (arg9 : Memref sig .tc .vmem S1x1024x128 .bf16) (harg9 : arg9.IsWhole)
  (arg10 : Memref sig .tc .vmem S1x512x1024 .bf16) (harg10 : arg10.IsWhole)
  (arg11 : Memref sig .tc .vmem S1x128x1024 .bf16) (harg11 : arg11.IsWhole)
  (arg12 : Memref sig .tc .vmem S1x128x1024 .bf16) (harg12 : arg12.IsWhole)
  (arg13 : Memref sig .tc .vmem S1x512x1024 .bf16) (harg13 : arg13.IsWhole)
  (arg14 : Memref sig .tc .vmem S1x128x1024 .bf16) (harg14 : arg14.IsWhole)
  (arg15 : Memref sig .tc .vmem S1x128x1024 .bf16) (harg15 : arg15.IsWhole)
  (arg16 : Memref sig .tc .vmem S1024x1024 .bf16) (harg16 : arg16.IsWhole)
  (arg17 : Memref sig .tc .vmem S16x128 .f32) (harg17 : arg17.IsWhole)
  (arg18 : Memref sig .tc .vmem S1024x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1x512x1024 .f32) (harg21 : arg21.IsWhole)
  (arg22 : Memref sig .tc .vmem S1024x768 .bf16) (harg22 : arg22.IsWhole)
  (arg23 : Memref sig .tc .vmem S768x1152 .bf16) (harg23 : arg23.IsWhole)
  (arg24 : Memref sig .tc .vmem S768x1152 .bf16) (harg24 : arg24.IsWhole)
  (arg25 : Memref sig .tc .vmem S512x1152 .bf16) (harg25 : arg25.IsWhole)
  (arg26 : Memref sig .tc .vmem S512x1152 .f32) (harg26 : arg26.IsWhole)
  (x0 : Vec Ideal S1x512x1024 .f32) (x1 : Vec Ideal S1x512x1024 .bf16) (x2 : Vec Ideal S1x512x1024 .bf16) (x3 : Vec Ideal S1x512x1024 .bf16) (x4 : Vec Ideal S1x512x2048 .bf16) (x5 : Vec Ideal S1x1024x512 .bf16) (x6 : Vec Ideal S1x1024x128 .bf16) (x7 : Vec Ideal S1x1024x128 .bf16) (x8 : Vec Ideal S1x512x1024 .bf16) (x9 : Vec Ideal S1x128x1024 .bf16) (x10 : Vec Ideal S1x128x1024 .bf16) (x11 : Vec Ideal S1x512x1024 .bf16) (x12 : Vec Ideal S1x128x1024 .bf16) (x13 : Vec Ideal S1x128x1024 .bf16) (x14 : Vec Ideal S1024x1024 .bf16) (x15 : Vec Ideal S16x128 .f32) (x16 : Vec Ideal S1024x1024 .bf16) (x17 : Vec Ideal S1024x1024 .bf16) (x18 : Vec Ideal S1x1024 .f32)
variable {Q AG KT VL VH : ℕ → ℕ → EReal} {SK : ℕ → EReal} {SC VV : ℕ → ℕ → ℕ → EReal} (H : Blocks (i 1).val Q AG KT VL VH SK x2 x3 x5 x6 x7 x8 x9 x10 x11 x12 x13 x15) (R : Arrays Q KT VL VH SC VV)

include H

theorem kW_val (r n : ℕ) (hr : r < 1024) (hn : n < 768) (p : 128 ≤ (i 1).val * 512 + n) (q : (i 1).val * 512 + n - 128 < 2048) :
    kW x5 x6 x7 r n = KT r ((i 1).val * 512 + n - 128) := by
  have hT := H.hT
  unfold kW
  split
  · rw [H.h6 r n hr (by omega)]; have := H.eBp (by omega); congr 1; omega
  split
  · rw [H.h5 r _ hr (by omega)]; congr 1; omega
  · rw [H.h7 r _ hr (by omega)]; have := H.eBn (by omega); congr 1; omega

/-- The position a window row holds. -/
def posW (T Bp Bn n : ℕ) : ℕ := if n < 128 then Bp + n else if n < 640 then T * 512 + (n - 128) else Bn + (n - 640)

theorem posW_lt (n : ℕ) (hn : n < 768) : posW (i 1).val H.Bp H.Bn n < 2048 := by
  have := H.hT; have := H.hBp; have := H.hBn
  unfold posW; split
  · omega
  split <;> omega

theorem posW_in (n : ℕ) (hn : n < 768) (p : 128 ≤ (i 1).val * 512 + n) (q : (i 1).val * 512 + n - 128 < 2048) : posW (i 1).val H.Bp H.Bn n = (i 1).val * 512 + n - 128 := by
  have hT := H.hT
  unfold posW
  split
  · have := H.eBp (by omega); omega
  split
  · omega
  · have := H.eBn (by omega); omega

theorem vlW_val (n l : ℕ) (hn : n < 768) (hl : l < 1024) : vW x8 x9 x10 n l = VL (posW (i 1).val H.Bp H.Bn n) l := by
  unfold vW posW
  split
  · exact H.h9 n l (by omega) hl
  split
  · exact H.h8 _ l (by omega) hl
  · exact H.h10 _ l (by omega) hl

theorem vhW_val (n l : ℕ) (hn : n < 768) (hl : l < 1024) : vW x11 x12 x13 n l = VH (posW (i 1).val H.Bp H.Bn n) l := by
  unfold vW posW
  split
  · exact H.h12 n l (by omega) hl
  split
  · exact H.h11 _ l (by omega) hl
  · exact H.h13 _ l (by omega) hl

include R

theorem pc0_val (q h : ℕ) (hq : q < 4) (hh : h < 4) (x : S128x128.Idx) :
    (pc0 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).2 x = abT AG SC VV SK ((i 1).val * 512 + (q * 128 + (x 0).val)) ((2 * h + 0) * 128 + (x 1).val) := by
  obtain ⟨a, l, rfl⟩ : ∃ a b, x = ix2 a b := ⟨_, _, eq_ix2 x⟩
  have hT := H.hT
  have ha := a.isLt
  have hl := l.isLt
  have hvl : ∀ (n : Fin 384) (m : Fin 256), ((arg23.view.readCov (kernelRun1_A.sl.HS1_3 (F := Ideal) c arg10 harg10 arg11 harg11 arg12 harg12 x8 x9 x10) (Rect.unit (s := S768x1152) ![q * 128, h * 256] S384x256.size (inb2 768 1152 _ _ (by omega) (by omega))).toLoadRect) (ix2 n m) : EReal) = VL (posW (i 1).val H.Bp H.Bn (q * 128 + n.val)) (h * 256 + m.val) := by
    intro n m
    have hn := n.isLt
    have hm := m.isLt
    exact (vlLoad c arg10 harg10 arg11 harg11 arg12 harg12 arg23 x8 x9 x10 (n := 384) (m := 256) (a := q * 128) (b := h * 256) (inb2 768 1152 _ _ (by omega) (by omega)) (ix2 n m) (by omega)).trans (vlW_val i x2 x3 x5 x6 x7 x8 x9 x10 x11 x12 x13 x15 H (q * 128 + n.val) (h * 256 + m.val) (by omega) (by omega))
  have hvh : ∀ (n : Fin 384) (m : Fin 256), ((arg24.view.readCov (kernelRun1_A.sl.HS2_3 (F := Ideal) c arg13 harg13 arg14 harg14 arg15 harg15 x11 x12 x13) (Rect.unit (s := S768x1152) ![q * 128, h * 256] S384x256.size (inb2 768 1152 _ _ (by omega) (by omega))).toLoadRect) (ix2 n m) : EReal) = VH (posW (i 1).val H.Bp H.Bn (q * 128 + n.val)) (h * 256 + m.val) := by
    intro n m
    have hn := n.isLt
    have hm := m.isLt
    exact (vhLoad c arg13 harg13 arg14 harg14 arg15 harg15 arg24 x11 x12 x13 (n := 384) (m := 256) (a := q * 128) (b := h * 256) (inb2 768 1152 _ _ (by omega) (by omega)) (ix2 n m) (by omega)).trans (vhW_val i x2 x3 x5 x6 x7 x8 x9 x10 x11 x12 x13 x15 H (q * 128 + n.val) (h * 256 + m.val) (by omega) (by omega))
  refine (item0_val _ _ _ _ _ _ _ _ _ _ _ _ _ (fun n => a.val ≤ n ∧ (i 1).val * 512 + q * 128 ≠ 0) (fun n => n - 256 ≤ a.val ∧ (i 1).val * 512 + q * 128 + 128 ≠ 2048) a
    (fun l => msk0_at i q a l) (fun l => (msk2_at i q hq a l).trans (by rw [Nat.add_sub_cancel_left]))
    ((i 1).val * 512 + q * 128) 2048 (by omega) (by omega) (by decide) (fun n _ => Iff.rfl) (fun n _ _ => Iff.rfl)
    (fun s l => VV s h l) (fun s l => VV s h (l - 64))
    ?_ ?_ ?_ ?_ ?_ ?_ (fun k => SK (4 * h + k)) (fun l => (load2_f32 (A := 16) (B := 128) arg17 harg17 x15 _ (ix2 0 l)).trans (H.h15 (4 * h + 0 + 0) (0 + l.val) (by omega) (by have := l.isLt; omega))) (fun l => (load2_f32 (A := 16) (B := 128) arg17 harg17 x15 _ (ix2 0 l)).trans (H.h15 (4 * h + 1 + 0) (0 + l.val) (by omega) (by have := l.isLt; omega))) (fun k => SC ((i 1).val * 512 + q * 128 + a.val) (4 * h + k))
    (fun n p q' => by
      refine (Finset.sum_congr rfl fun j _ => ?_).trans (R.sc0 h 0 ((i 1).val * 512 + q * 128 + a.val) ((i 1).val * 512 + q * 128 + n.val - 128) hh (by decide) (by omega) q')
      have hj := j.isLt
      have hn := n.isLt
      have e1 : (View.readAt (Elt Ideal) arg4.view (Rect.unit (s := S1x512x1024) ![0, q * 128, (2 * h + 0) * 128] S1x128x128.size (inb3 1 512 1024 _ _ _ (by decide) (by omega) (by omega))).toLoadRect (harg4.unread x2)) (ix3 0 a j)
          = Q ((i 1).val * 512 + q * 128 + a.val) ((2 * h + 0) * 128 + j.val) :=
        (load3_bf16 (A := 1) (B := 512) (C := 1024) arg4 harg4 x2 _ (ix3 0 a j)).trans ((H.h2 (q * 128 + a.val) ((2 * h + 0) * 128 + j.val) (by omega) (by omega)).trans (by rw [Nat.add_assoc]))
      have e2 : (arg22.view.readCov (kernelRun1_A.sl.HS0_3 (F := Ideal) c arg7 harg7 arg8 harg8 arg9 harg9 x5 x6 x7) (Rect.unit (s := S1024x768) ![h * 256, q * 128] S128x384.size (inb2 1024 768 _ _ (by omega) (by omega))).toLoadRect) (ix2 j n)
          = KT (h * 256 + j.val) ((i 1).val * 512 + q * 128 + n.val - 128) :=
        (kLoad c arg7 harg7 arg8 harg8 arg9 harg9 arg22 x5 x6 x7 _ (ix2 j n)).trans ((kW_val i x2 x3 x5 x6 x7 x8 x9 x10 x11 x12 x13 x15 H (h * 256 + j.val) (q * 128 + n.val) (by omega) (by omega) (by omega) (by omega)).trans (by congr 1; omega))
      rw [e1, e2])
    (fun n p q' => by
      refine (Finset.sum_congr rfl fun j _ => ?_).trans (R.sc1 h 0 ((i 1).val * 512 + q * 128 + a.val) ((i 1).val * 512 + q * 128 + n.val - 128) hh (by decide) (by omega) q')
      have hj := j.isLt
      have hn := n.isLt
      have e1 : (View.readAt (Elt Ideal) arg4.view (Rect.unit (s := S1x512x1024) ![0, q * 128, (2 * h + 0) * 128] S1x128x128.size (inb3 1 512 1024 _ _ _ (by decide) (by omega) (by omega))).toLoadRect (harg4.unread x2)) (ix3 0 a j)
          = Q ((i 1).val * 512 + q * 128 + a.val) ((2 * h + 0) * 128 + j.val) :=
        (load3_bf16 (A := 1) (B := 512) (C := 1024) arg4 harg4 x2 _ (ix3 0 a j)).trans ((H.h2 (q * 128 + a.val) ((2 * h + 0) * 128 + j.val) (by omega) (by omega)).trans (by rw [Nat.add_assoc]))
      have e2 : (arg22.view.readCov (kernelRun1_A.sl.HS0_3 (F := Ideal) c arg7 harg7 arg8 harg8 arg9 harg9 x5 x6 x7) (Rect.unit (s := S1024x768) ![h * 256 + 128, q * 128] S128x384.size (inb2 1024 768 _ _ (by omega) (by omega))).toLoadRect) (ix2 j n)
          = KT (h * 256 + 128 + j.val) ((i 1).val * 512 + q * 128 + n.val - 128) :=
        (kLoad c arg7 harg7 arg8 harg8 arg9 harg9 arg22 x5 x6 x7 _ (ix2 j n)).trans ((kW_val i x2 x3 x5 x6 x7 x8 x9 x10 x11 x12 x13 x15 H (h * 256 + 128 + j.val) (q * 128 + n.val) (by omega) (by omega) (by omega) (by omega)).trans (by congr 1; omega))
      rw [e1, e2]) l).trans ?_
  · intro n l hl p q'
    refine (hvl n ⟨l.val, by omega⟩).trans ?_
    exact (R.vl0 h _ l.val hh (posW_lt i x2 x3 x5 x6 x7 x8 x9 x10 x11 x12 x13 x15 H _ (by have := n.isLt; omega)) hl).trans (by rw [posW_in i x2 x3 x5 x6 x7 x8 x9 x10 x11 x12 x13 x15 H _ (by have := n.isLt; omega) (by omega) (by omega)]; congr 1; omega)
  · intro n l hl
    refine (hvl n ⟨l.val, by omega⟩).trans ?_
    exact R.vl1 h _ l.val hh (posW_lt i x2 x3 x5 x6 x7 x8 x9 x10 x11 x12 x13 x15 H _ (by have := n.isLt; omega)) l.isLt hl
  · intro n l hl
    refine (hvh n ⟨l.val, by omega⟩).trans ?_
    exact R.vh0 h _ l.val hh (posW_lt i x2 x3 x5 x6 x7 x8 x9 x10 x11 x12 x13 x15 H _ (by have := n.isLt; omega)) hl
  · intro n l hl p q'
    refine (hvh n ⟨l.val, by omega⟩).trans ?_
    exact (R.vh1 h _ l.val hh (posW_lt i x2 x3 x5 x6 x7 x8 x9 x10 x11 x12 x13 x15 H _ (by have := n.isLt; omega)) l.isLt hl).trans (by rw [posW_in i x2 x3 x5 x6 x7 x8 x9 x10 x11 x12 x13 x15 H _ (by have := n.isLt; omega) (by omega) (by omega)]; congr 1; omega)
  · intro n l
    refine (hvl n ⟨128 + l.val, by omega⟩).trans ?_
    exact (congrArg _ (Nat.add_assoc _ _ _).symm).trans (R.vl2 h _ l.val hh (posW_lt i x2 x3 x5 x6 x7 x8 x9 x10 x11 x12 x13 x15 H _ (by have := n.isLt; omega)) l.isLt)
  · intro n l
    refine (hvh n ⟨128 + l.val, by omega⟩).trans ?_
    exact (congrArg _ (Nat.add_assoc _ _ _).symm).trans (R.vh2 h _ l.val hh (posW_lt i x2 x3 x5 x6 x7 x8 x9 x10 x11 x12 x13 x15 H _ (by have := n.isLt; omega)) l.isLt)
  · unfold abT
    congr 1
    · show (if l.val < 64 then _ else _) = attRow 2048 ((i 1).val * 512 + (q * 128 + a.val)) (SC ((i 1).val * 512 + (q * 128 + a.val)) (((2 * h + 0) * 128 + l.val) / 64)) (SK (((2 * h + 0) * 128 + l.val) / 64)) (fun s => VV s (((2 * h + 0) * 128 + l.val) / 64 / 4) (((2 * h + 0) * 128 + l.val) % 64))
      rw [← Nat.add_assoc]
      split
      · rw [show ((2 * h + 0) * 128 + l.val) / 64 = 4 * h + 0 by omega, show (4 * h + 0) / 4 = h by omega, show ((2 * h + 0) * 128 + l.val) % 64 = l.val by omega]
      · rw [show ((2 * h + 0) * 128 + l.val) / 64 = 4 * h + 1 by omega, show (4 * h + 1) / 4 = h by omega, show ((2 * h + 0) * 128 + l.val) % 64 = l.val - 64 by omega]
    · exact (load3_bf16 (A := 1) (B := 512) (C := 1024) arg5 harg5 x3 _ (ix3 0 a l)).trans (H.h3 (q * 128 + a.val) ((2 * h + 0) * 128 + l.val) (by omega) (by omega))

theorem pc1_val (q h : ℕ) (hq : q < 4) (hh : h < 4) (x : S128x128.Idx) :
    (pc1 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).2 x = abT AG SC VV SK ((i 1).val * 512 + (q * 128 + (x 0).val)) ((2 * h + 1) * 128 + (x 1).val) := by
  obtain ⟨a, l, rfl⟩ : ∃ a b, x = ix2 a b := ⟨_, _, eq_ix2 x⟩
  have hT := H.hT
  have ha := a.isLt
  have hl := l.isLt
  have hvl : ∀ (n : Fin 384) (m : Fin 256), ((arg23.view.readCov (kernelRun1_A.sl.HS1_3 (F := Ideal) c arg10 harg10 arg11 harg11 arg12 harg12 x8 x9 x10) (Rect.unit (s := S768x1152) ![q * 128, h * 256] S384x256.size (inb2 768 1152 _ _ (by omega) (by omega))).toLoadRect) (ix2 n m) : EReal) = VL (posW (i 1).val H.Bp H.Bn (q * 128 + n.val)) (h * 256 + m.val) := by
    intro n m
    have hn := n.isLt
    have hm := m.isLt
    exact (vlLoad c arg10 harg10 arg11 harg11 arg12 harg12 arg23 x8 x9 x10 (n := 384) (m := 256) (a := q * 128) (b := h * 256) (inb2 768 1152 _ _ (by omega) (by omega)) (ix2 n m) (by omega)).trans (vlW_val i x2 x3 x5 x6 x7 x8 x9 x10 x11 x12 x13 x15 H (q * 128 + n.val) (h * 256 + m.val) (by omega) (by omega))
  have hvh : ∀ (n : Fin 384) (m : Fin 256), ((arg24.view.readCov (kernelRun1_A.sl.HS2_3 (F := Ideal) c arg13 harg13 arg14 harg14 arg15 harg15 x11 x12 x13) (Rect.unit (s := S768x1152) ![q * 128, h * 256] S384x256.size (inb2 768 1152 _ _ (by omega) (by omega))).toLoadRect) (ix2 n m) : EReal) = VH (posW (i 1).val H.Bp H.Bn (q * 128 + n.val)) (h * 256 + m.val) := by
    intro n m
    have hn := n.isLt
    have hm := m.isLt
    exact (vhLoad c arg13 harg13 arg14 harg14 arg15 harg15 arg24 x11 x12 x13 (n := 384) (m := 256) (a := q * 128) (b := h * 256) (inb2 768 1152 _ _ (by omega) (by omega)) (ix2 n m) (by omega)).trans (vhW_val i x2 x3 x5 x6 x7 x8 x9 x10 x11 x12 x13 x15 H (q * 128 + n.val) (h * 256 + m.val) (by omega) (by omega))
  refine (item1_val _ _ _ _ _ _ _ _ _ _ _ _ _ (fun n => a.val ≤ n ∧ (i 1).val * 512 + q * 128 ≠ 0) (fun n => n - 256 ≤ a.val ∧ (i 1).val * 512 + q * 128 + 128 ≠ 2048) a
    (fun l => msk0_at i q a l) (fun l => (msk2_at i q hq a l).trans (by rw [Nat.add_sub_cancel_left]))
    ((i 1).val * 512 + q * 128) 2048 (by omega) (by omega) (by decide) (fun n _ => Iff.rfl) (fun n _ _ => Iff.rfl)
    (fun s l => VV s h l) (fun s l => VV s h (l - 64))
    ?_ ?_ ?_ ?_ ?_ ?_ (fun k => SK (4 * h + k)) (fun l => (load2_f32 (A := 16) (B := 128) arg17 harg17 x15 _ (ix2 0 l)).trans (H.h15 (4 * h + 2 + 0) (0 + l.val) (by omega) (by have := l.isLt; omega))) (fun l => (load2_f32 (A := 16) (B := 128) arg17 harg17 x15 _ (ix2 0 l)).trans (H.h15 (4 * h + 3 + 0) (0 + l.val) (by omega) (by have := l.isLt; omega))) (fun k => SC ((i 1).val * 512 + q * 128 + a.val) (4 * h + k))
    (fun n p q' => by
      refine (Finset.sum_congr rfl fun j _ => ?_).trans (R.sc0 h 1 ((i 1).val * 512 + q * 128 + a.val) ((i 1).val * 512 + q * 128 + n.val - 128) hh (by decide) (by omega) q')
      have hj := j.isLt
      have hn := n.isLt
      have e1 : (View.readAt (Elt Ideal) arg4.view (Rect.unit (s := S1x512x1024) ![0, q * 128, (2 * h + 1) * 128] S1x128x128.size (inb3 1 512 1024 _ _ _ (by decide) (by omega) (by omega))).toLoadRect (harg4.unread x2)) (ix3 0 a j)
          = Q ((i 1).val * 512 + q * 128 + a.val) ((2 * h + 1) * 128 + j.val) :=
        (load3_bf16 (A := 1) (B := 512) (C := 1024) arg4 harg4 x2 _ (ix3 0 a j)).trans ((H.h2 (q * 128 + a.val) ((2 * h + 1) * 128 + j.val) (by omega) (by omega)).trans (by rw [Nat.add_assoc]))
      have e2 : (arg22.view.readCov (kernelRun1_A.sl.HS0_3 (F := Ideal) c arg7 harg7 arg8 harg8 arg9 harg9 x5 x6 x7) (Rect.unit (s := S1024x768) ![h * 256, q * 128] S128x384.size (inb2 1024 768 _ _ (by omega) (by omega))).toLoadRect) (ix2 j n)
          = KT (h * 256 + j.val) ((i 1).val * 512 + q * 128 + n.val - 128) :=
        (kLoad c arg7 harg7 arg8 harg8 arg9 harg9 arg22 x5 x6 x7 _ (ix2 j n)).trans ((kW_val i x2 x3 x5 x6 x7 x8 x9 x10 x11 x12 x13 x15 H (h * 256 + j.val) (q * 128 + n.val) (by omega) (by omega) (by omega) (by omega)).trans (by congr 1; omega))
      rw [e1, e2])
    (fun n p q' => by
      refine (Finset.sum_congr rfl fun j _ => ?_).trans (R.sc1 h 1 ((i 1).val * 512 + q * 128 + a.val) ((i 1).val * 512 + q * 128 + n.val - 128) hh (by decide) (by omega) q')
      have hj := j.isLt
      have hn := n.isLt
      have e1 : (View.readAt (Elt Ideal) arg4.view (Rect.unit (s := S1x512x1024) ![0, q * 128, (2 * h + 1) * 128] S1x128x128.size (inb3 1 512 1024 _ _ _ (by decide) (by omega) (by omega))).toLoadRect (harg4.unread x2)) (ix3 0 a j)
          = Q ((i 1).val * 512 + q * 128 + a.val) ((2 * h + 1) * 128 + j.val) :=
        (load3_bf16 (A := 1) (B := 512) (C := 1024) arg4 harg4 x2 _ (ix3 0 a j)).trans ((H.h2 (q * 128 + a.val) ((2 * h + 1) * 128 + j.val) (by omega) (by omega)).trans (by rw [Nat.add_assoc]))
      have e2 : (arg22.view.readCov (kernelRun1_A.sl.HS0_3 (F := Ideal) c arg7 harg7 arg8 harg8 arg9 harg9 x5 x6 x7) (Rect.unit (s := S1024x768) ![h * 256 + 128, q * 128] S128x384.size (inb2 1024 768 _ _ (by omega) (by omega))).toLoadRect) (ix2 j n)
          = KT (h * 256 + 128 + j.val) ((i 1).val * 512 + q * 128 + n.val - 128) :=
        (kLoad c arg7 harg7 arg8 harg8 arg9 harg9 arg22 x5 x6 x7 _ (ix2 j n)).trans ((kW_val i x2 x3 x5 x6 x7 x8 x9 x10 x11 x12 x13 x15 H (h * 256 + 128 + j.val) (q * 128 + n.val) (by omega) (by omega) (by omega) (by omega)).trans (by congr 1; omega))
      rw [e1, e2]) l).trans ?_
  · intro n l hl p q'
    refine (hvl n ⟨l.val, by omega⟩).trans ?_
    exact (R.vl0 h _ l.val hh (posW_lt i x2 x3 x5 x6 x7 x8 x9 x10 x11 x12 x13 x15 H _ (by have := n.isLt; omega)) hl).trans (by rw [posW_in i x2 x3 x5 x6 x7 x8 x9 x10 x11 x12 x13 x15 H _ (by have := n.isLt; omega) (by omega) (by omega)]; congr 1; omega)
  · intro n l hl
    refine (hvl n ⟨l.val, by omega⟩).trans ?_
    exact R.vl1 h _ l.val hh (posW_lt i x2 x3 x5 x6 x7 x8 x9 x10 x11 x12 x13 x15 H _ (by have := n.isLt; omega)) l.isLt hl
  · intro n l hl
    refine (hvh n ⟨l.val, by omega⟩).trans ?_
    exact R.vh0 h _ l.val hh (posW_lt i x2 x3 x5 x6 x7 x8 x9 x10 x11 x12 x13 x15 H _ (by have := n.isLt; omega)) hl
  · intro n l hl p q'
    refine (hvh n ⟨l.val, by omega⟩).trans ?_
    exact (R.vh1 h _ l.val hh (posW_lt i x2 x3 x5 x6 x7 x8 x9 x10 x11 x12 x13 x15 H _ (by have := n.isLt; omega)) l.isLt hl).trans (by rw [posW_in i x2 x3 x5 x6 x7 x8 x9 x10 x11 x12 x13 x15 H _ (by have := n.isLt; omega) (by omega) (by omega)]; congr 1; omega)
  · intro n l
    refine (hvl n ⟨128 + l.val, by omega⟩).trans ?_
    exact (congrArg _ (Nat.add_assoc _ _ _).symm).trans (R.vl2 h _ l.val hh (posW_lt i x2 x3 x5 x6 x7 x8 x9 x10 x11 x12 x13 x15 H _ (by have := n.isLt; omega)) l.isLt)
  · intro n l
    refine (hvh n ⟨128 + l.val, by omega⟩).trans ?_
    exact (congrArg _ (Nat.add_assoc _ _ _).symm).trans (R.vh2 h _ l.val hh (posW_lt i x2 x3 x5 x6 x7 x8 x9 x10 x11 x12 x13 x15 H _ (by have := n.isLt; omega)) l.isLt)
  · unfold abT
    congr 1
    · show (if l.val < 64 then _ else _) = attRow 2048 ((i 1).val * 512 + (q * 128 + a.val)) (SC ((i 1).val * 512 + (q * 128 + a.val)) (((2 * h + 1) * 128 + l.val) / 64)) (SK (((2 * h + 1) * 128 + l.val) / 64)) (fun s => VV s (((2 * h + 1) * 128 + l.val) / 64 / 4) (((2 * h + 1) * 128 + l.val) % 64))
      rw [← Nat.add_assoc]
      split
      · rw [show ((2 * h + 1) * 128 + l.val) / 64 = 4 * h + 2 by omega, show (4 * h + 2) / 4 = h by omega, show ((2 * h + 1) * 128 + l.val) % 64 = l.val by omega]
      · rw [show ((2 * h + 1) * 128 + l.val) / 64 = 4 * h + 3 by omega, show (4 * h + 3) / 4 = h by omega, show ((2 * h + 1) * 128 + l.val) % 64 = l.val - 64 by omega]
    · exact (load3_bf16 (A := 1) (B := 512) (C := 1024) arg5 harg5 x3 _ (ix3 0 a l)).trans (H.h3 (q * 128 + a.val) ((2 * h + 1) * 128 + l.val) (by omega) (by omega))

/-- The gated attention scratch. -/
theorem abLoad (inb) (p : Fin 512) (l : Fin 1024) :
    arg25.view.readCov (kernelRun1_A.sl.HS3_32 (F := Ideal) c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15) (Rect.unit (s := S512x1152) ![0, 0] S512x1024.size inb).toLoadRect (ix2 p l) = abT AG SC VV SK ((i 1).val * 512 + p.val) l.val := by
  have hp := p.isLt
  have hl := l.isLt
  rw [pieces]
  refine (cov2_bf16 (A := 512) (B := 1152) arg25.view _ (fun u v => abT AG SC VV SK ((i 1).val * 512 + u) v) ?_ inb (ix2 p l) ?_).trans ?_
  · intro w hw x
    obtain ⟨q, h, hq, hh, rfl | rfl⟩ := pcs_mem _ _ _ hw
    · exact (pc0_val c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 H R q h hq hh x).trans (by rw [show (((pc0 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).1.emb x) 0).val = q * 128 + (x 0).val from emb2_0 (A := 512) (B := 1152) (inb2 512 1152 _ _ (by omega) (by omega)) x, show (((pc0 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).1.emb x) 1).val = (2 * h + 0) * 128 + (x 1).val from emb2_1 (A := 512) (B := 1152) (inb2 512 1152 _ _ (by omega) (by omega)) x])
    · exact (pc1_val c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 H R q h hq hh x).trans (by rw [show (((pc1 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).1.emb x) 0).val = q * 128 + (x 0).val from emb2_0 (A := 512) (B := 1152) (inb2 512 1152 _ _ (by omega) (by omega)) x, show (((pc1 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).1.emb x) 1).val = (2 * h + 1) * 128 + (x 1).val from emb2_1 (A := 512) (B := 1152) (inb2 512 1152 _ _ (by omega) (by omega)) x])
  · have e0 : ((Rect.unit (s := S512x1152) ![0, 0] S512x1024.size inb).idx (ix2 p l) 0).val = 0 + p.val := Rect.idx_unit_val (s := S512x1152) ![0, 0] S512x1024.size inb (ix2 p l) 0
    have e1 : ((Rect.unit (s := S512x1152) ![0, 0] S512x1024.size inb).idx (ix2 p l) 1).val = 0 + l.val := Rect.idx_unit_val (s := S512x1152) ![0, 0] S512x1024.size inb (ix2 p l) 1
    by_cases hc : l.val / 128 % 2 = 0
    · refine ⟨pc0 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 (p.val / 128) (l.val / 256) (by omega) (by omega), pcs_f0 _ _ _ _ _ _, mem2 (A := 512) (B := 1152) (inb := inb2 512 1152 _ _ (by omega) (by omega)) ?_ ?_⟩
      · rw [e0]; omega
      · rw [e1]; omega
    · refine ⟨pc1 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 (p.val / 128) (l.val / 256) (by omega) (by omega), pcs_f1 _ _ _ _ _ _, mem2 (A := 512) (B := 1152) (inb := inb2 512 1152 _ _ (by omega) (by omega)) ?_ ?_⟩
      · rw [e0]; omega
      · rw [e1]; omega
  · show abT AG SC VV SK ((i 1).val * 512 + (0 + p.val)) (0 + l.val) = _
    rw [Nat.zero_add, Nat.zero_add]

end

end Cert.KernelIdeal.Val

end
-- ==== Proof.Region1.lean ====
module

public import proofs.«01_k».proof.Proof.Region0
public import proofs.«01_k».proof.Proof.Out1
public import proofs.«01_k».proof.Proof.Gen.KernelIdeal.Frame
public import Idealize.ShloMosaic.Lib.Pipeline.Value
public import Idealize.ShloMosaic.Lib.Pipeline.ValueKit

@[expose] public section

set_option maxRecDepth 16384

noncomputable section

namespace Cert.KernelIdeal.Val

open Idealize.ShloMosaic Idealize.ShloMosaic.TcCoe Idealize.SL.Sem Layer Facts₀ Facts Gen

theorem index1_0 (t : Fin cfg1.N) : win1_0.index t = ![(grid1.coords t 0).val, (grid1.coords t 1).val, 0] :=
  (by decide +kernel : ∀ t : Fin grid1.N, win1_0.index t = ![(grid1.coords t 0).val, (grid1.coords t 1).val, 0]) t

theorem index1_1 (t : Fin cfg1.N) : win1_1.index t = ![(grid1.coords t 0).val, (grid1.coords t 1).val, 0] :=
  (by decide +kernel : ∀ t : Fin grid1.N, win1_1.index t = ![(grid1.coords t 0).val, (grid1.coords t 1).val, 0]) t

theorem index1_2 (t : Fin cfg1.N) : win1_2.index t = ![(grid1.coords t 0).val, (grid1.coords t 1).val, 0] :=
  (by decide +kernel : ∀ t : Fin grid1.N, win1_2.index t = ![(grid1.coords t 0).val, (grid1.coords t 1).val, 0]) t

theorem index1_3 (t : Fin cfg1.N) : win1_3.index t = ![(grid1.coords t 0).val, (grid1.coords t 1).val, 0] :=
  (by decide +kernel : ∀ t : Fin grid1.N, win1_3.index t = ![(grid1.coords t 0).val, (grid1.coords t 1).val, 0]) t

theorem index1_4 (t : Fin cfg1.N) : win1_4.index t = ![(grid1.coords t 0).val, (grid1.coords t 1).val, 0] :=
  (by decide +kernel : ∀ t : Fin grid1.N, win1_4.index t = ![(grid1.coords t 0).val, (grid1.coords t 1).val, 0]) t

theorem index1_5 (t : Fin cfg1.N) : win1_5.index t = ![(grid1.coords t 0).val, 0, (grid1.coords t 1).val] :=
  (by decide +kernel : ∀ t : Fin grid1.N, win1_5.index t = ![(grid1.coords t 0).val, 0, (grid1.coords t 1).val]) t

theorem index1_6 (t : Fin cfg1.N) : win1_6.index t = ![(grid1.coords t 0).val, 0, (grid1.coords t 1).val * 4 - 1] :=
  (by decide +kernel : ∀ t : Fin grid1.N, win1_6.index t = ![(grid1.coords t 0).val, 0, (grid1.coords t 1).val * 4 - 1]) t

theorem index1_7 (t : Fin cfg1.N) : win1_7.index t = ![(grid1.coords t 0).val, 0, min (((grid1.coords t 1).val + 1) * 4) 15] :=
  (by decide +kernel : ∀ t : Fin grid1.N, win1_7.index t = ![(grid1.coords t 0).val, 0, min (((grid1.coords t 1).val + 1) * 4) 15]) t

theorem index1_8 (t : Fin cfg1.N) : win1_8.index t = ![(grid1.coords t 0).val, (grid1.coords t 1).val, 0] :=
  (by decide +kernel : ∀ t : Fin grid1.N, win1_8.index t = ![(grid1.coords t 0).val, (grid1.coords t 1).val, 0]) t

theorem index1_9 (t : Fin cfg1.N) : win1_9.index t = ![(grid1.coords t 0).val, (grid1.coords t 1).val * 4 - 1, 0] :=
  (by decide +kernel : ∀ t : Fin grid1.N, win1_9.index t = ![(grid1.coords t 0).val, (grid1.coords t 1).val * 4 - 1, 0]) t

theorem index1_10 (t : Fin cfg1.N) : win1_10.index t = ![(grid1.coords t 0).val, min (((grid1.coords t 1).val + 1) * 4) 15, 0] :=
  (by decide +kernel : ∀ t : Fin grid1.N, win1_10.index t = ![(grid1.coords t 0).val, min (((grid1.coords t 1).val + 1) * 4) 15, 0]) t

theorem index1_11 (t : Fin cfg1.N) : win1_11.index t = ![(grid1.coords t 0).val, (grid1.coords t 1).val, 0] :=
  (by decide +kernel : ∀ t : Fin grid1.N, win1_11.index t = ![(grid1.coords t 0).val, (grid1.coords t 1).val, 0]) t

theorem index1_12 (t : Fin cfg1.N) : win1_12.index t = ![(grid1.coords t 0).val, (grid1.coords t 1).val * 4 - 1, 0] :=
  (by decide +kernel : ∀ t : Fin grid1.N, win1_12.index t = ![(grid1.coords t 0).val, (grid1.coords t 1).val * 4 - 1, 0]) t

theorem index1_13 (t : Fin cfg1.N) : win1_13.index t = ![(grid1.coords t 0).val, min (((grid1.coords t 1).val + 1) * 4) 15, 0] :=
  (by decide +kernel : ∀ t : Fin grid1.N, win1_13.index t = ![(grid1.coords t 0).val, min (((grid1.coords t 1).val + 1) * 4) 15, 0]) t

theorem index1_14 (t : Fin cfg1.N) : win1_14.index t = ![0, 0] :=
  (by decide +kernel : ∀ t : Fin grid1.N, win1_14.index t = ![0, 0]) t

theorem index1_15 (t : Fin cfg1.N) : win1_15.index t = ![0, 0] :=
  (by decide +kernel : ∀ t : Fin grid1.N, win1_15.index t = ![0, 0]) t

theorem index1_16 (t : Fin cfg1.N) : win1_16.index t = ![0, 0] :=
  (by decide +kernel : ∀ t : Fin grid1.N, win1_16.index t = ![0, 0]) t

theorem index1_17 (t : Fin cfg1.N) : win1_17.index t = ![0, 0] :=
  (by decide +kernel : ∀ t : Fin grid1.N, win1_17.index t = ![0, 0]) t

theorem index1_18 (t : Fin cfg1.N) : win1_18.index t = ![0, 0] :=
  (by decide +kernel : ∀ t : Fin grid1.N, win1_18.index t = ![0, 0]) t

theorem index1_19 (t : Fin cfg1.N) : win1_19.index t = ![(grid1.coords t 0).val, (grid1.coords t 1).val, 0] :=
  (by decide +kernel : ∀ t : Fin grid1.N, win1_19.index t = ![(grid1.coords t 0).val, (grid1.coords t 1).val, 0]) t

theorem coord1_0 (t : Fin cfg1.N) : (grid1.coords t 0).val < 16 := (grid1.coords t 0).isLt

theorem coord1_1 (t : Fin cfg1.N) : (grid1.coords t 1).val < 4 := (grid1.coords t 1).isLt

/-- What the arrays of call 1 hold as it begins. -/
structure Entry1 (V : (c : Dev nD) → (b : Ref sig .tc) → Buf (Elt Ideal) ((c : Thread nD τ).loc b)) (c : Dev nD) (I : In) : Prop where
  e0 : ∀ a b d, a < 16 → b < 2048 → d < 1024 → rd3 (n0 := 16) (n1 := 2048) (n2 := 1024) (V c main_arg0) a b d = I.x a b d
  e1 : ∀ a b d, a < 16 → b < 2048 → d < 1024 → rd3 (n0 := 16) (n1 := 2048) (n2 := 1024) (V c main_v28_0) a b d = pbG 2048 I a b d
  e2 : ∀ a b d, a < 16 → b < 2048 → d < 1024 → rd3 (n0 := 16) (n1 := 2048) (n2 := 1024) (V c main_v28_1) a b d = qR I a b (d / 64) (d % 64) * (qsc : EReal)
  e3 : ∀ a b d, a < 16 → b < 2048 → d < 1024 → rd3 (n0 := 16) (n1 := 2048) (n2 := 1024) (V c main_v28_2) a b d = silu (zP I a b (3584 + d))
  e4 : ∀ a b d, a < 16 → b < 2048 → d < 2048 → rd3 (n0 := 16) (n1 := 2048) (n2 := 2048) (V c main_v28_3) a b d = sg (zP I a b (4608 + d))
  e5 : ∀ a b d, a < 16 → b < 1024 → d < 2048 → rd3 (n0 := 16) (n1 := 1024) (n2 := 2048) (V c main_v28_4) a b d = if b % 256 < 128 then (if b % 128 < 64 then kR I a d (b / 256) (b % 128) else 0) else (if b % 128 < 64 then 0 else kR I a d (b / 256) (b % 128 - 64))
  e8 : ∀ a b d, a < 16 → b < 2048 → d < 1024 → rd3 (n0 := 16) (n1 := 2048) (n2 := 1024) (V c main_v28_5) a b d = if d % 256 < 128 then (if d % 256 < 64 then vV I a b (d / 256) (d % 256) else 0) else if d % 256 < 192 then 1 else 0
  e11 : ∀ a b d, a < 16 → b < 2048 → d < 1024 → rd3 (n0 := 16) (n1 := 2048) (n2 := 1024) (V c main_v28_6) a b d = if d % 256 < 128 then (if d % 256 < 64 then 0 else vV I a b (d / 256) (d % 256 - 64)) else if d % 256 < 192 then 0 else 1
  e14 : ∀ a b, a < 1024 → b < 1024 → rd2 (n0 := 1024) (n1 := 1024) (V c main_v31) a b = I.wpp a b
  e15 : ∀ a b, a < 16 → b < 128 → rd2 (n0 := 16) (n1 := 128) (V c main_v30) a b = I.sk a
  e16 : ∀ a b, a < 1024 → b < 1024 → rd2 (n0 := 1024) (n1 := 1024) (V c main_v32) a b = I.wap a b
  e17 : ∀ a b, a < 1024 → b < 1024 → rd2 (n0 := 1024) (n1 := 1024) (V c main_v33) a b = I.wo a b
  e18 : ∀ a b, a < 1 → b < 1024 → rd2 (n0 := 1) (n1 := 1024) (V c main_v34) a b = I.gp b

section
variable (V : (c : Dev nD) → (b : Ref sig .tc) → Buf (Elt Ideal) ((c : Thread nD τ).loc b)) (c : Dev nD) (I : In) (E : Entry1 V c I) (t : Fin cfg1.N)
include E

theorem blk1_0 (b d : ℕ) (hb : b < 512) (hd : d < 1024) : rd3 (n0 := 1) (n1 := 512) (n2 := 1024) (iblk1 V c 0 t) 0 b d = I.x (grid1.coords t 0).val ((grid1.coords t 1).val * 512 + b) d := by
  have c0 := coord1_0 t
  have c1 := coord1_1 t
  rw [rd3_at (n0 := 1) (n1 := 512) (n2 := 1024) _ (by decide : 0 < 1) hb hd]
  blk_simp [iblk1]
  refine (rd3_idx (n0 := 16) (n1 := 2048) (n2 := 1024) _ _).trans ?_
  blk_simp [index1_0]
  refine (E.e0 _ _ _ (by omega) (by omega) (by omega)).trans ?_
  dsimp only
  try simp only [Nat.add_zero, Nat.zero_add]
  try rfl

theorem blk1_1 (b d : ℕ) (hb : b < 512) (hd : d < 1024) : rd3 (n0 := 1) (n1 := 512) (n2 := 1024) (iblk1 V c 1 t) 0 b d = pbG 2048 I (grid1.coords t 0).val ((grid1.coords t 1).val * 512 + b) d := by
  have c0 := coord1_0 t
  have c1 := coord1_1 t
  rw [rd3_at (n0 := 1) (n1 := 512) (n2 := 1024) _ (by decide : 0 < 1) hb hd]
  blk_simp [iblk1]
  refine (rd3_idx (n0 := 16) (n1 := 2048) (n2 := 1024) _ _).trans ?_
  blk_simp [index1_1]
  refine (E.e1 _ _ _ (by omega) (by omega) (by omega)).trans ?_
  dsimp only
  try simp only [Nat.add_zero, Nat.zero_add]
  try rfl

theorem blk1_2 (b d : ℕ) (hb : b < 512) (hd : d < 1024) : rd3 (n0 := 1) (n1 := 512) (n2 := 1024) (iblk1 V c 2 t) 0 b d = qR I (grid1.coords t 0).val ((grid1.coords t 1).val * 512 + b) (d / 64) (d % 64) * (qsc : EReal) := by
  have c0 := coord1_0 t
  have c1 := coord1_1 t
  rw [rd3_at (n0 := 1) (n1 := 512) (n2 := 1024) _ (by decide : 0 < 1) hb hd]
  blk_simp [iblk1]
  refine (rd3_idx (n0 := 16) (n1 := 2048) (n2 := 1024) _ _).trans ?_
  blk_simp [index1_2]
  refine (E.e2 _ _ _ (by omega) (by omega) (by omega)).trans ?_
  dsimp only
  try simp only [Nat.add_zero, Nat.zero_add]
  try rfl

theorem blk1_3 (b d : ℕ) (hb : b < 512) (hd : d < 1024) : rd3 (n0 := 1) (n1 := 512) (n2 := 1024) (iblk1 V c 3 t) 0 b d = silu (zP I (grid1.coords t 0).val ((grid1.coords t 1).val * 512 + b) (3584 + d)) := by
  have c0 := coord1_0 t
  have c1 := coord1_1 t
  rw [rd3_at (n0 := 1) (n1 := 512) (n2 := 1024) _ (by decide : 0 < 1) hb hd]
  blk_simp [iblk1]
  refine (rd3_idx (n0 := 16) (n1 := 2048) (n2 := 1024) _ _).trans ?_
  blk_simp [index1_3]
  refine (E.e3 _ _ _ (by omega) (by omega) (by omega)).trans ?_
  dsimp only
  try simp only [Nat.add_zero, Nat.zero_add]
  try rfl

theorem blk1_4 (b d : ℕ) (hb : b < 512) (hd : d < 2048) : rd3 (n0 := 1) (n1 := 512) (n2 := 2048) (iblk1 V c 4 t) 0 b d = sg (zP I (grid1.coords t 0).val ((grid1.coords t 1).val * 512 + b) (4608 + d)) := by
  have c0 := coord1_0 t
  have c1 := coord1_1 t
  rw [rd3_at (n0 := 1) (n1 := 512) (n2 := 2048) _ (by decide : 0 < 1) hb hd]
  blk_simp [iblk1]
  refine (rd3_idx (n0 := 16) (n1 := 2048) (n2 := 2048) _ _).trans ?_
  blk_simp [index1_4]
  refine (E.e4 _ _ _ (by omega) (by omega) (by omega)).trans ?_
  dsimp only
  try simp only [Nat.add_zero, Nat.zero_add]
  try rfl

theorem blk1_5 (b d : ℕ) (hb : b < 1024) (hd : d < 512) : rd3 (n0 := 1) (n1 := 1024) (n2 := 512) (iblk1 V c 5 t) 0 b d = if b % 256 < 128 then (if b % 128 < 64 then kR I (grid1.coords t 0).val ((grid1.coords t 1).val * 512 + d) (b / 256) (b % 128) else 0) else (if b % 128 < 64 then 0 else kR I (grid1.coords t 0).val ((grid1.coords t 1).val * 512 + d) (b / 256) (b % 128 - 64)) := by
  have c0 := coord1_0 t
  have c1 := coord1_1 t
  rw [rd3_at (n0 := 1) (n1 := 1024) (n2 := 512) _ (by decide : 0 < 1) hb hd]
  blk_simp [iblk1]
  refine (rd3_idx (n0 := 16) (n1 := 1024) (n2 := 2048) _ _).trans ?_
  blk_simp [index1_5]
  refine (E.e5 _ _ _ (by omega) (by omega) (by omega)).trans ?_
  dsimp only
  try simp only [Nat.add_zero, Nat.zero_add]
  try rfl

theorem blk1_6 (b d : ℕ) (hb : b < 1024) (hd : d < 128) : rd3 (n0 := 1) (n1 := 1024) (n2 := 128) (iblk1 V c 6 t) 0 b d = if b % 256 < 128 then (if b % 128 < 64 then kR I (grid1.coords t 0).val (((grid1.coords t 1).val * 4 - 1) * 128 + d) (b / 256) (b % 128) else 0) else (if b % 128 < 64 then 0 else kR I (grid1.coords t 0).val (((grid1.coords t 1).val * 4 - 1) * 128 + d) (b / 256) (b % 128 - 64)) := by
  have c0 := coord1_0 t
  have c1 := coord1_1 t
  rw [rd3_at (n0 := 1) (n1 := 1024) (n2 := 128) _ (by decide : 0 < 1) hb hd]
  blk_simp [iblk1]
  refine (rd3_idx (n0 := 16) (n1 := 1024) (n2 := 2048) _ _).trans ?_
  blk_simp [index1_6]
  refine (E.e5 _ _ _ (by omega) (by omega) (by omega)).trans ?_
  dsimp only
  try simp only [Nat.add_zero, Nat.zero_add]
  try rfl

theorem blk1_7 (b d : ℕ) (hb : b < 1024) (hd : d < 128) : rd3 (n0 := 1) (n1 := 1024) (n2 := 128) (iblk1 V c 7 t) 0 b d = if b % 256 < 128 then (if b % 128 < 64 then kR I (grid1.coords t 0).val ((min (((grid1.coords t 1).val + 1) * 4) 15) * 128 + d) (b / 256) (b % 128) else 0) else (if b % 128 < 64 then 0 else kR I (grid1.coords t 0).val ((min (((grid1.coords t 1).val + 1) * 4) 15) * 128 + d) (b / 256) (b % 128 - 64)) := by
  have c0 := coord1_0 t
  have c1 := coord1_1 t
  rw [rd3_at (n0 := 1) (n1 := 1024) (n2 := 128) _ (by decide : 0 < 1) hb hd]
  blk_simp [iblk1]
  refine (rd3_idx (n0 := 16) (n1 := 1024) (n2 := 2048) _ _).trans ?_
  blk_simp [index1_7]
  refine (E.e5 _ _ _ (by omega) (by omega) (by omega)).trans ?_
  dsimp only
  try simp only [Nat.add_zero, Nat.zero_add]
  try rfl

theorem blk1_8 (b d : ℕ) (hb : b < 512) (hd : d < 1024) : rd3 (n0 := 1) (n1 := 512) (n2 := 1024) (iblk1 V c 8 t) 0 b d = if d % 256 < 128 then (if d % 256 < 64 then vV I (grid1.coords t 0).val ((grid1.coords t 1).val * 512 + b) (d / 256) (d % 256) else 0) else if d % 256 < 192 then 1 else 0 := by
  have c0 := coord1_0 t
  have c1 := coord1_1 t
  rw [rd3_at (n0 := 1) (n1 := 512) (n2 := 1024) _ (by decide : 0 < 1) hb hd]
  blk_simp [iblk1]
  refine (rd3_idx (n0 := 16) (n1 := 2048) (n2 := 1024) _ _).trans ?_
  blk_simp [index1_8]
  refine (E.e8 _ _ _ (by omega) (by omega) (by omega)).trans ?_
  dsimp only
  try simp only [Nat.add_zero, Nat.zero_add]
  try rfl

theorem blk1_9 (b d : ℕ) (hb : b < 128) (hd : d < 1024) : rd3 (n0 := 1) (n1 := 128) (n2 := 1024) (iblk1 V c 9 t) 0 b d = if d % 256 < 128 then (if d % 256 < 64 then vV I (grid1.coords t 0).val (((grid1.coords t 1).val * 4 - 1) * 128 + b) (d / 256) (d % 256) else 0) else if d % 256 < 192 then 1 else 0 := by
  have c0 := coord1_0 t
  have c1 := coord1_1 t
  rw [rd3_at (n0 := 1) (n1 := 128) (n2 := 1024) _ (by decide : 0 < 1) hb hd]
  blk_simp [iblk1]
  refine (rd3_idx (n0 := 16) (n1 := 2048) (n2 := 1024) _ _).trans ?_
  blk_simp [index1_9]
  refine (E.e8 _ _ _ (by omega) (by omega) (by omega)).trans ?_
  dsimp only
  try simp only [Nat.add_zero, Nat.zero_add]
  try rfl

theorem blk1_10 (b d : ℕ) (hb : b < 128) (hd : d < 1024) : rd3 (n0 := 1) (n1 := 128) (n2 := 1024) (iblk1 V c 10 t) 0 b d = if d % 256 < 128 then (if d % 256 < 64 then vV I (grid1.coords t 0).val ((min (((grid1.coords t 1).val + 1) * 4) 15) * 128 + b) (d / 256) (d % 256) else 0) else if d % 256 < 192 then 1 else 0 := by
  have c0 := coord1_0 t
  have c1 := coord1_1 t
  rw [rd3_at (n0 := 1) (n1 := 128) (n2 := 1024) _ (by decide : 0 < 1) hb hd]
  blk_simp [iblk1]
  refine (rd3_idx (n0 := 16) (n1 := 2048) (n2 := 1024) _ _).trans ?_
  blk_simp [index1_10]
  refine (E.e8 _ _ _ (by omega) (by omega) (by omega)).trans ?_
  dsimp only
  try simp only [Nat.add_zero, Nat.zero_add]
  try rfl

theorem blk1_11 (b d : ℕ) (hb : b < 512) (hd : d < 1024) : rd3 (n0 := 1) (n1 := 512) (n2 := 1024) (iblk1 V c 11 t) 0 b d = if d % 256 < 128 then (if d % 256 < 64 then 0 else vV I (grid1.coords t 0).val ((grid1.coords t 1).val * 512 + b) (d / 256) (d % 256 - 64)) else if d % 256 < 192 then 0 else 1 := by
  have c0 := coord1_0 t
  have c1 := coord1_1 t
  rw [rd3_at (n0 := 1) (n1 := 512) (n2 := 1024) _ (by decide : 0 < 1) hb hd]
  blk_simp [iblk1]
  refine (rd3_idx (n0 := 16) (n1 := 2048) (n2 := 1024) _ _).trans ?_
  blk_simp [index1_11]
  refine (E.e11 _ _ _ (by omega) (by omega) (by omega)).trans ?_
  dsimp only
  try simp only [Nat.add_zero, Nat.zero_add]
  try rfl

theorem blk1_12 (b d : ℕ) (hb : b < 128) (hd : d < 1024) : rd3 (n0 := 1) (n1 := 128) (n2 := 1024) (iblk1 V c 12 t) 0 b d = if d % 256 < 128 then (if d % 256 < 64 then 0 else vV I (grid1.coords t 0).val (((grid1.coords t 1).val * 4 - 1) * 128 + b) (d / 256) (d % 256 - 64)) else if d % 256 < 192 then 0 else 1 := by
  have c0 := coord1_0 t
  have c1 := coord1_1 t
  rw [rd3_at (n0 := 1) (n1 := 128) (n2 := 1024) _ (by decide : 0 < 1) hb hd]
  blk_simp [iblk1]
  refine (rd3_idx (n0 := 16) (n1 := 2048) (n2 := 1024) _ _).trans ?_
  blk_simp [index1_12]
  refine (E.e11 _ _ _ (by omega) (by omega) (by omega)).trans ?_
  dsimp only
  try simp only [Nat.add_zero, Nat.zero_add]
  try rfl

theorem blk1_13 (b d : ℕ) (hb : b < 128) (hd : d < 1024) : rd3 (n0 := 1) (n1 := 128) (n2 := 1024) (iblk1 V c 13 t) 0 b d = if d % 256 < 128 then (if d % 256 < 64 then 0 else vV I (grid1.coords t 0).val ((min (((grid1.coords t 1).val + 1) * 4) 15) * 128 + b) (d / 256) (d % 256 - 64)) else if d % 256 < 192 then 0 else 1 := by
  have c0 := coord1_0 t
  have c1 := coord1_1 t
  rw [rd3_at (n0 := 1) (n1 := 128) (n2 := 1024) _ (by decide : 0 < 1) hb hd]
  blk_simp [iblk1]
  refine (rd3_idx (n0 := 16) (n1 := 2048) (n2 := 1024) _ _).trans ?_
  blk_simp [index1_13]
  refine (E.e11 _ _ _ (by omega) (by omega) (by omega)).trans ?_
  dsimp only
  try simp only [Nat.add_zero, Nat.zero_add]
  try rfl

theorem blk1_14 (a b : ℕ) (ha : a < 1024) (hb : b < 1024) : rd2 (n0 := 1024) (n1 := 1024) (iblk1 V c 14 t) a b = I.wpp a b := by
  have c0 := coord1_0 t
  have c1 := coord1_1 t
  rw [rd2_at (n0 := 1024) (n1 := 1024) _ ha hb]
  blk_simp [iblk1]
  refine (rd2_idx (n0 := 1024) (n1 := 1024) _ _).trans ?_
  blk_simp [index1_14]
  refine (E.e14 _ _ (by omega) (by omega)).trans ?_
  dsimp only
  try simp only [Nat.add_zero, Nat.zero_add]
  try rfl

theorem blk1_15 (a b : ℕ) (ha : a < 16) (hb : b < 128) : rd2 (n0 := 16) (n1 := 128) (iblk1 V c 15 t) a b = I.sk a := by
  have c0 := coord1_0 t
  have c1 := coord1_1 t
  rw [rd2_at (n0 := 16) (n1 := 128) _ ha hb]
  blk_simp [iblk1]
  refine (rd2_idx (n0 := 16) (n1 := 128) _ _).trans ?_
  blk_simp [index1_15]
  refine (E.e15 _ _ (by omega) (by omega)).trans ?_
  dsimp only
  try simp only [Nat.add_zero, Nat.zero_add]
  try rfl

theorem blk1_16 (a b : ℕ) (ha : a < 1024) (hb : b < 1024) : rd2 (n0 := 1024) (n1 := 1024) (iblk1 V c 16 t) a b = I.wap a b := by
  have c0 := coord1_0 t
  have c1 := coord1_1 t
  rw [rd2_at (n0 := 1024) (n1 := 1024) _ ha hb]
  blk_simp [iblk1]
  refine (rd2_idx (n0 := 1024) (n1 := 1024) _ _).trans ?_
  blk_simp [index1_16]
  refine (E.e16 _ _ (by omega) (by omega)).trans ?_
  dsimp only
  try simp only [Nat.add_zero, Nat.zero_add]
  try rfl

theorem blk1_17 (a b : ℕ) (ha : a < 1024) (hb : b < 1024) : rd2 (n0 := 1024) (n1 := 1024) (iblk1 V c 17 t) a b = I.wo a b := by
  have c0 := coord1_0 t
  have c1 := coord1_1 t
  rw [rd2_at (n0 := 1024) (n1 := 1024) _ ha hb]
  blk_simp [iblk1]
  refine (rd2_idx (n0 := 1024) (n1 := 1024) _ _).trans ?_
  blk_simp [index1_17]
  refine (E.e17 _ _ (by omega) (by omega)).trans ?_
  dsimp only
  try simp only [Nat.add_zero, Nat.zero_add]
  try rfl

theorem blk1_18 (b : ℕ) (hb : b < 1024) : rd2 (n0 := 1) (n1 := 1024) (iblk1 V c 18 t) 0 b = I.gp b := by
  have c0 := coord1_0 t
  have c1 := coord1_1 t
  rw [rd2_at (n0 := 1) (n1 := 1024) _ (by decide : 0 < 1) hb]
  blk_simp [iblk1]
  refine (rd2_idx (n0 := 1) (n1 := 1024) _ _).trans ?_
  blk_simp [index1_18]
  refine (E.e18 _ _ (by omega) (by omega)).trans ?_
  dsimp only
  try simp only [Nat.add_zero, Nat.zero_add]
  try rfl

end

/-! ### The first call's arrays, at one batch element -/

section
variable (I : In) (b : ℕ)

/-- The scaled queries. -/
def aQ (t l : ℕ) : EReal := qR I b t (l / 64) (l % 64) * (qsc : EReal)
/-- The attention gates. -/
def aG (t l : ℕ) : EReal := silu (zP I b t (3584 + l))
/-- The merge gates. -/
def aM (t l : ℕ) : EReal := sg (zP I b t (4608 + l))
/-- The transposed keys, each head's in its low half and again in its high half. -/
def aKT (v s : ℕ) : EReal := if v % 256 < 128 then (if v % 128 < 64 then kR I b s (v / 256) (v % 128) else 0) else (if v % 128 < 64 then 0 else kR I b s (v / 256) (v % 128 - 64))
/-- The values in the low halves, with the row sums' ones. -/
def aVL (s v : ℕ) : EReal := if v % 256 < 128 then (if v % 256 < 64 then vV I b s (v / 256) (v % 256) else 0) else if v % 256 < 192 then 1 else 0
/-- The values in the high halves, with the row sums' ones. -/
def aVH (s v : ℕ) : EReal := if v % 256 < 128 then (if v % 256 < 64 then 0 else vV I b s (v / 256) (v % 256 - 64)) else if v % 256 < 192 then 0 else 1

theorem eighth : Ideal.ofBits .f32 0x3E000000#32 = (((1 / 8 : ℝ)) : EReal) := by
  simp [Ideal.ofBits, Ideal.ieee]
  rw [← EReal.coe_mul]
  congr 1
  norm_num

theorem qsc_eq : qsc = kap * (1 / 8) := by
  unfold qsc kap
  rw [mul_inv]
  ring

/-- A sum over the 128 lanes of a pair of heads, as one over each half. -/
theorem halves (f : ℕ → EReal) : (∑ j : Fin 128, f j.val) = (∑ j ∈ Finset.range 64, f j) + ∑ j ∈ Finset.range 64, f (64 + j) := by
  rw [sum_fin, show 128 = 64 + 64 from rfl, Finset.sum_range_add]

/-- A head's score, its scale on the queries, is the scaled score in the base of the exponentials. -/
theorem score (q k : ℕ → EReal) : (∑ j ∈ Finset.range 64, q j * (qsc : EReal) * k j) = (kap : EReal) * ((∑ j ∈ Finset.range 64, q j * k j) * Ideal.ofBits .f32 0x3E000000#32) := by
  have e : (qsc : EReal) = (kap : EReal) * (((1 / 8 : ℝ)) : EReal) := by rw [qsc_eq, EReal.coe_mul]
  have h0 : (0 : EReal) ≤ (qsc : EReal) := by
    rw [e]; exact mul_nonneg kapE_nonneg (by exact_mod_cast (by norm_num : (0 : ℝ) ≤ 1 / 8))
  rw [eighth, mul_left_comm, ← e, sum_mul_right _ _ _ h0 (EReal.coe_ne_top _)]
  exact Finset.sum_congr rfl fun j _ => mul_right_comm _ _ _

theorem arrays : Arrays (aQ I b) (aKT I b) (aVL I b) (aVH I b) (fun t hd s => scS I b t hd s) (fun s h l => vV I b s h l) where
  sc0 h r t s hh hr ht hs := by
    rw [halves fun j => aQ I b t ((2 * h + r) * 128 + j) * aKT I b (h * 256 + j) s]
    have z : (∑ j ∈ Finset.range 64, aQ I b t ((2 * h + r) * 128 + (64 + j)) * aKT I b (h * 256 + (64 + j)) s) = 0 :=
      Finset.sum_eq_zero fun j hj => by
        have hj := Finset.mem_range.mp hj
        unfold aKT
        rw [if_pos (by omega), if_neg (by omega), mul_zero]
    rw [z, add_zero]
    refine (Finset.sum_congr rfl fun j hj => ?_).trans (score (fun d => qR I b t (4 * h + 2 * r) d) (fun d => kR I b s ((4 * h + 2 * r) / 4) d))
    have hj := Finset.mem_range.mp hj
    unfold aQ aKT
    rw [if_pos (by omega), if_pos (by omega), show ((2 * h + r) * 128 + j) / 64 = 4 * h + 2 * r by omega, show ((2 * h + r) * 128 + j) % 64 = j by omega,
      show (h * 256 + j) / 256 = (4 * h + 2 * r) / 4 by omega, show (h * 256 + j) % 128 = j by omega]
  sc1 h r t s hh hr ht hs := by
    rw [halves fun j => aQ I b t ((2 * h + r) * 128 + j) * aKT I b (h * 256 + 128 + j) s]
    have z : (∑ j ∈ Finset.range 64, aQ I b t ((2 * h + r) * 128 + j) * aKT I b (h * 256 + 128 + j) s) = 0 :=
      Finset.sum_eq_zero fun j hj => by
        have hj := Finset.mem_range.mp hj
        unfold aKT
        rw [if_neg (by omega), if_pos (by omega), mul_zero]
    rw [z, zero_add]
    refine (Finset.sum_congr rfl fun j hj => ?_).trans (score (fun d => qR I b t (4 * h + 2 * r + 1) d) (fun d => kR I b s ((4 * h + 2 * r + 1) / 4) d))
    have hj := Finset.mem_range.mp hj
    unfold aQ aKT
    rw [if_neg (by omega), if_neg (by omega), show ((2 * h + r) * 128 + (64 + j)) / 64 = 4 * h + 2 * r + 1 by omega, show ((2 * h + r) * 128 + (64 + j)) % 64 = j by omega,
      show (h * 256 + 128 + (64 + j)) / 256 = (4 * h + 2 * r + 1) / 4 by omega, show (h * 256 + 128 + (64 + j)) % 128 - 64 = j by omega]
  vl0 h s l hh hs hl := by
    unfold aVL
    rw [if_pos (by omega), if_pos (by omega), show (h * 256 + l) / 256 = h by omega, show (h * 256 + l) % 256 = l by omega]
  vl1 h s l hh hs hl hn := by
    unfold aVL
    rw [if_pos (by omega), if_neg (by omega)]
  vl2 h s l hh hs hl := by
    unfold aVL
    rw [if_neg (by omega)]
    exact if_congr (by omega) rfl rfl
  vh0 h s l hh hs hl := by
    unfold aVH
    rw [if_pos (by omega), if_pos (by omega)]
  vh1 h s l hh hs hl hn := by
    unfold aVH
    rw [if_pos (by omega), if_neg (by omega), show (h * 256 + l) / 256 = h by omega, show (h * 256 + l) % 256 - 64 = l - 64 by omega]
  vh2 h s l hh hs hl := by
    unfold aVH
    rw [if_neg (by omega)]
    exact if_congr (by omega) rfl rfl

theorem resT_eq (t l : ℕ) :
    resT (fun t l => pbG 2048 I b t l) (aM I b) I.wpp I.wap I.wo I.gp (I.x b) (abT (aG I b) (fun t hd s => scS I b t hd s) (fun s h l => vV I b s h l) I.sk) t l = res 2048 I b t l := by
  have e : ∀ k, aM I b t (1024 + k) = sg (zP I b t (5632 + k)) := fun k => by
    unfold aM
    rw [show 4608 + (1024 + k) = 5632 + k by omega]
  unfold resT res
  refine congrArg (I.x b t l + ·) (congrArg (fun f => rms f I.gp l) (funext fun c => ?_))
  unfold outP
  refine Finset.sum_congr rfl fun k _ => congrArg (· * _) ?_
  unfold mgT mrg pmT
  rw [e]
  rfl

end

section
variable (V : (c : Dev nD) → (b : Ref sig .tc) → Buf (Elt Ideal) ((c : Thread nD τ).loc b)) (c : Dev nD) (I : In) (E : Entry1 V c I)
include E

/-- The blocks a step of the second call reads. -/
def blocks (t : Fin cfg1.N) : Blocks (grid1.coords t 1).val (aQ I (grid1.coords t 0).val) (aG I (grid1.coords t 0).val) (aKT I (grid1.coords t 0).val) (aVL I (grid1.coords t 0).val) (aVH I (grid1.coords t 0).val) I.sk (iblk1 V c 2 t) (iblk1 V c 3 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 15 t) where
  Bp := ((grid1.coords t 1).val * 4 - 1) * 128
  Bn := (min (((grid1.coords t 1).val + 1) * 4) 15) * 128
  hT := coord1_1 t
  hBp := by have := coord1_1 t; omega
  hBn := by have := coord1_1 t; omega
  eBp := by have := coord1_1 t; omega
  eBn := by have := coord1_1 t; omega
  h2 := blk1_2 V c I E t
  h3 := blk1_3 V c I E t
  h5 := blk1_5 V c I E t
  h6 := blk1_6 V c I E t
  h7 := blk1_7 V c I E t
  h8 := blk1_8 V c I E t
  h9 := blk1_9 V c I E t
  h10 := blk1_10 V c I E t
  h11 := blk1_11 V c I E t
  h12 := blk1_12 V c I E t
  h13 := blk1_13 V c I E t
  h15 := blk1_15 V c I E t

theorem out1_19_at (t : Fin cfg1.N) (y : S1x512x1024.Idx) : outsAt1 V c t y = (res 2048 I (grid1.coords t 0).val ((grid1.coords t 1).val * 512 + (y 1).val) (y 2).val : EReal) := by
  rw [row_eq3 y]
  unfold outsAt1
  refine Eq.trans ?_ (resT_eq I (grid1.coords t 0).val ((grid1.coords t 1).val * 512 + (y 1).val) (y 2).val)
  exact out1A_val c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) scM1_3 (Memref.isWhole_whole _) scM1_4 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (grid1.coords t 1).val (blk1_0 V c I E t) (blk1_1 V c I E t) (blk1_4 V c I E t) (blk1_14 V c I E t) (blk1_16 V c I E t) (blk1_17 V c I E t) (blk1_18 V c I E t) (arrays I (grid1.coords t 0).val) (blocks V c I E t) rfl (y 1) (y 2)

/-- The result array after the second call. -/
theorem arr1_19 : (dat1 V c).arrAt 19 cfg1.N = fun y : S16x2048x1024.Idx => (res 2048 I (y 0).val (y 1).val (y 2).val : EReal) := by
  refine (dat1 V c).arrAt_eq_of_covers 19 _ (by decide +kernel) fun t hf y => ?_
  blk_simp
  rw [after1_19]
  refine (out1_19_at V c I E t y).trans ?_
  have hy : (y 0).val = 0 := Nat.lt_one_iff.mp (y 0).isLt
  blk_simp [index1_19]
  try simp only [hy, Nat.mul_one, Nat.add_zero, Nat.zero_add]

end

end Cert.KernelIdeal.Val

end
-- ==== Proof.Host.lean ====
module

public import proofs.«01_k».proof.Proof.Run

@[expose] public section

set_option maxRecDepth 16384

noncomputable section

namespace Cert.KernelIdeal.Val

open Idealize.ShloMosaic Idealize.ShloMosaic.TcCoe Idealize.SL.Sem Layer Gen

/-! ### What the host computes before the first call -/

/-- The rotation frequencies. -/
def freqs : S32.Idx → EReal :=
  Host.powf (F := Ideal) (φ := .f32) (broadcastInDim S32 ![] bcast_S_S32 (constant (F := Ideal) S_ .f32 0x461C4000#32))
    (Host.divf (F := Ideal) (φ := .f32) (Host.negf (F := Ideal) (φ := .f32) (sitofp .f32 (iotaInDim S32 32 0))) (broadcastInDim S32 ![] bcast_S_S32 (constant (F := Ideal) S_ .f32 0x42000000#32)))

/-- The rotation angles. -/
def angs : S2048x32.Idx → EReal :=
  mulf (F := Ideal) (φ := .f32)
    (broadcastInDim S2048x32 ![0, 1] bcast_S2048x1_S2048x32_0_1 (broadcastInDim S2048x1 ![0] bcast_S2048_S2048x1_0 (sitofp (F := Ideal) .f32 (iotaInDim S2048 32 0))))
    (broadcastInDim S2048x32 ![0, 1] bcast_S1x32_S2048x32_0_1 (broadcastInDim S1x32 ![1] bcast_S32_S1x32_1 freqs))

/-- Two 32-lane tables side by side, the pair twice across 128 lanes. -/
def spread (a b : S2048x32.Idx → EReal) : S2048x128.Idx → EReal :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1) shapeCasts_S2048x64_S1x2048x1x64))
    shapeCasts_S1x2048x2x64_S2048x128

theorem iota_val (n : ℕ) (h : n < 8192) : FloatOps.sitofp (F := Ideal) FTy.f32 (BitVec.ofNat 32 n) = (((n : ℝ)) : EReal) := by
  show ((((BitVec.ofNat 32 n).toInt : ℤ) : ℝ) : EReal) = _
  have e : (BitVec.ofNat 32 n).toInt = (n : ℤ) := by
    rw [BitVec.toInt_eq_toNat_of_lt (by rw [BitVec.toNat_ofNat]; omega), BitVec.toNat_ofNat, Nat.mod_eq_of_lt (by omega)]
  rw [e]; norm_cast

theorem freqs_at (j : Fin 32) : freqs (ix1 j) = Ideal.pow (Ideal.ofBits .f32 0x461C4000#32) (Ideal.div (-((j.val : ℝ) : EReal)) (Ideal.ofBits .f32 0x42000000#32)) := by
  unfold freqs
  pointwise
  rw [iota_val _ (by omega)]

theorem angs_at (t : Fin 2048) (j : Fin 32) : angs (ix2 t j) = ang t.val j.val := by
  unfold angs
  pointwise
  rw [iota_val _ (by omega), freqs_at]
  rfl

theorem spread_at (a b : S2048x32.Idx → EReal) (t : Fin 2048) (d : Fin 128) :
    spread a b (ix2 t d) = if d.val % 64 < 32 then rd2 (n0 := 2048) (n1 := 32) a t.val (d.val % 32) else rd2 (n0 := 2048) (n1 := 32) b t.val (d.val % 32) := by
  unfold spread
  pointwise
  rcases Nat.lt_or_ge (d.val % 64) 32 with h | h
  · rw [dif_pos h, if_pos h, rd2_at a t.isLt (show d.val % 32 < 32 by omega)]
    congr 2
    exact Fin.ext (show d.val % 64 = d.val % 32 by omega)
  · have h' : ¬ d.val % 64 < 32 := by omega
    refine (dif_neg h').trans (Eq.trans ?_ (if_neg h').symm)
    rw [rd2_at b t.isLt (show d.val % 32 < 32 by omega)]
    exact congrArg (fun j => b (ix2 t j)) (Fin.ext (show d.val % 64 - 32 = d.val % 32 by omega))

variable (V : Valuation τ sig (Elt Ideal))

theorem after_v18 : StableHlo.after hostOps0 V (Proc.devRef .tc main_v18) = spread (Host.cos (F := Ideal) (φ := .f32) angs) (Host.cos (F := Ideal) (φ := .f32) angs) := by
  after_results
  rfl

theorem after_v23 : StableHlo.after hostOps0 V (Proc.devRef .tc main_v23) = spread (Host.negf (F := Ideal) (φ := .f32) (Host.sin (F := Ideal) (φ := .f32) angs)) (Host.sin (F := Ideal) (φ := .f32) angs) := by
  after_results
  rfl

theorem after_v24 : StableHlo.after hostOps0 V (Proc.devRef .tc main_v24) = shapeCast S1x1024 (V (Proc.devRef .tc main_arg1) : S1024.Idx → EReal) shapeCasts_S1024_S1x1024 := by
  after_results
  rfl

theorem after_v25 : StableHlo.after hostOps0 V (Proc.devRef .tc main_v25) = (V (Proc.devRef .tc main_arg2) : S1024x6656.Idx → EReal) := by
  after_results
  rfl

theorem after_v26 : StableHlo.after hostOps0 V (Proc.devRef .tc main_v26) = (V (Proc.devRef .tc main_arg3) : S4x256x256.Idx → EReal) := by
  after_results
  rfl

theorem after_v27 : StableHlo.after hostOps0 V (Proc.devRef .tc main_v27) = shapeCast S1x1024 (V (Proc.devRef .tc main_arg4) : S1024.Idx → EReal) shapeCasts_S1024_S1x1024 := by
  after_results
  rfl

/-! ### What it computes before the second -/

theorem after_v30 : StableHlo.after hostOps1 V (Proc.devRef .tc main_v30) =
    broadcastInDim S16x128 ![0, 1] bcast_S16x1_S16x128_0_1 (broadcastInDim S16x1 ![0] bcast_S16_S16x1_0 (V (Proc.devRef .tc main_arg6) : S16.Idx → EReal)) := by
  after_results

theorem after_v31 : StableHlo.after hostOps1 V (Proc.devRef .tc main_v31) = (V (Proc.devRef .tc main_arg5) : S1024x1024.Idx → EReal) := by
  after_results
  rfl

theorem after_v32 : StableHlo.after hostOps1 V (Proc.devRef .tc main_v32) = (V (Proc.devRef .tc main_arg7) : S1024x1024.Idx → EReal) := by
  after_results
  rfl

theorem after_v33 : StableHlo.after hostOps1 V (Proc.devRef .tc main_v33) = (V (Proc.devRef .tc main_arg8) : S1024x1024.Idx → EReal) := by
  after_results
  rfl

theorem after_v34 : StableHlo.after hostOps1 V (Proc.devRef .tc main_v34) = shapeCast S1x1024 (V (Proc.devRef .tc main_arg9) : S1024.Idx → EReal) shapeCasts_S1024_S1x1024 := by
  after_results
  rfl

theorem row_at (v : S1024.Idx → EReal) (a b : ℕ) (ha : a < 1) (hb : b < 1024) :
    rd2 (n0 := 1) (n1 := 1024) (shapeCast S1x1024 v shapeCasts_S1024_S1x1024) a b = rd1 (n0 := 1024) v b := by
  rw [rd2_at _ ha hb]
  pointwise
  exact (rd1_idx v _).trans rfl

theorem sinks_at (v : S16.Idx → EReal) (a b : ℕ) (ha : a < 16) (hb : b < 128) :
    rd2 (n0 := 16) (n1 := 128) (broadcastInDim S16x128 ![0, 1] bcast_S16x1_S16x128_0_1 (broadcastInDim S16x1 ![0] bcast_S16_S16x1_0 v)) a b = rd1 (n0 := 16) v a := by
  rw [rd2_at _ ha hb]
  pointwise
  exact (rd1_idx v _).trans rfl

/-! ### The layer's arrays in the launch memory -/

section
variable (m : (ℓ : Loc nD τ sig) → Buf (Elt Ideal) ℓ) (ρ : Dev nD → PrngReg) (c : Dev nD)

/-- The layer's arrays, read from the arguments. -/
def inOf : In where
  x := rd3 (n0 := 16) (n1 := 2048) (n2 := 1024) (m ((c : Thread nD τ).loc main_arg0))
  g := rd1 (n0 := 1024) (m ((c : Thread nD τ).loc main_arg1))
  w := rd2 (n0 := 1024) (n1 := 6656) (m ((c : Thread nD τ).loc main_arg2))
  wpg := rd3 (n0 := 4) (n1 := 256) (n2 := 256) (m ((c : Thread nD τ).loc main_arg3))
  ps := rd1 (n0 := 1024) (m ((c : Thread nD τ).loc main_arg4))
  wpp := rd2 (n0 := 1024) (n1 := 1024) (m ((c : Thread nD τ).loc main_arg5))
  sk := rd1 (n0 := 16) (m ((c : Thread nD τ).loc main_arg6))
  wap := rd2 (n0 := 1024) (n1 := 1024) (m ((c : Thread nD τ).loc main_arg7))
  wo := rd2 (n0 := 1024) (n1 := 1024) (m ((c : Thread nD τ).loc main_arg8))
  gp := rd1 (n0 := 1024) (m ((c : Thread nD τ).loc main_arg9))

theorem ang_at (t : Fin 2048) (d : ℕ) (hd : d < 128) (f : EReal → EReal) (T : S2048x32.Idx → EReal) (hT : ∀ y, T y = f (angs y)) :
    rd2 (n0 := 2048) (n1 := 32) T t.val (d % 32) = f (ang t.val (d % 32)) := by
  rw [rd2_at T t.isLt (show d % 32 < 32 by omega), hT]
  exact congrArg f (angs_at t ⟨d % 32, by omega⟩)

theorem entry0 : Entry0 (V1 m ρ) c (inOf m c) where
  e0 a b d ha hb hd := congrArg (fun v => rd3 (n0 := 16) (n1 := 2048) (n2 := 1024) v a b d) (W1_args m ρ c main_arg0 (by decide))
  e3 a b ha hb := (congrArg (fun v => rd2 (n0 := 1) (n1 := 1024) v a b) (after_v24 (W0 m ρ c))).trans (row_at _ a b ha hb)
  e4 a b ha hb := congrArg (fun v => rd2 (n0 := 1024) (n1 := 6656) v a b) (after_v25 (W0 m ρ c))
  e5 a b ha hb := by
    refine (congrArg (fun v => rd2 (n0 := 2048) (n1 := 128) v a b) (after_v18 (W0 m ρ c))).trans ?_
    refine (rd2_at (n0 := 2048) (n1 := 128) _ ha hb).trans ((spread_at _ _ ⟨a, ha⟩ ⟨b, hb⟩).trans ?_)
    have h := ang_at ⟨a, ha⟩ b hb Ideal.cos (Host.cos (F := Ideal) (φ := .f32) angs) (fun y => rfl)
    rw [ite_self]
    exact h
  e6 a b ha hb := by
    refine (congrArg (fun v => rd2 (n0 := 2048) (n1 := 128) v a b) (after_v23 (W0 m ρ c))).trans ?_
    refine (rd2_at (n0 := 2048) (n1 := 128) _ ha hb).trans ((spread_at _ _ ⟨a, ha⟩ ⟨b, hb⟩).trans ?_)
    have h := ang_at ⟨a, ha⟩ b hb Ideal.sin (Host.sin (F := Ideal) (φ := .f32) angs) (fun y => rfl)
    have h' := ang_at ⟨a, ha⟩ b hb (fun z => -Ideal.sin z) (Host.negf (F := Ideal) (φ := .f32) (Host.sin (F := Ideal) (φ := .f32) angs)) (fun y => rfl)
    exact congrArg₂ (fun p q : EReal => if b % 64 < 32 then p else q) h' h
  e7 a b d ha hb hd := congrArg (fun v => rd3 (n0 := 4) (n1 := 256) (n2 := 256) v a b d) (after_v26 (W0 m ρ c))
  e8 a b ha hb := (congrArg (fun v => rd2 (n0 := 1) (n1 := 1024) v a b) (after_v27 (W0 m ρ c))).trans (row_at _ a b ha hb)

/-- An array a first call leaves, at the second call's entry. -/
theorem W3_out (w : Fin cfg0.W) (r : Ref sig .tc) (h : r ∉ hostOps1_W) (e : Pipeline.arrRef spec0 w = r) :
    W3 m ρ c (Proc.devRef .tc (Pipeline.arrRef spec0 w)) = (dat0 (V1 m ρ) c).arrAt w cfg0.N := by
  rw [W3_of m ρ c _ (by rw [e]; exact h)]
  exact W2_arr m ρ c w

theorem entry1 : Entry1 (V3 m ρ) c (inOf m c) where
  e0 a b d ha hb hd := congrArg (fun v => rd3 (n0 := 16) (n1 := 2048) (n2 := 1024) v a b d) (W3_args m ρ c main_arg0 (by decide))
  e1 a b d ha hb hd := by
    refine (congrArg (fun v => rd3 (n0 := 16) (n1 := 2048) (n2 := 1024) v a b d) ((W3_out m ρ c 9 main_v28_0 (by decide) rfl).trans (arr0_9 (V1 m ρ) c (inOf m c) (entry0 m ρ c)))).trans ?_
    exact rd3_at (n0 := 16) (n1 := 2048) (n2 := 1024) _ ha hb hd
  e2 a b d ha hb hd := by
    refine (congrArg (fun v => rd3 (n0 := 16) (n1 := 2048) (n2 := 1024) v a b d) ((W3_out m ρ c 10 main_v28_1 (by decide) rfl).trans (arr0_10 (V1 m ρ) c (inOf m c) (entry0 m ρ c)))).trans ?_
    exact rd3_at (n0 := 16) (n1 := 2048) (n2 := 1024) _ ha hb hd
  e3 a b d ha hb hd := by
    refine (congrArg (fun v => rd3 (n0 := 16) (n1 := 2048) (n2 := 1024) v a b d) ((W3_out m ρ c 11 main_v28_2 (by decide) rfl).trans (arr0_11 (V1 m ρ) c (inOf m c) (entry0 m ρ c)))).trans ?_
    exact rd3_at (n0 := 16) (n1 := 2048) (n2 := 1024) _ ha hb hd
  e4 a b d ha hb hd := by
    refine (congrArg (fun v => rd3 (n0 := 16) (n1 := 2048) (n2 := 2048) v a b d) ((W3_out m ρ c 12 main_v28_3 (by decide) rfl).trans (arr0_12 (V1 m ρ) c (inOf m c) (entry0 m ρ c)))).trans ?_
    exact rd3_at (n0 := 16) (n1 := 2048) (n2 := 2048) _ ha hb hd
  e5 a b d ha hb hd := by
    refine (congrArg (fun v => rd3 (n0 := 16) (n1 := 1024) (n2 := 2048) v a b d) ((W3_out m ρ c 13 main_v28_4 (by decide) rfl).trans (arr0_13 (V1 m ρ) c (inOf m c) (entry0 m ρ c)))).trans ?_
    exact rd3_at (n0 := 16) (n1 := 1024) (n2 := 2048) _ ha hb hd
  e8 a b d ha hb hd := by
    refine (congrArg (fun v => rd3 (n0 := 16) (n1 := 2048) (n2 := 1024) v a b d) ((W3_out m ρ c 14 main_v28_5 (by decide) rfl).trans (arr0_14 (V1 m ρ) c (inOf m c) (entry0 m ρ c)))).trans ?_
    exact rd3_at (n0 := 16) (n1 := 2048) (n2 := 1024) _ ha hb hd
  e11 a b d ha hb hd := by
    refine (congrArg (fun v => rd3 (n0 := 16) (n1 := 2048) (n2 := 1024) v a b d) ((W3_out m ρ c 15 main_v28_6 (by decide) rfl).trans (arr0_15 (V1 m ρ) c (inOf m c) (entry0 m ρ c)))).trans ?_
    exact rd3_at (n0 := 16) (n1 := 2048) (n2 := 1024) _ ha hb hd
  e14 a b ha hb := congrArg (fun v => rd2 (n0 := 1024) (n1 := 1024) v a b) ((after_v31 (W2 m ρ c)).trans (W2_args m ρ c main_arg5 (by decide)))
  e15 a b ha hb := (congrArg (fun v => rd2 (n0 := 16) (n1 := 128) v a b) (after_v30 (W2 m ρ c))).trans ((sinks_at _ a b ha hb).trans
    (congrArg (fun v => rd1 (n0 := 16) v a) (W2_args m ρ c main_arg6 (by decide))))
  e16 a b ha hb := congrArg (fun v => rd2 (n0 := 1024) (n1 := 1024) v a b) ((after_v32 (W2 m ρ c)).trans (W2_args m ρ c main_arg7 (by decide)))
  e17 a b ha hb := congrArg (fun v => rd2 (n0 := 1024) (n1 := 1024) v a b) ((after_v33 (W2 m ρ c)).trans (W2_args m ρ c main_arg8 (by decide)))
  e18 a b ha hb := (congrArg (fun v => rd2 (n0 := 1) (n1 := 1024) v a b) (after_v34 (W2 m ρ c))).trans ((row_at _ a b ha hb).trans
    (congrArg (fun v => rd1 (n0 := 1024) v b) (W2_args m ρ c main_arg9 (by decide))))

/-- The result array at the end. -/
theorem W4_res : W4 m ρ c (Proc.devRef .tc main_v35) = fun y : S16x2048x1024.Idx => (res 2048 (inOf m c) (y 0).val (y 1).val (y 2).val : EReal) :=
  (W4_arr m ρ c 19).trans (arr1_19 (V3 m ρ) c (inOf m c) (entry1 m ρ c))

end

end Cert.KernelIdeal.Val
-- ==== Proof.RefCommon.lean ====
module

public import proofs.«01_k».proof.Proof.Spec
public import Idealize.ShloMosaic.Lib.WordCmp
public import Idealize.ShloMosaic.Lib.Pointwise

@[expose] public section

set_option maxRecDepth 16384

noncomputable section

namespace Layer.Ref

open Idealize.ShloMosaic Idealize.ShloMosaic.TcCoe Idealize.SL.Sem Layer

/-! ### Numbers and positions in the reference, for sequences of up to 8192 positions -/

theorem bits_one : Ideal.ofBits .f32 0x3F800000#32 = 1 := by
  simp [Ideal.ofBits, Ideal.ieee]
  rw [← EReal.coe_mul, ← EReal.coe_one]
  congr 1
  norm_num

theorem bits_zero : Ideal.ofBits .f32 0x00000000#32 = 0 := by
  simp [Ideal.ofBits, Ideal.ieee]

theorem bits_bot : Ideal.ofBits .f32 0xFF800000#32 = ⊥ := by
  simp [Ideal.ofBits, Ideal.ieee]

theorem toInt_small {S : ℕ} (hS : S ≤ 8192) (s : ℕ) (h : s < S) : (BitVec.ofNat 32 s).toInt = (s : ℤ) := by
  rw [BitVec.toInt_eq_toNat_of_lt (by rw [BitVec.toNat_ofNat]; omega), BitVec.toNat_ofNat, Nat.mod_eq_of_lt (by omega)]

/-- A window's 0/1 indicator. -/
theorem sel_window {S : ℕ} (hS : S ≤ 8192) (lo hi : BitVec 32) (t s w : ℕ) (hs : s < S) (hlo : lo.toInt = ((t - w : ℕ) : ℤ)) (hhi : hi.toInt = ((min (t + w) S : ℕ) : ℤ)) (a b : EReal) :
    Scalar.select (IntOp.andi (IntOp.cmpi .sge (BitVec.ofNat 32 s) lo) (IntOp.cmpi .slt (BitVec.ofNat 32 s) hi)) a b = if t ≤ s + w ∧ s + w < t + 2 * w then a else b := by
  rw [WordCmp.cmpi_sge_eq, WordCmp.cmpi_slt_eq, toInt_small hS s hs, hlo, hhi]
  by_cases h1 : t ≤ s + w
  · by_cases h2 : s + w < t + 2 * w
    · rw [if_pos ⟨h1, h2⟩, decide_eq_true (by omega : ((t - w : ℕ) : ℤ) ≤ (s : ℤ)), decide_eq_true (by omega : (s : ℤ) < ((min (t + w) S : ℕ) : ℤ))]
      rfl
    · rw [if_neg (fun h => h2 h.2), decide_eq_false (by omega : ¬ (s : ℤ) < ((min (t + w) S : ℕ) : ℤ))]
      cases decide (((t - w : ℕ) : ℤ) ≤ (s : ℤ)) <;> rfl
  · rw [if_neg (fun h => h1 h.1), decide_eq_false (by omega : ¬ ((t - w : ℕ) : ℤ) ≤ (s : ℤ))]
    cases decide ((s : ℤ) < ((min (t + w) S : ℕ) : ℤ)) <;> rfl

/-- The rotation angle at a position. -/
theorem ang_eq {S : ℕ} (hS : S ≤ 8192) (t j : ℕ) (ht : t < S) (hj : j < 32) :
    FloatOps.sitofp (F := Ideal) FTy.f32 (BitVec.ofNat 32 t) * Ideal.pow (Ideal.ofBits .f32 0x461C4000#32) (Ideal.div (-FloatOps.sitofp (F := Ideal) FTy.f32 (BitVec.ofNat 32 j)) (Ideal.ofBits .f32 0x42000000#32)) = ang t j := by
  show (((((BitVec.ofNat 32 t).toInt : ℤ) : ℝ)) : EReal) * Ideal.pow _ (Ideal.div (-(((((BitVec.ofNat 32 j).toInt : ℤ) : ℝ)) : EReal)) _) = _
  rw [toInt_small hS t ht, toInt_small (S := 32) (by decide) j hj]
  simp only [Int.cast_natCast]
  rfl

/-- The distance of two positions. -/
theorem dist {S : ℕ} (hS : S ≤ 8192) (t s : ℕ) (ht : t < S) (hs : s < S) :
    IntOp.absi (IntOp.subi (BitVec.ofNat 32 t) (BitVec.ofNat 32 s)) = BitVec.ofNat 32 (if s ≤ t then t - s else s - t) := by
  have small : ∀ n, n < S → (BitVec.ofNat 32 n).msb = false := fun n hn => by
    rw [BitVec.msb_eq_decide, BitVec.toNat_ofNat]
    exact decide_eq_false (by omega)
  have sub : ∀ a b, a < S → b ≤ a → BitVec.ofNat 32 a - BitVec.ofNat 32 b = BitVec.ofNat 32 (a - b) := fun a b ha hb => by
    apply BitVec.eq_of_toNat_eq
    simp only [BitVec.toNat_sub, BitVec.toNat_ofNat]
    omega
  by_cases h : s ≤ t
  · rw [if_pos h]
    show (if (BitVec.ofNat 32 t - BitVec.ofNat 32 s).msb then _ else BitVec.ofNat 32 t - BitVec.ofNat 32 s) = _
    rw [sub t s ht h, small (t - s) (by omega)]
    rfl
  · rw [if_neg h]
    have e : BitVec.ofNat 32 t - BitVec.ofNat 32 s = -(BitVec.ofNat 32 (s - t)) := by
      rw [← sub s t hs (by omega), BitVec.neg_sub, BitVec.add_comm, BitVec.sub_eq_add_neg]
    show (if (BitVec.ofNat 32 t - BitVec.ofNat 32 s).msb then -(BitVec.ofNat 32 t - BitVec.ofNat 32 s) else _) = _
    have hm : (-(BitVec.ofNat 32 (s - t))).msb = true := by
      rw [BitVec.msb_eq_decide, BitVec.toNat_neg, BitVec.toNat_ofNat]
      exact decide_eq_true (by omega)
    rw [e, hm, if_pos rfl, BitVec.neg_neg]

/-- The mask of a query and a key. -/
theorem band {S : ℕ} (hS : S ≤ 8192) (t s : ℕ) (ht : t < S) (hs : s < S) (a b : EReal) :
    Scalar.select (IntOp.cmpi .sle (IntOp.absi (IntOp.subi (BitVec.ofNat 32 t) (BitVec.ofNat 32 s))) 128#32) a b = if t ≤ s + 128 ∧ s ≤ t + 128 then a else b := by
  rw [dist hS t s ht hs, WordCmp.cmpi_sle_eq, toInt_small hS _ (by split <;> omega), show (128#32 : BitVec 32).toInt = 128 from rfl]
  by_cases h : t ≤ s + 128 ∧ s ≤ t + 128
  · rw [if_pos h, decide_eq_true (by split <;> omega)]
    rfl
  · rw [if_neg h, decide_eq_false (by split <;> omega)]
    rfl

end Layer.Ref
-- ==== Proof.RefA.lean ====
module

public import proofs.«01_k».proof.Proof.RefCommon
public import proofs.«01_k».proof.Proof.Gen.ReferenceIdeal.Read
public import Idealize.ShloMosaic.Lib.WordCmp
public import Idealize.ShloMosaic.Lib.Pointwise

@[expose] public section

set_option maxRecDepth 16384

noncomputable section

namespace Cert.ReferenceIdeal.Val

open Layer.Ref Idealize.ShloMosaic Idealize.ShloMosaic.TcCoe Idealize.SL.Sem Layer Cert.ReferenceIdeal Cert.ReferenceIdeal.Gen Cert.ReferenceIdeal.Read

/-- The reference's arguments as the layer's arrays. -/
def inR (x0 : S16x2048x1024.Idx → EReal) (x1 : S1024.Idx → EReal) (x2 : S1024x6656.Idx → EReal) (x3 : S4x256x256.Idx → EReal) (x4 : S1024.Idx → EReal)
    (x5 : S1024x1024.Idx → EReal) (x6 : S16.Idx → EReal) (x7 x8 : S1024x1024.Idx → EReal) (x9 : S1024.Idx → EReal) : In where
  x := rd3 (n0 := 16) (n1 := 2048) (n2 := 1024) x0
  g := rd1 (n0 := 1024) x1
  w := rd2 (n0 := 1024) (n1 := 6656) x2
  wpg := rd3 (n0 := 4) (n1 := 256) (n2 := 256) x3
  ps := rd1 (n0 := 1024) x4
  wpp := rd2 (n0 := 1024) (n1 := 1024) x5
  sk := rd1 (n0 := 16) x6
  wap := rd2 (n0 := 1024) (n1 := 1024) x7
  wo := rd2 (n0 := 1024) (n1 := 1024) x8
  gp := rd1 (n0 := 1024) x9

variable (x0 : S16x2048x1024.Idx → EReal) (x1 : S1024.Idx → EReal) (x2 : S1024x6656.Idx → EReal) (x3 : S4x256x256.Idx → EReal) (x4 : S1024.Idx → EReal)
    (x5 : S1024x1024.Idx → EReal) (x6 : S16.Idx → EReal) (x7 x8 : S1024x1024.Idx → EReal) (x9 : S1024.Idx → EReal)

/-! ### The first norm and the input projection -/

theorem h_at (i : S16x2048x1024.Idx) : val_main_v12 (F := Ideal) x0 x1 i = hN (inR x0 x1 x2 x3 x4 x5 x6 x7 x8 x9) (i 0).val (i 1).val (i 2).val := by
  simp only [val_main_v12_apply, val_main_v9_apply, val_main_v11_apply, val_main_v10_apply, val_main_v8_apply, val_main_v7_apply, val_main_v6_apply,
    val_main_v4_apply, val_main_v2_apply, val_main_v1_apply, val_main_v0_apply, val_main_cst_apply, val_main_v3_apply, val_main_cst_0_apply, val_main_v5_apply, val_main_cst_1_apply]
  unfold hN
  rw [rms_fin]
  simp only [rd3_idx (n0 := 16) (n1 := 2048) (n2 := 1024) x0, rd1_idx (n0 := 1024) x1]
  show _ * Ideal.rsqrt (Ideal.div (Ideal.ofBits .f32 0x00000000#32 + _) _ + _) * _ = _
  rw [bits_zero, zero_add]
  rfl

theorem z_at (i : S16x2048x6656.Idx) : val_main_v13 (F := Ideal) x0 x1 x2 i = zP (inR x0 x1 x2 x3 x4 x5 x6 x7 x8 x9) (i 0).val (i 1).val (i 2).val := by
  rw [val_main_v13_apply]
  unfold zP
  rw [← sum_fin]
  refine Finset.sum_congr rfl fun k _ => ?_
  rw [h_at x0 x1 x2 x3 x4 x5 x6 x7 x8 x9, rd2_idx (n0 := 1024) (n1 := 6656) x2]
  rfl

theorem z14 (i : S16x2048x1024.Idx) : val_main_v14 (F := Ideal) x0 x1 x2 i = zP (inR x0 x1 x2 x3 x4 x5 x6 x7 x8 x9) (i 0).val (i 1).val (i 2).val := by
  rw [val_main_v14_apply, z_at x0 x1 x2 x3 x4 x5 x6 x7 x8 x9]

theorem z15 (i : S16x2048x1024.Idx) : val_main_v15 (F := Ideal) x0 x1 x2 i = zP (inR x0 x1 x2 x3 x4 x5 x6 x7 x8 x9) (i 0).val (i 1).val (1024 + (i 2).val) := by
  rw [val_main_v15_apply, z_at x0 x1 x2 x3 x4 x5 x6 x7 x8 x9]

theorem z16 (i : S16x2048x1024.Idx) : val_main_v16 (F := Ideal) x0 x1 x2 i = zP (inR x0 x1 x2 x3 x4 x5 x6 x7 x8 x9) (i 0).val (i 1).val (2048 + (i 2).val) := by
  rw [val_main_v16_apply, z_at x0 x1 x2 x3 x4 x5 x6 x7 x8 x9]

theorem z17 (i : S16x2048x256.Idx) : val_main_v17 (F := Ideal) x0 x1 x2 i = zP (inR x0 x1 x2 x3 x4 x5 x6 x7 x8 x9) (i 0).val (i 1).val (3072 + (i 2).val) := by
  rw [val_main_v17_apply, z_at x0 x1 x2 x3 x4 x5 x6 x7 x8 x9]

theorem z18 (i : S16x2048x256.Idx) : val_main_v18 (F := Ideal) x0 x1 x2 i = zP (inR x0 x1 x2 x3 x4 x5 x6 x7 x8 x9) (i 0).val (i 1).val (3328 + (i 2).val) := by
  rw [val_main_v18_apply, z_at x0 x1 x2 x3 x4 x5 x6 x7 x8 x9]

theorem z19 (i : S16x2048x1024.Idx) : val_main_v19 (F := Ideal) x0 x1 x2 i = zP (inR x0 x1 x2 x3 x4 x5 x6 x7 x8 x9) (i 0).val (i 1).val (3584 + (i 2).val) := by
  rw [val_main_v19_apply, z_at x0 x1 x2 x3 x4 x5 x6 x7 x8 x9]

theorem z20 (i : S16x2048x2048.Idx) : val_main_v20 (F := Ideal) x0 x1 x2 i = zP (inR x0 x1 x2 x3 x4 x5 x6 x7 x8 x9) (i 0).val (i 1).val (4608 + (i 2).val) := by
  rw [val_main_v20_apply, z_at x0 x1 x2 x3 x4 x5 x6 x7 x8 x9]

theorem silu157 (i : S16x2048x1024.Idx) : val_main_v157 (F := Ideal) x0 x1 x2 i = silu (zP (inR x0 x1 x2 x3 x4 x5 x6 x7 x8 x9) (i 0).val (i 1).val (1024 + (i 2).val)) := by
  rw [val_main_v157_apply, val_main_call4_v5_apply, val_main_call4_v4_apply, val_main_call4_v3_apply, val_main_call4_v2_apply, val_main_call4_v1_apply, val_main_call4_v0_apply,
    val_main_call4_cst_apply, val_main_call4_cst_0_apply, z15 x0 x1 x2 x3 x4 x5 x6 x7 x8 x9]
  show _ * Ideal.div (Ideal.ofBits .f32 0x3F800000#32) (Ideal.ofBits .f32 0x3F800000#32 + _) = _
  rw [bits_one]
  rfl

theorem silu256 (i : S16x2048x1024.Idx) : val_main_v256 (F := Ideal) x0 x1 x2 i = silu (zP (inR x0 x1 x2 x3 x4 x5 x6 x7 x8 x9) (i 0).val (i 1).val (3584 + (i 2).val)) := by
  rw [val_main_v256_apply, val_main_call6_v5_apply, val_main_call6_v4_apply, val_main_call6_v3_apply, val_main_call6_v2_apply, val_main_call6_v1_apply, val_main_call6_v0_apply,
    val_main_call6_cst_apply, val_main_call6_cst_0_apply, z19 x0 x1 x2 x3 x4 x5 x6 x7 x8 x9]
  show _ * Ideal.div (Ideal.ofBits .f32 0x3F800000#32) (Ideal.ofBits .f32 0x3F800000#32 + _) = _
  rw [bits_one]
  rfl

theorem sg263 (i : S16x2048x2048.Idx) : val_main_v263 (F := Ideal) x0 x1 x2 i = sg (zP (inR x0 x1 x2 x3 x4 x5 x6 x7 x8 x9) (i 0).val (i 1).val (4608 + (i 2).val)) := by
  rw [val_main_v263_apply, val_main_v262_apply, val_main_v261_apply, val_main_v260_apply, val_main_v259_apply, val_main_v258_apply,
    val_main_cst_38_apply, val_main_cst_39_apply, z20 x0 x1 x2 x3 x4 x5 x6 x7 x8 x9]
  show Ideal.div (Ideal.ofBits .f32 0x3F800000#32) (Ideal.ofBits .f32 0x3F800000#32 + _) = _
  rw [bits_one]
  rfl

/-! ### The pooling groups -/

theorem low0 : ∀ t : Fin 2048, (IntOp.maxsi (IntOp.subi (BitVec.ofNat 32 t.val) 1#32) 0#32).toInt = ((t.val - 1 : ℕ) : ℤ) := by decide +kernel

theorem high0 : ∀ t : Fin 2048, (IntOp.minsi (IntOp.addi (IntOp.subi (BitVec.ofNat 32 t.val) 1#32) 2#32) 2048#32).toInt = ((min (t.val + 1) 2048 : ℕ) : ℤ) := by decide +kernel

theorem many0 : ∀ t : Fin 2048, (IntOp.subi (IntOp.minsi (IntOp.addi (IntOp.subi (BitVec.ofNat 32 t.val) 1#32) 2#32) 2048#32) (IntOp.maxsi (IntOp.subi (BitVec.ofNat 32 t.val) 1#32) 0#32)).toInt
    = ((min (t.val + 1) 2048 - (t.val - 1) : ℕ) : ℤ) := by decide +kernel

theorem mask0 (i : S2048x2048.Idx) : val_main_v44 (F := Ideal) i = if (i 0).val ≤ (i 1).val + 1 ∧ (i 1).val + 1 < (i 0).val + 2 * 1 then 1 else 0 := by
  simp only [val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v21_apply, val_main_c_apply, val_main_c_2_apply, val_main_c_3_apply, val_main_c_4_apply, val_main_c_5_apply,
    val_main_call0_v0_apply, val_main_call0_v1_apply, val_main_cst_6_apply, val_main_cst_7_apply]
  show Scalar.select _ (Ideal.ofBits .f32 0x3F800000#32) (Ideal.ofBits .f32 0x00000000#32) = _
  rw [bits_one, bits_zero]
  exact sel_window (S := 2048) (by decide) _ _ (i 0).val (i 1).val 1 (i 1).isLt (low0 (i 0)) (high0 (i 0)) 1 0

theorem pooled0 (i : S16x2048x256.Idx) : val_main_v52 (F := Ideal) x0 x1 x2 i = pooled 2048 (inR x0 x1 x2 x3 x4 x5 x6 x7 x8 x9) (i 0).val (i 1).val (0 + (i 2).val) := by
  have hc : (0 + (i 2).val) / 256 = 0 := by have := (i 2).isLt; have h : S16x2048x256.size 2 = 256 := rfl; omega
  simp only [val_main_v52_apply, val_main_v51_apply, val_main_v50_apply, val_main_v49_apply, val_main_v48_apply, val_main_v47_apply, val_main_v46_apply, val_main_v45_apply, val_main_v22_apply, val_main_v32_apply, val_main_v31_apply, val_main_v30_apply, val_main_v29_apply, val_main_v28_apply, val_main_v27_apply, val_main_v26_apply, val_main_v25_apply, val_main_v24_apply, val_main_v23_apply, val_main_v21_apply, val_main_c_apply, val_main_c_2_apply, val_main_c_3_apply, val_main_c_4_apply, val_main_c_5_apply, z14 x0 x1 x2 x3 x4 x5 x6 x7 x8 x9, mask0]
  unfold pooled total cnt
  rw [hc, ← pool_sum 2048 _ (hw 0) (2 * hw 0) (fun s => zP (inR x0 x1 x2 x3 x4 x5 x6 x7 x8 x9) (i 0).val s (0 + (i 2).val)), ← sum_fin]
  refine congrArg₂ (fun p q : EReal => p - q) (congrArg₂ Ideal.div (Finset.sum_congr rfl fun k _ => ?_) ?_) ?_
  · refine congrArg₂ (fun p q : EReal => p * q) (congrArg (zP (inR x0 x1 x2 x3 x4 x5 x6 x7 x8 x9) _ _) ?_) rfl
    exact (Nat.zero_add _).symm
  · have e := many0 (i 1)
    show ((((_ : ℤ)) : ℝ) : EReal) = _
    rw [e]
    norm_cast
  · exact congrArg (zP (inR x0 x1 x2 x3 x4 x5 x6 x7 x8 x9) _ _) (Nat.zero_add _).symm

theorem low1 : ∀ t : Fin 2048, (IntOp.maxsi (IntOp.subi (BitVec.ofNat 32 t.val) 2#32) 0#32).toInt = ((t.val - 2 : ℕ) : ℤ) := by decide +kernel

theorem high1 : ∀ t : Fin 2048, (IntOp.minsi (IntOp.addi (IntOp.subi (BitVec.ofNat 32 t.val) 2#32) 4#32) 2048#32).toInt = ((min (t.val + 2) 2048 : ℕ) : ℤ) := by decide +kernel

theorem many1 : ∀ t : Fin 2048, (IntOp.subi (IntOp.minsi (IntOp.addi (IntOp.subi (BitVec.ofNat 32 t.val) 2#32) 4#32) 2048#32) (IntOp.maxsi (IntOp.subi (BitVec.ofNat 32 t.val) 2#32) 0#32)).toInt
    = ((min (t.val + 2) 2048 - (t.val - 2) : ℕ) : ℤ) := by decide +kernel

theorem mask1 (i : S2048x2048.Idx) : val_main_v75 (F := Ideal) i = if (i 0).val ≤ (i 1).val + 2 ∧ (i 1).val + 2 < (i 0).val + 2 * 2 then 1 else 0 := by
  simp only [val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v21_apply, val_main_c_8_apply, val_main_c_9_apply, val_main_c_10_apply, val_main_c_11_apply, val_main_c_12_apply,
    val_main_call1_v0_apply, val_main_call1_v1_apply, val_main_cst_13_apply, val_main_cst_14_apply]
  show Scalar.select _ (Ideal.ofBits .f32 0x3F800000#32) (Ideal.ofBits .f32 0x00000000#32) = _
  rw [bits_one, bits_zero]
  exact sel_window (S := 2048) (by decide) _ _ (i 0).val (i 1).val 2 (i 1).isLt (low1 (i 0)) (high1 (i 0)) 1 0

theorem pooled1 (i : S16x2048x256.Idx) : val_main_v83 (F := Ideal) x0 x1 x2 i = pooled 2048 (inR x0 x1 x2 x3 x4 x5 x6 x7 x8 x9) (i 0).val (i 1).val (256 + (i 2).val) := by
  have hc : (256 + (i 2).val) / 256 = 1 := by have := (i 2).isLt; have h : S16x2048x256.size 2 = 256 := rfl; omega
  simp only [val_main_v83_apply, val_main_v82_apply, val_main_v81_apply, val_main_v80_apply, val_main_v79_apply, val_main_v78_apply, val_main_v77_apply, val_main_v76_apply, val_main_v53_apply, val_main_v63_apply, val_main_v62_apply, val_main_v61_apply, val_main_v60_apply, val_main_v59_apply, val_main_v58_apply, val_main_v57_apply, val_main_v56_apply, val_main_v55_apply, val_main_v54_apply, val_main_v21_apply, val_main_c_8_apply, val_main_c_9_apply, val_main_c_10_apply, val_main_c_11_apply, val_main_c_12_apply, z14 x0 x1 x2 x3 x4 x5 x6 x7 x8 x9, mask1]
  unfold pooled total cnt
  rw [hc, ← pool_sum 2048 _ (hw 1) (2 * hw 1) (fun s => zP (inR x0 x1 x2 x3 x4 x5 x6 x7 x8 x9) (i 0).val s (256 + (i 2).val)), ← sum_fin]
  refine congrArg₂ (fun p q : EReal => p - q) (congrArg₂ Ideal.div (Finset.sum_congr rfl fun k _ => ?_) ?_) ?_
  · refine congrArg₂ (fun p q : EReal => p * q) (congrArg (zP (inR x0 x1 x2 x3 x4 x5 x6 x7 x8 x9) _ _) ?_) rfl
    exact rfl
  · have e := many1 (i 1)
    show ((((_ : ℤ)) : ℝ) : EReal) = _
    rw [e]
    norm_cast
  · exact congrArg (zP (inR x0 x1 x2 x3 x4 x5 x6 x7 x8 x9) _ _) rfl

theorem low2 : ∀ t : Fin 2048, (IntOp.maxsi (IntOp.subi (BitVec.ofNat 32 t.val) 4#32) 0#32).toInt = ((t.val - 4 : ℕ) : ℤ) := by decide +kernel

theorem high2 : ∀ t : Fin 2048, (IntOp.minsi (IntOp.addi (IntOp.subi (BitVec.ofNat 32 t.val) 4#32) 8#32) 2048#32).toInt = ((min (t.val + 4) 2048 : ℕ) : ℤ) := by decide +kernel

theorem many2 : ∀ t : Fin 2048, (IntOp.subi (IntOp.minsi (IntOp.addi (IntOp.subi (BitVec.ofNat 32 t.val) 4#32) 8#32) 2048#32) (IntOp.maxsi (IntOp.subi (BitVec.ofNat 32 t.val) 4#32) 0#32)).toInt
    = ((min (t.val + 4) 2048 - (t.val - 4) : ℕ) : ℤ) := by decide +kernel

theorem mask2 (i : S2048x2048.Idx) : val_main_v106 (F := Ideal) i = if (i 0).val ≤ (i 1).val + 4 ∧ (i 1).val + 4 < (i 0).val + 2 * 4 then 1 else 0 := by
  simp only [val_main_v106_apply, val_main_v105_apply, val_main_v104_apply, val_main_v103_apply, val_main_v102_apply, val_main_v101_apply, val_main_v100_apply, val_main_v99_apply, val_main_v98_apply, val_main_v97_apply, val_main_v96_apply, val_main_v95_apply, val_main_v94_apply, val_main_v93_apply, val_main_v92_apply, val_main_v91_apply, val_main_v90_apply, val_main_v89_apply, val_main_v88_apply, val_main_v87_apply, val_main_v86_apply, val_main_v85_apply, val_main_v21_apply, val_main_c_15_apply, val_main_c_16_apply, val_main_c_17_apply, val_main_c_18_apply, val_main_c_19_apply,
    val_main_call2_v0_apply, val_main_call2_v1_apply, val_main_cst_20_apply, val_main_cst_21_apply]
  show Scalar.select _ (Ideal.ofBits .f32 0x3F800000#32) (Ideal.ofBits .f32 0x00000000#32) = _
  rw [bits_one, bits_zero]
  exact sel_window (S := 2048) (by decide) _ _ (i 0).val (i 1).val 4 (i 1).isLt (low2 (i 0)) (high2 (i 0)) 1 0

theorem pooled2 (i : S16x2048x256.Idx) : val_main_v114 (F := Ideal) x0 x1 x2 i = pooled 2048 (inR x0 x1 x2 x3 x4 x5 x6 x7 x8 x9) (i 0).val (i 1).val (512 + (i 2).val) := by
  have hc : (512 + (i 2).val) / 256 = 2 := by have := (i 2).isLt; have h : S16x2048x256.size 2 = 256 := rfl; omega
  simp only [val_main_v114_apply, val_main_v113_apply, val_main_v112_apply, val_main_v111_apply, val_main_v110_apply, val_main_v109_apply, val_main_v108_apply, val_main_v107_apply, val_main_v84_apply, val_main_v94_apply, val_main_v93_apply, val_main_v92_apply, val_main_v91_apply, val_main_v90_apply, val_main_v89_apply, val_main_v88_apply, val_main_v87_apply, val_main_v86_apply, val_main_v85_apply, val_main_v21_apply, val_main_c_15_apply, val_main_c_16_apply, val_main_c_17_apply, val_main_c_18_apply, val_main_c_19_apply, z14 x0 x1 x2 x3 x4 x5 x6 x7 x8 x9, mask2]
  unfold pooled total cnt
  rw [hc, ← pool_sum 2048 _ (hw 2) (2 * hw 2) (fun s => zP (inR x0 x1 x2 x3 x4 x5 x6 x7 x8 x9) (i 0).val s (512 + (i 2).val)), ← sum_fin]
  refine congrArg₂ (fun p q : EReal => p - q) (congrArg₂ Ideal.div (Finset.sum_congr rfl fun k _ => ?_) ?_) ?_
  · refine congrArg₂ (fun p q : EReal => p * q) (congrArg (zP (inR x0 x1 x2 x3 x4 x5 x6 x7 x8 x9) _ _) ?_) rfl
    exact rfl
  · have e := many2 (i 1)
    show ((((_ : ℤ)) : ℝ) : EReal) = _
    rw [e]
    norm_cast
  · exact congrArg (zP (inR x0 x1 x2 x3 x4 x5 x6 x7 x8 x9) _ _) rfl

theorem low3 : ∀ t : Fin 2048, (IntOp.maxsi (IntOp.subi (BitVec.ofNat 32 t.val) 8#32) 0#32).toInt = ((t.val - 8 : ℕ) : ℤ) := by decide +kernel

theorem high3 : ∀ t : Fin 2048, (IntOp.minsi (IntOp.addi (IntOp.subi (BitVec.ofNat 32 t.val) 8#32) 16#32) 2048#32).toInt = ((min (t.val + 8) 2048 : ℕ) : ℤ) := by decide +kernel

theorem many3 : ∀ t : Fin 2048, (IntOp.subi (IntOp.minsi (IntOp.addi (IntOp.subi (BitVec.ofNat 32 t.val) 8#32) 16#32) 2048#32) (IntOp.maxsi (IntOp.subi (BitVec.ofNat 32 t.val) 8#32) 0#32)).toInt
    = ((min (t.val + 8) 2048 - (t.val - 8) : ℕ) : ℤ) := by decide +kernel

theorem mask3 (i : S2048x2048.Idx) : val_main_v137 (F := Ideal) i = if (i 0).val ≤ (i 1).val + 8 ∧ (i 1).val + 8 < (i 0).val + 2 * 8 then 1 else 0 := by
  simp only [val_main_v137_apply, val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply, val_main_v123_apply, val_main_v122_apply, val_main_v121_apply, val_main_v120_apply, val_main_v119_apply, val_main_v118_apply, val_main_v117_apply, val_main_v116_apply, val_main_v21_apply, val_main_c_22_apply, val_main_c_23_apply, val_main_c_24_apply, val_main_c_25_apply, val_main_c_26_apply,
    val_main_call3_v0_apply, val_main_call3_v1_apply, val_main_cst_27_apply, val_main_cst_28_apply]
  show Scalar.select _ (Ideal.ofBits .f32 0x3F800000#32) (Ideal.ofBits .f32 0x00000000#32) = _
  rw [bits_one, bits_zero]
  exact sel_window (S := 2048) (by decide) _ _ (i 0).val (i 1).val 8 (i 1).isLt (low3 (i 0)) (high3 (i 0)) 1 0

theorem pooled3 (i : S16x2048x256.Idx) : val_main_v145 (F := Ideal) x0 x1 x2 i = pooled 2048 (inR x0 x1 x2 x3 x4 x5 x6 x7 x8 x9) (i 0).val (i 1).val (768 + (i 2).val) := by
  have hc : (768 + (i 2).val) / 256 = 3 := by have := (i 2).isLt; have h : S16x2048x256.size 2 = 256 := rfl; omega
  simp only [val_main_v145_apply, val_main_v144_apply, val_main_v143_apply, val_main_v142_apply, val_main_v141_apply, val_main_v140_apply, val_main_v139_apply, val_main_v138_apply, val_main_v115_apply, val_main_v125_apply, val_main_v124_apply, val_main_v123_apply, val_main_v122_apply, val_main_v121_apply, val_main_v120_apply, val_main_v119_apply, val_main_v118_apply, val_main_v117_apply, val_main_v116_apply, val_main_v21_apply, val_main_c_22_apply, val_main_c_23_apply, val_main_c_24_apply, val_main_c_25_apply, val_main_c_26_apply, z14 x0 x1 x2 x3 x4 x5 x6 x7 x8 x9, mask3]
  unfold pooled total cnt
  rw [hc, ← pool_sum 2048 _ (hw 3) (2 * hw 3) (fun s => zP (inR x0 x1 x2 x3 x4 x5 x6 x7 x8 x9) (i 0).val s (768 + (i 2).val)), ← sum_fin]
  refine congrArg₂ (fun p q : EReal => p - q) (congrArg₂ Ideal.div (Finset.sum_congr rfl fun k _ => ?_) ?_) ?_
  · refine congrArg₂ (fun p q : EReal => p * q) (congrArg (zP (inR x0 x1 x2 x3 x4 x5 x6 x7 x8 x9) _ _) ?_) rfl
    exact rfl
  · have e := many3 (i 1)
    show ((((_ : ℤ)) : ℝ) : EReal) = _
    rw [e]
    norm_cast
  · exact congrArg (zP (inR x0 x1 x2 x3 x4 x5 x6 x7 x8 x9) _ _) rfl

end Cert.ReferenceIdeal.Val
-- ==== Proof.RefB.lean ====
module

public import proofs.«01_k».proof.Proof.RefA
public import proofs.«01_k».proof.Proof.Gen.ReferenceIdeal.Read
public import Idealize.ShloMosaic.Lib.WordCmp
public import Idealize.ShloMosaic.Lib.Pointwise

@[expose] public section

set_option maxRecDepth 16384

noncomputable section

namespace Cert.ReferenceIdeal.Val

open Layer.Ref Idealize.ShloMosaic Idealize.ShloMosaic.TcCoe Idealize.SL.Sem Layer Cert.ReferenceIdeal Cert.ReferenceIdeal.Gen Cert.ReferenceIdeal.Read

variable (x0 : S16x2048x1024.Idx → EReal) (x1 : S1024.Idx → EReal) (x2 : S1024x6656.Idx → EReal) (x3 : S4x256x256.Idx → EReal) (x4 : S1024.Idx → EReal)
    (x5 : S1024x1024.Idx → EReal) (x6 : S16.Idx → EReal) (x7 x8 : S1024x1024.Idx → EReal) (x9 : S1024.Idx → EReal)

theorem stack_at (i : S16x2048x4x256.Idx) : val_main_v150 (F := Ideal) x0 x1 x2 i = pooled 2048 (inR x0 x1 x2 x3 x4 x5 x6 x7 x8 x9) (i 0).val (i 1).val ((i 2).val * 256 + (i 3).val) := by
  unfold val_main_v150
  pointwise
  have h2 : (i 2).val < 4 := (i 2).isLt
  by_cases a0 : (i 2).val < 1
  · refine (dif_pos a0).trans ?_
    rw [val_main_v146_apply, pooled0 x0 x1 x2 x3 x4 x5 x6 x7 x8 x9]
    exact congrArg (pooled 2048 (inR x0 x1 x2 x3 x4 x5 x6 x7 x8 x9) _ _) (show 0 + (i 3).val = (i 2).val * 256 + (i 3).val by omega)
  refine (dif_neg a0).trans ?_
  by_cases a1 : (i 2).val - 1 < 1
  · refine (dif_pos a1).trans ?_
    rw [val_main_v147_apply, pooled1 x0 x1 x2 x3 x4 x5 x6 x7 x8 x9]
    exact congrArg (pooled 2048 (inR x0 x1 x2 x3 x4 x5 x6 x7 x8 x9) _ _) (show 256 + (i 3).val = (i 2).val * 256 + (i 3).val by omega)
  refine (dif_neg a1).trans ?_
  by_cases a2 : (i 2).val - 1 - 1 < 1
  · refine (dif_pos a2).trans ?_
    rw [val_main_v148_apply, pooled2 x0 x1 x2 x3 x4 x5 x6 x7 x8 x9]
    exact congrArg (pooled 2048 (inR x0 x1 x2 x3 x4 x5 x6 x7 x8 x9) _ _) (show 512 + (i 3).val = (i 2).val * 256 + (i 3).val by omega)
  refine (dif_neg a2).trans ?_
  rw [val_main_v149_apply, pooled3 x0 x1 x2 x3 x4 x5 x6 x7 x8 x9]
  exact congrArg (pooled 2048 (inR x0 x1 x2 x3 x4 x5 x6 x7 x8 x9) _ _) (show 768 + (i 3).val = (i 2).val * 256 + (i 3).val by omega)

theorem mix_at (i : S16x2048x1024.Idx) : val_main_v153 (F := Ideal) x0 x1 x2 x3 i
    = ∑ k ∈ Finset.range 256, pooled 2048 (inR x0 x1 x2 x3 x4 x5 x6 x7 x8 x9) (i 0).val (i 1).val ((i 2).val / 256 * 256 + k) * (inR x0 x1 x2 x3 x4 x5 x6 x7 x8 x9).wpg ((i 2).val / 256) k ((i 2).val % 256) := by
  have h0 : (i 0).val < 16 := (i 0).isLt
  have h1 : (i 1).val < 2048 := (i 1).isLt
  have h2 : (i 2).val < 1024 := (i 2).isLt
  rw [val_main_v153_apply, val_main_v152_apply, val_main_v151_apply, ← sum_fin]
  refine Finset.sum_congr rfl fun k _ => ?_
  rw [stack_at x0 x1 x2 x3 x4 x5 x6 x7 x8 x9, rd3_idx (n0 := 4) (n1 := 256) (n2 := 256) x3, mul_comm]
  have e0 : (((i 0).val * 2048 + (i 1).val) * 1024 + (i 2).val) / 2097152 = (i 0).val := by omega
  have e1 : (((i 0).val * 2048 + (i 1).val) * 1024 + (i 2).val) / 1024 % 2048 = (i 1).val := by omega
  have e2 : (((i 0).val * 2048 + (i 1).val) * 1024 + (i 2).val) / 256 % 4 = (i 2).val / 256 := by omega
  have e3 : (((i 0).val * 2048 + (i 1).val) * 1024 + (i 2).val) % 256 = (i 2).val % 256 := by omega
  show pooled 2048 (inR x0 x1 x2 x3 x4 x5 x6 x7 x8 x9) ((((i 0).val * 2048 + (i 1).val) * 1024 + (i 2).val) / 2097152) ((((i 0).val * 2048 + (i 1).val) * 1024 + (i 2).val) / 1024 % 2048)
      ((((i 0).val * 2048 + (i 1).val) * 1024 + (i 2).val) / 256 % 4 * 256 + k.val)
    * rd3 (n0 := 4) (n1 := 256) (n2 := 256) x3 ((((i 0).val * 2048 + (i 1).val) * 1024 + (i 2).val) / 256 % 4) k.val ((((i 0).val * 2048 + (i 1).val) * 1024 + (i 2).val) % 256) = _
  rw [e0, e1, e2, e3]
  rfl

theorem pb_at (i : S16x2048x1024.Idx) : val_main_v158 (F := Ideal) x0 x1 x2 x3 x4 i = pbG 2048 (inR x0 x1 x2 x3 x4 x5 x6 x7 x8 x9) (i 0).val (i 1).val (i 2).val := by
  rw [val_main_v158_apply, val_main_v156_apply, val_main_v155_apply, val_main_v154_apply, mix_at x0 x1 x2 x3 x4 x5 x6 x7 x8 x9, silu157 x0 x1 x2 x3 x4 x5 x6 x7 x8 x9, rd1_idx (n0 := 1024) x4]
  rfl

/-! ### Rotary -/

theorem ang_q (i : S2048x32.Idx) : val_main_v172 (F := Ideal) i = ang (i 0).val (i 1).val := by
  simp only [val_main_v172_apply, val_main_v171_apply, val_main_v170_apply, val_main_v169_apply, val_main_v168_apply, val_main_v167_apply, val_main_v166_apply, val_main_v165_apply, val_main_v164_apply, val_main_v163_apply, val_main_v162_apply, val_main_v161_apply, val_main_cst_29_apply, val_main_cst_30_apply]
  exact ang_eq (S := 2048) (by decide) (i 0).val (i 1).val (i 0).isLt (i 1).isLt

theorem ang_k (i : S2048x32.Idx) : val_main_v203 (F := Ideal) i = ang (i 0).val (i 1).val := by
  simp only [val_main_v203_apply, val_main_v202_apply, val_main_v201_apply, val_main_v200_apply, val_main_v199_apply, val_main_v198_apply, val_main_v197_apply, val_main_v196_apply, val_main_v195_apply, val_main_v194_apply, val_main_v193_apply, val_main_v192_apply, val_main_cst_31_apply, val_main_cst_32_apply]
  exact ang_eq (S := 2048) (by decide) (i 0).val (i 1).val (i 0).isLt (i 1).isLt

theorem lanes_q (i : S16x2048x16x64.Idx) : val_main_v159 (F := Ideal) x0 x1 x2 i = zP (inR x0 x1 x2 x3 x4 x5 x6 x7 x8 x9) (i 0).val (i 1).val (2048 + (i 2).val * 64 + (i 3).val) := by
  have h0 : (i 0).val < 16 := (i 0).isLt
  have h1 : (i 1).val < 2048 := (i 1).isLt
  have h2 : (i 2).val < 16 := (i 2).isLt
  have h3 : (i 3).val < 64 := (i 3).isLt
  rw [val_main_v159_apply, z16 x0 x1 x2 x3 x4 x5 x6 x7 x8 x9]
  have e0 : ((((i 0).val * 2048 + (i 1).val) * 16 + (i 2).val) * 64 + (i 3).val) / 2097152 = (i 0).val := by omega
  have e1 : ((((i 0).val * 2048 + (i 1).val) * 16 + (i 2).val) * 64 + (i 3).val) / 1024 % 2048 = (i 1).val := by omega
  have e2 : ((((i 0).val * 2048 + (i 1).val) * 16 + (i 2).val) * 64 + (i 3).val) % 1024 = (i 2).val * 64 + (i 3).val := by omega
  show zP (inR x0 x1 x2 x3 x4 x5 x6 x7 x8 x9) (((((i 0).val * 2048 + (i 1).val) * 16 + (i 2).val) * 64 + (i 3).val) / 2097152) (((((i 0).val * 2048 + (i 1).val) * 16 + (i 2).val) * 64 + (i 3).val) / 1024 % 2048)
    (2048 + ((((i 0).val * 2048 + (i 1).val) * 16 + (i 2).val) * 64 + (i 3).val) % 1024) = _
  rw [e0, e1, e2, Nat.add_assoc]

theorem left_q (i : S16x2048x16x32.Idx) : val_main_v183 (F := Ideal) x0 x1 x2 i
    = zP (inR x0 x1 x2 x3 x4 x5 x6 x7 x8 x9) (i 0).val (i 1).val (2048 + (i 2).val * 64 + (i 3).val) * Ideal.cos (ang (i 1).val (i 3).val)
      - zP (inR x0 x1 x2 x3 x4 x5 x6 x7 x8 x9) (i 0).val (i 1).val (2048 + (i 2).val * 64 + ((i 3).val + 32)) * Ideal.sin (ang (i 1).val (i 3).val) := by
  simp only [val_main_v183_apply, val_main_v182_apply, val_main_v181_apply, val_main_v180_apply, val_main_v179_apply, val_main_v178_apply, val_main_v177_apply, val_main_v176_apply, val_main_v175_apply, val_main_v174_apply, val_main_v173_apply, lanes_q x0 x1 x2 x3 x4 x5 x6 x7 x8 x9, ang_q]
  rw [Nat.add_comm (i 3).val 32]
  rfl

theorem right_q (i : S16x2048x16x32.Idx) : val_main_v188 (F := Ideal) x0 x1 x2 i
    = zP (inR x0 x1 x2 x3 x4 x5 x6 x7 x8 x9) (i 0).val (i 1).val (2048 + (i 2).val * 64 + ((i 3).val + 32)) * Ideal.cos (ang (i 1).val (i 3).val)
      + zP (inR x0 x1 x2 x3 x4 x5 x6 x7 x8 x9) (i 0).val (i 1).val (2048 + (i 2).val * 64 + (i 3).val) * Ideal.sin (ang (i 1).val (i 3).val) := by
  simp only [val_main_v188_apply, val_main_v187_apply, val_main_v186_apply, val_main_v185_apply, val_main_v184_apply, val_main_v178_apply, val_main_v177_apply, val_main_v176_apply, val_main_v175_apply, val_main_v174_apply, val_main_v173_apply, lanes_q x0 x1 x2 x3 x4 x5 x6 x7 x8 x9, ang_q]
  rw [Nat.add_comm (i 3).val 32]
  rfl

theorem rot_q (i : S16x2048x16x64.Idx) : val_main_v189 (F := Ideal) x0 x1 x2 i = qR (inR x0 x1 x2 x3 x4 x5 x6 x7 x8 x9) (i 0).val (i 1).val (i 2).val (i 3).val := by
  unfold val_main_v189
  pointwise
  unfold qR rot
  by_cases h : (i 3).val < 32
  · refine (dif_pos h).trans ((left_q x0 x1 x2 x3 x4 x5 x6 x7 x8 x9 _).trans (Eq.trans ?_ (if_pos h).symm))
    rfl
  · refine (dif_neg h).trans ((right_q x0 x1 x2 x3 x4 x5 x6 x7 x8 x9 _).trans (Eq.trans ?_ (if_neg h).symm))
    have e : (i 3).val - 32 + 32 = (i 3).val := by omega
    show zP (inR x0 x1 x2 x3 x4 x5 x6 x7 x8 x9) (i 0).val (i 1).val (2048 + (i 2).val * 64 + ((i 3).val - 32 + 32)) * _ + _ = _
    rw [e]
    rfl

theorem lanes_k (i : S16x2048x4x64.Idx) : val_main_v190 (F := Ideal) x0 x1 x2 i = zP (inR x0 x1 x2 x3 x4 x5 x6 x7 x8 x9) (i 0).val (i 1).val (3072 + (i 2).val * 64 + (i 3).val) := by
  have h0 : (i 0).val < 16 := (i 0).isLt
  have h1 : (i 1).val < 2048 := (i 1).isLt
  have h2 : (i 2).val < 4 := (i 2).isLt
  have h3 : (i 3).val < 64 := (i 3).isLt
  rw [val_main_v190_apply, z17 x0 x1 x2 x3 x4 x5 x6 x7 x8 x9]
  have e0 : ((((i 0).val * 2048 + (i 1).val) * 4 + (i 2).val) * 64 + (i 3).val) / 524288 = (i 0).val := by omega
  have e1 : ((((i 0).val * 2048 + (i 1).val) * 4 + (i 2).val) * 64 + (i 3).val) / 256 % 2048 = (i 1).val := by omega
  have e2 : ((((i 0).val * 2048 + (i 1).val) * 4 + (i 2).val) * 64 + (i 3).val) % 256 = (i 2).val * 64 + (i 3).val := by omega
  show zP (inR x0 x1 x2 x3 x4 x5 x6 x7 x8 x9) (((((i 0).val * 2048 + (i 1).val) * 4 + (i 2).val) * 64 + (i 3).val) / 524288) (((((i 0).val * 2048 + (i 1).val) * 4 + (i 2).val) * 64 + (i 3).val) / 256 % 2048)
    (3072 + ((((i 0).val * 2048 + (i 1).val) * 4 + (i 2).val) * 64 + (i 3).val) % 256) = _
  rw [e0, e1, e2, Nat.add_assoc]

theorem left_k (i : S16x2048x4x32.Idx) : val_main_v214 (F := Ideal) x0 x1 x2 i
    = zP (inR x0 x1 x2 x3 x4 x5 x6 x7 x8 x9) (i 0).val (i 1).val (3072 + (i 2).val * 64 + (i 3).val) * Ideal.cos (ang (i 1).val (i 3).val)
      - zP (inR x0 x1 x2 x3 x4 x5 x6 x7 x8 x9) (i 0).val (i 1).val (3072 + (i 2).val * 64 + ((i 3).val + 32)) * Ideal.sin (ang (i 1).val (i 3).val) := by
  simp only [val_main_v214_apply, val_main_v213_apply, val_main_v212_apply, val_main_v211_apply, val_main_v210_apply, val_main_v209_apply, val_main_v208_apply, val_main_v207_apply, val_main_v206_apply, val_main_v205_apply, val_main_v204_apply, lanes_k x0 x1 x2 x3 x4 x5 x6 x7 x8 x9, ang_k]
  rw [Nat.add_comm (i 3).val 32]
  rfl

theorem right_k (i : S16x2048x4x32.Idx) : val_main_v219 (F := Ideal) x0 x1 x2 i
    = zP (inR x0 x1 x2 x3 x4 x5 x6 x7 x8 x9) (i 0).val (i 1).val (3072 + (i 2).val * 64 + ((i 3).val + 32)) * Ideal.cos (ang (i 1).val (i 3).val)
      + zP (inR x0 x1 x2 x3 x4 x5 x6 x7 x8 x9) (i 0).val (i 1).val (3072 + (i 2).val * 64 + (i 3).val) * Ideal.sin (ang (i 1).val (i 3).val) := by
  simp only [val_main_v219_apply, val_main_v218_apply, val_main_v217_apply, val_main_v216_apply, val_main_v215_apply, val_main_v209_apply, val_main_v208_apply, val_main_v207_apply, val_main_v206_apply, val_main_v205_apply, val_main_v204_apply, lanes_k x0 x1 x2 x3 x4 x5 x6 x7 x8 x9, ang_k]
  rw [Nat.add_comm (i 3).val 32]
  rfl

theorem rot_k (i : S16x2048x4x64.Idx) : val_main_v220 (F := Ideal) x0 x1 x2 i = kR (inR x0 x1 x2 x3 x4 x5 x6 x7 x8 x9) (i 0).val (i 1).val (i 2).val (i 3).val := by
  unfold val_main_v220
  pointwise
  unfold kR rot
  by_cases h : (i 3).val < 32
  · refine (dif_pos h).trans ((left_k x0 x1 x2 x3 x4 x5 x6 x7 x8 x9 _).trans (Eq.trans ?_ (if_pos h).symm))
    rfl
  · refine (dif_neg h).trans ((right_k x0 x1 x2 x3 x4 x5 x6 x7 x8 x9 _).trans (Eq.trans ?_ (if_neg h).symm))
    have e : (i 3).val - 32 + 32 = (i 3).val := by omega
    show zP (inR x0 x1 x2 x3 x4 x5 x6 x7 x8 x9) (i 0).val (i 1).val (3072 + (i 2).val * 64 + ((i 3).val - 32 + 32)) * _ + _ = _
    rw [e]
    rfl

end Cert.ReferenceIdeal.Val
-- ==== Proof.RefC.lean ====
module

public import proofs.«01_k».proof.Proof.RefB
public import proofs.«01_k».proof.Proof.Gen.ReferenceIdeal.Read
public import Idealize.ShloMosaic.Lib.WordCmp
public import Idealize.ShloMosaic.Lib.Pointwise

@[expose] public section

set_option maxRecDepth 16384

noncomputable section

namespace Cert.ReferenceIdeal.Val

open Layer.Ref Idealize.ShloMosaic Idealize.ShloMosaic.TcCoe Idealize.SL.Sem Layer Cert.ReferenceIdeal Cert.ReferenceIdeal.Gen Cert.ReferenceIdeal.Read

variable (x0 : S16x2048x1024.Idx → EReal) (x1 : S1024.Idx → EReal) (x2 : S1024x6656.Idx → EReal) (x3 : S4x256x256.Idx → EReal) (x4 : S1024.Idx → EReal)
    (x5 : S1024x1024.Idx → EReal) (x6 : S16.Idx → EReal) (x7 x8 : S1024x1024.Idx → EReal) (x9 : S1024.Idx → EReal)

/-! ### Scores -/

theorem heads_at (i : S16x2048x4x4x64.Idx) : val_main_v222 (F := Ideal) x0 x1 x2 i = qR (inR x0 x1 x2 x3 x4 x5 x6 x7 x8 x9) (i 0).val (i 1).val ((i 2).val * 4 + (i 3).val) (i 4).val := by
  have h0 : (i 0).val < 16 := (i 0).isLt
  have h1 : (i 1).val < 2048 := (i 1).isLt
  have h2 : (i 2).val < 4 := (i 2).isLt
  have h3 : (i 3).val < 4 := (i 3).isLt
  have h4 : (i 4).val < 64 := (i 4).isLt
  rw [val_main_v222_apply, rot_q x0 x1 x2 x3 x4 x5 x6 x7 x8 x9]
  have e0 : (((((i 0).val * 2048 + (i 1).val) * 4 + (i 2).val) * 4 + (i 3).val) * 64 + (i 4).val) / 2097152 = (i 0).val := by omega
  have e1 : (((((i 0).val * 2048 + (i 1).val) * 4 + (i 2).val) * 4 + (i 3).val) * 64 + (i 4).val) / 1024 % 2048 = (i 1).val := by omega
  have e2 : (((((i 0).val * 2048 + (i 1).val) * 4 + (i 2).val) * 4 + (i 3).val) * 64 + (i 4).val) / 64 % 16 = (i 2).val * 4 + (i 3).val := by omega
  have e3 : (((((i 0).val * 2048 + (i 1).val) * 4 + (i 2).val) * 4 + (i 3).val) * 64 + (i 4).val) % 64 = (i 4).val := by omega
  show qR (inR x0 x1 x2 x3 x4 x5 x6 x7 x8 x9) ((((((i 0).val * 2048 + (i 1).val) * 4 + (i 2).val) * 4 + (i 3).val) * 64 + (i 4).val) / 2097152) ((((((i 0).val * 2048 + (i 1).val) * 4 + (i 2).val) * 4 + (i 3).val) * 64 + (i 4).val) / 1024 % 2048)
    ((((((i 0).val * 2048 + (i 1).val) * 4 + (i 2).val) * 4 + (i 3).val) * 64 + (i 4).val) / 64 % 16) ((((((i 0).val * 2048 + (i 1).val) * 4 + (i 2).val) * 4 + (i 3).val) * 64 + (i 4).val) % 64) = _
  rw [e0, e1, e2, e3]

theorem values_at (i : S16x2048x4x64.Idx) : val_main_v221 (F := Ideal) x0 x1 x2 i = vV (inR x0 x1 x2 x3 x4 x5 x6 x7 x8 x9) (i 0).val (i 1).val (i 2).val (i 3).val := by
  have h0 : (i 0).val < 16 := (i 0).isLt
  have h1 : (i 1).val < 2048 := (i 1).isLt
  have h2 : (i 2).val < 4 := (i 2).isLt
  have h3 : (i 3).val < 64 := (i 3).isLt
  rw [val_main_v221_apply, z18 x0 x1 x2 x3 x4 x5 x6 x7 x8 x9]
  have e0 : ((((i 0).val * 2048 + (i 1).val) * 4 + (i 2).val) * 64 + (i 3).val) / 524288 = (i 0).val := by omega
  have e1 : ((((i 0).val * 2048 + (i 1).val) * 4 + (i 2).val) * 64 + (i 3).val) / 256 % 2048 = (i 1).val := by omega
  have e2 : ((((i 0).val * 2048 + (i 1).val) * 4 + (i 2).val) * 64 + (i 3).val) % 256 = (i 2).val * 64 + (i 3).val := by omega
  show zP (inR x0 x1 x2 x3 x4 x5 x6 x7 x8 x9) (((((i 0).val * 2048 + (i 1).val) * 4 + (i 2).val) * 64 + (i 3).val) / 524288) (((((i 0).val * 2048 + (i 1).val) * 4 + (i 2).val) * 64 + (i 3).val) / 256 % 2048)
    (3328 + ((((i 0).val * 2048 + (i 1).val) * 4 + (i 2).val) * 64 + (i 3).val) % 256) = _
  rw [e0, e1, e2, ← Nat.add_assoc]
  rfl

theorem score_at (i : S16x4x4x2048x2048.Idx) : val_main_v235 (F := Ideal) x0 x1 x2 i = scS (inR x0 x1 x2 x3 x4 x5 x6 x7 x8 x9) (i 0).val (i 3).val ((i 1).val * 4 + (i 2).val) (i 4).val := by
  have h2 : (i 2).val < 4 := (i 2).isLt
  have e : ((i 1).val * 4 + (i 2).val) / 4 = (i 1).val := by omega
  rw [val_main_v235_apply, val_main_v233_apply, val_main_v232_apply, val_main_v234_apply, val_main_cst_34_apply]
  unfold scS
  rw [e, ← sum_fin]
  refine congrArg (fun p : EReal => p * Ideal.ofBits .f32 0x3E000000#32) (Finset.sum_congr rfl fun k _ => ?_)
  rw [rot_k x0 x1 x2 x3 x4 x5 x6 x7 x8 x9, heads_at x0 x1 x2 x3 x4 x5 x6 x7 x8 x9, mul_comm]

theorem logit_at (i : S16x4x4x2048x2048.Idx) : val_main_v236 (F := Ideal) x0 x1 x2 i
    = logit (i 3).val (scS (inR x0 x1 x2 x3 x4 x5 x6 x7 x8 x9) (i 0).val (i 3).val ((i 1).val * 4 + (i 2).val)) (i 4).val := by
  rw [val_main_v236_apply, score_at x0 x1 x2 x3 x4 x5 x6 x7 x8 x9]
  simp only [val_main_call5_v1_apply, val_main_call5_v2_apply, val_main_call5_v0_apply, val_main_cst_35_apply, val_main_v231_apply, val_main_v230_apply, val_main_v229_apply,
    val_main_v228_apply, val_main_v227_apply, val_main_v226_apply, val_main_v225_apply, val_main_v224_apply, val_main_v223_apply, val_main_c_33_apply]
  refine (band (S := 2048) (by decide) (i 3).val (i 4).val (i 3).isLt (i 4).isLt _ _).trans ?_
  show (if _ then _ else Ideal.ofBits .f32 0xFF800000#32) = _
  rw [bits_bot]
  rfl

theorem best_at (i : S16x4x4x2048.Idx) : val_main_v238 (F := Ideal) x0 x1 x2 i
    = (Finset.range 2048).sup (logit (i 3).val (scS (inR x0 x1 x2 x3 x4 x5 x6 x7 x8 x9) (i 0).val (i 3).val ((i 1).val * 4 + (i 2).val))) := by
  unfold val_main_v238
  pointwise
  show Finset.fold max (Ideal.ofBits .f32 0xFF800000#32) _ _ = _
  rw [bits_bot, ← fold_max_fin]
  refine congrArg (fun f => Finset.fold max ⊥ f (Finset.univ : Finset (Fin 2048))) (funext fun k => ?_)
  rw [logit_at x0 x1 x2 x3 x4 x5 x6 x7 x8 x9]
  rfl

theorem sink_at (i : S1x4x4x1x1.Idx) : val_main_v237 (F := Ideal) x6 i = rd1 (n0 := 16) x6 ((i 1).val * 4 + (i 2).val) := by
  have h0 : (i 0).val < 1 := (i 0).isLt
  have h3 : (i 3).val < 1 := (i 3).isLt
  have h4 : (i 4).val < 1 := (i 4).isLt
  rw [val_main_v237_apply, rd1_idx (n0 := 16) x6]
  exact congrArg (rd1 (n0 := 16) x6) (show ((((i 0).val * 4 + (i 1).val) * 4 + (i 2).val) * 1 + (i 3).val) * 1 + (i 4).val = (i 1).val * 4 + (i 2).val by omega)

theorem top_at (i : S16x4x4x2048x1.Idx) : val_main_v241 (F := Ideal) x0 x1 x2 x6 i
    = rowTop 2048 (i 3).val (scS (inR x0 x1 x2 x3 x4 x5 x6 x7 x8 x9) (i 0).val (i 3).val ((i 1).val * 4 + (i 2).val)) ((inR x0 x1 x2 x3 x4 x5 x6 x7 x8 x9).sk ((i 1).val * 4 + (i 2).val)) := by
  rw [val_main_v241_apply, val_main_v239_apply, val_main_v240_apply, best_at x0 x1 x2 x3 x4 x5 x6 x7 x8 x9, sink_at]
  rfl

theorem weight_at (i : S16x4x4x2048x2048.Idx) : val_main_v244 (F := Ideal) x0 x1 x2 x6 i
    = Ideal.exp (logit (i 3).val (scS (inR x0 x1 x2 x3 x4 x5 x6 x7 x8 x9) (i 0).val (i 3).val ((i 1).val * 4 + (i 2).val)) (i 4).val
      - rowTop 2048 (i 3).val (scS (inR x0 x1 x2 x3 x4 x5 x6 x7 x8 x9) (i 0).val (i 3).val ((i 1).val * 4 + (i 2).val)) ((inR x0 x1 x2 x3 x4 x5 x6 x7 x8 x9).sk ((i 1).val * 4 + (i 2).val))) := by
  rw [val_main_v244_apply, val_main_v243_apply, val_main_v242_apply, logit_at x0 x1 x2 x3 x4 x5 x6 x7 x8 x9, top_at x0 x1 x2 x3 x4 x5 x6 x7 x8 x9]
  rfl

theorem att_at (i : S16x4x4x2048x64.Idx) : val_main_v253 (F := Ideal) x0 x1 x2 x6 i = att 2048 (inR x0 x1 x2 x3 x4 x5 x6 x7 x8 x9) (i 0).val (i 3).val ((i 1).val * 4 + (i 2).val) (i 4).val := by
  have h2 : (i 2).val < 4 := (i 2).isLt
  have e : ((i 1).val * 4 + (i 2).val) / 4 = (i 1).val := by omega
  rw [val_main_v253_apply, val_main_v252_apply, val_main_v251_apply, val_main_v250_apply, val_main_v249_apply, val_main_v248_apply, val_main_v247_apply, val_main_v246_apply,
    val_main_v245_apply, val_main_cst_37_apply, top_at x0 x1 x2 x3 x4 x5 x6 x7 x8 x9, sink_at]
  unfold att attRow
  rw [e, ← sum_fin, ← sum_fin]
  show Ideal.div _ ((Ideal.ofBits .f32 0x00000000#32 + _) + _) = _
  rw [bits_zero, zero_add]
  refine congrArg₂ Ideal.div (Finset.sum_congr rfl fun k _ => ?_) (congrArg₂ (fun p q : EReal => p + q) (Finset.sum_congr rfl fun k _ => ?_) rfl)
  · rw [weight_at x0 x1 x2 x3 x4 x5 x6 x7 x8 x9, values_at x0 x1 x2 x3 x4 x5 x6 x7 x8 x9]
  · rw [weight_at x0 x1 x2 x3 x4 x5 x6 x7 x8 x9]

theorem ab_at (i : S16x2048x1024.Idx) : val_main_v257 (F := Ideal) x0 x1 x2 x6 i = abG 2048 (inR x0 x1 x2 x3 x4 x5 x6 x7 x8 x9) (i 0).val (i 1).val (i 2).val := by
  have h0 : (i 0).val < 16 := (i 0).isLt
  have h1 : (i 1).val < 2048 := (i 1).isLt
  have h2 : (i 2).val < 1024 := (i 2).isLt
  rw [val_main_v257_apply, val_main_v255_apply, val_main_v254_apply, att_at x0 x1 x2 x3 x4 x5 x6 x7 x8 x9, silu256 x0 x1 x2 x3 x4 x5 x6 x7 x8 x9]
  unfold abG
  refine congrArg (fun p : EReal => p * silu (zP (inR x0 x1 x2 x3 x4 x5 x6 x7 x8 x9) (i 0).val (i 1).val (3584 + (i 2).val))) ?_
  have e0 : (((i 0).val * 2048 + (i 1).val) * 1024 + (i 2).val) / 2097152 = (i 0).val := by omega
  have e1 : (((i 0).val * 2048 + (i 1).val) * 1024 + (i 2).val) / 1024 % 2048 = (i 1).val := by omega
  have e2 : (((i 0).val * 2048 + (i 1).val) * 1024 + (i 2).val) / 256 % 4 * 4 + (((i 0).val * 2048 + (i 1).val) * 1024 + (i 2).val) / 64 % 4 = (i 2).val / 64 := by omega
  have e3 : (((i 0).val * 2048 + (i 1).val) * 1024 + (i 2).val) % 64 = (i 2).val % 64 := by omega
  show att 2048 (inR x0 x1 x2 x3 x4 x5 x6 x7 x8 x9) ((((i 0).val * 2048 + (i 1).val) * 1024 + (i 2).val) / 2097152) ((((i 0).val * 2048 + (i 1).val) * 1024 + (i 2).val) / 1024 % 2048)
    ((((i 0).val * 2048 + (i 1).val) * 1024 + (i 2).val) / 256 % 4 * 4 + (((i 0).val * 2048 + (i 1).val) * 1024 + (i 2).val) / 64 % 4) ((((i 0).val * 2048 + (i 1).val) * 1024 + (i 2).val) % 64) = _
  rw [e0, e1, e2, e3]

/-! ### The merge and the output -/

theorem mrg_at (i : S16x2048x1024.Idx) : val_main_v270 (F := Ideal) x0 x1 x2 x3 x4 x5 x6 x7 i = mrg 2048 (inR x0 x1 x2 x3 x4 x5 x6 x7 x8 x9) (i 0).val (i 1).val (i 2).val := by
  rw [val_main_v270_apply, val_main_v269_apply, val_main_v268_apply, val_main_v267_apply, val_main_v266_apply, val_main_v265_apply, val_main_v264_apply, sg263 x0 x1 x2 x3 x4 x5 x6 x7 x8 x9, sg263 x0 x1 x2 x3 x4 x5 x6 x7 x8 x9]
  unfold mrg
  rw [← sum_fin, ← sum_fin]
  refine congrArg₂ (fun p q : EReal => p + q) (congrArg₂ (fun p q : EReal => p * q) rfl (Finset.sum_congr rfl fun k _ => ?_))
    (congrArg₂ (fun p q : EReal => p * q) ?_ (Finset.sum_congr rfl fun k _ => ?_))
  · rw [pb_at x0 x1 x2 x3 x4 x5 x6 x7 x8 x9, rd2_idx (n0 := 1024) (n1 := 1024) x5]
    rfl
  · exact congrArg (fun n => sg (zP (inR x0 x1 x2 x3 x4 x5 x6 x7 x8 x9) (i 0).val (i 1).val n)) (show 4608 + (1024 + (i 2).val) = 5632 + (i 2).val by omega)
  · rw [ab_at x0 x1 x2 x3 x4 x5 x6 x7 x8 x9, rd2_idx (n0 := 1024) (n1 := 1024) x7]
    rfl

theorem out_at (i : S16x2048x1024.Idx) : val_main_v271 (F := Ideal) x0 x1 x2 x3 x4 x5 x6 x7 x8 i = outP 2048 (inR x0 x1 x2 x3 x4 x5 x6 x7 x8 x9) (i 0).val (i 1).val (i 2).val := by
  rw [val_main_v271_apply]
  unfold outP
  rw [← sum_fin]
  refine Finset.sum_congr rfl fun k _ => ?_
  rw [mrg_at x0 x1 x2 x3 x4 x5 x6 x7 x8 x9, rd2_idx (n0 := 1024) (n1 := 1024) x8]
  rfl

theorem res_at (i : S16x2048x1024.Idx) : val_main_v285 (F := Ideal) x0 x1 x2 x3 x4 x5 x6 x7 x8 x9 i = res 2048 (inR x0 x1 x2 x3 x4 x5 x6 x7 x8 x9) (i 0).val (i 1).val (i 2).val := by
  rw [val_main_v285_apply, val_main_v284_apply, val_main_v283_apply, val_main_v282_apply, val_main_v281_apply, val_main_v280_apply, val_main_v279_apply, val_main_v278_apply,
    val_main_v277_apply, val_main_v276_apply, val_main_v275_apply, val_main_v274_apply, val_main_v273_apply, val_main_cst_40_apply, val_main_cst_41_apply, val_main_cst_42_apply, out_at x0 x1 x2 x3 x4 x5 x6 x7 x8 x9]
  simp only [val_main_v272_apply, out_at x0 x1 x2 x3 x4 x5 x6 x7 x8 x9]
  unfold res
  rw [rms_fin]
  simp only [rd3_idx (n0 := 16) (n1 := 2048) (n2 := 1024) x0, rd1_idx (n0 := 1024) x9]
  show _ + _ * Ideal.rsqrt (Ideal.div (Ideal.ofBits .f32 0x00000000#32 + _) _ + _) * _ = _
  rw [bits_zero, zero_add]
  rfl

end Cert.ReferenceIdeal.Val
-- ==== Proof.LongProj.lean ====
module

public import proofs.«01_k».proof.Proof.Proj
public import proofs.«01_k».proof.Proof.Step
public import proofs.«01_k».proof.Proof.Reads
public import proofs.«01_k».proof.Proof.Gen.Kernel2Ideal.Frame

@[expose] public section

set_option maxRecDepth 16384

noncomputable section

namespace Cert.Kernel2Ideal.Val

open Cert.KernelIdeal.Val Idealize.ShloMosaic Idealize.ShloMosaic.TcCoe Idealize.SL.Sem Layer Facts₀ Facts Gen

/-! ### What a step of the input projection writes -/

/-! ### The halves of the key and value lanes -/

section
variable (c : Dev nD) (i : grid0.Coords)
  (arg2 : Memref sig .tc .vmem S1x512x1024 .f32) (harg2 : arg2.IsWhole)
  (arg3 : Memref sig .tc .vmem S1x8x1024 .f32) (harg3 : arg3.IsWhole)
  (arg4 : Memref sig .tc .vmem S1x8x1024 .f32) (harg4 : arg4.IsWhole)
  (arg5 : Memref sig .tc .vmem S1x1024 .f32) (harg5 : arg5.IsWhole)
  (arg6 : Memref sig .tc .vmem S1024x6656 .bf16) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S4x256x256 .bf16) (harg9 : arg9.IsWhole)
  (arg10 : Memref sig .tc .vmem S1x1024 .f32) (harg10 : arg10.IsWhole)
  (arg11 : Memref sig .tc .vmem S1x512x1024 .bf16) (harg11 : arg11.IsWhole)
  (arg12 : Memref sig .tc .vmem S1x512x1024 .bf16) (harg12 : arg12.IsWhole)
  (arg13 : Memref sig .tc .vmem S1x512x1024 .bf16) (harg13 : arg13.IsWhole)
  (arg14 : Memref sig .tc .vmem S1x512x2048 .bf16) (harg14 : arg14.IsWhole)
  (arg15 : Memref sig .tc .vmem S1x1024x512 .bf16) (harg15 : arg15.IsWhole)
  (arg16 : Memref sig .tc .vmem S1x512x1024 .bf16) (harg16 : arg16.IsWhole)
  (arg17 : Memref sig .tc .vmem S1x512x1024 .bf16) (harg17 : arg17.IsWhole)
  (arg18 : Memref sig .tc .vmem S552x1024 .f32) (harg18 : arg18.IsWhole)
  (x0 : Vec Ideal S1x512x1024 .f32) (x1 : Vec Ideal S1x8x1024 .f32) (x2 : Vec Ideal S1x8x1024 .f32) (x3 : Vec Ideal S1x1024 .f32) (x4 : Vec Ideal S1024x6656 .bf16) (x5 : Vec Ideal S512x128 .f32) (x6 : Vec Ideal S512x128 .f32) (x7 : Vec Ideal S4x256x256 .bf16) (x8 : Vec Ideal S1x1024 .f32)
variable (I : In) (b T : ℕ)
  (h0 : ∀ p l, p < 512 → l < 1024 → rd3 (n0 := 1) (n1 := 512) (n2 := 1024) x0 0 p l = I.x b (T * 512 + p) l)
  (h3 : ∀ l, l < 1024 → rd2 (n0 := 1) (n1 := 1024) x3 0 l = I.g l)
  (h4 : ∀ k l, k < 1024 → l < 6656 → rd2 (n0 := 1024) (n1 := 6656) x4 k l = I.w k l)
  (h5 : ∀ p l, p < 512 → l < 128 → rd2 (n0 := 512) (n1 := 128) x5 p l = Ideal.cos (ang (T * 512 + p) (l % 32)))
  (h6 : ∀ p l, p < 512 → l < 128 → rd2 (n0 := 512) (n1 := 128) x6 p l = if l % 64 < 32 then -Ideal.sin (ang (T * 512 + p) (l % 32)) else Ideal.sin (ang (T * 512 + p) (l % 32)))

include h0 in
theorem ldX (inb) (p : Fin 512) (l : Fin 1024) :
    View.readAt (Elt Ideal) arg2.view (Rect.unit (s := S1x512x1024) ![0, 0, 0] S1x512x1024.size inb).toLoadRect (harg2.unread x0) (ix3 0 p l) = I.x b (T * 512 + p.val) l.val := by
  have hp := p.isLt
  have hl := l.isLt
  exact (load3_f32 (A := 1) (B := 512) (C := 1024) arg2 harg2 x0 _ (ix3 0 p l)).trans ((h0 (0 + p.val) (0 + l.val) (by omega) (by omega)).trans (by rw [Nat.zero_add, Nat.zero_add]))

include h3 in
theorem ldG (inb) (l : Fin 1024) :
    View.readAt (Elt Ideal) arg5.view (Rect.unit (s := S1x1024) ![0, 0] S1x1024.size inb).toLoadRect (harg5.unread x3) (ix2 0 l) = I.g l.val := by
  have hl := l.isLt
  exact (load2_f32 (A := 1) (B := 1024) arg5 harg5 x3 _ (ix2 0 l)).trans ((h3 (0 + l.val) (by omega)).trans (by rw [Nat.zero_add]))

include h4 in
theorem ldW {off n : ℕ} (ho : off + n ≤ 6656) (inb) (k : Fin 1024) (l : Fin n) :
    View.readAt (Elt Ideal) arg6.view (Rect.unit (s := S1024x6656) ![0, off] ![1024, n] inb).toLoadRect (harg6.unread x4) (ix2 k l) = I.w k.val (off + l.val) := by
  have hk := k.isLt
  have hl := l.isLt
  exact (load2_bf16 (A := 1024) (B := 6656) (n := 1024) (m := n) arg6 harg6 x4 _ (ix2 k l)).trans ((h4 (0 + k.val) (off + l.val) (by omega) (by omega)).trans (by rw [Nat.zero_add]))

include h5 in
theorem cos_at (p : Fin 512) (l : Fin 128) : kernelRun0_A.sl.r_3 (F := Ideal) c arg7 harg7 x5 (ix2 p l) = Ideal.cos (ang (T * 512 + p.val) (l.val % 32)) := by
  have hp := p.isLt
  have hl := l.isLt
  have e : ∀ v : Vec Ideal S512x128 .f32, k0_pay7 v (ix2 p l) = v (ix2 p l) := by intro v; pointwise! [k0_pay7]
  refine (e _).trans ((load2_f32 (A := 512) (B := 128) arg7 harg7 x5 _ (ix2 p l)).trans ((h5 (0 + p.val) (0 + l.val) (by omega) (by omega)).trans (by rw [Nat.zero_add, Nat.zero_add])))

include h6 in
theorem sin_at (p : Fin 512) (l : Fin 128) : kernelRun0_A.sl.r_4 (F := Ideal) c arg8 harg8 x6 (ix2 p l) = if l.val % 64 < 32 then -Ideal.sin (ang (T * 512 + p.val) (l.val % 32)) else Ideal.sin (ang (T * 512 + p.val) (l.val % 32)) := by
  have hp := p.isLt
  have hl := l.isLt
  have e : ∀ v : Vec Ideal S512x128 .f32, k0_pay8 v (ix2 p l) = v (ix2 p l) := by intro v; pointwise! [k0_pay8]
  refine (e _).trans ((load2_f32 (A := 512) (B := 128) arg8 harg8 x6 _ (ix2 p l)).trans ((h6 (0 + p.val) (0 + l.val) (by omega) (by omega)).trans (by rw [Nat.zero_add, Nat.zero_add])))

include h0 h3

theorem h_at (p : Fin 512) (k : Fin 1024) : kernelRun0_A.sl.r_2 (F := Ideal) c arg2 harg2 arg5 harg5 x0 x3 (ix2 p k) = hN I b (T * 512 + p.val) k.val :=
  (pay4_at _ _ p k).trans (norm_hN I b _ _ _ p (ldG arg5 harg5 x3 I h3 _) (ldX arg2 harg2 x0 I b T h0 _ p) k)

include h4

theorem r9_at (p : Fin 512) (l : Fin 512) : kernelRun0_A.sl.r_9 (F := Ideal) c arg2 harg2 arg5 harg5 arg6 harg6 x0 x3 x4 (ix2 p l) = zP I b (T * 512 + p.val) (2048 + l.val) :=
  (pay18_at _ _ p l).trans (z_of I b (T * 512 + p.val) (2048 + l.val) _ _ p l (h_at c arg2 harg2 arg5 harg5 x0 x3 I b T h0 h3 p) (fun k => ldW (off := 2048) (n := 512) arg6 harg6 x4 I h4 (by decide) _ k l))

theorem r11_at (p : Fin 512) (l : Fin 512) : kernelRun0_A.sl.r_11 (F := Ideal) c arg2 harg2 arg5 harg5 arg6 harg6 x0 x3 x4 (ix2 p l) = zP I b (T * 512 + p.val) (2560 + l.val) :=
  (pay24_at _ _ p l).trans (z_of I b (T * 512 + p.val) (2560 + l.val) _ _ p l (h_at c arg2 harg2 arg5 harg5 x0 x3 I b T h0 h3 p) (fun k => ldW (off := 2560) (n := 512) arg6 harg6 x4 I h4 (by decide) _ k l))

theorem r15_at (p : Fin 512) (l : Fin 256) : kernelRun0_A.sl.r_15 (F := Ideal) c arg2 harg2 arg5 harg5 arg6 harg6 x0 x3 x4 (ix2 p l) = zP I b (T * 512 + p.val) (1024 + l.val) :=
  (pay31_at _ _ p l).trans (z_of I b (T * 512 + p.val) (1024 + l.val) _ _ p l (h_at c arg2 harg2 arg5 harg5 x0 x3 I b T h0 h3 p) (fun k => ldW (off := 1024) (n := 256) arg6 harg6 x4 I h4 (by decide) _ k l))

theorem r17_at (p : Fin 512) (l : Fin 256) : kernelRun0_A.sl.r_17 (F := Ideal) c arg2 harg2 arg5 harg5 arg6 harg6 x0 x3 x4 (ix2 p l) = zP I b (T * 512 + p.val) (1280 + l.val) :=
  (pay37_at _ _ p l).trans (z_of I b (T * 512 + p.val) (1280 + l.val) _ _ p l (h_at c arg2 harg2 arg5 harg5 x0 x3 I b T h0 h3 p) (fun k => ldW (off := 1280) (n := 256) arg6 harg6 x4 I h4 (by decide) _ k l))

theorem r25_at (p : Fin 512) (l : Fin 256) : kernelRun0_A.sl.r_25 (F := Ideal) c arg2 harg2 arg5 harg5 arg6 harg6 x0 x3 x4 (ix2 p l) = zP I b (T * 512 + p.val) (1792 + l.val) :=
  (pay45_at _ _ p l).trans (z_of I b (T * 512 + p.val) (1792 + l.val) _ _ p l (h_at c arg2 harg2 arg5 harg5 x0 x3 I b T h0 h3 p) (fun k => ldW (off := 1792) (n := 256) arg6 harg6 x4 I h4 (by decide) _ k l))

theorem r26_at (p : Fin 512) (l : Fin 256) : kernelRun0_A.sl.r_26 (F := Ideal) c arg2 harg2 arg5 harg5 arg6 harg6 x0 x3 x4 (ix2 p l) = silu (zP I b (T * 512 + p.val) (1536 + l.val)) :=
  (pay46_at _ _ p l).trans (congrArg silu (z_of I b (T * 512 + p.val) (1536 + l.val) _ _ p l (h_at c arg2 harg2 arg5 harg5 x0 x3 I b T h0 h3 p) (fun k => ldW (off := 1536) (n := 256) arg6 harg6 x4 I h4 (by decide) _ k l)))

theorem r30_at (p : Fin 512) (l : Fin 256) : kernelRun0_A.sl.r_30 (F := Ideal) c arg2 harg2 arg5 harg5 arg6 harg6 x0 x3 x4 (ix2 p l) = zP I b (T * 512 + p.val) (3072 + l.val) :=
  (pay50_at _ _ p l).trans (z_of I b (T * 512 + p.val) (3072 + l.val) _ _ p l (h_at c arg2 harg2 arg5 harg5 x0 x3 I b T h0 h3 p) (fun k => ldW (off := 3072) (n := 256) arg6 harg6 x4 I h4 (by decide) _ k l))

theorem r36_at (p : Fin 512) (l : Fin 256) : kernelRun0_A.sl.r_36 (F := Ideal) c arg2 harg2 arg5 harg5 arg6 harg6 x0 x3 x4 (ix2 p l) = zP I b (T * 512 + p.val) (3328 + l.val) :=
  (pay56_at _ _ p l).trans (z_of I b (T * 512 + p.val) (3328 + l.val) _ _ p l (h_at c arg2 harg2 arg5 harg5 x0 x3 I b T h0 h3 p) (fun k => ldW (off := 3328) (n := 256) arg6 harg6 x4 I h4 (by decide) _ k l))

theorem r53_at (p : Fin 512) (l : Fin 512) : kernelRun0_A.sl.r_53 (F := Ideal) c arg2 harg2 arg5 harg5 arg6 harg6 x0 x3 x4 (ix2 p l) = zP I b (T * 512 + p.val) (4096 + l.val) :=
  (pay109_at _ _ p l).trans (z_of I b (T * 512 + p.val) (4096 + l.val) _ _ p l (h_at c arg2 harg2 arg5 harg5 x0 x3 I b T h0 h3 p) (fun k => ldW (off := 4096) (n := 512) arg6 harg6 x4 I h4 (by decide) _ k l))

theorem r54_at (p : Fin 512) (l : Fin 512) : kernelRun0_A.sl.r_54 (F := Ideal) c arg2 harg2 arg5 harg5 arg6 harg6 x0 x3 x4 (ix2 p l) = zP I b (T * 512 + p.val) (4608 + l.val) :=
  (pay111_at _ _ p l).trans (z_of I b (T * 512 + p.val) (4608 + l.val) _ _ p l (h_at c arg2 harg2 arg5 harg5 x0 x3 I b T h0 h3 p) (fun k => ldW (off := 4608) (n := 512) arg6 harg6 x4 I h4 (by decide) _ k l))

theorem r55_at (p : Fin 512) (l : Fin 512) : kernelRun0_A.sl.r_55 (F := Ideal) c arg2 harg2 arg5 harg5 arg6 harg6 x0 x3 x4 (ix2 p l) = sg (zP I b (T * 512 + p.val) (6144 + l.val)) :=
  (pay116_at _ _ p l).trans (congrArg sg (z_of I b (T * 512 + p.val) (6144 + l.val) _ _ p l (h_at c arg2 harg2 arg5 harg5 x0 x3 I b T h0 h3 p) (fun k => ldW (off := 6144) (n := 512) arg6 harg6 x4 I h4 (by decide) _ k l)))

theorem gate_val (p : Fin 512) (l : Fin 2048) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun u v => sg (zP I b (T * 512 + u) (4608 + v))) p.val l.val := by
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 2048]⟩ : Shape).Idx => ((fun u v => sg (zP I b (T * 512 + u) (4608 + v))) (y 1).val (y 2).val : Elt Ideal .bf16)) _ ?_ _ (cover0_A_12 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl
  · exact pieceR (A := 512) (B := 2048) (n := 512) (m := 512) (d := 1536) (inb3 1 512 2048 0 0 1536 (by decide) (by decide) (by decide)) _ (fun u v => sg (zP I b (T * 512 + u) (4608 + v))) fun p l => (pay1_at _ p l).trans (((r55_at c arg2 harg2 arg5 harg5 arg6 harg6 x0 x3 x4 I b T h0 h3 h4 p l)).trans (congrArg (fun j => sg (zP I b (T * 512 + p.val) j)) (show 6144 + l.val = 4608 + (1536 + l.val) by omega)))
  · exact pieceR (A := 512) (B := 2048) (n := 512) (m := 512) (d := 1024) (inb3 1 512 2048 0 0 1024 (by decide) (by decide) (by decide)) _ (fun u v => sg (zP I b (T * 512 + u) (4608 + v))) fun p l => (pay115_at _ _ p l).trans ((congrArg sg (z_of I b (T * 512 + p.val) _ _ _ p l (h_at c arg2 harg2 arg5 harg5 x0 x3 I b T h0 h3 p) (fun k => ldW (off := 5632) (n := 512) arg6 harg6 x4 I h4 (by decide) _ k l))).trans (congrArg (fun j => sg (zP I b (T * 512 + p.val) j)) (show 5632 + l.val = 4608 + (1024 + l.val) by omega)))
  · exact pieceR (A := 512) (B := 2048) (n := 512) (m := 512) (d := 512) (inb3 1 512 2048 0 0 512 (by decide) (by decide) (by decide)) _ (fun u v => sg (zP I b (T * 512 + u) (4608 + v))) fun p l => (pay114_at _ _ p l).trans ((congrArg sg (z_of I b (T * 512 + p.val) _ _ _ p l (h_at c arg2 harg2 arg5 harg5 x0 x3 I b T h0 h3 p) (fun k => ldW (off := 5120) (n := 512) arg6 harg6 x4 I h4 (by decide) _ k l))).trans (congrArg (fun j => sg (zP I b (T * 512 + p.val) j)) (show 5120 + l.val = 4608 + (512 + l.val) by omega)))
  · exact pieceR (A := 512) (B := 2048) (n := 512) (m := 512) (d := 0) (inb3 1 512 2048 0 0 0 (by decide) (by decide) (by decide)) _ (fun u v => sg (zP I b (T * 512 + u) (4608 + v))) fun p l => (pay113_at _ p l).trans ((congrArg sg (r54_at c arg2 harg2 arg5 harg5 arg6 harg6 x0 x3 x4 I b T h0 h3 h4 p l)).trans (congrArg (fun j => sg (zP I b (T * 512 + p.val) j)) (show 4608 + l.val = 4608 + (0 + l.val) by omega)))

theorem ag_val (p : Fin 512) (l : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun u v => silu (zP I b (T * 512 + u) (3584 + v))) p.val l.val := by
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 1024]⟩ : Shape).Idx => ((fun u v => silu (zP I b (T * 512 + u) (3584 + v))) (y 1).val (y 2).val : Elt Ideal .bf16)) _ ?_ _ (cover0_A_11 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl
  · exact pieceR (A := 512) (B := 1024) (n := 512) (m := 512) (d := 512) (inb3 1 512 1024 0 0 512 (by decide) (by decide) (by decide)) _ (fun u v => silu (zP I b (T * 512 + u) (3584 + v))) fun p l => (pay112_at _ p l).trans ((congrArg silu (r53_at c arg2 harg2 arg5 harg5 arg6 harg6 x0 x3 x4 I b T h0 h3 h4 p l)).trans (congrArg (fun j => silu (zP I b (T * 512 + p.val) j)) (show 4096 + l.val = 3584 + (512 + l.val) by omega)))
  · exact pieceR (A := 512) (B := 1024) (n := 512) (m := 512) (d := 0) (inb3 1 512 1024 0 0 0 (by decide) (by decide) (by decide)) _ (fun u v => silu (zP I b (T * 512 + u) (3584 + v))) fun p l => (pay110_at _ _ p l).trans ((congrArg silu (z_of I b (T * 512 + p.val) _ _ _ p l (h_at c arg2 harg2 arg5 harg5 x0 x3 I b T h0 h3 p) (fun k => ldW (off := 3584) (n := 512) arg6 harg6 x4 I h4 (by decide) _ k l))).trans (congrArg (fun j => silu (zP I b (T * 512 + p.val) j)) (show 3584 + l.val = 3584 + (0 + l.val) by omega)))

-- vl_val
theorem vl_val (p : Fin 512) (l : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun u v => if v % 256 < 128 then (if v % 256 < 64 then vV I b (T * 512 + u) (v / 256) (v % 256) else 0) else if v % 256 < 192 then 1 else 0) p.val l.val := by
  unfold out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 1024]⟩ : Shape).Idx => ((fun u v => if v % 256 < 128 then (if v % 256 < 64 then vV I b (T * 512 + u) (v / 256) (v % 256) else 0) else if v % 256 < 192 then 1 else 0) (y 1).val (y 2).val : Elt Ideal .bf16)) _ ?_ _ (cover0_A_14 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl | rfl | rfl | rfl | rfl
  · exact pieceR (A := 512) (B := 1024) (n := 512) (m := 128) (d := 896) (inb3 1 512 1024 0 0 896 (by decide) (by decide) (by decide)) _ (fun u v => if v % 256 < 128 then (if v % 256 < 64 then vV I b (T * 512 + u) (v / 256) (v % 256) else 0) else if v % 256 < 192 then 1 else 0) fun p l => (pay99_o p l).trans (ones_lo 3 l.isLt)
  · exact pieceR (A := 512) (B := 1024) (n := 512) (m := 128) (d := 768) (inb3 1 512 1024 0 0 768 (by decide) (by decide) (by decide)) _ (fun u v => if v % 256 < 128 then (if v % 256 < 64 then vV I b (T * 512 + u) (v / 256) (v % 256) else 0) else if v % 256 < 192 then 1 else 0) fun p l => (pay98_v _ (fun u j => zP I b (T * 512 + u) (3328 + j)) (r36_at c arg2 harg2 arg5 harg5 arg6 harg6 x0 x3 x4 I b T h0 h3 h4) p l).trans (half_lo3 _ l.isLt)
  · exact pieceR (A := 512) (B := 1024) (n := 512) (m := 128) (d := 640) (inb3 1 512 1024 0 0 640 (by decide) (by decide) (by decide)) _ (fun u v => if v % 256 < 128 then (if v % 256 < 64 then vV I b (T * 512 + u) (v / 256) (v % 256) else 0) else if v % 256 < 192 then 1 else 0) fun p l => (pay95_o p l).trans (ones_lo 2 l.isLt)
  · exact pieceR (A := 512) (B := 1024) (n := 512) (m := 128) (d := 512) (inb3 1 512 1024 0 0 512 (by decide) (by decide) (by decide)) _ (fun u v => if v % 256 < 128 then (if v % 256 < 64 then vV I b (T * 512 + u) (v / 256) (v % 256) else 0) else if v % 256 < 192 then 1 else 0) fun p l => (pay94_v _ (fun u j => zP I b (T * 512 + u) (3328 + j)) (r36_at c arg2 harg2 arg5 harg5 arg6 harg6 x0 x3 x4 I b T h0 h3 h4) p l).trans (half_lo2 _ l.isLt)
  · exact pieceR (A := 512) (B := 1024) (n := 512) (m := 128) (d := 384) (inb3 1 512 1024 0 0 384 (by decide) (by decide) (by decide)) _ (fun u v => if v % 256 < 128 then (if v % 256 < 64 then vV I b (T * 512 + u) (v / 256) (v % 256) else 0) else if v % 256 < 192 then 1 else 0) fun p l => (pay89_o p l).trans (ones_lo 1 l.isLt)
  · exact pieceR (A := 512) (B := 1024) (n := 512) (m := 128) (d := 256) (inb3 1 512 1024 0 0 256 (by decide) (by decide) (by decide)) _ (fun u v => if v % 256 < 128 then (if v % 256 < 64 then vV I b (T * 512 + u) (v / 256) (v % 256) else 0) else if v % 256 < 192 then 1 else 0) fun p l => (pay88_v _ (fun u j => zP I b (T * 512 + u) (3328 + j)) (r36_at c arg2 harg2 arg5 harg5 arg6 harg6 x0 x3 x4 I b T h0 h3 h4) p l).trans (half_lo1 _ l.isLt)
  · exact pieceR (A := 512) (B := 1024) (n := 512) (m := 128) (d := 128) (inb3 1 512 1024 0 0 128 (by decide) (by decide) (by decide)) _ (fun u v => if v % 256 < 128 then (if v % 256 < 64 then vV I b (T * 512 + u) (v / 256) (v % 256) else 0) else if v % 256 < 192 then 1 else 0) fun p l => (pay85_o p l).trans (ones_lo 0 l.isLt)
  · exact pieceR (A := 512) (B := 1024) (n := 512) (m := 128) (d := 0) (inb3 1 512 1024 0 0 0 (by decide) (by decide) (by decide)) _ (fun u v => if v % 256 < 128 then (if v % 256 < 64 then vV I b (T * 512 + u) (v / 256) (v % 256) else 0) else if v % 256 < 192 then 1 else 0) fun p l => (pay84_v _ (fun u j => zP I b (T * 512 + u) (3328 + j)) (r36_at c arg2 harg2 arg5 harg5 arg6 harg6 x0 x3 x4 I b T h0 h3 h4) p l).trans (half_lo0 _ l.isLt)

-- vh_val
theorem vh_val (p : Fin 512) (l : Fin 1024) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun u v => if v % 256 < 128 then (if v % 256 < 64 then 0 else vV I b (T * 512 + u) (v / 256) (v % 256 - 64)) else if v % 256 < 192 then 0 else 1) p.val l.val := by
  unfold out0_A_15
  rw [View.read_writes_eq_canon _ _ _ (cover0_A_15 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 1024]⟩ : Shape).Idx => ((fun u v => if v % 256 < 128 then (if v % 256 < 64 then 0 else vV I b (T * 512 + u) (v / 256) (v % 256 - 64)) else if v % 256 < 192 then 0 else 1) (y 1).val (y 2).val : Elt Ideal .bf16)) _ ?_ _ (cover0_A_15 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl | rfl | rfl | rfl | rfl
  · exact pieceR (A := 512) (B := 1024) (n := 512) (m := 128) (d := 896) (inb3 1 512 1024 0 0 896 (by decide) (by decide) (by decide)) _ (fun u v => if v % 256 < 128 then (if v % 256 < 64 then 0 else vV I b (T * 512 + u) (v / 256) (v % 256 - 64)) else if v % 256 < 192 then 0 else 1) fun p l => (pay102_o p l).trans (ones_hi 3 l.isLt)
  · exact pieceR (A := 512) (B := 1024) (n := 512) (m := 128) (d := 768) (inb3 1 512 1024 0 0 768 (by decide) (by decide) (by decide)) _ (fun u v => if v % 256 < 128 then (if v % 256 < 64 then 0 else vV I b (T * 512 + u) (v / 256) (v % 256 - 64)) else if v % 256 < 192 then 0 else 1) fun p l => (pay101_v _ (fun u j => zP I b (T * 512 + u) (3328 + j)) (r36_at c arg2 harg2 arg5 harg5 arg6 harg6 x0 x3 x4 I b T h0 h3 h4) p l).trans (half_hi3 _ l.isLt)
  · exact pieceR (A := 512) (B := 1024) (n := 512) (m := 128) (d := 640) (inb3 1 512 1024 0 0 640 (by decide) (by decide) (by decide)) _ (fun u v => if v % 256 < 128 then (if v % 256 < 64 then 0 else vV I b (T * 512 + u) (v / 256) (v % 256 - 64)) else if v % 256 < 192 then 0 else 1) fun p l => (pay97_o p l).trans (ones_hi 2 l.isLt)
  · exact pieceR (A := 512) (B := 1024) (n := 512) (m := 128) (d := 512) (inb3 1 512 1024 0 0 512 (by decide) (by decide) (by decide)) _ (fun u v => if v % 256 < 128 then (if v % 256 < 64 then 0 else vV I b (T * 512 + u) (v / 256) (v % 256 - 64)) else if v % 256 < 192 then 0 else 1) fun p l => (pay96_v _ (fun u j => zP I b (T * 512 + u) (3328 + j)) (r36_at c arg2 harg2 arg5 harg5 arg6 harg6 x0 x3 x4 I b T h0 h3 h4) p l).trans (half_hi2 _ l.isLt)
  · exact pieceR (A := 512) (B := 1024) (n := 512) (m := 128) (d := 384) (inb3 1 512 1024 0 0 384 (by decide) (by decide) (by decide)) _ (fun u v => if v % 256 < 128 then (if v % 256 < 64 then 0 else vV I b (T * 512 + u) (v / 256) (v % 256 - 64)) else if v % 256 < 192 then 0 else 1) fun p l => (pay91_o p l).trans (ones_hi 1 l.isLt)
  · exact pieceR (A := 512) (B := 1024) (n := 512) (m := 128) (d := 256) (inb3 1 512 1024 0 0 256 (by decide) (by decide) (by decide)) _ (fun u v => if v % 256 < 128 then (if v % 256 < 64 then 0 else vV I b (T * 512 + u) (v / 256) (v % 256 - 64)) else if v % 256 < 192 then 0 else 1) fun p l => (pay90_v _ (fun u j => zP I b (T * 512 + u) (3328 + j)) (r36_at c arg2 harg2 arg5 harg5 arg6 harg6 x0 x3 x4 I b T h0 h3 h4) p l).trans (half_hi1 _ l.isLt)
  · exact pieceR (A := 512) (B := 1024) (n := 512) (m := 128) (d := 128) (inb3 1 512 1024 0 0 128 (by decide) (by decide) (by decide)) _ (fun u v => if v % 256 < 128 then (if v % 256 < 64 then 0 else vV I b (T * 512 + u) (v / 256) (v % 256 - 64)) else if v % 256 < 192 then 0 else 1) fun p l => (pay87_o p l).trans (ones_hi 0 l.isLt)
  · exact pieceR (A := 512) (B := 1024) (n := 512) (m := 128) (d := 0) (inb3 1 512 1024 0 0 0 (by decide) (by decide) (by decide)) _ (fun u v => if v % 256 < 128 then (if v % 256 < 64 then 0 else vV I b (T * 512 + u) (v / 256) (v % 256 - 64)) else if v % 256 < 192 then 0 else 1) fun p l => (pay86_v _ (fun u j => zP I b (T * 512 + u) (3328 + j)) (r36_at c arg2 harg2 arg5 harg5 arg6 harg6 x0 x3 x4 I b T h0 h3 h4) p l).trans (half_hi0 _ l.isLt)

include h5 h6

theorem q_val (p : Fin 512) (l : Fin 1024) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun u v => qR I b (T * 512 + u) (v / 64) (v % 64) * (qsc : EReal)) p.val l.val := by
  unfold out0_A_10
  rw [View.read_writes_eq_canon _ _ _ (cover0_A_10 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 1024]⟩ : Shape).Idx => ((fun u v => qR I b (T * 512 + u) (v / 64) (v % 64) * (qsc : EReal)) (y 1).val (y 2).val : Elt Ideal .bf16)) _ ?_ _ (cover0_A_10 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl | rfl | rfl | rfl | rfl
  · exact pieceR (A := 512) (B := 1024) (n := 512) (m := 128) (d := 896) (inb3 1 512 1024 0 0 896 (by decide) (by decide) (by decide)) _ (fun u v => qR I b (T * 512 + u) (v / 64) (v % 64) * (qsc : EReal)) fun p l => (pay36_q _ _ (fun u => T * 512 + u) (fun u j => zP I b (T * 512 + u) (2560 + j)) (cos_at c arg7 harg7 x5 T h5) (sin_at c arg8 harg8 x6 T h6) _ (r11_at c arg2 harg2 arg5 harg5 arg6 harg6 x0 x3 x4 I b T h0 h3 h4) p l).trans (qrot896 I b _ l.isLt)
  · exact pieceR (A := 512) (B := 1024) (n := 512) (m := 128) (d := 768) (inb3 1 512 1024 0 0 768 (by decide) (by decide) (by decide)) _ (fun u v => qR I b (T * 512 + u) (v / 64) (v % 64) * (qsc : EReal)) fun p l => (pay35_q _ _ (fun u => T * 512 + u) (fun u j => zP I b (T * 512 + u) (2560 + j)) (cos_at c arg7 harg7 x5 T h5) (sin_at c arg8 harg8 x6 T h6) _ (r11_at c arg2 harg2 arg5 harg5 arg6 harg6 x0 x3 x4 I b T h0 h3 h4) p l).trans (qrot768 I b _ l.isLt)
  · exact pieceR (A := 512) (B := 1024) (n := 512) (m := 128) (d := 640) (inb3 1 512 1024 0 0 640 (by decide) (by decide) (by decide)) _ (fun u v => qR I b (T * 512 + u) (v / 64) (v % 64) * (qsc : EReal)) fun p l => (pay33_q _ _ (fun u => T * 512 + u) (fun u j => zP I b (T * 512 + u) (2560 + j)) (cos_at c arg7 harg7 x5 T h5) (sin_at c arg8 harg8 x6 T h6) _ (r11_at c arg2 harg2 arg5 harg5 arg6 harg6 x0 x3 x4 I b T h0 h3 h4) p l).trans (qrot640 I b _ l.isLt)
  · exact pieceR (A := 512) (B := 1024) (n := 512) (m := 128) (d := 512) (inb3 1 512 1024 0 0 512 (by decide) (by decide) (by decide)) _ (fun u v => qR I b (T * 512 + u) (v / 64) (v % 64) * (qsc : EReal)) fun p l => (pay32_q _ _ (fun u => T * 512 + u) (fun u j => zP I b (T * 512 + u) (2560 + j)) (cos_at c arg7 harg7 x5 T h5) (sin_at c arg8 harg8 x6 T h6) _ (r11_at c arg2 harg2 arg5 harg5 arg6 harg6 x0 x3 x4 I b T h0 h3 h4) p l).trans (qrot512 I b _ l.isLt)
  · exact pieceR (A := 512) (B := 1024) (n := 512) (m := 128) (d := 384) (inb3 1 512 1024 0 0 384 (by decide) (by decide) (by decide)) _ (fun u v => qR I b (T * 512 + u) (v / 64) (v % 64) * (qsc : EReal)) fun p l => (pay30_q _ _ (fun u => T * 512 + u) (fun u j => zP I b (T * 512 + u) (2048 + j)) (cos_at c arg7 harg7 x5 T h5) (sin_at c arg8 harg8 x6 T h6) _ (r9_at c arg2 harg2 arg5 harg5 arg6 harg6 x0 x3 x4 I b T h0 h3 h4) p l).trans (qrot384 I b _ l.isLt)
  · exact pieceR (A := 512) (B := 1024) (n := 512) (m := 128) (d := 256) (inb3 1 512 1024 0 0 256 (by decide) (by decide) (by decide)) _ (fun u v => qR I b (T * 512 + u) (v / 64) (v % 64) * (qsc : EReal)) fun p l => (pay29_q _ _ (fun u => T * 512 + u) (fun u j => zP I b (T * 512 + u) (2048 + j)) (cos_at c arg7 harg7 x5 T h5) (sin_at c arg8 harg8 x6 T h6) _ (r9_at c arg2 harg2 arg5 harg5 arg6 harg6 x0 x3 x4 I b T h0 h3 h4) p l).trans (qrot256 I b _ l.isLt)
  · exact pieceR (A := 512) (B := 1024) (n := 512) (m := 128) (d := 128) (inb3 1 512 1024 0 0 128 (by decide) (by decide) (by decide)) _ (fun u v => qR I b (T * 512 + u) (v / 64) (v % 64) * (qsc : EReal)) fun p l => (pay28_q _ _ (fun u => T * 512 + u) (fun u j => zP I b (T * 512 + u) (2048 + j)) (cos_at c arg7 harg7 x5 T h5) (sin_at c arg8 harg8 x6 T h6) _ (r9_at c arg2 harg2 arg5 harg5 arg6 harg6 x0 x3 x4 I b T h0 h3 h4) p l).trans (qrot128 I b _ l.isLt)
  · exact pieceR (A := 512) (B := 1024) (n := 512) (m := 128) (d := 0) (inb3 1 512 1024 0 0 0 (by decide) (by decide) (by decide)) _ (fun u v => qR I b (T * 512 + u) (v / 64) (v % 64) * (qsc : EReal)) fun p l => (pay25_q _ _ (fun u => T * 512 + u) (fun u j => zP I b (T * 512 + u) (2048 + j)) (cos_at c arg7 harg7 x5 T h5) (sin_at c arg8 harg8 x6 T h6) _ (r9_at c arg2 harg2 arg5 harg5 arg6 harg6 x0 x3 x4 I b T h0 h3 h4) p l).trans (qrot0 I b _ l.isLt)

theorem kt_val (p : Fin 1024) (l : Fin 512) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = (fun v u => if v % 256 < 128 then (if v % 128 < 64 then kR I b (T * 512 + u) (v / 256) (v % 128) else 0) else (if v % 128 < 64 then 0 else kR I b (T * 512 + u) (v / 256) (v % 128 - 64))) p.val l.val := by
  unfold out0_A_13
  rw [View.read_writes_eq_canon _ _ _ (cover0_A_13 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 1024, 512]⟩ : Shape).Idx => ((fun v u => if v % 256 < 128 then (if v % 128 < 64 then kR I b (T * 512 + u) (v / 256) (v % 128) else 0) else (if v % 128 < 64 then 0 else kR I b (T * 512 + u) (v / 256) (v % 128 - 64))) (y 1).val (y 2).val : Elt Ideal .bf16)) _ ?_ _ (cover0_A_13 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl | rfl | rfl | rfl | rfl
  · exact pieceC (A := 1024) (B := 512) (n := 128) (m := 512) (a := 896) (inb3 1 1024 512 0 896 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay74_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot7 I b _ l.isLt)
  · exact pieceC (A := 1024) (B := 512) (n := 128) (m := 512) (a := 768) (inb3 1 1024 512 0 768 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay73_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot6 I b _ l.isLt)
  · exact pieceC (A := 1024) (B := 512) (n := 128) (m := 512) (a := 640) (inb3 1 1024 512 0 640 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay72_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot5 I b _ l.isLt)
  · exact pieceC (A := 1024) (B := 512) (n := 128) (m := 512) (a := 512) (inb3 1 1024 512 0 512 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay70_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot4 I b _ l.isLt)
  · exact pieceC (A := 1024) (B := 512) (n := 128) (m := 512) (a := 384) (inb3 1 1024 512 0 384 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay65_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot3 I b _ l.isLt)
  · exact pieceC (A := 1024) (B := 512) (n := 128) (m := 512) (a := 256) (inb3 1 1024 512 0 256 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay64_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot2 I b _ l.isLt)
  · exact pieceC (A := 1024) (B := 512) (n := 128) (m := 512) (a := 128) (inb3 1 1024 512 0 128 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay63_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot1 I b _ l.isLt)
  · exact pieceC (A := 1024) (B := 512) (n := 128) (m := 512) (a := 0) (inb3 1 1024 512 0 0 0 (by decide) (by decide) (by decide)) _ (fun v u => if v % 256 < 128 then (if v % 128 < 64 then kR I b (T * 512 + u) (v / 256) (v % 128) else 0) else (if v % 128 < 64 then 0 else kR I b (T * 512 + u) (v / 256) (v % 128 - 64))) fun l p => (pay61_k _ _ (fun u => T * 512 + u) (fun u j => zP I b (T * 512 + u) (3072 + j)) (cos_at c arg7 harg7 x5 T h5) (sin_at c arg8 harg8 x6 T h6) _ (r30_at c arg2 harg2 arg5 harg5 arg6 harg6 x0 x3 x4 I b T h0 h3 h4) p l).trans (krot0 I b _ l.isLt)

end

end Cert.Kernel2Ideal.Val

end
-- ==== Proof.LongPool.lean ====
module

public import proofs.«01_k».proof.Proof.Pool
public import proofs.«01_k».proof.Proof.LongProj

@[expose] public section

set_option maxRecDepth 16384

noncomputable section

namespace Cert.Kernel2Ideal.Val

open Cert.KernelIdeal.Val Idealize.ShloMosaic Idealize.ShloMosaic.TcCoe Idealize.SL.Sem Layer Facts₀ Facts Gen

/-! ### The pooling branch of a step -/

/-- The projected rows around a step, zero outside the sequence. -/
def uX (I : In) (b T : ℕ) (r c : ℕ) : EReal := if 8 ≤ T * 512 + r ∧ T * 512 + r < 8200 ∧ r < 528 then zP I b (T * 512 + r - 8) c else 0

theorem not_edge (T n : ℕ) (hT : T < 16) (hn : n < 16) : Scalar.xori (Scalar.cmpi .eq (BitVec.ofNat 32 T) (BitVec.ofNat 32 n)) 1#1 = if T ≠ n then 1#1 else 0#1 := by
  interval_cases T <;> interval_cases n <;> decide

theorem count0 (t : Fin 8192) : (IntOp.subi (IntOp.minsi (IntOp.addi (IntOp.subi (BitVec.ofNat 32 t.val) 1#32) 2#32) 8192#32) (IntOp.maxsi (IntOp.subi (BitVec.ofNat 32 t.val) 1#32) 0#32)).toInt = ((min (t.val + 1) 8192 - (t.val - 1) : ℕ) : ℤ) := by
  revert t
  decide +kernel

theorem count1 (t : Fin 8192) : (IntOp.subi (IntOp.minsi (IntOp.addi (IntOp.subi (BitVec.ofNat 32 t.val) 2#32) 4#32) 8192#32) (IntOp.maxsi (IntOp.subi (BitVec.ofNat 32 t.val) 2#32) 0#32)).toInt = ((min (t.val + 2) 8192 - (t.val - 2) : ℕ) : ℤ) := by
  revert t
  decide +kernel

theorem count2 (t : Fin 8192) : (IntOp.subi (IntOp.minsi (IntOp.addi (IntOp.subi (BitVec.ofNat 32 t.val) 4#32) 8#32) 8192#32) (IntOp.maxsi (IntOp.subi (BitVec.ofNat 32 t.val) 4#32) 0#32)).toInt = ((min (t.val + 4) 8192 - (t.val - 4) : ℕ) : ℤ) := by
  revert t
  decide +kernel

theorem count3 (t : Fin 8192) : (IntOp.subi (IntOp.minsi (IntOp.addi (IntOp.subi (BitVec.ofNat 32 t.val) 8#32) 16#32) 8192#32) (IntOp.maxsi (IntOp.subi (BitVec.ofNat 32 t.val) 8#32) 0#32)).toInt = ((min (t.val + 8) 8192 - (t.val - 8) : ℕ) : ℤ) := by
  revert t
  decide +kernel

theorem cnt_ne (g t : ℕ) (ht : t < 8192) : cnt 8192 g t ≠ 0 := by
  have h2 : 1 ≤ hw g := Nat.one_le_two_pow
  unfold cnt
  have : min (t + hw g) 8192 - (t - hw g) ≠ 0 := by omega
  intro h
  exact this (by exact_mod_cast h)

theorem pos_at (T : ℕ) (hT : T < 16) (p : Fin 512) (l : Fin 128) : k0_pay10 (BitVec.ofNat 32 T) (ix2 p l) = BitVec.ofNat 32 (T * 512 + p.val) := by
  pointwise [k0_pay10]
  show BitVec.ofNat 32 T * 512#32 + BitVec.ofNat 32 p.val = _
  rw [← BitVec.ofNat_mul, ← BitVec.ofNat_add]

section
variable (G : FVec Ideal S512x256 .f32) (P : FVec Ideal S512x256 .bf16) (W : Vec Ideal S1x256x256 .bf16) (s : Vec Ideal S1x256 .f32) (p : Fin 512) (l : Fin 256)

/-- One group of the gated pooling branch. -/
theorem group (I : In) (b t g : ℕ) (hP : ∀ k : Fin 256, P (ix2 p k) = pooled 8192 I b t (256 * g + k.val)) (hW : ∀ k : Fin 256, W (ix3 0 k l) = I.wpg g k.val l.val)
    (hs : s (ix2 0 l) = I.ps (256 * g + l.val)) (hG : G (ix2 p l) = silu (zP I b t (1024 + (256 * g + l.val)))) :
    (∑ k : Fin 256, P (ix2 p k) * W (ix3 0 k l)) * s (ix2 0 l) * G (ix2 p l) = pbG 8192 I b t (256 * g + l.val) := by
  have hl := l.isLt
  unfold pbG
  rw [hs, hG, ← sum_fin]
  refine congrArg (· * _) (congrArg (· * _) (Finset.sum_congr rfl fun k _ => ?_))
  rw [hP, hW, show (256 * g + l.val) / 256 = g by omega, show (256 * g + l.val) % 256 = l.val by omega, show g * 256 + k.val = 256 * g + k.val by omega]

end

theorem inv0 (t : ℕ) (ht : t < 8192) : Ideal.div 1 (FloatOps.sitofp FTy.f32 (IntOp.subi (IntOp.minsi (IntOp.addi (IntOp.subi (BitVec.ofNat 32 t) 1#32) 2#32) 8192#32) (IntOp.maxsi (IntOp.subi (BitVec.ofNat 32 t) 1#32) 0#32)) : Ideal .f32)
    = Ideal.div 1 (cnt 8192 0 t) := by
  have h := count0 ⟨t, ht⟩
  show Ideal.div 1 ((((IntOp.subi (IntOp.minsi (IntOp.addi (IntOp.subi (BitVec.ofNat 32 t) 1#32) 2#32) 8192#32) (IntOp.maxsi (IntOp.subi (BitVec.ofNat 32 t) 1#32) 0#32)).toInt : ℝ)) : EReal) = _
  rw [h]
  rfl

theorem inv1 (t : ℕ) (ht : t < 8192) : Ideal.div 1 (FloatOps.sitofp FTy.f32 (IntOp.subi (IntOp.minsi (IntOp.addi (IntOp.subi (BitVec.ofNat 32 t) 2#32) 4#32) 8192#32) (IntOp.maxsi (IntOp.subi (BitVec.ofNat 32 t) 2#32) 0#32)) : Ideal .f32)
    = Ideal.div 1 (cnt 8192 1 t) := by
  have h := count1 ⟨t, ht⟩
  show Ideal.div 1 ((((IntOp.subi (IntOp.minsi (IntOp.addi (IntOp.subi (BitVec.ofNat 32 t) 2#32) 4#32) 8192#32) (IntOp.maxsi (IntOp.subi (BitVec.ofNat 32 t) 2#32) 0#32)).toInt : ℝ)) : EReal) = _
  rw [h]
  rfl

theorem inv2 (t : ℕ) (ht : t < 8192) : Ideal.div 1 (FloatOps.sitofp FTy.f32 (IntOp.subi (IntOp.minsi (IntOp.addi (IntOp.subi (BitVec.ofNat 32 t) 4#32) 8#32) 8192#32) (IntOp.maxsi (IntOp.subi (BitVec.ofNat 32 t) 4#32) 0#32)) : Ideal .f32)
    = Ideal.div 1 (cnt 8192 2 t) := by
  have h := count2 ⟨t, ht⟩
  show Ideal.div 1 ((((IntOp.subi (IntOp.minsi (IntOp.addi (IntOp.subi (BitVec.ofNat 32 t) 4#32) 8#32) 8192#32) (IntOp.maxsi (IntOp.subi (BitVec.ofNat 32 t) 4#32) 0#32)).toInt : ℝ)) : EReal) = _
  rw [h]
  rfl

theorem inv3 (t : ℕ) (ht : t < 8192) : Ideal.div 1 (FloatOps.sitofp FTy.f32 (IntOp.subi (IntOp.minsi (IntOp.addi (IntOp.subi (BitVec.ofNat 32 t) 8#32) 16#32) 8192#32) (IntOp.maxsi (IntOp.subi (BitVec.ofNat 32 t) 8#32) 0#32)) : Ideal .f32)
    = Ideal.div 1 (cnt 8192 3 t) := by
  have h := count3 ⟨t, ht⟩
  show Ideal.div 1 ((((IntOp.subi (IntOp.minsi (IntOp.addi (IntOp.subi (BitVec.ofNat 32 t) 8#32) 16#32) 8192#32) (IntOp.maxsi (IntOp.subi (BitVec.ofNat 32 t) 8#32) 0#32)).toInt : ℝ)) : EReal) = _
  rw [h]
  rfl

/-- The window sum of a group, read off the rows around the step. -/
theorem window (g p cc : ℕ) (hg : hw g ≤ 8) (hp : p < 512) (hc : cc / 256 = g) (I : In) (b T : ℕ) (hT : T < 16) :
    (∑ j ∈ Finset.range (2 * hw g), uX I b T (8 - hw g + p + j) cc) = total 8192 I b (T * 512 + p) cc := by
  unfold total
  rw [hc]
  refine Finset.sum_congr rfl fun j hj => ?_
  have hj := Finset.mem_range.mp hj
  unfold uX
  refine (if_congr (by omega) (congrArg (fun t => zP I b t cc) (by omega)) rfl)

theorem center (p cc : ℕ) (hp : p < 512) (I : In) (b T : ℕ) (hT : T < 16) : uX I b T (8 + p) cc = zP I b (T * 512 + p) cc := by
  unfold uX
  rw [if_pos (by omega)]
  exact congrArg (fun t => zP I b t cc) (by omega)

section
variable (V : IVec S512x128 32) (T : ℕ) (hT : T < 16) (hV : ∀ (p : Fin 512) (l : Fin 128), V (ix2 p l) = BitVec.ofNat 32 (T * 512 + p.val))
include hV hT

theorem pool0 (U : Vec Ideal S552x256 .f32) (f : ℕ → ℕ → EReal) (hU : ∀ (r : Fin 552) (l : Fin 256), U (ix2 r l) = f r.val l.val) (p : Fin 512) (l : Fin 256) :
    k0_pay42 (F := Ideal) (k0_pay39 U) (k0_pay40 U) (k0_pay41 V) (ix2 p l) = Ideal.div (∑ j ∈ Finset.range 2, f (7 + p.val + j) l.val) (cnt 8192 0 (T * 512 + p.val)) - f (8 + p.val) l.val := by
  have hp := p.isLt
  rw [← recip _ _ (cnt_ne 0 _ (by omega))]
  pointwise [k0_pay42, k0_pay39, k0_pay40, k0_pay41]
  simp only [hU, hV, dite_eq_ite, ite_self]
  rw [inv0 _ (by omega)]
  refine congrArg (· - f (8 + p.val) l.val) (congrArg (· * Ideal.div 1 (cnt 8192 0 (T * 512 + p.val))) ?_)
  simp only [Finset.sum_range_succ, Finset.sum_range_zero, zero_add, Nat.add_zero]
  have e : ∀ a b : ℕ, a = b → f a l.val = f b l.val := fun a b h => by rw [h]
  simp only [e (1 + (7 + p.val)) (7 + p.val + 1) (by omega)]

theorem pool1 (U : Vec Ideal S552x256 .f32) (f : ℕ → ℕ → EReal) (hU : ∀ (r : Fin 552) (l : Fin 256), U (ix2 r l) = f r.val l.val) (p : Fin 512) (l : Fin 256) :
    k0_pay44 (F := Ideal) V U (ix2 p l) = Ideal.div (∑ j ∈ Finset.range 4, f (6 + p.val + j) l.val) (cnt 8192 1 (T * 512 + p.val)) - f (8 + p.val) l.val := by
  have hp := p.isLt
  rw [← recip _ _ (cnt_ne 1 _ (by omega))]
  pointwise [k0_pay44]
  simp only [hU, hV, dite_eq_ite, ite_self]
  rw [inv1 _ (by omega)]
  refine congrArg (· - f (8 + p.val) l.val) (congrArg (· * Ideal.div 1 (cnt 8192 1 (T * 512 + p.val))) ?_)
  simp only [Finset.sum_range_succ, Finset.sum_range_zero, zero_add, Nat.add_zero]
  have e : ∀ a b : ℕ, a = b → f a l.val = f b l.val := fun a b h => by rw [h]
  simp only [e (1 + (6 + p.val)) (6 + p.val + 1) (by omega), e (8 + p.val) (6 + p.val + 2) (by omega), e (1 + (8 + p.val)) (6 + p.val + 3) (by omega)]
  simp only [add_assoc]

theorem pool2 (U : Vec Ideal S552x256 .f32) (f : ℕ → ℕ → EReal) (hU : ∀ (r : Fin 552) (l : Fin 256), U (ix2 r l) = f r.val l.val) (p : Fin 512) (l : Fin 256) :
    k0_pay49 (F := Ideal) V (k0_pay47 U) (k0_pay48 U) (ix2 p l) = Ideal.div (∑ j ∈ Finset.range 8, f (4 + p.val + j) l.val) (cnt 8192 2 (T * 512 + p.val)) - f (8 + p.val) l.val := by
  have hp := p.isLt
  rw [← recip _ _ (cnt_ne 2 _ (by omega))]
  pointwise [k0_pay49, k0_pay47, k0_pay48]
  simp only [hU, hV, dite_eq_ite, ite_self]
  rw [inv2 _ (by omega)]
  refine congrArg (· - f (8 + p.val) l.val) (congrArg (· * Ideal.div 1 (cnt 8192 2 (T * 512 + p.val))) ?_)
  simp only [Finset.sum_range_succ, Finset.sum_range_zero, zero_add, Nat.add_zero]
  have e : ∀ a b : ℕ, a = b → f a l.val = f b l.val := fun a b h => by rw [h]
  simp only [e (1 + (4 + p.val)) (4 + p.val + 1) (by omega), e (2 + (4 + p.val)) (4 + p.val + 2) (by omega), e (1 + (2 + (4 + p.val))) (4 + p.val + 3) (by omega), e (8 + p.val) (4 + p.val + 4) (by omega), e (1 + (8 + p.val)) (4 + p.val + 5) (by omega), e (2 + (8 + p.val)) (4 + p.val + 6) (by omega), e (1 + (2 + (8 + p.val))) (4 + p.val + 7) (by omega)]
  simp only [add_assoc]

theorem pool3 (U : Vec Ideal S552x256 .f32) (f : ℕ → ℕ → EReal) (hU : ∀ (r : Fin 552) (l : Fin 256), U (ix2 r l) = f r.val l.val) (p : Fin 512) (l : Fin 256) :
    k0_pay55 (F := Ideal) V (k0_pay52 U) (k0_pay53 U) (k0_pay54 V) (ix2 p l) = Ideal.div (∑ j ∈ Finset.range 16, f (p.val + j) l.val) (cnt 8192 3 (T * 512 + p.val)) - f (8 + p.val) l.val := by
  have hp := p.isLt
  rw [← recip _ _ (cnt_ne 3 _ (by omega))]
  pointwise [k0_pay55, k0_pay52, k0_pay53, k0_pay54]
  simp only [hU, hV, dite_eq_ite, ite_self]
  rw [inv3 _ (by omega)]
  refine congrArg (· - f (8 + p.val) l.val) (congrArg (· * Ideal.div 1 (cnt 8192 3 (T * 512 + p.val))) ?_)
  simp only [Finset.sum_range_succ, Finset.sum_range_zero, zero_add, Nat.add_zero]
  have e : ∀ a b : ℕ, a = b → f a l.val = f b l.val := fun a b h => by rw [h]
  simp only [e (1 + p.val) (p.val + 1) (by omega), e (2 + p.val) (p.val + 2) (by omega), e (1 + (2 + p.val)) (p.val + 3) (by omega), e (4 + p.val) (p.val + 4) (by omega), e (1 + (4 + p.val)) (p.val + 5) (by omega), e (2 + (4 + p.val)) (p.val + 6) (by omega), e (1 + (2 + (4 + p.val))) (p.val + 7) (by omega), e (8 + p.val) (p.val + 8) (by omega), e (1 + (8 + p.val)) (p.val + 9) (by omega), e (2 + (8 + p.val)) (p.val + 10) (by omega), e (1 + (2 + (8 + p.val))) (p.val + 11) (by omega), e (4 + (8 + p.val)) (p.val + 12) (by omega), e (1 + (4 + (8 + p.val))) (p.val + 13) (by omega), e (2 + (4 + (8 + p.val))) (p.val + 14) (by omega), e (1 + (2 + (4 + (8 + p.val)))) (p.val + 15) (by omega)]
  simp only [add_assoc]

end

section
variable (c : Dev nD) (i : grid0.Coords)
  (arg2 : Memref sig .tc .vmem S1x512x1024 .f32) (harg2 : arg2.IsWhole)
  (arg3 : Memref sig .tc .vmem S1x8x1024 .f32) (harg3 : arg3.IsWhole)
  (arg4 : Memref sig .tc .vmem S1x8x1024 .f32) (harg4 : arg4.IsWhole)
  (arg5 : Memref sig .tc .vmem S1x1024 .f32) (harg5 : arg5.IsWhole)
  (arg6 : Memref sig .tc .vmem S1024x6656 .bf16) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S4x256x256 .bf16) (harg9 : arg9.IsWhole)
  (arg10 : Memref sig .tc .vmem S1x1024 .f32) (harg10 : arg10.IsWhole)
  (arg11 : Memref sig .tc .vmem S1x512x1024 .bf16) (harg11 : arg11.IsWhole)
  (arg12 : Memref sig .tc .vmem S1x512x1024 .bf16) (harg12 : arg12.IsWhole)
  (arg13 : Memref sig .tc .vmem S1x512x1024 .bf16) (harg13 : arg13.IsWhole)
  (arg14 : Memref sig .tc .vmem S1x512x2048 .bf16) (harg14 : arg14.IsWhole)
  (arg15 : Memref sig .tc .vmem S1x1024x512 .bf16) (harg15 : arg15.IsWhole)
  (arg16 : Memref sig .tc .vmem S1x512x1024 .bf16) (harg16 : arg16.IsWhole)
  (arg17 : Memref sig .tc .vmem S1x512x1024 .bf16) (harg17 : arg17.IsWhole)
  (arg18 : Memref sig .tc .vmem S552x1024 .f32) (harg18 : arg18.IsWhole)
  (x0 : Vec Ideal S1x512x1024 .f32) (x1 : Vec Ideal S1x8x1024 .f32) (x2 : Vec Ideal S1x8x1024 .f32) (x3 : Vec Ideal S1x1024 .f32) (x4 : Vec Ideal S1024x6656 .bf16) (x5 : Vec Ideal S512x128 .f32) (x6 : Vec Ideal S512x128 .f32) (x7 : Vec Ideal S4x256x256 .bf16) (x8 : Vec Ideal S1x1024 .f32)
variable (I : In) (b T : ℕ)
  (h0 : ∀ p l, p < 512 → l < 1024 → rd3 (n0 := 1) (n1 := 512) (n2 := 1024) x0 0 p l = I.x b (T * 512 + p) l)
  (h3 : ∀ l, l < 1024 → rd2 (n0 := 1) (n1 := 1024) x3 0 l = I.g l)
  (h4 : ∀ k l, k < 1024 → l < 6656 → rd2 (n0 := 1024) (n1 := 6656) x4 k l = I.w k l)
  (h5 : ∀ p l, p < 512 → l < 128 → rd2 (n0 := 512) (n1 := 128) x5 p l = Ideal.cos (ang (T * 512 + p) (l % 32)))
  (h6 : ∀ p l, p < 512 → l < 128 → rd2 (n0 := 512) (n1 := 128) x6 p l = if l % 64 < 32 then -Ideal.sin (ang (T * 512 + p) (l % 32)) else Ideal.sin (ang (T * 512 + p) (l % 32)))
  (hT : T < 16) (hi : (i 1).val = T)
  (h1 : ∀ p l, T ≠ 0 → p < 8 → l < 1024 → rd3 (n0 := 1) (n1 := 8) (n2 := 1024) x1 0 p l = I.x b (T * 512 + p - 8) l)
  (h2 : ∀ p l, T ≠ 15 → p < 8 → l < 1024 → rd3 (n0 := 1) (n1 := 8) (n2 := 1024) x2 0 p l = I.x b (T * 512 + 512 + p) l)
  (h7 : ∀ g k l, g < 4 → k < 256 → l < 256 → rd3 (n0 := 4) (n1 := 256) (n2 := 256) x7 g k l = I.wpg g k l)
  (h8 : ∀ l, l < 1024 → rd2 (n0 := 1) (n1 := 1024) x8 0 l = I.ps l)

include h0 h3 hT h1 h2

theorem ext_hN (p : Fin 528) (k : Fin 1024) (ha : 8 ≤ T * 512 + p.val) (hb : T * 512 + p.val < 8200) :
    kernelRun0_A.sl.r_5 (F := Ideal) c arg2 harg2 arg3 harg3 arg4 harg4 arg5 harg5 x0 x1 x2 x3 (ix2 p k) = hN I b (T * 512 + p.val - 8) k.val := by
  have hp := p.isLt
  have hg : ∀ l : Fin 1024, kernelRun0_A.sl.r (F := Ideal) c arg5 harg5 x3 (ix2 0 l) = I.g l.val := fun l => (pay2_at _ l).trans (ldG arg5 harg5 x3 I h3 _ l)
  refine (ext_at _ _ _ _ p k).trans ?_
  by_cases c1 : p.val < 8
  · rw [dif_pos c1, hN, rms_fin]
    have hx : ∀ l : Fin 1024, View.readAt (Elt Ideal) arg3.view (Rect.unit (s := S1x8x1024) ![0, 0, 0] S1x8x1024.size (inb3 1 8 1024 _ _ _ (by decide) (by decide) (by decide))).toLoadRect (harg3.unread x1) (ix3 0 ⟨p.val, c1⟩ l) = I.x b (T * 512 + p.val - 8) l.val := by
      intro l
      have hl := l.isLt
      exact (load3_f32 (A := 1) (B := 8) (C := 1024) arg3 harg3 x1 _ (ix3 0 ⟨p.val, c1⟩ l)).trans ((h1 (0 + p.val) (0 + l.val) (by omega) (by omega) (by omega)).trans (by rw [Nat.zero_add, Nat.zero_add]))
    simp only [hg]
    refine congrArg₂ (· * ·) (congrArg₂ (· * ·) (hx k) (congrArg Ideal.rsqrt (congrArg (· + _) (congrArg (Ideal.div · _) ?_)))) rfl
    exact Finset.sum_congr rfl fun j _ => congrArg₂ (· * ·) (hx j) (hx j)
  by_cases c2 : p.val - 8 < 512
  · rw [dif_neg c1, dif_pos c2]
    refine (norm_hN I b (T * 512 + (p.val - 8)) _ _ ⟨p.val - 8, c2⟩ (ldG arg5 harg5 x3 I h3 _) (ldX arg2 harg2 x0 I b T h0 _ ⟨p.val - 8, c2⟩) k).trans ?_
    rw [show T * 512 + (p.val - 8) = T * 512 + p.val - 8 by omega]
  · rw [dif_neg c1, dif_neg c2, hN, rms_fin]
    have hx : ∀ l : Fin 1024, View.readAt (Elt Ideal) arg4.view (Rect.unit (s := S1x8x1024) ![0, 0, 0] S1x8x1024.size (inb3 1 8 1024 _ _ _ (by decide) (by decide) (by decide))).toLoadRect (harg4.unread x2) (ix3 0 ⟨p.val - 8 - 512, by omega⟩ l) = I.x b (T * 512 + p.val - 8) l.val := by
      intro l
      have hl := l.isLt
      exact (load3_f32 (A := 1) (B := 8) (C := 1024) arg4 harg4 x2 _ (ix3 0 ⟨p.val - 8 - 512, by omega⟩ l)).trans ((h2 (0 + (p.val - 8 - 512)) (0 + l.val) (by omega) (by omega) (by omega)).trans (by rw [Nat.zero_add, Nat.zero_add]; congr 1; omega))
    simp only [hg]
    refine congrArg₂ (· * ·) (congrArg₂ (· * ·) (hx k) (congrArg Ideal.rsqrt (congrArg (· + _) (congrArg (Ideal.div · _) ?_)))) rfl
    exact Finset.sum_congr rfl fun j _ => congrArg₂ (· * ·) (hx j) (hx j)

include h4

theorem zlo (p : Fin 528) (l : Fin 512) (ha : 8 ≤ T * 512 + p.val) (hb : T * 512 + p.val < 8200) :
    k0_pay12 (F := Ideal) (kernelRun0_A.sl.r_5 (F := Ideal) c arg2 harg2 arg3 harg3 arg4 harg4 arg5 harg5 x0 x1 x2 x3) (kernelRun0_A.sl.r_7 (F := Ideal) c arg6 harg6 x4) (kernelRun0_A.sl.cst_29 (F := Ideal)) (ix2 p l) = zP I b (T * 512 + p.val - 8) (0 + l.val) :=
  (pay12_at _ _ p l).trans (z_of I b _ _ _ _ p l (fun k => ext_hN c arg2 harg2 arg3 harg3 arg4 harg4 arg5 harg5 x0 x1 x2 x3 I b T h0 h3 hT h1 h2 p k ha hb) (fun k => (pay11_at _ k l).trans (ldW (off := 0) (n := 512) arg6 harg6 x4 I h4 (by decide) _ k l)))

theorem zhi (p : Fin 528) (l : Fin 512) (ha : 8 ≤ T * 512 + p.val) (hb : T * 512 + p.val < 8200) :
    kernelRun0_A.sl.r_8 (F := Ideal) c arg2 harg2 arg3 harg3 arg4 harg4 arg5 harg5 arg6 harg6 x0 x1 x2 x3 x4 (ix2 p l) = zP I b (T * 512 + p.val - 8) (512 + l.val) :=
  (pay13_at _ _ p l).trans (z_of I b _ _ _ _ p l (fun k => ext_hN c arg2 harg2 arg3 harg3 arg4 harg4 arg5 harg5 x0 x1 x2 x3 I b T h0 h3 hT h1 h2 p k ha hb) (fun k => ldW (off := 512) (n := 512) arg6 harg6 x4 I h4 (by decide) _ k l))

include hi

theorem uLoad (off : ℕ) (ho : off + 256 ≤ 1024) (inb) (r : Fin 552) (l : Fin 256) :
    arg18.view.readCov (kernelRun0_A.sl.HS0_8 (F := Ideal) c i arg2 harg2 arg3 harg3 arg4 harg4 arg5 harg5 arg6 harg6 x0 x1 x2 x3 x4) (Rect.unit (s := S552x1024) ![0, off] S552x256.size inb).toLoadRect (ix2 r l) = uX I b T r.val (off + l.val) := by
  have hr := r.isLt
  have hl := l.isLt
  have e0 : ((Rect.unit (s := S552x1024) ![0, off] S552x256.size inb).idx (ix2 r l) 0).val = 0 + r.val := Rect.idx_unit_val (s := S552x1024) ![0, off] S552x256.size inb (ix2 r l) 0
  have e1 : ((Rect.unit (s := S552x1024) ![0, off] S552x256.size inb).idx (ix2 r l) 1).val = off + l.val := Rect.idx_unit_val (s := S552x1024) ![0, off] S552x256.size inb (ix2 r l) 1
  have hf : Scalar.xori (kernelRun0_A.sl.v0 i) 1#1 = if T ≠ 0 then 1#1 else 0#1 := by
    rw [← not_edge T 0 hT (by decide), ← hi]; rfl
  have hg : Scalar.xori (kernelRun0_A.sl.v1 i) 1#1 = if T ≠ 15 then 1#1 else 0#1 := by
    rw [← not_edge T 15 hT (by decide), ← hi]; rfl
  have hg' : kernelRun0_A.sl.v110 i = if T ≠ 15 then 1#1 else 0#1 := hg
  refine (cov2_f32 (A := 552) (B := 1024) arg18.view _ (fun u v => uX I b T u v) ?_ inb (ix2 r l) ?_).trans ?_
  · intro q hq
    simp only [kernelRun0_A.sl.HS0_8, List.mem_cons, List.not_mem_nil, or_false] at hq
    rcases hq with rfl | rfl | rfl | rfl | rfl | rfl | rfl | rfl
    · intro x
      obtain ⟨p, l, rfl⟩ : ∃ a b, x = ix2 a b := ⟨_, _, eq_ix2 x⟩
      rw [emb2_0, emb2_1]
      refine (pay23_at p l).trans ?_
      show 0 = uX I b T (528 + p.val) (512 + l.val)
      unfold uX
      rw [if_neg (by omega)]
    · intro x
      obtain ⟨p, l, rfl⟩ : ∃ a b, x = ix2 a b := ⟨_, _, eq_ix2 x⟩
      have hp := p.isLt
      rw [emb2_0, emb2_1]
      refine (pay22_at _ _ p l).trans ?_
      rw [hg', sel_if]
      show _ = uX I b T (520 + p.val) (512 + l.val)
      unfold uX
      by_cases hc : T ≠ 15
      · rw [if_pos hc, if_pos (by omega)]
        exact zhi c arg2 harg2 arg3 harg3 arg4 harg4 arg5 harg5 arg6 harg6 x0 x1 x2 x3 x4 I b T h0 h3 h4 hT h1 h2 ⟨520 + p.val, lt528'' p⟩ l (by dsimp only; omega) (by dsimp only; omega)
      · rw [if_neg hc, if_neg (by omega)]
    · intro x
      obtain ⟨p, l, rfl⟩ : ∃ a b, x = ix2 a b := ⟨_, _, eq_ix2 x⟩
      have hp := p.isLt
      rw [emb2_0, emb2_1]
      refine (pay21_at (kernelRun0_A.sl.r_8 (F := Ideal) c arg2 harg2 arg3 harg3 arg4 harg4 arg5 harg5 arg6 harg6 x0 x1 x2 x3 x4) p l).trans ?_
      show _ = uX I b T (8 + p.val) (512 + l.val)
      unfold uX
      rw [if_pos (by omega)]
      exact zhi c arg2 harg2 arg3 harg3 arg4 harg4 arg5 harg5 arg6 harg6 x0 x1 x2 x3 x4 I b T h0 h3 h4 hT h1 h2 ⟨8 + p.val, lt528' p⟩ l (by dsimp only; omega) (by dsimp only; omega)
    · intro x
      obtain ⟨p, l, rfl⟩ : ∃ a b, x = ix2 a b := ⟨_, _, eq_ix2 x⟩
      have hp := p.isLt
      rw [emb2_0, emb2_1]
      refine (pay20_at _ _ _ p l).trans ?_
      rw [hf, sel_if]
      show _ = uX I b T (0 + p.val) (512 + l.val)
      rw [Nat.zero_add]
      unfold uX
      by_cases hc : T ≠ 0
      · rw [if_pos hc, if_pos (by omega)]
        exact zhi c arg2 harg2 arg3 harg3 arg4 harg4 arg5 harg5 arg6 harg6 x0 x1 x2 x3 x4 I b T h0 h3 h4 hT h1 h2 ⟨p.val, lt528 p⟩ l (by dsimp only; omega) (by dsimp only; omega)
      · rw [if_neg hc, if_neg (by omega)]
    · intro x
      obtain ⟨p, l, rfl⟩ : ∃ a b, x = ix2 a b := ⟨_, _, eq_ix2 x⟩
      rw [emb2_0, emb2_1]
      refine (pay17_at p l).trans ?_
      show 0 = uX I b T (528 + p.val) (0 + l.val)
      unfold uX
      rw [if_neg (by omega)]
    · intro x
      obtain ⟨p, l, rfl⟩ : ∃ a b, x = ix2 a b := ⟨_, _, eq_ix2 x⟩
      have hp := p.isLt
      rw [emb2_0, emb2_1]
      refine (pay16_at _ _ _ p l).trans ?_
      rw [hg, sel_if]
      show _ = uX I b T (520 + p.val) (0 + l.val)
      unfold uX
      by_cases hc : T ≠ 15
      · rw [if_pos hc, if_pos (by omega)]
        exact zlo c arg2 harg2 arg3 harg3 arg4 harg4 arg5 harg5 arg6 harg6 x0 x1 x2 x3 x4 I b T h0 h3 h4 hT h1 h2 ⟨520 + p.val, lt528'' p⟩ l (by dsimp only; omega) (by dsimp only; omega)
      · rw [if_neg hc, if_neg (by omega)]
    · intro x
      obtain ⟨p, l, rfl⟩ : ∃ a b, x = ix2 a b := ⟨_, _, eq_ix2 x⟩
      have hp := p.isLt
      rw [emb2_0, emb2_1]
      refine (pay15_at _ _ p l).trans ?_
      show _ = uX I b T (8 + p.val) (0 + l.val)
      unfold uX
      rw [if_pos (by omega)]
      exact zlo c arg2 harg2 arg3 harg3 arg4 harg4 arg5 harg5 arg6 harg6 x0 x1 x2 x3 x4 I b T h0 h3 h4 hT h1 h2 ⟨8 + p.val, lt528' p⟩ l (by dsimp only; omega) (by dsimp only; omega)
    · intro x
      obtain ⟨p, l, rfl⟩ : ∃ a b, x = ix2 a b := ⟨_, _, eq_ix2 x⟩
      have hp := p.isLt
      rw [emb2_0, emb2_1]
      refine (pay14_at _ _ _ p l).trans ?_
      rw [hf, sel_if]
      show _ = uX I b T (0 + p.val) (0 + l.val)
      rw [Nat.zero_add]
      unfold uX
      by_cases hc : T ≠ 0
      · rw [if_pos hc, if_pos (by omega)]
        exact zlo c arg2 harg2 arg3 harg3 arg4 harg4 arg5 harg5 arg6 harg6 x0 x1 x2 x3 x4 I b T h0 h3 h4 hT h1 h2 ⟨p.val, lt528 p⟩ l (by dsimp only; omega) (by dsimp only; omega)
      · rw [if_neg hc, if_neg (by omega)]
  · unfold kernelRun0_A.sl.HS0_8
    by_cases c0 : off + l.val < 512
    · by_cases c1 : r.val < 8
      · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
        refine mem2 (inb := inb2 552 1024 0 0 (by decide) (by decide)) ?_ ?_
        · rw [e0]; omega
        · rw [e1]; omega
      by_cases c2 : r.val < 520
      · refine ⟨_, (List.mem_cons_of_mem _ (List.mem_cons_of_mem _ (List.mem_cons_of_mem _ (List.mem_cons_of_mem _ (List.mem_cons_of_mem _ (List.mem_cons_of_mem _ List.mem_cons_self)))))), ?_⟩
        refine mem2 (inb := inb2 552 1024 8 0 (by decide) (by decide)) ?_ ?_
        · rw [e0]; omega
        · rw [e1]; omega
      by_cases c3 : r.val < 528
      · refine ⟨_, (List.mem_cons_of_mem _ (List.mem_cons_of_mem _ (List.mem_cons_of_mem _ (List.mem_cons_of_mem _ (List.mem_cons_of_mem _ List.mem_cons_self))))), ?_⟩
        refine mem2 (inb := inb2 552 1024 520 0 (by decide) (by decide)) ?_ ?_
        · rw [e0]; omega
        · rw [e1]; omega
      · refine ⟨_, (List.mem_cons_of_mem _ (List.mem_cons_of_mem _ (List.mem_cons_of_mem _ (List.mem_cons_of_mem _ List.mem_cons_self)))), ?_⟩
        refine mem2 (inb := inb2 552 1024 528 0 (by decide) (by decide)) ?_ ?_
        · rw [e0]; omega
        · rw [e1]; omega
    · by_cases c1 : r.val < 8
      · refine ⟨_, (List.mem_cons_of_mem _ (List.mem_cons_of_mem _ (List.mem_cons_of_mem _ List.mem_cons_self))), ?_⟩
        refine mem2 (inb := inb2 552 1024 0 512 (by decide) (by decide)) ?_ ?_
        · rw [e0]; omega
        · rw [e1]; omega
      by_cases c2 : r.val < 520
      · refine ⟨_, (List.mem_cons_of_mem _ (List.mem_cons_of_mem _ List.mem_cons_self)), ?_⟩
        refine mem2 (inb := inb2 552 1024 8 512 (by decide) (by decide)) ?_ ?_
        · rw [e0]; omega
        · rw [e1]; omega
      by_cases c3 : r.val < 528
      · refine ⟨_, (List.mem_cons_of_mem _ List.mem_cons_self), ?_⟩
        refine mem2 (inb := inb2 552 1024 520 512 (by decide) (by decide)) ?_ ?_
        · rw [e0]; omega
        · rw [e1]; omega
      · refine ⟨_, List.mem_cons_self, ?_⟩
        refine mem2 (inb := inb2 552 1024 528 512 (by decide) (by decide)) ?_ ?_
        · rw [e0]; omega
        · rw [e1]; omega
  · show uX I b T (0 + r.val) (off + l.val) = _
    rw [Nat.zero_add]

theorem pooled0 (p : Fin 512) (l : Fin 256) :
    kernelRun0_A.sl.r_22 (F := Ideal) c i arg2 harg2 arg3 harg3 arg4 harg4 arg5 harg5 arg6 harg6 arg18 x0 x1 x2 x3 x4 (ix2 p l) = pooled 8192 I b (T * 512 + p.val) (0 + l.val) := by
  have hp := p.isLt
  have hl := l.isLt
  refine (pool0 (kernelRun0_A.sl.r_6 i) T hT (fun p l => (congrFun (congrArg k0_pay10 (congrArg (BitVec.ofNat 32) hi)) (ix2 p l)).trans (pos_at T hT p l)) _ (fun u v => uX I b T u (0 + v)) (fun r l => uLoad c i arg2 harg2 arg3 harg3 arg4 harg4 arg5 harg5 arg6 harg6 arg18 x0 x1 x2 x3 x4 I b T h0 h3 h4 hT hi h1 h2 0 (by decide) _ r l) p l).trans ?_
  unfold pooled
  have hq : (0 + l.val) / 256 = 0 := by omega
  rw [hq]
  refine congrArg₂ (· - ·) (congrArg (Ideal.div · _) ?_) (center p.val (0 + l.val) hp I b T hT)
  exact window 0 p.val (0 + l.val) (by decide) hp hq I b T hT

theorem pooled1 (p : Fin 512) (l : Fin 256) :
    kernelRun0_A.sl.r_24 (F := Ideal) c i arg2 harg2 arg3 harg3 arg4 harg4 arg5 harg5 arg6 harg6 arg18 x0 x1 x2 x3 x4 (ix2 p l) = pooled 8192 I b (T * 512 + p.val) (256 + l.val) := by
  have hp := p.isLt
  have hl := l.isLt
  refine (pool1 (kernelRun0_A.sl.r_6 i) T hT (fun p l => (congrFun (congrArg k0_pay10 (congrArg (BitVec.ofNat 32) hi)) (ix2 p l)).trans (pos_at T hT p l)) _ (fun u v => uX I b T u (256 + v)) (fun r l => uLoad c i arg2 harg2 arg3 harg3 arg4 harg4 arg5 harg5 arg6 harg6 arg18 x0 x1 x2 x3 x4 I b T h0 h3 h4 hT hi h1 h2 256 (by decide) _ r l) p l).trans ?_
  unfold pooled
  have hq : (256 + l.val) / 256 = 1 := by omega
  rw [hq]
  refine congrArg₂ (· - ·) (congrArg (Ideal.div · _) ?_) (center p.val (256 + l.val) hp I b T hT)
  exact window 1 p.val (256 + l.val) (by decide) hp hq I b T hT

theorem pooled2 (p : Fin 512) (l : Fin 256) :
    kernelRun0_A.sl.r_29 (F := Ideal) c i arg2 harg2 arg3 harg3 arg4 harg4 arg5 harg5 arg6 harg6 arg18 x0 x1 x2 x3 x4 (ix2 p l) = pooled 8192 I b (T * 512 + p.val) (512 + l.val) := by
  have hp := p.isLt
  have hl := l.isLt
  refine (pool2 (kernelRun0_A.sl.r_6 i) T hT (fun p l => (congrFun (congrArg k0_pay10 (congrArg (BitVec.ofNat 32) hi)) (ix2 p l)).trans (pos_at T hT p l)) _ (fun u v => uX I b T u (512 + v)) (fun r l => uLoad c i arg2 harg2 arg3 harg3 arg4 harg4 arg5 harg5 arg6 harg6 arg18 x0 x1 x2 x3 x4 I b T h0 h3 h4 hT hi h1 h2 512 (by decide) _ r l) p l).trans ?_
  unfold pooled
  have hq : (512 + l.val) / 256 = 2 := by omega
  rw [hq]
  refine congrArg₂ (· - ·) (congrArg (Ideal.div · _) ?_) (center p.val (512 + l.val) hp I b T hT)
  exact window 2 p.val (512 + l.val) (by decide) hp hq I b T hT

theorem pooled3 (p : Fin 512) (l : Fin 256) :
    kernelRun0_A.sl.r_35 (F := Ideal) c i arg2 harg2 arg3 harg3 arg4 harg4 arg5 harg5 arg6 harg6 arg18 x0 x1 x2 x3 x4 (ix2 p l) = pooled 8192 I b (T * 512 + p.val) (768 + l.val) := by
  have hp := p.isLt
  have hl := l.isLt
  refine (pool3 (kernelRun0_A.sl.r_6 i) T hT (fun p l => (congrFun (congrArg k0_pay10 (congrArg (BitVec.ofNat 32) hi)) (ix2 p l)).trans (pos_at T hT p l)) _ (fun u v => uX I b T u (768 + v)) (fun r l => uLoad c i arg2 harg2 arg3 harg3 arg4 harg4 arg5 harg5 arg6 harg6 arg18 x0 x1 x2 x3 x4 I b T h0 h3 h4 hT hi h1 h2 768 (by decide) _ r l) p l).trans ?_
  unfold pooled
  have hq : (768 + l.val) / 256 = 3 := by omega
  rw [hq]
  refine congrArg₂ (· - ·) (congrArg (Ideal.div · _) ?_) (center p.val (768 + l.val) hp I b T hT)
  exact (Finset.sum_congr rfl fun j _ => congrArg (fun a => uX I b T a (768 + l.val)) (show p.val + j = 8 - hw 3 + p.val + j from (by rw [show hw 3 = 8 from rfl]; omega))).trans (window 3 p.val (768 + l.val) (by decide) hp hq I b T hT)

omit h0 h3 hT h1 h2 h4 hi in
include h7 in
theorem ldWG (g : ℕ) (hg : g < 4) (inb) (k l : Fin 256) :
    View.readAt (Elt Ideal) arg9.view (Rect.unit (s := S4x256x256) ![g, 0, 0] S1x256x256.size inb).toLoadRect (harg9.unread x7) (ix3 0 k l) = I.wpg g k.val l.val := by
  have hk := k.isLt
  have hl := l.isLt
  exact (load3_bf16 (A := 4) (B := 256) (C := 256) arg9 harg9 x7 _ (ix3 0 k l)).trans ((h7 (g + 0) (0 + k.val) (0 + l.val) (by omega) (by omega) (by omega)).trans (by rw [Nat.zero_add, Nat.zero_add, Nat.add_zero]))

omit h0 h3 hT h1 h2 h4 hi in
include h8 in
theorem ldPS (off : ℕ) (ho : off + 256 ≤ 1024) (inb) (l : Fin 256) :
    View.readAt (Elt Ideal) arg10.view (Rect.unit (s := S1x1024) ![0, off] S1x256.size inb).toLoadRect (harg10.unread x8) (ix2 0 l) = I.ps (off + l.val) := by
  have hl := l.isLt
  exact (load2_f32 (A := 1) (B := 1024) arg10 harg10 x8 _ (ix2 0 l)).trans (h8 (off + l.val) (by omega))

include h7 h8

theorem pb_val (p : Fin 512) (l : Fin 1024) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 p l) = pbG 8192 I b (T * 512 + p.val) l.val := by
  unfold out0_A_9
  rw [View.read_writes_eq_canon _ _ _ (cover0_A_9 c _ _ _ _ _ _ _ _ _ _ _ _ _ _ _ _ _ _ _ _ _ _ _ _ _ _ _ _ _ _ _ _ _ _ _ _ _ _ _ _ _ _ _ _ )]
  refine (View.canon_apply_of_pieces (fun y : (⟨3, ![1, 512, 1024]⟩ : Shape).Idx => (pbG 8192 I b (T * 512 + (y 1).val) (y 2).val : Elt Ideal .bf16)) _ ?_ _ (cover0_A_9 c _ _ _ _ _ _ _ _ _ _ _ _ _ _ _ _ _ _ _ _ _ _ _ _ _ _ _ _ _ _ _ _ _ _ _ _ _ _ _ _ _ _ _ _  _)).trans rfl
  unfold kernelRun0_A
  dsimp only
  intro q hq
  simp only [List.mem_cons, List.not_mem_nil, or_false] at hq
  rcases hq with rfl | rfl | rfl | rfl
  · exact pieceR (A := 512) (B := 1024) (n := 512) (m := 256) (d := 768) (inb3 1 512 1024 0 0 768 (by decide) (by decide) (by decide)) _ (fun u v => pbG 8192 I b (T * 512 + u) v) fun p l => (mix3_at _ _ _ _ p l).trans (group _ _ _ _ p l I b _ 3
      (fun k => (pooled3 c i arg2 harg2 arg3 harg3 arg4 harg4 arg5 harg5 arg6 harg6 arg18 x0 x1 x2 x3 x4 I b T h0 h3 h4 hT hi h1 h2 p k)) (fun k => ldWG arg9 harg9 x7 I h7 3 (by decide) _ k l) (ldPS arg10 harg10 x8 I h8 768 (by decide) _ l) ((pay51_at _ p l).trans (congrArg silu ((r25_at c arg2 harg2 arg5 harg5 arg6 harg6 x0 x3 x4 I b T h0 h3 h4 p l).trans (congrArg (zP I b _) (by omega))))))
  · exact pieceR (A := 512) (B := 1024) (n := 512) (m := 256) (d := 512) (inb3 1 512 1024 0 0 512 (by decide) (by decide) (by decide)) _ (fun u v => pbG 8192 I b (T * 512 + u) v) fun p l => (mix2_at _ _ _ _ p l).trans (group _ _ _ _ p l I b _ 2
      (fun k => (pooled2 c i arg2 harg2 arg3 harg3 arg4 harg4 arg5 harg5 arg6 harg6 arg18 x0 x1 x2 x3 x4 I b T h0 h3 h4 hT hi h1 h2 p k)) (fun k => ldWG arg9 harg9 x7 I h7 2 (by decide) _ k l) (ldPS arg10 harg10 x8 I h8 512 (by decide) _ l) ((r26_at c arg2 harg2 arg5 harg5 arg6 harg6 x0 x3 x4 I b T h0 h3 h4 p l).trans (congrArg (fun j => silu (zP I b (T * 512 + p.val) j)) (by omega))))
  · exact pieceR (A := 512) (B := 1024) (n := 512) (m := 256) (d := 256) (inb3 1 512 1024 0 0 256 (by decide) (by decide) (by decide)) _ (fun u v => pbG 8192 I b (T * 512 + u) v) fun p l => (mix1_at _ _ _ _ p l).trans (group _ _ _ _ p l I b _ 1
      (fun k => (pooled1 c i arg2 harg2 arg3 harg3 arg4 harg4 arg5 harg5 arg6 harg6 arg18 x0 x1 x2 x3 x4 I b T h0 h3 h4 hT hi h1 h2 p k)) (fun k => ldWG arg9 harg9 x7 I h7 1 (by decide) _ k l) (ldPS arg10 harg10 x8 I h8 256 (by decide) _ l) ((pay43_at _ p l).trans (congrArg silu ((r17_at c arg2 harg2 arg5 harg5 arg6 harg6 x0 x3 x4 I b T h0 h3 h4 p l).trans (congrArg (zP I b _) (by omega))))))
  · exact pieceR (A := 512) (B := 1024) (n := 512) (m := 256) (d := 0) (inb3 1 512 1024 0 0 0 (by decide) (by decide) (by decide)) _ (fun u v => pbG 8192 I b (T * 512 + u) v) fun p l => (mix0_at _ _ _ _ p l).trans (group _ _ _ _ p l I b _ 0
      (fun k => (pooled0 c i arg2 harg2 arg3 harg3 arg4 harg4 arg5 harg5 arg6 harg6 arg18 x0 x1 x2 x3 x4 I b T h0 h3 h4 hT hi h1 h2 p k)) (fun k => ldWG arg9 harg9 x7 I h7 0 (by decide) _ k l) (ldPS arg10 harg10 x8 I h8 0 (by decide) _ l) ((pay38_at _ p l).trans (congrArg silu ((r15_at c arg2 harg2 arg5 harg5 arg6 harg6 x0 x3 x4 I b T h0 h3 h4 p l).trans (congrArg (zP I b _) (by omega))))))

end

end Cert.Kernel2Ideal.Val

end
-- ==== Proof.LongRegion0.lean ====
module

public import proofs.«01_k».proof.Proof.Region0
public import proofs.«01_k».proof.Proof.LongPool
public import proofs.«01_k».proof.Proof.Gen.Kernel2Ideal.Frame
public import Idealize.ShloMosaic.Lib.Pipeline.Value
public import Idealize.ShloMosaic.Lib.Pipeline.ValueKit

@[expose] public section

set_option maxRecDepth 16384

noncomputable section

namespace Cert.Kernel2Ideal.Val

open Cert.KernelIdeal.Val Idealize.ShloMosaic Idealize.ShloMosaic.TcCoe Idealize.SL.Sem Layer Facts₀ Facts Gen

theorem index0_0 (t : Fin cfg0.N) : win0_0.index t = ![(grid0.coords t 0).val, (grid0.coords t 1).val, 0] :=
  (by decide +kernel : ∀ t : Fin grid0.N, win0_0.index t = ![(grid0.coords t 0).val, (grid0.coords t 1).val, 0]) t

theorem index0_1 (t : Fin cfg0.N) : win0_1.index t = ![(grid0.coords t 0).val, (grid0.coords t 1).val * 64 - 1, 0] :=
  (by decide +kernel : ∀ t : Fin grid0.N, win0_1.index t = ![(grid0.coords t 0).val, (grid0.coords t 1).val * 64 - 1, 0]) t

theorem index0_2 (t : Fin cfg0.N) : win0_2.index t = ![(grid0.coords t 0).val, min (((grid0.coords t 1).val + 1) * 64) 1023, 0] :=
  (by decide +kernel : ∀ t : Fin grid0.N, win0_2.index t = ![(grid0.coords t 0).val, min (((grid0.coords t 1).val + 1) * 64) 1023, 0]) t

theorem index0_3 (t : Fin cfg0.N) : win0_3.index t = ![0, 0] :=
  (by decide +kernel : ∀ t : Fin grid0.N, win0_3.index t = ![0, 0]) t

theorem index0_4 (t : Fin cfg0.N) : win0_4.index t = ![0, 0] :=
  (by decide +kernel : ∀ t : Fin grid0.N, win0_4.index t = ![0, 0]) t

theorem index0_5 (t : Fin cfg0.N) : win0_5.index t = ![(grid0.coords t 1).val, 0] :=
  (by decide +kernel : ∀ t : Fin grid0.N, win0_5.index t = ![(grid0.coords t 1).val, 0]) t

theorem index0_6 (t : Fin cfg0.N) : win0_6.index t = ![(grid0.coords t 1).val, 0] :=
  (by decide +kernel : ∀ t : Fin grid0.N, win0_6.index t = ![(grid0.coords t 1).val, 0]) t

theorem index0_7 (t : Fin cfg0.N) : win0_7.index t = ![0, 0, 0] :=
  (by decide +kernel : ∀ t : Fin grid0.N, win0_7.index t = ![0, 0, 0]) t

theorem index0_8 (t : Fin cfg0.N) : win0_8.index t = ![0, 0] :=
  (by decide +kernel : ∀ t : Fin grid0.N, win0_8.index t = ![0, 0]) t

theorem index0_9 (t : Fin cfg0.N) : win0_9.index t = ![(grid0.coords t 0).val, (grid0.coords t 1).val, 0] :=
  (by decide +kernel : ∀ t : Fin grid0.N, win0_9.index t = ![(grid0.coords t 0).val, (grid0.coords t 1).val, 0]) t

theorem index0_10 (t : Fin cfg0.N) : win0_10.index t = ![(grid0.coords t 0).val, (grid0.coords t 1).val, 0] :=
  (by decide +kernel : ∀ t : Fin grid0.N, win0_10.index t = ![(grid0.coords t 0).val, (grid0.coords t 1).val, 0]) t

theorem index0_11 (t : Fin cfg0.N) : win0_11.index t = ![(grid0.coords t 0).val, (grid0.coords t 1).val, 0] :=
  (by decide +kernel : ∀ t : Fin grid0.N, win0_11.index t = ![(grid0.coords t 0).val, (grid0.coords t 1).val, 0]) t

theorem index0_12 (t : Fin cfg0.N) : win0_12.index t = ![(grid0.coords t 0).val, (grid0.coords t 1).val, 0] :=
  (by decide +kernel : ∀ t : Fin grid0.N, win0_12.index t = ![(grid0.coords t 0).val, (grid0.coords t 1).val, 0]) t

theorem index0_13 (t : Fin cfg0.N) : win0_13.index t = ![(grid0.coords t 0).val, 0, (grid0.coords t 1).val] :=
  (by decide +kernel : ∀ t : Fin grid0.N, win0_13.index t = ![(grid0.coords t 0).val, 0, (grid0.coords t 1).val]) t

theorem index0_14 (t : Fin cfg0.N) : win0_14.index t = ![(grid0.coords t 0).val, (grid0.coords t 1).val, 0] :=
  (by decide +kernel : ∀ t : Fin grid0.N, win0_14.index t = ![(grid0.coords t 0).val, (grid0.coords t 1).val, 0]) t

theorem index0_15 (t : Fin cfg0.N) : win0_15.index t = ![(grid0.coords t 0).val, (grid0.coords t 1).val, 0] :=
  (by decide +kernel : ∀ t : Fin grid0.N, win0_15.index t = ![(grid0.coords t 0).val, (grid0.coords t 1).val, 0]) t

theorem coord0_0 (t : Fin cfg0.N) : (grid0.coords t 0).val < 4 := (grid0.coords t 0).isLt

theorem coord0_1 (t : Fin cfg0.N) : (grid0.coords t 1).val < 16 := (grid0.coords t 1).isLt

/-- What the arrays of call 0 hold as it begins. -/
structure Entry0 (V : (c : Dev nD) → (b : Ref sig .tc) → Buf (Elt Ideal) ((c : Thread nD τ).loc b)) (c : Dev nD) (I : In) : Prop where
  e0 : ∀ a b d, a < 4 → b < 8192 → d < 1024 → rd3 (n0 := 4) (n1 := 8192) (n2 := 1024) (V c main_arg0) a b d = I.x a b d
  e3 : ∀ a b, a < 1 → b < 1024 → rd2 (n0 := 1) (n1 := 1024) (V c main_v24) a b = I.g b
  e4 : ∀ a b, a < 1024 → b < 6656 → rd2 (n0 := 1024) (n1 := 6656) (V c main_v25) a b = I.w a b
  e5 : ∀ a b, a < 8192 → b < 128 → rd2 (n0 := 8192) (n1 := 128) (V c main_v18) a b = Ideal.cos (ang a (b % 32))
  e6 : ∀ a b, a < 8192 → b < 128 → rd2 (n0 := 8192) (n1 := 128) (V c main_v23) a b = if b % 64 < 32 then -Ideal.sin (ang a (b % 32)) else Ideal.sin (ang a (b % 32))
  e7 : ∀ a b d, a < 4 → b < 256 → d < 256 → rd3 (n0 := 4) (n1 := 256) (n2 := 256) (V c main_v26) a b d = I.wpg a b d
  e8 : ∀ a b, a < 1 → b < 1024 → rd2 (n0 := 1) (n1 := 1024) (V c main_v27) a b = I.ps b

section
variable (V : (c : Dev nD) → (b : Ref sig .tc) → Buf (Elt Ideal) ((c : Thread nD τ).loc b)) (c : Dev nD) (I : In) (E : Entry0 V c I) (t : Fin cfg0.N)
include E

theorem blk0_0 (b d : ℕ) (hb : b < 512) (hd : d < 1024) : rd3 (n0 := 1) (n1 := 512) (n2 := 1024) (iblk0 V c 0 t) 0 b d = I.x (grid0.coords t 0).val ((grid0.coords t 1).val * 512 + b) d := by
  have c0 := coord0_0 t
  have c1 := coord0_1 t
  rw [rd3_at (n0 := 1) (n1 := 512) (n2 := 1024) _ (by decide : 0 < 1) hb hd]
  blk_simp [iblk0]
  refine (rd3_idx (n0 := 4) (n1 := 8192) (n2 := 1024) _ _).trans ?_
  blk_simp [index0_0]
  refine (E.e0 _ _ _ (by omega) (by omega) (by omega)).trans ?_
  dsimp only
  try simp only [Nat.add_zero, Nat.zero_add]
  try rfl

theorem blk0_1 (b d : ℕ) (hb : b < 8) (hd : d < 1024) : rd3 (n0 := 1) (n1 := 8) (n2 := 1024) (iblk0 V c 1 t) 0 b d = I.x (grid0.coords t 0).val (((grid0.coords t 1).val * 64 - 1) * 8 + b) d := by
  have c0 := coord0_0 t
  have c1 := coord0_1 t
  rw [rd3_at (n0 := 1) (n1 := 8) (n2 := 1024) _ (by decide : 0 < 1) hb hd]
  blk_simp [iblk0]
  refine (rd3_idx (n0 := 4) (n1 := 8192) (n2 := 1024) _ _).trans ?_
  blk_simp [index0_1]
  refine (E.e0 _ _ _ (by omega) (by omega) (by omega)).trans ?_
  dsimp only
  try simp only [Nat.add_zero, Nat.zero_add]
  try rfl

theorem blk0_2 (b d : ℕ) (hb : b < 8) (hd : d < 1024) : rd3 (n0 := 1) (n1 := 8) (n2 := 1024) (iblk0 V c 2 t) 0 b d = I.x (grid0.coords t 0).val ((min (((grid0.coords t 1).val + 1) * 64) 1023) * 8 + b) d := by
  have c0 := coord0_0 t
  have c1 := coord0_1 t
  rw [rd3_at (n0 := 1) (n1 := 8) (n2 := 1024) _ (by decide : 0 < 1) hb hd]
  blk_simp [iblk0]
  refine (rd3_idx (n0 := 4) (n1 := 8192) (n2 := 1024) _ _).trans ?_
  blk_simp [index0_2]
  refine (E.e0 _ _ _ (by omega) (by omega) (by omega)).trans ?_
  dsimp only
  try simp only [Nat.add_zero, Nat.zero_add]
  try rfl

theorem blk0_3 (b : ℕ) (hb : b < 1024) : rd2 (n0 := 1) (n1 := 1024) (iblk0 V c 3 t) 0 b = I.g b := by
  have c0 := coord0_0 t
  have c1 := coord0_1 t
  rw [rd2_at (n0 := 1) (n1 := 1024) _ (by decide : 0 < 1) hb]
  blk_simp [iblk0]
  refine (rd2_idx (n0 := 1) (n1 := 1024) _ _).trans ?_
  blk_simp [index0_3]
  refine (E.e3 _ _ (by omega) (by omega)).trans ?_
  dsimp only
  try simp only [Nat.add_zero, Nat.zero_add]
  try rfl

theorem blk0_4 (a b : ℕ) (ha : a < 1024) (hb : b < 6656) : rd2 (n0 := 1024) (n1 := 6656) (iblk0 V c 4 t) a b = I.w a b := by
  have c0 := coord0_0 t
  have c1 := coord0_1 t
  rw [rd2_at (n0 := 1024) (n1 := 6656) _ ha hb]
  blk_simp [iblk0]
  refine (rd2_idx (n0 := 1024) (n1 := 6656) _ _).trans ?_
  blk_simp [index0_4]
  refine (E.e4 _ _ (by omega) (by omega)).trans ?_
  dsimp only
  try simp only [Nat.add_zero, Nat.zero_add]
  try rfl

theorem blk0_5 (a b : ℕ) (ha : a < 512) (hb : b < 128) : rd2 (n0 := 512) (n1 := 128) (iblk0 V c 5 t) a b = Ideal.cos (ang ((grid0.coords t 1).val * 512 + a) (b % 32)) := by
  have c0 := coord0_0 t
  have c1 := coord0_1 t
  rw [rd2_at (n0 := 512) (n1 := 128) _ ha hb]
  blk_simp [iblk0]
  refine (rd2_idx (n0 := 8192) (n1 := 128) _ _).trans ?_
  blk_simp [index0_5]
  refine (E.e5 _ _ (by omega) (by omega)).trans ?_
  dsimp only
  try simp only [Nat.add_zero, Nat.zero_add]
  try rfl

theorem blk0_6 (a b : ℕ) (ha : a < 512) (hb : b < 128) : rd2 (n0 := 512) (n1 := 128) (iblk0 V c 6 t) a b = if b % 64 < 32 then -Ideal.sin (ang ((grid0.coords t 1).val * 512 + a) (b % 32)) else Ideal.sin (ang ((grid0.coords t 1).val * 512 + a) (b % 32)) := by
  have c0 := coord0_0 t
  have c1 := coord0_1 t
  rw [rd2_at (n0 := 512) (n1 := 128) _ ha hb]
  blk_simp [iblk0]
  refine (rd2_idx (n0 := 8192) (n1 := 128) _ _).trans ?_
  blk_simp [index0_6]
  refine (E.e6 _ _ (by omega) (by omega)).trans ?_
  dsimp only
  try simp only [Nat.add_zero, Nat.zero_add]
  try rfl

theorem blk0_7 (a b d : ℕ) (ha : a < 4) (hb : b < 256) (hd : d < 256) : rd3 (n0 := 4) (n1 := 256) (n2 := 256) (iblk0 V c 7 t) a b d = I.wpg a b d := by
  have c0 := coord0_0 t
  have c1 := coord0_1 t
  rw [rd3_at (n0 := 4) (n1 := 256) (n2 := 256) _ ha hb hd]
  blk_simp [iblk0]
  refine (rd3_idx (n0 := 4) (n1 := 256) (n2 := 256) _ _).trans ?_
  blk_simp [index0_7]
  refine (E.e7 _ _ _ (by omega) (by omega) (by omega)).trans ?_
  dsimp only
  try simp only [Nat.add_zero, Nat.zero_add]
  try rfl

theorem blk0_8 (b : ℕ) (hb : b < 1024) : rd2 (n0 := 1) (n1 := 1024) (iblk0 V c 8 t) 0 b = I.ps b := by
  have c0 := coord0_0 t
  have c1 := coord0_1 t
  rw [rd2_at (n0 := 1) (n1 := 1024) _ (by decide : 0 < 1) hb]
  blk_simp [iblk0]
  refine (rd2_idx (n0 := 1) (n1 := 1024) _ _).trans ?_
  blk_simp [index0_8]
  refine (E.e8 _ _ (by omega) (by omega)).trans ?_
  dsimp only
  try simp only [Nat.add_zero, Nat.zero_add]
  try rfl

end

section
variable (V : (c : Dev nD) → (b : Ref sig .tc) → Buf (Elt Ideal) ((c : Thread nD τ).loc b)) (c : Dev nD) (I : In) (E : Entry0 V c I)
include E

theorem out0_9_at (t : Fin cfg0.N) (y : S1x512x1024.Idx) : (outsAt0 V c t).1 y = (pbG 8192 I (grid0.coords t 0).val ((grid0.coords t 1).val * 512 + (y 1).val) (y 2).val : EReal) := by
  rw [row_eq3 y]
  unfold outsAt0
  dsimp only
  exact pb_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (coord0_1 t) rfl (fun p l hT hp hl => (blk0_1 V c I E t p l hp hl).trans (congrArg (fun s => I.x _ s l) (show ((grid0.coords t 1).val * 64 - 1) * 8 + p = (grid0.coords t 1).val * 512 + p - 8 by omega))) (fun p l hT hp hl => (blk0_2 V c I E t p l hp hl).trans (congrArg (fun s => I.x _ s l) (show (min (((grid0.coords t 1).val + 1) * 64) 1023) * 8 + p = (grid0.coords t 1).val * 512 + 512 + p by have := coord0_1 t; omega))) (blk0_7 V c I E t) (blk0_8 V c I E t) (y 1) (y 2)

/-- The array `main_v28_0` after the first call. -/
theorem arr0_9 : (dat0 V c).arrAt 9 cfg0.N = fun y : S4x8192x1024.Idx => (pbG 8192 I (y 0).val (y 1).val (y 2).val : EReal) := by
  refine (dat0 V c).arrAt_eq_of_covers 9 _ (by decide +kernel) fun t hf y => ?_
  blk_simp
  rw [after0_9]
  refine (out0_9_at V c I E t y).trans ?_
  have hy : (y 0).val = 0 := Nat.lt_one_iff.mp (y 0).isLt
  blk_simp [index0_9]
  try simp only [hy, Nat.mul_one, Nat.add_zero, Nat.zero_add]

theorem out0_10_at (t : Fin cfg0.N) (y : S1x512x1024.Idx) : (outsAt0 V c t).2.1 y = (qR I (grid0.coords t 0).val ((grid0.coords t 1).val * 512 + (y 1).val) ((y 2).val / 64) ((y 2).val % 64) * (qsc : EReal) : EReal) := by
  rw [row_eq3 y]
  unfold outsAt0
  dsimp only
  exact q_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (blk0_5 V c I E t) (blk0_6 V c I E t) (y 1) (y 2)

/-- The array `main_v28_1` after the first call. -/
theorem arr0_10 : (dat0 V c).arrAt 10 cfg0.N = fun y : S4x8192x1024.Idx => (qR I (y 0).val (y 1).val ((y 2).val / 64) ((y 2).val % 64) * (qsc : EReal) : EReal) := by
  refine (dat0 V c).arrAt_eq_of_covers 10 _ (by decide +kernel) fun t hf y => ?_
  blk_simp
  rw [after0_10]
  refine (out0_10_at V c I E t y).trans ?_
  have hy : (y 0).val = 0 := Nat.lt_one_iff.mp (y 0).isLt
  blk_simp [index0_10]
  try simp only [hy, Nat.mul_one, Nat.add_zero, Nat.zero_add]

theorem out0_11_at (t : Fin cfg0.N) (y : S1x512x1024.Idx) : (outsAt0 V c t).2.2.1 y = (silu (zP I (grid0.coords t 0).val ((grid0.coords t 1).val * 512 + (y 1).val) (3584 + (y 2).val)) : EReal) := by
  rw [row_eq3 y]
  unfold outsAt0
  dsimp only
  exact ag_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (y 1) (y 2)

/-- The array `main_v28_2` after the first call. -/
theorem arr0_11 : (dat0 V c).arrAt 11 cfg0.N = fun y : S4x8192x1024.Idx => (silu (zP I (y 0).val (y 1).val (3584 + (y 2).val)) : EReal) := by
  refine (dat0 V c).arrAt_eq_of_covers 11 _ (by decide +kernel) fun t hf y => ?_
  blk_simp
  rw [after0_11]
  refine (out0_11_at V c I E t y).trans ?_
  have hy : (y 0).val = 0 := Nat.lt_one_iff.mp (y 0).isLt
  blk_simp [index0_11]
  try simp only [hy, Nat.mul_one, Nat.add_zero, Nat.zero_add]

theorem out0_12_at (t : Fin cfg0.N) (y : S1x512x2048.Idx) : (outsAt0 V c t).2.2.2.1 y = (sg (zP I (grid0.coords t 0).val ((grid0.coords t 1).val * 512 + (y 1).val) (4608 + (y 2).val)) : EReal) := by
  rw [row_eq3 y]
  unfold outsAt0
  dsimp only
  exact gate_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (y 1) (y 2)

/-- The array `main_v28_3` after the first call. -/
theorem arr0_12 : (dat0 V c).arrAt 12 cfg0.N = fun y : S4x8192x2048.Idx => (sg (zP I (y 0).val (y 1).val (4608 + (y 2).val)) : EReal) := by
  refine (dat0 V c).arrAt_eq_of_covers 12 _ (by decide +kernel) fun t hf y => ?_
  blk_simp
  rw [after0_12]
  refine (out0_12_at V c I E t y).trans ?_
  have hy : (y 0).val = 0 := Nat.lt_one_iff.mp (y 0).isLt
  blk_simp [index0_12]
  try simp only [hy, Nat.mul_one, Nat.add_zero, Nat.zero_add]

theorem out0_13_at (t : Fin cfg0.N) (y : S1x1024x512.Idx) : (outsAt0 V c t).2.2.2.2.1 y = (if (y 1).val % 256 < 128 then (if (y 1).val % 128 < 64 then kR I (grid0.coords t 0).val ((grid0.coords t 1).val * 512 + (y 2).val) ((y 1).val / 256) ((y 1).val % 128) else 0) else (if (y 1).val % 128 < 64 then 0 else kR I (grid0.coords t 0).val ((grid0.coords t 1).val * 512 + (y 2).val) ((y 1).val / 256) ((y 1).val % 128 - 64)) : EReal) := by
  rw [row_eq3 y]
  unfold outsAt0
  dsimp only
  exact kt_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (blk0_5 V c I E t) (blk0_6 V c I E t) (y 1) (y 2)

/-- The array `main_v28_4` after the first call. -/
theorem arr0_13 : (dat0 V c).arrAt 13 cfg0.N = fun y : S4x1024x8192.Idx => (if (y 1).val % 256 < 128 then (if (y 1).val % 128 < 64 then kR I (y 0).val (y 2).val ((y 1).val / 256) ((y 1).val % 128) else 0) else (if (y 1).val % 128 < 64 then 0 else kR I (y 0).val (y 2).val ((y 1).val / 256) ((y 1).val % 128 - 64)) : EReal) := by
  refine (dat0 V c).arrAt_eq_of_covers 13 _ (by decide +kernel) fun t hf y => ?_
  blk_simp
  rw [after0_13]
  refine (out0_13_at V c I E t y).trans ?_
  have hy : (y 0).val = 0 := Nat.lt_one_iff.mp (y 0).isLt
  blk_simp [index0_13]
  try simp only [hy, Nat.mul_one, Nat.add_zero, Nat.zero_add]

theorem out0_14_at (t : Fin cfg0.N) (y : S1x512x1024.Idx) : (outsAt0 V c t).2.2.2.2.2.1 y = (if (y 2).val % 256 < 128 then (if (y 2).val % 256 < 64 then vV I (grid0.coords t 0).val ((grid0.coords t 1).val * 512 + (y 1).val) ((y 2).val / 256) ((y 2).val % 256) else 0) else if (y 2).val % 256 < 192 then 1 else 0 : EReal) := by
  rw [row_eq3 y]
  unfold outsAt0
  dsimp only
  exact vl_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (y 1) (y 2)

/-- The array `main_v28_5` after the first call. -/
theorem arr0_14 : (dat0 V c).arrAt 14 cfg0.N = fun y : S4x8192x1024.Idx => (if (y 2).val % 256 < 128 then (if (y 2).val % 256 < 64 then vV I (y 0).val (y 1).val ((y 2).val / 256) ((y 2).val % 256) else 0) else if (y 2).val % 256 < 192 then 1 else 0 : EReal) := by
  refine (dat0 V c).arrAt_eq_of_covers 14 _ (by decide +kernel) fun t hf y => ?_
  blk_simp
  rw [after0_14]
  refine (out0_14_at V c I E t y).trans ?_
  have hy : (y 0).val = 0 := Nat.lt_one_iff.mp (y 0).isLt
  blk_simp [index0_14]
  try simp only [hy, Nat.mul_one, Nat.add_zero, Nat.zero_add]

theorem out0_15_at (t : Fin cfg0.N) (y : S1x512x1024.Idx) : (outsAt0 V c t).2.2.2.2.2.2 y = (if (y 2).val % 256 < 128 then (if (y 2).val % 256 < 64 then 0 else vV I (grid0.coords t 0).val ((grid0.coords t 1).val * 512 + (y 1).val) ((y 2).val / 256) ((y 2).val % 256 - 64)) else if (y 2).val % 256 < 192 then 0 else 1 : EReal) := by
  rw [row_eq3 y]
  unfold outsAt0
  dsimp only
  exact vh_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) I (grid0.coords t 0).val (grid0.coords t 1).val (blk0_0 V c I E t) (fun l h => (blk0_3 V c I E t l h)) (blk0_4 V c I E t) (y 1) (y 2)

/-- The array `main_v28_6` after the first call. -/
theorem arr0_15 : (dat0 V c).arrAt 15 cfg0.N = fun y : S4x8192x1024.Idx => (if (y 2).val % 256 < 128 then (if (y 2).val % 256 < 64 then 0 else vV I (y 0).val (y 1).val ((y 2).val / 256) ((y 2).val % 256 - 64)) else if (y 2).val % 256 < 192 then 0 else 1 : EReal) := by
  refine (dat0 V c).arrAt_eq_of_covers 15 _ (by decide +kernel) fun t hf y => ?_
  blk_simp
  rw [after0_15]
  refine (out0_15_at V c I E t y).trans ?_
  have hy : (y 0).val = 0 := Nat.lt_one_iff.mp (y 0).isLt
  blk_simp [index0_15]
  try simp only [hy, Nat.mul_one, Nat.add_zero, Nat.zero_add]

end

end Cert.Kernel2Ideal.Val

end
-- ==== Proof.LongMixer.lean ====
module

public import proofs.«01_k».proof.Proof.Mixer
public import proofs.«01_k».proof.Proof.Gen.Kernel2Ideal.Frame
public import proofs.«01_k».proof.Proof.Item
public import proofs.«01_k».proof.Proof.Reads

@[expose] public section

set_option maxRecDepth 16384

noncomputable section

namespace Cert.Kernel2Ideal.Val

open Cert.KernelIdeal.Val Idealize.ShloMosaic Idealize.ShloMosaic.TcCoe Idealize.SL.Sem Layer Facts₀ Facts Gen

/-- Which positions before the block a row sees. -/
def msk0 (i : grid1.Coords) : ℕ → IVec S128x128 1
  | 0 => andi (cmpi .sge colT rowT) (broadcast S128x128 (Scalar.xori (Scalar.cmpi .eq (BitVec.ofNat 32 (i 1).val) 0#32) 1#1))
  | _ => cmpi .sge colT rowT

/-- Which positions after the block a row sees. -/
def msk2 (i : grid1.Coords) : ℕ → IVec S128x128 1
  | 3 => andi (cmpi .sle colT rowT) (broadcast S128x128 (Scalar.xori (Scalar.cmpi .eq (BitVec.ofNat 32 (i 1).val) 15#32) 1#1))
  | _ => cmpi .sle colT rowT

section
variable (c : Dev nD) (i : grid1.Coords)
  (arg2 : Memref sig .tc .vmem S1x512x1024 .f32) (harg2 : arg2.IsWhole)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x2048 .bf16) (harg6 : arg6.IsWhole)
  (arg7 : Memref sig .tc .vmem S1x1024x512 .bf16) (harg7 : arg7.IsWhole)
  (arg8 : Memref sig .tc .vmem S1x1024x128 .bf16) (harg8 : arg8.IsWhole)
  (arg9 : Memref sig .tc .vmem S1x1024x128 .bf16) (harg9 : arg9.IsWhole)
  (arg10 : Memref sig .tc .vmem S1x512x1024 .bf16) (harg10 : arg10.IsWhole)
  (arg11 : Memref sig .tc .vmem S1x128x1024 .bf16) (harg11 : arg11.IsWhole)
  (arg12 : Memref sig .tc .vmem S1x128x1024 .bf16) (harg12 : arg12.IsWhole)
  (arg13 : Memref sig .tc .vmem S1x512x1024 .bf16) (harg13 : arg13.IsWhole)
  (arg14 : Memref sig .tc .vmem S1x128x1024 .bf16) (harg14 : arg14.IsWhole)
  (arg15 : Memref sig .tc .vmem S1x128x1024 .bf16) (harg15 : arg15.IsWhole)
  (arg16 : Memref sig .tc .vmem S1024x1024 .bf16) (harg16 : arg16.IsWhole)
  (arg17 : Memref sig .tc .vmem S16x128 .f32) (harg17 : arg17.IsWhole)
  (arg18 : Memref sig .tc .vmem S1024x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1x512x1024 .f32) (harg21 : arg21.IsWhole)
  (arg22 : Memref sig .tc .vmem S1024x768 .bf16) (harg22 : arg22.IsWhole)
  (arg23 : Memref sig .tc .vmem S768x1152 .bf16) (harg23 : arg23.IsWhole)
  (arg24 : Memref sig .tc .vmem S768x1152 .bf16) (harg24 : arg24.IsWhole)
  (arg25 : Memref sig .tc .vmem S512x1152 .bf16) (harg25 : arg25.IsWhole)
  (arg26 : Memref sig .tc .vmem S512x1152 .f32) (harg26 : arg26.IsWhole)
  (x0 : Vec Ideal S1x512x1024 .f32) (x1 : Vec Ideal S1x512x1024 .bf16) (x2 : Vec Ideal S1x512x1024 .bf16) (x3 : Vec Ideal S1x512x1024 .bf16) (x4 : Vec Ideal S1x512x2048 .bf16) (x5 : Vec Ideal S1x1024x512 .bf16) (x6 : Vec Ideal S1x1024x128 .bf16) (x7 : Vec Ideal S1x1024x128 .bf16) (x8 : Vec Ideal S1x512x1024 .bf16) (x9 : Vec Ideal S1x128x1024 .bf16) (x10 : Vec Ideal S1x128x1024 .bf16) (x11 : Vec Ideal S1x512x1024 .bf16) (x12 : Vec Ideal S1x128x1024 .bf16) (x13 : Vec Ideal S1x128x1024 .bf16) (x14 : Vec Ideal S1024x1024 .bf16) (x15 : Vec Ideal S16x128 .f32) (x16 : Vec Ideal S1024x1024 .bf16) (x17 : Vec Ideal S1024x1024 .bf16) (x18 : Vec Ideal S1x1024 .f32)

def pc0 (q h : ℕ) (hq : q < 4) (hh : h < 4) : View.Piece (Elt Ideal) S512x1152 .bf16 :=
  ⟨Rect.unit (s := S512x1152) ![q * 128, (2 * h + 0) * 128] S128x128.size (inb2 512 1152 _ _ (by omega) (by omega)),
    item0 (msk0 i q) (msk2 i q)
      (View.readAt (Elt Ideal) arg4.view (Rect.unit (s := S1x512x1024) ![0, q * 128, (2 * h + 0) * 128] S1x128x128.size (inb3 1 512 1024 _ _ _ (by decide) (by omega) (by omega))).toLoadRect (harg4.unread x2))
      (View.readAt (Elt Ideal) arg4.view (Rect.unit (s := S1x512x1024) ![0, q * 128, (2 * h + 1) * 128] S1x128x128.size (inb3 1 512 1024 _ _ _ (by decide) (by omega) (by omega))).toLoadRect (harg4.unread x2))
      (arg22.view.readCov (kernelRun1_A.sl.HS0_3 (F := Ideal) c arg7 harg7 arg8 harg8 arg9 harg9 x5 x6 x7) (Rect.unit (s := S1024x768) ![h * 256, q * 128] S128x384.size (inb2 1024 768 _ _ (by omega) (by omega))).toLoadRect)
      (arg22.view.readCov (kernelRun1_A.sl.HS0_3 (F := Ideal) c arg7 harg7 arg8 harg8 arg9 harg9 x5 x6 x7) (Rect.unit (s := S1024x768) ![h * 256 + 128, q * 128] S128x384.size (inb2 1024 768 _ _ (by omega) (by omega))).toLoadRect)
      (arg23.view.readCov (kernelRun1_A.sl.HS1_3 (F := Ideal) c arg10 harg10 arg11 harg11 arg12 harg12 x8 x9 x10) (Rect.unit (s := S768x1152) ![q * 128, h * 256] S384x256.size (inb2 768 1152 _ _ (by omega) (by omega))).toLoadRect)
      (arg24.view.readCov (kernelRun1_A.sl.HS2_3 (F := Ideal) c arg13 harg13 arg14 harg14 arg15 harg15 x11 x12 x13) (Rect.unit (s := S768x1152) ![q * 128, h * 256] S384x256.size (inb2 768 1152 _ _ (by omega) (by omega))).toLoadRect)
      (View.readAt (Elt Ideal) arg17.view (Rect.unit (s := S16x128) ![4 * h + 0, 0] S1x128.size (inb2 16 128 _ _ (by omega) (by omega))).toLoadRect (harg17.unread x15)) (View.readAt (Elt Ideal) arg17.view (Rect.unit (s := S16x128) ![4 * h + 1, 0] S1x128.size (inb2 16 128 _ _ (by omega) (by omega))).toLoadRect (harg17.unread x15)) (View.readAt (Elt Ideal) arg17.view (Rect.unit (s := S16x128) ![4 * h + 2, 0] S1x128.size (inb2 16 128 _ _ (by omega) (by omega))).toLoadRect (harg17.unread x15)) (View.readAt (Elt Ideal) arg17.view (Rect.unit (s := S16x128) ![4 * h + 3, 0] S1x128.size (inb2 16 128 _ _ (by omega) (by omega))).toLoadRect (harg17.unread x15))
      (View.readAt (Elt Ideal) arg5.view (Rect.unit (s := S1x512x1024) ![0, q * 128, (2 * h + 0) * 128] S1x128x128.size (inb3 1 512 1024 _ _ _ (by decide) (by omega) (by omega))).toLoadRect (harg5.unread x3))⟩
def pc1 (q h : ℕ) (hq : q < 4) (hh : h < 4) : View.Piece (Elt Ideal) S512x1152 .bf16 :=
  ⟨Rect.unit (s := S512x1152) ![q * 128, (2 * h + 1) * 128] S128x128.size (inb2 512 1152 _ _ (by omega) (by omega)),
    item1 (msk0 i q) (msk2 i q)
      (View.readAt (Elt Ideal) arg4.view (Rect.unit (s := S1x512x1024) ![0, q * 128, (2 * h + 0) * 128] S1x128x128.size (inb3 1 512 1024 _ _ _ (by decide) (by omega) (by omega))).toLoadRect (harg4.unread x2))
      (View.readAt (Elt Ideal) arg4.view (Rect.unit (s := S1x512x1024) ![0, q * 128, (2 * h + 1) * 128] S1x128x128.size (inb3 1 512 1024 _ _ _ (by decide) (by omega) (by omega))).toLoadRect (harg4.unread x2))
      (arg22.view.readCov (kernelRun1_A.sl.HS0_3 (F := Ideal) c arg7 harg7 arg8 harg8 arg9 harg9 x5 x6 x7) (Rect.unit (s := S1024x768) ![h * 256, q * 128] S128x384.size (inb2 1024 768 _ _ (by omega) (by omega))).toLoadRect)
      (arg22.view.readCov (kernelRun1_A.sl.HS0_3 (F := Ideal) c arg7 harg7 arg8 harg8 arg9 harg9 x5 x6 x7) (Rect.unit (s := S1024x768) ![h * 256 + 128, q * 128] S128x384.size (inb2 1024 768 _ _ (by omega) (by omega))).toLoadRect)
      (arg23.view.readCov (kernelRun1_A.sl.HS1_3 (F := Ideal) c arg10 harg10 arg11 harg11 arg12 harg12 x8 x9 x10) (Rect.unit (s := S768x1152) ![q * 128, h * 256] S384x256.size (inb2 768 1152 _ _ (by omega) (by omega))).toLoadRect)
      (arg24.view.readCov (kernelRun1_A.sl.HS2_3 (F := Ideal) c arg13 harg13 arg14 harg14 arg15 harg15 x11 x12 x13) (Rect.unit (s := S768x1152) ![q * 128, h * 256] S384x256.size (inb2 768 1152 _ _ (by omega) (by omega))).toLoadRect)
      (View.readAt (Elt Ideal) arg17.view (Rect.unit (s := S16x128) ![4 * h + 0, 0] S1x128.size (inb2 16 128 _ _ (by omega) (by omega))).toLoadRect (harg17.unread x15)) (View.readAt (Elt Ideal) arg17.view (Rect.unit (s := S16x128) ![4 * h + 1, 0] S1x128.size (inb2 16 128 _ _ (by omega) (by omega))).toLoadRect (harg17.unread x15)) (View.readAt (Elt Ideal) arg17.view (Rect.unit (s := S16x128) ![4 * h + 2, 0] S1x128.size (inb2 16 128 _ _ (by omega) (by omega))).toLoadRect (harg17.unread x15)) (View.readAt (Elt Ideal) arg17.view (Rect.unit (s := S16x128) ![4 * h + 3, 0] S1x128.size (inb2 16 128 _ _ (by omega) (by omega))).toLoadRect (harg17.unread x15))
      (View.readAt (Elt Ideal) arg5.view (Rect.unit (s := S1x512x1024) ![0, q * 128, (2 * h + 1) * 128] S1x128x128.size (inb3 1 512 1024 _ _ _ (by decide) (by omega) (by omega))).toLoadRect (harg5.unread x3))⟩

theorem pieces : kernelRun1_A.sl.HS3_32 (F := Ideal) c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15
    = pcs (pc0 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15) (pc1 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15) := by
  unfold kernelRun1_A.sl.HS3_32
  rfl

/-! ### The windows -/

theorem v6_at (x : S1024x128.Idx) : kernelRun1_A.sl.v6 (F := Ideal) c arg8 harg8 x6 x = rd3 x6 0 (x 0).val (x 1).val := by
  obtain ⟨a, b, rfl⟩ : ∃ a b, x = ix2 a b := ⟨_, _, eq_ix2 x⟩
  pointwise [kernelRun1_A.sl.v6, kernelRun1_A.sl.v3]
  rw [load3_bf16]
  simp

theorem v11_at (x : S1024x512.Idx) : kernelRun1_A.sl.v11 (F := Ideal) c arg7 harg7 x5 x = rd3 x5 0 (x 0).val (x 1).val := by
  obtain ⟨a, b, rfl⟩ : ∃ a b, x = ix2 a b := ⟨_, _, eq_ix2 x⟩
  pointwise [kernelRun1_A.sl.v11, kernelRun1_A.sl.v8]
  rw [load3_bf16]
  simp

theorem v16_at (x : S1024x128.Idx) : kernelRun1_A.sl.v16 (F := Ideal) c arg9 harg9 x7 x = rd3 x7 0 (x 0).val (x 1).val := by
  obtain ⟨a, b, rfl⟩ : ∃ a b, x = ix2 a b := ⟨_, _, eq_ix2 x⟩
  pointwise [kernelRun1_A.sl.v16, kernelRun1_A.sl.v13]
  rw [load3_bf16]
  simp

theorem v21_at (x : S128x1024.Idx) : kernelRun1_A.sl.v21 (F := Ideal) c arg11 harg11 x9 x = rd3 x9 0 (x 0).val (x 1).val := by
  obtain ⟨a, b, rfl⟩ : ∃ a b, x = ix2 a b := ⟨_, _, eq_ix2 x⟩
  pointwise [kernelRun1_A.sl.v21, kernelRun1_A.sl.v18]
  rw [load3_bf16]
  simp

theorem v26_at (x : S512x1024.Idx) : kernelRun1_A.sl.v26 (F := Ideal) c arg10 harg10 x8 x = rd3 x8 0 (x 0).val (x 1).val := by
  obtain ⟨a, b, rfl⟩ : ∃ a b, x = ix2 a b := ⟨_, _, eq_ix2 x⟩
  pointwise [kernelRun1_A.sl.v26, kernelRun1_A.sl.v23]
  rw [load3_bf16]
  simp

theorem v31_at (x : S128x1024.Idx) : kernelRun1_A.sl.v31 (F := Ideal) c arg12 harg12 x10 x = rd3 x10 0 (x 0).val (x 1).val := by
  obtain ⟨a, b, rfl⟩ : ∃ a b, x = ix2 a b := ⟨_, _, eq_ix2 x⟩
  pointwise [kernelRun1_A.sl.v31, kernelRun1_A.sl.v28]
  rw [load3_bf16]
  simp

theorem v36_at (x : S128x1024.Idx) : kernelRun1_A.sl.v36 (F := Ideal) c arg14 harg14 x12 x = rd3 x12 0 (x 0).val (x 1).val := by
  obtain ⟨a, b, rfl⟩ : ∃ a b, x = ix2 a b := ⟨_, _, eq_ix2 x⟩
  pointwise [kernelRun1_A.sl.v36, kernelRun1_A.sl.v33]
  rw [load3_bf16]
  simp

theorem v41_at (x : S512x1024.Idx) : kernelRun1_A.sl.v41 (F := Ideal) c arg13 harg13 x11 x = rd3 x11 0 (x 0).val (x 1).val := by
  obtain ⟨a, b, rfl⟩ : ∃ a b, x = ix2 a b := ⟨_, _, eq_ix2 x⟩
  pointwise [kernelRun1_A.sl.v41, kernelRun1_A.sl.v38]
  rw [load3_bf16]
  simp

theorem v46_at (x : S128x1024.Idx) : kernelRun1_A.sl.v46 (F := Ideal) c arg15 harg15 x13 x = rd3 x13 0 (x 0).val (x 1).val := by
  obtain ⟨a, b, rfl⟩ : ∃ a b, x = ix2 a b := ⟨_, _, eq_ix2 x⟩
  pointwise [kernelRun1_A.sl.v46, kernelRun1_A.sl.v43]
  rw [load3_bf16]
  simp

theorem kLoad {n m a b : ℕ} (inb) (y : (⟨2, ![n, m]⟩ : Shape).Idx) :
    arg22.view.readCov (kernelRun1_A.sl.HS0_3 (F := Ideal) c arg7 harg7 arg8 harg8 arg9 harg9 x5 x6 x7) (Rect.unit (s := S1024x768) ![a, b] ![n, m] inb).toLoadRect y = kW x5 x6 x7 (a + (y 0).val) (b + (y 1).val) := by
  have l0 : a + n ≤ S1024x768.size 0 := inb 0
  have l1 : b + m ≤ S1024x768.size 1 := inb 1
  have y0 : (y 0).val < n := (y 0).isLt
  have y1 : (y 1).val < m := (y 1).isLt
  have e0 : ((Rect.unit (s := S1024x768) ![a, b] ![n, m] inb).idx y 0).val = a + (y 0).val := Rect.idx_unit_val (s := S1024x768) ![a, b] ![n, m] inb y 0
  have e1 : ((Rect.unit (s := S1024x768) ![a, b] ![n, m] inb).idx y 1).val = b + (y 1).val := Rect.idx_unit_val (s := S1024x768) ![a, b] ![n, m] inb y 1
  have l0' : a + n ≤ 1024 := l0
  have l1' : b + m ≤ 768 := l1
  refine cov2_bf16 (A := 1024) (B := 768) arg22.view _ (kW x5 x6 x7) ?_ inb y ?_
  · intro q hq
    simp only [kernelRun1_A.sl.HS0_3, List.mem_cons, List.not_mem_nil, or_false] at hq
    rcases hq with rfl | rfl | rfl
    · intro x
      refine (v16_at c arg9 harg9 x7 x).trans ?_
      have hx0 : (x 0).val < 1024 := (x 0).isLt
      have hx1 : (x 1).val < 128 := (x 1).isLt
      rw [emb2_0, emb2_1, kW]
      rw [if_neg (show ¬ _ by omega), if_neg (show ¬ _ by omega)]; congr 1 <;> omega
    · intro x
      refine (v11_at c arg7 harg7 x5 x).trans ?_
      have hx0 : (x 0).val < 1024 := (x 0).isLt
      have hx1 : (x 1).val < 512 := (x 1).isLt
      rw [emb2_0, emb2_1, kW]
      rw [if_neg (show ¬ _ by omega), if_pos (show _ by omega)]; congr 1 <;> omega
    · intro x
      refine (v6_at c arg8 harg8 x6 x).trans ?_
      have hx0 : (x 0).val < 1024 := (x 0).isLt
      have hx1 : (x 1).val < 128 := (x 1).isLt
      rw [emb2_0, emb2_1, kW]
      rw [if_pos (show _ by omega)]; congr 1 <;> omega
  · unfold kernelRun1_A.sl.HS0_3
    by_cases c1 : b + (y 1).val < 128
    · refine ⟨_, List.mem_cons_of_mem _ (List.mem_cons_of_mem _ List.mem_cons_self), ?_⟩
      refine mem2 (inb := inb2 1024 768 0 0 (by decide) (by decide)) ?_ ?_
      · rw [e0]; constructor <;> omega
      · rw [e1]; constructor <;> omega
    by_cases c2 : b + (y 1).val < 640
    · refine ⟨_, List.mem_cons_of_mem _ List.mem_cons_self, ?_⟩
      refine mem2 (inb := inb2 1024 768 0 128 (by decide) (by decide)) ?_ ?_
      · rw [e0]; constructor <;> omega
      · rw [e1]; constructor <;> omega
    · refine ⟨_, List.mem_cons_self, ?_⟩
      refine mem2 (inb := inb2 1024 768 0 640 (by decide) (by decide)) ?_ ?_
      · rw [e0]; constructor <;> omega
      · rw [e1]; constructor <;> omega

theorem vlLoad {n m a b : ℕ} (inb) (y : (⟨2, ![n, m]⟩ : Shape).Idx) (h24 : b + m ≤ 1024) :
    arg23.view.readCov (kernelRun1_A.sl.HS1_3 (F := Ideal) c arg10 harg10 arg11 harg11 arg12 harg12 x8 x9 x10) (Rect.unit (s := S768x1152) ![a, b] ![n, m] inb).toLoadRect y = vW x8 x9 x10 (a + (y 0).val) (b + (y 1).val) := by
  have l0 : a + n ≤ S768x1152.size 0 := inb 0
  have l1 : b + m ≤ S768x1152.size 1 := inb 1
  have y0 : (y 0).val < n := (y 0).isLt
  have y1 : (y 1).val < m := (y 1).isLt
  have e0 : ((Rect.unit (s := S768x1152) ![a, b] ![n, m] inb).idx y 0).val = a + (y 0).val := Rect.idx_unit_val (s := S768x1152) ![a, b] ![n, m] inb y 0
  have e1 : ((Rect.unit (s := S768x1152) ![a, b] ![n, m] inb).idx y 1).val = b + (y 1).val := Rect.idx_unit_val (s := S768x1152) ![a, b] ![n, m] inb y 1
  have l0' : a + n ≤ 768 := l0
  have l1' : b + m ≤ 1152 := l1
  refine cov2_bf16 (A := 768) (B := 1152) arg23.view _ (vW x8 x9 x10) ?_ inb y ?_
  · intro q hq
    simp only [kernelRun1_A.sl.HS1_3, List.mem_cons, List.not_mem_nil, or_false] at hq
    rcases hq with rfl | rfl | rfl
    · intro x
      refine (v31_at c arg12 harg12 x10 x).trans ?_
      have hx0 : (x 0).val < 128 := (x 0).isLt
      have hx1 : (x 1).val < 1024 := (x 1).isLt
      rw [emb2_0, emb2_1, vW]
      rw [if_neg (show ¬ _ by omega), if_neg (show ¬ _ by omega)]; congr 1 <;> omega
    · intro x
      refine (v26_at c arg10 harg10 x8 x).trans ?_
      have hx0 : (x 0).val < 512 := (x 0).isLt
      have hx1 : (x 1).val < 1024 := (x 1).isLt
      rw [emb2_0, emb2_1, vW]
      rw [if_neg (show ¬ _ by omega), if_pos (show _ by omega)]; congr 1 <;> omega
    · intro x
      refine (v21_at c arg11 harg11 x9 x).trans ?_
      have hx0 : (x 0).val < 128 := (x 0).isLt
      have hx1 : (x 1).val < 1024 := (x 1).isLt
      rw [emb2_0, emb2_1, vW]
      rw [if_pos (show _ by omega)]; congr 1 <;> omega
  · unfold kernelRun1_A.sl.HS1_3
    by_cases c1 : a + (y 0).val < 128
    · refine ⟨_, List.mem_cons_of_mem _ (List.mem_cons_of_mem _ List.mem_cons_self), ?_⟩
      refine mem2 (inb := inb2 768 1152 0 0 (by decide) (by decide)) ?_ ?_
      · rw [e0]; constructor <;> omega
      · rw [e1]; constructor <;> omega
    by_cases c2 : a + (y 0).val < 640
    · refine ⟨_, List.mem_cons_of_mem _ List.mem_cons_self, ?_⟩
      refine mem2 (inb := inb2 768 1152 128 0 (by decide) (by decide)) ?_ ?_
      · rw [e0]; constructor <;> omega
      · rw [e1]; constructor <;> omega
    · refine ⟨_, List.mem_cons_self, ?_⟩
      refine mem2 (inb := inb2 768 1152 640 0 (by decide) (by decide)) ?_ ?_
      · rw [e0]; constructor <;> omega
      · rw [e1]; constructor <;> omega

theorem vhLoad {n m a b : ℕ} (inb) (y : (⟨2, ![n, m]⟩ : Shape).Idx) (h24 : b + m ≤ 1024) :
    arg24.view.readCov (kernelRun1_A.sl.HS2_3 (F := Ideal) c arg13 harg13 arg14 harg14 arg15 harg15 x11 x12 x13) (Rect.unit (s := S768x1152) ![a, b] ![n, m] inb).toLoadRect y = vW x11 x12 x13 (a + (y 0).val) (b + (y 1).val) := by
  have l0 : a + n ≤ S768x1152.size 0 := inb 0
  have l1 : b + m ≤ S768x1152.size 1 := inb 1
  have y0 : (y 0).val < n := (y 0).isLt
  have y1 : (y 1).val < m := (y 1).isLt
  have e0 : ((Rect.unit (s := S768x1152) ![a, b] ![n, m] inb).idx y 0).val = a + (y 0).val := Rect.idx_unit_val (s := S768x1152) ![a, b] ![n, m] inb y 0
  have e1 : ((Rect.unit (s := S768x1152) ![a, b] ![n, m] inb).idx y 1).val = b + (y 1).val := Rect.idx_unit_val (s := S768x1152) ![a, b] ![n, m] inb y 1
  have l0' : a + n ≤ 768 := l0
  have l1' : b + m ≤ 1152 := l1
  refine cov2_bf16 (A := 768) (B := 1152) arg24.view _ (vW x11 x12 x13) ?_ inb y ?_
  · intro q hq
    simp only [kernelRun1_A.sl.HS2_3, List.mem_cons, List.not_mem_nil, or_false] at hq
    rcases hq with rfl | rfl | rfl
    · intro x
      refine (v46_at c arg15 harg15 x13 x).trans ?_
      have hx0 : (x 0).val < 128 := (x 0).isLt
      have hx1 : (x 1).val < 1024 := (x 1).isLt
      rw [emb2_0, emb2_1, vW]
      rw [if_neg (show ¬ _ by omega), if_neg (show ¬ _ by omega)]; congr 1 <;> omega
    · intro x
      refine (v41_at c arg13 harg13 x11 x).trans ?_
      have hx0 : (x 0).val < 512 := (x 0).isLt
      have hx1 : (x 1).val < 1024 := (x 1).isLt
      rw [emb2_0, emb2_1, vW]
      rw [if_neg (show ¬ _ by omega), if_pos (show _ by omega)]; congr 1 <;> omega
    · intro x
      refine (v36_at c arg14 harg14 x12 x).trans ?_
      have hx0 : (x 0).val < 128 := (x 0).isLt
      have hx1 : (x 1).val < 1024 := (x 1).isLt
      rw [emb2_0, emb2_1, vW]
      rw [if_pos (show _ by omega)]; congr 1 <;> omega
  · unfold kernelRun1_A.sl.HS2_3
    by_cases c1 : a + (y 0).val < 128
    · refine ⟨_, List.mem_cons_of_mem _ (List.mem_cons_of_mem _ List.mem_cons_self), ?_⟩
      refine mem2 (inb := inb2 768 1152 0 0 (by decide) (by decide)) ?_ ?_
      · rw [e0]; constructor <;> omega
      · rw [e1]; constructor <;> omega
    by_cases c2 : a + (y 0).val < 640
    · refine ⟨_, List.mem_cons_of_mem _ List.mem_cons_self, ?_⟩
      refine mem2 (inb := inb2 768 1152 128 0 (by decide) (by decide)) ?_ ?_
      · rw [e0]; constructor <;> omega
      · rw [e1]; constructor <;> omega
    · refine ⟨_, List.mem_cons_self, ?_⟩
      refine mem2 (inb := inb2 768 1152 640 0 (by decide) (by decide)) ?_ ?_
      · rw [e0]; constructor <;> omega
      · rw [e1]; constructor <;> omega

theorem not_first : ∀ t : Fin 16, Scalar.xori (Scalar.cmpi .eq (BitVec.ofNat 32 t.val) 0#32) 1#1 = 1#1 ↔ t.val ≠ 0 := by decide

theorem not_last : ∀ t : Fin 16, Scalar.xori (Scalar.cmpi .eq (BitVec.ofNat 32 t.val) 15#32) 1#1 = 1#1 ↔ t.val ≠ 15 := by decide

theorem msk0_at (q : ℕ) (a l : Fin 128) : msk0 i q (ix2 a l) = 1#1 ↔ (a.val ≤ l.val ∧ (i 1).val * 512 + q * 128 ≠ 0) := by
  match q with
  | 0 =>
    have e : msk0 i 0 (ix2 a l) = IntOp.andi (IntOp.cmpi .sge (BitVec.ofNat 32 l.val) (BitVec.ofNat 32 a.val)) (Scalar.xori (Scalar.cmpi .eq (BitVec.ofNat 32 (i 1).val) 0#32) 1#1) := by
      pointwise [msk0, colT, rowT]
    rw [e, and_at, sge_at, not_first (i 1)]
    constructor <;> rintro ⟨p, q⟩ <;> exact ⟨p, by omega⟩
  | k + 1 =>
    have e : msk0 i (k + 1) (ix2 a l) = IntOp.cmpi .sge (BitVec.ofNat 32 l.val) (BitVec.ofNat 32 a.val) := by
      show (cmpi .sge colT rowT) (ix2 a l) = _
      pointwise [colT, rowT]
    rw [e, sge_at]
    exact ⟨fun p => ⟨p, by omega⟩, fun p => p.1⟩

theorem msk2_at (q : ℕ) (hq : q < 4) (a l : Fin 128) : msk2 i q (ix2 a l) = 1#1 ↔ (l.val ≤ a.val ∧ (i 1).val * 512 + q * 128 + 128 ≠ 8192) := by
  have hi : (i 1).val < 16 := (i 1).isLt
  by_cases h : q = 3
  · subst h
    have e : msk2 i 3 (ix2 a l) = IntOp.andi (IntOp.cmpi .sle (BitVec.ofNat 32 l.val) (BitVec.ofNat 32 a.val)) (Scalar.xori (Scalar.cmpi .eq (BitVec.ofNat 32 (i 1).val) 15#32) 1#1) := by
      pointwise [msk2, colT, rowT]
    rw [e, and_at, sle_at, not_last (i 1)]
    constructor <;> rintro ⟨p, q⟩ <;> exact ⟨p, by omega⟩
  · have e : msk2 i q (ix2 a l) = IntOp.cmpi .sle (BitVec.ofNat 32 l.val) (BitVec.ofNat 32 a.val) := by
      have : msk2 i q = cmpi .sle colT rowT := by unfold msk2; split; exact absurd rfl h; rfl
      rw [this]
      pointwise [colT, rowT]
    rw [e, sle_at]
    exact ⟨fun p => ⟨p, by omega⟩, fun p => p.1⟩

end

end Cert.Kernel2Ideal.Val

end
-- ==== Proof.LongTile.lean ====
module

public import proofs.«01_k».proof.Proof.Tile
public import proofs.«01_k».proof.Proof.LongMixer
public import proofs.«01_k».proof.Proof.Spec

@[expose] public section

set_option maxRecDepth 16384

noncomputable section

namespace Cert.Kernel2Ideal.Val

open Cert.KernelIdeal.Val Idealize.ShloMosaic Idealize.ShloMosaic.TcCoe Idealize.SL.Sem Layer Facts₀ Facts Gen

/-! ### One step of the second pass, over what its blocks hold -/

/-- What a step's blocks hold: `T` is the step's tile of 512 positions, the neighbours start at `Bp` and `Bn`. -/
structure Blocks (T : ℕ) (Q AG : ℕ → ℕ → EReal) (KT VL VH : ℕ → ℕ → EReal) (SK : ℕ → EReal)
    (x2 : Vec Ideal S1x512x1024 .bf16) (x3 : Vec Ideal S1x512x1024 .bf16) (x5 : Vec Ideal S1x1024x512 .bf16) (x6 : Vec Ideal S1x1024x128 .bf16) (x7 : Vec Ideal S1x1024x128 .bf16)
    (x8 : Vec Ideal S1x512x1024 .bf16) (x9 : Vec Ideal S1x128x1024 .bf16) (x10 : Vec Ideal S1x128x1024 .bf16) (x11 : Vec Ideal S1x512x1024 .bf16) (x12 : Vec Ideal S1x128x1024 .bf16)
    (x13 : Vec Ideal S1x128x1024 .bf16) (x15 : Vec Ideal S16x128 .f32) where
  Bp : ℕ
  Bn : ℕ
  hT : T < 16
  hBp : Bp + 128 ≤ 8192
  hBn : Bn + 128 ≤ 8192
  eBp : T ≠ 0 → Bp + 128 = T * 512
  eBn : T ≠ 15 → Bn = T * 512 + 512
  h2 : ∀ p l, p < 512 → l < 1024 → rd3 (n0 := 1) (n1 := 512) (n2 := 1024) x2 0 p l = Q (T * 512 + p) l
  h3 : ∀ p l, p < 512 → l < 1024 → rd3 (n0 := 1) (n1 := 512) (n2 := 1024) x3 0 p l = AG (T * 512 + p) l
  h5 : ∀ r n, r < 1024 → n < 512 → rd3 (n0 := 1) (n1 := 1024) (n2 := 512) x5 0 r n = KT r (T * 512 + n)
  h6 : ∀ r n, r < 1024 → n < 128 → rd3 (n0 := 1) (n1 := 1024) (n2 := 128) x6 0 r n = KT r (Bp + n)
  h7 : ∀ r n, r < 1024 → n < 128 → rd3 (n0 := 1) (n1 := 1024) (n2 := 128) x7 0 r n = KT r (Bn + n)
  h8 : ∀ n l, n < 512 → l < 1024 → rd3 (n0 := 1) (n1 := 512) (n2 := 1024) x8 0 n l = VL (T * 512 + n) l
  h9 : ∀ n l, n < 128 → l < 1024 → rd3 (n0 := 1) (n1 := 128) (n2 := 1024) x9 0 n l = VL (Bp + n) l
  h10 : ∀ n l, n < 128 → l < 1024 → rd3 (n0 := 1) (n1 := 128) (n2 := 1024) x10 0 n l = VL (Bn + n) l
  h11 : ∀ n l, n < 512 → l < 1024 → rd3 (n0 := 1) (n1 := 512) (n2 := 1024) x11 0 n l = VH (T * 512 + n) l
  h12 : ∀ n l, n < 128 → l < 1024 → rd3 (n0 := 1) (n1 := 128) (n2 := 1024) x12 0 n l = VH (Bp + n) l
  h13 : ∀ n l, n < 128 → l < 1024 → rd3 (n0 := 1) (n1 := 128) (n2 := 1024) x13 0 n l = VH (Bn + n) l
  h15 : ∀ hd l, hd < 16 → l < 128 → rd2 (n0 := 16) (n1 := 128) x15 hd l = SK hd

/-- What the arrays between the passes hold: scores as lane products, values in their half lanes next to ones. -/
structure Arrays (Q : ℕ → ℕ → EReal) (KT VL VH : ℕ → ℕ → EReal) (SC : ℕ → ℕ → ℕ → EReal) (VV : ℕ → ℕ → ℕ → EReal) : Prop where
  sc0 : ∀ h r t s, h < 4 → r < 2 → t < 8192 → s < 8192 → ∑ j : Fin 128, Q t ((2 * h + r) * 128 + j.val) * KT (h * 256 + j.val) s = (kap : EReal) * SC t (4 * h + 2 * r) s
  sc1 : ∀ h r t s, h < 4 → r < 2 → t < 8192 → s < 8192 → ∑ j : Fin 128, Q t ((2 * h + r) * 128 + j.val) * KT (h * 256 + 128 + j.val) s = (kap : EReal) * SC t (4 * h + 2 * r + 1) s
  vl0 : ∀ h s l, h < 4 → s < 8192 → l < 64 → VL s (h * 256 + l) = VV s h l
  vl1 : ∀ h s l, h < 4 → s < 8192 → l < 128 → ¬ l < 64 → VL s (h * 256 + l) = 0
  vl2 : ∀ h s l, h < 4 → s < 8192 → l < 128 → VL s (h * 256 + 128 + l) = if l < 64 then 1 else 0
  vh0 : ∀ h s l, h < 4 → s < 8192 → l < 64 → VH s (h * 256 + l) = 0
  vh1 : ∀ h s l, h < 4 → s < 8192 → l < 128 → ¬ l < 64 → VH s (h * 256 + l) = VV s h (l - 64)
  vh2 : ∀ h s l, h < 4 → s < 8192 → l < 128 → VH s (h * 256 + 128 + l) = if l < 64 then 0 else 1

/-- A lane of the gated attention. -/
def abT (AG : ℕ → ℕ → EReal) (SC : ℕ → ℕ → ℕ → EReal) (VV : ℕ → ℕ → ℕ → EReal) (SK : ℕ → EReal) (t c : ℕ) : EReal :=
  attRow 8192 t (SC t (c / 64)) (SK (c / 64)) (fun s => VV s (c / 64 / 4) (c % 64)) * AG t c

section
variable (c : Dev nD) (i : grid1.Coords)
  (arg2 : Memref sig .tc .vmem S1x512x1024 .f32) (harg2 : arg2.IsWhole)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x2048 .bf16) (harg6 : arg6.IsWhole)
  (arg7 : Memref sig .tc .vmem S1x1024x512 .bf16) (harg7 : arg7.IsWhole)
  (arg8 : Memref sig .tc .vmem S1x1024x128 .bf16) (harg8 : arg8.IsWhole)
  (arg9 : Memref sig .tc .vmem S1x1024x128 .bf16) (harg9 : arg9.IsWhole)
  (arg10 : Memref sig .tc .vmem S1x512x1024 .bf16) (harg10 : arg10.IsWhole)
  (arg11 : Memref sig .tc .vmem S1x128x1024 .bf16) (harg11 : arg11.IsWhole)
  (arg12 : Memref sig .tc .vmem S1x128x1024 .bf16) (harg12 : arg12.IsWhole)
  (arg13 : Memref sig .tc .vmem S1x512x1024 .bf16) (harg13 : arg13.IsWhole)
  (arg14 : Memref sig .tc .vmem S1x128x1024 .bf16) (harg14 : arg14.IsWhole)
  (arg15 : Memref sig .tc .vmem S1x128x1024 .bf16) (harg15 : arg15.IsWhole)
  (arg16 : Memref sig .tc .vmem S1024x1024 .bf16) (harg16 : arg16.IsWhole)
  (arg17 : Memref sig .tc .vmem S16x128 .f32) (harg17 : arg17.IsWhole)
  (arg18 : Memref sig .tc .vmem S1024x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1x512x1024 .f32) (harg21 : arg21.IsWhole)
  (arg22 : Memref sig .tc .vmem S1024x768 .bf16) (harg22 : arg22.IsWhole)
  (arg23 : Memref sig .tc .vmem S768x1152 .bf16) (harg23 : arg23.IsWhole)
  (arg24 : Memref sig .tc .vmem S768x1152 .bf16) (harg24 : arg24.IsWhole)
  (arg25 : Memref sig .tc .vmem S512x1152 .bf16) (harg25 : arg25.IsWhole)
  (arg26 : Memref sig .tc .vmem S512x1152 .f32) (harg26 : arg26.IsWhole)
  (x0 : Vec Ideal S1x512x1024 .f32) (x1 : Vec Ideal S1x512x1024 .bf16) (x2 : Vec Ideal S1x512x1024 .bf16) (x3 : Vec Ideal S1x512x1024 .bf16) (x4 : Vec Ideal S1x512x2048 .bf16) (x5 : Vec Ideal S1x1024x512 .bf16) (x6 : Vec Ideal S1x1024x128 .bf16) (x7 : Vec Ideal S1x1024x128 .bf16) (x8 : Vec Ideal S1x512x1024 .bf16) (x9 : Vec Ideal S1x128x1024 .bf16) (x10 : Vec Ideal S1x128x1024 .bf16) (x11 : Vec Ideal S1x512x1024 .bf16) (x12 : Vec Ideal S1x128x1024 .bf16) (x13 : Vec Ideal S1x128x1024 .bf16) (x14 : Vec Ideal S1024x1024 .bf16) (x15 : Vec Ideal S16x128 .f32) (x16 : Vec Ideal S1024x1024 .bf16) (x17 : Vec Ideal S1024x1024 .bf16) (x18 : Vec Ideal S1x1024 .f32)
variable {Q AG KT VL VH : ℕ → ℕ → EReal} {SK : ℕ → EReal} {SC VV : ℕ → ℕ → ℕ → EReal} (H : Blocks (i 1).val Q AG KT VL VH SK x2 x3 x5 x6 x7 x8 x9 x10 x11 x12 x13 x15) (R : Arrays Q KT VL VH SC VV)

include H

theorem kW_val (r n : ℕ) (hr : r < 1024) (hn : n < 768) (p : 128 ≤ (i 1).val * 512 + n) (q : (i 1).val * 512 + n - 128 < 8192) :
    kW x5 x6 x7 r n = KT r ((i 1).val * 512 + n - 128) := by
  have hT := H.hT
  unfold kW
  split
  · rw [H.h6 r n hr (by omega)]; have := H.eBp (by omega); congr 1; omega
  split
  · rw [H.h5 r _ hr (by omega)]; congr 1; omega
  · rw [H.h7 r _ hr (by omega)]; have := H.eBn (by omega); congr 1; omega

theorem posW_lt (n : ℕ) (hn : n < 768) : posW (i 1).val H.Bp H.Bn n < 8192 := by
  have := H.hT; have := H.hBp; have := H.hBn
  unfold posW; split
  · omega
  split <;> omega

theorem posW_in (n : ℕ) (hn : n < 768) (p : 128 ≤ (i 1).val * 512 + n) (q : (i 1).val * 512 + n - 128 < 8192) : posW (i 1).val H.Bp H.Bn n = (i 1).val * 512 + n - 128 := by
  have hT := H.hT
  unfold posW
  split
  · have := H.eBp (by omega); omega
  split
  · omega
  · have := H.eBn (by omega); omega

theorem vlW_val (n l : ℕ) (hn : n < 768) (hl : l < 1024) : vW x8 x9 x10 n l = VL (posW (i 1).val H.Bp H.Bn n) l := by
  unfold vW posW
  split
  · exact H.h9 n l (by omega) hl
  split
  · exact H.h8 _ l (by omega) hl
  · exact H.h10 _ l (by omega) hl

theorem vhW_val (n l : ℕ) (hn : n < 768) (hl : l < 1024) : vW x11 x12 x13 n l = VH (posW (i 1).val H.Bp H.Bn n) l := by
  unfold vW posW
  split
  · exact H.h12 n l (by omega) hl
  split
  · exact H.h11 _ l (by omega) hl
  · exact H.h13 _ l (by omega) hl

include R

theorem pc0_val (q h : ℕ) (hq : q < 4) (hh : h < 4) (x : S128x128.Idx) :
    (pc0 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).2 x = abT AG SC VV SK ((i 1).val * 512 + (q * 128 + (x 0).val)) ((2 * h + 0) * 128 + (x 1).val) := by
  obtain ⟨a, l, rfl⟩ : ∃ a b, x = ix2 a b := ⟨_, _, eq_ix2 x⟩
  have hT := H.hT
  have ha := a.isLt
  have hl := l.isLt
  have hvl : ∀ (n : Fin 384) (m : Fin 256), ((arg23.view.readCov (kernelRun1_A.sl.HS1_3 (F := Ideal) c arg10 harg10 arg11 harg11 arg12 harg12 x8 x9 x10) (Rect.unit (s := S768x1152) ![q * 128, h * 256] S384x256.size (inb2 768 1152 _ _ (by omega) (by omega))).toLoadRect) (ix2 n m) : EReal) = VL (posW (i 1).val H.Bp H.Bn (q * 128 + n.val)) (h * 256 + m.val) := by
    intro n m
    have hn := n.isLt
    have hm := m.isLt
    exact (vlLoad c arg10 harg10 arg11 harg11 arg12 harg12 arg23 x8 x9 x10 (n := 384) (m := 256) (a := q * 128) (b := h * 256) (inb2 768 1152 _ _ (by omega) (by omega)) (ix2 n m) (by omega)).trans (vlW_val i x2 x3 x5 x6 x7 x8 x9 x10 x11 x12 x13 x15 H (q * 128 + n.val) (h * 256 + m.val) (by omega) (by omega))
  have hvh : ∀ (n : Fin 384) (m : Fin 256), ((arg24.view.readCov (kernelRun1_A.sl.HS2_3 (F := Ideal) c arg13 harg13 arg14 harg14 arg15 harg15 x11 x12 x13) (Rect.unit (s := S768x1152) ![q * 128, h * 256] S384x256.size (inb2 768 1152 _ _ (by omega) (by omega))).toLoadRect) (ix2 n m) : EReal) = VH (posW (i 1).val H.Bp H.Bn (q * 128 + n.val)) (h * 256 + m.val) := by
    intro n m
    have hn := n.isLt
    have hm := m.isLt
    exact (vhLoad c arg13 harg13 arg14 harg14 arg15 harg15 arg24 x11 x12 x13 (n := 384) (m := 256) (a := q * 128) (b := h * 256) (inb2 768 1152 _ _ (by omega) (by omega)) (ix2 n m) (by omega)).trans (vhW_val i x2 x3 x5 x6 x7 x8 x9 x10 x11 x12 x13 x15 H (q * 128 + n.val) (h * 256 + m.val) (by omega) (by omega))
  refine (item0_val _ _ _ _ _ _ _ _ _ _ _ _ _ (fun n => a.val ≤ n ∧ (i 1).val * 512 + q * 128 ≠ 0) (fun n => n - 256 ≤ a.val ∧ (i 1).val * 512 + q * 128 + 128 ≠ 8192) a
    (fun l => msk0_at i q a l) (fun l => (msk2_at i q hq a l).trans (by rw [Nat.add_sub_cancel_left]))
    ((i 1).val * 512 + q * 128) 8192 (by omega) (by omega) (by decide) (fun n _ => Iff.rfl) (fun n _ _ => Iff.rfl)
    (fun s l => VV s h l) (fun s l => VV s h (l - 64))
    ?_ ?_ ?_ ?_ ?_ ?_ (fun k => SK (4 * h + k)) (fun l => (load2_f32 (A := 16) (B := 128) arg17 harg17 x15 _ (ix2 0 l)).trans (H.h15 (4 * h + 0 + 0) (0 + l.val) (by omega) (by have := l.isLt; omega))) (fun l => (load2_f32 (A := 16) (B := 128) arg17 harg17 x15 _ (ix2 0 l)).trans (H.h15 (4 * h + 1 + 0) (0 + l.val) (by omega) (by have := l.isLt; omega))) (fun k => SC ((i 1).val * 512 + q * 128 + a.val) (4 * h + k))
    (fun n p q' => by
      refine (Finset.sum_congr rfl fun j _ => ?_).trans (R.sc0 h 0 ((i 1).val * 512 + q * 128 + a.val) ((i 1).val * 512 + q * 128 + n.val - 128) hh (by decide) (by omega) q')
      have hj := j.isLt
      have hn := n.isLt
      have e1 : (View.readAt (Elt Ideal) arg4.view (Rect.unit (s := S1x512x1024) ![0, q * 128, (2 * h + 0) * 128] S1x128x128.size (inb3 1 512 1024 _ _ _ (by decide) (by omega) (by omega))).toLoadRect (harg4.unread x2)) (ix3 0 a j)
          = Q ((i 1).val * 512 + q * 128 + a.val) ((2 * h + 0) * 128 + j.val) :=
        (load3_bf16 (A := 1) (B := 512) (C := 1024) arg4 harg4 x2 _ (ix3 0 a j)).trans ((H.h2 (q * 128 + a.val) ((2 * h + 0) * 128 + j.val) (by omega) (by omega)).trans (by rw [Nat.add_assoc]))
      have e2 : (arg22.view.readCov (kernelRun1_A.sl.HS0_3 (F := Ideal) c arg7 harg7 arg8 harg8 arg9 harg9 x5 x6 x7) (Rect.unit (s := S1024x768) ![h * 256, q * 128] S128x384.size (inb2 1024 768 _ _ (by omega) (by omega))).toLoadRect) (ix2 j n)
          = KT (h * 256 + j.val) ((i 1).val * 512 + q * 128 + n.val - 128) :=
        (kLoad c arg7 harg7 arg8 harg8 arg9 harg9 arg22 x5 x6 x7 _ (ix2 j n)).trans ((kW_val i x2 x3 x5 x6 x7 x8 x9 x10 x11 x12 x13 x15 H (h * 256 + j.val) (q * 128 + n.val) (by omega) (by omega) (by omega) (by omega)).trans (by congr 1; omega))
      rw [e1, e2])
    (fun n p q' => by
      refine (Finset.sum_congr rfl fun j _ => ?_).trans (R.sc1 h 0 ((i 1).val * 512 + q * 128 + a.val) ((i 1).val * 512 + q * 128 + n.val - 128) hh (by decide) (by omega) q')
      have hj := j.isLt
      have hn := n.isLt
      have e1 : (View.readAt (Elt Ideal) arg4.view (Rect.unit (s := S1x512x1024) ![0, q * 128, (2 * h + 0) * 128] S1x128x128.size (inb3 1 512 1024 _ _ _ (by decide) (by omega) (by omega))).toLoadRect (harg4.unread x2)) (ix3 0 a j)
          = Q ((i 1).val * 512 + q * 128 + a.val) ((2 * h + 0) * 128 + j.val) :=
        (load3_bf16 (A := 1) (B := 512) (C := 1024) arg4 harg4 x2 _ (ix3 0 a j)).trans ((H.h2 (q * 128 + a.val) ((2 * h + 0) * 128 + j.val) (by omega) (by omega)).trans (by rw [Nat.add_assoc]))
      have e2 : (arg22.view.readCov (kernelRun1_A.sl.HS0_3 (F := Ideal) c arg7 harg7 arg8 harg8 arg9 harg9 x5 x6 x7) (Rect.unit (s := S1024x768) ![h * 256 + 128, q * 128] S128x384.size (inb2 1024 768 _ _ (by omega) (by omega))).toLoadRect) (ix2 j n)
          = KT (h * 256 + 128 + j.val) ((i 1).val * 512 + q * 128 + n.val - 128) :=
        (kLoad c arg7 harg7 arg8 harg8 arg9 harg9 arg22 x5 x6 x7 _ (ix2 j n)).trans ((kW_val i x2 x3 x5 x6 x7 x8 x9 x10 x11 x12 x13 x15 H (h * 256 + 128 + j.val) (q * 128 + n.val) (by omega) (by omega) (by omega) (by omega)).trans (by congr 1; omega))
      rw [e1, e2]) l).trans ?_
  · intro n l hl p q'
    refine (hvl n ⟨l.val, by omega⟩).trans ?_
    exact (R.vl0 h _ l.val hh (posW_lt i x2 x3 x5 x6 x7 x8 x9 x10 x11 x12 x13 x15 H _ (by have := n.isLt; omega)) hl).trans (by rw [posW_in i x2 x3 x5 x6 x7 x8 x9 x10 x11 x12 x13 x15 H _ (by have := n.isLt; omega) (by omega) (by omega)]; congr 1; omega)
  · intro n l hl
    refine (hvl n ⟨l.val, by omega⟩).trans ?_
    exact R.vl1 h _ l.val hh (posW_lt i x2 x3 x5 x6 x7 x8 x9 x10 x11 x12 x13 x15 H _ (by have := n.isLt; omega)) l.isLt hl
  · intro n l hl
    refine (hvh n ⟨l.val, by omega⟩).trans ?_
    exact R.vh0 h _ l.val hh (posW_lt i x2 x3 x5 x6 x7 x8 x9 x10 x11 x12 x13 x15 H _ (by have := n.isLt; omega)) hl
  · intro n l hl p q'
    refine (hvh n ⟨l.val, by omega⟩).trans ?_
    exact (R.vh1 h _ l.val hh (posW_lt i x2 x3 x5 x6 x7 x8 x9 x10 x11 x12 x13 x15 H _ (by have := n.isLt; omega)) l.isLt hl).trans (by rw [posW_in i x2 x3 x5 x6 x7 x8 x9 x10 x11 x12 x13 x15 H _ (by have := n.isLt; omega) (by omega) (by omega)]; congr 1; omega)
  · intro n l
    refine (hvl n ⟨128 + l.val, by omega⟩).trans ?_
    exact (congrArg _ (Nat.add_assoc _ _ _).symm).trans (R.vl2 h _ l.val hh (posW_lt i x2 x3 x5 x6 x7 x8 x9 x10 x11 x12 x13 x15 H _ (by have := n.isLt; omega)) l.isLt)
  · intro n l
    refine (hvh n ⟨128 + l.val, by omega⟩).trans ?_
    exact (congrArg _ (Nat.add_assoc _ _ _).symm).trans (R.vh2 h _ l.val hh (posW_lt i x2 x3 x5 x6 x7 x8 x9 x10 x11 x12 x13 x15 H _ (by have := n.isLt; omega)) l.isLt)
  · unfold abT
    congr 1
    · show (if l.val < 64 then _ else _) = attRow 8192 ((i 1).val * 512 + (q * 128 + a.val)) (SC ((i 1).val * 512 + (q * 128 + a.val)) (((2 * h + 0) * 128 + l.val) / 64)) (SK (((2 * h + 0) * 128 + l.val) / 64)) (fun s => VV s (((2 * h + 0) * 128 + l.val) / 64 / 4) (((2 * h + 0) * 128 + l.val) % 64))
      rw [← Nat.add_assoc]
      split
      · rw [show ((2 * h + 0) * 128 + l.val) / 64 = 4 * h + 0 by omega, show (4 * h + 0) / 4 = h by omega, show ((2 * h + 0) * 128 + l.val) % 64 = l.val by omega]
      · rw [show ((2 * h + 0) * 128 + l.val) / 64 = 4 * h + 1 by omega, show (4 * h + 1) / 4 = h by omega, show ((2 * h + 0) * 128 + l.val) % 64 = l.val - 64 by omega]
    · exact (load3_bf16 (A := 1) (B := 512) (C := 1024) arg5 harg5 x3 _ (ix3 0 a l)).trans (H.h3 (q * 128 + a.val) ((2 * h + 0) * 128 + l.val) (by omega) (by omega))

theorem pc1_val (q h : ℕ) (hq : q < 4) (hh : h < 4) (x : S128x128.Idx) :
    (pc1 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).2 x = abT AG SC VV SK ((i 1).val * 512 + (q * 128 + (x 0).val)) ((2 * h + 1) * 128 + (x 1).val) := by
  obtain ⟨a, l, rfl⟩ : ∃ a b, x = ix2 a b := ⟨_, _, eq_ix2 x⟩
  have hT := H.hT
  have ha := a.isLt
  have hl := l.isLt
  have hvl : ∀ (n : Fin 384) (m : Fin 256), ((arg23.view.readCov (kernelRun1_A.sl.HS1_3 (F := Ideal) c arg10 harg10 arg11 harg11 arg12 harg12 x8 x9 x10) (Rect.unit (s := S768x1152) ![q * 128, h * 256] S384x256.size (inb2 768 1152 _ _ (by omega) (by omega))).toLoadRect) (ix2 n m) : EReal) = VL (posW (i 1).val H.Bp H.Bn (q * 128 + n.val)) (h * 256 + m.val) := by
    intro n m
    have hn := n.isLt
    have hm := m.isLt
    exact (vlLoad c arg10 harg10 arg11 harg11 arg12 harg12 arg23 x8 x9 x10 (n := 384) (m := 256) (a := q * 128) (b := h * 256) (inb2 768 1152 _ _ (by omega) (by omega)) (ix2 n m) (by omega)).trans (vlW_val i x2 x3 x5 x6 x7 x8 x9 x10 x11 x12 x13 x15 H (q * 128 + n.val) (h * 256 + m.val) (by omega) (by omega))
  have hvh : ∀ (n : Fin 384) (m : Fin 256), ((arg24.view.readCov (kernelRun1_A.sl.HS2_3 (F := Ideal) c arg13 harg13 arg14 harg14 arg15 harg15 x11 x12 x13) (Rect.unit (s := S768x1152) ![q * 128, h * 256] S384x256.size (inb2 768 1152 _ _ (by omega) (by omega))).toLoadRect) (ix2 n m) : EReal) = VH (posW (i 1).val H.Bp H.Bn (q * 128 + n.val)) (h * 256 + m.val) := by
    intro n m
    have hn := n.isLt
    have hm := m.isLt
    exact (vhLoad c arg13 harg13 arg14 harg14 arg15 harg15 arg24 x11 x12 x13 (n := 384) (m := 256) (a := q * 128) (b := h * 256) (inb2 768 1152 _ _ (by omega) (by omega)) (ix2 n m) (by omega)).trans (vhW_val i x2 x3 x5 x6 x7 x8 x9 x10 x11 x12 x13 x15 H (q * 128 + n.val) (h * 256 + m.val) (by omega) (by omega))
  refine (item1_val _ _ _ _ _ _ _ _ _ _ _ _ _ (fun n => a.val ≤ n ∧ (i 1).val * 512 + q * 128 ≠ 0) (fun n => n - 256 ≤ a.val ∧ (i 1).val * 512 + q * 128 + 128 ≠ 8192) a
    (fun l => msk0_at i q a l) (fun l => (msk2_at i q hq a l).trans (by rw [Nat.add_sub_cancel_left]))
    ((i 1).val * 512 + q * 128) 8192 (by omega) (by omega) (by decide) (fun n _ => Iff.rfl) (fun n _ _ => Iff.rfl)
    (fun s l => VV s h l) (fun s l => VV s h (l - 64))
    ?_ ?_ ?_ ?_ ?_ ?_ (fun k => SK (4 * h + k)) (fun l => (load2_f32 (A := 16) (B := 128) arg17 harg17 x15 _ (ix2 0 l)).trans (H.h15 (4 * h + 2 + 0) (0 + l.val) (by omega) (by have := l.isLt; omega))) (fun l => (load2_f32 (A := 16) (B := 128) arg17 harg17 x15 _ (ix2 0 l)).trans (H.h15 (4 * h + 3 + 0) (0 + l.val) (by omega) (by have := l.isLt; omega))) (fun k => SC ((i 1).val * 512 + q * 128 + a.val) (4 * h + k))
    (fun n p q' => by
      refine (Finset.sum_congr rfl fun j _ => ?_).trans (R.sc0 h 1 ((i 1).val * 512 + q * 128 + a.val) ((i 1).val * 512 + q * 128 + n.val - 128) hh (by decide) (by omega) q')
      have hj := j.isLt
      have hn := n.isLt
      have e1 : (View.readAt (Elt Ideal) arg4.view (Rect.unit (s := S1x512x1024) ![0, q * 128, (2 * h + 1) * 128] S1x128x128.size (inb3 1 512 1024 _ _ _ (by decide) (by omega) (by omega))).toLoadRect (harg4.unread x2)) (ix3 0 a j)
          = Q ((i 1).val * 512 + q * 128 + a.val) ((2 * h + 1) * 128 + j.val) :=
        (load3_bf16 (A := 1) (B := 512) (C := 1024) arg4 harg4 x2 _ (ix3 0 a j)).trans ((H.h2 (q * 128 + a.val) ((2 * h + 1) * 128 + j.val) (by omega) (by omega)).trans (by rw [Nat.add_assoc]))
      have e2 : (arg22.view.readCov (kernelRun1_A.sl.HS0_3 (F := Ideal) c arg7 harg7 arg8 harg8 arg9 harg9 x5 x6 x7) (Rect.unit (s := S1024x768) ![h * 256, q * 128] S128x384.size (inb2 1024 768 _ _ (by omega) (by omega))).toLoadRect) (ix2 j n)
          = KT (h * 256 + j.val) ((i 1).val * 512 + q * 128 + n.val - 128) :=
        (kLoad c arg7 harg7 arg8 harg8 arg9 harg9 arg22 x5 x6 x7 _ (ix2 j n)).trans ((kW_val i x2 x3 x5 x6 x7 x8 x9 x10 x11 x12 x13 x15 H (h * 256 + j.val) (q * 128 + n.val) (by omega) (by omega) (by omega) (by omega)).trans (by congr 1; omega))
      rw [e1, e2])
    (fun n p q' => by
      refine (Finset.sum_congr rfl fun j _ => ?_).trans (R.sc1 h 1 ((i 1).val * 512 + q * 128 + a.val) ((i 1).val * 512 + q * 128 + n.val - 128) hh (by decide) (by omega) q')
      have hj := j.isLt
      have hn := n.isLt
      have e1 : (View.readAt (Elt Ideal) arg4.view (Rect.unit (s := S1x512x1024) ![0, q * 128, (2 * h + 1) * 128] S1x128x128.size (inb3 1 512 1024 _ _ _ (by decide) (by omega) (by omega))).toLoadRect (harg4.unread x2)) (ix3 0 a j)
          = Q ((i 1).val * 512 + q * 128 + a.val) ((2 * h + 1) * 128 + j.val) :=
        (load3_bf16 (A := 1) (B := 512) (C := 1024) arg4 harg4 x2 _ (ix3 0 a j)).trans ((H.h2 (q * 128 + a.val) ((2 * h + 1) * 128 + j.val) (by omega) (by omega)).trans (by rw [Nat.add_assoc]))
      have e2 : (arg22.view.readCov (kernelRun1_A.sl.HS0_3 (F := Ideal) c arg7 harg7 arg8 harg8 arg9 harg9 x5 x6 x7) (Rect.unit (s := S1024x768) ![h * 256 + 128, q * 128] S128x384.size (inb2 1024 768 _ _ (by omega) (by omega))).toLoadRect) (ix2 j n)
          = KT (h * 256 + 128 + j.val) ((i 1).val * 512 + q * 128 + n.val - 128) :=
        (kLoad c arg7 harg7 arg8 harg8 arg9 harg9 arg22 x5 x6 x7 _ (ix2 j n)).trans ((kW_val i x2 x3 x5 x6 x7 x8 x9 x10 x11 x12 x13 x15 H (h * 256 + 128 + j.val) (q * 128 + n.val) (by omega) (by omega) (by omega) (by omega)).trans (by congr 1; omega))
      rw [e1, e2]) l).trans ?_
  · intro n l hl p q'
    refine (hvl n ⟨l.val, by omega⟩).trans ?_
    exact (R.vl0 h _ l.val hh (posW_lt i x2 x3 x5 x6 x7 x8 x9 x10 x11 x12 x13 x15 H _ (by have := n.isLt; omega)) hl).trans (by rw [posW_in i x2 x3 x5 x6 x7 x8 x9 x10 x11 x12 x13 x15 H _ (by have := n.isLt; omega) (by omega) (by omega)]; congr 1; omega)
  · intro n l hl
    refine (hvl n ⟨l.val, by omega⟩).trans ?_
    exact R.vl1 h _ l.val hh (posW_lt i x2 x3 x5 x6 x7 x8 x9 x10 x11 x12 x13 x15 H _ (by have := n.isLt; omega)) l.isLt hl
  · intro n l hl
    refine (hvh n ⟨l.val, by omega⟩).trans ?_
    exact R.vh0 h _ l.val hh (posW_lt i x2 x3 x5 x6 x7 x8 x9 x10 x11 x12 x13 x15 H _ (by have := n.isLt; omega)) hl
  · intro n l hl p q'
    refine (hvh n ⟨l.val, by omega⟩).trans ?_
    exact (R.vh1 h _ l.val hh (posW_lt i x2 x3 x5 x6 x7 x8 x9 x10 x11 x12 x13 x15 H _ (by have := n.isLt; omega)) l.isLt hl).trans (by rw [posW_in i x2 x3 x5 x6 x7 x8 x9 x10 x11 x12 x13 x15 H _ (by have := n.isLt; omega) (by omega) (by omega)]; congr 1; omega)
  · intro n l
    refine (hvl n ⟨128 + l.val, by omega⟩).trans ?_
    exact (congrArg _ (Nat.add_assoc _ _ _).symm).trans (R.vl2 h _ l.val hh (posW_lt i x2 x3 x5 x6 x7 x8 x9 x10 x11 x12 x13 x15 H _ (by have := n.isLt; omega)) l.isLt)
  · intro n l
    refine (hvh n ⟨128 + l.val, by omega⟩).trans ?_
    exact (congrArg _ (Nat.add_assoc _ _ _).symm).trans (R.vh2 h _ l.val hh (posW_lt i x2 x3 x5 x6 x7 x8 x9 x10 x11 x12 x13 x15 H _ (by have := n.isLt; omega)) l.isLt)
  · unfold abT
    congr 1
    · show (if l.val < 64 then _ else _) = attRow 8192 ((i 1).val * 512 + (q * 128 + a.val)) (SC ((i 1).val * 512 + (q * 128 + a.val)) (((2 * h + 1) * 128 + l.val) / 64)) (SK (((2 * h + 1) * 128 + l.val) / 64)) (fun s => VV s (((2 * h + 1) * 128 + l.val) / 64 / 4) (((2 * h + 1) * 128 + l.val) % 64))
      rw [← Nat.add_assoc]
      split
      · rw [show ((2 * h + 1) * 128 + l.val) / 64 = 4 * h + 2 by omega, show (4 * h + 2) / 4 = h by omega, show ((2 * h + 1) * 128 + l.val) % 64 = l.val by omega]
      · rw [show ((2 * h + 1) * 128 + l.val) / 64 = 4 * h + 3 by omega, show (4 * h + 3) / 4 = h by omega, show ((2 * h + 1) * 128 + l.val) % 64 = l.val - 64 by omega]
    · exact (load3_bf16 (A := 1) (B := 512) (C := 1024) arg5 harg5 x3 _ (ix3 0 a l)).trans (H.h3 (q * 128 + a.val) ((2 * h + 1) * 128 + l.val) (by omega) (by omega))

/-- The gated attention scratch. -/
theorem abLoad (inb) (p : Fin 512) (l : Fin 1024) :
    arg25.view.readCov (kernelRun1_A.sl.HS3_32 (F := Ideal) c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15) (Rect.unit (s := S512x1152) ![0, 0] S512x1024.size inb).toLoadRect (ix2 p l) = abT AG SC VV SK ((i 1).val * 512 + p.val) l.val := by
  have hp := p.isLt
  have hl := l.isLt
  rw [pieces]
  refine (cov2_bf16 (A := 512) (B := 1152) arg25.view _ (fun u v => abT AG SC VV SK ((i 1).val * 512 + u) v) ?_ inb (ix2 p l) ?_).trans ?_
  · intro w hw x
    obtain ⟨q, h, hq, hh, rfl | rfl⟩ := pcs_mem _ _ _ hw
    · exact (pc0_val c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 H R q h hq hh x).trans (by rw [show (((pc0 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).1.emb x) 0).val = q * 128 + (x 0).val from emb2_0 (A := 512) (B := 1152) (inb2 512 1152 _ _ (by omega) (by omega)) x, show (((pc0 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).1.emb x) 1).val = (2 * h + 0) * 128 + (x 1).val from emb2_1 (A := 512) (B := 1152) (inb2 512 1152 _ _ (by omega) (by omega)) x])
    · exact (pc1_val c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 H R q h hq hh x).trans (by rw [show (((pc1 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).1.emb x) 0).val = q * 128 + (x 0).val from emb2_0 (A := 512) (B := 1152) (inb2 512 1152 _ _ (by omega) (by omega)) x, show (((pc1 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 q h hq hh).1.emb x) 1).val = (2 * h + 1) * 128 + (x 1).val from emb2_1 (A := 512) (B := 1152) (inb2 512 1152 _ _ (by omega) (by omega)) x])
  · have e0 : ((Rect.unit (s := S512x1152) ![0, 0] S512x1024.size inb).idx (ix2 p l) 0).val = 0 + p.val := Rect.idx_unit_val (s := S512x1152) ![0, 0] S512x1024.size inb (ix2 p l) 0
    have e1 : ((Rect.unit (s := S512x1152) ![0, 0] S512x1024.size inb).idx (ix2 p l) 1).val = 0 + l.val := Rect.idx_unit_val (s := S512x1152) ![0, 0] S512x1024.size inb (ix2 p l) 1
    by_cases hc : l.val / 128 % 2 = 0
    · refine ⟨pc0 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 (p.val / 128) (l.val / 256) (by omega) (by omega), pcs_f0 _ _ _ _ _ _, mem2 (A := 512) (B := 1152) (inb := inb2 512 1152 _ _ (by omega) (by omega)) ?_ ?_⟩
      · rw [e0]; omega
      · rw [e1]; omega
    · refine ⟨pc1 c i arg4 harg4 arg5 harg5 arg7 harg7 arg8 harg8 arg9 harg9 arg10 harg10 arg11 harg11 arg12 harg12 arg13 harg13 arg14 harg14 arg15 harg15 arg17 harg17 arg22 arg23 arg24 x2 x3 x5 x6 x7 x8 x9 x10 x11 x12 x13 x15 (p.val / 128) (l.val / 256) (by omega) (by omega), pcs_f1 _ _ _ _ _ _, mem2 (A := 512) (B := 1152) (inb := inb2 512 1152 _ _ (by omega) (by omega)) ?_ ?_⟩
      · rw [e0]; omega
      · rw [e1]; omega
  · show abT AG SC VV SK ((i 1).val * 512 + (0 + p.val)) (0 + l.val) = _
    rw [Nat.zero_add, Nat.zero_add]

end

end Cert.Kernel2Ideal.Val

end
-- ==== Proof.LongOut1.lean ====
module

public import proofs.«01_k».proof.Proof.Out1
public import proofs.«01_k».proof.Proof.LongTile

@[expose] public section

set_option maxRecDepth 16384

noncomputable section

namespace Cert.Kernel2Ideal.Val

open Cert.KernelIdeal.Val Idealize.ShloMosaic Idealize.ShloMosaic.TcCoe Idealize.SL.Sem Layer Facts₀ Facts Gen

theorem pay_at (P : Vec Ideal S512x1024 .f32) (G : Vec Ideal S1x512x1024 .bf16) (A : Vec Ideal S512x1024 .bf16) (W WO : Vec Ideal S1024x1024 .bf16) (X : Vec Ideal S1x512x1024 .f32) (gp : Vec Ideal S1x1024 .f32) (p : Fin 512) (l : Fin 1024) :
    k1_pay1 (F := Ideal) (k1_pay692 A W) P G WO X gp (ix3 0 p l)
      = X (ix3 0 p l) + (∑ k : Fin 1024, mgF P G A W p k * WO (ix2 k l))
          * Ideal.rsqrt (Ideal.div (∑ j : Fin 1024, (∑ k : Fin 1024, mgF P G A W p k * WO (ix2 k j)) * (∑ k : Fin 1024, mgF P G A W p k * WO (ix2 k j))) (Ideal.ofBits .f32 0x44800000#32) + Ideal.ofBits .f32 0x358637BD#32)
          * gp (ix2 0 l) := by
  pointwise! [k1_pay1, k1_pay692, mgF]

theorem pm0_at (B : Vec Ideal S1x512x1024 .bf16) (W : Vec Ideal S1024x256 .bf16) (G : Vec Ideal S1x512x256 .bf16) (p : Fin 512) (l : Fin 256) :
    k1_pay519 (F := Ideal) B W G (ix2 p l) = G (ix3 0 p l) * ∑ k : Fin 1024, B (ix3 0 p k) * W (ix2 k l) := by
  pointwise! [k1_pay519]

theorem pm1_at (B : Vec Ideal S1x512x1024 .bf16) (W : Vec Ideal S1024x256 .bf16) (G : Vec Ideal S1x512x256 .bf16) (p : Fin 512) (l : Fin 256) :
    k1_pay354 (F := Ideal) B W G (ix2 p l) = G (ix3 0 p l) * ∑ k : Fin 1024, B (ix3 0 p k) * W (ix2 k l) := by
  pointwise! [k1_pay354]

theorem pm2_at (B : Vec Ideal S1x512x1024 .bf16) (W : Vec Ideal S1024x256 .bf16) (G : Vec Ideal S1x512x256 .bf16) (p : Fin 512) (l : Fin 256) :
    k1_pay189 (F := Ideal) B W G (ix2 p l) = G (ix3 0 p l) * ∑ k : Fin 1024, B (ix3 0 p k) * W (ix2 k l) := by
  pointwise! [k1_pay189]

theorem pm3_at (B : Vec Ideal S1x512x1024 .bf16) (W : Vec Ideal S1024x256 .bf16) (G : Vec Ideal S1x512x256 .bf16) (p : Fin 512) (l : Fin 256) :
    k1_pay189 (F := Ideal) B W G (ix2 p l) = G (ix3 0 p l) * ∑ k : Fin 1024, B (ix3 0 p k) * W (ix2 k l) := by
  pointwise! [k1_pay189]

section
variable (c : Dev nD) (i : grid1.Coords)
  (arg2 : Memref sig .tc .vmem S1x512x1024 .f32) (harg2 : arg2.IsWhole)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x2048 .bf16) (harg6 : arg6.IsWhole)
  (arg7 : Memref sig .tc .vmem S1x1024x512 .bf16) (harg7 : arg7.IsWhole)
  (arg8 : Memref sig .tc .vmem S1x1024x128 .bf16) (harg8 : arg8.IsWhole)
  (arg9 : Memref sig .tc .vmem S1x1024x128 .bf16) (harg9 : arg9.IsWhole)
  (arg10 : Memref sig .tc .vmem S1x512x1024 .bf16) (harg10 : arg10.IsWhole)
  (arg11 : Memref sig .tc .vmem S1x128x1024 .bf16) (harg11 : arg11.IsWhole)
  (arg12 : Memref sig .tc .vmem S1x128x1024 .bf16) (harg12 : arg12.IsWhole)
  (arg13 : Memref sig .tc .vmem S1x512x1024 .bf16) (harg13 : arg13.IsWhole)
  (arg14 : Memref sig .tc .vmem S1x128x1024 .bf16) (harg14 : arg14.IsWhole)
  (arg15 : Memref sig .tc .vmem S1x128x1024 .bf16) (harg15 : arg15.IsWhole)
  (arg16 : Memref sig .tc .vmem S1024x1024 .bf16) (harg16 : arg16.IsWhole)
  (arg17 : Memref sig .tc .vmem S16x128 .f32) (harg17 : arg17.IsWhole)
  (arg18 : Memref sig .tc .vmem S1024x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1x512x1024 .f32) (harg21 : arg21.IsWhole)
  (arg22 : Memref sig .tc .vmem S1024x768 .bf16) (harg22 : arg22.IsWhole)
  (arg23 : Memref sig .tc .vmem S768x1152 .bf16) (harg23 : arg23.IsWhole)
  (arg24 : Memref sig .tc .vmem S768x1152 .bf16) (harg24 : arg24.IsWhole)
  (arg25 : Memref sig .tc .vmem S512x1152 .bf16) (harg25 : arg25.IsWhole)
  (arg26 : Memref sig .tc .vmem S512x1152 .f32) (harg26 : arg26.IsWhole)
  (x0 : Vec Ideal S1x512x1024 .f32) (x1 : Vec Ideal S1x512x1024 .bf16) (x2 : Vec Ideal S1x512x1024 .bf16) (x3 : Vec Ideal S1x512x1024 .bf16) (x4 : Vec Ideal S1x512x2048 .bf16) (x5 : Vec Ideal S1x1024x512 .bf16) (x6 : Vec Ideal S1x1024x128 .bf16) (x7 : Vec Ideal S1x1024x128 .bf16) (x8 : Vec Ideal S1x512x1024 .bf16) (x9 : Vec Ideal S1x128x1024 .bf16) (x10 : Vec Ideal S1x128x1024 .bf16) (x11 : Vec Ideal S1x512x1024 .bf16) (x12 : Vec Ideal S1x128x1024 .bf16) (x13 : Vec Ideal S1x128x1024 .bf16) (x14 : Vec Ideal S1024x1024 .bf16) (x15 : Vec Ideal S16x128 .f32) (x16 : Vec Ideal S1024x1024 .bf16) (x17 : Vec Ideal S1024x1024 .bf16) (x18 : Vec Ideal S1x1024 .f32)

variable {PB GT : ℕ → ℕ → EReal} {WPP WAP WO : ℕ → ℕ → EReal} {GP : ℕ → EReal} {XX : ℕ → ℕ → EReal} (T : ℕ)
  (h0 : ∀ p l, p < 512 → l < 1024 → rd3 (n0 := 1) (n1 := 512) (n2 := 1024) x0 0 p l = XX (T * 512 + p) l)
  (h1 : ∀ p l, p < 512 → l < 1024 → rd3 (n0 := 1) (n1 := 512) (n2 := 1024) x1 0 p l = PB (T * 512 + p) l)
  (h4 : ∀ p l, p < 512 → l < 2048 → rd3 (n0 := 1) (n1 := 512) (n2 := 2048) x4 0 p l = GT (T * 512 + p) l)
  (h14 : ∀ k l, k < 1024 → l < 1024 → rd2 (n0 := 1024) (n1 := 1024) x14 k l = WPP k l)
  (h16 : ∀ k l, k < 1024 → l < 1024 → rd2 (n0 := 1024) (n1 := 1024) x16 k l = WAP k l)
  (h17 : ∀ k l, k < 1024 → l < 1024 → rd2 (n0 := 1024) (n1 := 1024) x17 k l = WO k l)
  (h18 : ∀ l, l < 1024 → rd2 (n0 := 1) (n1 := 1024) x18 0 l = GP l)

include h1 h4 h14

theorem pmP0 (x : S512x256.Idx) :
    k1_pay519 (F := Ideal) (View.readAt (Elt Ideal) arg3.view (Rect.unit (s := S1x512x1024) ![0, 0, 0] S1x512x1024.size (inb3 1 512 1024 _ _ _ (by decide) (by decide) (by decide))).toLoadRect (harg3.unread x1)) (View.readAt (Elt Ideal) arg16.view (Rect.unit (s := S1024x1024) ![0, 768] S1024x256.size (inb2 1024 1024 _ _ (by decide) (by decide))).toLoadRect (harg16.unread x14)) (View.readAt (Elt Ideal) arg6.view (Rect.unit (s := S1x512x2048) ![0, 0, 768] S1x512x256.size (inb3 1 512 2048 _ _ _ (by decide) (by decide) (by decide))).toLoadRect (harg6.unread x4)) x
      = pmT PB GT WPP (T * 512 + (x 0).val) (768 + (x 1).val) := by
  obtain ⟨p, l, rfl⟩ : ∃ a b, x = ix2 a b := ⟨_, _, eq_ix2 x⟩
  have hp := p.isLt
  have hl := l.isLt
  rw [pm0_at, pmT, ← sum_fin]
  congr 1
  · exact (load3_bf16 (A := 1) (B := 512) (C := 2048) arg6 harg6 x4 _ (ix3 0 p l)).trans ((h4 (0 + p.val) (768 + l.val) (by omega) (by omega)).trans (by rw [Nat.zero_add]; rfl))
  · refine Finset.sum_congr rfl fun k _ => ?_
    have hk := k.isLt
    congr 1
    · exact (load3_bf16 (A := 1) (B := 512) (C := 1024) arg3 harg3 x1 _ (ix3 0 p k)).trans ((h1 (0 + p.val) (0 + k.val) (by omega) (by omega)).trans (by rw [Nat.zero_add, Nat.zero_add]; rfl))
    · exact (load2_bf16 (A := 1024) (B := 1024) arg16 harg16 x14 _ (ix2 k l)).trans ((h14 (0 + k.val) (768 + l.val) (by omega) (by omega)).trans (by rw [Nat.zero_add]; rfl))

theorem pmP1 (x : S512x256.Idx) :
    k1_pay354 (F := Ideal) (View.readAt (Elt Ideal) arg3.view (Rect.unit (s := S1x512x1024) ![0, 0, 0] S1x512x1024.size (inb3 1 512 1024 _ _ _ (by decide) (by decide) (by decide))).toLoadRect (harg3.unread x1)) (View.readAt (Elt Ideal) arg16.view (Rect.unit (s := S1024x1024) ![0, 512] S1024x256.size (inb2 1024 1024 _ _ (by decide) (by decide))).toLoadRect (harg16.unread x14)) (View.readAt (Elt Ideal) arg6.view (Rect.unit (s := S1x512x2048) ![0, 0, 512] S1x512x256.size (inb3 1 512 2048 _ _ _ (by decide) (by decide) (by decide))).toLoadRect (harg6.unread x4)) x
      = pmT PB GT WPP (T * 512 + (x 0).val) (512 + (x 1).val) := by
  obtain ⟨p, l, rfl⟩ : ∃ a b, x = ix2 a b := ⟨_, _, eq_ix2 x⟩
  have hp := p.isLt
  have hl := l.isLt
  rw [pm1_at, pmT, ← sum_fin]
  congr 1
  · exact (load3_bf16 (A := 1) (B := 512) (C := 2048) arg6 harg6 x4 _ (ix3 0 p l)).trans ((h4 (0 + p.val) (512 + l.val) (by omega) (by omega)).trans (by rw [Nat.zero_add]; rfl))
  · refine Finset.sum_congr rfl fun k _ => ?_
    have hk := k.isLt
    congr 1
    · exact (load3_bf16 (A := 1) (B := 512) (C := 1024) arg3 harg3 x1 _ (ix3 0 p k)).trans ((h1 (0 + p.val) (0 + k.val) (by omega) (by omega)).trans (by rw [Nat.zero_add, Nat.zero_add]; rfl))
    · exact (load2_bf16 (A := 1024) (B := 1024) arg16 harg16 x14 _ (ix2 k l)).trans ((h14 (0 + k.val) (512 + l.val) (by omega) (by omega)).trans (by rw [Nat.zero_add]; rfl))

theorem pmP2 (x : S512x256.Idx) :
    k1_pay189 (F := Ideal) (View.readAt (Elt Ideal) arg3.view (Rect.unit (s := S1x512x1024) ![0, 0, 0] S1x512x1024.size (inb3 1 512 1024 _ _ _ (by decide) (by decide) (by decide))).toLoadRect (harg3.unread x1)) (View.readAt (Elt Ideal) arg16.view (Rect.unit (s := S1024x1024) ![0, 256] S1024x256.size (inb2 1024 1024 _ _ (by decide) (by decide))).toLoadRect (harg16.unread x14)) (View.readAt (Elt Ideal) arg6.view (Rect.unit (s := S1x512x2048) ![0, 0, 256] S1x512x256.size (inb3 1 512 2048 _ _ _ (by decide) (by decide) (by decide))).toLoadRect (harg6.unread x4)) x
      = pmT PB GT WPP (T * 512 + (x 0).val) (256 + (x 1).val) := by
  obtain ⟨p, l, rfl⟩ : ∃ a b, x = ix2 a b := ⟨_, _, eq_ix2 x⟩
  have hp := p.isLt
  have hl := l.isLt
  rw [pm2_at, pmT, ← sum_fin]
  congr 1
  · exact (load3_bf16 (A := 1) (B := 512) (C := 2048) arg6 harg6 x4 _ (ix3 0 p l)).trans ((h4 (0 + p.val) (256 + l.val) (by omega) (by omega)).trans (by rw [Nat.zero_add]; rfl))
  · refine Finset.sum_congr rfl fun k _ => ?_
    have hk := k.isLt
    congr 1
    · exact (load3_bf16 (A := 1) (B := 512) (C := 1024) arg3 harg3 x1 _ (ix3 0 p k)).trans ((h1 (0 + p.val) (0 + k.val) (by omega) (by omega)).trans (by rw [Nat.zero_add, Nat.zero_add]; rfl))
    · exact (load2_bf16 (A := 1024) (B := 1024) arg16 harg16 x14 _ (ix2 k l)).trans ((h14 (0 + k.val) (256 + l.val) (by omega) (by omega)).trans (by rw [Nat.zero_add]; rfl))

theorem pmP3 (x : S512x256.Idx) :
    k1_pay189 (F := Ideal) (View.readAt (Elt Ideal) arg3.view (Rect.unit (s := S1x512x1024) ![0, 0, 0] S1x512x1024.size (inb3 1 512 1024 _ _ _ (by decide) (by decide) (by decide))).toLoadRect (harg3.unread x1)) (View.readAt (Elt Ideal) arg16.view (Rect.unit (s := S1024x1024) ![0, 0] S1024x256.size (inb2 1024 1024 _ _ (by decide) (by decide))).toLoadRect (harg16.unread x14)) (View.readAt (Elt Ideal) arg6.view (Rect.unit (s := S1x512x2048) ![0, 0, 0] S1x512x256.size (inb3 1 512 2048 _ _ _ (by decide) (by decide) (by decide))).toLoadRect (harg6.unread x4)) x
      = pmT PB GT WPP (T * 512 + (x 0).val) (0 + (x 1).val) := by
  obtain ⟨p, l, rfl⟩ : ∃ a b, x = ix2 a b := ⟨_, _, eq_ix2 x⟩
  have hp := p.isLt
  have hl := l.isLt
  rw [pm3_at, pmT, ← sum_fin]
  congr 1
  · exact (load3_bf16 (A := 1) (B := 512) (C := 2048) arg6 harg6 x4 _ (ix3 0 p l)).trans ((h4 (0 + p.val) (0 + l.val) (by omega) (by omega)).trans (by rw [Nat.zero_add]; rfl))
  · refine Finset.sum_congr rfl fun k _ => ?_
    have hk := k.isLt
    congr 1
    · exact (load3_bf16 (A := 1) (B := 512) (C := 1024) arg3 harg3 x1 _ (ix3 0 p k)).trans ((h1 (0 + p.val) (0 + k.val) (by omega) (by omega)).trans (by rw [Nat.zero_add, Nat.zero_add]; rfl))
    · exact (load2_bf16 (A := 1024) (B := 1024) arg16 harg16 x14 _ (ix2 k l)).trans ((h14 (0 + k.val) (0 + l.val) (by omega) (by omega)).trans (by rw [Nat.zero_add]; rfl))

theorem pmLoad (inb) (p : Fin 512) (l : Fin 1024) :
    arg26.view.readCov (kernelRun1_A.sl.HS4_4 (F := Ideal) c arg3 harg3 arg6 harg6 arg16 harg16 x1 x4 x14) (Rect.unit (s := S512x1152) ![0, 0] S512x1024.size inb).toLoadRect (ix2 p l) = pmT PB GT WPP (T * 512 + p.val) l.val := by
  have hp := p.isLt
  have hl := l.isLt
  have e0 : ((Rect.unit (s := S512x1152) ![0, 0] S512x1024.size inb).idx (ix2 p l) 0).val = 0 + p.val := Rect.idx_unit_val (s := S512x1152) ![0, 0] S512x1024.size inb (ix2 p l) 0
  have e1 : ((Rect.unit (s := S512x1152) ![0, 0] S512x1024.size inb).idx (ix2 p l) 1).val = 0 + l.val := Rect.idx_unit_val (s := S512x1152) ![0, 0] S512x1024.size inb (ix2 p l) 1
  refine (cov2_f32 (A := 512) (B := 1152) arg26.view _ (fun u v => pmT PB GT WPP (T * 512 + u) v) ?_ inb (ix2 p l) ?_).trans ?_
  · intro q hq
    simp only [kernelRun1_A.sl.HS4_4, List.mem_cons, List.not_mem_nil, or_false] at hq
    rcases hq with rfl | rfl | rfl | rfl
    · intro x
      refine (pmP0 arg3 harg3 arg6 harg6 arg16 harg16 x1 x4 x14 T h1 h4 h14 x).trans ?_
      rw [emb2_0, emb2_1]
      simp only [Nat.zero_add]
    · intro x
      refine (pmP1 arg3 harg3 arg6 harg6 arg16 harg16 x1 x4 x14 T h1 h4 h14 x).trans ?_
      rw [emb2_0, emb2_1]
      simp only [Nat.zero_add]
    · intro x
      refine (pmP2 arg3 harg3 arg6 harg6 arg16 harg16 x1 x4 x14 T h1 h4 h14 x).trans ?_
      rw [emb2_0, emb2_1]
      simp only [Nat.zero_add]
    · intro x
      refine (pmP3 arg3 harg3 arg6 harg6 arg16 harg16 x1 x4 x14 T h1 h4 h14 x).trans ?_
      rw [emb2_0, emb2_1]
      simp only [Nat.zero_add]
  · unfold kernelRun1_A.sl.HS4_4
    by_cases c3 : l.val < 256
    · refine ⟨_, (List.mem_cons_of_mem _ (List.mem_cons_of_mem _ (List.mem_cons_of_mem _ List.mem_cons_self))), ?_⟩
      refine mem2 (inb := inb2 512 1152 0 0 (by decide) (by decide)) ?_ ?_
      · rw [e0]; omega
      · rw [e1]; omega
    by_cases c2 : l.val < 512
    · refine ⟨_, (List.mem_cons_of_mem _ (List.mem_cons_of_mem _ List.mem_cons_self)), ?_⟩
      refine mem2 (inb := inb2 512 1152 0 256 (by decide) (by decide)) ?_ ?_
      · rw [e0]; omega
      · rw [e1]; omega
    by_cases c1 : l.val < 768
    · refine ⟨_, (List.mem_cons_of_mem _ List.mem_cons_self), ?_⟩
      refine mem2 (inb := inb2 512 1152 0 512 (by decide) (by decide)) ?_ ?_
      · rw [e0]; omega
      · rw [e1]; omega
    · refine ⟨_, List.mem_cons_self, ?_⟩
      refine mem2 (inb := inb2 512 1152 0 768 (by decide) (by decide)) ?_ ?_
      · rw [e0]; omega
      · rw [e1]; omega
  · show pmT PB GT WPP (T * 512 + (0 + p.val)) (0 + l.val) = _
    rw [Nat.zero_add, Nat.zero_add]

variable {Q AG KT VL VH : ℕ → ℕ → EReal} {SK : ℕ → EReal} {SC VV : ℕ → ℕ → ℕ → EReal} (R : Arrays Q KT VL VH SC VV)

include h0 h16 h17 h18 R

theorem out1A_val (H : Blocks (i 1).val Q AG KT VL VH SK x2 x3 x5 x6 x7 x8 x9 x10 x11 x12 x13 x15) (hT : T = (i 1).val) (p : Fin 512) (l : Fin 1024) :
    out1_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 (ix3 0 p l)
      = resT PB GT WPP WAP WO GP XX (abT AG SC VV SK) (T * 512 + p.val) l.val := by
  have hp := p.isLt
  unfold out1_A_19
  rw [View.read_writes_eq_canon _ _ _ (cover1_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun1_A
  dsimp only
  rw [View.canon_unit_zero (by funext a; fin_cases a <;> rfl)]
  unfold kernelRun1_A.sl.r_327
  rw [pay_at]
  have hm : ∀ k : Fin 1024, mgF (kernelRun1_A.sl.v2773 (F := Ideal) c arg3 harg3 arg6 harg6 arg16 harg16 arg26 x1 x4 x14) (View.readAt (Elt Ideal) arg6.view (Rect.unit (s := S1x512x2048) ![0, 0, 1024] S1x512x1024.size (inb3 1 512 2048 _ _ _ (by decide) (by decide) (by decide))).toLoadRect (harg6.unread x4))
      (kernelRun1_A.sl.v2769 (F := Ideal) c i arg4 harg4 arg5 harg5 arg7 harg7 arg8 harg8 arg9 harg9 arg10 harg10 arg11 harg11 arg12 harg12 arg13 harg13 arg14 harg14 arg15 harg15 arg17 harg17 arg22 arg23 arg24 arg25 x2 x3 x5 x6 x7 x8 x9 x10 x11 x12 x13 x15) (View.readAt (Elt Ideal) arg18.view (Rect.unit (s := S1024x1024) ![0, 0] S1024x1024.size (inb2 1024 1024 _ _ (by decide) (by decide))).toLoadRect (harg18.unread x16)) p k
      = mgT PB GT WPP WAP (abT AG SC VV SK) (T * 512 + p.val) k.val := by
    intro k
    have hk := k.isLt
    unfold mgF mgT
    rw [← sum_fin]
    congr 1
    · exact pmLoad c arg3 harg3 arg6 harg6 arg16 harg16 arg26 x1 x4 x14 T h1 h4 h14 _ p k
    congr 1
    · exact (load3_bf16 (A := 1) (B := 512) (C := 2048) arg6 harg6 x4 _ (ix3 0 p k)).trans ((h4 (0 + p.val) (1024 + k.val) (by omega) (by omega)).trans (by rw [Nat.zero_add]))
    · refine Finset.sum_congr rfl fun j _ => ?_
      have hj := j.isLt
      congr 1
      · exact (abLoad c i arg4 harg4 arg5 harg5 arg7 harg7 arg8 harg8 arg9 harg9 arg10 harg10 arg11 harg11 arg12 harg12 arg13 harg13 arg14 harg14 arg15 harg15 arg17 harg17 arg22 arg23 arg24 arg25 x2 x3 x5 x6 x7 x8 x9 x10 x11 x12 x13 x15 H R _ p j).trans (by rw [hT])
      · exact (load2_bf16 (A := 1024) (B := 1024) arg18 harg18 x16 _ (ix2 j k)).trans ((h16 (0 + j.val) (0 + k.val) (by omega) (by omega)).trans (by rw [Nat.zero_add, Nat.zero_add]))
  have ho : ∀ k l : Fin 1024, (View.readAt (Elt Ideal) arg19.view (Rect.unit (s := S1024x1024) ![0, 0] S1024x1024.size (inb2 1024 1024 _ _ (by decide) (by decide))).toLoadRect (harg19.unread x17)) (ix2 k l) = WO k.val l.val := by
    intro k l
    have hk := k.isLt
    have hl := l.isLt
    exact (load2_bf16 (A := 1024) (B := 1024) arg19 harg19 x17 _ (ix2 k l)).trans ((h17 (0 + k.val) (0 + l.val) (by omega) (by omega)).trans (by rw [Nat.zero_add, Nat.zero_add]))
  have hx : (View.readAt (Elt Ideal) arg2.view (Rect.unit (s := S1x512x1024) ![0, 0, 0] S1x512x1024.size (inb3 1 512 1024 _ _ _ (by decide) (by decide) (by decide))).toLoadRect (harg2.unread x0)) (ix3 0 p l) = XX (T * 512 + p.val) l.val :=
    (load3_f32 (A := 1) (B := 512) (C := 1024) arg2 harg2 x0 _ (ix3 0 p l)).trans ((h0 (0 + p.val) (0 + l.val) (by omega) (by have := l.isLt; omega)).trans (by rw [Nat.zero_add, Nat.zero_add]))
  have hg : (View.readAt (Elt Ideal) arg20.view (Rect.unit (s := S1x1024) ![0, 0] S1x1024.size (inb2 1 1024 _ _ (by decide) (by decide))).toLoadRect (harg20.unread x18)) (ix2 0 l) = GP l.val :=
    (load2_f32 (A := 1) (B := 1024) arg20 harg20 x18 _ (ix2 0 l)).trans ((h18 (0 + l.val) (by have := l.isLt; omega)).trans (by rw [Nat.zero_add]))
  unfold resT
  rw [rms_fin]
  simp only [← sum_fin]
  refine congrArg₂ (· + ·) hx (congrArg₂ (· * ·) (congrArg₂ (· * ·) ?_ (congrArg Ideal.rsqrt (congrArg (· + _) (congrArg (Ideal.div · _) ?_)))) hg)
  · exact Finset.sum_congr rfl fun k _ => congrArg₂ (· * ·) (hm k) (ho k l)
  · exact Finset.sum_congr rfl fun j _ => congrArg₂ (· * ·) (Finset.sum_congr rfl fun k _ => congrArg₂ (· * ·) (hm k) (ho k j)) (Finset.sum_congr rfl fun k _ => congrArg₂ (· * ·) (hm k) (ho k j))

end

end Cert.Kernel2Ideal.Val

end
-- ==== Proof.LongRegion1.lean ====
module

public import proofs.«01_k».proof.Proof.Region1
public import proofs.«01_k».proof.Proof.LongRegion0
public import proofs.«01_k».proof.Proof.LongOut1
public import proofs.«01_k».proof.Proof.Gen.Kernel2Ideal.Frame
public import Idealize.ShloMosaic.Lib.Pipeline.Value
public import Idealize.ShloMosaic.Lib.Pipeline.ValueKit

@[expose] public section

set_option maxRecDepth 16384

noncomputable section

namespace Cert.Kernel2Ideal.Val

open Cert.KernelIdeal.Val Idealize.ShloMosaic Idealize.ShloMosaic.TcCoe Idealize.SL.Sem Layer Facts₀ Facts Gen

theorem index1_0 (t : Fin cfg1.N) : win1_0.index t = ![(grid1.coords t 0).val, (grid1.coords t 1).val, 0] :=
  (by decide +kernel : ∀ t : Fin grid1.N, win1_0.index t = ![(grid1.coords t 0).val, (grid1.coords t 1).val, 0]) t

theorem index1_1 (t : Fin cfg1.N) : win1_1.index t = ![(grid1.coords t 0).val, (grid1.coords t 1).val, 0] :=
  (by decide +kernel : ∀ t : Fin grid1.N, win1_1.index t = ![(grid1.coords t 0).val, (grid1.coords t 1).val, 0]) t

theorem index1_2 (t : Fin cfg1.N) : win1_2.index t = ![(grid1.coords t 0).val, (grid1.coords t 1).val, 0] :=
  (by decide +kernel : ∀ t : Fin grid1.N, win1_2.index t = ![(grid1.coords t 0).val, (grid1.coords t 1).val, 0]) t

theorem index1_3 (t : Fin cfg1.N) : win1_3.index t = ![(grid1.coords t 0).val, (grid1.coords t 1).val, 0] :=
  (by decide +kernel : ∀ t : Fin grid1.N, win1_3.index t = ![(grid1.coords t 0).val, (grid1.coords t 1).val, 0]) t

theorem index1_4 (t : Fin cfg1.N) : win1_4.index t = ![(grid1.coords t 0).val, (grid1.coords t 1).val, 0] :=
  (by decide +kernel : ∀ t : Fin grid1.N, win1_4.index t = ![(grid1.coords t 0).val, (grid1.coords t 1).val, 0]) t

theorem index1_5 (t : Fin cfg1.N) : win1_5.index t = ![(grid1.coords t 0).val, 0, (grid1.coords t 1).val] :=
  (by decide +kernel : ∀ t : Fin grid1.N, win1_5.index t = ![(grid1.coords t 0).val, 0, (grid1.coords t 1).val]) t

theorem index1_6 (t : Fin cfg1.N) : win1_6.index t = ![(grid1.coords t 0).val, 0, (grid1.coords t 1).val * 4 - 1] :=
  (by decide +kernel : ∀ t : Fin grid1.N, win1_6.index t = ![(grid1.coords t 0).val, 0, (grid1.coords t 1).val * 4 - 1]) t

theorem index1_7 (t : Fin cfg1.N) : win1_7.index t = ![(grid1.coords t 0).val, 0, min (((grid1.coords t 1).val + 1) * 4) 63] :=
  (by decide +kernel : ∀ t : Fin grid1.N, win1_7.index t = ![(grid1.coords t 0).val, 0, min (((grid1.coords t 1).val + 1) * 4) 63]) t

theorem index1_8 (t : Fin cfg1.N) : win1_8.index t = ![(grid1.coords t 0).val, (grid1.coords t 1).val, 0] :=
  (by decide +kernel : ∀ t : Fin grid1.N, win1_8.index t = ![(grid1.coords t 0).val, (grid1.coords t 1).val, 0]) t

theorem index1_9 (t : Fin cfg1.N) : win1_9.index t = ![(grid1.coords t 0).val, (grid1.coords t 1).val * 4 - 1, 0] :=
  (by decide +kernel : ∀ t : Fin grid1.N, win1_9.index t = ![(grid1.coords t 0).val, (grid1.coords t 1).val * 4 - 1, 0]) t

theorem index1_10 (t : Fin cfg1.N) : win1_10.index t = ![(grid1.coords t 0).val, min (((grid1.coords t 1).val + 1) * 4) 63, 0] :=
  (by decide +kernel : ∀ t : Fin grid1.N, win1_10.index t = ![(grid1.coords t 0).val, min (((grid1.coords t 1).val + 1) * 4) 63, 0]) t

theorem index1_11 (t : Fin cfg1.N) : win1_11.index t = ![(grid1.coords t 0).val, (grid1.coords t 1).val, 0] :=
  (by decide +kernel : ∀ t : Fin grid1.N, win1_11.index t = ![(grid1.coords t 0).val, (grid1.coords t 1).val, 0]) t

theorem index1_12 (t : Fin cfg1.N) : win1_12.index t = ![(grid1.coords t 0).val, (grid1.coords t 1).val * 4 - 1, 0] :=
  (by decide +kernel : ∀ t : Fin grid1.N, win1_12.index t = ![(grid1.coords t 0).val, (grid1.coords t 1).val * 4 - 1, 0]) t

theorem index1_13 (t : Fin cfg1.N) : win1_13.index t = ![(grid1.coords t 0).val, min (((grid1.coords t 1).val + 1) * 4) 63, 0] :=
  (by decide +kernel : ∀ t : Fin grid1.N, win1_13.index t = ![(grid1.coords t 0).val, min (((grid1.coords t 1).val + 1) * 4) 63, 0]) t

theorem index1_14 (t : Fin cfg1.N) : win1_14.index t = ![0, 0] :=
  (by decide +kernel : ∀ t : Fin grid1.N, win1_14.index t = ![0, 0]) t

theorem index1_15 (t : Fin cfg1.N) : win1_15.index t = ![0, 0] :=
  (by decide +kernel : ∀ t : Fin grid1.N, win1_15.index t = ![0, 0]) t

theorem index1_16 (t : Fin cfg1.N) : win1_16.index t = ![0, 0] :=
  (by decide +kernel : ∀ t : Fin grid1.N, win1_16.index t = ![0, 0]) t

theorem index1_17 (t : Fin cfg1.N) : win1_17.index t = ![0, 0] :=
  (by decide +kernel : ∀ t : Fin grid1.N, win1_17.index t = ![0, 0]) t

theorem index1_18 (t : Fin cfg1.N) : win1_18.index t = ![0, 0] :=
  (by decide +kernel : ∀ t : Fin grid1.N, win1_18.index t = ![0, 0]) t

theorem index1_19 (t : Fin cfg1.N) : win1_19.index t = ![(grid1.coords t 0).val, (grid1.coords t 1).val, 0] :=
  (by decide +kernel : ∀ t : Fin grid1.N, win1_19.index t = ![(grid1.coords t 0).val, (grid1.coords t 1).val, 0]) t

theorem coord1_0 (t : Fin cfg1.N) : (grid1.coords t 0).val < 4 := (grid1.coords t 0).isLt

theorem coord1_1 (t : Fin cfg1.N) : (grid1.coords t 1).val < 16 := (grid1.coords t 1).isLt

/-- What the arrays of call 1 hold as it begins. -/
structure Entry1 (V : (c : Dev nD) → (b : Ref sig .tc) → Buf (Elt Ideal) ((c : Thread nD τ).loc b)) (c : Dev nD) (I : In) : Prop where
  e0 : ∀ a b d, a < 4 → b < 8192 → d < 1024 → rd3 (n0 := 4) (n1 := 8192) (n2 := 1024) (V c main_arg0) a b d = I.x a b d
  e1 : ∀ a b d, a < 4 → b < 8192 → d < 1024 → rd3 (n0 := 4) (n1 := 8192) (n2 := 1024) (V c main_v28_0) a b d = pbG 8192 I a b d
  e2 : ∀ a b d, a < 4 → b < 8192 → d < 1024 → rd3 (n0 := 4) (n1 := 8192) (n2 := 1024) (V c main_v28_1) a b d = qR I a b (d / 64) (d % 64) * (qsc : EReal)
  e3 : ∀ a b d, a < 4 → b < 8192 → d < 1024 → rd3 (n0 := 4) (n1 := 8192) (n2 := 1024) (V c main_v28_2) a b d = silu (zP I a b (3584 + d))
  e4 : ∀ a b d, a < 4 → b < 8192 → d < 2048 → rd3 (n0 := 4) (n1 := 8192) (n2 := 2048) (V c main_v28_3) a b d = sg (zP I a b (4608 + d))
  e5 : ∀ a b d, a < 4 → b < 1024 → d < 8192 → rd3 (n0 := 4) (n1 := 1024) (n2 := 8192) (V c main_v28_4) a b d = if b % 256 < 128 then (if b % 128 < 64 then kR I a d (b / 256) (b % 128) else 0) else (if b % 128 < 64 then 0 else kR I a d (b / 256) (b % 128 - 64))
  e8 : ∀ a b d, a < 4 → b < 8192 → d < 1024 → rd3 (n0 := 4) (n1 := 8192) (n2 := 1024) (V c main_v28_5) a b d = if d % 256 < 128 then (if d % 256 < 64 then vV I a b (d / 256) (d % 256) else 0) else if d % 256 < 192 then 1 else 0
  e11 : ∀ a b d, a < 4 → b < 8192 → d < 1024 → rd3 (n0 := 4) (n1 := 8192) (n2 := 1024) (V c main_v28_6) a b d = if d % 256 < 128 then (if d % 256 < 64 then 0 else vV I a b (d / 256) (d % 256 - 64)) else if d % 256 < 192 then 0 else 1
  e14 : ∀ a b, a < 1024 → b < 1024 → rd2 (n0 := 1024) (n1 := 1024) (V c main_v31) a b = I.wpp a b
  e15 : ∀ a b, a < 16 → b < 128 → rd2 (n0 := 16) (n1 := 128) (V c main_v30) a b = I.sk a
  e16 : ∀ a b, a < 1024 → b < 1024 → rd2 (n0 := 1024) (n1 := 1024) (V c main_v32) a b = I.wap a b
  e17 : ∀ a b, a < 1024 → b < 1024 → rd2 (n0 := 1024) (n1 := 1024) (V c main_v33) a b = I.wo a b
  e18 : ∀ a b, a < 1 → b < 1024 → rd2 (n0 := 1) (n1 := 1024) (V c main_v34) a b = I.gp b

section
variable (V : (c : Dev nD) → (b : Ref sig .tc) → Buf (Elt Ideal) ((c : Thread nD τ).loc b)) (c : Dev nD) (I : In) (E : Entry1 V c I) (t : Fin cfg1.N)
include E

theorem blk1_0 (b d : ℕ) (hb : b < 512) (hd : d < 1024) : rd3 (n0 := 1) (n1 := 512) (n2 := 1024) (iblk1 V c 0 t) 0 b d = I.x (grid1.coords t 0).val ((grid1.coords t 1).val * 512 + b) d := by
  have c0 := coord1_0 t
  have c1 := coord1_1 t
  rw [rd3_at (n0 := 1) (n1 := 512) (n2 := 1024) _ (by decide : 0 < 1) hb hd]
  blk_simp [iblk1]
  refine (rd3_idx (n0 := 4) (n1 := 8192) (n2 := 1024) _ _).trans ?_
  blk_simp [index1_0]
  refine (E.e0 _ _ _ (by omega) (by omega) (by omega)).trans ?_
  dsimp only
  try simp only [Nat.add_zero, Nat.zero_add]
  try rfl

theorem blk1_1 (b d : ℕ) (hb : b < 512) (hd : d < 1024) : rd3 (n0 := 1) (n1 := 512) (n2 := 1024) (iblk1 V c 1 t) 0 b d = pbG 8192 I (grid1.coords t 0).val ((grid1.coords t 1).val * 512 + b) d := by
  have c0 := coord1_0 t
  have c1 := coord1_1 t
  rw [rd3_at (n0 := 1) (n1 := 512) (n2 := 1024) _ (by decide : 0 < 1) hb hd]
  blk_simp [iblk1]
  refine (rd3_idx (n0 := 4) (n1 := 8192) (n2 := 1024) _ _).trans ?_
  blk_simp [index1_1]
  refine (E.e1 _ _ _ (by omega) (by omega) (by omega)).trans ?_
  dsimp only
  try simp only [Nat.add_zero, Nat.zero_add]
  try rfl

theorem blk1_2 (b d : ℕ) (hb : b < 512) (hd : d < 1024) : rd3 (n0 := 1) (n1 := 512) (n2 := 1024) (iblk1 V c 2 t) 0 b d = qR I (grid1.coords t 0).val ((grid1.coords t 1).val * 512 + b) (d / 64) (d % 64) * (qsc : EReal) := by
  have c0 := coord1_0 t
  have c1 := coord1_1 t
  rw [rd3_at (n0 := 1) (n1 := 512) (n2 := 1024) _ (by decide : 0 < 1) hb hd]
  blk_simp [iblk1]
  refine (rd3_idx (n0 := 4) (n1 := 8192) (n2 := 1024) _ _).trans ?_
  blk_simp [index1_2]
  refine (E.e2 _ _ _ (by omega) (by omega) (by omega)).trans ?_
  dsimp only
  try simp only [Nat.add_zero, Nat.zero_add]
  try rfl

theorem blk1_3 (b d : ℕ) (hb : b < 512) (hd : d < 1024) : rd3 (n0 := 1) (n1 := 512) (n2 := 1024) (iblk1 V c 3 t) 0 b d = silu (zP I (grid1.coords t 0).val ((grid1.coords t 1).val * 512 + b) (3584 + d)) := by
  have c0 := coord1_0 t
  have c1 := coord1_1 t
  rw [rd3_at (n0 := 1) (n1 := 512) (n2 := 1024) _ (by decide : 0 < 1) hb hd]
  blk_simp [iblk1]
  refine (rd3_idx (n0 := 4) (n1 := 8192) (n2 := 1024) _ _).trans ?_
  blk_simp [index1_3]
  refine (E.e3 _ _ _ (by omega) (by omega) (by omega)).trans ?_
  dsimp only
  try simp only [Nat.add_zero, Nat.zero_add]
  try rfl

theorem blk1_4 (b d : ℕ) (hb : b < 512) (hd : d < 2048) : rd3 (n0 := 1) (n1 := 512) (n2 := 2048) (iblk1 V c 4 t) 0 b d = sg (zP I (grid1.coords t 0).val ((grid1.coords t 1).val * 512 + b) (4608 + d)) := by
  have c0 := coord1_0 t
  have c1 := coord1_1 t
  rw [rd3_at (n0 := 1) (n1 := 512) (n2 := 2048) _ (by decide : 0 < 1) hb hd]
  blk_simp [iblk1]
  refine (rd3_idx (n0 := 4) (n1 := 8192) (n2 := 2048) _ _).trans ?_
  blk_simp [index1_4]
  refine (E.e4 _ _ _ (by omega) (by omega) (by omega)).trans ?_
  dsimp only
  try simp only [Nat.add_zero, Nat.zero_add]
  try rfl

theorem blk1_5 (b d : ℕ) (hb : b < 1024) (hd : d < 512) : rd3 (n0 := 1) (n1 := 1024) (n2 := 512) (iblk1 V c 5 t) 0 b d = if b % 256 < 128 then (if b % 128 < 64 then kR I (grid1.coords t 0).val ((grid1.coords t 1).val * 512 + d) (b / 256) (b % 128) else 0) else (if b % 128 < 64 then 0 else kR I (grid1.coords t 0).val ((grid1.coords t 1).val * 512 + d) (b / 256) (b % 128 - 64)) := by
  have c0 := coord1_0 t
  have c1 := coord1_1 t
  rw [rd3_at (n0 := 1) (n1 := 1024) (n2 := 512) _ (by decide : 0 < 1) hb hd]
  blk_simp [iblk1]
  refine (rd3_idx (n0 := 4) (n1 := 1024) (n2 := 8192) _ _).trans ?_
  blk_simp [index1_5]
  refine (E.e5 _ _ _ (by omega) (by omega) (by omega)).trans ?_
  dsimp only
  try simp only [Nat.add_zero, Nat.zero_add]
  try rfl

theorem blk1_6 (b d : ℕ) (hb : b < 1024) (hd : d < 128) : rd3 (n0 := 1) (n1 := 1024) (n2 := 128) (iblk1 V c 6 t) 0 b d = if b % 256 < 128 then (if b % 128 < 64 then kR I (grid1.coords t 0).val (((grid1.coords t 1).val * 4 - 1) * 128 + d) (b / 256) (b % 128) else 0) else (if b % 128 < 64 then 0 else kR I (grid1.coords t 0).val (((grid1.coords t 1).val * 4 - 1) * 128 + d) (b / 256) (b % 128 - 64)) := by
  have c0 := coord1_0 t
  have c1 := coord1_1 t
  rw [rd3_at (n0 := 1) (n1 := 1024) (n2 := 128) _ (by decide : 0 < 1) hb hd]
  blk_simp [iblk1]
  refine (rd3_idx (n0 := 4) (n1 := 1024) (n2 := 8192) _ _).trans ?_
  blk_simp [index1_6]
  refine (E.e5 _ _ _ (by omega) (by omega) (by omega)).trans ?_
  dsimp only
  try simp only [Nat.add_zero, Nat.zero_add]
  try rfl

theorem blk1_7 (b d : ℕ) (hb : b < 1024) (hd : d < 128) : rd3 (n0 := 1) (n1 := 1024) (n2 := 128) (iblk1 V c 7 t) 0 b d = if b % 256 < 128 then (if b % 128 < 64 then kR I (grid1.coords t 0).val ((min (((grid1.coords t 1).val + 1) * 4) 63) * 128 + d) (b / 256) (b % 128) else 0) else (if b % 128 < 64 then 0 else kR I (grid1.coords t 0).val ((min (((grid1.coords t 1).val + 1) * 4) 63) * 128 + d) (b / 256) (b % 128 - 64)) := by
  have c0 := coord1_0 t
  have c1 := coord1_1 t
  rw [rd3_at (n0 := 1) (n1 := 1024) (n2 := 128) _ (by decide : 0 < 1) hb hd]
  blk_simp [iblk1]
  refine (rd3_idx (n0 := 4) (n1 := 1024) (n2 := 8192) _ _).trans ?_
  blk_simp [index1_7]
  refine (E.e5 _ _ _ (by omega) (by omega) (by omega)).trans ?_
  dsimp only
  try simp only [Nat.add_zero, Nat.zero_add]
  try rfl

theorem blk1_8 (b d : ℕ) (hb : b < 512) (hd : d < 1024) : rd3 (n0 := 1) (n1 := 512) (n2 := 1024) (iblk1 V c 8 t) 0 b d = if d % 256 < 128 then (if d % 256 < 64 then vV I (grid1.coords t 0).val ((grid1.coords t 1).val * 512 + b) (d / 256) (d % 256) else 0) else if d % 256 < 192 then 1 else 0 := by
  have c0 := coord1_0 t
  have c1 := coord1_1 t
  rw [rd3_at (n0 := 1) (n1 := 512) (n2 := 1024) _ (by decide : 0 < 1) hb hd]
  blk_simp [iblk1]
  refine (rd3_idx (n0 := 4) (n1 := 8192) (n2 := 1024) _ _).trans ?_
  blk_simp [index1_8]
  refine (E.e8 _ _ _ (by omega) (by omega) (by omega)).trans ?_
  dsimp only
  try simp only [Nat.add_zero, Nat.zero_add]
  try rfl

theorem blk1_9 (b d : ℕ) (hb : b < 128) (hd : d < 1024) : rd3 (n0 := 1) (n1 := 128) (n2 := 1024) (iblk1 V c 9 t) 0 b d = if d % 256 < 128 then (if d % 256 < 64 then vV I (grid1.coords t 0).val (((grid1.coords t 1).val * 4 - 1) * 128 + b) (d / 256) (d % 256) else 0) else if d % 256 < 192 then 1 else 0 := by
  have c0 := coord1_0 t
  have c1 := coord1_1 t
  rw [rd3_at (n0 := 1) (n1 := 128) (n2 := 1024) _ (by decide : 0 < 1) hb hd]
  blk_simp [iblk1]
  refine (rd3_idx (n0 := 4) (n1 := 8192) (n2 := 1024) _ _).trans ?_
  blk_simp [index1_9]
  refine (E.e8 _ _ _ (by omega) (by omega) (by omega)).trans ?_
  dsimp only
  try simp only [Nat.add_zero, Nat.zero_add]
  try rfl

theorem blk1_10 (b d : ℕ) (hb : b < 128) (hd : d < 1024) : rd3 (n0 := 1) (n1 := 128) (n2 := 1024) (iblk1 V c 10 t) 0 b d = if d % 256 < 128 then (if d % 256 < 64 then vV I (grid1.coords t 0).val ((min (((grid1.coords t 1).val + 1) * 4) 63) * 128 + b) (d / 256) (d % 256) else 0) else if d % 256 < 192 then 1 else 0 := by
  have c0 := coord1_0 t
  have c1 := coord1_1 t
  rw [rd3_at (n0 := 1) (n1 := 128) (n2 := 1024) _ (by decide : 0 < 1) hb hd]
  blk_simp [iblk1]
  refine (rd3_idx (n0 := 4) (n1 := 8192) (n2 := 1024) _ _).trans ?_
  blk_simp [index1_10]
  refine (E.e8 _ _ _ (by omega) (by omega) (by omega)).trans ?_
  dsimp only
  try simp only [Nat.add_zero, Nat.zero_add]
  try rfl

theorem blk1_11 (b d : ℕ) (hb : b < 512) (hd : d < 1024) : rd3 (n0 := 1) (n1 := 512) (n2 := 1024) (iblk1 V c 11 t) 0 b d = if d % 256 < 128 then (if d % 256 < 64 then 0 else vV I (grid1.coords t 0).val ((grid1.coords t 1).val * 512 + b) (d / 256) (d % 256 - 64)) else if d % 256 < 192 then 0 else 1 := by
  have c0 := coord1_0 t
  have c1 := coord1_1 t
  rw [rd3_at (n0 := 1) (n1 := 512) (n2 := 1024) _ (by decide : 0 < 1) hb hd]
  blk_simp [iblk1]
  refine (rd3_idx (n0 := 4) (n1 := 8192) (n2 := 1024) _ _).trans ?_
  blk_simp [index1_11]
  refine (E.e11 _ _ _ (by omega) (by omega) (by omega)).trans ?_
  dsimp only
  try simp only [Nat.add_zero, Nat.zero_add]
  try rfl

theorem blk1_12 (b d : ℕ) (hb : b < 128) (hd : d < 1024) : rd3 (n0 := 1) (n1 := 128) (n2 := 1024) (iblk1 V c 12 t) 0 b d = if d % 256 < 128 then (if d % 256 < 64 then 0 else vV I (grid1.coords t 0).val (((grid1.coords t 1).val * 4 - 1) * 128 + b) (d / 256) (d % 256 - 64)) else if d % 256 < 192 then 0 else 1 := by
  have c0 := coord1_0 t
  have c1 := coord1_1 t
  rw [rd3_at (n0 := 1) (n1 := 128) (n2 := 1024) _ (by decide : 0 < 1) hb hd]
  blk_simp [iblk1]
  refine (rd3_idx (n0 := 4) (n1 := 8192) (n2 := 1024) _ _).trans ?_
  blk_simp [index1_12]
  refine (E.e11 _ _ _ (by omega) (by omega) (by omega)).trans ?_
  dsimp only
  try simp only [Nat.add_zero, Nat.zero_add]
  try rfl

theorem blk1_13 (b d : ℕ) (hb : b < 128) (hd : d < 1024) : rd3 (n0 := 1) (n1 := 128) (n2 := 1024) (iblk1 V c 13 t) 0 b d = if d % 256 < 128 then (if d % 256 < 64 then 0 else vV I (grid1.coords t 0).val ((min (((grid1.coords t 1).val + 1) * 4) 63) * 128 + b) (d / 256) (d % 256 - 64)) else if d % 256 < 192 then 0 else 1 := by
  have c0 := coord1_0 t
  have c1 := coord1_1 t
  rw [rd3_at (n0 := 1) (n1 := 128) (n2 := 1024) _ (by decide : 0 < 1) hb hd]
  blk_simp [iblk1]
  refine (rd3_idx (n0 := 4) (n1 := 8192) (n2 := 1024) _ _).trans ?_
  blk_simp [index1_13]
  refine (E.e11 _ _ _ (by omega) (by omega) (by omega)).trans ?_
  dsimp only
  try simp only [Nat.add_zero, Nat.zero_add]
  try rfl

theorem blk1_14 (a b : ℕ) (ha : a < 1024) (hb : b < 1024) : rd2 (n0 := 1024) (n1 := 1024) (iblk1 V c 14 t) a b = I.wpp a b := by
  have c0 := coord1_0 t
  have c1 := coord1_1 t
  rw [rd2_at (n0 := 1024) (n1 := 1024) _ ha hb]
  blk_simp [iblk1]
  refine (rd2_idx (n0 := 1024) (n1 := 1024) _ _).trans ?_
  blk_simp [index1_14]
  refine (E.e14 _ _ (by omega) (by omega)).trans ?_
  dsimp only
  try simp only [Nat.add_zero, Nat.zero_add]
  try rfl

theorem blk1_15 (a b : ℕ) (ha : a < 16) (hb : b < 128) : rd2 (n0 := 16) (n1 := 128) (iblk1 V c 15 t) a b = I.sk a := by
  have c0 := coord1_0 t
  have c1 := coord1_1 t
  rw [rd2_at (n0 := 16) (n1 := 128) _ ha hb]
  blk_simp [iblk1]
  refine (rd2_idx (n0 := 16) (n1 := 128) _ _).trans ?_
  blk_simp [index1_15]
  refine (E.e15 _ _ (by omega) (by omega)).trans ?_
  dsimp only
  try simp only [Nat.add_zero, Nat.zero_add]
  try rfl

theorem blk1_16 (a b : ℕ) (ha : a < 1024) (hb : b < 1024) : rd2 (n0 := 1024) (n1 := 1024) (iblk1 V c 16 t) a b = I.wap a b := by
  have c0 := coord1_0 t
  have c1 := coord1_1 t
  rw [rd2_at (n0 := 1024) (n1 := 1024) _ ha hb]
  blk_simp [iblk1]
  refine (rd2_idx (n0 := 1024) (n1 := 1024) _ _).trans ?_
  blk_simp [index1_16]
  refine (E.e16 _ _ (by omega) (by omega)).trans ?_
  dsimp only
  try simp only [Nat.add_zero, Nat.zero_add]
  try rfl

theorem blk1_17 (a b : ℕ) (ha : a < 1024) (hb : b < 1024) : rd2 (n0 := 1024) (n1 := 1024) (iblk1 V c 17 t) a b = I.wo a b := by
  have c0 := coord1_0 t
  have c1 := coord1_1 t
  rw [rd2_at (n0 := 1024) (n1 := 1024) _ ha hb]
  blk_simp [iblk1]
  refine (rd2_idx (n0 := 1024) (n1 := 1024) _ _).trans ?_
  blk_simp [index1_17]
  refine (E.e17 _ _ (by omega) (by omega)).trans ?_
  dsimp only
  try simp only [Nat.add_zero, Nat.zero_add]
  try rfl

theorem blk1_18 (b : ℕ) (hb : b < 1024) : rd2 (n0 := 1) (n1 := 1024) (iblk1 V c 18 t) 0 b = I.gp b := by
  have c0 := coord1_0 t
  have c1 := coord1_1 t
  rw [rd2_at (n0 := 1) (n1 := 1024) _ (by decide : 0 < 1) hb]
  blk_simp [iblk1]
  refine (rd2_idx (n0 := 1) (n1 := 1024) _ _).trans ?_
  blk_simp [index1_18]
  refine (E.e18 _ _ (by omega) (by omega)).trans ?_
  dsimp only
  try simp only [Nat.add_zero, Nat.zero_add]
  try rfl

end

/-! ### The first call's arrays, at one batch element -/

section
variable (I : In) (b : ℕ)

theorem arrays : Arrays (aQ I b) (aKT I b) (aVL I b) (aVH I b) (fun t hd s => scS I b t hd s) (fun s h l => vV I b s h l) where
  sc0 h r t s hh hr ht hs := by
    rw [halves fun j => aQ I b t ((2 * h + r) * 128 + j) * aKT I b (h * 256 + j) s]
    have z : (∑ j ∈ Finset.range 64, aQ I b t ((2 * h + r) * 128 + (64 + j)) * aKT I b (h * 256 + (64 + j)) s) = 0 :=
      Finset.sum_eq_zero fun j hj => by
        have hj := Finset.mem_range.mp hj
        unfold aKT
        rw [if_pos (by omega), if_neg (by omega), mul_zero]
    rw [z, add_zero]
    refine (Finset.sum_congr rfl fun j hj => ?_).trans (score (fun d => qR I b t (4 * h + 2 * r) d) (fun d => kR I b s ((4 * h + 2 * r) / 4) d))
    have hj := Finset.mem_range.mp hj
    unfold aQ aKT
    rw [if_pos (by omega), if_pos (by omega), show ((2 * h + r) * 128 + j) / 64 = 4 * h + 2 * r by omega, show ((2 * h + r) * 128 + j) % 64 = j by omega,
      show (h * 256 + j) / 256 = (4 * h + 2 * r) / 4 by omega, show (h * 256 + j) % 128 = j by omega]
  sc1 h r t s hh hr ht hs := by
    rw [halves fun j => aQ I b t ((2 * h + r) * 128 + j) * aKT I b (h * 256 + 128 + j) s]
    have z : (∑ j ∈ Finset.range 64, aQ I b t ((2 * h + r) * 128 + j) * aKT I b (h * 256 + 128 + j) s) = 0 :=
      Finset.sum_eq_zero fun j hj => by
        have hj := Finset.mem_range.mp hj
        unfold aKT
        rw [if_neg (by omega), if_pos (by omega), mul_zero]
    rw [z, zero_add]
    refine (Finset.sum_congr rfl fun j hj => ?_).trans (score (fun d => qR I b t (4 * h + 2 * r + 1) d) (fun d => kR I b s ((4 * h + 2 * r + 1) / 4) d))
    have hj := Finset.mem_range.mp hj
    unfold aQ aKT
    rw [if_neg (by omega), if_neg (by omega), show ((2 * h + r) * 128 + (64 + j)) / 64 = 4 * h + 2 * r + 1 by omega, show ((2 * h + r) * 128 + (64 + j)) % 64 = j by omega,
      show (h * 256 + 128 + (64 + j)) / 256 = (4 * h + 2 * r + 1) / 4 by omega, show (h * 256 + 128 + (64 + j)) % 128 - 64 = j by omega]
  vl0 h s l hh hs hl := by
    unfold aVL
    rw [if_pos (by omega), if_pos (by omega), show (h * 256 + l) / 256 = h by omega, show (h * 256 + l) % 256 = l by omega]
  vl1 h s l hh hs hl hn := by
    unfold aVL
    rw [if_pos (by omega), if_neg (by omega)]
  vl2 h s l hh hs hl := by
    unfold aVL
    rw [if_neg (by omega)]
    exact if_congr (by omega) rfl rfl
  vh0 h s l hh hs hl := by
    unfold aVH
    rw [if_pos (by omega), if_pos (by omega)]
  vh1 h s l hh hs hl hn := by
    unfold aVH
    rw [if_pos (by omega), if_neg (by omega), show (h * 256 + l) / 256 = h by omega, show (h * 256 + l) % 256 - 64 = l - 64 by omega]
  vh2 h s l hh hs hl := by
    unfold aVH
    rw [if_neg (by omega)]
    exact if_congr (by omega) rfl rfl

theorem resT_eq (t l : ℕ) :
    resT (fun t l => pbG 8192 I b t l) (aM I b) I.wpp I.wap I.wo I.gp (I.x b) (abT (aG I b) (fun t hd s => scS I b t hd s) (fun s h l => vV I b s h l) I.sk) t l = res 8192 I b t l := by
  have e : ∀ k, aM I b t (1024 + k) = sg (zP I b t (5632 + k)) := fun k => by
    unfold aM
    rw [show 4608 + (1024 + k) = 5632 + k by omega]
  unfold resT res
  refine congrArg (I.x b t l + ·) (congrArg (fun f => rms f I.gp l) (funext fun c => ?_))
  unfold outP
  refine Finset.sum_congr rfl fun k _ => congrArg (· * _) ?_
  unfold mgT mrg pmT
  rw [e]
  rfl

end

section
variable (V : (c : Dev nD) → (b : Ref sig .tc) → Buf (Elt Ideal) ((c : Thread nD τ).loc b)) (c : Dev nD) (I : In) (E : Entry1 V c I)
include E

/-- The blocks a step of the second call reads. -/
def blocks (t : Fin cfg1.N) : Blocks (grid1.coords t 1).val (aQ I (grid1.coords t 0).val) (aG I (grid1.coords t 0).val) (aKT I (grid1.coords t 0).val) (aVL I (grid1.coords t 0).val) (aVH I (grid1.coords t 0).val) I.sk (iblk1 V c 2 t) (iblk1 V c 3 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 15 t) where
  Bp := ((grid1.coords t 1).val * 4 - 1) * 128
  Bn := (min (((grid1.coords t 1).val + 1) * 4) 63) * 128
  hT := coord1_1 t
  hBp := by have := coord1_1 t; omega
  hBn := by have := coord1_1 t; omega
  eBp := by have := coord1_1 t; omega
  eBn := by have := coord1_1 t; omega
  h2 := blk1_2 V c I E t
  h3 := blk1_3 V c I E t
  h5 := blk1_5 V c I E t
  h6 := blk1_6 V c I E t
  h7 := blk1_7 V c I E t
  h8 := blk1_8 V c I E t
  h9 := blk1_9 V c I E t
  h10 := blk1_10 V c I E t
  h11 := blk1_11 V c I E t
  h12 := blk1_12 V c I E t
  h13 := blk1_13 V c I E t
  h15 := blk1_15 V c I E t

theorem out1_19_at (t : Fin cfg1.N) (y : S1x512x1024.Idx) : outsAt1 V c t y = (res 8192 I (grid1.coords t 0).val ((grid1.coords t 1).val * 512 + (y 1).val) (y 2).val : EReal) := by
  rw [row_eq3 y]
  unfold outsAt1
  refine Eq.trans ?_ (resT_eq I (grid1.coords t 0).val ((grid1.coords t 1).val * 512 + (y 1).val) (y 2).val)
  exact out1A_val c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) scM1_2 (Memref.isWhole_whole _) scM1_3 (Memref.isWhole_whole _) scM1_4 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (grid1.coords t 1).val (blk1_0 V c I E t) (blk1_1 V c I E t) (blk1_4 V c I E t) (blk1_14 V c I E t) (blk1_16 V c I E t) (blk1_17 V c I E t) (blk1_18 V c I E t) (arrays I (grid1.coords t 0).val) (blocks V c I E t) rfl (y 1) (y 2)

/-- The result array after the second call. -/
theorem arr1_19 : (dat1 V c).arrAt 19 cfg1.N = fun y : S4x8192x1024.Idx => (res 8192 I (y 0).val (y 1).val (y 2).val : EReal) := by
  refine (dat1 V c).arrAt_eq_of_covers 19 _ (by decide +kernel) fun t hf y => ?_
  blk_simp
  rw [after1_19]
  refine (out1_19_at V c I E t y).trans ?_
  have hy : (y 0).val = 0 := Nat.lt_one_iff.mp (y 0).isLt
  blk_simp [index1_19]
  try simp only [hy, Nat.mul_one, Nat.add_zero, Nat.zero_add]

end

end Cert.Kernel2Ideal.Val

end
-- ==== Proof.LongRun.lean ====
module

public import proofs.«01_k».proof.Proof.Run
public import proofs.«01_k».proof.Proof.LongRegion1

@[expose] public section

set_option maxRecDepth 16384

noncomputable section

namespace Cert.Kernel2Ideal.Val

open Cert.KernelIdeal.Val Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Layer Facts₀ Facts Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel's run, with the result array read as well as the arguments: the launch of its four segments, the
    unscoped buffers at the end read against what the last segment leaves. -/
theorem runW : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Kernel2Ideal.Val
-- ==== Proof.LongHost.lean ====
module

public import proofs.«01_k».proof.Proof.Host
public import proofs.«01_k».proof.Proof.LongRun

@[expose] public section

set_option maxRecDepth 16384

noncomputable section

namespace Cert.Kernel2Ideal.Val

open Cert.KernelIdeal.Val Idealize.ShloMosaic Idealize.ShloMosaic.TcCoe Idealize.SL.Sem Layer Gen

/-! ### What the host computes before the first call -/

/-- The rotation angles. -/
def angs : S8192x32.Idx → EReal :=
  mulf (F := Ideal) (φ := .f32)
    (broadcastInDim S8192x32 ![0, 1] bcast_S8192x1_S8192x32_0_1 (broadcastInDim S8192x1 ![0] bcast_S8192_S8192x1_0 (sitofp (F := Ideal) .f32 (iotaInDim S8192 32 0))))
    (broadcastInDim S8192x32 ![0, 1] bcast_S1x32_S8192x32_0_1 (broadcastInDim S1x32 ![1] bcast_S32_S1x32_1 freqs))

/-- Two 32-lane tables side by side, the pair twice across 128 lanes. -/
def spread (a b : S8192x32.Idx → EReal) : S8192x128.Idx → EReal :=
  shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩] concatenates_S8192x32_S8192x32_S8192x64_d1) shapeCasts_S8192x64_S1x8192x1x64))
    shapeCasts_S1x8192x2x64_S8192x128

theorem angs_at (t : Fin 8192) (j : Fin 32) : angs (ix2 t j) = ang t.val j.val := by
  unfold angs
  pointwise
  rw [iota_val _ t.isLt, freqs_at]
  rfl

theorem spread_at (a b : S8192x32.Idx → EReal) (t : Fin 8192) (d : Fin 128) :
    spread a b (ix2 t d) = if d.val % 64 < 32 then rd2 (n0 := 8192) (n1 := 32) a t.val (d.val % 32) else rd2 (n0 := 8192) (n1 := 32) b t.val (d.val % 32) := by
  unfold spread
  pointwise
  rcases Nat.lt_or_ge (d.val % 64) 32 with h | h
  · rw [dif_pos h, if_pos h, rd2_at a t.isLt (show d.val % 32 < 32 by omega)]
    congr 2
    exact Fin.ext (show d.val % 64 = d.val % 32 by omega)
  · have h' : ¬ d.val % 64 < 32 := by omega
    refine (dif_neg h').trans (Eq.trans ?_ (if_neg h').symm)
    rw [rd2_at b t.isLt (show d.val % 32 < 32 by omega)]
    exact congrArg (fun j => b (ix2 t j)) (Fin.ext (show d.val % 64 - 32 = d.val % 32 by omega))

variable (V : Valuation τ sig (Elt Ideal))

theorem after_v18 : StableHlo.after hostOps0 V (Proc.devRef .tc main_v18) = spread (Host.cos (F := Ideal) (φ := .f32) angs) (Host.cos (F := Ideal) (φ := .f32) angs) := by
  after_results
  rfl

theorem after_v23 : StableHlo.after hostOps0 V (Proc.devRef .tc main_v23) = spread (Host.negf (F := Ideal) (φ := .f32) (Host.sin (F := Ideal) (φ := .f32) angs)) (Host.sin (F := Ideal) (φ := .f32) angs) := by
  after_results
  rfl

theorem after_v24 : StableHlo.after hostOps0 V (Proc.devRef .tc main_v24) = shapeCast S1x1024 (V (Proc.devRef .tc main_arg1) : S1024.Idx → EReal) shapeCasts_S1024_S1x1024 := by
  after_results
  rfl

theorem after_v25 : StableHlo.after hostOps0 V (Proc.devRef .tc main_v25) = (V (Proc.devRef .tc main_arg2) : S1024x6656.Idx → EReal) := by
  after_results
  rfl

theorem after_v26 : StableHlo.after hostOps0 V (Proc.devRef .tc main_v26) = (V (Proc.devRef .tc main_arg3) : S4x256x256.Idx → EReal) := by
  after_results
  rfl

theorem after_v27 : StableHlo.after hostOps0 V (Proc.devRef .tc main_v27) = shapeCast S1x1024 (V (Proc.devRef .tc main_arg4) : S1024.Idx → EReal) shapeCasts_S1024_S1x1024 := by
  after_results
  rfl

/-! ### What it computes before the second -/

theorem after_v30 : StableHlo.after hostOps1 V (Proc.devRef .tc main_v30) =
    broadcastInDim S16x128 ![0, 1] bcast_S16x1_S16x128_0_1 (broadcastInDim S16x1 ![0] bcast_S16_S16x1_0 (V (Proc.devRef .tc main_arg6) : S16.Idx → EReal)) := by
  after_results

theorem after_v31 : StableHlo.after hostOps1 V (Proc.devRef .tc main_v31) = (V (Proc.devRef .tc main_arg5) : S1024x1024.Idx → EReal) := by
  after_results
  rfl

theorem after_v32 : StableHlo.after hostOps1 V (Proc.devRef .tc main_v32) = (V (Proc.devRef .tc main_arg7) : S1024x1024.Idx → EReal) := by
  after_results
  rfl

theorem after_v33 : StableHlo.after hostOps1 V (Proc.devRef .tc main_v33) = (V (Proc.devRef .tc main_arg8) : S1024x1024.Idx → EReal) := by
  after_results
  rfl

theorem after_v34 : StableHlo.after hostOps1 V (Proc.devRef .tc main_v34) = shapeCast S1x1024 (V (Proc.devRef .tc main_arg9) : S1024.Idx → EReal) shapeCasts_S1024_S1x1024 := by
  after_results
  rfl

/-! ### The layer's arrays in the launch memory -/

section
variable (m : (ℓ : Loc nD τ sig) → Buf (Elt Ideal) ℓ) (ρ : Dev nD → PrngReg) (c : Dev nD)

/-- The layer's arrays, read from the arguments. -/
def inOf : In where
  x := rd3 (n0 := 4) (n1 := 8192) (n2 := 1024) (m ((c : Thread nD τ).loc main_arg0))
  g := rd1 (n0 := 1024) (m ((c : Thread nD τ).loc main_arg1))
  w := rd2 (n0 := 1024) (n1 := 6656) (m ((c : Thread nD τ).loc main_arg2))
  wpg := rd3 (n0 := 4) (n1 := 256) (n2 := 256) (m ((c : Thread nD τ).loc main_arg3))
  ps := rd1 (n0 := 1024) (m ((c : Thread nD τ).loc main_arg4))
  wpp := rd2 (n0 := 1024) (n1 := 1024) (m ((c : Thread nD τ).loc main_arg5))
  sk := rd1 (n0 := 16) (m ((c : Thread nD τ).loc main_arg6))
  wap := rd2 (n0 := 1024) (n1 := 1024) (m ((c : Thread nD τ).loc main_arg7))
  wo := rd2 (n0 := 1024) (n1 := 1024) (m ((c : Thread nD τ).loc main_arg8))
  gp := rd1 (n0 := 1024) (m ((c : Thread nD τ).loc main_arg9))

theorem ang_at (t : Fin 8192) (d : ℕ) (hd : d < 128) (f : EReal → EReal) (T : S8192x32.Idx → EReal) (hT : ∀ y, T y = f (angs y)) :
    rd2 (n0 := 8192) (n1 := 32) T t.val (d % 32) = f (ang t.val (d % 32)) := by
  rw [rd2_at T t.isLt (show d % 32 < 32 by omega), hT]
  exact congrArg f (angs_at t ⟨d % 32, by omega⟩)

theorem entry0 : Entry0 (V1 m ρ) c (inOf m c) where
  e0 a b d ha hb hd := congrArg (fun v => rd3 (n0 := 4) (n1 := 8192) (n2 := 1024) v a b d) (W1_args m ρ c main_arg0 (by decide))
  e3 a b ha hb := (congrArg (fun v => rd2 (n0 := 1) (n1 := 1024) v a b) (after_v24 (W0 m ρ c))).trans (row_at _ a b ha hb)
  e4 a b ha hb := congrArg (fun v => rd2 (n0 := 1024) (n1 := 6656) v a b) (after_v25 (W0 m ρ c))
  e5 a b ha hb := by
    refine (congrArg (fun v => rd2 (n0 := 8192) (n1 := 128) v a b) (after_v18 (W0 m ρ c))).trans ?_
    refine (rd2_at (n0 := 8192) (n1 := 128) _ ha hb).trans ((spread_at _ _ ⟨a, ha⟩ ⟨b, hb⟩).trans ?_)
    have h := ang_at ⟨a, ha⟩ b hb Ideal.cos (Host.cos (F := Ideal) (φ := .f32) angs) (fun y => rfl)
    rw [ite_self]
    exact h
  e6 a b ha hb := by
    refine (congrArg (fun v => rd2 (n0 := 8192) (n1 := 128) v a b) (after_v23 (W0 m ρ c))).trans ?_
    refine (rd2_at (n0 := 8192) (n1 := 128) _ ha hb).trans ((spread_at _ _ ⟨a, ha⟩ ⟨b, hb⟩).trans ?_)
    have h := ang_at ⟨a, ha⟩ b hb Ideal.sin (Host.sin (F := Ideal) (φ := .f32) angs) (fun y => rfl)
    have h' := ang_at ⟨a, ha⟩ b hb (fun z => -Ideal.sin z) (Host.negf (F := Ideal) (φ := .f32) (Host.sin (F := Ideal) (φ := .f32) angs)) (fun y => rfl)
    exact congrArg₂ (fun p q : EReal => if b % 64 < 32 then p else q) h' h
  e7 a b d ha hb hd := congrArg (fun v => rd3 (n0 := 4) (n1 := 256) (n2 := 256) v a b d) (after_v26 (W0 m ρ c))
  e8 a b ha hb := (congrArg (fun v => rd2 (n0 := 1) (n1 := 1024) v a b) (after_v27 (W0 m ρ c))).trans (row_at _ a b ha hb)

/-- An array a first call leaves, at the second call's entry. -/
theorem W3_out (w : Fin cfg0.W) (r : Ref sig .tc) (h : r ∉ hostOps1_W) (e : Pipeline.arrRef spec0 w = r) :
    W3 m ρ c (Proc.devRef .tc (Pipeline.arrRef spec0 w)) = (dat0 (V1 m ρ) c).arrAt w cfg0.N := by
  rw [W3_of m ρ c _ (by rw [e]; exact h)]
  exact W2_arr m ρ c w

theorem entry1 : Entry1 (V3 m ρ) c (inOf m c) where
  e0 a b d ha hb hd := congrArg (fun v => rd3 (n0 := 4) (n1 := 8192) (n2 := 1024) v a b d) (W3_args m ρ c main_arg0 (by decide))
  e1 a b d ha hb hd := by
    refine (congrArg (fun v => rd3 (n0 := 4) (n1 := 8192) (n2 := 1024) v a b d) ((W3_out m ρ c 9 main_v28_0 (by decide) rfl).trans (arr0_9 (V1 m ρ) c (inOf m c) (entry0 m ρ c)))).trans ?_
    exact rd3_at (n0 := 4) (n1 := 8192) (n2 := 1024) _ ha hb hd
  e2 a b d ha hb hd := by
    refine (congrArg (fun v => rd3 (n0 := 4) (n1 := 8192) (n2 := 1024) v a b d) ((W3_out m ρ c 10 main_v28_1 (by decide) rfl).trans (arr0_10 (V1 m ρ) c (inOf m c) (entry0 m ρ c)))).trans ?_
    exact rd3_at (n0 := 4) (n1 := 8192) (n2 := 1024) _ ha hb hd
  e3 a b d ha hb hd := by
    refine (congrArg (fun v => rd3 (n0 := 4) (n1 := 8192) (n2 := 1024) v a b d) ((W3_out m ρ c 11 main_v28_2 (by decide) rfl).trans (arr0_11 (V1 m ρ) c (inOf m c) (entry0 m ρ c)))).trans ?_
    exact rd3_at (n0 := 4) (n1 := 8192) (n2 := 1024) _ ha hb hd
  e4 a b d ha hb hd := by
    refine (congrArg (fun v => rd3 (n0 := 4) (n1 := 8192) (n2 := 2048) v a b d) ((W3_out m ρ c 12 main_v28_3 (by decide) rfl).trans (arr0_12 (V1 m ρ) c (inOf m c) (entry0 m ρ c)))).trans ?_
    exact rd3_at (n0 := 4) (n1 := 8192) (n2 := 2048) _ ha hb hd
  e5 a b d ha hb hd := by
    refine (congrArg (fun v => rd3 (n0 := 4) (n1 := 1024) (n2 := 8192) v a b d) ((W3_out m ρ c 13 main_v28_4 (by decide) rfl).trans (arr0_13 (V1 m ρ) c (inOf m c) (entry0 m ρ c)))).trans ?_
    exact rd3_at (n0 := 4) (n1 := 1024) (n2 := 8192) _ ha hb hd
  e8 a b d ha hb hd := by
    refine (congrArg (fun v => rd3 (n0 := 4) (n1 := 8192) (n2 := 1024) v a b d) ((W3_out m ρ c 14 main_v28_5 (by decide) rfl).trans (arr0_14 (V1 m ρ) c (inOf m c) (entry0 m ρ c)))).trans ?_
    exact rd3_at (n0 := 4) (n1 := 8192) (n2 := 1024) _ ha hb hd
  e11 a b d ha hb hd := by
    refine (congrArg (fun v => rd3 (n0 := 4) (n1 := 8192) (n2 := 1024) v a b d) ((W3_out m ρ c 15 main_v28_6 (by decide) rfl).trans (arr0_15 (V1 m ρ) c (inOf m c) (entry0 m ρ c)))).trans ?_
    exact rd3_at (n0 := 4) (n1 := 8192) (n2 := 1024) _ ha hb hd
  e14 a b ha hb := congrArg (fun v => rd2 (n0 := 1024) (n1 := 1024) v a b) ((after_v31 (W2 m ρ c)).trans (W2_args m ρ c main_arg5 (by decide)))
  e15 a b ha hb := (congrArg (fun v => rd2 (n0 := 16) (n1 := 128) v a b) (after_v30 (W2 m ρ c))).trans ((sinks_at _ a b ha hb).trans
    (congrArg (fun v => rd1 (n0 := 16) v a) (W2_args m ρ c main_arg6 (by decide))))
  e16 a b ha hb := congrArg (fun v => rd2 (n0 := 1024) (n1 := 1024) v a b) ((after_v32 (W2 m ρ c)).trans (W2_args m ρ c main_arg7 (by decide)))
  e17 a b ha hb := congrArg (fun v => rd2 (n0 := 1024) (n1 := 1024) v a b) ((after_v33 (W2 m ρ c)).trans (W2_args m ρ c main_arg8 (by decide)))
  e18 a b ha hb := (congrArg (fun v => rd2 (n0 := 1) (n1 := 1024) v a b) (after_v34 (W2 m ρ c))).trans ((row_at _ a b ha hb).trans
    (congrArg (fun v => rd1 (n0 := 1024) v b) (W2_args m ρ c main_arg9 (by decide))))

/-- The result array at the end. -/
theorem W4_res : W4 m ρ c (Proc.devRef .tc main_v35) = fun y : S4x8192x1024.Idx => (res 8192 (inOf m c) (y 0).val (y 1).val (y 2).val : EReal) :=
  (W4_arr m ρ c 19).trans (arr1_19 (V3 m ρ) c (inOf m c) (entry1 m ρ c))

end

end Cert.Kernel2Ideal.Val
-- ==== Proof.LongRefA.lean ====
module

public import proofs.«01_k».proof.Proof.RefCommon
public import proofs.«01_k».proof.Proof.Gen.Reference2Ideal.Read
public import Idealize.ShloMosaic.Lib.WordCmp
public import Idealize.ShloMosaic.Lib.Pointwise

@[expose] public section

set_option maxRecDepth 16384

noncomputable section

namespace Cert.Reference2Ideal.Val

open Layer.Ref Idealize.ShloMosaic Idealize.ShloMosaic.TcCoe Idealize.SL.Sem Layer Cert.Reference2Ideal Cert.Reference2Ideal.Gen Cert.Reference2Ideal.Read

/-- The reference's arguments as the layer's arrays. -/
def inR (x0 : S4x8192x1024.Idx → EReal) (x1 : S1024.Idx → EReal) (x2 : S1024x6656.Idx → EReal) (x3 : S4x256x256.Idx → EReal) (x4 : S1024.Idx → EReal)
    (x5 : S1024x1024.Idx → EReal) (x6 : S16.Idx → EReal) (x7 x8 : S1024x1024.Idx → EReal) (x9 : S1024.Idx → EReal) : In where
  x := rd3 (n0 := 4) (n1 := 8192) (n2 := 1024) x0
  g := rd1 (n0 := 1024) x1
  w := rd2 (n0 := 1024) (n1 := 6656) x2
  wpg := rd3 (n0 := 4) (n1 := 256) (n2 := 256) x3
  ps := rd1 (n0 := 1024) x4
  wpp := rd2 (n0 := 1024) (n1 := 1024) x5
  sk := rd1 (n0 := 16) x6
  wap := rd2 (n0 := 1024) (n1 := 1024) x7
  wo := rd2 (n0 := 1024) (n1 := 1024) x8
  gp := rd1 (n0 := 1024) x9

variable (x0 : S4x8192x1024.Idx → EReal) (x1 : S1024.Idx → EReal) (x2 : S1024x6656.Idx → EReal) (x3 : S4x256x256.Idx → EReal) (x4 : S1024.Idx → EReal)
    (x5 : S1024x1024.Idx → EReal) (x6 : S16.Idx → EReal) (x7 x8 : S1024x1024.Idx → EReal) (x9 : S1024.Idx → EReal)

/-! ### The first norm and the input projection -/

theorem h_at (i : S4x8192x1024.Idx) : val_main_v12 (F := Ideal) x0 x1 i = hN (inR x0 x1 x2 x3 x4 x5 x6 x7 x8 x9) (i 0).val (i 1).val (i 2).val := by
  simp only [val_main_v12_apply, val_main_v9_apply, val_main_v11_apply, val_main_v10_apply, val_main_v8_apply, val_main_v7_apply, val_main_v6_apply,
    val_main_v4_apply, val_main_v2_apply, val_main_v1_apply, val_main_v0_apply, val_main_cst_apply, val_main_v3_apply, val_main_cst_0_apply, val_main_v5_apply, val_main_cst_1_apply]
  unfold hN
  rw [rms_fin]
  simp only [rd3_idx (n0 := 4) (n1 := 8192) (n2 := 1024) x0, rd1_idx (n0 := 1024) x1]
  show _ * Ideal.rsqrt (Ideal.div (Ideal.ofBits .f32 0x00000000#32 + _) _ + _) * _ = _
  rw [bits_zero, zero_add]
  rfl

theorem z_at (i : S4x8192x6656.Idx) : val_main_v13 (F := Ideal) x0 x1 x2 i = zP (inR x0 x1 x2 x3 x4 x5 x6 x7 x8 x9) (i 0).val (i 1).val (i 2).val := by
  rw [val_main_v13_apply]
  unfold zP
  rw [← sum_fin]
  refine Finset.sum_congr rfl fun k _ => ?_
  rw [h_at x0 x1 x2 x3 x4 x5 x6 x7 x8 x9, rd2_idx (n0 := 1024) (n1 := 6656) x2]
  rfl

theorem z14 (i : S4x8192x1024.Idx) : val_main_v14 (F := Ideal) x0 x1 x2 i = zP (inR x0 x1 x2 x3 x4 x5 x6 x7 x8 x9) (i 0).val (i 1).val (i 2).val := by
  rw [val_main_v14_apply, z_at x0 x1 x2 x3 x4 x5 x6 x7 x8 x9]

theorem z15 (i : S4x8192x1024.Idx) : val_main_v15 (F := Ideal) x0 x1 x2 i = zP (inR x0 x1 x2 x3 x4 x5 x6 x7 x8 x9) (i 0).val (i 1).val (1024 + (i 2).val) := by
  rw [val_main_v15_apply, z_at x0 x1 x2 x3 x4 x5 x6 x7 x8 x9]

theorem z16 (i : S4x8192x1024.Idx) : val_main_v16 (F := Ideal) x0 x1 x2 i = zP (inR x0 x1 x2 x3 x4 x5 x6 x7 x8 x9) (i 0).val (i 1).val (2048 + (i 2).val) := by
  rw [val_main_v16_apply, z_at x0 x1 x2 x3 x4 x5 x6 x7 x8 x9]

theorem z17 (i : S4x8192x256.Idx) : val_main_v17 (F := Ideal) x0 x1 x2 i = zP (inR x0 x1 x2 x3 x4 x5 x6 x7 x8 x9) (i 0).val (i 1).val (3072 + (i 2).val) := by
  rw [val_main_v17_apply, z_at x0 x1 x2 x3 x4 x5 x6 x7 x8 x9]

theorem z18 (i : S4x8192x256.Idx) : val_main_v18 (F := Ideal) x0 x1 x2 i = zP (inR x0 x1 x2 x3 x4 x5 x6 x7 x8 x9) (i 0).val (i 1).val (3328 + (i 2).val) := by
  rw [val_main_v18_apply, z_at x0 x1 x2 x3 x4 x5 x6 x7 x8 x9]

theorem z19 (i : S4x8192x1024.Idx) : val_main_v19 (F := Ideal) x0 x1 x2 i = zP (inR x0 x1 x2 x3 x4 x5 x6 x7 x8 x9) (i 0).val (i 1).val (3584 + (i 2).val) := by
  rw [val_main_v19_apply, z_at x0 x1 x2 x3 x4 x5 x6 x7 x8 x9]

theorem z20 (i : S4x8192x2048.Idx) : val_main_v20 (F := Ideal) x0 x1 x2 i = zP (inR x0 x1 x2 x3 x4 x5 x6 x7 x8 x9) (i 0).val (i 1).val (4608 + (i 2).val) := by
  rw [val_main_v20_apply, z_at x0 x1 x2 x3 x4 x5 x6 x7 x8 x9]

theorem silu157 (i : S4x8192x1024.Idx) : val_main_v157 (F := Ideal) x0 x1 x2 i = silu (zP (inR x0 x1 x2 x3 x4 x5 x6 x7 x8 x9) (i 0).val (i 1).val (1024 + (i 2).val)) := by
  rw [val_main_v157_apply, val_main_call4_v5_apply, val_main_call4_v4_apply, val_main_call4_v3_apply, val_main_call4_v2_apply, val_main_call4_v1_apply, val_main_call4_v0_apply,
    val_main_call4_cst_apply, val_main_call4_cst_0_apply, z15 x0 x1 x2 x3 x4 x5 x6 x7 x8 x9]
  show _ * Ideal.div (Ideal.ofBits .f32 0x3F800000#32) (Ideal.ofBits .f32 0x3F800000#32 + _) = _
  rw [bits_one]
  rfl

theorem silu256 (i : S4x8192x1024.Idx) : val_main_v256 (F := Ideal) x0 x1 x2 i = silu (zP (inR x0 x1 x2 x3 x4 x5 x6 x7 x8 x9) (i 0).val (i 1).val (3584 + (i 2).val)) := by
  rw [val_main_v256_apply, val_main_call6_v5_apply, val_main_call6_v4_apply, val_main_call6_v3_apply, val_main_call6_v2_apply, val_main_call6_v1_apply, val_main_call6_v0_apply,
    val_main_call6_cst_apply, val_main_call6_cst_0_apply, z19 x0 x1 x2 x3 x4 x5 x6 x7 x8 x9]
  show _ * Ideal.div (Ideal.ofBits .f32 0x3F800000#32) (Ideal.ofBits .f32 0x3F800000#32 + _) = _
  rw [bits_one]
  rfl

theorem sg263 (i : S4x8192x2048.Idx) : val_main_v263 (F := Ideal) x0 x1 x2 i = sg (zP (inR x0 x1 x2 x3 x4 x5 x6 x7 x8 x9) (i 0).val (i 1).val (4608 + (i 2).val)) := by
  rw [val_main_v263_apply, val_main_v262_apply, val_main_v261_apply, val_main_v260_apply, val_main_v259_apply, val_main_v258_apply,
    val_main_cst_38_apply, val_main_cst_39_apply, z20 x0 x1 x2 x3 x4 x5 x6 x7 x8 x9]
  show Ideal.div (Ideal.ofBits .f32 0x3F800000#32) (Ideal.ofBits .f32 0x3F800000#32 + _) = _
  rw [bits_one]
  rfl

/-! ### The pooling groups -/

theorem low0 : ∀ t : Fin 8192, (IntOp.maxsi (IntOp.subi (BitVec.ofNat 32 t.val) 1#32) 0#32).toInt = ((t.val - 1 : ℕ) : ℤ) := by decide +kernel

theorem high0 : ∀ t : Fin 8192, (IntOp.minsi (IntOp.addi (IntOp.subi (BitVec.ofNat 32 t.val) 1#32) 2#32) 8192#32).toInt = ((min (t.val + 1) 8192 : ℕ) : ℤ) := by decide +kernel

theorem many0 : ∀ t : Fin 8192, (IntOp.subi (IntOp.minsi (IntOp.addi (IntOp.subi (BitVec.ofNat 32 t.val) 1#32) 2#32) 8192#32) (IntOp.maxsi (IntOp.subi (BitVec.ofNat 32 t.val) 1#32) 0#32)).toInt
    = ((min (t.val + 1) 8192 - (t.val - 1) : ℕ) : ℤ) := by decide +kernel

theorem mask0 (i : S8192x8192.Idx) : val_main_v44 (F := Ideal) i = if (i 0).val ≤ (i 1).val + 1 ∧ (i 1).val + 1 < (i 0).val + 2 * 1 then 1 else 0 := by
  simp only [val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v21_apply, val_main_c_apply, val_main_c_2_apply, val_main_c_3_apply, val_main_c_4_apply, val_main_c_5_apply,
    val_main_call0_v0_apply, val_main_call0_v1_apply, val_main_cst_6_apply, val_main_cst_7_apply]
  show Scalar.select _ (Ideal.ofBits .f32 0x3F800000#32) (Ideal.ofBits .f32 0x00000000#32) = _
  rw [bits_one, bits_zero]
  exact sel_window (S := 8192) (by decide) _ _ (i 0).val (i 1).val 1 (i 1).isLt (low0 (i 0)) (high0 (i 0)) 1 0

theorem pooled0 (i : S4x8192x256.Idx) : val_main_v52 (F := Ideal) x0 x1 x2 i = pooled 8192 (inR x0 x1 x2 x3 x4 x5 x6 x7 x8 x9) (i 0).val (i 1).val (0 + (i 2).val) := by
  have hc : (0 + (i 2).val) / 256 = 0 := by have := (i 2).isLt; have h : S4x8192x256.size 2 = 256 := rfl; omega
  simp only [val_main_v52_apply, val_main_v51_apply, val_main_v50_apply, val_main_v49_apply, val_main_v48_apply, val_main_v47_apply, val_main_v46_apply, val_main_v45_apply, val_main_v22_apply, val_main_v32_apply, val_main_v31_apply, val_main_v30_apply, val_main_v29_apply, val_main_v28_apply, val_main_v27_apply, val_main_v26_apply, val_main_v25_apply, val_main_v24_apply, val_main_v23_apply, val_main_v21_apply, val_main_c_apply, val_main_c_2_apply, val_main_c_3_apply, val_main_c_4_apply, val_main_c_5_apply, z14 x0 x1 x2 x3 x4 x5 x6 x7 x8 x9, mask0]
  unfold pooled total cnt
  rw [hc, ← pool_sum 8192 _ (hw 0) (2 * hw 0) (fun s => zP (inR x0 x1 x2 x3 x4 x5 x6 x7 x8 x9) (i 0).val s (0 + (i 2).val)), ← sum_fin]
  refine congrArg₂ (fun p q : EReal => p - q) (congrArg₂ Ideal.div (Finset.sum_congr rfl fun k _ => ?_) ?_) ?_
  · refine congrArg₂ (fun p q : EReal => p * q) (congrArg (zP (inR x0 x1 x2 x3 x4 x5 x6 x7 x8 x9) _ _) ?_) rfl
    exact (Nat.zero_add _).symm
  · have e := many0 (i 1)
    show ((((_ : ℤ)) : ℝ) : EReal) = _
    rw [e]
    norm_cast
  · exact congrArg (zP (inR x0 x1 x2 x3 x4 x5 x6 x7 x8 x9) _ _) (Nat.zero_add _).symm

theorem low1 : ∀ t : Fin 8192, (IntOp.maxsi (IntOp.subi (BitVec.ofNat 32 t.val) 2#32) 0#32).toInt = ((t.val - 2 : ℕ) : ℤ) := by decide +kernel

theorem high1 : ∀ t : Fin 8192, (IntOp.minsi (IntOp.addi (IntOp.subi (BitVec.ofNat 32 t.val) 2#32) 4#32) 8192#32).toInt = ((min (t.val + 2) 8192 : ℕ) : ℤ) := by decide +kernel

theorem many1 : ∀ t : Fin 8192, (IntOp.subi (IntOp.minsi (IntOp.addi (IntOp.subi (BitVec.ofNat 32 t.val) 2#32) 4#32) 8192#32) (IntOp.maxsi (IntOp.subi (BitVec.ofNat 32 t.val) 2#32) 0#32)).toInt
    = ((min (t.val + 2) 8192 - (t.val - 2) : ℕ) : ℤ) := by decide +kernel

theorem mask1 (i : S8192x8192.Idx) : val_main_v75 (F := Ideal) i = if (i 0).val ≤ (i 1).val + 2 ∧ (i 1).val + 2 < (i 0).val + 2 * 2 then 1 else 0 := by
  simp only [val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v21_apply, val_main_c_8_apply, val_main_c_9_apply, val_main_c_10_apply, val_main_c_11_apply, val_main_c_12_apply,
    val_main_call1_v0_apply, val_main_call1_v1_apply, val_main_cst_13_apply, val_main_cst_14_apply]
  show Scalar.select _ (Ideal.ofBits .f32 0x3F800000#32) (Ideal.ofBits .f32 0x00000000#32) = _
  rw [bits_one, bits_zero]
  exact sel_window (S := 8192) (by decide) _ _ (i 0).val (i 1).val 2 (i 1).isLt (low1 (i 0)) (high1 (i 0)) 1 0

theorem pooled1 (i : S4x8192x256.Idx) : val_main_v83 (F := Ideal) x0 x1 x2 i = pooled 8192 (inR x0 x1 x2 x3 x4 x5 x6 x7 x8 x9) (i 0).val (i 1).val (256 + (i 2).val) := by
  have hc : (256 + (i 2).val) / 256 = 1 := by have := (i 2).isLt; have h : S4x8192x256.size 2 = 256 := rfl; omega
  simp only [val_main_v83_apply, val_main_v82_apply, val_main_v81_apply, val_main_v80_apply, val_main_v79_apply, val_main_v78_apply, val_main_v77_apply, val_main_v76_apply, val_main_v53_apply, val_main_v63_apply, val_main_v62_apply, val_main_v61_apply, val_main_v60_apply, val_main_v59_apply, val_main_v58_apply, val_main_v57_apply, val_main_v56_apply, val_main_v55_apply, val_main_v54_apply, val_main_v21_apply, val_main_c_8_apply, val_main_c_9_apply, val_main_c_10_apply, val_main_c_11_apply, val_main_c_12_apply, z14 x0 x1 x2 x3 x4 x5 x6 x7 x8 x9, mask1]
  unfold pooled total cnt
  rw [hc, ← pool_sum 8192 _ (hw 1) (2 * hw 1) (fun s => zP (inR x0 x1 x2 x3 x4 x5 x6 x7 x8 x9) (i 0).val s (256 + (i 2).val)), ← sum_fin]
  refine congrArg₂ (fun p q : EReal => p - q) (congrArg₂ Ideal.div (Finset.sum_congr rfl fun k _ => ?_) ?_) ?_
  · refine congrArg₂ (fun p q : EReal => p * q) (congrArg (zP (inR x0 x1 x2 x3 x4 x5 x6 x7 x8 x9) _ _) ?_) rfl
    exact rfl
  · have e := many1 (i 1)
    show ((((_ : ℤ)) : ℝ) : EReal) = _
    rw [e]
    norm_cast
  · exact congrArg (zP (inR x0 x1 x2 x3 x4 x5 x6 x7 x8 x9) _ _) rfl

theorem low2 : ∀ t : Fin 8192, (IntOp.maxsi (IntOp.subi (BitVec.ofNat 32 t.val) 4#32) 0#32).toInt = ((t.val - 4 : ℕ) : ℤ) := by decide +kernel

theorem high2 : ∀ t : Fin 8192, (IntOp.minsi (IntOp.addi (IntOp.subi (BitVec.ofNat 32 t.val) 4#32) 8#32) 8192#32).toInt = ((min (t.val + 4) 8192 : ℕ) : ℤ) := by decide +kernel

theorem many2 : ∀ t : Fin 8192, (IntOp.subi (IntOp.minsi (IntOp.addi (IntOp.subi (BitVec.ofNat 32 t.val) 4#32) 8#32) 8192#32) (IntOp.maxsi (IntOp.subi (BitVec.ofNat 32 t.val) 4#32) 0#32)).toInt
    = ((min (t.val + 4) 8192 - (t.val - 4) : ℕ) : ℤ) := by decide +kernel

theorem mask2 (i : S8192x8192.Idx) : val_main_v106 (F := Ideal) i = if (i 0).val ≤ (i 1).val + 4 ∧ (i 1).val + 4 < (i 0).val + 2 * 4 then 1 else 0 := by
  simp only [val_main_v106_apply, val_main_v105_apply, val_main_v104_apply, val_main_v103_apply, val_main_v102_apply, val_main_v101_apply, val_main_v100_apply, val_main_v99_apply, val_main_v98_apply, val_main_v97_apply, val_main_v96_apply, val_main_v95_apply, val_main_v94_apply, val_main_v93_apply, val_main_v92_apply, val_main_v91_apply, val_main_v90_apply, val_main_v89_apply, val_main_v88_apply, val_main_v87_apply, val_main_v86_apply, val_main_v85_apply, val_main_v21_apply, val_main_c_15_apply, val_main_c_16_apply, val_main_c_17_apply, val_main_c_18_apply, val_main_c_19_apply,
    val_main_call2_v0_apply, val_main_call2_v1_apply, val_main_cst_20_apply, val_main_cst_21_apply]
  show Scalar.select _ (Ideal.ofBits .f32 0x3F800000#32) (Ideal.ofBits .f32 0x00000000#32) = _
  rw [bits_one, bits_zero]
  exact sel_window (S := 8192) (by decide) _ _ (i 0).val (i 1).val 4 (i 1).isLt (low2 (i 0)) (high2 (i 0)) 1 0

theorem pooled2 (i : S4x8192x256.Idx) : val_main_v114 (F := Ideal) x0 x1 x2 i = pooled 8192 (inR x0 x1 x2 x3 x4 x5 x6 x7 x8 x9) (i 0).val (i 1).val (512 + (i 2).val) := by
  have hc : (512 + (i 2).val) / 256 = 2 := by have := (i 2).isLt; have h : S4x8192x256.size 2 = 256 := rfl; omega
  simp only [val_main_v114_apply, val_main_v113_apply, val_main_v112_apply, val_main_v111_apply, val_main_v110_apply, val_main_v109_apply, val_main_v108_apply, val_main_v107_apply, val_main_v84_apply, val_main_v94_apply, val_main_v93_apply, val_main_v92_apply, val_main_v91_apply, val_main_v90_apply, val_main_v89_apply, val_main_v88_apply, val_main_v87_apply, val_main_v86_apply, val_main_v85_apply, val_main_v21_apply, val_main_c_15_apply, val_main_c_16_apply, val_main_c_17_apply, val_main_c_18_apply, val_main_c_19_apply, z14 x0 x1 x2 x3 x4 x5 x6 x7 x8 x9, mask2]
  unfold pooled total cnt
  rw [hc, ← pool_sum 8192 _ (hw 2) (2 * hw 2) (fun s => zP (inR x0 x1 x2 x3 x4 x5 x6 x7 x8 x9) (i 0).val s (512 + (i 2).val)), ← sum_fin]
  refine congrArg₂ (fun p q : EReal => p - q) (congrArg₂ Ideal.div (Finset.sum_congr rfl fun k _ => ?_) ?_) ?_
  · refine congrArg₂ (fun p q : EReal => p * q) (congrArg (zP (inR x0 x1 x2 x3 x4 x5 x6 x7 x8 x9) _ _) ?_) rfl
    exact rfl
  · have e := many2 (i 1)
    show ((((_ : ℤ)) : ℝ) : EReal) = _
    rw [e]
    norm_cast
  · exact congrArg (zP (inR x0 x1 x2 x3 x4 x5 x6 x7 x8 x9) _ _) rfl

theorem low3 : ∀ t : Fin 8192, (IntOp.maxsi (IntOp.subi (BitVec.ofNat 32 t.val) 8#32) 0#32).toInt = ((t.val - 8 : ℕ) : ℤ) := by decide +kernel

theorem high3 : ∀ t : Fin 8192, (IntOp.minsi (IntOp.addi (IntOp.subi (BitVec.ofNat 32 t.val) 8#32) 16#32) 8192#32).toInt = ((min (t.val + 8) 8192 : ℕ) : ℤ) := by decide +kernel

theorem many3 : ∀ t : Fin 8192, (IntOp.subi (IntOp.minsi (IntOp.addi (IntOp.subi (BitVec.ofNat 32 t.val) 8#32) 16#32) 8192#32) (IntOp.maxsi (IntOp.subi (BitVec.ofNat 32 t.val) 8#32) 0#32)).toInt
    = ((min (t.val + 8) 8192 - (t.val - 8) : ℕ) : ℤ) := by decide +kernel

theorem mask3 (i : S8192x8192.Idx) : val_main_v137 (F := Ideal) i = if (i 0).val ≤ (i 1).val + 8 ∧ (i 1).val + 8 < (i 0).val + 2 * 8 then 1 else 0 := by
  simp only [val_main_v137_apply, val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply, val_main_v123_apply, val_main_v122_apply, val_main_v121_apply, val_main_v120_apply, val_main_v119_apply, val_main_v118_apply, val_main_v117_apply, val_main_v116_apply, val_main_v21_apply, val_main_c_22_apply, val_main_c_23_apply, val_main_c_24_apply, val_main_c_25_apply, val_main_c_26_apply,
    val_main_call3_v0_apply, val_main_call3_v1_apply, val_main_cst_27_apply, val_main_cst_28_apply]
  show Scalar.select _ (Ideal.ofBits .f32 0x3F800000#32) (Ideal.ofBits .f32 0x00000000#32) = _
  rw [bits_one, bits_zero]
  exact sel_window (S := 8192) (by decide) _ _ (i 0).val (i 1).val 8 (i 1).isLt (low3 (i 0)) (high3 (i 0)) 1 0

theorem pooled3 (i : S4x8192x256.Idx) : val_main_v145 (F := Ideal) x0 x1 x2 i = pooled 8192 (inR x0 x1 x2 x3 x4 x5 x6 x7 x8 x9) (i 0).val (i 1).val (768 + (i 2).val) := by
  have hc : (768 + (i 2).val) / 256 = 3 := by have := (i 2).isLt; have h : S4x8192x256.size 2 = 256 := rfl; omega
  simp only [val_main_v145_apply, val_main_v144_apply, val_main_v143_apply, val_main_v142_apply, val_main_v141_apply, val_main_v140_apply, val_main_v139_apply, val_main_v138_apply, val_main_v115_apply, val_main_v125_apply, val_main_v124_apply, val_main_v123_apply, val_main_v122_apply, val_main_v121_apply, val_main_v120_apply, val_main_v119_apply, val_main_v118_apply, val_main_v117_apply, val_main_v116_apply, val_main_v21_apply, val_main_c_22_apply, val_main_c_23_apply, val_main_c_24_apply, val_main_c_25_apply, val_main_c_26_apply, z14 x0 x1 x2 x3 x4 x5 x6 x7 x8 x9, mask3]
  unfold pooled total cnt
  rw [hc, ← pool_sum 8192 _ (hw 3) (2 * hw 3) (fun s => zP (inR x0 x1 x2 x3 x4 x5 x6 x7 x8 x9) (i 0).val s (768 + (i 2).val)), ← sum_fin]
  refine congrArg₂ (fun p q : EReal => p - q) (congrArg₂ Ideal.div (Finset.sum_congr rfl fun k _ => ?_) ?_) ?_
  · refine congrArg₂ (fun p q : EReal => p * q) (congrArg (zP (inR x0 x1 x2 x3 x4 x5 x6 x7 x8 x9) _ _) ?_) rfl
    exact rfl
  · have e := many3 (i 1)
    show ((((_ : ℤ)) : ℝ) : EReal) = _
    rw [e]
    norm_cast
  · exact congrArg (zP (inR x0 x1 x2 x3 x4 x5 x6 x7 x8 x9) _ _) rfl

end Cert.Reference2Ideal.Val
-- ==== Proof.LongRefB.lean ====
module

public import proofs.«01_k».proof.Proof.LongRefA
public import proofs.«01_k».proof.Proof.Gen.Reference2Ideal.Read
public import Idealize.ShloMosaic.Lib.WordCmp
public import Idealize.ShloMosaic.Lib.Pointwise

@[expose] public section

set_option maxRecDepth 16384

noncomputable section

namespace Cert.Reference2Ideal.Val

open Layer.Ref Idealize.ShloMosaic Idealize.ShloMosaic.TcCoe Idealize.SL.Sem Layer Cert.Reference2Ideal Cert.Reference2Ideal.Gen Cert.Reference2Ideal.Read

variable (x0 : S4x8192x1024.Idx → EReal) (x1 : S1024.Idx → EReal) (x2 : S1024x6656.Idx → EReal) (x3 : S4x256x256.Idx → EReal) (x4 : S1024.Idx → EReal)
    (x5 : S1024x1024.Idx → EReal) (x6 : S16.Idx → EReal) (x7 x8 : S1024x1024.Idx → EReal) (x9 : S1024.Idx → EReal)

theorem stack_at (i : S4x8192x4x256.Idx) : val_main_v150 (F := Ideal) x0 x1 x2 i = pooled 8192 (inR x0 x1 x2 x3 x4 x5 x6 x7 x8 x9) (i 0).val (i 1).val ((i 2).val * 256 + (i 3).val) := by
  unfold val_main_v150
  pointwise
  have h2 : (i 2).val < 4 := (i 2).isLt
  by_cases a0 : (i 2).val < 1
  · refine (dif_pos a0).trans ?_
    rw [val_main_v146_apply, pooled0 x0 x1 x2 x3 x4 x5 x6 x7 x8 x9]
    exact congrArg (pooled 8192 (inR x0 x1 x2 x3 x4 x5 x6 x7 x8 x9) _ _) (show 0 + (i 3).val = (i 2).val * 256 + (i 3).val by omega)
  refine (dif_neg a0).trans ?_
  by_cases a1 : (i 2).val - 1 < 1
  · refine (dif_pos a1).trans ?_
    rw [val_main_v147_apply, pooled1 x0 x1 x2 x3 x4 x5 x6 x7 x8 x9]
    exact congrArg (pooled 8192 (inR x0 x1 x2 x3 x4 x5 x6 x7 x8 x9) _ _) (show 256 + (i 3).val = (i 2).val * 256 + (i 3).val by omega)
  refine (dif_neg a1).trans ?_
  by_cases a2 : (i 2).val - 1 - 1 < 1
  · refine (dif_pos a2).trans ?_
    rw [val_main_v148_apply, pooled2 x0 x1 x2 x3 x4 x5 x6 x7 x8 x9]
    exact congrArg (pooled 8192 (inR x0 x1 x2 x3 x4 x5 x6 x7 x8 x9) _ _) (show 512 + (i 3).val = (i 2).val * 256 + (i 3).val by omega)
  refine (dif_neg a2).trans ?_
  rw [val_main_v149_apply, pooled3 x0 x1 x2 x3 x4 x5 x6 x7 x8 x9]
  exact congrArg (pooled 8192 (inR x0 x1 x2 x3 x4 x5 x6 x7 x8 x9) _ _) (show 768 + (i 3).val = (i 2).val * 256 + (i 3).val by omega)

theorem mix_at (i : S4x8192x1024.Idx) : val_main_v153 (F := Ideal) x0 x1 x2 x3 i
    = ∑ k ∈ Finset.range 256, pooled 8192 (inR x0 x1 x2 x3 x4 x5 x6 x7 x8 x9) (i 0).val (i 1).val ((i 2).val / 256 * 256 + k) * (inR x0 x1 x2 x3 x4 x5 x6 x7 x8 x9).wpg ((i 2).val / 256) k ((i 2).val % 256) := by
  have h0 : (i 0).val < 4 := (i 0).isLt
  have h1 : (i 1).val < 8192 := (i 1).isLt
  have h2 : (i 2).val < 1024 := (i 2).isLt
  rw [val_main_v153_apply, val_main_v152_apply, val_main_v151_apply, ← sum_fin]
  refine Finset.sum_congr rfl fun k _ => ?_
  rw [stack_at x0 x1 x2 x3 x4 x5 x6 x7 x8 x9, rd3_idx (n0 := 4) (n1 := 256) (n2 := 256) x3, mul_comm]
  have e0 : (((i 0).val * 8192 + (i 1).val) * 1024 + (i 2).val) / 8388608 = (i 0).val := by omega
  have e1 : (((i 0).val * 8192 + (i 1).val) * 1024 + (i 2).val) / 1024 % 8192 = (i 1).val := by omega
  have e2 : (((i 0).val * 8192 + (i 1).val) * 1024 + (i 2).val) / 256 % 4 = (i 2).val / 256 := by omega
  have e3 : (((i 0).val * 8192 + (i 1).val) * 1024 + (i 2).val) % 256 = (i 2).val % 256 := by omega
  show pooled 8192 (inR x0 x1 x2 x3 x4 x5 x6 x7 x8 x9) ((((i 0).val * 8192 + (i 1).val) * 1024 + (i 2).val) / 8388608) ((((i 0).val * 8192 + (i 1).val) * 1024 + (i 2).val) / 1024 % 8192)
      ((((i 0).val * 8192 + (i 1).val) * 1024 + (i 2).val) / 256 % 4 * 256 + k.val)
    * rd3 (n0 := 4) (n1 := 256) (n2 := 256) x3 ((((i 0).val * 8192 + (i 1).val) * 1024 + (i 2).val) / 256 % 4) k.val ((((i 0).val * 8192 + (i 1).val) * 1024 + (i 2).val) % 256) = _
  rw [e0, e1, e2, e3]
  rfl

theorem pb_at (i : S4x8192x1024.Idx) : val_main_v158 (F := Ideal) x0 x1 x2 x3 x4 i = pbG 8192 (inR x0 x1 x2 x3 x4 x5 x6 x7 x8 x9) (i 0).val (i 1).val (i 2).val := by
  rw [val_main_v158_apply, val_main_v156_apply, val_main_v155_apply, val_main_v154_apply, mix_at x0 x1 x2 x3 x4 x5 x6 x7 x8 x9, silu157 x0 x1 x2 x3 x4 x5 x6 x7 x8 x9, rd1_idx (n0 := 1024) x4]
  rfl

/-! ### Rotary -/

theorem ang_q (i : S8192x32.Idx) : val_main_v172 (F := Ideal) i = ang (i 0).val (i 1).val := by
  simp only [val_main_v172_apply, val_main_v171_apply, val_main_v170_apply, val_main_v169_apply, val_main_v168_apply, val_main_v167_apply, val_main_v166_apply, val_main_v165_apply, val_main_v164_apply, val_main_v163_apply, val_main_v162_apply, val_main_v161_apply, val_main_cst_29_apply, val_main_cst_30_apply]
  exact ang_eq (S := 8192) (by decide) (i 0).val (i 1).val (i 0).isLt (i 1).isLt

theorem ang_k (i : S8192x32.Idx) : val_main_v203 (F := Ideal) i = ang (i 0).val (i 1).val := by
  simp only [val_main_v203_apply, val_main_v202_apply, val_main_v201_apply, val_main_v200_apply, val_main_v199_apply, val_main_v198_apply, val_main_v197_apply, val_main_v196_apply, val_main_v195_apply, val_main_v194_apply, val_main_v193_apply, val_main_v192_apply, val_main_cst_31_apply, val_main_cst_32_apply]
  exact ang_eq (S := 8192) (by decide) (i 0).val (i 1).val (i 0).isLt (i 1).isLt

theorem lanes_q (i : S4x8192x16x64.Idx) : val_main_v159 (F := Ideal) x0 x1 x2 i = zP (inR x0 x1 x2 x3 x4 x5 x6 x7 x8 x9) (i 0).val (i 1).val (2048 + (i 2).val * 64 + (i 3).val) := by
  have h0 : (i 0).val < 4 := (i 0).isLt
  have h1 : (i 1).val < 8192 := (i 1).isLt
  have h2 : (i 2).val < 16 := (i 2).isLt
  have h3 : (i 3).val < 64 := (i 3).isLt
  rw [val_main_v159_apply, z16 x0 x1 x2 x3 x4 x5 x6 x7 x8 x9]
  have e0 : ((((i 0).val * 8192 + (i 1).val) * 16 + (i 2).val) * 64 + (i 3).val) / 8388608 = (i 0).val := by omega
  have e1 : ((((i 0).val * 8192 + (i 1).val) * 16 + (i 2).val) * 64 + (i 3).val) / 1024 % 8192 = (i 1).val := by omega
  have e2 : ((((i 0).val * 8192 + (i 1).val) * 16 + (i 2).val) * 64 + (i 3).val) % 1024 = (i 2).val * 64 + (i 3).val := by omega
  show zP (inR x0 x1 x2 x3 x4 x5 x6 x7 x8 x9) (((((i 0).val * 8192 + (i 1).val) * 16 + (i 2).val) * 64 + (i 3).val) / 8388608) (((((i 0).val * 8192 + (i 1).val) * 16 + (i 2).val) * 64 + (i 3).val) / 1024 % 8192)
    (2048 + ((((i 0).val * 8192 + (i 1).val) * 16 + (i 2).val) * 64 + (i 3).val) % 1024) = _
  rw [e0, e1, e2, Nat.add_assoc]

theorem left_q (i : S4x8192x16x32.Idx) : val_main_v183 (F := Ideal) x0 x1 x2 i
    = zP (inR x0 x1 x2 x3 x4 x5 x6 x7 x8 x9) (i 0).val (i 1).val (2048 + (i 2).val * 64 + (i 3).val) * Ideal.cos (ang (i 1).val (i 3).val)
      - zP (inR x0 x1 x2 x3 x4 x5 x6 x7 x8 x9) (i 0).val (i 1).val (2048 + (i 2).val * 64 + ((i 3).val + 32)) * Ideal.sin (ang (i 1).val (i 3).val) := by
  simp only [val_main_v183_apply, val_main_v182_apply, val_main_v181_apply, val_main_v180_apply, val_main_v179_apply, val_main_v178_apply, val_main_v177_apply, val_main_v176_apply, val_main_v175_apply, val_main_v174_apply, val_main_v173_apply, lanes_q x0 x1 x2 x3 x4 x5 x6 x7 x8 x9, ang_q]
  rw [Nat.add_comm (i 3).val 32]
  rfl

theorem right_q (i : S4x8192x16x32.Idx) : val_main_v188 (F := Ideal) x0 x1 x2 i
    = zP (inR x0 x1 x2 x3 x4 x5 x6 x7 x8 x9) (i 0).val (i 1).val (2048 + (i 2).val * 64 + ((i 3).val + 32)) * Ideal.cos (ang (i 1).val (i 3).val)
      + zP (inR x0 x1 x2 x3 x4 x5 x6 x7 x8 x9) (i 0).val (i 1).val (2048 + (i 2).val * 64 + (i 3).val) * Ideal.sin (ang (i 1).val (i 3).val) := by
  simp only [val_main_v188_apply, val_main_v187_apply, val_main_v186_apply, val_main_v185_apply, val_main_v184_apply, val_main_v178_apply, val_main_v177_apply, val_main_v176_apply, val_main_v175_apply, val_main_v174_apply, val_main_v173_apply, lanes_q x0 x1 x2 x3 x4 x5 x6 x7 x8 x9, ang_q]
  rw [Nat.add_comm (i 3).val 32]
  rfl

theorem rot_q (i : S4x8192x16x64.Idx) : val_main_v189 (F := Ideal) x0 x1 x2 i = qR (inR x0 x1 x2 x3 x4 x5 x6 x7 x8 x9) (i 0).val (i 1).val (i 2).val (i 3).val := by
  unfold val_main_v189
  pointwise
  unfold qR rot
  by_cases h : (i 3).val < 32
  · refine (dif_pos h).trans ((left_q x0 x1 x2 x3 x4 x5 x6 x7 x8 x9 _).trans (Eq.trans ?_ (if_pos h).symm))
    rfl
  · refine (dif_neg h).trans ((right_q x0 x1 x2 x3 x4 x5 x6 x7 x8 x9 _).trans (Eq.trans ?_ (if_neg h).symm))
    have e : (i 3).val - 32 + 32 = (i 3).val := by omega
    show zP (inR x0 x1 x2 x3 x4 x5 x6 x7 x8 x9) (i 0).val (i 1).val (2048 + (i 2).val * 64 + ((i 3).val - 32 + 32)) * _ + _ = _
    rw [e]
    rfl

theorem lanes_k (i : S4x8192x4x64.Idx) : val_main_v190 (F := Ideal) x0 x1 x2 i = zP (inR x0 x1 x2 x3 x4 x5 x6 x7 x8 x9) (i 0).val (i 1).val (3072 + (i 2).val * 64 + (i 3).val) := by
  have h0 : (i 0).val < 4 := (i 0).isLt
  have h1 : (i 1).val < 8192 := (i 1).isLt
  have h2 : (i 2).val < 4 := (i 2).isLt
  have h3 : (i 3).val < 64 := (i 3).isLt
  rw [val_main_v190_apply, z17 x0 x1 x2 x3 x4 x5 x6 x7 x8 x9]
  have e0 : ((((i 0).val * 8192 + (i 1).val) * 4 + (i 2).val) * 64 + (i 3).val) / 2097152 = (i 0).val := by omega
  have e1 : ((((i 0).val * 8192 + (i 1).val) * 4 + (i 2).val) * 64 + (i 3).val) / 256 % 8192 = (i 1).val := by omega
  have e2 : ((((i 0).val * 8192 + (i 1).val) * 4 + (i 2).val) * 64 + (i 3).val) % 256 = (i 2).val * 64 + (i 3).val := by omega
  show zP (inR x0 x1 x2 x3 x4 x5 x6 x7 x8 x9) (((((i 0).val * 8192 + (i 1).val) * 4 + (i 2).val) * 64 + (i 3).val) / 2097152) (((((i 0).val * 8192 + (i 1).val) * 4 + (i 2).val) * 64 + (i 3).val) / 256 % 8192)
    (3072 + ((((i 0).val * 8192 + (i 1).val) * 4 + (i 2).val) * 64 + (i 3).val) % 256) = _
  rw [e0, e1, e2, Nat.add_assoc]

theorem left_k (i : S4x8192x4x32.Idx) : val_main_v214 (F := Ideal) x0 x1 x2 i
    = zP (inR x0 x1 x2 x3 x4 x5 x6 x7 x8 x9) (i 0).val (i 1).val (3072 + (i 2).val * 64 + (i 3).val) * Ideal.cos (ang (i 1).val (i 3).val)
      - zP (inR x0 x1 x2 x3 x4 x5 x6 x7 x8 x9) (i 0).val (i 1).val (3072 + (i 2).val * 64 + ((i 3).val + 32)) * Ideal.sin (ang (i 1).val (i 3).val) := by
  simp only [val_main_v214_apply, val_main_v213_apply, val_main_v212_apply, val_main_v211_apply, val_main_v210_apply, val_main_v209_apply, val_main_v208_apply, val_main_v207_apply, val_main_v206_apply, val_main_v205_apply, val_main_v204_apply, lanes_k x0 x1 x2 x3 x4 x5 x6 x7 x8 x9, ang_k]
  rw [Nat.add_comm (i 3).val 32]
  rfl

theorem right_k (i : S4x8192x4x32.Idx) : val_main_v219 (F := Ideal) x0 x1 x2 i
    = zP (inR x0 x1 x2 x3 x4 x5 x6 x7 x8 x9) (i 0).val (i 1).val (3072 + (i 2).val * 64 + ((i 3).val + 32)) * Ideal.cos (ang (i 1).val (i 3).val)
      + zP (inR x0 x1 x2 x3 x4 x5 x6 x7 x8 x9) (i 0).val (i 1).val (3072 + (i 2).val * 64 + (i 3).val) * Ideal.sin (ang (i 1).val (i 3).val) := by
  simp only [val_main_v219_apply, val_main_v218_apply, val_main_v217_apply, val_main_v216_apply, val_main_v215_apply, val_main_v209_apply, val_main_v208_apply, val_main_v207_apply, val_main_v206_apply, val_main_v205_apply, val_main_v204_apply, lanes_k x0 x1 x2 x3 x4 x5 x6 x7 x8 x9, ang_k]
  rw [Nat.add_comm (i 3).val 32]
  rfl

theorem rot_k (i : S4x8192x4x64.Idx) : val_main_v220 (F := Ideal) x0 x1 x2 i = kR (inR x0 x1 x2 x3 x4 x5 x6 x7 x8 x9) (i 0).val (i 1).val (i 2).val (i 3).val := by
  unfold val_main_v220
  pointwise
  unfold kR rot
  by_cases h : (i 3).val < 32
  · refine (dif_pos h).trans ((left_k x0 x1 x2 x3 x4 x5 x6 x7 x8 x9 _).trans (Eq.trans ?_ (if_pos h).symm))
    rfl
  · refine (dif_neg h).trans ((right_k x0 x1 x2 x3 x4 x5 x6 x7 x8 x9 _).trans (Eq.trans ?_ (if_neg h).symm))
    have e : (i 3).val - 32 + 32 = (i 3).val := by omega
    show zP (inR x0 x1 x2 x3 x4 x5 x6 x7 x8 x9) (i 0).val (i 1).val (3072 + (i 2).val * 64 + ((i 3).val - 32 + 32)) * _ + _ = _
    rw [e]
    rfl

end Cert.Reference2Ideal.Val
-- ==== Proof.LongRefC.lean ====
module

public import proofs.«01_k».proof.Proof.LongRefB
public import proofs.«01_k».proof.Proof.Gen.Reference2Ideal.Read
public import Idealize.ShloMosaic.Lib.WordCmp
public import Idealize.ShloMosaic.Lib.Pointwise

@[expose] public section

set_option maxRecDepth 16384

noncomputable section

namespace Cert.Reference2Ideal.Val

open Layer.Ref Idealize.ShloMosaic Idealize.ShloMosaic.TcCoe Idealize.SL.Sem Layer Cert.Reference2Ideal Cert.Reference2Ideal.Gen Cert.Reference2Ideal.Read

variable (x0 : S4x8192x1024.Idx → EReal) (x1 : S1024.Idx → EReal) (x2 : S1024x6656.Idx → EReal) (x3 : S4x256x256.Idx → EReal) (x4 : S1024.Idx → EReal)
    (x5 : S1024x1024.Idx → EReal) (x6 : S16.Idx → EReal) (x7 x8 : S1024x1024.Idx → EReal) (x9 : S1024.Idx → EReal)

/-! ### Scores -/

theorem heads_at (i : S4x8192x4x4x64.Idx) : val_main_v222 (F := Ideal) x0 x1 x2 i = qR (inR x0 x1 x2 x3 x4 x5 x6 x7 x8 x9) (i 0).val (i 1).val ((i 2).val * 4 + (i 3).val) (i 4).val := by
  have h0 : (i 0).val < 4 := (i 0).isLt
  have h1 : (i 1).val < 8192 := (i 1).isLt
  have h2 : (i 2).val < 4 := (i 2).isLt
  have h3 : (i 3).val < 4 := (i 3).isLt
  have h4 : (i 4).val < 64 := (i 4).isLt
  rw [val_main_v222_apply, rot_q x0 x1 x2 x3 x4 x5 x6 x7 x8 x9]
  have e0 : (((((i 0).val * 8192 + (i 1).val) * 4 + (i 2).val) * 4 + (i 3).val) * 64 + (i 4).val) / 8388608 = (i 0).val := by omega
  have e1 : (((((i 0).val * 8192 + (i 1).val) * 4 + (i 2).val) * 4 + (i 3).val) * 64 + (i 4).val) / 1024 % 8192 = (i 1).val := by omega
  have e2 : (((((i 0).val * 8192 + (i 1).val) * 4 + (i 2).val) * 4 + (i 3).val) * 64 + (i 4).val) / 64 % 16 = (i 2).val * 4 + (i 3).val := by omega
  have e3 : (((((i 0).val * 8192 + (i 1).val) * 4 + (i 2).val) * 4 + (i 3).val) * 64 + (i 4).val) % 64 = (i 4).val := by omega
  show qR (inR x0 x1 x2 x3 x4 x5 x6 x7 x8 x9) ((((((i 0).val * 8192 + (i 1).val) * 4 + (i 2).val) * 4 + (i 3).val) * 64 + (i 4).val) / 8388608) ((((((i 0).val * 8192 + (i 1).val) * 4 + (i 2).val) * 4 + (i 3).val) * 64 + (i 4).val) / 1024 % 8192)
    ((((((i 0).val * 8192 + (i 1).val) * 4 + (i 2).val) * 4 + (i 3).val) * 64 + (i 4).val) / 64 % 16) ((((((i 0).val * 8192 + (i 1).val) * 4 + (i 2).val) * 4 + (i 3).val) * 64 + (i 4).val) % 64) = _
  rw [e0, e1, e2, e3]

theorem values_at (i : S4x8192x4x64.Idx) : val_main_v221 (F := Ideal) x0 x1 x2 i = vV (inR x0 x1 x2 x3 x4 x5 x6 x7 x8 x9) (i 0).val (i 1).val (i 2).val (i 3).val := by
  have h0 : (i 0).val < 4 := (i 0).isLt
  have h1 : (i 1).val < 8192 := (i 1).isLt
  have h2 : (i 2).val < 4 := (i 2).isLt
  have h3 : (i 3).val < 64 := (i 3).isLt
  rw [val_main_v221_apply, z18 x0 x1 x2 x3 x4 x5 x6 x7 x8 x9]
  have e0 : ((((i 0).val * 8192 + (i 1).val) * 4 + (i 2).val) * 64 + (i 3).val) / 2097152 = (i 0).val := by omega
  have e1 : ((((i 0).val * 8192 + (i 1).val) * 4 + (i 2).val) * 64 + (i 3).val) / 256 % 8192 = (i 1).val := by omega
  have e2 : ((((i 0).val * 8192 + (i 1).val) * 4 + (i 2).val) * 64 + (i 3).val) % 256 = (i 2).val * 64 + (i 3).val := by omega
  show zP (inR x0 x1 x2 x3 x4 x5 x6 x7 x8 x9) (((((i 0).val * 8192 + (i 1).val) * 4 + (i 2).val) * 64 + (i 3).val) / 2097152) (((((i 0).val * 8192 + (i 1).val) * 4 + (i 2).val) * 64 + (i 3).val) / 256 % 8192)
    (3328 + ((((i 0).val * 8192 + (i 1).val) * 4 + (i 2).val) * 64 + (i 3).val) % 256) = _
  rw [e0, e1, e2, ← Nat.add_assoc]
  rfl

theorem score_at (i : S4x4x4x8192x8192.Idx) : val_main_v235 (F := Ideal) x0 x1 x2 i = scS (inR x0 x1 x2 x3 x4 x5 x6 x7 x8 x9) (i 0).val (i 3).val ((i 1).val * 4 + (i 2).val) (i 4).val := by
  have h2 : (i 2).val < 4 := (i 2).isLt
  have e : ((i 1).val * 4 + (i 2).val) / 4 = (i 1).val := by omega
  rw [val_main_v235_apply, val_main_v233_apply, val_main_v232_apply, val_main_v234_apply, val_main_cst_34_apply]
  unfold scS
  rw [e, ← sum_fin]
  refine congrArg (fun p : EReal => p * Ideal.ofBits .f32 0x3E000000#32) (Finset.sum_congr rfl fun k _ => ?_)
  rw [rot_k x0 x1 x2 x3 x4 x5 x6 x7 x8 x9, heads_at x0 x1 x2 x3 x4 x5 x6 x7 x8 x9, mul_comm]

theorem logit_at (i : S4x4x4x8192x8192.Idx) : val_main_v236 (F := Ideal) x0 x1 x2 i
    = logit (i 3).val (scS (inR x0 x1 x2 x3 x4 x5 x6 x7 x8 x9) (i 0).val (i 3).val ((i 1).val * 4 + (i 2).val)) (i 4).val := by
  rw [val_main_v236_apply, score_at x0 x1 x2 x3 x4 x5 x6 x7 x8 x9]
  simp only [val_main_call5_v1_apply, val_main_call5_v2_apply, val_main_call5_v0_apply, val_main_cst_35_apply, val_main_v231_apply, val_main_v230_apply, val_main_v229_apply,
    val_main_v228_apply, val_main_v227_apply, val_main_v226_apply, val_main_v225_apply, val_main_v224_apply, val_main_v223_apply, val_main_c_33_apply]
  refine (band (S := 8192) (by decide) (i 3).val (i 4).val (i 3).isLt (i 4).isLt _ _).trans ?_
  show (if _ then _ else Ideal.ofBits .f32 0xFF800000#32) = _
  rw [bits_bot]
  rfl

theorem best_at (i : S4x4x4x8192.Idx) : val_main_v238 (F := Ideal) x0 x1 x2 i
    = (Finset.range 8192).sup (logit (i 3).val (scS (inR x0 x1 x2 x3 x4 x5 x6 x7 x8 x9) (i 0).val (i 3).val ((i 1).val * 4 + (i 2).val))) := by
  unfold val_main_v238
  pointwise
  show Finset.fold max (Ideal.ofBits .f32 0xFF800000#32) _ _ = _
  rw [bits_bot, ← fold_max_fin]
  refine congrArg (fun f => Finset.fold max ⊥ f (Finset.univ : Finset (Fin 8192))) (funext fun k => ?_)
  rw [logit_at x0 x1 x2 x3 x4 x5 x6 x7 x8 x9]
  rfl

theorem sink_at (i : S1x4x4x1x1.Idx) : val_main_v237 (F := Ideal) x6 i = rd1 (n0 := 16) x6 ((i 1).val * 4 + (i 2).val) := by
  have h0 : (i 0).val < 1 := (i 0).isLt
  have h3 : (i 3).val < 1 := (i 3).isLt
  have h4 : (i 4).val < 1 := (i 4).isLt
  rw [val_main_v237_apply, rd1_idx (n0 := 16) x6]
  exact congrArg (rd1 (n0 := 16) x6) (show ((((i 0).val * 4 + (i 1).val) * 4 + (i 2).val) * 1 + (i 3).val) * 1 + (i 4).val = (i 1).val * 4 + (i 2).val by omega)

theorem top_at (i : S4x4x4x8192x1.Idx) : val_main_v241 (F := Ideal) x0 x1 x2 x6 i
    = rowTop 8192 (i 3).val (scS (inR x0 x1 x2 x3 x4 x5 x6 x7 x8 x9) (i 0).val (i 3).val ((i 1).val * 4 + (i 2).val)) ((inR x0 x1 x2 x3 x4 x5 x6 x7 x8 x9).sk ((i 1).val * 4 + (i 2).val)) := by
  rw [val_main_v241_apply, val_main_v239_apply, val_main_v240_apply, best_at x0 x1 x2 x3 x4 x5 x6 x7 x8 x9, sink_at]
  rfl

theorem weight_at (i : S4x4x4x8192x8192.Idx) : val_main_v244 (F := Ideal) x0 x1 x2 x6 i
    = Ideal.exp (logit (i 3).val (scS (inR x0 x1 x2 x3 x4 x5 x6 x7 x8 x9) (i 0).val (i 3).val ((i 1).val * 4 + (i 2).val)) (i 4).val
      - rowTop 8192 (i 3).val (scS (inR x0 x1 x2 x3 x4 x5 x6 x7 x8 x9) (i 0).val (i 3).val ((i 1).val * 4 + (i 2).val)) ((inR x0 x1 x2 x3 x4 x5 x6 x7 x8 x9).sk ((i 1).val * 4 + (i 2).val))) := by
  rw [val_main_v244_apply, val_main_v243_apply, val_main_v242_apply, logit_at x0 x1 x2 x3 x4 x5 x6 x7 x8 x9, top_at x0 x1 x2 x3 x4 x5 x6 x7 x8 x9]
  rfl

theorem att_at (i : S4x4x4x8192x64.Idx) : val_main_v253 (F := Ideal) x0 x1 x2 x6 i = att 8192 (inR x0 x1 x2 x3 x4 x5 x6 x7 x8 x9) (i 0).val (i 3).val ((i 1).val * 4 + (i 2).val) (i 4).val := by
  have h2 : (i 2).val < 4 := (i 2).isLt
  have e : ((i 1).val * 4 + (i 2).val) / 4 = (i 1).val := by omega
  rw [val_main_v253_apply, val_main_v252_apply, val_main_v251_apply, val_main_v250_apply, val_main_v249_apply, val_main_v248_apply, val_main_v247_apply, val_main_v246_apply,
    val_main_v245_apply, val_main_cst_37_apply, top_at x0 x1 x2 x3 x4 x5 x6 x7 x8 x9, sink_at]
  unfold att attRow
  rw [e, ← sum_fin, ← sum_fin]
  show Ideal.div _ ((Ideal.ofBits .f32 0x00000000#32 + _) + _) = _
  rw [bits_zero, zero_add]
  refine congrArg₂ Ideal.div (Finset.sum_congr rfl fun k _ => ?_) (congrArg₂ (fun p q : EReal => p + q) (Finset.sum_congr rfl fun k _ => ?_) rfl)
  · rw [weight_at x0 x1 x2 x3 x4 x5 x6 x7 x8 x9, values_at x0 x1 x2 x3 x4 x5 x6 x7 x8 x9]
  · rw [weight_at x0 x1 x2 x3 x4 x5 x6 x7 x8 x9]

theorem ab_at (i : S4x8192x1024.Idx) : val_main_v257 (F := Ideal) x0 x1 x2 x6 i = abG 8192 (inR x0 x1 x2 x3 x4 x5 x6 x7 x8 x9) (i 0).val (i 1).val (i 2).val := by
  have h0 : (i 0).val < 4 := (i 0).isLt
  have h1 : (i 1).val < 8192 := (i 1).isLt
  have h2 : (i 2).val < 1024 := (i 2).isLt
  rw [val_main_v257_apply, val_main_v255_apply, val_main_v254_apply, att_at x0 x1 x2 x3 x4 x5 x6 x7 x8 x9, silu256 x0 x1 x2 x3 x4 x5 x6 x7 x8 x9]
  unfold abG
  refine congrArg (fun p : EReal => p * silu (zP (inR x0 x1 x2 x3 x4 x5 x6 x7 x8 x9) (i 0).val (i 1).val (3584 + (i 2).val))) ?_
  have e0 : (((i 0).val * 8192 + (i 1).val) * 1024 + (i 2).val) / 8388608 = (i 0).val := by omega
  have e1 : (((i 0).val * 8192 + (i 1).val) * 1024 + (i 2).val) / 1024 % 8192 = (i 1).val := by omega
  have e2 : (((i 0).val * 8192 + (i 1).val) * 1024 + (i 2).val) / 256 % 4 * 4 + (((i 0).val * 8192 + (i 1).val) * 1024 + (i 2).val) / 64 % 4 = (i 2).val / 64 := by omega
  have e3 : (((i 0).val * 8192 + (i 1).val) * 1024 + (i 2).val) % 64 = (i 2).val % 64 := by omega
  show att 8192 (inR x0 x1 x2 x3 x4 x5 x6 x7 x8 x9) ((((i 0).val * 8192 + (i 1).val) * 1024 + (i 2).val) / 8388608) ((((i 0).val * 8192 + (i 1).val) * 1024 + (i 2).val) / 1024 % 8192)
    ((((i 0).val * 8192 + (i 1).val) * 1024 + (i 2).val) / 256 % 4 * 4 + (((i 0).val * 8192 + (i 1).val) * 1024 + (i 2).val) / 64 % 4) ((((i 0).val * 8192 + (i 1).val) * 1024 + (i 2).val) % 64) = _
  rw [e0, e1, e2, e3]

/-! ### The merge and the output -/

theorem mrg_at (i : S4x8192x1024.Idx) : val_main_v270 (F := Ideal) x0 x1 x2 x3 x4 x5 x6 x7 i = mrg 8192 (inR x0 x1 x2 x3 x4 x5 x6 x7 x8 x9) (i 0).val (i 1).val (i 2).val := by
  rw [val_main_v270_apply, val_main_v269_apply, val_main_v268_apply, val_main_v267_apply, val_main_v266_apply, val_main_v265_apply, val_main_v264_apply, sg263 x0 x1 x2 x3 x4 x5 x6 x7 x8 x9, sg263 x0 x1 x2 x3 x4 x5 x6 x7 x8 x9]
  unfold mrg
  rw [← sum_fin, ← sum_fin]
  refine congrArg₂ (fun p q : EReal => p + q) (congrArg₂ (fun p q : EReal => p * q) rfl (Finset.sum_congr rfl fun k _ => ?_))
    (congrArg₂ (fun p q : EReal => p * q) ?_ (Finset.sum_congr rfl fun k _ => ?_))
  · rw [pb_at x0 x1 x2 x3 x4 x5 x6 x7 x8 x9, rd2_idx (n0 := 1024) (n1 := 1024) x5]
    rfl
  · exact congrArg (fun n => sg (zP (inR x0 x1 x2 x3 x4 x5 x6 x7 x8 x9) (i 0).val (i 1).val n)) (show 4608 + (1024 + (i 2).val) = 5632 + (i 2).val by omega)
  · rw [ab_at x0 x1 x2 x3 x4 x5 x6 x7 x8 x9, rd2_idx (n0 := 1024) (n1 := 1024) x7]
    rfl

theorem out_at (i : S4x8192x1024.Idx) : val_main_v271 (F := Ideal) x0 x1 x2 x3 x4 x5 x6 x7 x8 i = outP 8192 (inR x0 x1 x2 x3 x4 x5 x6 x7 x8 x9) (i 0).val (i 1).val (i 2).val := by
  rw [val_main_v271_apply]
  unfold outP
  rw [← sum_fin]
  refine Finset.sum_congr rfl fun k _ => ?_
  rw [mrg_at x0 x1 x2 x3 x4 x5 x6 x7 x8 x9, rd2_idx (n0 := 1024) (n1 := 1024) x8]
  rfl

theorem res_at (i : S4x8192x1024.Idx) : val_main_v285 (F := Ideal) x0 x1 x2 x3 x4 x5 x6 x7 x8 x9 i = res 8192 (inR x0 x1 x2 x3 x4 x5 x6 x7 x8 x9) (i 0).val (i 1).val (i 2).val := by
  rw [val_main_v285_apply, val_main_v284_apply, val_main_v283_apply, val_main_v282_apply, val_main_v281_apply, val_main_v280_apply, val_main_v279_apply, val_main_v278_apply,
    val_main_v277_apply, val_main_v276_apply, val_main_v275_apply, val_main_v274_apply, val_main_v273_apply, val_main_cst_40_apply, val_main_cst_41_apply, val_main_cst_42_apply, out_at x0 x1 x2 x3 x4 x5 x6 x7 x8 x9]
  simp only [val_main_v272_apply, out_at x0 x1 x2 x3 x4 x5 x6 x7 x8 x9]
  unfold res
  rw [rms_fin]
  simp only [rd3_idx (n0 := 4) (n1 := 8192) (n2 := 1024) x0, rd1_idx (n0 := 1024) x9]
  show _ + _ * Ideal.rsqrt (Ideal.div (Ideal.ofBits .f32 0x00000000#32 + _) _ + _) * _ = _
  rw [bits_zero, zero_add]
  rfl

end Cert.Reference2Ideal.Val
-- ==== Proof.lean ====
/- The proof of the certificate's claim, for each of the two batches: the three programs' frames, the named constants, and
   the equality of the kernel's result with the reference's — both are `Layer.res` of the arguments. -/
module

public import proofs.«01_k».proof.Defs
public import proofs.«01_k».proof.Proof.Host
public import proofs.«01_k».proof.Proof.RefC
public import proofs.«01_k».proof.Proof.LongHost
public import proofs.«01_k».proof.Proof.LongRefC
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import Idealize.ShloMosaic.Adequacy
public import Idealize.ShloMosaic.Init

@[expose] public section

noncomputable section

namespace Cert.KernelIdeal.Val

open Idealize.ShloMosaic Idealize.ShloMosaic.TcCoe Idealize.SL.Sem Layer Cert.KernelIdeal Cert.KernelIdeal.Gen

/-- A memory's result on a device: the layer of the argument arrays. -/
def answer (m : (ℓ : Loc nD τ sig) → Buf (Elt Ideal) ℓ) (c : Dev nD) : Buf (Elt Ideal) ((c.tc : Thread nD τ).loc main_v35) :=
  fun y : S16x2048x1024.Idx => (res 2048 (inOf m c) (y 0).val (y 1).val (y 2).val : EReal)

/-- The kernel ends with the layer of its arguments, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v35) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v35 (by decide))).trans (W4_res m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩) (runW m ρ)

end Cert.KernelIdeal.Val

namespace Cert.Kernel2Ideal.Val

open Idealize.ShloMosaic Idealize.ShloMosaic.TcCoe Idealize.SL.Sem Layer Cert.Kernel2Ideal Cert.Kernel2Ideal.Gen

/-- A memory's result on a device: the layer of the argument arrays. -/
def answer (m : (ℓ : Loc nD τ sig) → Buf (Elt Ideal) ℓ) (c : Dev nD) : Buf (Elt Ideal) ((c.tc : Thread nD τ).loc main_v35) :=
  fun y : S4x8192x1024.Idx => (res 8192 (inOf m c) (y 0).val (y 1).val (y 2).val : EReal)

/-- The kernel ends with the layer of its arguments, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v35) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v35 (by decide))).trans (W4_res m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩) (runW m ρ)

end Cert.Kernel2Ideal.Val

namespace Cert.Proof

open Idealize.ShloMosaic Idealize.ShloMosaic.StableHlo Idealize.SL.Sem

/-- The reference ends with every semaphore at zero and its arguments unchanged. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- Both programs end with the layer of arguments that agree. -/
theorem equal : Cert.algebraic_KernelIdeal_ReferenceIdeal (hKernelIdeal := Cert.KernelIdeal.Gen.facts) (hReferenceIdeal := Cert.ReferenceIdeal.Gen.facts) := by
  intro m g m' g' _ hag
  refine ⟨fun c => Cert.KernelIdeal.Val.answer m c, Cert.KernelIdeal.Val.kernel_run m g, (θ_run _ _ _).mono (fun _ h c => ⟨(h c).1.trans ?_, (h c).2⟩) (Cert.ReferenceIdeal.Value.run m' g')⟩
  obtain ⟨h0, h1, h2, h3, h4, h5, h6, h7, h8, h9⟩ := hag c
  refine (Cert.ReferenceIdeal.Read.val_main_v285_eq (F := Ideal) (launchContents m' c)).trans ?_
  have e : Cert.ReferenceIdeal.Val.inR (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = Cert.KernelIdeal.Val.inOf m c := by
    rw [h0, h1, h2, h3, h4, h5, h6, h7, h8, h9]
    rfl
  exact funext fun i => (Cert.ReferenceIdeal.Val.res_at _ _ _ _ _ _ _ _ _ _ i).trans
    (congrArg (fun I => Layer.res 2048 I (i 0).val (i 1).val (i 2).val) e)

/-- The second batch's reference ends with every semaphore at zero and its arguments unchanged. -/
theorem reference_frame2 : Cert.quiescent_Reference2Ideal (hReference2Ideal := Cert.Reference2Ideal.Gen.facts) := by
  intro m g _
  exact (θ_run _ _ _).mono (fun r h => ⟨fun c => (h c).2, sem_eq_zero_of_no_sems (by decide) r.2⟩) (Cert.Reference2Ideal.Value.run m g)

/-- Both programs of the second batch end with the layer of arguments that agree. -/
theorem equal2 : Cert.algebraic_Kernel2Ideal_Reference2Ideal (hKernel2Ideal := Cert.Kernel2Ideal.Gen.facts) (hReference2Ideal := Cert.Reference2Ideal.Gen.facts) := by
  intro m g m' g' _ hag
  refine ⟨fun c => Cert.Kernel2Ideal.Val.answer m c, Cert.Kernel2Ideal.Val.kernel_run m g, (θ_run _ _ _).mono (fun _ h c => ⟨(h c).1.trans ?_, (h c).2⟩) (Cert.Reference2Ideal.Value.run m' g')⟩
  obtain ⟨h0, h1, h2, h3, h4, h5, h6, h7, h8, h9⟩ := hag c
  refine (Cert.Reference2Ideal.Read.val_main_v285_eq (F := Ideal) (launchContents m' c)).trans ?_
  have e : Cert.Reference2Ideal.Val.inR (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9)) = Cert.Kernel2Ideal.Val.inOf m c := by
    rw [h0, h1, h2, h3, h4, h5, h6, h7, h8, h9]
    rfl
  exact funext fun i => (Cert.Reference2Ideal.Val.res_at _ _ _ _ _ _ _ _ _ _ i).trans
    (congrArg (fun I => Layer.res 8192 I (i 0).val (i 1).val (i 2).val) e)

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m g _ => Cert.Kernel.Gen.frame m g,
  fun m g _ => Cert.KernelIdeal.Gen.frame m g,
  reference_frame,
  fun m g _ => Cert.Kernel2.Gen.frame m g,
  fun m g _ => Cert.Kernel2Ideal.Gen.frame m g,
  reference_frame2,
  ⟨IdealRules.named_const.statement Cert.KernelIdeal.κ "q_scale" .f32 0x3E38AA3B#32 _ rfl,
    IdealRules.named_const.statement Cert.KernelIdeal.κ "mask" .f32 0xF149F2CA#32 _ rfl,
    IdealRules.named_const.statement Cert.KernelIdeal.κ "log2_e" .f32 0x3FB8AA3B#32 _ rfl⟩,
  equal,
  ⟨IdealRules.named_const.statement Cert.Kernel2Ideal.κ "q_scale" .f32 0x3E38AA3B#32 _ rfl,
    IdealRules.named_const.statement Cert.Kernel2Ideal.κ "mask" .f32 0xF149F2CA#32 _ rfl,
    IdealRules.named_const.statement Cert.Kernel2Ideal.κ "log2_e" .f32 0x3FB8AA3B#32 _ rfl⟩,
  equal2⟩

end Cert.Proof

end
